-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5)) (m ((c.tc : Thread Cert.AttnBwdIdeal.nD Cert.AttnBwdIdeal.τ).loc Cert.AttnBwdIdeal.main_arg6)) (m ((c.tc : Thread Cert.AttnBwdIdeal.nD Cert.AttnBwdIdeal.τ).loc Cert.AttnBwdIdeal.main_arg7))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5)) (m ((c.tc : Thread Cert.AttnBwdRefIdeal.nD Cert.AttnBwdRefIdeal.τ).loc Cert.AttnBwdRefIdeal.main_arg6)) (m ((c.tc : Thread Cert.AttnBwdRefIdeal.nD Cert.AttnBwdRefIdeal.τ).loc Cert.AttnBwdRefIdeal.main_arg7))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnUpBwd (m : (ℓ : Loc Cert.FfnUpBwd.nD Cert.FfnUpBwd.τ Cert.FfnUpBwd.sig) → Buf (Elt Bits) ℓ) : Prop :=
  True

def Pre_FfnUpBwdIdeal (m : (ℓ : Loc Cert.FfnUpBwdIdeal.nD Cert.FfnUpBwdIdeal.τ Cert.FfnUpBwdIdeal.sig) → Buf (Elt Ideal) ℓ) : Prop :=
  True

def Pre_FfnUpBwdRefIdeal (m : (ℓ : Loc Cert.FfnUpBwdRefIdeal.nD Cert.FfnUpBwdRefIdeal.τ Cert.FfnUpBwdRefIdeal.sig) → Buf (Elt Ideal) ℓ) : Prop :=
  True

def Pre_DwFfn (m : (ℓ : Loc Cert.DwFfn.nD Cert.DwFfn.τ Cert.DwFfn.sig) → Buf (Elt Bits) ℓ) : Prop :=
  True

def Pre_DwFfnIdeal (m : (ℓ : Loc Cert.DwFfnIdeal.nD Cert.DwFfnIdeal.τ Cert.DwFfnIdeal.sig) → Buf (Elt Ideal) ℓ) : Prop :=
  True

def Pre_DwFfnRefIdeal (m : (ℓ : Loc Cert.DwFfnRefIdeal.nD Cert.DwFfnRefIdeal.τ Cert.DwFfnRefIdeal.sig) → Buf (Elt Ideal) ℓ) : Prop :=
  True

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_DwSquareRefIdeal (m : (ℓ : Loc Cert.DwSquareRefIdeal.nD Cert.DwSquareRefIdeal.τ Cert.DwSquareRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwAttnBr (m : (ℓ : Loc Cert.DwAttnBr.nD Cert.DwAttnBr.τ Cert.DwAttnBr.sig) → Buf (Elt Bits) ℓ) : Prop :=
  True

def Pre_DwAttnBrIdeal (m : (ℓ : Loc Cert.DwAttnBrIdeal.nD Cert.DwAttnBrIdeal.τ Cert.DwAttnBrIdeal.sig) → Buf (Elt Ideal) ℓ) : Prop :=
  True

def Pre_DwAttnBrRefIdeal (m : (ℓ : Loc Cert.DwAttnBrRefIdeal.nD Cert.DwAttnBrRefIdeal.τ Cert.DwAttnBrRefIdeal.sig) → Buf (Elt Ideal) ℓ) : Prop :=
  True

def Pre_DSquare (m : (ℓ : Loc Cert.DSquare.nD Cert.DSquare.τ Cert.DSquare.sig) → Buf (Elt Bits) ℓ) : Prop :=
  True

def Pre_DSquareIdeal (m : (ℓ : Loc Cert.DSquareIdeal.nD Cert.DSquareIdeal.τ Cert.DSquareIdeal.sig) → Buf (Elt Ideal) ℓ) : Prop :=
  True

def Pre_DSquareRefIdeal (m : (ℓ : Loc Cert.DSquareRefIdeal.nD Cert.DSquareRefIdeal.τ Cert.DSquareRefIdeal.sig) → Buf (Elt Ideal) ℓ) : Prop :=
  True

def Pre_DIn (m : (ℓ : Loc Cert.DIn.nD Cert.DIn.τ Cert.DIn.sig) → Buf (Elt Bits) ℓ) : Prop :=
  True

def Pre_DInIdeal (m : (ℓ : Loc Cert.DInIdeal.nD Cert.DInIdeal.τ Cert.DInIdeal.sig) → Buf (Elt Ideal) ℓ) : Prop :=
  True

def Pre_DInRefIdeal (m : (ℓ : Loc Cert.DInRefIdeal.nD Cert.DInRefIdeal.τ Cert.DInRefIdeal.sig) → Buf (Elt Ideal) ℓ) : Prop :=
  True

def Pre_AttnBrBwd (m : (ℓ : Loc Cert.AttnBrBwd.nD Cert.AttnBrBwd.τ Cert.AttnBrBwd.sig) → Buf (Elt Bits) ℓ) : Prop :=
  True

def Pre_AttnBrBwdIdeal (m : (ℓ : Loc Cert.AttnBrBwdIdeal.nD Cert.AttnBrBwdIdeal.τ Cert.AttnBrBwdIdeal.sig) → Buf (Elt Ideal) ℓ) : Prop :=
  True

def Pre_AttnBrBwdRefIdeal (m : (ℓ : Loc Cert.AttnBrBwdRefIdeal.nD Cert.AttnBrBwdRefIdeal.τ Cert.AttnBrBwdRefIdeal.sig) → Buf (Elt Ideal) ℓ) : Prop :=
  True

def Pre_AttnBr (m : (ℓ : Loc Cert.AttnBr.nD Cert.AttnBr.τ Cert.AttnBr.sig) → Buf (Elt Bits) ℓ) : Prop :=
  True

def Pre_AttnBrIdeal (m : (ℓ : Loc Cert.AttnBrIdeal.nD Cert.AttnBrIdeal.τ Cert.AttnBrIdeal.sig) → Buf (Elt Ideal) ℓ) : Prop :=
  True

def Pre_AttnBrRefIdeal (m : (ℓ : Loc Cert.AttnBrRefIdeal.nD Cert.AttnBrRefIdeal.τ Cert.AttnBrRefIdeal.sig) → Buf (Elt Ideal) ℓ) : Prop :=
  True

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_SquareRefIdeal (m : (ℓ : Loc Cert.SquareRefIdeal.nD Cert.SquareRefIdeal.τ Cert.SquareRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def Pre_DwPleProj (m : (ℓ : Loc Cert.DwPleProj.nD Cert.DwPleProj.τ Cert.DwPleProj.sig) → Buf (Elt Bits) ℓ) : Prop :=
  True

def Pre_DwPleProjIdeal (m : (ℓ : Loc Cert.DwPleProjIdeal.nD Cert.DwPleProjIdeal.τ Cert.DwPleProjIdeal.sig) → Buf (Elt Ideal) ℓ) : Prop :=
  True

def Pre_DwPleProjRefIdeal (m : (ℓ : Loc Cert.DwPleProjRefIdeal.nD Cert.DwPleProjRefIdeal.τ Cert.DwPleProjRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_GnormFwd (m : (ℓ : Loc Cert.GnormFwd.nD Cert.GnormFwd.τ Cert.GnormFwd.sig) → Buf (Elt Bits) ℓ) : Prop :=
  True

def Pre_GnormFwdIdeal (m : (ℓ : Loc Cert.GnormFwdIdeal.nD Cert.GnormFwdIdeal.τ Cert.GnormFwdIdeal.sig) → Buf (Elt Ideal) ℓ) : Prop :=
  True

def Pre_GnormFwdRefIdeal (m : (ℓ : Loc Cert.GnormFwdRefIdeal.nD Cert.GnormFwdRefIdeal.τ Cert.GnormFwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamAttnBr (m : (ℓ : Loc Cert.AdamAttnBr.nD Cert.AdamAttnBr.τ Cert.AdamAttnBr.sig) → Buf (Elt Bits) ℓ) : Prop :=
  True

def Pre_AdamAttnBrIdeal (m : (ℓ : Loc Cert.AdamAttnBrIdeal.nD Cert.AdamAttnBrIdeal.τ Cert.AdamAttnBrIdeal.sig) → Buf (Elt Ideal) ℓ) : Prop :=
  True

def Pre_AdamAttnBrRefIdeal (m : (ℓ : Loc Cert.AdamAttnBrRefIdeal.nD Cert.AdamAttnBrRefIdeal.τ Cert.AdamAttnBrRefIdeal.sig) → Buf (Elt Ideal) ℓ) : Prop :=
  True

def Pre_AdamPle (m : (ℓ : Loc Cert.AdamPle.nD Cert.AdamPle.τ Cert.AdamPle.sig) → Buf (Elt Bits) ℓ) : Prop :=
  True

def Pre_AdamPleIdeal (m : (ℓ : Loc Cert.AdamPleIdeal.nD Cert.AdamPleIdeal.τ Cert.AdamPleIdeal.sig) → Buf (Elt Ideal) ℓ) : Prop :=
  True

def Pre_AdamPleRefIdeal (m : (ℓ : Loc Cert.AdamPleRefIdeal.nD Cert.AdamPleRefIdeal.τ Cert.AdamPleRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5)
      ∧ r.2.mem ((c.tc : Thread Cert.AttnBwd.nD Cert.AttnBwd.τ).loc Cert.AttnBwd.main_arg6) = m ((c.tc : Thread Cert.AttnBwd.nD Cert.AttnBwd.τ).loc Cert.AttnBwd.main_arg6)
      ∧ r.2.mem ((c.tc : Thread Cert.AttnBwd.nD Cert.AttnBwd.τ).loc Cert.AttnBwd.main_arg7) = m ((c.tc : Thread Cert.AttnBwd.nD Cert.AttnBwd.τ).loc Cert.AttnBwd.main_arg7))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
      ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6)
      ∧ r.2.mem ((c.tc : Thread Cert.AttnBwdIdeal.nD Cert.AttnBwdIdeal.τ).loc Cert.AttnBwdIdeal.main_arg7) = m ((c.tc : Thread Cert.AttnBwdIdeal.nD Cert.AttnBwdIdeal.τ).loc Cert.AttnBwdIdeal.main_arg7))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
      ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6)
      ∧ r.2.mem ((c.tc : Thread Cert.AttnBwdIdeal.nD Cert.AttnBwdIdeal.τ).loc Cert.AttnBwdIdeal.main_arg7) = m ((c.tc : Thread Cert.AttnBwdIdeal.nD Cert.AttnBwdIdeal.τ).loc Cert.AttnBwdIdeal.main_arg7))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5)
      ∧ r.2.mem ((c.tc : Thread Cert.AttnBwdRefIdeal.nD Cert.AttnBwdRefIdeal.τ).loc Cert.AttnBwdRefIdeal.main_arg6) = m ((c.tc : Thread Cert.AttnBwdRefIdeal.nD Cert.AttnBwdRefIdeal.τ).loc Cert.AttnBwdRefIdeal.main_arg6)
      ∧ r.2.mem ((c.tc : Thread Cert.AttnBwdRefIdeal.nD Cert.AttnBwdRefIdeal.τ).loc Cert.AttnBwdRefIdeal.main_arg7) = m ((c.tc : Thread Cert.AttnBwdRefIdeal.nD Cert.AttnBwdRefIdeal.τ).loc Cert.AttnBwdRefIdeal.main_arg7))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5)
      ∧ r.2.mem ((c.tc : Thread Cert.AttnBwdRefIdeal.nD Cert.AttnBwdRefIdeal.τ).loc Cert.AttnBwdRefIdeal.main_arg6) = m ((c.tc : Thread Cert.AttnBwdRefIdeal.nD Cert.AttnBwdRefIdeal.τ).loc Cert.AttnBwdRefIdeal.main_arg6)
      ∧ r.2.mem ((c.tc : Thread Cert.AttnBwdRefIdeal.nD Cert.AttnBwdRefIdeal.τ).loc Cert.AttnBwdRefIdeal.main_arg7) = m ((c.tc : Thread Cert.AttnBwdRefIdeal.nD Cert.AttnBwdRefIdeal.τ).loc Cert.AttnBwdRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_FfnUpBwd [hFfnUpBwd : Cert.FfnUpBwd.Facts] : Prop :=
  ∀ (m : (ℓ : Loc Cert.FfnUpBwd.nD Cert.FfnUpBwd.τ Cert.FfnUpBwd.sig) → Buf (Elt Bits) ℓ) (g : Dev Cert.FfnUpBwd.nD → PrngReg), Pre_FfnUpBwd m →
    θ_run (Cert.FfnUpBwd.defs (F := Bits)) (onTc (τ := Cert.FfnUpBwd.τ) (Cert.FfnUpBwd.main (F := Bits))) ⟨m, fun _ => 0, g⟩ (fun r => (∀ c : Dev Cert.FfnUpBwd.nD,
      r.2.mem ((c.tc : Thread Cert.FfnUpBwd.nD Cert.FfnUpBwd.τ).loc Cert.FfnUpBwd.main_arg0) = m ((c.tc : Thread Cert.FfnUpBwd.nD Cert.FfnUpBwd.τ).loc Cert.FfnUpBwd.main_arg0)
      ∧ r.2.mem ((c.tc : Thread Cert.FfnUpBwd.nD Cert.FfnUpBwd.τ).loc Cert.FfnUpBwd.main_arg1) = m ((c.tc : Thread Cert.FfnUpBwd.nD Cert.FfnUpBwd.τ).loc Cert.FfnUpBwd.main_arg1)
      ∧ r.2.mem ((c.tc : Thread Cert.FfnUpBwd.nD Cert.FfnUpBwd.τ).loc Cert.FfnUpBwd.main_arg2) = m ((c.tc : Thread Cert.FfnUpBwd.nD Cert.FfnUpBwd.τ).loc Cert.FfnUpBwd.main_arg2)
      ∧ r.2.mem ((c.tc : Thread Cert.FfnUpBwd.nD Cert.FfnUpBwd.τ).loc Cert.FfnUpBwd.main_arg3) = m ((c.tc : Thread Cert.FfnUpBwd.nD Cert.FfnUpBwd.τ).loc Cert.FfnUpBwd.main_arg3))
      ∧ r.2.sem = fun _ => 0)

def quiescent_FfnUpBwdIdeal [hFfnUpBwdIdeal : Cert.FfnUpBwdIdeal.Facts] : Prop :=
  ∀ (m : (ℓ : Loc Cert.FfnUpBwdIdeal.nD Cert.FfnUpBwdIdeal.τ Cert.FfnUpBwdIdeal.sig) → Buf (Elt Ideal) ℓ) (g : Dev Cert.FfnUpBwdIdeal.nD → PrngReg), Pre_FfnUpBwdIdeal m →
    θ_run (Cert.FfnUpBwdIdeal.defs (F := Ideal)) (onTc (τ := Cert.FfnUpBwdIdeal.τ) (Cert.FfnUpBwdIdeal.main (F := Ideal))) ⟨m, fun _ => 0, g⟩ (fun r => (∀ c : Dev Cert.FfnUpBwdIdeal.nD,
      r.2.mem ((c.tc : Thread Cert.FfnUpBwdIdeal.nD Cert.FfnUpBwdIdeal.τ).loc Cert.FfnUpBwdIdeal.main_arg0) = m ((c.tc : Thread Cert.FfnUpBwdIdeal.nD Cert.FfnUpBwdIdeal.τ).loc Cert.FfnUpBwdIdeal.main_arg0)
      ∧ r.2.mem ((c.tc : Thread Cert.FfnUpBwdIdeal.nD Cert.FfnUpBwdIdeal.τ).loc Cert.FfnUpBwdIdeal.main_arg1) = m ((c.tc : Thread Cert.FfnUpBwdIdeal.nD Cert.FfnUpBwdIdeal.τ).loc Cert.FfnUpBwdIdeal.main_arg1)
      ∧ r.2.mem ((c.tc : Thread Cert.FfnUpBwdIdeal.nD Cert.FfnUpBwdIdeal.τ).loc Cert.FfnUpBwdIdeal.main_arg2) = m ((c.tc : Thread Cert.FfnUpBwdIdeal.nD Cert.FfnUpBwdIdeal.τ).loc Cert.FfnUpBwdIdeal.main_arg2)
      ∧ r.2.mem ((c.tc : Thread Cert.FfnUpBwdIdeal.nD Cert.FfnUpBwdIdeal.τ).loc Cert.FfnUpBwdIdeal.main_arg3) = m ((c.tc : Thread Cert.FfnUpBwdIdeal.nD Cert.FfnUpBwdIdeal.τ).loc Cert.FfnUpBwdIdeal.main_arg3))
      ∧ r.2.sem = fun _ => 0)

def quiescent_FfnUpBwdRefIdeal [hFfnUpBwdRefIdeal : Cert.FfnUpBwdRefIdeal.Facts] : Prop :=
  ∀ (m : (ℓ : Loc Cert.FfnUpBwdRefIdeal.nD Cert.FfnUpBwdRefIdeal.τ Cert.FfnUpBwdRefIdeal.sig) → Buf (Elt Ideal) ℓ) (g : Dev Cert.FfnUpBwdRefIdeal.nD → PrngReg), Pre_FfnUpBwdRefIdeal m →
    θ_run (Cert.FfnUpBwdRefIdeal.defs (F := Ideal)) (onTc (τ := Cert.FfnUpBwdRefIdeal.τ) (Cert.FfnUpBwdRefIdeal.main (F := Ideal))) ⟨m, fun _ => 0, g⟩ (fun r => (∀ c : Dev Cert.FfnUpBwdRefIdeal.nD,
      r.2.mem ((c.tc : Thread Cert.FfnUpBwdRefIdeal.nD Cert.FfnUpBwdRefIdeal.τ).loc Cert.FfnUpBwdRefIdeal.main_arg0) = m ((c.tc : Thread Cert.FfnUpBwdRefIdeal.nD Cert.FfnUpBwdRefIdeal.τ).loc Cert.FfnUpBwdRefIdeal.main_arg0)
      ∧ r.2.mem ((c.tc : Thread Cert.FfnUpBwdRefIdeal.nD Cert.FfnUpBwdRefIdeal.τ).loc Cert.FfnUpBwdRefIdeal.main_arg1) = m ((c.tc : Thread Cert.FfnUpBwdRefIdeal.nD Cert.FfnUpBwdRefIdeal.τ).loc Cert.FfnUpBwdRefIdeal.main_arg1)
      ∧ r.2.mem ((c.tc : Thread Cert.FfnUpBwdRefIdeal.nD Cert.FfnUpBwdRefIdeal.τ).loc Cert.FfnUpBwdRefIdeal.main_arg2) = m ((c.tc : Thread Cert.FfnUpBwdRefIdeal.nD Cert.FfnUpBwdRefIdeal.τ).loc Cert.FfnUpBwdRefIdeal.main_arg2)
      ∧ r.2.mem ((c.tc : Thread Cert.FfnUpBwdRefIdeal.nD Cert.FfnUpBwdRefIdeal.τ).loc Cert.FfnUpBwdRefIdeal.main_arg3) = m ((c.tc : Thread Cert.FfnUpBwdRefIdeal.nD Cert.FfnUpBwdRefIdeal.τ).loc Cert.FfnUpBwdRefIdeal.main_arg3))
      ∧ r.2.sem = fun _ => 0)

def quiescent_DwFfn [hDwFfn : Cert.DwFfn.Facts] : Prop :=
  ∀ (m : (ℓ : Loc Cert.DwFfn.nD Cert.DwFfn.τ Cert.DwFfn.sig) → Buf (Elt Bits) ℓ) (g : Dev Cert.DwFfn.nD → PrngReg), Pre_DwFfn m →
    θ_run (Cert.DwFfn.defs (F := Bits)) (onTc (τ := Cert.DwFfn.τ) (Cert.DwFfn.main (F := Bits))) ⟨m, fun _ => 0, g⟩ (fun r => (∀ c : Dev Cert.DwFfn.nD,
      r.2.mem ((c.tc : Thread Cert.DwFfn.nD Cert.DwFfn.τ).loc Cert.DwFfn.main_arg0) = m ((c.tc : Thread Cert.DwFfn.nD Cert.DwFfn.τ).loc Cert.DwFfn.main_arg0)
      ∧ r.2.mem ((c.tc : Thread Cert.DwFfn.nD Cert.DwFfn.τ).loc Cert.DwFfn.main_arg1) = m ((c.tc : Thread Cert.DwFfn.nD Cert.DwFfn.τ).loc Cert.DwFfn.main_arg1))
      ∧ r.2.sem = fun _ => 0)

def quiescent_DwFfnIdeal [hDwFfnIdeal : Cert.DwFfnIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg), Pre_DwFfnIdeal m →
    θ_run (Cert.DwFfnIdeal.defs (F := Ideal)) (onTc (τ := Cert.DwFfnIdeal.τ) (Cert.DwFfnIdeal.main (F := Ideal))) ⟨m, fun _ => 0, g⟩ (fun r => (∀ c : Dev Cert.DwFfnIdeal.nD,
      r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
      ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1))
      ∧ r.2.sem = fun _ => 0)

def quiescent_DwFfnRefIdeal [hDwFfnRefIdeal : Cert.DwFfnRefIdeal.Facts] : Prop :=
  ∀ (m : (ℓ : Loc Cert.DwFfnRefIdeal.nD Cert.DwFfnRefIdeal.τ Cert.DwFfnRefIdeal.sig) → Buf (Elt Ideal) ℓ) (g : Dev Cert.DwFfnRefIdeal.nD → PrngReg), Pre_DwFfnRefIdeal m →
    θ_run (Cert.DwFfnRefIdeal.defs (F := Ideal)) (onTc (τ := Cert.DwFfnRefIdeal.τ) (Cert.DwFfnRefIdeal.main (F := Ideal))) ⟨m, fun _ => 0, g⟩ (fun r => (∀ c : Dev Cert.DwFfnRefIdeal.nD,
      r.2.mem ((c.tc : Thread Cert.DwFfnRefIdeal.nD Cert.DwFfnRefIdeal.τ).loc Cert.DwFfnRefIdeal.main_arg0) = m ((c.tc : Thread Cert.DwFfnRefIdeal.nD Cert.DwFfnRefIdeal.τ).loc Cert.DwFfnRefIdeal.main_arg0)
      ∧ r.2.mem ((c.tc : Thread Cert.DwFfnRefIdeal.nD Cert.DwFfnRefIdeal.τ).loc Cert.DwFfnRefIdeal.main_arg1) = m ((c.tc : Thread Cert.DwFfnRefIdeal.nD Cert.DwFfnRefIdeal.τ).loc Cert.DwFfnRefIdeal.main_arg1))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ r.2.sem = fun _ => 0)

def quiescent_DwSquareRefIdeal [hDwSquareRefIdeal : Cert.DwSquareRefIdeal.Facts] : Prop :=
  ∀ (m : (ℓ : Loc Cert.DwSquareRefIdeal.nD Cert.DwSquareRefIdeal.τ Cert.DwSquareRefIdeal.sig) → Buf (Elt Ideal) ℓ) (g : Dev Cert.DwSquareRefIdeal.nD → PrngReg), Pre_DwSquareRefIdeal m →
    θ_run (Cert.DwSquareRefIdeal.defs (F := Ideal)) (onTc (τ := Cert.DwSquareRefIdeal.τ) (Cert.DwSquareRefIdeal.main (F := Ideal))) ⟨m, fun _ => 0, g⟩ (fun r => (∀ c : Dev Cert.DwSquareRefIdeal.nD,
      r.2.mem ((c.tc : Thread Cert.DwSquareRefIdeal.nD Cert.DwSquareRefIdeal.τ).loc Cert.DwSquareRefIdeal.main_arg0) = m ((c.tc : Thread Cert.DwSquareRefIdeal.nD Cert.DwSquareRefIdeal.τ).loc Cert.DwSquareRefIdeal.main_arg0)
      ∧ r.2.mem ((c.tc : Thread Cert.DwSquareRefIdeal.nD Cert.DwSquareRefIdeal.τ).loc Cert.DwSquareRefIdeal.main_arg1) = m ((c.tc : Thread Cert.DwSquareRefIdeal.nD Cert.DwSquareRefIdeal.τ).loc Cert.DwSquareRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwAttnBr [hDwAttnBr : Cert.DwAttnBr.Facts] : Prop :=
  ∀ (m : (ℓ : Loc Cert.DwAttnBr.nD Cert.DwAttnBr.τ Cert.DwAttnBr.sig) → Buf (Elt Bits) ℓ) (g : Dev Cert.DwAttnBr.nD → PrngReg), Pre_DwAttnBr m →
    θ_run (Cert.DwAttnBr.defs (F := Bits)) (onTc (τ := Cert.DwAttnBr.τ) (Cert.DwAttnBr.main (F := Bits))) ⟨m, fun _ => 0, g⟩ (fun r => (∀ c : Dev Cert.DwAttnBr.nD,
      r.2.mem ((c.tc : Thread Cert.DwAttnBr.nD Cert.DwAttnBr.τ).loc Cert.DwAttnBr.main_arg0) = m ((c.tc : Thread Cert.DwAttnBr.nD Cert.DwAttnBr.τ).loc Cert.DwAttnBr.main_arg0)
      ∧ r.2.mem ((c.tc : Thread Cert.DwAttnBr.nD Cert.DwAttnBr.τ).loc Cert.DwAttnBr.main_arg1) = m ((c.tc : Thread Cert.DwAttnBr.nD Cert.DwAttnBr.τ).loc Cert.DwAttnBr.main_arg1))
      ∧ r.2.sem = fun _ => 0)

def quiescent_DwAttnBrIdeal [hDwAttnBrIdeal : Cert.DwAttnBrIdeal.Facts] : Prop :=
  ∀ (m : (ℓ : Loc Cert.DwAttnBrIdeal.nD Cert.DwAttnBrIdeal.τ Cert.DwAttnBrIdeal.sig) → Buf (Elt Ideal) ℓ) (g : Dev Cert.DwAttnBrIdeal.nD → PrngReg), Pre_DwAttnBrIdeal m →
    θ_run (Cert.DwAttnBrIdeal.defs (F := Ideal)) (onTc (τ := Cert.DwAttnBrIdeal.τ) (Cert.DwAttnBrIdeal.main (F := Ideal))) ⟨m, fun _ => 0, g⟩ (fun r => (∀ c : Dev Cert.DwAttnBrIdeal.nD,
      r.2.mem ((c.tc : Thread Cert.DwAttnBrIdeal.nD Cert.DwAttnBrIdeal.τ).loc Cert.DwAttnBrIdeal.main_arg0) = m ((c.tc : Thread Cert.DwAttnBrIdeal.nD Cert.DwAttnBrIdeal.τ).loc Cert.DwAttnBrIdeal.main_arg0)
      ∧ r.2.mem ((c.tc : Thread Cert.DwAttnBrIdeal.nD Cert.DwAttnBrIdeal.τ).loc Cert.DwAttnBrIdeal.main_arg1) = m ((c.tc : Thread Cert.DwAttnBrIdeal.nD Cert.DwAttnBrIdeal.τ).loc Cert.DwAttnBrIdeal.main_arg1))
      ∧ r.2.sem = fun _ => 0)

def quiescent_DwAttnBrRefIdeal [hDwAttnBrRefIdeal : Cert.DwAttnBrRefIdeal.Facts] : Prop :=
  ∀ (m : (ℓ : Loc Cert.DwAttnBrRefIdeal.nD Cert.DwAttnBrRefIdeal.τ Cert.DwAttnBrRefIdeal.sig) → Buf (Elt Ideal) ℓ) (g : Dev Cert.DwAttnBrRefIdeal.nD → PrngReg), Pre_DwAttnBrRefIdeal m →
    θ_run (Cert.DwAttnBrRefIdeal.defs (F := Ideal)) (onTc (τ := Cert.DwAttnBrRefIdeal.τ) (Cert.DwAttnBrRefIdeal.main (F := Ideal))) ⟨m, fun _ => 0, g⟩ (fun r => (∀ c : Dev Cert.DwAttnBrRefIdeal.nD,
      r.2.mem ((c.tc : Thread Cert.DwAttnBrRefIdeal.nD Cert.DwAttnBrRefIdeal.τ).loc Cert.DwAttnBrRefIdeal.main_arg0) = m ((c.tc : Thread Cert.DwAttnBrRefIdeal.nD Cert.DwAttnBrRefIdeal.τ).loc Cert.DwAttnBrRefIdeal.main_arg0)
      ∧ r.2.mem ((c.tc : Thread Cert.DwAttnBrRefIdeal.nD Cert.DwAttnBrRefIdeal.τ).loc Cert.DwAttnBrRefIdeal.main_arg1) = m ((c.tc : Thread Cert.DwAttnBrRefIdeal.nD Cert.DwAttnBrRefIdeal.τ).loc Cert.DwAttnBrRefIdeal.main_arg1))
      ∧ r.2.sem = fun _ => 0)

def quiescent_DSquare [hDSquare : Cert.DSquare.Facts] : Prop :=
  ∀ (m : (ℓ : Loc Cert.DSquare.nD Cert.DSquare.τ Cert.DSquare.sig) → Buf (Elt Bits) ℓ) (g : Dev Cert.DSquare.nD → PrngReg), Pre_DSquare m →
    θ_run (Cert.DSquare.defs (F := Bits)) (onTc (τ := Cert.DSquare.τ) (Cert.DSquare.main (F := Bits))) ⟨m, fun _ => 0, g⟩ (fun r => (∀ c : Dev Cert.DSquare.nD,
      r.2.mem ((c.tc : Thread Cert.DSquare.nD Cert.DSquare.τ).loc Cert.DSquare.main_arg0) = m ((c.tc : Thread Cert.DSquare.nD Cert.DSquare.τ).loc Cert.DSquare.main_arg0)
      ∧ r.2.mem ((c.tc : Thread Cert.DSquare.nD Cert.DSquare.τ).loc Cert.DSquare.main_arg1) = m ((c.tc : Thread Cert.DSquare.nD Cert.DSquare.τ).loc Cert.DSquare.main_arg1))
      ∧ r.2.sem = fun _ => 0)

def quiescent_DSquareIdeal [hDSquareIdeal : Cert.DSquareIdeal.Facts] : Prop :=
  ∀ (m : (ℓ : Loc Cert.DSquareIdeal.nD Cert.DSquareIdeal.τ Cert.DSquareIdeal.sig) → Buf (Elt Ideal) ℓ) (g : Dev Cert.DSquareIdeal.nD → PrngReg), Pre_DSquareIdeal m →
    θ_run (Cert.DSquareIdeal.defs (F := Ideal)) (onTc (τ := Cert.DSquareIdeal.τ) (Cert.DSquareIdeal.main (F := Ideal))) ⟨m, fun _ => 0, g⟩ (fun r => (∀ c : Dev Cert.DSquareIdeal.nD,
      r.2.mem ((c.tc : Thread Cert.DSquareIdeal.nD Cert.DSquareIdeal.τ).loc Cert.DSquareIdeal.main_arg0) = m ((c.tc : Thread Cert.DSquareIdeal.nD Cert.DSquareIdeal.τ).loc Cert.DSquareIdeal.main_arg0)
      ∧ r.2.mem ((c.tc : Thread Cert.DSquareIdeal.nD Cert.DSquareIdeal.τ).loc Cert.DSquareIdeal.main_arg1) = m ((c.tc : Thread Cert.DSquareIdeal.nD Cert.DSquareIdeal.τ).loc Cert.DSquareIdeal.main_arg1))
      ∧ r.2.sem = fun _ => 0)

def quiescent_DSquareRefIdeal [hDSquareRefIdeal : Cert.DSquareRefIdeal.Facts] : Prop :=
  ∀ (m : (ℓ : Loc Cert.DSquareRefIdeal.nD Cert.DSquareRefIdeal.τ Cert.DSquareRefIdeal.sig) → Buf (Elt Ideal) ℓ) (g : Dev Cert.DSquareRefIdeal.nD → PrngReg), Pre_DSquareRefIdeal m →
    θ_run (Cert.DSquareRefIdeal.defs (F := Ideal)) (onTc (τ := Cert.DSquareRefIdeal.τ) (Cert.DSquareRefIdeal.main (F := Ideal))) ⟨m, fun _ => 0, g⟩ (fun r => (∀ c : Dev Cert.DSquareRefIdeal.nD,
      r.2.mem ((c.tc : Thread Cert.DSquareRefIdeal.nD Cert.DSquareRefIdeal.τ).loc Cert.DSquareRefIdeal.main_arg0) = m ((c.tc : Thread Cert.DSquareRefIdeal.nD Cert.DSquareRefIdeal.τ).loc Cert.DSquareRefIdeal.main_arg0)
      ∧ r.2.mem ((c.tc : Thread Cert.DSquareRefIdeal.nD Cert.DSquareRefIdeal.τ).loc Cert.DSquareRefIdeal.main_arg1) = m ((c.tc : Thread Cert.DSquareRefIdeal.nD Cert.DSquareRefIdeal.τ).loc Cert.DSquareRefIdeal.main_arg1))
      ∧ r.2.sem = fun _ => 0)

def quiescent_DIn [hDIn : Cert.DIn.Facts] : Prop :=
  ∀ (m : (ℓ : Loc Cert.DIn.nD Cert.DIn.τ Cert.DIn.sig) → Buf (Elt Bits) ℓ) (g : Dev Cert.DIn.nD → PrngReg), Pre_DIn m →
    θ_run (Cert.DIn.defs (F := Bits)) (onTc (τ := Cert.DIn.τ) (Cert.DIn.main (F := Bits))) ⟨m, fun _ => 0, g⟩ (fun r => (∀ c : Dev Cert.DIn.nD,
      r.2.mem ((c.tc : Thread Cert.DIn.nD Cert.DIn.τ).loc Cert.DIn.main_arg0) = m ((c.tc : Thread Cert.DIn.nD Cert.DIn.τ).loc Cert.DIn.main_arg0)
      ∧ r.2.mem ((c.tc : Thread Cert.DIn.nD Cert.DIn.τ).loc Cert.DIn.main_arg1) = m ((c.tc : Thread Cert.DIn.nD Cert.DIn.τ).loc Cert.DIn.main_arg1))
      ∧ r.2.sem = fun _ => 0)

def quiescent_DInIdeal [hDInIdeal : Cert.DInIdeal.Facts] : Prop :=
  ∀ (m : (ℓ : Loc Cert.DInIdeal.nD Cert.DInIdeal.τ Cert.DInIdeal.sig) → Buf (Elt Ideal) ℓ) (g : Dev Cert.DInIdeal.nD → PrngReg), Pre_DInIdeal m →
    θ_run (Cert.DInIdeal.defs (F := Ideal)) (onTc (τ := Cert.DInIdeal.τ) (Cert.DInIdeal.main (F := Ideal))) ⟨m, fun _ => 0, g⟩ (fun r => (∀ c : Dev Cert.DInIdeal.nD,
      r.2.mem ((c.tc : Thread Cert.DInIdeal.nD Cert.DInIdeal.τ).loc Cert.DInIdeal.main_arg0) = m ((c.tc : Thread Cert.DInIdeal.nD Cert.DInIdeal.τ).loc Cert.DInIdeal.main_arg0)
      ∧ r.2.mem ((c.tc : Thread Cert.DInIdeal.nD Cert.DInIdeal.τ).loc Cert.DInIdeal.main_arg1) = m ((c.tc : Thread Cert.DInIdeal.nD Cert.DInIdeal.τ).loc Cert.DInIdeal.main_arg1))
      ∧ r.2.sem = fun _ => 0)

def quiescent_DInRefIdeal [hDInRefIdeal : Cert.DInRefIdeal.Facts] : Prop :=
  ∀ (m : (ℓ : Loc Cert.DInRefIdeal.nD Cert.DInRefIdeal.τ Cert.DInRefIdeal.sig) → Buf (Elt Ideal) ℓ) (g : Dev Cert.DInRefIdeal.nD → PrngReg), Pre_DInRefIdeal m →
    θ_run (Cert.DInRefIdeal.defs (F := Ideal)) (onTc (τ := Cert.DInRefIdeal.τ) (Cert.DInRefIdeal.main (F := Ideal))) ⟨m, fun _ => 0, g⟩ (fun r => (∀ c : Dev Cert.DInRefIdeal.nD,
      r.2.mem ((c.tc : Thread Cert.DInRefIdeal.nD Cert.DInRefIdeal.τ).loc Cert.DInRefIdeal.main_arg0) = m ((c.tc : Thread Cert.DInRefIdeal.nD Cert.DInRefIdeal.τ).loc Cert.DInRefIdeal.main_arg0)
      ∧ r.2.mem ((c.tc : Thread Cert.DInRefIdeal.nD Cert.DInRefIdeal.τ).loc Cert.DInRefIdeal.main_arg1) = m ((c.tc : Thread Cert.DInRefIdeal.nD Cert.DInRefIdeal.τ).loc Cert.DInRefIdeal.main_arg1))
      ∧ r.2.sem = fun _ => 0)

def quiescent_AttnBrBwd [hAttnBrBwd : Cert.AttnBrBwd.Facts] : Prop :=
  ∀ (m : (ℓ : Loc Cert.AttnBrBwd.nD Cert.AttnBrBwd.τ Cert.AttnBrBwd.sig) → Buf (Elt Bits) ℓ) (g : Dev Cert.AttnBrBwd.nD → PrngReg), Pre_AttnBrBwd m →
    θ_run (Cert.AttnBrBwd.defs (F := Bits)) (onTc (τ := Cert.AttnBrBwd.τ) (Cert.AttnBrBwd.main (F := Bits))) ⟨m, fun _ => 0, g⟩ (fun r => (∀ c : Dev Cert.AttnBrBwd.nD,
      r.2.mem ((c.tc : Thread Cert.AttnBrBwd.nD Cert.AttnBrBwd.τ).loc Cert.AttnBrBwd.main_arg0) = m ((c.tc : Thread Cert.AttnBrBwd.nD Cert.AttnBrBwd.τ).loc Cert.AttnBrBwd.main_arg0)
      ∧ r.2.mem ((c.tc : Thread Cert.AttnBrBwd.nD Cert.AttnBrBwd.τ).loc Cert.AttnBrBwd.main_arg1) = m ((c.tc : Thread Cert.AttnBrBwd.nD Cert.AttnBrBwd.τ).loc Cert.AttnBrBwd.main_arg1))
      ∧ r.2.sem = fun _ => 0)

def quiescent_AttnBrBwdIdeal [hAttnBrBwdIdeal : Cert.AttnBrBwdIdeal.Facts] : Prop :=
  ∀ (m : (ℓ : Loc Cert.AttnBrBwdIdeal.nD Cert.AttnBrBwdIdeal.τ Cert.AttnBrBwdIdeal.sig) → Buf (Elt Ideal) ℓ) (g : Dev Cert.AttnBrBwdIdeal.nD → PrngReg), Pre_AttnBrBwdIdeal m →
    θ_run (Cert.AttnBrBwdIdeal.defs (F := Ideal)) (onTc (τ := Cert.AttnBrBwdIdeal.τ) (Cert.AttnBrBwdIdeal.main (F := Ideal))) ⟨m, fun _ => 0, g⟩ (fun r => (∀ c : Dev Cert.AttnBrBwdIdeal.nD,
      r.2.mem ((c.tc : Thread Cert.AttnBrBwdIdeal.nD Cert.AttnBrBwdIdeal.τ).loc Cert.AttnBrBwdIdeal.main_arg0) = m ((c.tc : Thread Cert.AttnBrBwdIdeal.nD Cert.AttnBrBwdIdeal.τ).loc Cert.AttnBrBwdIdeal.main_arg0)
      ∧ r.2.mem ((c.tc : Thread Cert.AttnBrBwdIdeal.nD Cert.AttnBrBwdIdeal.τ).loc Cert.AttnBrBwdIdeal.main_arg1) = m ((c.tc : Thread Cert.AttnBrBwdIdeal.nD Cert.AttnBrBwdIdeal.τ).loc Cert.AttnBrBwdIdeal.main_arg1))
      ∧ r.2.sem = fun _ => 0)

def quiescent_AttnBrBwdRefIdeal [hAttnBrBwdRefIdeal : Cert.AttnBrBwdRefIdeal.Facts] : Prop :=
  ∀ (m : (ℓ : Loc Cert.AttnBrBwdRefIdeal.nD Cert.AttnBrBwdRefIdeal.τ Cert.AttnBrBwdRefIdeal.sig) → Buf (Elt Ideal) ℓ) (g : Dev Cert.AttnBrBwdRefIdeal.nD → PrngReg), Pre_AttnBrBwdRefIdeal m →
    θ_run (Cert.AttnBrBwdRefIdeal.defs (F := Ideal)) (onTc (τ := Cert.AttnBrBwdRefIdeal.τ) (Cert.AttnBrBwdRefIdeal.main (F := Ideal))) ⟨m, fun _ => 0, g⟩ (fun r => (∀ c : Dev Cert.AttnBrBwdRefIdeal.nD,
      r.2.mem ((c.tc : Thread Cert.AttnBrBwdRefIdeal.nD Cert.AttnBrBwdRefIdeal.τ).loc Cert.AttnBrBwdRefIdeal.main_arg0) = m ((c.tc : Thread Cert.AttnBrBwdRefIdeal.nD Cert.AttnBrBwdRefIdeal.τ).loc Cert.AttnBrBwdRefIdeal.main_arg0)
      ∧ r.2.mem ((c.tc : Thread Cert.AttnBrBwdRefIdeal.nD Cert.AttnBrBwdRefIdeal.τ).loc Cert.AttnBrBwdRefIdeal.main_arg1) = m ((c.tc : Thread Cert.AttnBrBwdRefIdeal.nD Cert.AttnBrBwdRefIdeal.τ).loc Cert.AttnBrBwdRefIdeal.main_arg1))
      ∧ r.2.sem = fun _ => 0)

def quiescent_AttnBr [hAttnBr : Cert.AttnBr.Facts] : Prop :=
  ∀ (m : (ℓ : Loc Cert.AttnBr.nD Cert.AttnBr.τ Cert.AttnBr.sig) → Buf (Elt Bits) ℓ) (g : Dev Cert.AttnBr.nD → PrngReg), Pre_AttnBr m →
    θ_run (Cert.AttnBr.defs (F := Bits)) (onTc (τ := Cert.AttnBr.τ) (Cert.AttnBr.main (F := Bits))) ⟨m, fun _ => 0, g⟩ (fun r => (∀ c : Dev Cert.AttnBr.nD,
      r.2.mem ((c.tc : Thread Cert.AttnBr.nD Cert.AttnBr.τ).loc Cert.AttnBr.main_arg0) = m ((c.tc : Thread Cert.AttnBr.nD Cert.AttnBr.τ).loc Cert.AttnBr.main_arg0)
      ∧ r.2.mem ((c.tc : Thread Cert.AttnBr.nD Cert.AttnBr.τ).loc Cert.AttnBr.main_arg1) = m ((c.tc : Thread Cert.AttnBr.nD Cert.AttnBr.τ).loc Cert.AttnBr.main_arg1))
      ∧ r.2.sem = fun _ => 0)

def quiescent_AttnBrIdeal [hAttnBrIdeal : Cert.AttnBrIdeal.Facts] : Prop :=
  ∀ (m : (ℓ : Loc Cert.AttnBrIdeal.nD Cert.AttnBrIdeal.τ Cert.AttnBrIdeal.sig) → Buf (Elt Ideal) ℓ) (g : Dev Cert.AttnBrIdeal.nD → PrngReg), Pre_AttnBrIdeal m →
    θ_run (Cert.AttnBrIdeal.defs (F := Ideal)) (onTc (τ := Cert.AttnBrIdeal.τ) (Cert.AttnBrIdeal.main (F := Ideal))) ⟨m, fun _ => 0, g⟩ (fun r => (∀ c : Dev Cert.AttnBrIdeal.nD,
      r.2.mem ((c.tc : Thread Cert.AttnBrIdeal.nD Cert.AttnBrIdeal.τ).loc Cert.AttnBrIdeal.main_arg0) = m ((c.tc : Thread Cert.AttnBrIdeal.nD Cert.AttnBrIdeal.τ).loc Cert.AttnBrIdeal.main_arg0)
      ∧ r.2.mem ((c.tc : Thread Cert.AttnBrIdeal.nD Cert.AttnBrIdeal.τ).loc Cert.AttnBrIdeal.main_arg1) = m ((c.tc : Thread Cert.AttnBrIdeal.nD Cert.AttnBrIdeal.τ).loc Cert.AttnBrIdeal.main_arg1))
      ∧ r.2.sem = fun _ => 0)

def quiescent_AttnBrRefIdeal [hAttnBrRefIdeal : Cert.AttnBrRefIdeal.Facts] : Prop :=
  ∀ (m : (ℓ : Loc Cert.AttnBrRefIdeal.nD Cert.AttnBrRefIdeal.τ Cert.AttnBrRefIdeal.sig) → Buf (Elt Ideal) ℓ) (g : Dev Cert.AttnBrRefIdeal.nD → PrngReg), Pre_AttnBrRefIdeal m →
    θ_run (Cert.AttnBrRefIdeal.defs (F := Ideal)) (onTc (τ := Cert.AttnBrRefIdeal.τ) (Cert.AttnBrRefIdeal.main (F := Ideal))) ⟨m, fun _ => 0, g⟩ (fun r => (∀ c : Dev Cert.AttnBrRefIdeal.nD,
      r.2.mem ((c.tc : Thread Cert.AttnBrRefIdeal.nD Cert.AttnBrRefIdeal.τ).loc Cert.AttnBrRefIdeal.main_arg0) = m ((c.tc : Thread Cert.AttnBrRefIdeal.nD Cert.AttnBrRefIdeal.τ).loc Cert.AttnBrRefIdeal.main_arg0)
      ∧ r.2.mem ((c.tc : Thread Cert.AttnBrRefIdeal.nD Cert.AttnBrRefIdeal.τ).loc Cert.AttnBrRefIdeal.main_arg1) = m ((c.tc : Thread Cert.AttnBrRefIdeal.nD Cert.AttnBrRefIdeal.τ).loc Cert.AttnBrRefIdeal.main_arg1))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ r.2.sem = fun _ => 0)

def quiescent_SquareRefIdeal [hSquareRefIdeal : Cert.SquareRefIdeal.Facts] : Prop :=
  ∀ (m : (ℓ : Loc Cert.SquareRefIdeal.nD Cert.SquareRefIdeal.τ Cert.SquareRefIdeal.sig) → Buf (Elt Ideal) ℓ) (g : Dev Cert.SquareRefIdeal.nD → PrngReg), Pre_SquareRefIdeal m →
    θ_run (Cert.SquareRefIdeal.defs (F := Ideal)) (onTc (τ := Cert.SquareRefIdeal.τ) (Cert.SquareRefIdeal.main (F := Ideal))) ⟨m, fun _ => 0, g⟩ (fun r => (∀ c : Dev Cert.SquareRefIdeal.nD,
      r.2.mem ((c.tc : Thread Cert.SquareRefIdeal.nD Cert.SquareRefIdeal.τ).loc Cert.SquareRefIdeal.main_arg0) = m ((c.tc : Thread Cert.SquareRefIdeal.nD Cert.SquareRefIdeal.τ).loc Cert.SquareRefIdeal.main_arg0)
      ∧ r.2.mem ((c.tc : Thread Cert.SquareRefIdeal.nD Cert.SquareRefIdeal.τ).loc Cert.SquareRefIdeal.main_arg1) = m ((c.tc : Thread Cert.SquareRefIdeal.nD Cert.SquareRefIdeal.τ).loc Cert.SquareRefIdeal.main_arg1))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0)

def quiescent_DwPleProj [hDwPleProj : Cert.DwPleProj.Facts] : Prop :=
  ∀ (m : (ℓ : Loc Cert.DwPleProj.nD Cert.DwPleProj.τ Cert.DwPleProj.sig) → Buf (Elt Bits) ℓ) (g : Dev Cert.DwPleProj.nD → PrngReg), Pre_DwPleProj m →
    θ_run (Cert.DwPleProj.defs (F := Bits)) (onTc (τ := Cert.DwPleProj.τ) (Cert.DwPleProj.main (F := Bits))) ⟨m, fun _ => 0, g⟩ (fun r => (∀ c : Dev Cert.DwPleProj.nD,
      r.2.mem ((c.tc : Thread Cert.DwPleProj.nD Cert.DwPleProj.τ).loc Cert.DwPleProj.main_arg0) = m ((c.tc : Thread Cert.DwPleProj.nD Cert.DwPleProj.τ).loc Cert.DwPleProj.main_arg0)
      ∧ r.2.mem ((c.tc : Thread Cert.DwPleProj.nD Cert.DwPleProj.τ).loc Cert.DwPleProj.main_arg1) = m ((c.tc : Thread Cert.DwPleProj.nD Cert.DwPleProj.τ).loc Cert.DwPleProj.main_arg1))
      ∧ r.2.sem = fun _ => 0)

def quiescent_DwPleProjIdeal [hDwPleProjIdeal : Cert.DwPleProjIdeal.Facts] : Prop :=
  ∀ (m : (ℓ : Loc Cert.DwPleProjIdeal.nD Cert.DwPleProjIdeal.τ Cert.DwPleProjIdeal.sig) → Buf (Elt Ideal) ℓ) (g : Dev Cert.DwPleProjIdeal.nD → PrngReg), Pre_DwPleProjIdeal m →
    θ_run (Cert.DwPleProjIdeal.defs (F := Ideal)) (onTc (τ := Cert.DwPleProjIdeal.τ) (Cert.DwPleProjIdeal.main (F := Ideal))) ⟨m, fun _ => 0, g⟩ (fun r => (∀ c : Dev Cert.DwPleProjIdeal.nD,
      r.2.mem ((c.tc : Thread Cert.DwPleProjIdeal.nD Cert.DwPleProjIdeal.τ).loc Cert.DwPleProjIdeal.main_arg0) = m ((c.tc : Thread Cert.DwPleProjIdeal.nD Cert.DwPleProjIdeal.τ).loc Cert.DwPleProjIdeal.main_arg0)
      ∧ r.2.mem ((c.tc : Thread Cert.DwPleProjIdeal.nD Cert.DwPleProjIdeal.τ).loc Cert.DwPleProjIdeal.main_arg1) = m ((c.tc : Thread Cert.DwPleProjIdeal.nD Cert.DwPleProjIdeal.τ).loc Cert.DwPleProjIdeal.main_arg1))
      ∧ r.2.sem = fun _ => 0)

def quiescent_DwPleProjRefIdeal [hDwPleProjRefIdeal : Cert.DwPleProjRefIdeal.Facts] : Prop :=
  ∀ (m : (ℓ : Loc Cert.DwPleProjRefIdeal.nD Cert.DwPleProjRefIdeal.τ Cert.DwPleProjRefIdeal.sig) → Buf (Elt Ideal) ℓ) (g : Dev Cert.DwPleProjRefIdeal.nD → PrngReg), Pre_DwPleProjRefIdeal m →
    θ_run (Cert.DwPleProjRefIdeal.defs (F := Ideal)) (onTc (τ := Cert.DwPleProjRefIdeal.τ) (Cert.DwPleProjRefIdeal.main (F := Ideal))) ⟨m, fun _ => 0, g⟩ (fun r => (∀ c : Dev Cert.DwPleProjRefIdeal.nD,
      r.2.mem ((c.tc : Thread Cert.DwPleProjRefIdeal.nD Cert.DwPleProjRefIdeal.τ).loc Cert.DwPleProjRefIdeal.main_arg0) = m ((c.tc : Thread Cert.DwPleProjRefIdeal.nD Cert.DwPleProjRefIdeal.τ).loc Cert.DwPleProjRefIdeal.main_arg0)
      ∧ r.2.mem ((c.tc : Thread Cert.DwPleProjRefIdeal.nD Cert.DwPleProjRefIdeal.τ).loc Cert.DwPleProjRefIdeal.main_arg1) = m ((c.tc : Thread Cert.DwPleProjRefIdeal.nD Cert.DwPleProjRefIdeal.τ).loc Cert.DwPleProjRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_GnormFwd [hGnormFwd : Cert.GnormFwd.Facts] : Prop :=
  ∀ (m : (ℓ : Loc Cert.GnormFwd.nD Cert.GnormFwd.τ Cert.GnormFwd.sig) → Buf (Elt Bits) ℓ) (g : Dev Cert.GnormFwd.nD → PrngReg), Pre_GnormFwd m →
    θ_run (Cert.GnormFwd.defs (F := Bits)) (onTc (τ := Cert.GnormFwd.τ) (Cert.GnormFwd.main (F := Bits))) ⟨m, fun _ => 0, g⟩ (fun r => (∀ c : Dev Cert.GnormFwd.nD,
      r.2.mem ((c.tc : Thread Cert.GnormFwd.nD Cert.GnormFwd.τ).loc Cert.GnormFwd.main_arg0) = m ((c.tc : Thread Cert.GnormFwd.nD Cert.GnormFwd.τ).loc Cert.GnormFwd.main_arg0)
      ∧ r.2.mem ((c.tc : Thread Cert.GnormFwd.nD Cert.GnormFwd.τ).loc Cert.GnormFwd.main_arg1) = m ((c.tc : Thread Cert.GnormFwd.nD Cert.GnormFwd.τ).loc Cert.GnormFwd.main_arg1)
      ∧ r.2.mem ((c.tc : Thread Cert.GnormFwd.nD Cert.GnormFwd.τ).loc Cert.GnormFwd.main_arg2) = m ((c.tc : Thread Cert.GnormFwd.nD Cert.GnormFwd.τ).loc Cert.GnormFwd.main_arg2))
      ∧ r.2.sem = fun _ => 0)

def quiescent_GnormFwdIdeal [hGnormFwdIdeal : Cert.GnormFwdIdeal.Facts] : Prop :=
  ∀ (m : (ℓ : Loc Cert.GnormFwdIdeal.nD Cert.GnormFwdIdeal.τ Cert.GnormFwdIdeal.sig) → Buf (Elt Ideal) ℓ) (g : Dev Cert.GnormFwdIdeal.nD → PrngReg), Pre_GnormFwdIdeal m →
    θ_run (Cert.GnormFwdIdeal.defs (F := Ideal)) (onTc (τ := Cert.GnormFwdIdeal.τ) (Cert.GnormFwdIdeal.main (F := Ideal))) ⟨m, fun _ => 0, g⟩ (fun r => (∀ c : Dev Cert.GnormFwdIdeal.nD,
      r.2.mem ((c.tc : Thread Cert.GnormFwdIdeal.nD Cert.GnormFwdIdeal.τ).loc Cert.GnormFwdIdeal.main_arg0) = m ((c.tc : Thread Cert.GnormFwdIdeal.nD Cert.GnormFwdIdeal.τ).loc Cert.GnormFwdIdeal.main_arg0)
      ∧ r.2.mem ((c.tc : Thread Cert.GnormFwdIdeal.nD Cert.GnormFwdIdeal.τ).loc Cert.GnormFwdIdeal.main_arg1) = m ((c.tc : Thread Cert.GnormFwdIdeal.nD Cert.GnormFwdIdeal.τ).loc Cert.GnormFwdIdeal.main_arg1)
      ∧ r.2.mem ((c.tc : Thread Cert.GnormFwdIdeal.nD Cert.GnormFwdIdeal.τ).loc Cert.GnormFwdIdeal.main_arg2) = m ((c.tc : Thread Cert.GnormFwdIdeal.nD Cert.GnormFwdIdeal.τ).loc Cert.GnormFwdIdeal.main_arg2))
      ∧ r.2.sem = fun _ => 0)

def quiescent_GnormFwdRefIdeal [hGnormFwdRefIdeal : Cert.GnormFwdRefIdeal.Facts] : Prop :=
  ∀ (m : (ℓ : Loc Cert.GnormFwdRefIdeal.nD Cert.GnormFwdRefIdeal.τ Cert.GnormFwdRefIdeal.sig) → Buf (Elt Ideal) ℓ) (g : Dev Cert.GnormFwdRefIdeal.nD → PrngReg), Pre_GnormFwdRefIdeal m →
    θ_run (Cert.GnormFwdRefIdeal.defs (F := Ideal)) (onTc (τ := Cert.GnormFwdRefIdeal.τ) (Cert.GnormFwdRefIdeal.main (F := Ideal))) ⟨m, fun _ => 0, g⟩ (fun r => (∀ c : Dev Cert.GnormFwdRefIdeal.nD,
      r.2.mem ((c.tc : Thread Cert.GnormFwdRefIdeal.nD Cert.GnormFwdRefIdeal.τ).loc Cert.GnormFwdRefIdeal.main_arg0) = m ((c.tc : Thread Cert.GnormFwdRefIdeal.nD Cert.GnormFwdRefIdeal.τ).loc Cert.GnormFwdRefIdeal.main_arg0)
      ∧ r.2.mem ((c.tc : Thread Cert.GnormFwdRefIdeal.nD Cert.GnormFwdRefIdeal.τ).loc Cert.GnormFwdRefIdeal.main_arg1) = m ((c.tc : Thread Cert.GnormFwdRefIdeal.nD Cert.GnormFwdRefIdeal.τ).loc Cert.GnormFwdRefIdeal.main_arg1)
      ∧ r.2.mem ((c.tc : Thread Cert.GnormFwdRefIdeal.nD Cert.GnormFwdRefIdeal.τ).loc Cert.GnormFwdRefIdeal.main_arg2) = m ((c.tc : Thread Cert.GnormFwdRefIdeal.nD Cert.GnormFwdRefIdeal.τ).loc Cert.GnormFwdRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3)
      ∧ r.2.mem ((c.tc : Thread Cert.AdamFfn.nD Cert.AdamFfn.τ).loc Cert.AdamFfn.main_arg4) = m ((c.tc : Thread Cert.AdamFfn.nD Cert.AdamFfn.τ).loc Cert.AdamFfn.main_arg4))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
      ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3)
      ∧ r.2.mem ((c.tc : Thread Cert.AdamFfnRefIdeal.nD Cert.AdamFfnRefIdeal.τ).loc Cert.AdamFfnRefIdeal.main_arg4) = m ((c.tc : Thread Cert.AdamFfnRefIdeal.nD Cert.AdamFfnRefIdeal.τ).loc Cert.AdamFfnRefIdeal.main_arg4))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3)
      ∧ r.2.mem ((c.tc : Thread Cert.AdamSquare.nD Cert.AdamSquare.τ).loc Cert.AdamSquare.main_arg4) = m ((c.tc : Thread Cert.AdamSquare.nD Cert.AdamSquare.τ).loc Cert.AdamSquare.main_arg4))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
      ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3)
      ∧ r.2.mem ((c.tc : Thread Cert.AdamSquareRefIdeal.nD Cert.AdamSquareRefIdeal.τ).loc Cert.AdamSquareRefIdeal.main_arg4) = m ((c.tc : Thread Cert.AdamSquareRefIdeal.nD Cert.AdamSquareRefIdeal.τ).loc Cert.AdamSquareRefIdeal.main_arg4))
      ∧ r.2.sem = fun _ => 0)

def quiescent_AdamAttnBr [hAdamAttnBr : Cert.AdamAttnBr.Facts] : Prop :=
  ∀ (m : (ℓ : Loc Cert.AdamAttnBr.nD Cert.AdamAttnBr.τ Cert.AdamAttnBr.sig) → Buf (Elt Bits) ℓ) (g : Dev Cert.AdamAttnBr.nD → PrngReg), Pre_AdamAttnBr m →
    θ_run (Cert.AdamAttnBr.defs (F := Bits)) (onTc (τ := Cert.AdamAttnBr.τ) (Cert.AdamAttnBr.main (F := Bits))) ⟨m, fun _ => 0, g⟩ (fun r => (∀ c : Dev Cert.AdamAttnBr.nD,
      r.2.mem ((c.tc : Thread Cert.AdamAttnBr.nD Cert.AdamAttnBr.τ).loc Cert.AdamAttnBr.main_arg0) = m ((c.tc : Thread Cert.AdamAttnBr.nD Cert.AdamAttnBr.τ).loc Cert.AdamAttnBr.main_arg0)
      ∧ r.2.mem ((c.tc : Thread Cert.AdamAttnBr.nD Cert.AdamAttnBr.τ).loc Cert.AdamAttnBr.main_arg1) = m ((c.tc : Thread Cert.AdamAttnBr.nD Cert.AdamAttnBr.τ).loc Cert.AdamAttnBr.main_arg1)
      ∧ r.2.mem ((c.tc : Thread Cert.AdamAttnBr.nD Cert.AdamAttnBr.τ).loc Cert.AdamAttnBr.main_arg2) = m ((c.tc : Thread Cert.AdamAttnBr.nD Cert.AdamAttnBr.τ).loc Cert.AdamAttnBr.main_arg2)
      ∧ r.2.mem ((c.tc : Thread Cert.AdamAttnBr.nD Cert.AdamAttnBr.τ).loc Cert.AdamAttnBr.main_arg3) = m ((c.tc : Thread Cert.AdamAttnBr.nD Cert.AdamAttnBr.τ).loc Cert.AdamAttnBr.main_arg3)
      ∧ r.2.mem ((c.tc : Thread Cert.AdamAttnBr.nD Cert.AdamAttnBr.τ).loc Cert.AdamAttnBr.main_arg4) = m ((c.tc : Thread Cert.AdamAttnBr.nD Cert.AdamAttnBr.τ).loc Cert.AdamAttnBr.main_arg4))
      ∧ r.2.sem = fun _ => 0)

def quiescent_AdamAttnBrIdeal [hAdamAttnBrIdeal : Cert.AdamAttnBrIdeal.Facts] : Prop :=
  ∀ (m : (ℓ : Loc Cert.AdamAttnBrIdeal.nD Cert.AdamAttnBrIdeal.τ Cert.AdamAttnBrIdeal.sig) → Buf (Elt Ideal) ℓ) (g : Dev Cert.AdamAttnBrIdeal.nD → PrngReg), Pre_AdamAttnBrIdeal m →
    θ_run (Cert.AdamAttnBrIdeal.defs (F := Ideal)) (onTc (τ := Cert.AdamAttnBrIdeal.τ) (Cert.AdamAttnBrIdeal.main (F := Ideal))) ⟨m, fun _ => 0, g⟩ (fun r => (∀ c : Dev Cert.AdamAttnBrIdeal.nD,
      r.2.mem ((c.tc : Thread Cert.AdamAttnBrIdeal.nD Cert.AdamAttnBrIdeal.τ).loc Cert.AdamAttnBrIdeal.main_arg0) = m ((c.tc : Thread Cert.AdamAttnBrIdeal.nD Cert.AdamAttnBrIdeal.τ).loc Cert.AdamAttnBrIdeal.main_arg0)
      ∧ r.2.mem ((c.tc : Thread Cert.AdamAttnBrIdeal.nD Cert.AdamAttnBrIdeal.τ).loc Cert.AdamAttnBrIdeal.main_arg1) = m ((c.tc : Thread Cert.AdamAttnBrIdeal.nD Cert.AdamAttnBrIdeal.τ).loc Cert.AdamAttnBrIdeal.main_arg1)
      ∧ r.2.mem ((c.tc : Thread Cert.AdamAttnBrIdeal.nD Cert.AdamAttnBrIdeal.τ).loc Cert.AdamAttnBrIdeal.main_arg2) = m ((c.tc : Thread Cert.AdamAttnBrIdeal.nD Cert.AdamAttnBrIdeal.τ).loc Cert.AdamAttnBrIdeal.main_arg2)
      ∧ r.2.mem ((c.tc : Thread Cert.AdamAttnBrIdeal.nD Cert.AdamAttnBrIdeal.τ).loc Cert.AdamAttnBrIdeal.main_arg3) = m ((c.tc : Thread Cert.AdamAttnBrIdeal.nD Cert.AdamAttnBrIdeal.τ).loc Cert.AdamAttnBrIdeal.main_arg3)
      ∧ r.2.mem ((c.tc : Thread Cert.AdamAttnBrIdeal.nD Cert.AdamAttnBrIdeal.τ).loc Cert.AdamAttnBrIdeal.main_arg4) = m ((c.tc : Thread Cert.AdamAttnBrIdeal.nD Cert.AdamAttnBrIdeal.τ).loc Cert.AdamAttnBrIdeal.main_arg4))
      ∧ r.2.sem = fun _ => 0)

def quiescent_AdamAttnBrRefIdeal [hAdamAttnBrRefIdeal : Cert.AdamAttnBrRefIdeal.Facts] : Prop :=
  ∀ (m : (ℓ : Loc Cert.AdamAttnBrRefIdeal.nD Cert.AdamAttnBrRefIdeal.τ Cert.AdamAttnBrRefIdeal.sig) → Buf (Elt Ideal) ℓ) (g : Dev Cert.AdamAttnBrRefIdeal.nD → PrngReg), Pre_AdamAttnBrRefIdeal m →
    θ_run (Cert.AdamAttnBrRefIdeal.defs (F := Ideal)) (onTc (τ := Cert.AdamAttnBrRefIdeal.τ) (Cert.AdamAttnBrRefIdeal.main (F := Ideal))) ⟨m, fun _ => 0, g⟩ (fun r => (∀ c : Dev Cert.AdamAttnBrRefIdeal.nD,
      r.2.mem ((c.tc : Thread Cert.AdamAttnBrRefIdeal.nD Cert.AdamAttnBrRefIdeal.τ).loc Cert.AdamAttnBrRefIdeal.main_arg0) = m ((c.tc : Thread Cert.AdamAttnBrRefIdeal.nD Cert.AdamAttnBrRefIdeal.τ).loc Cert.AdamAttnBrRefIdeal.main_arg0)
      ∧ r.2.mem ((c.tc : Thread Cert.AdamAttnBrRefIdeal.nD Cert.AdamAttnBrRefIdeal.τ).loc Cert.AdamAttnBrRefIdeal.main_arg1) = m ((c.tc : Thread Cert.AdamAttnBrRefIdeal.nD Cert.AdamAttnBrRefIdeal.τ).loc Cert.AdamAttnBrRefIdeal.main_arg1)
      ∧ r.2.mem ((c.tc : Thread Cert.AdamAttnBrRefIdeal.nD Cert.AdamAttnBrRefIdeal.τ).loc Cert.AdamAttnBrRefIdeal.main_arg2) = m ((c.tc : Thread Cert.AdamAttnBrRefIdeal.nD Cert.AdamAttnBrRefIdeal.τ).loc Cert.AdamAttnBrRefIdeal.main_arg2)
      ∧ r.2.mem ((c.tc : Thread Cert.AdamAttnBrRefIdeal.nD Cert.AdamAttnBrRefIdeal.τ).loc Cert.AdamAttnBrRefIdeal.main_arg3) = m ((c.tc : Thread Cert.AdamAttnBrRefIdeal.nD Cert.AdamAttnBrRefIdeal.τ).loc Cert.AdamAttnBrRefIdeal.main_arg3)
      ∧ r.2.mem ((c.tc : Thread Cert.AdamAttnBrRefIdeal.nD Cert.AdamAttnBrRefIdeal.τ).loc Cert.AdamAttnBrRefIdeal.main_arg4) = m ((c.tc : Thread Cert.AdamAttnBrRefIdeal.nD Cert.AdamAttnBrRefIdeal.τ).loc Cert.AdamAttnBrRefIdeal.main_arg4))
      ∧ r.2.sem = fun _ => 0)

def quiescent_AdamPle [hAdamPle : Cert.AdamPle.Facts] : Prop :=
  ∀ (m : (ℓ : Loc Cert.AdamPle.nD Cert.AdamPle.τ Cert.AdamPle.sig) → Buf (Elt Bits) ℓ) (g : Dev Cert.AdamPle.nD → PrngReg), Pre_AdamPle m →
    θ_run (Cert.AdamPle.defs (F := Bits)) (onTc (τ := Cert.AdamPle.τ) (Cert.AdamPle.main (F := Bits))) ⟨m, fun _ => 0, g⟩ (fun r => (∀ c : Dev Cert.AdamPle.nD,
      r.2.mem ((c.tc : Thread Cert.AdamPle.nD Cert.AdamPle.τ).loc Cert.AdamPle.main_arg0) = m ((c.tc : Thread Cert.AdamPle.nD Cert.AdamPle.τ).loc Cert.AdamPle.main_arg0)
      ∧ r.2.mem ((c.tc : Thread Cert.AdamPle.nD Cert.AdamPle.τ).loc Cert.AdamPle.main_arg1) = m ((c.tc : Thread Cert.AdamPle.nD Cert.AdamPle.τ).loc Cert.AdamPle.main_arg1)
      ∧ r.2.mem ((c.tc : Thread Cert.AdamPle.nD Cert.AdamPle.τ).loc Cert.AdamPle.main_arg2) = m ((c.tc : Thread Cert.AdamPle.nD Cert.AdamPle.τ).loc Cert.AdamPle.main_arg2)
      ∧ r.2.mem ((c.tc : Thread Cert.AdamPle.nD Cert.AdamPle.τ).loc Cert.AdamPle.main_arg3) = m ((c.tc : Thread Cert.AdamPle.nD Cert.AdamPle.τ).loc Cert.AdamPle.main_arg3)
      ∧ r.2.mem ((c.tc : Thread Cert.AdamPle.nD Cert.AdamPle.τ).loc Cert.AdamPle.main_arg4) = m ((c.tc : Thread Cert.AdamPle.nD Cert.AdamPle.τ).loc Cert.AdamPle.main_arg4))
      ∧ r.2.sem = fun _ => 0)

def quiescent_AdamPleIdeal [hAdamPleIdeal : Cert.AdamPleIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg), Pre_AdamPleIdeal m →
    θ_run (Cert.AdamPleIdeal.defs (F := Ideal)) (onTc (τ := Cert.AdamPleIdeal.τ) (Cert.AdamPleIdeal.main (F := Ideal))) ⟨m, fun _ => 0, g⟩ (fun r => (∀ c : Dev Cert.AdamPleIdeal.nD,
      r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
      ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
      ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
      ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3)
      ∧ r.2.mem ((c.tc : Thread Cert.AdamPleIdeal.nD Cert.AdamPleIdeal.τ).loc Cert.AdamPleIdeal.main_arg4) = m ((c.tc : Thread Cert.AdamPleIdeal.nD Cert.AdamPleIdeal.τ).loc Cert.AdamPleIdeal.main_arg4))
      ∧ r.2.sem = fun _ => 0)

def quiescent_AdamPleRefIdeal [hAdamPleRefIdeal : Cert.AdamPleRefIdeal.Facts] : Prop :=
  ∀ (m : (ℓ : Loc Cert.AdamPleRefIdeal.nD Cert.AdamPleRefIdeal.τ Cert.AdamPleRefIdeal.sig) → Buf (Elt Ideal) ℓ) (g : Dev Cert.AdamPleRefIdeal.nD → PrngReg), Pre_AdamPleRefIdeal m →
    θ_run (Cert.AdamPleRefIdeal.defs (F := Ideal)) (onTc (τ := Cert.AdamPleRefIdeal.τ) (Cert.AdamPleRefIdeal.main (F := Ideal))) ⟨m, fun _ => 0, g⟩ (fun r => (∀ c : Dev Cert.AdamPleRefIdeal.nD,
      r.2.mem ((c.tc : Thread Cert.AdamPleRefIdeal.nD Cert.AdamPleRefIdeal.τ).loc Cert.AdamPleRefIdeal.main_arg0) = m ((c.tc : Thread Cert.AdamPleRefIdeal.nD Cert.AdamPleRefIdeal.τ).loc Cert.AdamPleRefIdeal.main_arg0)
      ∧ r.2.mem ((c.tc : Thread Cert.AdamPleRefIdeal.nD Cert.AdamPleRefIdeal.τ).loc Cert.AdamPleRefIdeal.main_arg1) = m ((c.tc : Thread Cert.AdamPleRefIdeal.nD Cert.AdamPleRefIdeal.τ).loc Cert.AdamPleRefIdeal.main_arg1)
      ∧ r.2.mem ((c.tc : Thread Cert.AdamPleRefIdeal.nD Cert.AdamPleRefIdeal.τ).loc Cert.AdamPleRefIdeal.main_arg2) = m ((c.tc : Thread Cert.AdamPleRefIdeal.nD Cert.AdamPleRefIdeal.τ).loc Cert.AdamPleRefIdeal.main_arg2)
      ∧ r.2.mem ((c.tc : Thread Cert.AdamPleRefIdeal.nD Cert.AdamPleRefIdeal.τ).loc Cert.AdamPleRefIdeal.main_arg3) = m ((c.tc : Thread Cert.AdamPleRefIdeal.nD Cert.AdamPleRefIdeal.τ).loc Cert.AdamPleRefIdeal.main_arg3)
      ∧ r.2.mem ((c.tc : Thread Cert.AdamPleRefIdeal.nD Cert.AdamPleRefIdeal.τ).loc Cert.AdamPleRefIdeal.main_arg4) = m ((c.tc : Thread Cert.AdamPleRefIdeal.nD Cert.AdamPleRefIdeal.τ).loc Cert.AdamPleRefIdeal.main_arg4))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3)
      ∧ r.2.mem ((c.tc : Thread Cert.AdamConv.nD Cert.AdamConv.τ).loc Cert.AdamConv.main_arg4) = m ((c.tc : Thread Cert.AdamConv.nD Cert.AdamConv.τ).loc Cert.AdamConv.main_arg4))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
      ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3)
      ∧ r.2.mem ((c.tc : Thread Cert.AdamConvRefIdeal.nD Cert.AdamConvRefIdeal.τ).loc Cert.AdamConvRefIdeal.main_arg4) = m ((c.tc : Thread Cert.AdamConvRefIdeal.nD Cert.AdamConvRefIdeal.τ).loc Cert.AdamConvRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_AttnBwd_AttnBwdIdeal : Prop :=
  IdealRules.named_const.Statement Cert.AttnBwdIdeal.κ "mask" .f32 0xF149F2CA#32 ⊥

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)
      ∧ m' ((c.tc : Thread Cert.AttnBwdRefIdeal.nD Cert.AttnBwdRefIdeal.τ).loc Cert.AttnBwdRefIdeal.main_arg5) = m ((c.tc : Thread Cert.AttnBwdIdeal.nD Cert.AttnBwdIdeal.τ).loc Cert.AttnBwdIdeal.main_arg5)
      ∧ m' ((c.tc : Thread Cert.AttnBwdRefIdeal.nD Cert.AttnBwdRefIdeal.τ).loc Cert.AttnBwdRefIdeal.main_arg6) = m ((c.tc : Thread Cert.AttnBwdIdeal.nD Cert.AttnBwdIdeal.τ).loc Cert.AttnBwdIdeal.main_arg6)
      ∧ m' ((c.tc : Thread Cert.AttnBwdRefIdeal.nD Cert.AttnBwdRefIdeal.τ).loc Cert.AttnBwdRefIdeal.main_arg7) = m ((c.tc : Thread Cert.AttnBwdIdeal.nD Cert.AttnBwdIdeal.τ).loc Cert.AttnBwdIdeal.main_arg7)) →
    ∃ (v0 : (c : Dev Cert.AttnBwdIdeal.nD) → Buf (Elt Ideal) ((c.tc : Thread Cert.AttnBwdIdeal.nD Cert.AttnBwdIdeal.τ).loc Cert.AttnBwdIdeal.main_v1_0)) (v1 : (c : Dev Cert.AttnBwdIdeal.nD) → Buf (Elt Ideal) ((c.tc : Thread Cert.AttnBwdIdeal.nD Cert.AttnBwdIdeal.τ).loc Cert.AttnBwdIdeal.main_v1_1)) (v2 : (c : Dev Cert.AttnBwdIdeal.nD) → Buf (Elt Ideal) ((c.tc : Thread Cert.AttnBwdIdeal.nD Cert.AttnBwdIdeal.τ).loc Cert.AttnBwdIdeal.main_v1_2)) (v3 : (c : Dev Cert.AttnBwdIdeal.nD) → Buf (Elt Ideal) ((c.tc : Thread Cert.AttnBwdIdeal.nD Cert.AttnBwdIdeal.τ).loc Cert.AttnBwdIdeal.main_v1_3)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v1_0) = v0 c
          ∧ r.2.mem ((c.tc : Thread Cert.AttnBwdIdeal.nD Cert.AttnBwdIdeal.τ).loc Cert.AttnBwdIdeal.main_v1_1) = v1 c
          ∧ r.2.mem ((c.tc : Thread Cert.AttnBwdIdeal.nD Cert.AttnBwdIdeal.τ).loc Cert.AttnBwdIdeal.main_v1_2) = v2 c
          ∧ r.2.mem ((c.tc : Thread Cert.AttnBwdIdeal.nD Cert.AttnBwdIdeal.τ).loc Cert.AttnBwdIdeal.main_v1_3) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
          ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6)
          ∧ r.2.mem ((c.tc : Thread Cert.AttnBwdIdeal.nD Cert.AttnBwdIdeal.τ).loc Cert.AttnBwdIdeal.main_arg7) = m ((c.tc : Thread Cert.AttnBwdIdeal.nD Cert.AttnBwdIdeal.τ).loc Cert.AttnBwdIdeal.main_arg7))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v151) = v0 c
          ∧ r.2.mem ((c.tc : Thread Cert.AttnBwdRefIdeal.nD Cert.AttnBwdRefIdeal.τ).loc Cert.AttnBwdRefIdeal.main_v190) = v1 c
          ∧ r.2.mem ((c.tc : Thread Cert.AttnBwdRefIdeal.nD Cert.AttnBwdRefIdeal.τ).loc Cert.AttnBwdRefIdeal.main_v192) = v2 c
          ∧ r.2.mem ((c.tc : Thread Cert.AttnBwdRefIdeal.nD Cert.AttnBwdRefIdeal.τ).loc Cert.AttnBwdRefIdeal.main_v193) = v3 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4)
          ∧ r.2.mem ((c.tc : Thread Cert.AttnBwdRefIdeal.nD Cert.AttnBwdRefIdeal.τ).loc Cert.AttnBwdRefIdeal.main_arg5) = m' ((c.tc : Thread Cert.AttnBwdRefIdeal.nD Cert.AttnBwdRefIdeal.τ).loc Cert.AttnBwdRefIdeal.main_arg5)
          ∧ r.2.mem ((c.tc : Thread Cert.AttnBwdRefIdeal.nD Cert.AttnBwdRefIdeal.τ).loc Cert.AttnBwdRefIdeal.main_arg6) = m' ((c.tc : Thread Cert.AttnBwdRefIdeal.nD Cert.AttnBwdRefIdeal.τ).loc Cert.AttnBwdRefIdeal.main_arg6)
          ∧ r.2.mem ((c.tc : Thread Cert.AttnBwdRefIdeal.nD Cert.AttnBwdRefIdeal.τ).loc Cert.AttnBwdRefIdeal.main_arg7) = m' ((c.tc : Thread Cert.AttnBwdRefIdeal.nD Cert.AttnBwdRefIdeal.τ).loc Cert.AttnBwdRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v9) = v0 c
          ∧ r.2.mem ((c.tc : Thread Cert.FfnUpRefIdeal.nD Cert.FfnUpRefIdeal.τ).loc Cert.FfnUpRefIdeal.main_v10) = v1 c
          ∧ r.2.mem ((c.tc : Thread Cert.FfnUpRefIdeal.nD Cert.FfnUpRefIdeal.τ).loc Cert.FfnUpRefIdeal.main_v11) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_FfnUpBwd_FfnUpBwdIdeal : Prop :=
  True

def algebraic_FfnUpBwdIdeal_FfnUpBwdRefIdeal [hFfnUpBwdIdeal : Cert.FfnUpBwdIdeal.Facts] [hFfnUpBwdRefIdeal : Cert.FfnUpBwdRefIdeal.Facts] : Prop :=
  ∀ (m : (ℓ : Loc Cert.FfnUpBwdIdeal.nD Cert.FfnUpBwdIdeal.τ Cert.FfnUpBwdIdeal.sig) → Buf (Elt Ideal) ℓ) (g : Dev Cert.FfnUpBwdIdeal.nD → PrngReg)
    (m' : (ℓ : Loc Cert.FfnUpBwdRefIdeal.nD Cert.FfnUpBwdRefIdeal.τ Cert.FfnUpBwdRefIdeal.sig) → Buf (Elt Ideal) ℓ) (g' : Dev Cert.FfnUpBwdRefIdeal.nD → PrngReg), Pre_FfnUpBwdIdeal m →
    (∀ c : Dev Cert.FfnUpBwdIdeal.nD,
      m' ((c.tc : Thread Cert.FfnUpBwdRefIdeal.nD Cert.FfnUpBwdRefIdeal.τ).loc Cert.FfnUpBwdRefIdeal.main_arg0) = m ((c.tc : Thread Cert.FfnUpBwdIdeal.nD Cert.FfnUpBwdIdeal.τ).loc Cert.FfnUpBwdIdeal.main_arg0)
      ∧ m' ((c.tc : Thread Cert.FfnUpBwdRefIdeal.nD Cert.FfnUpBwdRefIdeal.τ).loc Cert.FfnUpBwdRefIdeal.main_arg1) = m ((c.tc : Thread Cert.FfnUpBwdIdeal.nD Cert.FfnUpBwdIdeal.τ).loc Cert.FfnUpBwdIdeal.main_arg1)
      ∧ m' ((c.tc : Thread Cert.FfnUpBwdRefIdeal.nD Cert.FfnUpBwdRefIdeal.τ).loc Cert.FfnUpBwdRefIdeal.main_arg2) = m ((c.tc : Thread Cert.FfnUpBwdIdeal.nD Cert.FfnUpBwdIdeal.τ).loc Cert.FfnUpBwdIdeal.main_arg2)
      ∧ m' ((c.tc : Thread Cert.FfnUpBwdRefIdeal.nD Cert.FfnUpBwdRefIdeal.τ).loc Cert.FfnUpBwdRefIdeal.main_arg3) = m ((c.tc : Thread Cert.FfnUpBwdIdeal.nD Cert.FfnUpBwdIdeal.τ).loc Cert.FfnUpBwdIdeal.main_arg3)) →
    ∃ (v0 : (c : Dev Cert.FfnUpBwdIdeal.nD) → Buf (Elt Ideal) ((c.tc : Thread Cert.FfnUpBwdIdeal.nD Cert.FfnUpBwdIdeal.τ).loc Cert.FfnUpBwdIdeal.main_v0)),
      θ_run (Cert.FfnUpBwdIdeal.defs (F := Ideal)) (onTc (τ := Cert.FfnUpBwdIdeal.τ) (Cert.FfnUpBwdIdeal.main (F := Ideal))) ⟨m, fun _ => 0, g⟩ (fun r => ∀ c : Dev Cert.FfnUpBwdIdeal.nD,
          r.2.mem ((c.tc : Thread Cert.FfnUpBwdIdeal.nD Cert.FfnUpBwdIdeal.τ).loc Cert.FfnUpBwdIdeal.main_v0) = v0 c
          ∧ r.2.mem ((c.tc : Thread Cert.FfnUpBwdIdeal.nD Cert.FfnUpBwdIdeal.τ).loc Cert.FfnUpBwdIdeal.main_arg0) = m ((c.tc : Thread Cert.FfnUpBwdIdeal.nD Cert.FfnUpBwdIdeal.τ).loc Cert.FfnUpBwdIdeal.main_arg0)
          ∧ r.2.mem ((c.tc : Thread Cert.FfnUpBwdIdeal.nD Cert.FfnUpBwdIdeal.τ).loc Cert.FfnUpBwdIdeal.main_arg1) = m ((c.tc : Thread Cert.FfnUpBwdIdeal.nD Cert.FfnUpBwdIdeal.τ).loc Cert.FfnUpBwdIdeal.main_arg1)
          ∧ r.2.mem ((c.tc : Thread Cert.FfnUpBwdIdeal.nD Cert.FfnUpBwdIdeal.τ).loc Cert.FfnUpBwdIdeal.main_arg2) = m ((c.tc : Thread Cert.FfnUpBwdIdeal.nD Cert.FfnUpBwdIdeal.τ).loc Cert.FfnUpBwdIdeal.main_arg2)
          ∧ r.2.mem ((c.tc : Thread Cert.FfnUpBwdIdeal.nD Cert.FfnUpBwdIdeal.τ).loc Cert.FfnUpBwdIdeal.main_arg3) = m ((c.tc : Thread Cert.FfnUpBwdIdeal.nD Cert.FfnUpBwdIdeal.τ).loc Cert.FfnUpBwdIdeal.main_arg3))
      ∧ θ_run (Cert.FfnUpBwdRefIdeal.defs (F := Ideal)) (onTc (τ := Cert.FfnUpBwdRefIdeal.τ) (Cert.FfnUpBwdRefIdeal.main (F := Ideal))) ⟨m', fun _ => 0, g'⟩ (fun r => ∀ c : Dev Cert.FfnUpBwdRefIdeal.nD,
          r.2.mem ((c.tc : Thread Cert.FfnUpBwdRefIdeal.nD Cert.FfnUpBwdRefIdeal.τ).loc Cert.FfnUpBwdRefIdeal.main_v11) = v0 c
          ∧ r.2.mem ((c.tc : Thread Cert.FfnUpBwdRefIdeal.nD Cert.FfnUpBwdRefIdeal.τ).loc Cert.FfnUpBwdRefIdeal.main_arg0) = m' ((c.tc : Thread Cert.FfnUpBwdRefIdeal.nD Cert.FfnUpBwdRefIdeal.τ).loc Cert.FfnUpBwdRefIdeal.main_arg0)
          ∧ r.2.mem ((c.tc : Thread Cert.FfnUpBwdRefIdeal.nD Cert.FfnUpBwdRefIdeal.τ).loc Cert.FfnUpBwdRefIdeal.main_arg1) = m' ((c.tc : Thread Cert.FfnUpBwdRefIdeal.nD Cert.FfnUpBwdRefIdeal.τ).loc Cert.FfnUpBwdRefIdeal.main_arg1)
          ∧ r.2.mem ((c.tc : Thread Cert.FfnUpBwdRefIdeal.nD Cert.FfnUpBwdRefIdeal.τ).loc Cert.FfnUpBwdRefIdeal.main_arg2) = m' ((c.tc : Thread Cert.FfnUpBwdRefIdeal.nD Cert.FfnUpBwdRefIdeal.τ).loc Cert.FfnUpBwdRefIdeal.main_arg2)
          ∧ r.2.mem ((c.tc : Thread Cert.FfnUpBwdRefIdeal.nD Cert.FfnUpBwdRefIdeal.τ).loc Cert.FfnUpBwdRefIdeal.main_arg3) = m' ((c.tc : Thread Cert.FfnUpBwdRefIdeal.nD Cert.FfnUpBwdRefIdeal.τ).loc Cert.FfnUpBwdRefIdeal.main_arg3))

def preserves_DwFfn_DwFfnIdeal : Prop :=
  True

def algebraic_DwFfnIdeal_DwFfnRefIdeal [hDwFfnIdeal : Cert.DwFfnIdeal.Facts] [hDwFfnRefIdeal : Cert.DwFfnRefIdeal.Facts] : Prop :=
  ∀ (m : (ℓ : Loc Cert.DwFfnIdeal.nD Cert.DwFfnIdeal.τ Cert.DwFfnIdeal.sig) → Buf (Elt Ideal) ℓ) (g : Dev Cert.DwFfnIdeal.nD → PrngReg)
    (m' : (ℓ : Loc Cert.DwFfnRefIdeal.nD Cert.DwFfnRefIdeal.τ Cert.DwFfnRefIdeal.sig) → Buf (Elt Ideal) ℓ) (g' : Dev Cert.DwFfnRefIdeal.nD → PrngReg), Pre_DwFfnIdeal m →
    (∀ c : Dev Cert.DwFfnIdeal.nD,
      m' ((c.tc : Thread Cert.DwFfnRefIdeal.nD Cert.DwFfnRefIdeal.τ).loc Cert.DwFfnRefIdeal.main_arg0) = m ((c.tc : Thread Cert.DwFfnIdeal.nD Cert.DwFfnIdeal.τ).loc Cert.DwFfnIdeal.main_arg0)
      ∧ m' ((c.tc : Thread Cert.DwFfnRefIdeal.nD Cert.DwFfnRefIdeal.τ).loc Cert.DwFfnRefIdeal.main_arg1) = m ((c.tc : Thread Cert.DwFfnIdeal.nD Cert.DwFfnIdeal.τ).loc Cert.DwFfnIdeal.main_arg1)) →
    ∃ (v0 : (c : Dev Cert.DwFfnIdeal.nD) → Buf (Elt Ideal) ((c.tc : Thread Cert.DwFfnIdeal.nD Cert.DwFfnIdeal.τ).loc Cert.DwFfnIdeal.main_v0)),
      θ_run (Cert.DwFfnIdeal.defs (F := Ideal)) (onTc (τ := Cert.DwFfnIdeal.τ) (Cert.DwFfnIdeal.main (F := Ideal))) ⟨m, fun _ => 0, g⟩ (fun r => ∀ c : Dev Cert.DwFfnIdeal.nD,
          r.2.mem ((c.tc : Thread Cert.DwFfnIdeal.nD Cert.DwFfnIdeal.τ).loc Cert.DwFfnIdeal.main_v0) = v0 c
          ∧ r.2.mem ((c.tc : Thread Cert.DwFfnIdeal.nD Cert.DwFfnIdeal.τ).loc Cert.DwFfnIdeal.main_arg0) = m ((c.tc : Thread Cert.DwFfnIdeal.nD Cert.DwFfnIdeal.τ).loc Cert.DwFfnIdeal.main_arg0)
          ∧ r.2.mem ((c.tc : Thread Cert.DwFfnIdeal.nD Cert.DwFfnIdeal.τ).loc Cert.DwFfnIdeal.main_arg1) = m ((c.tc : Thread Cert.DwFfnIdeal.nD Cert.DwFfnIdeal.τ).loc Cert.DwFfnIdeal.main_arg1))
      ∧ θ_run (Cert.DwFfnRefIdeal.defs (F := Ideal)) (onTc (τ := Cert.DwFfnRefIdeal.τ) (Cert.DwFfnRefIdeal.main (F := Ideal))) ⟨m', fun _ => 0, g'⟩ (fun r => ∀ c : Dev Cert.DwFfnRefIdeal.nD,
          r.2.mem ((c.tc : Thread Cert.DwFfnRefIdeal.nD Cert.DwFfnRefIdeal.τ).loc Cert.DwFfnRefIdeal.main_v6) = v0 c
          ∧ r.2.mem ((c.tc : Thread Cert.DwFfnRefIdeal.nD Cert.DwFfnRefIdeal.τ).loc Cert.DwFfnRefIdeal.main_arg0) = m' ((c.tc : Thread Cert.DwFfnRefIdeal.nD Cert.DwFfnRefIdeal.τ).loc Cert.DwFfnRefIdeal.main_arg0)
          ∧ r.2.mem ((c.tc : Thread Cert.DwFfnRefIdeal.nD Cert.DwFfnRefIdeal.τ).loc Cert.DwFfnRefIdeal.main_arg1) = m' ((c.tc : Thread Cert.DwFfnRefIdeal.nD Cert.DwFfnRefIdeal.τ).loc Cert.DwFfnRefIdeal.main_arg1))

def preserves_DwSquare_DwSquareIdeal : Prop :=
  True

def algebraic_DwSquareIdeal_DwSquareRefIdeal [hDwSquareIdeal : Cert.DwSquareIdeal.Facts] [hDwSquareRefIdeal : Cert.DwSquareRefIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.DwSquareRefIdeal.nD Cert.DwSquareRefIdeal.τ Cert.DwSquareRefIdeal.sig) → Buf (Elt Ideal) ℓ) (g' : Dev Cert.DwSquareRefIdeal.nD → PrngReg), Pre_DwSquareIdeal m →
    (∀ c : Dev Cert.DwSquareIdeal.nD,
      m' ((c.tc : Thread Cert.DwSquareRefIdeal.nD Cert.DwSquareRefIdeal.τ).loc Cert.DwSquareRefIdeal.main_arg0) = m ((c.tc : Thread Cert.DwSquareIdeal.nD Cert.DwSquareIdeal.τ).loc Cert.DwSquareIdeal.main_arg0)
      ∧ m' ((c.tc : Thread Cert.DwSquareRefIdeal.nD Cert.DwSquareRefIdeal.τ).loc Cert.DwSquareRefIdeal.main_arg1) = m ((c.tc : Thread Cert.DwSquareIdeal.nD Cert.DwSquareIdeal.τ).loc Cert.DwSquareIdeal.main_arg1)) →
    ∃ (v0 : (c : Dev Cert.DwSquareIdeal.nD) → Buf (Elt Ideal) ((c.tc : Thread Cert.DwSquareIdeal.nD Cert.DwSquareIdeal.τ).loc Cert.DwSquareIdeal.main_v0)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v0) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ θ_run (Cert.DwSquareRefIdeal.defs (F := Ideal)) (onTc (τ := Cert.DwSquareRefIdeal.τ) (Cert.DwSquareRefIdeal.main (F := Ideal))) ⟨m', fun _ => 0, g'⟩ (fun r => ∀ c : Dev Cert.DwSquareRefIdeal.nD,
          r.2.mem ((c.tc : Thread Cert.DwSquareRefIdeal.nD Cert.DwSquareRefIdeal.τ).loc Cert.DwSquareRefIdeal.main_v6) = v0 c
          ∧ r.2.mem ((c.tc : Thread Cert.DwSquareRefIdeal.nD Cert.DwSquareRefIdeal.τ).loc Cert.DwSquareRefIdeal.main_arg0) = m' ((c.tc : Thread Cert.DwSquareRefIdeal.nD Cert.DwSquareRefIdeal.τ).loc Cert.DwSquareRefIdeal.main_arg0)
          ∧ r.2.mem ((c.tc : Thread Cert.DwSquareRefIdeal.nD Cert.DwSquareRefIdeal.τ).loc Cert.DwSquareRefIdeal.main_arg1) = m' ((c.tc : Thread Cert.DwSquareRefIdeal.nD Cert.DwSquareRefIdeal.τ).loc Cert.DwSquareRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v8) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwAttnBr_DwAttnBrIdeal : Prop :=
  True

def algebraic_DwAttnBrIdeal_DwAttnBrRefIdeal [hDwAttnBrIdeal : Cert.DwAttnBrIdeal.Facts] [hDwAttnBrRefIdeal : Cert.DwAttnBrRefIdeal.Facts] : Prop :=
  ∀ (m : (ℓ : Loc Cert.DwAttnBrIdeal.nD Cert.DwAttnBrIdeal.τ Cert.DwAttnBrIdeal.sig) → Buf (Elt Ideal) ℓ) (g : Dev Cert.DwAttnBrIdeal.nD → PrngReg)
    (m' : (ℓ : Loc Cert.DwAttnBrRefIdeal.nD Cert.DwAttnBrRefIdeal.τ Cert.DwAttnBrRefIdeal.sig) → Buf (Elt Ideal) ℓ) (g' : Dev Cert.DwAttnBrRefIdeal.nD → PrngReg), Pre_DwAttnBrIdeal m →
    (∀ c : Dev Cert.DwAttnBrIdeal.nD,
      m' ((c.tc : Thread Cert.DwAttnBrRefIdeal.nD Cert.DwAttnBrRefIdeal.τ).loc Cert.DwAttnBrRefIdeal.main_arg0) = m ((c.tc : Thread Cert.DwAttnBrIdeal.nD Cert.DwAttnBrIdeal.τ).loc Cert.DwAttnBrIdeal.main_arg0)
      ∧ m' ((c.tc : Thread Cert.DwAttnBrRefIdeal.nD Cert.DwAttnBrRefIdeal.τ).loc Cert.DwAttnBrRefIdeal.main_arg1) = m ((c.tc : Thread Cert.DwAttnBrIdeal.nD Cert.DwAttnBrIdeal.τ).loc Cert.DwAttnBrIdeal.main_arg1)) →
    ∃ (v0 : (c : Dev Cert.DwAttnBrIdeal.nD) → Buf (Elt Ideal) ((c.tc : Thread Cert.DwAttnBrIdeal.nD Cert.DwAttnBrIdeal.τ).loc Cert.DwAttnBrIdeal.main_v0)),
      θ_run (Cert.DwAttnBrIdeal.defs (F := Ideal)) (onTc (τ := Cert.DwAttnBrIdeal.τ) (Cert.DwAttnBrIdeal.main (F := Ideal))) ⟨m, fun _ => 0, g⟩ (fun r => ∀ c : Dev Cert.DwAttnBrIdeal.nD,
          r.2.mem ((c.tc : Thread Cert.DwAttnBrIdeal.nD Cert.DwAttnBrIdeal.τ).loc Cert.DwAttnBrIdeal.main_v0) = v0 c
          ∧ r.2.mem ((c.tc : Thread Cert.DwAttnBrIdeal.nD Cert.DwAttnBrIdeal.τ).loc Cert.DwAttnBrIdeal.main_arg0) = m ((c.tc : Thread Cert.DwAttnBrIdeal.nD Cert.DwAttnBrIdeal.τ).loc Cert.DwAttnBrIdeal.main_arg0)
          ∧ r.2.mem ((c.tc : Thread Cert.DwAttnBrIdeal.nD Cert.DwAttnBrIdeal.τ).loc Cert.DwAttnBrIdeal.main_arg1) = m ((c.tc : Thread Cert.DwAttnBrIdeal.nD Cert.DwAttnBrIdeal.τ).loc Cert.DwAttnBrIdeal.main_arg1))
      ∧ θ_run (Cert.DwAttnBrRefIdeal.defs (F := Ideal)) (onTc (τ := Cert.DwAttnBrRefIdeal.τ) (Cert.DwAttnBrRefIdeal.main (F := Ideal))) ⟨m', fun _ => 0, g'⟩ (fun r => ∀ c : Dev Cert.DwAttnBrRefIdeal.nD,
          r.2.mem ((c.tc : Thread Cert.DwAttnBrRefIdeal.nD Cert.DwAttnBrRefIdeal.τ).loc Cert.DwAttnBrRefIdeal.main_v10) = v0 c
          ∧ r.2.mem ((c.tc : Thread Cert.DwAttnBrRefIdeal.nD Cert.DwAttnBrRefIdeal.τ).loc Cert.DwAttnBrRefIdeal.main_arg0) = m' ((c.tc : Thread Cert.DwAttnBrRefIdeal.nD Cert.DwAttnBrRefIdeal.τ).loc Cert.DwAttnBrRefIdeal.main_arg0)
          ∧ r.2.mem ((c.tc : Thread Cert.DwAttnBrRefIdeal.nD Cert.DwAttnBrRefIdeal.τ).loc Cert.DwAttnBrRefIdeal.main_arg1) = m' ((c.tc : Thread Cert.DwAttnBrRefIdeal.nD Cert.DwAttnBrRefIdeal.τ).loc Cert.DwAttnBrRefIdeal.main_arg1))

def preserves_DSquare_DSquareIdeal : Prop :=
  True

def algebraic_DSquareIdeal_DSquareRefIdeal [hDSquareIdeal : Cert.DSquareIdeal.Facts] [hDSquareRefIdeal : Cert.DSquareRefIdeal.Facts] : Prop :=
  ∀ (m : (ℓ : Loc Cert.DSquareIdeal.nD Cert.DSquareIdeal.τ Cert.DSquareIdeal.sig) → Buf (Elt Ideal) ℓ) (g : Dev Cert.DSquareIdeal.nD → PrngReg)
    (m' : (ℓ : Loc Cert.DSquareRefIdeal.nD Cert.DSquareRefIdeal.τ Cert.DSquareRefIdeal.sig) → Buf (Elt Ideal) ℓ) (g' : Dev Cert.DSquareRefIdeal.nD → PrngReg), Pre_DSquareIdeal m →
    (∀ c : Dev Cert.DSquareIdeal.nD,
      m' ((c.tc : Thread Cert.DSquareRefIdeal.nD Cert.DSquareRefIdeal.τ).loc Cert.DSquareRefIdeal.main_arg0) = m ((c.tc : Thread Cert.DSquareIdeal.nD Cert.DSquareIdeal.τ).loc Cert.DSquareIdeal.main_arg0)
      ∧ m' ((c.tc : Thread Cert.DSquareRefIdeal.nD Cert.DSquareRefIdeal.τ).loc Cert.DSquareRefIdeal.main_arg1) = m ((c.tc : Thread Cert.DSquareIdeal.nD Cert.DSquareIdeal.τ).loc Cert.DSquareIdeal.main_arg1)) →
    ∃ (v0 : (c : Dev Cert.DSquareIdeal.nD) → Buf (Elt Ideal) ((c.tc : Thread Cert.DSquareIdeal.nD Cert.DSquareIdeal.τ).loc Cert.DSquareIdeal.main_v0)),
      θ_run (Cert.DSquareIdeal.defs (F := Ideal)) (onTc (τ := Cert.DSquareIdeal.τ) (Cert.DSquareIdeal.main (F := Ideal))) ⟨m, fun _ => 0, g⟩ (fun r => ∀ c : Dev Cert.DSquareIdeal.nD,
          r.2.mem ((c.tc : Thread Cert.DSquareIdeal.nD Cert.DSquareIdeal.τ).loc Cert.DSquareIdeal.main_v0) = v0 c
          ∧ r.2.mem ((c.tc : Thread Cert.DSquareIdeal.nD Cert.DSquareIdeal.τ).loc Cert.DSquareIdeal.main_arg0) = m ((c.tc : Thread Cert.DSquareIdeal.nD Cert.DSquareIdeal.τ).loc Cert.DSquareIdeal.main_arg0)
          ∧ r.2.mem ((c.tc : Thread Cert.DSquareIdeal.nD Cert.DSquareIdeal.τ).loc Cert.DSquareIdeal.main_arg1) = m ((c.tc : Thread Cert.DSquareIdeal.nD Cert.DSquareIdeal.τ).loc Cert.DSquareIdeal.main_arg1))
      ∧ θ_run (Cert.DSquareRefIdeal.defs (F := Ideal)) (onTc (τ := Cert.DSquareRefIdeal.τ) (Cert.DSquareRefIdeal.main (F := Ideal))) ⟨m', fun _ => 0, g'⟩ (fun r => ∀ c : Dev Cert.DSquareRefIdeal.nD,
          r.2.mem ((c.tc : Thread Cert.DSquareRefIdeal.nD Cert.DSquareRefIdeal.τ).loc Cert.DSquareRefIdeal.main_v4) = v0 c
          ∧ r.2.mem ((c.tc : Thread Cert.DSquareRefIdeal.nD Cert.DSquareRefIdeal.τ).loc Cert.DSquareRefIdeal.main_arg0) = m' ((c.tc : Thread Cert.DSquareRefIdeal.nD Cert.DSquareRefIdeal.τ).loc Cert.DSquareRefIdeal.main_arg0)
          ∧ r.2.mem ((c.tc : Thread Cert.DSquareRefIdeal.nD Cert.DSquareRefIdeal.τ).loc Cert.DSquareRefIdeal.main_arg1) = m' ((c.tc : Thread Cert.DSquareRefIdeal.nD Cert.DSquareRefIdeal.τ).loc Cert.DSquareRefIdeal.main_arg1))

def preserves_DIn_DInIdeal : Prop :=
  True

def algebraic_DInIdeal_DInRefIdeal [hDInIdeal : Cert.DInIdeal.Facts] [hDInRefIdeal : Cert.DInRefIdeal.Facts] : Prop :=
  ∀ (m : (ℓ : Loc Cert.DInIdeal.nD Cert.DInIdeal.τ Cert.DInIdeal.sig) → Buf (Elt Ideal) ℓ) (g : Dev Cert.DInIdeal.nD → PrngReg)
    (m' : (ℓ : Loc Cert.DInRefIdeal.nD Cert.DInRefIdeal.τ Cert.DInRefIdeal.sig) → Buf (Elt Ideal) ℓ) (g' : Dev Cert.DInRefIdeal.nD → PrngReg), Pre_DInIdeal m →
    (∀ c : Dev Cert.DInIdeal.nD,
      m' ((c.tc : Thread Cert.DInRefIdeal.nD Cert.DInRefIdeal.τ).loc Cert.DInRefIdeal.main_arg0) = m ((c.tc : Thread Cert.DInIdeal.nD Cert.DInIdeal.τ).loc Cert.DInIdeal.main_arg0)
      ∧ m' ((c.tc : Thread Cert.DInRefIdeal.nD Cert.DInRefIdeal.τ).loc Cert.DInRefIdeal.main_arg1) = m ((c.tc : Thread Cert.DInIdeal.nD Cert.DInIdeal.τ).loc Cert.DInIdeal.main_arg1)) →
    ∃ (v0 : (c : Dev Cert.DInIdeal.nD) → Buf (Elt Ideal) ((c.tc : Thread Cert.DInIdeal.nD Cert.DInIdeal.τ).loc Cert.DInIdeal.main_v1)),
      θ_run (Cert.DInIdeal.defs (F := Ideal)) (onTc (τ := Cert.DInIdeal.τ) (Cert.DInIdeal.main (F := Ideal))) ⟨m, fun _ => 0, g⟩ (fun r => ∀ c : Dev Cert.DInIdeal.nD,
          r.2.mem ((c.tc : Thread Cert.DInIdeal.nD Cert.DInIdeal.τ).loc Cert.DInIdeal.main_v1) = v0 c
          ∧ r.2.mem ((c.tc : Thread Cert.DInIdeal.nD Cert.DInIdeal.τ).loc Cert.DInIdeal.main_arg0) = m ((c.tc : Thread Cert.DInIdeal.nD Cert.DInIdeal.τ).loc Cert.DInIdeal.main_arg0)
          ∧ r.2.mem ((c.tc : Thread Cert.DInIdeal.nD Cert.DInIdeal.τ).loc Cert.DInIdeal.main_arg1) = m ((c.tc : Thread Cert.DInIdeal.nD Cert.DInIdeal.τ).loc Cert.DInIdeal.main_arg1))
      ∧ θ_run (Cert.DInRefIdeal.defs (F := Ideal)) (onTc (τ := Cert.DInRefIdeal.τ) (Cert.DInRefIdeal.main (F := Ideal))) ⟨m', fun _ => 0, g'⟩ (fun r => ∀ c : Dev Cert.DInRefIdeal.nD,
          r.2.mem ((c.tc : Thread Cert.DInRefIdeal.nD Cert.DInRefIdeal.τ).loc Cert.DInRefIdeal.main_v5) = v0 c
          ∧ r.2.mem ((c.tc : Thread Cert.DInRefIdeal.nD Cert.DInRefIdeal.τ).loc Cert.DInRefIdeal.main_arg0) = m' ((c.tc : Thread Cert.DInRefIdeal.nD Cert.DInRefIdeal.τ).loc Cert.DInRefIdeal.main_arg0)
          ∧ r.2.mem ((c.tc : Thread Cert.DInRefIdeal.nD Cert.DInRefIdeal.τ).loc Cert.DInRefIdeal.main_arg1) = m' ((c.tc : Thread Cert.DInRefIdeal.nD Cert.DInRefIdeal.τ).loc Cert.DInRefIdeal.main_arg1))

def preserves_AttnBrBwd_AttnBrBwdIdeal : Prop :=
  True

def algebraic_AttnBrBwdIdeal_AttnBrBwdRefIdeal [hAttnBrBwdIdeal : Cert.AttnBrBwdIdeal.Facts] [hAttnBrBwdRefIdeal : Cert.AttnBrBwdRefIdeal.Facts] : Prop :=
  ∀ (m : (ℓ : Loc Cert.AttnBrBwdIdeal.nD Cert.AttnBrBwdIdeal.τ Cert.AttnBrBwdIdeal.sig) → Buf (Elt Ideal) ℓ) (g : Dev Cert.AttnBrBwdIdeal.nD → PrngReg)
    (m' : (ℓ : Loc Cert.AttnBrBwdRefIdeal.nD Cert.AttnBrBwdRefIdeal.τ Cert.AttnBrBwdRefIdeal.sig) → Buf (Elt Ideal) ℓ) (g' : Dev Cert.AttnBrBwdRefIdeal.nD → PrngReg), Pre_AttnBrBwdIdeal m →
    (∀ c : Dev Cert.AttnBrBwdIdeal.nD,
      m' ((c.tc : Thread Cert.AttnBrBwdRefIdeal.nD Cert.AttnBrBwdRefIdeal.τ).loc Cert.AttnBrBwdRefIdeal.main_arg0) = m ((c.tc : Thread Cert.AttnBrBwdIdeal.nD Cert.AttnBrBwdIdeal.τ).loc Cert.AttnBrBwdIdeal.main_arg0)
      ∧ m' ((c.tc : Thread Cert.AttnBrBwdRefIdeal.nD Cert.AttnBrBwdRefIdeal.τ).loc Cert.AttnBrBwdRefIdeal.main_arg1) = m ((c.tc : Thread Cert.AttnBrBwdIdeal.nD Cert.AttnBrBwdIdeal.τ).loc Cert.AttnBrBwdIdeal.main_arg1)) →
    ∃ (v0 : (c : Dev Cert.AttnBrBwdIdeal.nD) → Buf (Elt Ideal) ((c.tc : Thread Cert.AttnBrBwdIdeal.nD Cert.AttnBrBwdIdeal.τ).loc Cert.AttnBrBwdIdeal.main_v0)),
      θ_run (Cert.AttnBrBwdIdeal.defs (F := Ideal)) (onTc (τ := Cert.AttnBrBwdIdeal.τ) (Cert.AttnBrBwdIdeal.main (F := Ideal))) ⟨m, fun _ => 0, g⟩ (fun r => ∀ c : Dev Cert.AttnBrBwdIdeal.nD,
          r.2.mem ((c.tc : Thread Cert.AttnBrBwdIdeal.nD Cert.AttnBrBwdIdeal.τ).loc Cert.AttnBrBwdIdeal.main_v0) = v0 c
          ∧ r.2.mem ((c.tc : Thread Cert.AttnBrBwdIdeal.nD Cert.AttnBrBwdIdeal.τ).loc Cert.AttnBrBwdIdeal.main_arg0) = m ((c.tc : Thread Cert.AttnBrBwdIdeal.nD Cert.AttnBrBwdIdeal.τ).loc Cert.AttnBrBwdIdeal.main_arg0)
          ∧ r.2.mem ((c.tc : Thread Cert.AttnBrBwdIdeal.nD Cert.AttnBrBwdIdeal.τ).loc Cert.AttnBrBwdIdeal.main_arg1) = m ((c.tc : Thread Cert.AttnBrBwdIdeal.nD Cert.AttnBrBwdIdeal.τ).loc Cert.AttnBrBwdIdeal.main_arg1))
      ∧ θ_run (Cert.AttnBrBwdRefIdeal.defs (F := Ideal)) (onTc (τ := Cert.AttnBrBwdRefIdeal.τ) (Cert.AttnBrBwdRefIdeal.main (F := Ideal))) ⟨m', fun _ => 0, g'⟩ (fun r => ∀ c : Dev Cert.AttnBrBwdRefIdeal.nD,
          r.2.mem ((c.tc : Thread Cert.AttnBrBwdRefIdeal.nD Cert.AttnBrBwdRefIdeal.τ).loc Cert.AttnBrBwdRefIdeal.main_v7) = v0 c
          ∧ r.2.mem ((c.tc : Thread Cert.AttnBrBwdRefIdeal.nD Cert.AttnBrBwdRefIdeal.τ).loc Cert.AttnBrBwdRefIdeal.main_arg0) = m' ((c.tc : Thread Cert.AttnBrBwdRefIdeal.nD Cert.AttnBrBwdRefIdeal.τ).loc Cert.AttnBrBwdRefIdeal.main_arg0)
          ∧ r.2.mem ((c.tc : Thread Cert.AttnBrBwdRefIdeal.nD Cert.AttnBrBwdRefIdeal.τ).loc Cert.AttnBrBwdRefIdeal.main_arg1) = m' ((c.tc : Thread Cert.AttnBrBwdRefIdeal.nD Cert.AttnBrBwdRefIdeal.τ).loc Cert.AttnBrBwdRefIdeal.main_arg1))

def preserves_AttnBr_AttnBrIdeal : Prop :=
  True

def algebraic_AttnBrIdeal_AttnBrRefIdeal [hAttnBrIdeal : Cert.AttnBrIdeal.Facts] [hAttnBrRefIdeal : Cert.AttnBrRefIdeal.Facts] : Prop :=
  ∀ (m : (ℓ : Loc Cert.AttnBrIdeal.nD Cert.AttnBrIdeal.τ Cert.AttnBrIdeal.sig) → Buf (Elt Ideal) ℓ) (g : Dev Cert.AttnBrIdeal.nD → PrngReg)
    (m' : (ℓ : Loc Cert.AttnBrRefIdeal.nD Cert.AttnBrRefIdeal.τ Cert.AttnBrRefIdeal.sig) → Buf (Elt Ideal) ℓ) (g' : Dev Cert.AttnBrRefIdeal.nD → PrngReg), Pre_AttnBrIdeal m →
    (∀ c : Dev Cert.AttnBrIdeal.nD,
      m' ((c.tc : Thread Cert.AttnBrRefIdeal.nD Cert.AttnBrRefIdeal.τ).loc Cert.AttnBrRefIdeal.main_arg0) = m ((c.tc : Thread Cert.AttnBrIdeal.nD Cert.AttnBrIdeal.τ).loc Cert.AttnBrIdeal.main_arg0)
      ∧ m' ((c.tc : Thread Cert.AttnBrRefIdeal.nD Cert.AttnBrRefIdeal.τ).loc Cert.AttnBrRefIdeal.main_arg1) = m ((c.tc : Thread Cert.AttnBrIdeal.nD Cert.AttnBrIdeal.τ).loc Cert.AttnBrIdeal.main_arg1)) →
    ∃ (v0 : (c : Dev Cert.AttnBrIdeal.nD) → Buf (Elt Ideal) ((c.tc : Thread Cert.AttnBrIdeal.nD Cert.AttnBrIdeal.τ).loc Cert.AttnBrIdeal.main_v0)),
      θ_run (Cert.AttnBrIdeal.defs (F := Ideal)) (onTc (τ := Cert.AttnBrIdeal.τ) (Cert.AttnBrIdeal.main (F := Ideal))) ⟨m, fun _ => 0, g⟩ (fun r => ∀ c : Dev Cert.AttnBrIdeal.nD,
          r.2.mem ((c.tc : Thread Cert.AttnBrIdeal.nD Cert.AttnBrIdeal.τ).loc Cert.AttnBrIdeal.main_v0) = v0 c
          ∧ r.2.mem ((c.tc : Thread Cert.AttnBrIdeal.nD Cert.AttnBrIdeal.τ).loc Cert.AttnBrIdeal.main_arg0) = m ((c.tc : Thread Cert.AttnBrIdeal.nD Cert.AttnBrIdeal.τ).loc Cert.AttnBrIdeal.main_arg0)
          ∧ r.2.mem ((c.tc : Thread Cert.AttnBrIdeal.nD Cert.AttnBrIdeal.τ).loc Cert.AttnBrIdeal.main_arg1) = m ((c.tc : Thread Cert.AttnBrIdeal.nD Cert.AttnBrIdeal.τ).loc Cert.AttnBrIdeal.main_arg1))
      ∧ θ_run (Cert.AttnBrRefIdeal.defs (F := Ideal)) (onTc (τ := Cert.AttnBrRefIdeal.τ) (Cert.AttnBrRefIdeal.main (F := Ideal))) ⟨m', fun _ => 0, g'⟩ (fun r => ∀ c : Dev Cert.AttnBrRefIdeal.nD,
          r.2.mem ((c.tc : Thread Cert.AttnBrRefIdeal.nD Cert.AttnBrRefIdeal.τ).loc Cert.AttnBrRefIdeal.main_v4) = v0 c
          ∧ r.2.mem ((c.tc : Thread Cert.AttnBrRefIdeal.nD Cert.AttnBrRefIdeal.τ).loc Cert.AttnBrRefIdeal.main_arg0) = m' ((c.tc : Thread Cert.AttnBrRefIdeal.nD Cert.AttnBrRefIdeal.τ).loc Cert.AttnBrRefIdeal.main_arg0)
          ∧ r.2.mem ((c.tc : Thread Cert.AttnBrRefIdeal.nD Cert.AttnBrRefIdeal.τ).loc Cert.AttnBrRefIdeal.main_arg1) = m' ((c.tc : Thread Cert.AttnBrRefIdeal.nD Cert.AttnBrRefIdeal.τ).loc Cert.AttnBrRefIdeal.main_arg1))

def preserves_Square_SquareIdeal : Prop :=
  True

def algebraic_SquareIdeal_SquareRefIdeal [hSquareIdeal : Cert.SquareIdeal.Facts] [hSquareRefIdeal : Cert.SquareRefIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.SquareRefIdeal.nD Cert.SquareRefIdeal.τ Cert.SquareRefIdeal.sig) → Buf (Elt Ideal) ℓ) (g' : Dev Cert.SquareRefIdeal.nD → PrngReg), Pre_SquareIdeal m →
    (∀ c : Dev Cert.SquareIdeal.nD,
      m' ((c.tc : Thread Cert.SquareRefIdeal.nD Cert.SquareRefIdeal.τ).loc Cert.SquareRefIdeal.main_arg0) = m ((c.tc : Thread Cert.SquareIdeal.nD Cert.SquareIdeal.τ).loc Cert.SquareIdeal.main_arg0)
      ∧ m' ((c.tc : Thread Cert.SquareRefIdeal.nD Cert.SquareRefIdeal.τ).loc Cert.SquareRefIdeal.main_arg1) = m ((c.tc : Thread Cert.SquareIdeal.nD Cert.SquareIdeal.τ).loc Cert.SquareIdeal.main_arg1)) →
    ∃ (v0 : (c : Dev Cert.SquareIdeal.nD) → Buf (Elt Ideal) ((c.tc : Thread Cert.SquareIdeal.nD Cert.SquareIdeal.τ).loc Cert.SquareIdeal.main_v0)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v0) = v0 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ θ_run (Cert.SquareRefIdeal.defs (F := Ideal)) (onTc (τ := Cert.SquareRefIdeal.τ) (Cert.SquareRefIdeal.main (F := Ideal))) ⟨m', fun _ => 0, g'⟩ (fun r => ∀ c : Dev Cert.SquareRefIdeal.nD,
          r.2.mem ((c.tc : Thread Cert.SquareRefIdeal.nD Cert.SquareRefIdeal.τ).loc Cert.SquareRefIdeal.main_v2) = v0 c
          ∧ r.2.mem ((c.tc : Thread Cert.SquareRefIdeal.nD Cert.SquareRefIdeal.τ).loc Cert.SquareRefIdeal.main_arg0) = m' ((c.tc : Thread Cert.SquareRefIdeal.nD Cert.SquareRefIdeal.τ).loc Cert.SquareRefIdeal.main_arg0)
          ∧ r.2.mem ((c.tc : Thread Cert.SquareRefIdeal.nD Cert.SquareRefIdeal.τ).loc Cert.SquareRefIdeal.main_arg1) = m' ((c.tc : Thread Cert.SquareRefIdeal.nD Cert.SquareRefIdeal.τ).loc Cert.SquareRefIdeal.main_arg1))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)) →
    ∃ (v0 : (c : Dev Cert.OProjIdeal.nD) → Buf (Elt Ideal) ((c.tc : Thread Cert.OProjIdeal.nD Cert.OProjIdeal.τ).loc Cert.OProjIdeal.main_v0)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v0) = v0 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v3) = v0 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v17) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v0)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v0) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v3) = v0 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1))

def preserves_DwPleProj_DwPleProjIdeal : Prop :=
  True

def algebraic_DwPleProjIdeal_DwPleProjRefIdeal [hDwPleProjIdeal : Cert.DwPleProjIdeal.Facts] [hDwPleProjRefIdeal : Cert.DwPleProjRefIdeal.Facts] : Prop :=
  ∀ (m : (ℓ : Loc Cert.DwPleProjIdeal.nD Cert.DwPleProjIdeal.τ Cert.DwPleProjIdeal.sig) → Buf (Elt Ideal) ℓ) (g : Dev Cert.DwPleProjIdeal.nD → PrngReg)
    (m' : (ℓ : Loc Cert.DwPleProjRefIdeal.nD Cert.DwPleProjRefIdeal.τ Cert.DwPleProjRefIdeal.sig) → Buf (Elt Ideal) ℓ) (g' : Dev Cert.DwPleProjRefIdeal.nD → PrngReg), Pre_DwPleProjIdeal m →
    (∀ c : Dev Cert.DwPleProjIdeal.nD,
      m' ((c.tc : Thread Cert.DwPleProjRefIdeal.nD Cert.DwPleProjRefIdeal.τ).loc Cert.DwPleProjRefIdeal.main_arg0) = m ((c.tc : Thread Cert.DwPleProjIdeal.nD Cert.DwPleProjIdeal.τ).loc Cert.DwPleProjIdeal.main_arg0)
      ∧ m' ((c.tc : Thread Cert.DwPleProjRefIdeal.nD Cert.DwPleProjRefIdeal.τ).loc Cert.DwPleProjRefIdeal.main_arg1) = m ((c.tc : Thread Cert.DwPleProjIdeal.nD Cert.DwPleProjIdeal.τ).loc Cert.DwPleProjIdeal.main_arg1)) →
    ∃ (v0 : (c : Dev Cert.DwPleProjIdeal.nD) → Buf (Elt Ideal) ((c.tc : Thread Cert.DwPleProjIdeal.nD Cert.DwPleProjIdeal.τ).loc Cert.DwPleProjIdeal.main_v0)),
      θ_run (Cert.DwPleProjIdeal.defs (F := Ideal)) (onTc (τ := Cert.DwPleProjIdeal.τ) (Cert.DwPleProjIdeal.main (F := Ideal))) ⟨m, fun _ => 0, g⟩ (fun r => ∀ c : Dev Cert.DwPleProjIdeal.nD,
          r.2.mem ((c.tc : Thread Cert.DwPleProjIdeal.nD Cert.DwPleProjIdeal.τ).loc Cert.DwPleProjIdeal.main_v0) = v0 c
          ∧ r.2.mem ((c.tc : Thread Cert.DwPleProjIdeal.nD Cert.DwPleProjIdeal.τ).loc Cert.DwPleProjIdeal.main_arg0) = m ((c.tc : Thread Cert.DwPleProjIdeal.nD Cert.DwPleProjIdeal.τ).loc Cert.DwPleProjIdeal.main_arg0)
          ∧ r.2.mem ((c.tc : Thread Cert.DwPleProjIdeal.nD Cert.DwPleProjIdeal.τ).loc Cert.DwPleProjIdeal.main_arg1) = m ((c.tc : Thread Cert.DwPleProjIdeal.nD Cert.DwPleProjIdeal.τ).loc Cert.DwPleProjIdeal.main_arg1))
      ∧ θ_run (Cert.DwPleProjRefIdeal.defs (F := Ideal)) (onTc (τ := Cert.DwPleProjRefIdeal.τ) (Cert.DwPleProjRefIdeal.main (F := Ideal))) ⟨m', fun _ => 0, g'⟩ (fun r => ∀ c : Dev Cert.DwPleProjRefIdeal.nD,
          r.2.mem ((c.tc : Thread Cert.DwPleProjRefIdeal.nD Cert.DwPleProjRefIdeal.τ).loc Cert.DwPleProjRefIdeal.main_v9) = v0 c
          ∧ r.2.mem ((c.tc : Thread Cert.DwPleProjRefIdeal.nD Cert.DwPleProjRefIdeal.τ).loc Cert.DwPleProjRefIdeal.main_arg0) = m' ((c.tc : Thread Cert.DwPleProjRefIdeal.nD Cert.DwPleProjRefIdeal.τ).loc Cert.DwPleProjRefIdeal.main_arg0)
          ∧ r.2.mem ((c.tc : Thread Cert.DwPleProjRefIdeal.nD Cert.DwPleProjRefIdeal.τ).loc Cert.DwPleProjRefIdeal.main_arg1) = m' ((c.tc : Thread Cert.DwPleProjRefIdeal.nD Cert.DwPleProjRefIdeal.τ).loc Cert.DwPleProjRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v1)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v1) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v35) = v0 c
          ∧ r.2.mem ((c.tc : Thread Cert.MergeBwdRefIdeal.nD Cert.MergeBwdRefIdeal.τ).loc Cert.MergeBwdRefIdeal.main_v36) = v1 c
          ∧ r.2.mem ((c.tc : Thread Cert.MergeBwdRefIdeal.nD Cert.MergeBwdRefIdeal.τ).loc Cert.MergeBwdRefIdeal.main_v37) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_GnormFwd_GnormFwdIdeal : Prop :=
  True

def algebraic_GnormFwdIdeal_GnormFwdRefIdeal [hGnormFwdIdeal : Cert.GnormFwdIdeal.Facts] [hGnormFwdRefIdeal : Cert.GnormFwdRefIdeal.Facts] : Prop :=
  ∀ (m : (ℓ : Loc Cert.GnormFwdIdeal.nD Cert.GnormFwdIdeal.τ Cert.GnormFwdIdeal.sig) → Buf (Elt Ideal) ℓ) (g : Dev Cert.GnormFwdIdeal.nD → PrngReg)
    (m' : (ℓ : Loc Cert.GnormFwdRefIdeal.nD Cert.GnormFwdRefIdeal.τ Cert.GnormFwdRefIdeal.sig) → Buf (Elt Ideal) ℓ) (g' : Dev Cert.GnormFwdRefIdeal.nD → PrngReg), Pre_GnormFwdIdeal m →
    (∀ c : Dev Cert.GnormFwdIdeal.nD,
      m' ((c.tc : Thread Cert.GnormFwdRefIdeal.nD Cert.GnormFwdRefIdeal.τ).loc Cert.GnormFwdRefIdeal.main_arg0) = m ((c.tc : Thread Cert.GnormFwdIdeal.nD Cert.GnormFwdIdeal.τ).loc Cert.GnormFwdIdeal.main_arg0)
      ∧ m' ((c.tc : Thread Cert.GnormFwdRefIdeal.nD Cert.GnormFwdRefIdeal.τ).loc Cert.GnormFwdRefIdeal.main_arg1) = m ((c.tc : Thread Cert.GnormFwdIdeal.nD Cert.GnormFwdIdeal.τ).loc Cert.GnormFwdIdeal.main_arg1)
      ∧ m' ((c.tc : Thread Cert.GnormFwdRefIdeal.nD Cert.GnormFwdRefIdeal.τ).loc Cert.GnormFwdRefIdeal.main_arg2) = m ((c.tc : Thread Cert.GnormFwdIdeal.nD Cert.GnormFwdIdeal.τ).loc Cert.GnormFwdIdeal.main_arg2)) →
    ∃ (v0 : (c : Dev Cert.GnormFwdIdeal.nD) → Buf (Elt Ideal) ((c.tc : Thread Cert.GnormFwdIdeal.nD Cert.GnormFwdIdeal.τ).loc Cert.GnormFwdIdeal.main_v0)),
      θ_run (Cert.GnormFwdIdeal.defs (F := Ideal)) (onTc (τ := Cert.GnormFwdIdeal.τ) (Cert.GnormFwdIdeal.main (F := Ideal))) ⟨m, fun _ => 0, g⟩ (fun r => ∀ c : Dev Cert.GnormFwdIdeal.nD,
          r.2.mem ((c.tc : Thread Cert.GnormFwdIdeal.nD Cert.GnormFwdIdeal.τ).loc Cert.GnormFwdIdeal.main_v0) = v0 c
          ∧ r.2.mem ((c.tc : Thread Cert.GnormFwdIdeal.nD Cert.GnormFwdIdeal.τ).loc Cert.GnormFwdIdeal.main_arg0) = m ((c.tc : Thread Cert.GnormFwdIdeal.nD Cert.GnormFwdIdeal.τ).loc Cert.GnormFwdIdeal.main_arg0)
          ∧ r.2.mem ((c.tc : Thread Cert.GnormFwdIdeal.nD Cert.GnormFwdIdeal.τ).loc Cert.GnormFwdIdeal.main_arg1) = m ((c.tc : Thread Cert.GnormFwdIdeal.nD Cert.GnormFwdIdeal.τ).loc Cert.GnormFwdIdeal.main_arg1)
          ∧ r.2.mem ((c.tc : Thread Cert.GnormFwdIdeal.nD Cert.GnormFwdIdeal.τ).loc Cert.GnormFwdIdeal.main_arg2) = m ((c.tc : Thread Cert.GnormFwdIdeal.nD Cert.GnormFwdIdeal.τ).loc Cert.GnormFwdIdeal.main_arg2))
      ∧ θ_run (Cert.GnormFwdRefIdeal.defs (F := Ideal)) (onTc (τ := Cert.GnormFwdRefIdeal.τ) (Cert.GnormFwdRefIdeal.main (F := Ideal))) ⟨m', fun _ => 0, g'⟩ (fun r => ∀ c : Dev Cert.GnormFwdRefIdeal.nD,
          r.2.mem ((c.tc : Thread Cert.GnormFwdRefIdeal.nD Cert.GnormFwdRefIdeal.τ).loc Cert.GnormFwdRefIdeal.main_v15) = v0 c
          ∧ r.2.mem ((c.tc : Thread Cert.GnormFwdRefIdeal.nD Cert.GnormFwdRefIdeal.τ).loc Cert.GnormFwdRefIdeal.main_arg0) = m' ((c.tc : Thread Cert.GnormFwdRefIdeal.nD Cert.GnormFwdRefIdeal.τ).loc Cert.GnormFwdRefIdeal.main_arg0)
          ∧ r.2.mem ((c.tc : Thread Cert.GnormFwdRefIdeal.nD Cert.GnormFwdRefIdeal.τ).loc Cert.GnormFwdRefIdeal.main_arg1) = m' ((c.tc : Thread Cert.GnormFwdRefIdeal.nD Cert.GnormFwdRefIdeal.τ).loc Cert.GnormFwdRefIdeal.main_arg1)
          ∧ r.2.mem ((c.tc : Thread Cert.GnormFwdRefIdeal.nD Cert.GnormFwdRefIdeal.τ).loc Cert.GnormFwdRefIdeal.main_arg2) = m' ((c.tc : Thread Cert.GnormFwdRefIdeal.nD Cert.GnormFwdRefIdeal.τ).loc Cert.GnormFwdRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v36) = v1 c
          ∧ r.2.mem ((c.tc : Thread Cert.NormBwdRefIdeal.nD Cert.NormBwdRefIdeal.τ).loc Cert.NormBwdRefIdeal.main_v17) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)) (v3 : (c : Dev Cert.HeadIdeal.nD) → Buf (Elt Ideal) ((c.tc : Thread Cert.HeadIdeal.nD Cert.HeadIdeal.τ).loc Cert.HeadIdeal.main_v0_3)) (v4 : (c : Dev Cert.HeadIdeal.nD) → Buf (Elt Ideal) ((c.tc : Thread Cert.HeadIdeal.nD Cert.HeadIdeal.τ).loc Cert.HeadIdeal.main_v0_4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_v0_3) = v3 c
          ∧ r.2.mem ((c.tc : Thread Cert.HeadIdeal.nD Cert.HeadIdeal.τ).loc Cert.HeadIdeal.main_v0_4) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v63) = v0 c
          ∧ r.2.mem ((c.tc : Thread Cert.HeadRefIdeal.nD Cert.HeadRefIdeal.τ).loc Cert.HeadRefIdeal.main_v59) = v1 c
          ∧ r.2.mem ((c.tc : Thread Cert.HeadRefIdeal.nD Cert.HeadRefIdeal.τ).loc Cert.HeadRefIdeal.main_v64) = v2 c
          ∧ r.2.mem ((c.tc : Thread Cert.HeadRefIdeal.nD Cert.HeadRefIdeal.τ).loc Cert.HeadRefIdeal.main_v65) = v3 c
          ∧ r.2.mem ((c.tc : Thread Cert.HeadRefIdeal.nD Cert.HeadRefIdeal.τ).loc Cert.HeadRefIdeal.main_v43) = v4 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v5) = v0 c
          ∧ r.2.mem ((c.tc : Thread Cert.AdamInRefIdeal.nD Cert.AdamInRefIdeal.τ).loc Cert.AdamInRefIdeal.main_v29) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_v16) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)
      ∧ m' ((c.tc : Thread Cert.AdamFfnRefIdeal.nD Cert.AdamFfnRefIdeal.τ).loc Cert.AdamFfnRefIdeal.main_arg4) = m ((c.tc : Thread Cert.AdamFfnIdeal.nD Cert.AdamFfnIdeal.τ).loc Cert.AdamFfnIdeal.main_arg4)) →
    ∃ (v0 : (c : Dev Cert.AdamFfnIdeal.nD) → Buf (Elt Ideal) ((c.tc : Thread Cert.AdamFfnIdeal.nD Cert.AdamFfnIdeal.τ).loc Cert.AdamFfnIdeal.main_v1_0)) (v1 : (c : Dev Cert.AdamFfnIdeal.nD) → Buf (Elt Ideal) ((c.tc : Thread Cert.AdamFfnIdeal.nD Cert.AdamFfnIdeal.τ).loc Cert.AdamFfnIdeal.main_v1_1)) (v2 : (c : Dev Cert.AdamFfnIdeal.nD) → Buf (Elt Ideal) ((c.tc : Thread Cert.AdamFfnIdeal.nD Cert.AdamFfnIdeal.τ).loc Cert.AdamFfnIdeal.main_v1_2)) (v3 : (c : Dev Cert.AdamFfnIdeal.nD) → Buf (Elt Ideal) ((c.tc : Thread Cert.AdamFfnIdeal.nD Cert.AdamFfnIdeal.τ).loc Cert.AdamFfnIdeal.main_v1_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v1_0) = v0 c
          ∧ r.2.mem ((c.tc : Thread Cert.AdamFfnIdeal.nD Cert.AdamFfnIdeal.τ).loc Cert.AdamFfnIdeal.main_v1_1) = v1 c
          ∧ r.2.mem ((c.tc : Thread Cert.AdamFfnIdeal.nD Cert.AdamFfnIdeal.τ).loc Cert.AdamFfnIdeal.main_v1_2) = v2 c
          ∧ r.2.mem ((c.tc : Thread Cert.AdamFfnIdeal.nD Cert.AdamFfnIdeal.τ).loc Cert.AdamFfnIdeal.main_v1_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
          ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v5) = v0 c
          ∧ r.2.mem ((c.tc : Thread Cert.AdamFfnRefIdeal.nD Cert.AdamFfnRefIdeal.τ).loc Cert.AdamFfnRefIdeal.main_v29) = v1 c
          ∧ r.2.mem ((c.tc : Thread Cert.AdamFfnRefIdeal.nD Cert.AdamFfnRefIdeal.τ).loc Cert.AdamFfnRefIdeal.main_v10) = v2 c
          ∧ r.2.mem ((c.tc : Thread Cert.AdamFfnRefIdeal.nD Cert.AdamFfnRefIdeal.τ).loc Cert.AdamFfnRefIdeal.main_v16) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3)
          ∧ r.2.mem ((c.tc : Thread Cert.AdamFfnRefIdeal.nD Cert.AdamFfnRefIdeal.τ).loc Cert.AdamFfnRefIdeal.main_arg4) = m' ((c.tc : Thread Cert.AdamFfnRefIdeal.nD Cert.AdamFfnRefIdeal.τ).loc Cert.AdamFfnRefIdeal.main_arg4))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)
      ∧ m' ((c.tc : Thread Cert.AdamSquareRefIdeal.nD Cert.AdamSquareRefIdeal.τ).loc Cert.AdamSquareRefIdeal.main_arg4) = m ((c.tc : Thread Cert.AdamSquareIdeal.nD Cert.AdamSquareIdeal.τ).loc Cert.AdamSquareIdeal.main_arg4)) →
    ∃ (v0 : (c : Dev Cert.AdamSquareIdeal.nD) → Buf (Elt Ideal) ((c.tc : Thread Cert.AdamSquareIdeal.nD Cert.AdamSquareIdeal.τ).loc Cert.AdamSquareIdeal.main_v1_0)) (v1 : (c : Dev Cert.AdamSquareIdeal.nD) → Buf (Elt Ideal) ((c.tc : Thread Cert.AdamSquareIdeal.nD Cert.AdamSquareIdeal.τ).loc Cert.AdamSquareIdeal.main_v1_1)) (v2 : (c : Dev Cert.AdamSquareIdeal.nD) → Buf (Elt Ideal) ((c.tc : Thread Cert.AdamSquareIdeal.nD Cert.AdamSquareIdeal.τ).loc Cert.AdamSquareIdeal.main_v1_2)) (v3 : (c : Dev Cert.AdamSquareIdeal.nD) → Buf (Elt Ideal) ((c.tc : Thread Cert.AdamSquareIdeal.nD Cert.AdamSquareIdeal.τ).loc Cert.AdamSquareIdeal.main_v1_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v1_0) = v0 c
          ∧ r.2.mem ((c.tc : Thread Cert.AdamSquareIdeal.nD Cert.AdamSquareIdeal.τ).loc Cert.AdamSquareIdeal.main_v1_1) = v1 c
          ∧ r.2.mem ((c.tc : Thread Cert.AdamSquareIdeal.nD Cert.AdamSquareIdeal.τ).loc Cert.AdamSquareIdeal.main_v1_2) = v2 c
          ∧ r.2.mem ((c.tc : Thread Cert.AdamSquareIdeal.nD Cert.AdamSquareIdeal.τ).loc Cert.AdamSquareIdeal.main_v1_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
          ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v5) = v0 c
          ∧ r.2.mem ((c.tc : Thread Cert.AdamSquareRefIdeal.nD Cert.AdamSquareRefIdeal.τ).loc Cert.AdamSquareRefIdeal.main_v29) = v1 c
          ∧ r.2.mem ((c.tc : Thread Cert.AdamSquareRefIdeal.nD Cert.AdamSquareRefIdeal.τ).loc Cert.AdamSquareRefIdeal.main_v10) = v2 c
          ∧ r.2.mem ((c.tc : Thread Cert.AdamSquareRefIdeal.nD Cert.AdamSquareRefIdeal.τ).loc Cert.AdamSquareRefIdeal.main_v16) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3)
          ∧ r.2.mem ((c.tc : Thread Cert.AdamSquareRefIdeal.nD Cert.AdamSquareRefIdeal.τ).loc Cert.AdamSquareRefIdeal.main_arg4) = m' ((c.tc : Thread Cert.AdamSquareRefIdeal.nD Cert.AdamSquareRefIdeal.τ).loc Cert.AdamSquareRefIdeal.main_arg4))

def preserves_AdamAttnBr_AdamAttnBrIdeal : Prop :=
  True

def algebraic_AdamAttnBrIdeal_AdamAttnBrRefIdeal [hAdamAttnBrIdeal : Cert.AdamAttnBrIdeal.Facts] [hAdamAttnBrRefIdeal : Cert.AdamAttnBrRefIdeal.Facts] : Prop :=
  ∀ (m : (ℓ : Loc Cert.AdamAttnBrIdeal.nD Cert.AdamAttnBrIdeal.τ Cert.AdamAttnBrIdeal.sig) → Buf (Elt Ideal) ℓ) (g : Dev Cert.AdamAttnBrIdeal.nD → PrngReg)
    (m' : (ℓ : Loc Cert.AdamAttnBrRefIdeal.nD Cert.AdamAttnBrRefIdeal.τ Cert.AdamAttnBrRefIdeal.sig) → Buf (Elt Ideal) ℓ) (g' : Dev Cert.AdamAttnBrRefIdeal.nD → PrngReg), Pre_AdamAttnBrIdeal m →
    (∀ c : Dev Cert.AdamAttnBrIdeal.nD,
      m' ((c.tc : Thread Cert.AdamAttnBrRefIdeal.nD Cert.AdamAttnBrRefIdeal.τ).loc Cert.AdamAttnBrRefIdeal.main_arg0) = m ((c.tc : Thread Cert.AdamAttnBrIdeal.nD Cert.AdamAttnBrIdeal.τ).loc Cert.AdamAttnBrIdeal.main_arg0)
      ∧ m' ((c.tc : Thread Cert.AdamAttnBrRefIdeal.nD Cert.AdamAttnBrRefIdeal.τ).loc Cert.AdamAttnBrRefIdeal.main_arg1) = m ((c.tc : Thread Cert.AdamAttnBrIdeal.nD Cert.AdamAttnBrIdeal.τ).loc Cert.AdamAttnBrIdeal.main_arg1)
      ∧ m' ((c.tc : Thread Cert.AdamAttnBrRefIdeal.nD Cert.AdamAttnBrRefIdeal.τ).loc Cert.AdamAttnBrRefIdeal.main_arg2) = m ((c.tc : Thread Cert.AdamAttnBrIdeal.nD Cert.AdamAttnBrIdeal.τ).loc Cert.AdamAttnBrIdeal.main_arg2)
      ∧ m' ((c.tc : Thread Cert.AdamAttnBrRefIdeal.nD Cert.AdamAttnBrRefIdeal.τ).loc Cert.AdamAttnBrRefIdeal.main_arg3) = m ((c.tc : Thread Cert.AdamAttnBrIdeal.nD Cert.AdamAttnBrIdeal.τ).loc Cert.AdamAttnBrIdeal.main_arg3)
      ∧ m' ((c.tc : Thread Cert.AdamAttnBrRefIdeal.nD Cert.AdamAttnBrRefIdeal.τ).loc Cert.AdamAttnBrRefIdeal.main_arg4) = m ((c.tc : Thread Cert.AdamAttnBrIdeal.nD Cert.AdamAttnBrIdeal.τ).loc Cert.AdamAttnBrIdeal.main_arg4)) →
    ∃ (v0 : (c : Dev Cert.AdamAttnBrIdeal.nD) → Buf (Elt Ideal) ((c.tc : Thread Cert.AdamAttnBrIdeal.nD Cert.AdamAttnBrIdeal.τ).loc Cert.AdamAttnBrIdeal.main_v1_0)) (v1 : (c : Dev Cert.AdamAttnBrIdeal.nD) → Buf (Elt Ideal) ((c.tc : Thread Cert.AdamAttnBrIdeal.nD Cert.AdamAttnBrIdeal.τ).loc Cert.AdamAttnBrIdeal.main_v1_1)) (v2 : (c : Dev Cert.AdamAttnBrIdeal.nD) → Buf (Elt Ideal) ((c.tc : Thread Cert.AdamAttnBrIdeal.nD Cert.AdamAttnBrIdeal.τ).loc Cert.AdamAttnBrIdeal.main_v1_2)) (v3 : (c : Dev Cert.AdamAttnBrIdeal.nD) → Buf (Elt Ideal) ((c.tc : Thread Cert.AdamAttnBrIdeal.nD Cert.AdamAttnBrIdeal.τ).loc Cert.AdamAttnBrIdeal.main_v1_3)),
      θ_run (Cert.AdamAttnBrIdeal.defs (F := Ideal)) (onTc (τ := Cert.AdamAttnBrIdeal.τ) (Cert.AdamAttnBrIdeal.main (F := Ideal))) ⟨m, fun _ => 0, g⟩ (fun r => ∀ c : Dev Cert.AdamAttnBrIdeal.nD,
          r.2.mem ((c.tc : Thread Cert.AdamAttnBrIdeal.nD Cert.AdamAttnBrIdeal.τ).loc Cert.AdamAttnBrIdeal.main_v1_0) = v0 c
          ∧ r.2.mem ((c.tc : Thread Cert.AdamAttnBrIdeal.nD Cert.AdamAttnBrIdeal.τ).loc Cert.AdamAttnBrIdeal.main_v1_1) = v1 c
          ∧ r.2.mem ((c.tc : Thread Cert.AdamAttnBrIdeal.nD Cert.AdamAttnBrIdeal.τ).loc Cert.AdamAttnBrIdeal.main_v1_2) = v2 c
          ∧ r.2.mem ((c.tc : Thread Cert.AdamAttnBrIdeal.nD Cert.AdamAttnBrIdeal.τ).loc Cert.AdamAttnBrIdeal.main_v1_3) = v3 c
          ∧ r.2.mem ((c.tc : Thread Cert.AdamAttnBrIdeal.nD Cert.AdamAttnBrIdeal.τ).loc Cert.AdamAttnBrIdeal.main_arg0) = m ((c.tc : Thread Cert.AdamAttnBrIdeal.nD Cert.AdamAttnBrIdeal.τ).loc Cert.AdamAttnBrIdeal.main_arg0)
          ∧ r.2.mem ((c.tc : Thread Cert.AdamAttnBrIdeal.nD Cert.AdamAttnBrIdeal.τ).loc Cert.AdamAttnBrIdeal.main_arg1) = m ((c.tc : Thread Cert.AdamAttnBrIdeal.nD Cert.AdamAttnBrIdeal.τ).loc Cert.AdamAttnBrIdeal.main_arg1)
          ∧ r.2.mem ((c.tc : Thread Cert.AdamAttnBrIdeal.nD Cert.AdamAttnBrIdeal.τ).loc Cert.AdamAttnBrIdeal.main_arg2) = m ((c.tc : Thread Cert.AdamAttnBrIdeal.nD Cert.AdamAttnBrIdeal.τ).loc Cert.AdamAttnBrIdeal.main_arg2)
          ∧ r.2.mem ((c.tc : Thread Cert.AdamAttnBrIdeal.nD Cert.AdamAttnBrIdeal.τ).loc Cert.AdamAttnBrIdeal.main_arg3) = m ((c.tc : Thread Cert.AdamAttnBrIdeal.nD Cert.AdamAttnBrIdeal.τ).loc Cert.AdamAttnBrIdeal.main_arg3)
          ∧ r.2.mem ((c.tc : Thread Cert.AdamAttnBrIdeal.nD Cert.AdamAttnBrIdeal.τ).loc Cert.AdamAttnBrIdeal.main_arg4) = m ((c.tc : Thread Cert.AdamAttnBrIdeal.nD Cert.AdamAttnBrIdeal.τ).loc Cert.AdamAttnBrIdeal.main_arg4))
      ∧ θ_run (Cert.AdamAttnBrRefIdeal.defs (F := Ideal)) (onTc (τ := Cert.AdamAttnBrRefIdeal.τ) (Cert.AdamAttnBrRefIdeal.main (F := Ideal))) ⟨m', fun _ => 0, g'⟩ (fun r => ∀ c : Dev Cert.AdamAttnBrRefIdeal.nD,
          r.2.mem ((c.tc : Thread Cert.AdamAttnBrRefIdeal.nD Cert.AdamAttnBrRefIdeal.τ).loc Cert.AdamAttnBrRefIdeal.main_v5) = v0 c
          ∧ r.2.mem ((c.tc : Thread Cert.AdamAttnBrRefIdeal.nD Cert.AdamAttnBrRefIdeal.τ).loc Cert.AdamAttnBrRefIdeal.main_v29) = v1 c
          ∧ r.2.mem ((c.tc : Thread Cert.AdamAttnBrRefIdeal.nD Cert.AdamAttnBrRefIdeal.τ).loc Cert.AdamAttnBrRefIdeal.main_v10) = v2 c
          ∧ r.2.mem ((c.tc : Thread Cert.AdamAttnBrRefIdeal.nD Cert.AdamAttnBrRefIdeal.τ).loc Cert.AdamAttnBrRefIdeal.main_v16) = v3 c
          ∧ r.2.mem ((c.tc : Thread Cert.AdamAttnBrRefIdeal.nD Cert.AdamAttnBrRefIdeal.τ).loc Cert.AdamAttnBrRefIdeal.main_arg0) = m' ((c.tc : Thread Cert.AdamAttnBrRefIdeal.nD Cert.AdamAttnBrRefIdeal.τ).loc Cert.AdamAttnBrRefIdeal.main_arg0)
          ∧ r.2.mem ((c.tc : Thread Cert.AdamAttnBrRefIdeal.nD Cert.AdamAttnBrRefIdeal.τ).loc Cert.AdamAttnBrRefIdeal.main_arg1) = m' ((c.tc : Thread Cert.AdamAttnBrRefIdeal.nD Cert.AdamAttnBrRefIdeal.τ).loc Cert.AdamAttnBrRefIdeal.main_arg1)
          ∧ r.2.mem ((c.tc : Thread Cert.AdamAttnBrRefIdeal.nD Cert.AdamAttnBrRefIdeal.τ).loc Cert.AdamAttnBrRefIdeal.main_arg2) = m' ((c.tc : Thread Cert.AdamAttnBrRefIdeal.nD Cert.AdamAttnBrRefIdeal.τ).loc Cert.AdamAttnBrRefIdeal.main_arg2)
          ∧ r.2.mem ((c.tc : Thread Cert.AdamAttnBrRefIdeal.nD Cert.AdamAttnBrRefIdeal.τ).loc Cert.AdamAttnBrRefIdeal.main_arg3) = m' ((c.tc : Thread Cert.AdamAttnBrRefIdeal.nD Cert.AdamAttnBrRefIdeal.τ).loc Cert.AdamAttnBrRefIdeal.main_arg3)
          ∧ r.2.mem ((c.tc : Thread Cert.AdamAttnBrRefIdeal.nD Cert.AdamAttnBrRefIdeal.τ).loc Cert.AdamAttnBrRefIdeal.main_arg4) = m' ((c.tc : Thread Cert.AdamAttnBrRefIdeal.nD Cert.AdamAttnBrRefIdeal.τ).loc Cert.AdamAttnBrRefIdeal.main_arg4))

def preserves_AdamPle_AdamPleIdeal : Prop :=
  True

def algebraic_AdamPleIdeal_AdamPleRefIdeal [hAdamPleIdeal : Cert.AdamPleIdeal.Facts] [hAdamPleRefIdeal : Cert.AdamPleRefIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg)
    (m' : (ℓ : Loc Cert.AdamPleRefIdeal.nD Cert.AdamPleRefIdeal.τ Cert.AdamPleRefIdeal.sig) → Buf (Elt Ideal) ℓ) (g' : Dev Cert.AdamPleRefIdeal.nD → PrngReg), Pre_AdamPleIdeal m →
    (∀ c : Dev Cert.AdamPleIdeal.nD,
      m' ((c.tc : Thread Cert.AdamPleRefIdeal.nD Cert.AdamPleRefIdeal.τ).loc Cert.AdamPleRefIdeal.main_arg0) = m ((c.tc : Thread Cert.AdamPleIdeal.nD Cert.AdamPleIdeal.τ).loc Cert.AdamPleIdeal.main_arg0)
      ∧ m' ((c.tc : Thread Cert.AdamPleRefIdeal.nD Cert.AdamPleRefIdeal.τ).loc Cert.AdamPleRefIdeal.main_arg1) = m ((c.tc : Thread Cert.AdamPleIdeal.nD Cert.AdamPleIdeal.τ).loc Cert.AdamPleIdeal.main_arg1)
      ∧ m' ((c.tc : Thread Cert.AdamPleRefIdeal.nD Cert.AdamPleRefIdeal.τ).loc Cert.AdamPleRefIdeal.main_arg2) = m ((c.tc : Thread Cert.AdamPleIdeal.nD Cert.AdamPleIdeal.τ).loc Cert.AdamPleIdeal.main_arg2)
      ∧ m' ((c.tc : Thread Cert.AdamPleRefIdeal.nD Cert.AdamPleRefIdeal.τ).loc Cert.AdamPleRefIdeal.main_arg3) = m ((c.tc : Thread Cert.AdamPleIdeal.nD Cert.AdamPleIdeal.τ).loc Cert.AdamPleIdeal.main_arg3)
      ∧ m' ((c.tc : Thread Cert.AdamPleRefIdeal.nD Cert.AdamPleRefIdeal.τ).loc Cert.AdamPleRefIdeal.main_arg4) = m ((c.tc : Thread Cert.AdamPleIdeal.nD Cert.AdamPleIdeal.τ).loc Cert.AdamPleIdeal.main_arg4)) →
    ∃ (v0 : (c : Dev Cert.AdamPleIdeal.nD) → Buf (Elt Ideal) ((c.tc : Thread Cert.AdamPleIdeal.nD Cert.AdamPleIdeal.τ).loc Cert.AdamPleIdeal.main_v1_0)) (v1 : (c : Dev Cert.AdamPleIdeal.nD) → Buf (Elt Ideal) ((c.tc : Thread Cert.AdamPleIdeal.nD Cert.AdamPleIdeal.τ).loc Cert.AdamPleIdeal.main_v1_1)) (v2 : (c : Dev Cert.AdamPleIdeal.nD) → Buf (Elt Ideal) ((c.tc : Thread Cert.AdamPleIdeal.nD Cert.AdamPleIdeal.τ).loc Cert.AdamPleIdeal.main_v1_2)) (v3 : (c : Dev Cert.AdamPleIdeal.nD) → Buf (Elt Ideal) ((c.tc : Thread Cert.AdamPleIdeal.nD Cert.AdamPleIdeal.τ).loc Cert.AdamPleIdeal.main_v1_3)),
      θ_run (Cert.AdamPleIdeal.defs (F := Ideal)) (onTc (τ := Cert.AdamPleIdeal.τ) (Cert.AdamPleIdeal.main (F := Ideal))) ⟨m, fun _ => 0, g⟩ (fun r => ∀ c : Dev Cert.AdamPleIdeal.nD,
          r.2.mem ((c.tc : Thread Cert.AdamPleIdeal.nD Cert.AdamPleIdeal.τ).loc Cert.AdamPleIdeal.main_v1_0) = v0 c
          ∧ r.2.mem ((c.tc : Thread Cert.AdamPleIdeal.nD Cert.AdamPleIdeal.τ).loc Cert.AdamPleIdeal.main_v1_1) = v1 c
          ∧ r.2.mem ((c.tc : Thread Cert.AdamPleIdeal.nD Cert.AdamPleIdeal.τ).loc Cert.AdamPleIdeal.main_v1_2) = v2 c
          ∧ r.2.mem ((c.tc : Thread Cert.AdamPleIdeal.nD Cert.AdamPleIdeal.τ).loc Cert.AdamPleIdeal.main_v1_3) = v3 c
          ∧ r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
          ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
          ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
          ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3)
          ∧ r.2.mem ((c.tc : Thread Cert.AdamPleIdeal.nD Cert.AdamPleIdeal.τ).loc Cert.AdamPleIdeal.main_arg4) = m ((c.tc : Thread Cert.AdamPleIdeal.nD Cert.AdamPleIdeal.τ).loc Cert.AdamPleIdeal.main_arg4))
      ∧ θ_run (Cert.AdamPleRefIdeal.defs (F := Ideal)) (onTc (τ := Cert.AdamPleRefIdeal.τ) (Cert.AdamPleRefIdeal.main (F := Ideal))) ⟨m', fun _ => 0, g'⟩ (fun r => ∀ c : Dev Cert.AdamPleRefIdeal.nD,
          r.2.mem ((c.tc : Thread Cert.AdamPleRefIdeal.nD Cert.AdamPleRefIdeal.τ).loc Cert.AdamPleRefIdeal.main_v5) = v0 c
          ∧ r.2.mem ((c.tc : Thread Cert.AdamPleRefIdeal.nD Cert.AdamPleRefIdeal.τ).loc Cert.AdamPleRefIdeal.main_v29) = v1 c
          ∧ r.2.mem ((c.tc : Thread Cert.AdamPleRefIdeal.nD Cert.AdamPleRefIdeal.τ).loc Cert.AdamPleRefIdeal.main_v10) = v2 c
          ∧ r.2.mem ((c.tc : Thread Cert.AdamPleRefIdeal.nD Cert.AdamPleRefIdeal.τ).loc Cert.AdamPleRefIdeal.main_v16) = v3 c
          ∧ r.2.mem ((c.tc : Thread Cert.AdamPleRefIdeal.nD Cert.AdamPleRefIdeal.τ).loc Cert.AdamPleRefIdeal.main_arg0) = m' ((c.tc : Thread Cert.AdamPleRefIdeal.nD Cert.AdamPleRefIdeal.τ).loc Cert.AdamPleRefIdeal.main_arg0)
          ∧ r.2.mem ((c.tc : Thread Cert.AdamPleRefIdeal.nD Cert.AdamPleRefIdeal.τ).loc Cert.AdamPleRefIdeal.main_arg1) = m' ((c.tc : Thread Cert.AdamPleRefIdeal.nD Cert.AdamPleRefIdeal.τ).loc Cert.AdamPleRefIdeal.main_arg1)
          ∧ r.2.mem ((c.tc : Thread Cert.AdamPleRefIdeal.nD Cert.AdamPleRefIdeal.τ).loc Cert.AdamPleRefIdeal.main_arg2) = m' ((c.tc : Thread Cert.AdamPleRefIdeal.nD Cert.AdamPleRefIdeal.τ).loc Cert.AdamPleRefIdeal.main_arg2)
          ∧ r.2.mem ((c.tc : Thread Cert.AdamPleRefIdeal.nD Cert.AdamPleRefIdeal.τ).loc Cert.AdamPleRefIdeal.main_arg3) = m' ((c.tc : Thread Cert.AdamPleRefIdeal.nD Cert.AdamPleRefIdeal.τ).loc Cert.AdamPleRefIdeal.main_arg3)
          ∧ r.2.mem ((c.tc : Thread Cert.AdamPleRefIdeal.nD Cert.AdamPleRefIdeal.τ).loc Cert.AdamPleRefIdeal.main_arg4) = m' ((c.tc : Thread Cert.AdamPleRefIdeal.nD Cert.AdamPleRefIdeal.τ).loc Cert.AdamPleRefIdeal.main_arg4))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)
      ∧ m' ((c.tc : Thread Cert.AdamConvRefIdeal.nD Cert.AdamConvRefIdeal.τ).loc Cert.AdamConvRefIdeal.main_arg4) = m ((c.tc : Thread Cert.AdamConvIdeal.nD Cert.AdamConvIdeal.τ).loc Cert.AdamConvIdeal.main_arg4)) →
    ∃ (v0 : (c : Dev Cert.AdamConvIdeal.nD) → Buf (Elt Ideal) ((c.tc : Thread Cert.AdamConvIdeal.nD Cert.AdamConvIdeal.τ).loc Cert.AdamConvIdeal.main_v1_0)) (v1 : (c : Dev Cert.AdamConvIdeal.nD) → Buf (Elt Ideal) ((c.tc : Thread Cert.AdamConvIdeal.nD Cert.AdamConvIdeal.τ).loc Cert.AdamConvIdeal.main_v1_1)) (v2 : (c : Dev Cert.AdamConvIdeal.nD) → Buf (Elt Ideal) ((c.tc : Thread Cert.AdamConvIdeal.nD Cert.AdamConvIdeal.τ).loc Cert.AdamConvIdeal.main_v1_2)) (v3 : (c : Dev Cert.AdamConvIdeal.nD) → Buf (Elt Ideal) ((c.tc : Thread Cert.AdamConvIdeal.nD Cert.AdamConvIdeal.τ).loc Cert.AdamConvIdeal.main_v1_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v1_0) = v0 c
          ∧ r.2.mem ((c.tc : Thread Cert.AdamConvIdeal.nD Cert.AdamConvIdeal.τ).loc Cert.AdamConvIdeal.main_v1_1) = v1 c
          ∧ r.2.mem ((c.tc : Thread Cert.AdamConvIdeal.nD Cert.AdamConvIdeal.τ).loc Cert.AdamConvIdeal.main_v1_2) = v2 c
          ∧ r.2.mem ((c.tc : Thread Cert.AdamConvIdeal.nD Cert.AdamConvIdeal.τ).loc Cert.AdamConvIdeal.main_v1_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
          ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v3) = v0 c
          ∧ r.2.mem ((c.tc : Thread Cert.AdamConvRefIdeal.nD Cert.AdamConvRefIdeal.τ).loc Cert.AdamConvRefIdeal.main_v27) = v1 c
          ∧ r.2.mem ((c.tc : Thread Cert.AdamConvRefIdeal.nD Cert.AdamConvRefIdeal.τ).loc Cert.AdamConvRefIdeal.main_v8) = v2 c
          ∧ r.2.mem ((c.tc : Thread Cert.AdamConvRefIdeal.nD Cert.AdamConvRefIdeal.τ).loc Cert.AdamConvRefIdeal.main_v14) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3)
          ∧ r.2.mem ((c.tc : Thread Cert.AdamConvRefIdeal.nD Cert.AdamConvRefIdeal.τ).loc Cert.AdamConvRefIdeal.main_arg4) = m' ((c.tc : Thread Cert.AdamConvRefIdeal.nD Cert.AdamConvRefIdeal.τ).loc Cert.AdamConvRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hAttnBwd : Cert.AttnBwd.Facts) (hAttnBwdIdeal : Cert.AttnBwdIdeal.Facts) (hAttnBwdRefIdeal : Cert.AttnBwdRefIdeal.Facts) (hInProj : Cert.InProj.Facts) (hInProjIdeal : Cert.InProjIdeal.Facts) (hInProjRefIdeal : Cert.InProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hFfnUpBwd : Cert.FfnUpBwd.Facts) (hFfnUpBwdIdeal : Cert.FfnUpBwdIdeal.Facts) (hFfnUpBwdRefIdeal : Cert.FfnUpBwdRefIdeal.Facts) (hDwFfn : Cert.DwFfn.Facts) (hDwFfnIdeal : Cert.DwFfnIdeal.Facts) (hDwFfnRefIdeal : Cert.DwFfnRefIdeal.Facts) (hDwSquare : Cert.DwSquare.Facts) (hDwSquareIdeal : Cert.DwSquareIdeal.Facts) (hDwSquareRefIdeal : Cert.DwSquareRefIdeal.Facts) (hDwIn : Cert.DwIn.Facts) (hDwInIdeal : Cert.DwInIdeal.Facts) (hDwInRefIdeal : Cert.DwInRefIdeal.Facts) (hDwAttnBr : Cert.DwAttnBr.Facts) (hDwAttnBrIdeal : Cert.DwAttnBrIdeal.Facts) (hDwAttnBrRefIdeal : Cert.DwAttnBrRefIdeal.Facts) (hDSquare : Cert.DSquare.Facts) (hDSquareIdeal : Cert.DSquareIdeal.Facts) (hDSquareRefIdeal : Cert.DSquareRefIdeal.Facts) (hDIn : Cert.DIn.Facts) (hDInIdeal : Cert.DInIdeal.Facts) (hDInRefIdeal : Cert.DInRefIdeal.Facts) (hAttnBrBwd : Cert.AttnBrBwd.Facts) (hAttnBrBwdIdeal : Cert.AttnBrBwdIdeal.Facts) (hAttnBrBwdRefIdeal : Cert.AttnBrBwdRefIdeal.Facts) (hAttnBr : Cert.AttnBr.Facts) (hAttnBrIdeal : Cert.AttnBrIdeal.Facts) (hAttnBrRefIdeal : Cert.AttnBrRefIdeal.Facts) (hSquare : Cert.Square.Facts) (hSquareIdeal : Cert.SquareIdeal.Facts) (hSquareRefIdeal : Cert.SquareRefIdeal.Facts) (hOProj : Cert.OProj.Facts) (hOProjIdeal : Cert.OProjIdeal.Facts) (hOProjRefIdeal : Cert.OProjRefIdeal.Facts) (hMergeFwd : Cert.MergeFwd.Facts) (hMergeFwdIdeal : Cert.MergeFwdIdeal.Facts) (hMergeFwdRefIdeal : Cert.MergeFwdRefIdeal.Facts) (hPleProj : Cert.PleProj.Facts) (hPleProjIdeal : Cert.PleProjIdeal.Facts) (hPleProjRefIdeal : Cert.PleProjRefIdeal.Facts) (hDwPleProj : Cert.DwPleProj.Facts) (hDwPleProjIdeal : Cert.DwPleProjIdeal.Facts) (hDwPleProjRefIdeal : Cert.DwPleProjRefIdeal.Facts) (hMergeBwd : Cert.MergeBwd.Facts) (hMergeBwdIdeal : Cert.MergeBwdIdeal.Facts) (hMergeBwdRefIdeal : Cert.MergeBwdRefIdeal.Facts) (hNormFwd : Cert.NormFwd.Facts) (hNormFwdIdeal : Cert.NormFwdIdeal.Facts) (hNormFwdRefIdeal : Cert.NormFwdRefIdeal.Facts) (hGnormFwd : Cert.GnormFwd.Facts) (hGnormFwdIdeal : Cert.GnormFwdIdeal.Facts) (hGnormFwdRefIdeal : Cert.GnormFwdRefIdeal.Facts) (hNormBwd : Cert.NormBwd.Facts) (hNormBwdIdeal : Cert.NormBwdIdeal.Facts) (hNormBwdRefIdeal : Cert.NormBwdRefIdeal.Facts) (hHead : Cert.Head.Facts) (hHeadIdeal : Cert.HeadIdeal.Facts) (hHeadRefIdeal : Cert.HeadRefIdeal.Facts) (hAdamIn : Cert.AdamIn.Facts) (hAdamInIdeal : Cert.AdamInIdeal.Facts) (hAdamInRefIdeal : Cert.AdamInRefIdeal.Facts) (hAdamFfn : Cert.AdamFfn.Facts) (hAdamFfnIdeal : Cert.AdamFfnIdeal.Facts) (hAdamFfnRefIdeal : Cert.AdamFfnRefIdeal.Facts) (hAdamSquare : Cert.AdamSquare.Facts) (hAdamSquareIdeal : Cert.AdamSquareIdeal.Facts) (hAdamSquareRefIdeal : Cert.AdamSquareRefIdeal.Facts) (hAdamAttnBr : Cert.AdamAttnBr.Facts) (hAdamAttnBrIdeal : Cert.AdamAttnBrIdeal.Facts) (hAdamAttnBrRefIdeal : Cert.AdamAttnBrRefIdeal.Facts) (hAdamPle : Cert.AdamPle.Facts) (hAdamPleIdeal : Cert.AdamPleIdeal.Facts) (hAdamPleRefIdeal : Cert.AdamPleRefIdeal.Facts) (hAdamConv : Cert.AdamConv.Facts) (hAdamConvIdeal : Cert.AdamConvIdeal.Facts) (hAdamConvRefIdeal : Cert.AdamConvRefIdeal.Facts) (hAdamSmall : Cert.AdamSmall.Facts) (hAdamSmallIdeal : Cert.AdamSmallIdeal.Facts) (hAdamSmallRefIdeal : Cert.AdamSmallRefIdeal.Facts) (hPre_finite : Cert.Pre_finite.Facts) (hPre_attn_finite : Cert.Pre_attn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_InProj (hInProj := hInProj)
    ∧ quiescent_InProjIdeal (hInProjIdeal := hInProjIdeal)
    ∧ quiescent_InProjRefIdeal (hInProjRefIdeal := hInProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnUpBwd (hFfnUpBwd := hFfnUpBwd)
    ∧ quiescent_FfnUpBwdIdeal (hFfnUpBwdIdeal := hFfnUpBwdIdeal)
    ∧ quiescent_FfnUpBwdRefIdeal (hFfnUpBwdRefIdeal := hFfnUpBwdRefIdeal)
    ∧ quiescent_DwFfn (hDwFfn := hDwFfn)
    ∧ quiescent_DwFfnIdeal (hDwFfnIdeal := hDwFfnIdeal)
    ∧ quiescent_DwFfnRefIdeal (hDwFfnRefIdeal := hDwFfnRefIdeal)
    ∧ quiescent_DwSquare (hDwSquare := hDwSquare)
    ∧ quiescent_DwSquareIdeal (hDwSquareIdeal := hDwSquareIdeal)
    ∧ quiescent_DwSquareRefIdeal (hDwSquareRefIdeal := hDwSquareRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwAttnBr (hDwAttnBr := hDwAttnBr)
    ∧ quiescent_DwAttnBrIdeal (hDwAttnBrIdeal := hDwAttnBrIdeal)
    ∧ quiescent_DwAttnBrRefIdeal (hDwAttnBrRefIdeal := hDwAttnBrRefIdeal)
    ∧ quiescent_DSquare (hDSquare := hDSquare)
    ∧ quiescent_DSquareIdeal (hDSquareIdeal := hDSquareIdeal)
    ∧ quiescent_DSquareRefIdeal (hDSquareRefIdeal := hDSquareRefIdeal)
    ∧ quiescent_DIn (hDIn := hDIn)
    ∧ quiescent_DInIdeal (hDInIdeal := hDInIdeal)
    ∧ quiescent_DInRefIdeal (hDInRefIdeal := hDInRefIdeal)
    ∧ quiescent_AttnBrBwd (hAttnBrBwd := hAttnBrBwd)
    ∧ quiescent_AttnBrBwdIdeal (hAttnBrBwdIdeal := hAttnBrBwdIdeal)
    ∧ quiescent_AttnBrBwdRefIdeal (hAttnBrBwdRefIdeal := hAttnBrBwdRefIdeal)
    ∧ quiescent_AttnBr (hAttnBr := hAttnBr)
    ∧ quiescent_AttnBrIdeal (hAttnBrIdeal := hAttnBrIdeal)
    ∧ quiescent_AttnBrRefIdeal (hAttnBrRefIdeal := hAttnBrRefIdeal)
    ∧ quiescent_Square (hSquare := hSquare)
    ∧ quiescent_SquareIdeal (hSquareIdeal := hSquareIdeal)
    ∧ quiescent_SquareRefIdeal (hSquareRefIdeal := hSquareRefIdeal)
    ∧ quiescent_OProj (hOProj := hOProj)
    ∧ quiescent_OProjIdeal (hOProjIdeal := hOProjIdeal)
    ∧ quiescent_OProjRefIdeal (hOProjRefIdeal := hOProjRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ quiescent_DwPleProj (hDwPleProj := hDwPleProj)
    ∧ quiescent_DwPleProjIdeal (hDwPleProjIdeal := hDwPleProjIdeal)
    ∧ quiescent_DwPleProjRefIdeal (hDwPleProjRefIdeal := hDwPleProjRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_GnormFwd (hGnormFwd := hGnormFwd)
    ∧ quiescent_GnormFwdIdeal (hGnormFwdIdeal := hGnormFwdIdeal)
    ∧ quiescent_GnormFwdRefIdeal (hGnormFwdRefIdeal := hGnormFwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_Head (hHead := hHead)
    ∧ quiescent_HeadIdeal (hHeadIdeal := hHeadIdeal)
    ∧ quiescent_HeadRefIdeal (hHeadRefIdeal := hHeadRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamAttnBr (hAdamAttnBr := hAdamAttnBr)
    ∧ quiescent_AdamAttnBrIdeal (hAdamAttnBrIdeal := hAdamAttnBrIdeal)
    ∧ quiescent_AdamAttnBrRefIdeal (hAdamAttnBrRefIdeal := hAdamAttnBrRefIdeal)
    ∧ quiescent_AdamPle (hAdamPle := hAdamPle)
    ∧ quiescent_AdamPleIdeal (hAdamPleIdeal := hAdamPleIdeal)
    ∧ quiescent_AdamPleRefIdeal (hAdamPleRefIdeal := hAdamPleRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_InProj_InProjIdeal
    ∧ algebraic_InProjIdeal_InProjRefIdeal (hInProjIdeal := hInProjIdeal) (hInProjRefIdeal := hInProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnUpBwd_FfnUpBwdIdeal
    ∧ algebraic_FfnUpBwdIdeal_FfnUpBwdRefIdeal (hFfnUpBwdIdeal := hFfnUpBwdIdeal) (hFfnUpBwdRefIdeal := hFfnUpBwdRefIdeal)
    ∧ preserves_DwFfn_DwFfnIdeal
    ∧ algebraic_DwFfnIdeal_DwFfnRefIdeal (hDwFfnIdeal := hDwFfnIdeal) (hDwFfnRefIdeal := hDwFfnRefIdeal)
    ∧ preserves_DwSquare_DwSquareIdeal
    ∧ algebraic_DwSquareIdeal_DwSquareRefIdeal (hDwSquareIdeal := hDwSquareIdeal) (hDwSquareRefIdeal := hDwSquareRefIdeal)
    ∧ preserves_DwIn_DwInIdeal
    ∧ algebraic_DwInIdeal_DwInRefIdeal (hDwInIdeal := hDwInIdeal) (hDwInRefIdeal := hDwInRefIdeal)
    ∧ preserves_DwAttnBr_DwAttnBrIdeal
    ∧ algebraic_DwAttnBrIdeal_DwAttnBrRefIdeal (hDwAttnBrIdeal := hDwAttnBrIdeal) (hDwAttnBrRefIdeal := hDwAttnBrRefIdeal)
    ∧ preserves_DSquare_DSquareIdeal
    ∧ algebraic_DSquareIdeal_DSquareRefIdeal (hDSquareIdeal := hDSquareIdeal) (hDSquareRefIdeal := hDSquareRefIdeal)
    ∧ preserves_DIn_DInIdeal
    ∧ algebraic_DInIdeal_DInRefIdeal (hDInIdeal := hDInIdeal) (hDInRefIdeal := hDInRefIdeal)
    ∧ preserves_AttnBrBwd_AttnBrBwdIdeal
    ∧ algebraic_AttnBrBwdIdeal_AttnBrBwdRefIdeal (hAttnBrBwdIdeal := hAttnBrBwdIdeal) (hAttnBrBwdRefIdeal := hAttnBrBwdRefIdeal)
    ∧ preserves_AttnBr_AttnBrIdeal
    ∧ algebraic_AttnBrIdeal_AttnBrRefIdeal (hAttnBrIdeal := hAttnBrIdeal) (hAttnBrRefIdeal := hAttnBrRefIdeal)
    ∧ preserves_Square_SquareIdeal
    ∧ algebraic_SquareIdeal_SquareRefIdeal (hSquareIdeal := hSquareIdeal) (hSquareRefIdeal := hSquareRefIdeal)
    ∧ preserves_OProj_OProjIdeal
    ∧ algebraic_OProjIdeal_OProjRefIdeal (hOProjIdeal := hOProjIdeal) (hOProjRefIdeal := hOProjRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_PleProj_PleProjIdeal
    ∧ algebraic_PleProjIdeal_PleProjRefIdeal (hPleProjIdeal := hPleProjIdeal) (hPleProjRefIdeal := hPleProjRefIdeal)
    ∧ preserves_DwPleProj_DwPleProjIdeal
    ∧ algebraic_DwPleProjIdeal_DwPleProjRefIdeal (hDwPleProjIdeal := hDwPleProjIdeal) (hDwPleProjRefIdeal := hDwPleProjRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_GnormFwd_GnormFwdIdeal
    ∧ algebraic_GnormFwdIdeal_GnormFwdRefIdeal (hGnormFwdIdeal := hGnormFwdIdeal) (hGnormFwdRefIdeal := hGnormFwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_Head_HeadIdeal
    ∧ algebraic_HeadIdeal_HeadRefIdeal (hHeadIdeal := hHeadIdeal) (hHeadRefIdeal := hHeadRefIdeal)
    ∧ preserves_AdamIn_AdamInIdeal
    ∧ algebraic_AdamInIdeal_AdamInRefIdeal (hAdamInIdeal := hAdamInIdeal) (hAdamInRefIdeal := hAdamInRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamAttnBr_AdamAttnBrIdeal
    ∧ algebraic_AdamAttnBrIdeal_AdamAttnBrRefIdeal (hAdamAttnBrIdeal := hAdamAttnBrIdeal) (hAdamAttnBrRefIdeal := hAdamAttnBrRefIdeal)
    ∧ preserves_AdamPle_AdamPleIdeal
    ∧ algebraic_AdamPleIdeal_AdamPleRefIdeal (hAdamPleIdeal := hAdamPleIdeal) (hAdamPleRefIdeal := hAdamPleRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_attn_finite.lean ====
abbrev S2048x1024 : Shape := ⟨2, ![2048, 1024]⟩
abbrev S2048x256 : Shape := ⟨2, ![2048, 256]⟩
abbrev S2048x10880 : Shape := ⟨2, ![2048, 10880]⟩
abbrev S2048x1 : Shape := ⟨2, ![2048, 1]⟩
abbrev S1x32 : Shape := ⟨2, ![1, 32]⟩
abbrev S1x16 : Shape := ⟨2, ![1, 16]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  slices_S2048x10880_S2048x256_0_10496 : S2048x10880.Slices ![0, 10496] S2048x256
  bcast_S_S2048x1 : S_.BroadcastsInDim S2048x1 (![] : Fin 0 → Fin S2048x1.rank)
  reducesTo_S2048x1_S_d0_1 : S2048x1.ReducesTo [0, 1] S_
  bcast_S_S1x32 : S_.BroadcastsInDim S1x32 (![] : Fin 0 → Fin S1x32.rank)
  reducesTo_S1x32_S_d0_1 : S1x32.ReducesTo [0, 1] S_
  bcast_S_S1x16 : S_.BroadcastsInDim S1x16 (![] : Fin 0 → Fin S1x16.rank)
  reducesTo_S1x16_S_d0_1 : S1x16.ReducesTo [0, 1] S_

variable [Facts]

def fn_part2 {F : FTy → Type} [FloatOps F] (main_v32 : IVec S_ 1) (main_v33 : FVec F S1x16 .f32) (main_v34 : FVec F S1x16 .f32) : IVec S_ 1 :=
  let main_v35 : IVec S1x16 1 := cmpf .olt main_v33 main_v34
  let main_c_11 : IVec S_ 1 := constantI S_ 1 1#1
  let main_v36 : IVec S_ 1 := (fun x v => Host.reduce IntOp.andi x v reducesTo_S1x16_S_d0_1 h_S_) main_v35 main_c_11
  let main_v37 : IVec S_ 1 := andi main_v32 main_v36
  main_v37

def fn_part1 {F : FTy → Type} [FloatOps F] (main_arg4 : FVec F S2048x1 .f32) (main_arg5 : FVec F S1x32 .f32) (main_arg6 : FVec F S1x16 .f32) (main_v16 : IVec S_ 1) (main_v17 : FVec F S2048x1024 .f32) : IVec S_ 1 :=
  let main_v18 : FVec F S2048x1024 .f32 := Host.absf main_v17
  let main_cst_4 : FVec F S_ .f32 := constant S_ .f32 0x7F800000#32
  let main_v19 : FVec F S2048x1024 .f32 := broadcastInDim S2048x1024 ![] bcast_S_S2048x1024 main_cst_4
  let main_v20 : IVec S2048x1024 1 := cmpf .olt main_v18 main_v19
  let main_c_5 : IVec S_ 1 := constantI S_ 1 1#1
  let main_v21 : IVec S_ 1 := (fun x v => Host.reduce IntOp.andi x v reducesTo_S2048x1024_S_d0_1 h_S_) main_v20 main_c_5
  let main_v22 : IVec S_ 1 := andi main_v16 main_v21
  let main_v23 : FVec F S2048x1 .f32 := Host.absf main_arg4
  let main_cst_6 : FVec F S_ .f32 := constant S_ .f32 0x7F800000#32
  let main_v24 : FVec F S2048x1 .f32 := broadcastInDim S2048x1 ![] bcast_S_S2048x1 main_cst_6
  let main_v25 : IVec S2048x1 1 := cmpf .olt main_v23 main_v24
  let main_c_7 : IVec S_ 1 := constantI S_ 1 1#1
  let main_v26 : IVec S_ 1 := (fun x v => Host.reduce IntOp.andi x v reducesTo_S2048x1_S_d0_1 h_S_) main_v25 main_c_7
  let main_v27 : IVec S_ 1 := andi main_v22 main_v26
  let main_v28 : FVec F S1x32 .f32 := Host.absf main_arg5
  let main_cst_8 : FVec F S_ .f32 := constant S_ .f32 0x7F800000#32
  let main_v29 : FVec F S1x32 .f32 := broadcastInDim S1x32 ![] bcast_S_S1x32 main_cst_8
  let main_v30 : IVec S1x32 1 := cmpf .olt main_v28 main_v29
  let main_c_9 : IVec S_ 1 := constantI S_ 1 1#1
  let main_v31 : IVec S_ 1 := (fun x v => Host.reduce IntOp.andi x v reducesTo_S1x32_S_d0_1 h_S_) main_v30 main_c_9
  let main_v32 : IVec S_ 1 := andi main_v27 main_v31
  let main_v33 : FVec F S1x16 .f32 := Host.absf main_arg6
  let main_cst_10 : FVec F S_ .f32 := constant S_ .f32 0x7F800000#32
  let main_v34 : FVec F S1x16 .f32 := broadcastInDim S1x16 ![] bcast_S_S1x16 main_cst_10
  fn_part2 (F := F) main_v32 main_v33 main_v34

def fn {F : FTy → Type} [FloatOps F] (main_arg0 : FVec F S2048x1024 .bf16) (main_arg1 : FVec F S2048x256 .bf16) (main_arg2 : FVec F S2048x10880 .f32) (main_arg3 : FVec F S2048x1024 .bf16) (main_arg4 : FVec F S2048x1 .f32) (main_arg5 : FVec F S1x32 .f32) (main_arg6 : FVec F S1x16 .f32) (main_arg7 : FVec F S2048x10880 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2048x256 .f32 := (extf .f32 · bitsLt_bf16_f32) main_arg1
  let main_v6 : FVec F S2048x256 .f32 := Host.absf main_v5
  let main_cst_0 : FVec F S_ .f32 := constant S_ .f32 0x7F800000#32
  let main_v7 : FVec F S2048x256 .f32 := broadcastInDim S2048x256 ![] bcast_S_S2048x256 main_cst_0
  let main_v8 : IVec S2048x256 1 := cmpf .olt main_v6 main_v7
  let main_c_1 : IVec S_ 1 := constantI S_ 1 1#1
  let main_v9 : IVec S_ 1 := (fun x v => Host.reduce IntOp.andi x v reducesTo_S2048x256_S_d0_1 h_S_) main_v8 main_c_1
  let main_v10 : IVec S_ 1 := andi main_v4 main_v9
  let main_v11 : FVec F S2048x256 .f32 := (extractStridedSlice S2048x256 ![0, 10496] · slices_S2048x10880_S2048x256_0_10496) main_arg2
  let main_v12 : FVec F S2048x256 .f32 := Host.absf main_v11
  let main_cst_2 : FVec F S_ .f32 := constant S_ .f32 0x7F800000#32
  let main_v13 : FVec F S2048x256 .f32 := broadcastInDim S2048x256 ![] bcast_S_S2048x256 main_cst_2
  let main_v14 : IVec S2048x256 1 := cmpf .olt main_v12 main_v13
  let main_c_3 : IVec S_ 1 := constantI S_ 1 1#1
  let main_v15 : IVec S_ 1 := (fun x v => Host.reduce IntOp.andi x v reducesTo_S2048x256_S_d0_1 h_S_) main_v14 main_c_3
  let main_v16 : IVec S_ 1 := andi main_v10 main_v15
  let main_v17 : FVec F S2048x1024 .f32 := (extf .f32 · bitsLt_bf16_f32) main_arg3
  fn_part1 (F := F) main_arg4 main_arg5 main_arg6 main_v16 main_v17
-- ==== Pre_finite.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S2048x2048 .bf16) (main_arg1 : FVec F S5632x2048 .bf16) (main_arg2 : FVec F S2048x5632 .bf16) (main_arg3 : FVec F S2048x5632 .bf16) : IVec S_ 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S2048x5632 .f32 := (extf .f32 · bitsLt_bf16_f32) main_arg3
  let main_v12 : FVec F S2048x5632 .f32 := Host.absf main_v11
  let main_cst_2 : FVec F S_ .f32 := constant S_ .f32 0x7F800000#32
  let main_v13 : FVec F S2048x5632 .f32 := broadcastInDim S2048x5632 ![] bcast_S_S2048x5632 main_cst_2
  let main_v14 : IVec S2048x5632 1 := cmpf .olt main_v12 main_v13
  let main_c_3 : IVec S_ 1 := constantI S_ 1 1#1
  let main_v15 : IVec S_ 1 := (fun x v => Host.reduce IntOp.andi x v reducesTo_S2048x5632_S_d0_1 h_S_) main_v14 main_c_3
  let main_v16 : IVec S_ 1 := andi main_v10 main_v15
  main_v16
-- ==== Kernel.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .hbm, ⟨5, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .hbm, ⟨3, _⟩ => ⟨S2048x5632, .bf16⟩
  | .hbm, ⟨4, _⟩ => ⟨S2048x2048, .f32⟩
  | .hbm, ⟨5, _⟩ => ⟨S5632x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x2048, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .bf16⟩
  | .hbm, ⟨31, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== AttnBwd.lean ====
abbrev S2048x1024 : Shape := ⟨2, ![2048, 1024]⟩
abbrev S2048x256 : Shape := ⟨2, ![2048, 256]⟩
abbrev S2048x10880 : Shape := ⟨2, ![2048, 10880]⟩
abbrev S2048x1 : Shape := ⟨2, ![2048, 1]⟩
abbrev S1x32 : Shape := ⟨2, ![1, 32]⟩
abbrev S1x16 : Shape := ⟨2, ![1, 16]⟩
abbrev S1x128 : Shape := ⟨2, ![1, 128]⟩
abbrev S128x1024 : Shape := ⟨2, ![128, 1024]⟩
abbrev S128x256 : Shape := ⟨2, ![128, 256]⟩
abbrev S128x1 : Shape := ⟨2, ![128, 1]⟩
abbrev S128x128 : Shape := ⟨2, ![128, 128]⟩
abbrev S128x64 : Shape := ⟨2, ![128, 64]⟩
abbrev S256x64 : Shape := ⟨2, ![256, 64]⟩
abbrev S512x256 : Shape := ⟨2, ![512, 256]⟩
abbrev S512x64 : Shape := ⟨2, ![512, 64]⟩
abbrev S1x1 : Shape := ⟨2, ![1, 1]⟩
abbrev S512x1 : Shape := ⟨2, ![512, 1]⟩
abbrev S512 : Shape := ⟨1, ![512]⟩
abbrev S1 : Shape := ⟨1, ![1]⟩

abbrev nBuf : Space → Nat
  | .hbm => 13
  | .vmem => 22
  | .smem => 1
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x10880, .f32⟩
  | .hbm, ⟨3, _⟩ => ⟨S2048x1024, .bf16⟩
  | .hbm, ⟨4, _⟩ => ⟨S2048x1, .f32⟩
  | .hbm, ⟨5, _⟩ => ⟨S1x32, .f32⟩
  | .hbm, ⟨6, _⟩ => ⟨S1x16, .f32⟩
  | .hbm, ⟨7, _⟩ => ⟨S2048x10880, .bf16⟩
  | .hbm, ⟨8, _⟩ => ⟨S1x128, .f32⟩
  | .hbm, ⟨9, _⟩ => ⟨S2048x10880, .bf16⟩
  | .hbm, ⟨10, _⟩ => ⟨S2048x256, .f32⟩
  | .hbm, ⟨11, _⟩ => ⟨S2048x256, .f32⟩
  | .hbm, ⟨12, _⟩ => ⟨S1x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x1024, .bf16⟩
  | .local _ .vmem, ⟨11, _⟩ => ⟨S128x1024, .bf16⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S128x1, .f32⟩
  | .local _ .vmem, ⟨16, _⟩ => ⟨S1x128, .f32⟩
  | .local _ .vmem, ⟨17, _⟩ => ⟨S128x1024, .bf16⟩
  | .local _ .vmem, ⟨18, _⟩ => ⟨S128x1024, .bf16⟩
  | .local _ .vmem, ⟨19, _⟩ => ⟨S2048x256, .f32⟩
  | .local _ .vmem, ⟨20, _⟩ => ⟨S2048x256, .f32⟩
  | .local _ .vmem, ⟨21, _⟩ => ⟨S1x128, .f32⟩
  | .local _ .smem, ⟨0, _⟩ => ⟨S1x16, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c128_i32_307 : BitVec 32 := 128#32
  let v774 : BitVec 32 := Scalar.muli arg0 c128_i32_307
  v774
def k0_mult2 (i : grid0.Coords) : BitVec 32 :=
  let arg0 : BitVec 32 := BitVec.ofNat 32 (i 0).val
  let c1_i32_308 : BitVec 32 := 1#32
  let v776 : BitVec 32 := Scalar.subi arg0 c1_i32_308
  let c0_i32_309 : BitVec 32 := 0#32
  let v777 : BitVec 32 := Scalar.maxsi v776 c0_i32_309
  let c128_i32_310 : BitVec 32 := 128#32
  let v778 : BitVec 32 := Scalar.muli v777 c128_i32_310
  v778
def k0_off1 (i : grid0.Coords) : Fin 2 → Nat :=
  let arg0 : BitVec 32 := BitVec.ofNat 32 (i 0).val
  let c128_i32_307 : BitVec 32 := 128#32
  let v774 : BitVec 32 := Scalar.muli arg0 c128_i32_307
  let v775 : BitVec 32 := v774
  let v786 : Index := Scalar.indexCast v775
  let c0_311 : Index := 0#32
  ![v786.toNat, 0]
def k0_off2 (i : grid0.Coords) : Fin 2 → Nat :=
  let arg0 : BitVec 32 := BitVec.ofNat 32 (i 0).val
  let c1_i32_308 : BitVec 32 := 1#32
  let v776 : BitVec 32 := Scalar.subi arg0 c1_i32_308
  let c0_i32_309 : BitVec 32 := 0#32
  let v777 : BitVec 32 := Scalar.maxsi v776 c0_i32_309
  let c128_i32_310 : BitVec 32 := 128#32
  let v778 : BitVec 32 := Scalar.muli v777 c128_i32_310
  let v779 : BitVec 32 := v778
  let v819 : Index := Scalar.indexCast v779
  let c0_323 : Index := 0#32
  ![v819.toNat, 0]
def k0_off3 (i : grid0.Coords) : Fin 2 → Nat :=
  let arg0 : BitVec 32 := BitVec.ofNat 32 (i 0).val
  let c128_i32_307 : BitVec 32 := 128#32
  let v774 : BitVec 32 := Scalar.muli arg0 c128_i32_307
  let v775 : BitVec 32 := v774
  let v876 : Index := Scalar.indexCast v775
  let c128_339 : Index := 128#32
  ![v876.toNat, 128]
def k0_off4 (i : grid0.Coords) : Fin 2 → Nat :=
  let arg0 : BitVec 32 := BitVec.ofNat 32 (i 0).val
  let c1_i32_308 : BitVec 32 := 1#32
  let v776 : BitVec 32 := Scalar.subi arg0 c1_i32_308
  let c0_i32_309 : BitVec 32 := 0#32
  let v777 : BitVec 32 := Scalar.maxsi v776 c0_i32_309
  let c128_i32_310 : BitVec 32 := 128#32
  let v778 : BitVec 32 := Scalar.muli v777 c128_i32_310
  let v779 : BitVec 32 := v778
  let v909 : Index := Scalar.indexCast v779
  let c128_351 : Index := 128#32
  ![v909.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c41_i32 : BitVec 32 := 41#32
  let c0_i32 : BitVec 32 := 0#32
  ![arg0.toNat, c41_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c41_i32 : BitVec 32 := 41#32
  let c0_i32_0 : BitVec 32 := 0#32
  ![v1.toNat, c41_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== AttnBwdIdeal.lean ====
variable {F : FTy → Type} [FloatOps F] [Named F]
def κ : String → Option EReal := fun
  | "mask" => some ⊥
  | _ => none
-- ==== AttnBwdRefIdeal.lean ====
abbrev S2048x1024 : Shape := ⟨2, ![2048, 1024]⟩
abbrev S2048x256 : Shape := ⟨2, ![2048, 256]⟩
abbrev S2048x10880 : Shape := ⟨2, ![2048, 10880]⟩
abbrev S2048x1 : Shape := ⟨2, ![2048, 1]⟩
abbrev S1x32 : Shape := ⟨2, ![1, 32]⟩
abbrev S1x16 : Shape := ⟨2, ![1, 16]⟩
abbrev S2048x16x64 : Shape := ⟨3, ![2048, 16, 64]⟩
abbrev S16x2048x64 : Shape := ⟨3, ![16, 2048, 64]⟩
abbrev S2048x4x64 : Shape := ⟨3, ![2048, 4, 64]⟩
abbrev S4x2048x64 : Shape := ⟨3, ![4, 2048, 64]⟩
abbrev S4x1x2048x64 : Shape := ⟨4, ![4, 1, 2048, 64]⟩
abbrev S4x4x2048x64 : Shape := ⟨4, ![4, 4, 2048, 64]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x2048 : Shape := ⟨2, ![2048, 2048]⟩
abbrev S1x2048x2048 : Shape := ⟨3, ![1, 2048, 2048]⟩
abbrev S16x1 : Shape := ⟨2, ![16, 1]⟩
abbrev S16x2048 : Shape := ⟨2, ![16, 2048]⟩
abbrev S16x2048x1 : Shape := ⟨3, ![16, 2048, 1]⟩
abbrev S16x64x2048 : Shape := ⟨3, ![16, 64, 2048]⟩
abbrev S16 : Shape := ⟨1, ![16]⟩
abbrev S2048x32 : Shape := ⟨2, ![2048, 32]⟩
abbrev S1x2048x32 : Shape := ⟨3, ![1, 2048, 32]⟩
abbrev S16x2048x32 : Shape := ⟨3, ![16, 2048, 32]⟩
abbrev S4x2048x32 : Shape := ⟨3, ![4, 2048, 32]⟩
abbrev S1x128 : Shape := ⟨2, ![1, 128]⟩

abbrev nBuf : Space → Nat
  | .hbm => 241
  | .vmem => 0
  | .smem => 0
  | _ => 0

abbrev hbmTy0_0 (i : Nat) : BufTy := match i % 128 with
  | 0 => ⟨S2048x1024, .bf16⟩
  | 1 => ⟨S2048x256, .bf16⟩
  | 2 => ⟨S2048x10880, .f32⟩
  | 3 => ⟨S2048x1024, .bf16⟩
  | 4 => ⟨S2048x1, .f32⟩
  | 5 => ⟨S1x32, .f32⟩
  | 6 => ⟨S1x16, .f32⟩
  | 7 => ⟨S2048x10880, .bf16⟩
  | 8 => ⟨S2048x256, .f32⟩
  | 9 => ⟨S2048x1024, .f32⟩
  | 10 => ⟨S2048x16x64, .f32⟩
  | 11 => ⟨S16x2048x64, .f32⟩
  | 12 => ⟨S2048x256, .f32⟩
  | 13 => ⟨S2048x4x64, .f32⟩
  | 14 => ⟨S4x2048x64, .f32⟩
  | 15 => ⟨S2048x4x64, .f32⟩
  | 16 => ⟨S4x2048x64, .f32⟩
  | 17 => ⟨S4x1x2048x64, .f32⟩
  | 18 => ⟨S4x4x2048x64, .f32⟩
  | 19 => ⟨S16x2048x64, .f32⟩
  | 20 => ⟨S4x1x2048x64, .f32⟩
  | 21 => ⟨S4x4x2048x64, .f32⟩
  | 22 => ⟨S16x2048x64, .f32⟩
  | 23 => ⟨S16x2048x2048, .f32⟩
  | 24 => ⟨S_, .f32⟩
  | 25 => ⟨S16x2048x2048, .f32⟩
  | 26 => ⟨S16x2048x2048, .f32⟩
  | 27 => ⟨S2048, .i32⟩
  | 28 => ⟨S2048x1, .i32⟩
  | 29 => ⟨S2048, .i32⟩
  | 30 => ⟨S1x2048, .i32⟩
  | 31 => ⟨S2048x2048, .i32⟩
  | 32 => ⟨S2048x2048, .i32⟩
  | 33 => ⟨S2048x2048, .i32⟩
  | 34 => ⟨S_, .i32⟩
  | 35 => ⟨S2048x2048, .i32⟩
  | 36 => ⟨S2048x2048, .i1⟩
  | 37 => ⟨S_, .i32⟩
  | 38 => ⟨S2048x2048, .i32⟩
  | 39 => ⟨S2048x2048, .i1⟩
  | 40 => ⟨S2048x2048, .i1⟩
  | 41 => ⟨S1x2048x2048, .i1⟩
  | 42 => ⟨S_, .f32⟩
  | 43 => ⟨S_, .f32⟩
  | 44 => ⟨S16x2048x2048, .i1⟩
  | 45 => ⟨S16x2048x2048, .f32⟩
  | 46 => ⟨S16x2048x2048, .f32⟩
  | 47 => ⟨S_, .f32⟩
  | 48 => ⟨S16x2048x2048, .f32⟩
  | 49 => ⟨S16x1, .f32⟩
  | 50 => ⟨S_, .f32⟩
  | 51 => ⟨S16x2048, .f32⟩
  | 52 => ⟨S16x2048x1, .f32⟩
  | 53 => ⟨S16x2048x2048, .f32⟩
  | 54 => ⟨S16x2048x2048, .i1⟩
  | 55 => ⟨S16x2048x2048, .f32⟩
  | 56 => ⟨S_, .f32⟩
  | 57 => ⟨S16x2048, .f32⟩
  | 58 => ⟨S16x2048, .f32⟩
  | 59 => ⟨S16x2048, .f32⟩
  | 60 => ⟨S16x2048, .f32⟩
  | 61 => ⟨S16x2048, .i1⟩
  | 62 => ⟨S16x2048, .f32⟩
  | 63 => ⟨S16x2048, .i1⟩
  | 64 => ⟨S_, .f32⟩
  | 65 => ⟨S16x2048, .f32⟩
  | 66 => ⟨S_, .f32⟩
  | 67 => ⟨S16x2048, .f32⟩
  | 68 => ⟨S_, .f32⟩
  | 69 => ⟨S16x2048, .f32⟩
  | 70 => ⟨S16x2048, .f32⟩
  | 71 => ⟨S16x2048, .f32⟩
  | 72 => ⟨S16x2048, .f32⟩
  | 73 => ⟨S16x2048, .i1⟩
  | 74 => ⟨S16x2048, .f32⟩
  | 75 => ⟨S16x2048, .i1⟩
  | 76 => ⟨S_, .f32⟩
  | 77 => ⟨S16x2048, .f32⟩
  | 78 => ⟨S_, .f32⟩
  | 79 => ⟨S16x2048, .f32⟩
  | 80 => ⟨S_, .f32⟩
  | 81 => ⟨S16x2048, .f32⟩
  | 82 => ⟨S16x2048, .f32⟩
  | 83 => ⟨S16x2048, .f32⟩
  | 84 => ⟨S16x2048x1, .f32⟩
  | 85 => ⟨S16x2048x2048, .f32⟩
  | 86 => ⟨S16x2048x2048, .f32⟩
  | 87 => ⟨S16x2048x2048, .f32⟩
  | 88 => ⟨S_, .f32⟩
  | 89 => ⟨S16x2048, .f32⟩
  | 90 => ⟨S16x2048, .f32⟩
  | 91 => ⟨S16x2048, .f32⟩
  | 92 => ⟨S16x2048, .f32⟩
  | 93 => ⟨S16x2048, .f32⟩
  | 94 => ⟨S16x2048x1, .f32⟩
  | 95 => ⟨S16x2048x2048, .f32⟩
  | 96 => ⟨S16x2048x2048, .f32⟩
  | 97 => ⟨S16x2048x1, .f32⟩
  | 98 => ⟨S_, .f32⟩
  | 99 => ⟨S16x2048x1, .f32⟩
  | 100 => ⟨S16x2048x1, .f32⟩
  | 101 => ⟨S16x2048x64, .f32⟩
  | 102 => ⟨S2048x1024, .f32⟩
  | 103 => ⟨S2048x16x64, .f32⟩
  | 104 => ⟨S16x2048x64, .f32⟩
  | 105 => ⟨S16x64x2048, .f32⟩
  | 106 => ⟨S16x2048x64, .f32⟩
  | 107 => ⟨S16x2048x2048, .f32⟩
  | 108 => ⟨S16x2048x2048, .f32⟩
  | 109 => ⟨S16x2048x2048, .f32⟩
  | 110 => ⟨S16x2048x2048, .f32⟩
  | 111 => ⟨S_, .f32⟩
  | 112 => ⟨S16x2048, .f32⟩
  | 113 => ⟨S16x2048x1, .f32⟩
  | 114 => ⟨S16x2048x1, .f32⟩
  | 115 => ⟨S16x2048x2048, .f32⟩
  | 116 => ⟨S16x2048x2048, .f32⟩
  | 117 => ⟨S_, .f32⟩
  | 118 => ⟨S16x2048, .f32⟩
  | 119 => ⟨S16x2048, .f32⟩
  | 120 => ⟨S_, .f32⟩
  | 121 => ⟨S16, .f32⟩
  | 122 => ⟨S16x1, .f32⟩
  | 123 => ⟨S16x2048x2048, .f32⟩
  | 124 => ⟨S16x2048x2048, .f32⟩
  | 125 => ⟨S16x2048x2048, .f32⟩
  | 126 => ⟨S1x16, .f32⟩
  | 127 => ⟨S_, .f32⟩
  | _ => ⟨S2048x1024, .bf16⟩

abbrev hbmTy0_1 (i : Nat) : BufTy := match i % 128 with
  | 0 => ⟨S16x2048x2048, .f32⟩
  | 1 => ⟨S16x2048x2048, .f32⟩
  | 2 => ⟨S_, .f32⟩
  | 3 => ⟨S16x2048x2048, .f32⟩
  | 4 => ⟨S16x2048x2048, .f32⟩
  | 5 => ⟨S16x2048x64, .f32⟩
  | 6 => ⟨S16x2048x64, .f32⟩
  | 7 => ⟨S4x4x2048x64, .f32⟩
  | 8 => ⟨S_, .f32⟩
  | 9 => ⟨S4x2048x64, .f32⟩
  | 10 => ⟨S4x1x2048x64, .f32⟩
  | 11 => ⟨S_, .f32⟩
  | 12 => ⟨S4x2048x64, .f32⟩
  | 13 => ⟨S4x4x2048x64, .f32⟩
  | 14 => ⟨S_, .f32⟩
  | 15 => ⟨S4x2048x64, .f32⟩
  | 16 => ⟨S4x1x2048x64, .f32⟩
  | 17 => ⟨S_, .f32⟩
  | 18 => ⟨S4x2048x64, .f32⟩
  | 19 => ⟨S2048x10880, .f32⟩
  | 20 => ⟨S_, .f32⟩
  | 21 => ⟨S16x2048x64, .f32⟩
  | 22 => ⟨S2048x32, .f32⟩
  | 23 => ⟨S2048x32, .f32⟩
  | 24 => ⟨S2048x32, .f32⟩
  | 25 => ⟨S2048x32, .f32⟩
  | 26 => ⟨S1x2048x32, .f32⟩
  | 27 => ⟨S2048x32, .f32⟩
  | 28 => ⟨S1x2048x32, .f32⟩
  | 29 => ⟨S16x2048x32, .f32⟩
  | 30 => ⟨S16x2048x32, .f32⟩
  | 31 => ⟨S16x2048x32, .f32⟩
  | 32 => ⟨S16x2048x32, .f32⟩
  | 33 => ⟨S16x2048x32, .f32⟩
  | 34 => ⟨S16x2048x32, .f32⟩
  | 35 => ⟨S16x2048x32, .f32⟩
  | 36 => ⟨S16x2048x32, .f32⟩
  | 37 => ⟨S16x2048x32, .f32⟩
  | 38 => ⟨S16x2048x32, .f32⟩
  | 39 => ⟨S16x2048x32, .f32⟩
  | 40 => ⟨S16x2048x32, .f32⟩
  | 41 => ⟨S16x2048x64, .f32⟩
  | 42 => ⟨S16x2048x32, .f32⟩
  | 43 => ⟨S16x2048x32, .f32⟩
  | 44 => ⟨S16x2048x32, .f32⟩
  | 45 => ⟨S16x2048x32, .f32⟩
  | 46 => ⟨S16x2048x32, .f32⟩
  | 47 => ⟨S16x2048x32, .f32⟩
  | 48 => ⟨S16x2048x32, .f32⟩
  | 49 => ⟨S16x2048x32, .f32⟩
  | 50 => ⟨S16x2048x32, .f32⟩
  | 51 => ⟨S16x2048x32, .f32⟩
  | 52 => ⟨S16x2048x32, .f32⟩
  | 53 => ⟨S16x2048x32, .f32⟩
  | 54 => ⟨S16x2048x32, .f32⟩
  | 55 => ⟨S_, .f32⟩
  | 56 => ⟨S16x2048x64, .f32⟩
  | 57 => ⟨S_, .f32⟩
  | 58 => ⟨S16x2048x64, .f32⟩
  | 59 => ⟨S16x2048x64, .f32⟩
  | 60 => ⟨S2048x16x64, .f32⟩
  | 61 => ⟨S2048x1024, .f32⟩
  | 62 => ⟨S_, .i32⟩
  | 63 => ⟨S_, .i32⟩
  | 64 => ⟨S2048x10880, .f32⟩
  | 65 => ⟨S2048x10880, .bf16⟩
  | 66 => ⟨S_, .f32⟩
  | 67 => ⟨S4x2048x64, .f32⟩
  | 68 => ⟨S2048x32, .f32⟩
  | 69 => ⟨S2048x32, .f32⟩
  | 70 => ⟨S2048x32, .f32⟩
  | 71 => ⟨S2048x32, .f32⟩
  | 72 => ⟨S1x2048x32, .f32⟩
  | 73 => ⟨S2048x32, .f32⟩
  | 74 => ⟨S1x2048x32, .f32⟩
  | 75 => ⟨S4x2048x32, .f32⟩
  | 76 => ⟨S4x2048x32, .f32⟩
  | 77 => ⟨S4x2048x32, .f32⟩
  | 78 => ⟨S4x2048x32, .f32⟩
  | 79 => ⟨S4x2048x32, .f32⟩
  | 80 => ⟨S4x2048x32, .f32⟩
  | 81 => ⟨S4x2048x32, .f32⟩
  | 82 => ⟨S4x2048x32, .f32⟩
  | 83 => ⟨S4x2048x32, .f32⟩
  | 84 => ⟨S4x2048x32, .f32⟩
  | 85 => ⟨S4x2048x32, .f32⟩
  | 86 => ⟨S4x2048x32, .f32⟩
  | 87 => ⟨S4x2048x64, .f32⟩
  | 88 => ⟨S4x2048x32, .f32⟩
  | 89 => ⟨S4x2048x32, .f32⟩
  | 90 => ⟨S4x2048x32, .f32⟩
  | 91 => ⟨S4x2048x32, .f32⟩
  | 92 => ⟨S4x2048x32, .f32⟩
  | 93 => ⟨S4x2048x32, .f32⟩
  | 94 => ⟨S4x2048x32, .f32⟩
  | 95 => ⟨S4x2048x32, .f32⟩
  | 96 => ⟨S4x2048x32, .f32⟩
  | 97 => ⟨S4x2048x32, .f32⟩
  | 98 => ⟨S4x2048x32, .f32⟩
  | 99 => ⟨S4x2048x32, .f32⟩
  | 100 => ⟨S4x2048x32, .f32⟩
  | 101 => ⟨S_, .f32⟩
  | 102 => ⟨S4x2048x64, .f32⟩
  | 103 => ⟨S_, .f32⟩
  | 104 => ⟨S4x2048x64, .f32⟩
  | 105 => ⟨S4x2048x64, .f32⟩
  | 106 => ⟨S2048x4x64, .f32⟩
  | 107 => ⟨S2048x256, .f32⟩
  | 108 => ⟨S2048x4x64, .f32⟩
  | 109 => ⟨S2048x256, .f32⟩
  | 110 => ⟨S_, .i32⟩
  | 111 => ⟨S_, .f32⟩
  | 112 => ⟨S1x128, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_c_0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_call0_v0 : Ref sig .tc := ⟨.hbm, 43, rfl⟩
abbrev main_v31_1 : Ref sig .tc := ⟨.hbm, 44, rfl⟩
abbrev main_call0_v2 : Ref sig .tc := ⟨.hbm, 45, rfl⟩
abbrev main_v31_0 : Ref sig .tc := ⟨.hbm, 46, rfl⟩
abbrev main_call0_cst : Ref sig .tc := ⟨.hbm, 47, rfl⟩
abbrev main_v31_2 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_11 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_12 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_13 : Ref sig .tc := ⟨.hbm, 117, rfl⟩
abbrev main_v89 : Ref sig .tc := ⟨.hbm, 118, rfl⟩
abbrev main_v90 : Ref sig .tc := ⟨.hbm, 119, rfl⟩
abbrev main_cst_14 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_call1_cst : Ref sig .tc := ⟨.hbm, 127, rfl⟩
abbrev main_call1_v0 : Ref sig .tc := ⟨.hbm, 128, rfl⟩
abbrev main_v97 : Ref sig .tc := ⟨.hbm, 129, rfl⟩
abbrev main_cst_15 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_16 : Ref sig .tc := ⟨.hbm, 136, rfl⟩
abbrev main_v103 : Ref sig .tc := ⟨.hbm, 137, rfl⟩
abbrev main_v104 : Ref sig .tc := ⟨.hbm, 138, rfl⟩
abbrev main_cst_17 : Ref sig .tc := ⟨.hbm, 139, rfl⟩
abbrev main_v105 : Ref sig .tc := ⟨.hbm, 140, rfl⟩
abbrev main_v106 : Ref sig .tc := ⟨.hbm, 141, rfl⟩
abbrev main_cst_18 : Ref sig .tc := ⟨.hbm, 142, rfl⟩
abbrev main_v107 : Ref sig .tc := ⟨.hbm, 143, rfl⟩
abbrev main_v108 : Ref sig .tc := ⟨.hbm, 144, rfl⟩
abbrev main_cst_19 : Ref sig .tc := ⟨.hbm, 145, rfl⟩
abbrev main_v109 : Ref sig .tc := ⟨.hbm, 146, rfl⟩
abbrev main_v110 : Ref sig .tc := ⟨.hbm, 147, rfl⟩
abbrev main_cst_20 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_cst_21 : Ref sig .tc := ⟨.hbm, 183, rfl⟩
abbrev main_v145 : Ref sig .tc := ⟨.hbm, 184, rfl⟩
abbrev main_cst_22 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_c_23 : Ref sig .tc := ⟨.hbm, 190, rfl⟩
abbrev main_c_24 : Ref sig .tc := ⟨.hbm, 191, rfl⟩
abbrev main_v150 : Ref sig .tc := ⟨.hbm, 192, rfl⟩
abbrev main_v151 : Ref sig .tc := ⟨.hbm, 193, rfl⟩
abbrev main_cst_25 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_cst_26 : Ref sig .tc := ⟨.hbm, 229, rfl⟩
abbrev main_v186 : Ref sig .tc := ⟨.hbm, 230, rfl⟩
abbrev main_cst_27 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_c_28 : Ref sig .tc := ⟨.hbm, 238, rfl⟩
abbrev main_call2_v0 : Ref sig .tc := ⟨.hbm, 239, rfl⟩
abbrev main_v193 : Ref sig .tc := ⟨.hbm, 240, rfl⟩

abbrev nD : Nat := 1
abbrev τ : Topo := Topo.v7x

variable {F : FTy → Type} [FloatOps F]
-- ==== InProj.lean ====
abbrev S2048x2048 : Shape := ⟨2, ![2048, 2048]⟩
abbrev S10880x2048 : Shape := ⟨2, ![10880, 2048]⟩
abbrev S2048x10880 : Shape := ⟨2, ![2048, 10880]⟩
abbrev S1024x2048 : Shape := ⟨2, ![1024, 2048]⟩
abbrev S2176x2048 : Shape := ⟨2, ![2176, 2048]⟩
abbrev S1024x2176 : Shape := ⟨2, ![1024, 2176]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S10880x2048, .bf16⟩
  | .hbm, ⟨2, _⟩ => ⟨S2048x10880, .f32⟩
  | .local _ .vmem, ⟨0, _⟩ => ⟨S1024x2048, .bf16⟩
  | .local _ .vmem, ⟨1, _⟩ => ⟨S1024x2048, .bf16⟩
  | .local _ .vmem, ⟨2, _⟩ => ⟨S2176x2048, .bf16⟩
  | .local _ .vmem, ⟨3, _⟩ => ⟨S2176x2048, .bf16⟩
  | .local _ .vmem, ⟨4, _⟩ => ⟨S1024x2176, .f32⟩
  | .local _ .vmem, ⟨5, _⟩ => ⟨S1024x2176, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S2048x2048 : Shape := ⟨2, ![2048, 2048]⟩
abbrev S10880x2048 : Shape := ⟨2, ![10880, 2048]⟩
abbrev S2048x10880 : Shape := ⟨2, ![2048, 10880]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S10880x2048, .bf16⟩
  | .hbm, ⟨2, _⟩ => ⟨S2048x2048, .f32⟩
  | .hbm, ⟨3, _⟩ => ⟨S10880x2048, .f32⟩
  | .hbm, ⟨4, _⟩ => ⟨S2048x10880, .f32⟩
  | .hbm, ⟨5, _⟩ => ⟨S2048x10880, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnUp.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S5632x2048, .bf16⟩
  | .hbm, ⟨3, _⟩ => ⟨S2048x5632, .bf16⟩
  | .hbm, ⟨4, _⟩ => ⟨S2048x5632, .bf16⟩
  | .hbm, ⟨5, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S5632x2048, .bf16⟩
  | .hbm, ⟨3, _⟩ => ⟨S2048x2048, .f32⟩
  | .hbm, ⟨4, _⟩ => ⟨S5632x2048, .f32⟩
  | .hbm, ⟨5, _⟩ => ⟨S5632x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .bf16⟩
  | .hbm, ⟨21, _⟩ => ⟨S2048x5632, .bf16⟩
  | .hbm, ⟨22, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== FfnDown.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnUpBwd.lean ====
abbrev S2048x5632 : Shape := ⟨2, ![2048, 5632]⟩
abbrev S5632x2048 : Shape := ⟨2, ![5632, 2048]⟩
abbrev S2048x2048 : Shape := ⟨2, ![2048, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S5632x2048, .bf16⟩
  | .hbm, ⟨3, _⟩ => ⟨S5632x2048, .bf16⟩
  | .hbm, ⟨4, _⟩ => ⟨S2048x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x5632, .bf16⟩
  | .local _ .vmem, ⟨5, _⟩ => ⟨S512x5632, .bf16⟩
  | .local _ .vmem, ⟨6, _⟩ => ⟨S5632x512, .bf16⟩
  | .local _ .vmem, ⟨7, _⟩ => ⟨S5632x512, .bf16⟩
  | .local _ .vmem, ⟨8, _⟩ => ⟨S512x512, .f32⟩
  | .local _ .vmem, ⟨9, _⟩ => ⟨S512x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S5632x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpBwdRefIdeal.lean ====
abbrev S2048x5632 : Shape := ⟨2, ![2048, 5632]⟩
abbrev S5632x2048 : Shape := ⟨2, ![5632, 2048]⟩
abbrev S_ : Shape := ⟨0, ![]⟩
abbrev S2048x2048 : Shape := ⟨2, ![2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S5632x2048, .bf16⟩
  | .hbm, ⟨3, _⟩ => ⟨S5632x2048, .bf16⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S5632x2048, .f32⟩
  | .hbm, ⟨8, _⟩ => ⟨S_, .f32⟩
  | .hbm, ⟨9, _⟩ => ⟨S2048x2048, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== DwFfn.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwFfnRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x5632, .f32⟩
  | .hbm, ⟨3, _⟩ => ⟨S2048x2048, .f32⟩
  | .hbm, ⟨4, _⟩ => ⟨S_, .f32⟩
  | .hbm, ⟨5, _⟩ => ⟨S5632x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwSquare.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwSquareRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwIn.lean ====
abbrev S2048x10880 : Shape := ⟨2, ![2048, 10880]⟩
abbrev S2048x2048 : Shape := ⟨2, ![2048, 2048]⟩
abbrev S10880x2048 : Shape := ⟨2, ![10880, 2048]⟩
abbrev S2048x2176 : Shape := ⟨2, ![2048, 2176]⟩
abbrev S2048x1024 : Shape := ⟨2, ![2048, 1024]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x10880, .bf16⟩
  | .hbm, ⟨1, _⟩ => ⟨S2048x2048, .bf16⟩
  | .hbm, ⟨2, _⟩ => ⟨S10880x2048, .bf16⟩
  | .local _ .vmem, ⟨0, _⟩ => ⟨S2048x2176, .bf16⟩
  | .local _ .vmem, ⟨1, _⟩ => ⟨S2048x2176, .bf16⟩
  | .local _ .vmem, ⟨2, _⟩ => ⟨S2048x1024, .bf16⟩
  | .local _ .vmem, ⟨3, _⟩ => ⟨S2048x1024, .bf16⟩
  | .local _ .vmem, ⟨4, _⟩ => ⟨S2176x1024, .bf16⟩
  | .local _ .vmem, ⟨5, _⟩ => ⟨S2176x1024, .bf16⟩
  | _, _ => ⟨S2048x10880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInRefIdeal.lean ====
abbrev S2048x10880 : Shape := ⟨2, ![2048, 10880]⟩
abbrev S2048x2048 : Shape := ⟨2, ![2048, 2048]⟩
abbrev S_ : Shape := ⟨0, ![]⟩
abbrev S10880x2048 : Shape := ⟨2, ![10880, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x10880, .bf16⟩
  | .hbm, ⟨1, _⟩ => ⟨S2048x2048, .bf16⟩
  | .hbm, ⟨2, _⟩ => ⟨S2048x10880, .f32⟩
  | .hbm, ⟨3, _⟩ => ⟨S2048x2048, .f32⟩
  | .hbm, ⟨4, _⟩ => ⟨S_, .f32⟩
  | .hbm, ⟨5, _⟩ => ⟨S10880x2048, .f32⟩
  | .hbm, ⟨6, _⟩ => ⟨S2048x10880, .f32⟩
  | .hbm, ⟨7, _⟩ => ⟨S2048x10880, .f32⟩
  | .hbm, ⟨8, _⟩ => ⟨S10880x2048, .f32⟩
  | .hbm, ⟨9, _⟩ => ⟨S2048x10880, .f32⟩
  | .hbm, ⟨10, _⟩ => ⟨S10880x2048, .f32⟩
  | .hbm, ⟨11, _⟩ => ⟨S10880x2048, .bf16⟩
  | _, _ => ⟨S2048x10880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwAttnBr.lean ====
abbrev S2048x1024 : Shape := ⟨2, ![2048, 1024]⟩
abbrev S2048x2048 : Shape := ⟨2, ![2048, 2048]⟩
abbrev S8x1024x256 : Shape := ⟨3, ![8, 1024, 256]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S8x1024x256, .bf16⟩
  | .local _ .vmem, ⟨0, _⟩ => ⟨S2048x1024, .bf16⟩
  | .local _ .vmem, ⟨1, _⟩ => ⟨S2048x256, .bf16⟩
  | .local _ .vmem, ⟨2, _⟩ => ⟨S2048x256, .bf16⟩
  | .local _ .vmem, ⟨3, _⟩ => ⟨S1x1024x256, .bf16⟩
  | .local _ .vmem, ⟨4, _⟩ => ⟨S1x1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwAttnBrRefIdeal.lean ====
abbrev S2048x1024 : Shape := ⟨2, ![2048, 1024]⟩
abbrev S2048x2048 : Shape := ⟨2, ![2048, 2048]⟩
abbrev S_ : Shape := ⟨0, ![]⟩
abbrev S8x1024x256 : Shape := ⟨3, ![8, 1024, 256]⟩
abbrev S1024x8x256 : Shape := ⟨3, ![1024, 8, 256]⟩
abbrev S1024x2048 : Shape := ⟨2, ![1024, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S2048x2048, .f32⟩
  | .hbm, ⟨4, _⟩ => ⟨S_, .f32⟩
  | .hbm, ⟨5, _⟩ => ⟨S8x1024x256, .f32⟩
  | .hbm, ⟨6, _⟩ => ⟨S1024x8x256, .f32⟩
  | .hbm, ⟨7, _⟩ => ⟨S1024x2048, .f32⟩
  | .hbm, ⟨8, _⟩ => ⟨S2048x2048, .f32⟩
  | .hbm, ⟨9, _⟩ => ⟨S2048x1024, .f32⟩
  | .hbm, ⟨10, _⟩ => ⟨S1024x2048, .f32⟩
  | .hbm, ⟨11, _⟩ => ⟨S1024x8x256, .f32⟩
  | .hbm, ⟨12, _⟩ => ⟨S8x1024x256, .f32⟩
  | .hbm, ⟨13, _⟩ => ⟨S8x1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DSquare.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DSquareRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DIn.lean ====
abbrev S2048x10880 : Shape := ⟨2, ![2048, 10880]⟩
abbrev S10880x2048 : Shape := ⟨2, ![10880, 2048]⟩
abbrev S2048x2048 : Shape := ⟨2, ![2048, 2048]⟩
abbrev S512x10880 : Shape := ⟨2, ![512, 10880]⟩
abbrev S10880x512 : Shape := ⟨2, ![10880, 512]⟩
abbrev S512x512 : Shape := ⟨2, ![512, 512]⟩

abbrev nBuf : Space → Nat
  | .hbm => 4
  | .vmem => 11
  | .smem => 0
  | _ => 0

abbrev bufTy : (tb : Table) → Fin (tcTables nBuf tb) → BufTy
  | .hbm, ⟨0, _⟩ => ⟨S2048x10880, .bf16⟩
  | .hbm, ⟨1, _⟩ => ⟨S10880x2048, .bf16⟩
  | .hbm, ⟨2, _⟩ => ⟨S2048x2048, .f32⟩
  | .hbm, ⟨3, _⟩ => ⟨S2048x2048, .f32⟩
  | .local _ .vmem, ⟨0, _⟩ => ⟨S512x10880, .bf16⟩
  | .local _ .vmem, ⟨1, _⟩ => ⟨S10880x512, .bf16⟩
  | .local _ .vmem, ⟨2, _⟩ => ⟨S10880x512, .bf16⟩
  | .local _ .vmem, ⟨3, _⟩ => ⟨S512x512, .f32⟩
  | .local _ .vmem, ⟨4, _⟩ => ⟨S512x512, .f32⟩
  | .local _ .vmem, ⟨5, _⟩ => ⟨S512x10880, .bf16⟩
  | .local _ .vmem, ⟨6, _⟩ => ⟨S512x10880, .bf16⟩
  | .local _ .vmem, ⟨7, _⟩ => ⟨S10880x512, .bf16⟩
  | .local _ .vmem, ⟨8, _⟩ => ⟨S10880x512, .bf16⟩
  | .local _ .vmem, ⟨9, _⟩ => ⟨S512x512, .f32⟩
  | .local _ .vmem, ⟨10, _⟩ => ⟨S512x512, .f32⟩
  | _, _ => ⟨S2048x10880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S512x10880 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S10880x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![3, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

abbrev stage1_0 : Fin 2 → Memref sig .tc .vmem S512x10880 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S10880x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== DInRefIdeal.lean ====
abbrev S2048x10880 : Shape := ⟨2, ![2048, 10880]⟩
abbrev S10880x2048 : Shape := ⟨2, ![10880, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x10880, .bf16⟩
  | .hbm, ⟨1, _⟩ => ⟨S10880x2048, .bf16⟩
  | .hbm, ⟨2, _⟩ => ⟨S2048x10880, .f32⟩
  | .hbm, ⟨3, _⟩ => ⟨S10880x2048, .f32⟩
  | .hbm, ⟨4, _⟩ => ⟨S_, .f32⟩
  | .hbm, ⟨5, _⟩ => ⟨S2048x2048, .f32⟩
  | .hbm, ⟨6, _⟩ => ⟨S2048x10880, .f32⟩
  | .hbm, ⟨7, _⟩ => ⟨S2048x10880, .f32⟩
  | .hbm, ⟨8, _⟩ => ⟨S2048x2048, .f32⟩
  | _, _ => ⟨S2048x10880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnBrBwd.lean ====
abbrev S2048x2048 : Shape := ⟨2, ![2048, 2048]⟩
abbrev S8x1024x256 : Shape := ⟨3, ![8, 1024, 256]⟩
abbrev S2048x1024 : Shape := ⟨2, ![2048, 1024]⟩
abbrev S1024x256 : Shape := ⟨2, ![1024, 256]⟩
abbrev S1x1024x256 : Shape := ⟨3, ![1, 1024, 256]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S2048x1024, .bf16⟩
  | .local _ .vmem, ⟨0, _⟩ => ⟨S1024x256, .bf16⟩
  | .local _ .vmem, ⟨1, _⟩ => ⟨S1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== AttnBrBwdRefIdeal.lean ====
abbrev S2048x2048 : Shape := ⟨2, ![2048, 2048]⟩
abbrev S8x1024x256 : Shape := ⟨3, ![8, 1024, 256]⟩
abbrev S1024x8x256 : Shape := ⟨3, ![1024, 8, 256]⟩
abbrev S1024x2048 : Shape := ⟨2, ![1024, 2048]⟩
abbrev S_ : Shape := ⟨0, ![]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S2048x2048, .f32⟩
  | .hbm, ⟨3, _⟩ => ⟨S8x1024x256, .f32⟩
  | .hbm, ⟨4, _⟩ => ⟨S1024x8x256, .f32⟩
  | .hbm, ⟨5, _⟩ => ⟨S1024x2048, .f32⟩
  | .hbm, ⟨6, _⟩ => ⟨S_, .f32⟩
  | .hbm, ⟨7, _⟩ => ⟨S2048x1024, .f32⟩
  | .hbm, ⟨8, _⟩ => ⟨S2048x2048, .f32⟩
  | .hbm, ⟨9, _⟩ => ⟨S2048x1024, .f32⟩
  | .hbm, ⟨10, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AttnBr.lean ====
abbrev S2048x1024 : Shape := ⟨2, ![2048, 1024]⟩
abbrev S8x1024x256 : Shape := ⟨3, ![8, 1024, 256]⟩
abbrev S2048x2048 : Shape := ⟨2, ![2048, 2048]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x256, .f32⟩
  | .local _ .vmem, ⟨5, _⟩ => ⟨S1024x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnBrRefIdeal.lean ====
abbrev S2048x1024 : Shape := ⟨2, ![2048, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x1024, .f32⟩
  | .hbm, ⟨3, _⟩ => ⟨S8x1024x256, .f32⟩
  | .hbm, ⟨4, _⟩ => ⟨S1024x8x256, .f32⟩
  | .hbm, ⟨5, _⟩ => ⟨S1024x2048, .f32⟩
  | .hbm, ⟨6, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Square.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SquareRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OProj.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OProjRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MergeFwd.lean ====
abbrev S2048x10880 : Shape := ⟨2, ![2048, 10880]⟩
abbrev S2048x2048 : Shape := ⟨2, ![2048, 2048]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S2048x10880, .f32⟩
  | .hbm, ⟨1, _⟩ => ⟨S2048x2048, .f32⟩
  | .hbm, ⟨2, _⟩ => ⟨S2048x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x10880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFwdRefIdeal.lean ====
abbrev S2048x10880 : Shape := ⟨2, ![2048, 10880]⟩
abbrev S2048x2048 : Shape := ⟨2, ![2048, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x10880, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .bf16⟩
  | _, _ => ⟨S2048x10880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== PleProj.lean ====
abbrev S2048x256 : Shape := ⟨2, ![2048, 256]⟩
abbrev S8x256x256 : Shape := ⟨3, ![8, 256, 256]⟩
abbrev S2048x2048 : Shape := ⟨2, ![2048, 2048]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S8x256x256, .bf16⟩
  | .hbm, ⟨2, _⟩ => ⟨S2048x2048, .f32⟩
  | .local _ .vmem, ⟨0, _⟩ => ⟨S1024x256, .f32⟩
  | .local _ .vmem, ⟨1, _⟩ => ⟨S1024x256, .f32⟩
  | .local _ .vmem, ⟨2, _⟩ => ⟨S1x256x256, .bf16⟩
  | .local _ .vmem, ⟨3, _⟩ => ⟨S1x256x256, .bf16⟩
  | .local _ .vmem, ⟨4, _⟩ => ⟨S1024x256, .f32⟩
  | .local _ .vmem, ⟨5, _⟩ => ⟨S1024x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PleProjRefIdeal.lean ====
abbrev S2048x256 : Shape := ⟨2, ![2048, 256]⟩
abbrev S8x256x256 : Shape := ⟨3, ![8, 256, 256]⟩
abbrev S256x8x256 : Shape := ⟨3, ![256, 8, 256]⟩
abbrev S256x2048 : Shape := ⟨2, ![256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S8x256x256, .bf16⟩
  | .hbm, ⟨2, _⟩ => ⟨S8x256x256, .f32⟩
  | .hbm, ⟨3, _⟩ => ⟨S256x8x256, .f32⟩
  | .hbm, ⟨4, _⟩ => ⟨S256x2048, .f32⟩
  | .hbm, ⟨5, _⟩ => ⟨S2048x2048, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwPleProj.lean ====
abbrev S2048x256 : Shape := ⟨2, ![2048, 256]⟩
abbrev S2048x2048 : Shape := ⟨2, ![2048, 2048]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S8x256x256, .bf16⟩
  | .local _ .vmem, ⟨0, _⟩ => ⟨S2048x256, .f32⟩
  | .local _ .vmem, ⟨1, _⟩ => ⟨S2048x256, .bf16⟩
  | .local _ .vmem, ⟨2, _⟩ => ⟨S2048x256, .bf16⟩
  | .local _ .vmem, ⟨3, _⟩ => ⟨S1x256x256, .bf16⟩
  | .local _ .vmem, ⟨4, _⟩ => ⟨S1x256x256, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwPleProjRefIdeal.lean ====
abbrev S2048x256 : Shape := ⟨2, ![2048, 256]⟩
abbrev S2048x2048 : Shape := ⟨2, ![2048, 2048]⟩
abbrev S_ : Shape := ⟨0, ![]⟩
abbrev S8x256x256 : Shape := ⟨3, ![8, 256, 256]⟩
abbrev S256x8x256 : Shape := ⟨3, ![256, 8, 256]⟩
abbrev S256x2048 : Shape := ⟨2, ![256, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S8x256x256, .f32⟩
  | .hbm, ⟨5, _⟩ => ⟨S256x8x256, .f32⟩
  | .hbm, ⟨6, _⟩ => ⟨S256x2048, .f32⟩
  | .hbm, ⟨7, _⟩ => ⟨S2048x2048, .f32⟩
  | .hbm, ⟨8, _⟩ => ⟨S2048x256, .f32⟩
  | .hbm, ⟨9, _⟩ => ⟨S256x2048, .f32⟩
  | .hbm, ⟨10, _⟩ => ⟨S256x8x256, .f32⟩
  | .hbm, ⟨11, _⟩ => ⟨S8x256x256, .f32⟩
  | .hbm, ⟨12, _⟩ => ⟨S8x256x256, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== MergeBwd.lean ====
abbrev S2048x10880 : Shape := ⟨2, ![2048, 10880]⟩
abbrev S2048x2048 : Shape := ⟨2, ![2048, 2048]⟩
abbrev S256x2048 : Shape := ⟨2, ![256, 2048]⟩
abbrev S256x4096 : Shape := ⟨2, ![256, 4096]⟩
abbrev S2048x4096 : Shape := ⟨2, ![2048, 4096]⟩

abbrev nBuf : Space → Nat
  | .hbm => 8
  | .vmem => 16
  | .smem => 0
  | _ => 0

abbrev bufTy : (tb : Table) → Fin (tcTables nBuf tb) → BufTy
  | .hbm, ⟨0, _⟩ => ⟨S2048x10880, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x10880, .bf16⟩
  | .hbm, ⟨7, _⟩ => ⟨S2048x4096, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x4096, .bf16⟩
  | .local _ .vmem, ⟨15, _⟩ => ⟨S256x4096, .bf16⟩
  | _, _ => ⟨S2048x10880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeBwdRefIdeal.lean ====
abbrev S2048x10880 : Shape := ⟨2, ![2048, 10880]⟩
abbrev S2048x2048 : Shape := ⟨2, ![2048, 2048]⟩
abbrev S2048x4096 : Shape := ⟨2, ![2048, 4096]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2048x10880, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x4096, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x4096, .f32⟩
  | .hbm, ⟨44, _⟩ => ⟨S_, .f32⟩
  | .hbm, ⟨45, _⟩ => ⟨S2048x4096, .f32⟩
  | .hbm, ⟨46, _⟩ => ⟨S2048x4096, .f32⟩
  | .hbm, ⟨47, _⟩ => ⟨S2048x2048, .bf16⟩
  | .hbm, ⟨48, _⟩ => ⟨S2048x2048, .bf16⟩
  | .hbm, ⟨49, _⟩ => ⟨S2048x4096, .bf16⟩
  | _, _ => ⟨S2048x10880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== NormFwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GnormFwd.lean ====
abbrev S2048x2048 : Shape := ⟨2, ![2048, 2048]⟩
abbrev S2048x10880 : Shape := ⟨2, ![2048, 10880]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x10880, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GnormFwdRefIdeal.lean ====
abbrev S2048x2048 : Shape := ⟨2, ![2048, 2048]⟩
abbrev S2048x10880 : Shape := ⟨2, ![2048, 10880]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x10880, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== NormBwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Head.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩
abbrev S1x1 : Shape := ⟨2, ![1, 1]⟩

abbrev nBuf : Space → Nat
  | .hbm => 10
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S1x128, .f32⟩
  | .hbm, ⟨6, _⟩ => ⟨S2048x2048, .f32⟩
  | .hbm, ⟨7, _⟩ => ⟨S2048x2048, .bf16⟩
  | .hbm, ⟨8, _⟩ => ⟨S2048x2048, .bf16⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x128, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== HeadRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x2048, .f32⟩
  | .hbm, ⟨72, _⟩ => ⟨S2048x2048, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S_, .f32⟩
  | .hbm, ⟨78, _⟩ => ⟨S2048, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S1x128, .f32⟩
  | .hbm, ⟨88, _⟩ => ⟨S2048x2048, .bf16⟩
  | .hbm, ⟨89, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_cst_11 : Ref sig .tc := ⟨.hbm, 52, rfl⟩
abbrev main_cst_12 : Ref sig .tc := ⟨.hbm, 53, rfl⟩
abbrev main_v35 : Ref sig .tc := ⟨.hbm, 54, rfl⟩
abbrev main_v36 : Ref sig .tc := ⟨.hbm, 55, rfl⟩
abbrev main_cst_13 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_14 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_16 : Ref sig .tc := ⟨.hbm, 74, rfl⟩
abbrev main_v52 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== AdamIn.lean ====
abbrev S3x1348x2048 : Shape := ⟨3, ![3, 1348, 2048]⟩
abbrev S4x1348x2048 : Shape := ⟨3, ![4, 1348, 2048]⟩
abbrev S1348x2048 : Shape := ⟨2, ![1348, 2048]⟩
abbrev S_ : Shape := ⟨0, ![]⟩
abbrev S1 : Shape := ⟨1, ![1]⟩
abbrev S3x1348x256 : Shape := ⟨3, ![3, 1348, 256]⟩
abbrev S1x1348x256 : Shape := ⟨3, ![1, 1348, 256]⟩
abbrev S1348x256 : Shape := ⟨2, ![1348, 256]⟩

abbrev nBuf : Space → Nat
  | .hbm => 10
  | .vmem => 18
  | .smem => 1
  | _ => 0

abbrev bufTy : (tb : Table) → Fin (tcTables nBuf tb) → BufTy
  | .hbm, ⟨0, _⟩ => ⟨S3x1348x2048, .bf16⟩
  | .hbm, ⟨1, _⟩ => ⟨S4x1348x2048, .bf16⟩
  | .hbm, ⟨2, _⟩ => ⟨S1348x2048, .f32⟩
  | .hbm, ⟨3, _⟩ => ⟨S1348x2048, .f32⟩
  | .hbm, ⟨4, _⟩ => ⟨S1348x2048, .f32⟩
  | .hbm, ⟨5, _⟩ => ⟨S_, .i32⟩
  | .hbm, ⟨6, _⟩ => ⟨S1348x2048, .f32⟩
  | .hbm, ⟨7, _⟩ => ⟨S1348x2048, .f32⟩
  | .hbm, ⟨8, _⟩ => ⟨S1348x2048, .f32⟩
  | .hbm, ⟨9, _⟩ => ⟨S1348x2048, .f32⟩
  | .local _ .vmem, ⟨0, _⟩ => ⟨S3x1348x256, .bf16⟩
  | .local _ .vmem, ⟨1, _⟩ => ⟨S3x1348x256, .bf16⟩
  | .local _ .vmem, ⟨2, _⟩ => ⟨S1x1348x256, .bf16⟩
  | .local _ .vmem, ⟨3, _⟩ => ⟨S1x1348x256, .bf16⟩
  | .local _ .vmem, ⟨4, _⟩ => ⟨S1348x256, .f32⟩
  | .local _ .vmem, ⟨5, _⟩ => ⟨S1348x256, .f32⟩
  | .local _ .vmem, ⟨6, _⟩ => ⟨S1348x256, .f32⟩
  | .local _ .vmem, ⟨7, _⟩ => ⟨S1348x256, .f32⟩
  | .local _ .vmem, ⟨8, _⟩ => ⟨S1348x256, .f32⟩
  | .local _ .vmem, ⟨9, _⟩ => ⟨S1348x256, .f32⟩
  | .local _ .vmem, ⟨10, _⟩ => ⟨S1348x256, .f32⟩
  | .local _ .vmem, ⟨11, _⟩ => ⟨S1348x256, .f32⟩
  | .local _ .vmem, ⟨12, _⟩ => ⟨S1348x256, .f32⟩
  | .local _ .vmem, ⟨13, _⟩ => ⟨S1348x256, .f32⟩
  | .local _ .vmem, ⟨14, _⟩ => ⟨S1348x256, .f32⟩
  | .local _ .vmem, ⟨15, _⟩ => ⟨S1348x256, .f32⟩
  | .local _ .vmem, ⟨16, _⟩ => ⟨S1348x256, .f32⟩
  | .local _ .vmem, ⟨17, _⟩ => ⟨S1348x256, .f32⟩
  | .local _ .smem, ⟨0, _⟩ => ⟨S1, .i32⟩
  | _, _ => ⟨S3x1348x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 8], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S3x1348x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1348x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1348x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1348x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1348x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1348x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1348x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1348x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1348x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInIdeal.lean ====
abbrev S3x1348x2048 : Shape := ⟨3, ![3, 1348, 2048]⟩
abbrev S4x1348x2048 : Shape := ⟨3, ![4, 1348, 2048]⟩
abbrev S1348x2048 : Shape := ⟨2, ![1348, 2048]⟩
abbrev S_ : Shape := ⟨0, ![]⟩
abbrev S1 : Shape := ⟨1, ![1]⟩
abbrev S3x1348x256 : Shape := ⟨3, ![3, 1348, 256]⟩
abbrev S1x1348x256 : Shape := ⟨3, ![1, 1348, 256]⟩
abbrev S1348x256 : Shape := ⟨2, ![1348, 256]⟩

abbrev nBuf : Space → Nat
  | .hbm => 10
  | .vmem => 18
  | .smem => 1
  | _ => 0

abbrev bufTy : (tb : Table) → Fin (tcTables nBuf tb) → BufTy
  | .hbm, ⟨0, _⟩ => ⟨S3x1348x2048, .bf16⟩
  | .hbm, ⟨1, _⟩ => ⟨S4x1348x2048, .bf16⟩
  | .hbm, ⟨2, _⟩ => ⟨S1348x2048, .f32⟩
  | .hbm, ⟨3, _⟩ => ⟨S1348x2048, .f32⟩
  | .hbm, ⟨4, _⟩ => ⟨S1348x2048, .f32⟩
  | .hbm, ⟨5, _⟩ => ⟨S_, .i32⟩
  | .hbm, ⟨6, _⟩ => ⟨S1348x2048, .f32⟩
  | .hbm, ⟨7, _⟩ => ⟨S1348x2048, .f32⟩
  | .hbm, ⟨8, _⟩ => ⟨S1348x2048, .f32⟩
  | .hbm, ⟨9, _⟩ => ⟨S1348x2048, .f32⟩
  | .local _ .vmem, ⟨0, _⟩ => ⟨S3x1348x256, .bf16⟩
  | .local _ .vmem, ⟨1, _⟩ => ⟨S3x1348x256, .bf16⟩
  | .local _ .vmem, ⟨2, _⟩ => ⟨S1x1348x256, .bf16⟩
  | .local _ .vmem, ⟨3, _⟩ => ⟨S1x1348x256, .bf16⟩
  | .local _ .vmem, ⟨4, _⟩ => ⟨S1348x256, .f32⟩
  | .local _ .vmem, ⟨5, _⟩ => ⟨S1348x256, .f32⟩
  | .local _ .vmem, ⟨6, _⟩ => ⟨S1348x256, .f32⟩
  | .local _ .vmem, ⟨7, _⟩ => ⟨S1348x256, .f32⟩
  | .local _ .vmem, ⟨8, _⟩ => ⟨S1348x256, .f32⟩
  | .local _ .vmem, ⟨9, _⟩ => ⟨S1348x256, .f32⟩
  | .local _ .vmem, ⟨10, _⟩ => ⟨S1348x256, .f32⟩
  | .local _ .vmem, ⟨11, _⟩ => ⟨S1348x256, .f32⟩
  | .local _ .vmem, ⟨12, _⟩ => ⟨S1348x256, .f32⟩
  | .local _ .vmem, ⟨13, _⟩ => ⟨S1348x256, .f32⟩
  | .local _ .vmem, ⟨14, _⟩ => ⟨S1348x256, .f32⟩
  | .local _ .vmem, ⟨15, _⟩ => ⟨S1348x256, .f32⟩
  | .local _ .vmem, ⟨16, _⟩ => ⟨S1348x256, .f32⟩
  | .local _ .vmem, ⟨17, _⟩ => ⟨S1348x256, .f32⟩
  | .local _ .smem, ⟨0, _⟩ => ⟨S1, .i32⟩
  | _, _ => ⟨S3x1348x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 8], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S3x1348x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1348x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1348x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1348x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1348x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1348x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1348x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1348x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1348x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S3x1348x2048 : Shape := ⟨3, ![3, 1348, 2048]⟩
abbrev S4x1348x2048 : Shape := ⟨3, ![4, 1348, 2048]⟩
abbrev S1348x2048 : Shape := ⟨2, ![1348, 2048]⟩
abbrev S1x1348x2048 : Shape := ⟨3, ![1, 1348, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S3x1348x2048, .bf16⟩
  | .hbm, ⟨1, _⟩ => ⟨S4x1348x2048, .bf16⟩
  | .hbm, ⟨2, _⟩ => ⟨S1348x2048, .f32⟩
  | .hbm, ⟨3, _⟩ => ⟨S1348x2048, .f32⟩
  | .hbm, ⟨4, _⟩ => ⟨S1348x2048, .f32⟩
  | .hbm, ⟨5, _⟩ => ⟨S1x1348x2048, .bf16⟩
  | .hbm, ⟨6, _⟩ => ⟨S1348x2048, .bf16⟩
  | .hbm, ⟨7, _⟩ => ⟨S1348x2048, .f32⟩
  | .hbm, ⟨8, _⟩ => ⟨S3x1348x2048, .f32⟩
  | .hbm, ⟨9, _⟩ => ⟨S_, .f32⟩
  | .hbm, ⟨10, _⟩ => ⟨S1348x2048, .f32⟩
  | .hbm, ⟨11, _⟩ => ⟨S1348x2048, .f32⟩
  | .hbm, ⟨12, _⟩ => ⟨S_, .f32⟩
  | .hbm, ⟨13, _⟩ => ⟨S1348x2048, .f32⟩
  | .hbm, ⟨14, _⟩ => ⟨S1348x2048, .f32⟩
  | .hbm, ⟨15, _⟩ => ⟨S_, .f32⟩
  | .hbm, ⟨16, _⟩ => ⟨S1348x2048, .f32⟩
  | .hbm, ⟨17, _⟩ => ⟨S1348x2048, .f32⟩
  | .hbm, ⟨18, _⟩ => ⟨S1348x2048, .f32⟩
  | .hbm, ⟨19, _⟩ => ⟨S_, .f32⟩
  | .hbm, ⟨20, _⟩ => ⟨S1348x2048, .f32⟩
  | .hbm, ⟨21, _⟩ => ⟨S1348x2048, .f32⟩
  | .hbm, ⟨22, _⟩ => ⟨S1348x2048, .f32⟩
  | .hbm, ⟨23, _⟩ => ⟨S_, .f32⟩
  | .hbm, ⟨24, _⟩ => ⟨S1348x2048, .f32⟩
  | .hbm, ⟨25, _⟩ => ⟨S1348x2048, .f32⟩
  | .hbm, ⟨26, _⟩ => ⟨S1348x2048, .f32⟩
  | .hbm, ⟨27, _⟩ => ⟨S_, .f32⟩
  | .hbm, ⟨28, _⟩ => ⟨S1348x2048, .f32⟩
  | .hbm, ⟨29, _⟩ => ⟨S1348x2048, .f32⟩
  | .hbm, ⟨30, _⟩ => ⟨S_, .f32⟩
  | .hbm, ⟨31, _⟩ => ⟨S1348x2048, .f32⟩
  | .hbm, ⟨32, _⟩ => ⟨S1348x2048, .f32⟩
  | .hbm, ⟨33, _⟩ => ⟨S1348x2048, .f32⟩
  | .hbm, ⟨34, _⟩ => ⟨S_, .f32⟩
  | .hbm, ⟨35, _⟩ => ⟨S1348x2048, .f32⟩
  | .hbm, ⟨36, _⟩ => ⟨S1348x2048, .f32⟩
  | .hbm, ⟨37, _⟩ => ⟨S1348x2048, .f32⟩
  | .hbm, ⟨38, _⟩ => ⟨S_, .f32⟩
  | .hbm, ⟨39, _⟩ => ⟨S1348x2048, .f32⟩
  | .hbm, ⟨40, _⟩ => ⟨S1348x2048, .f32⟩
  | .hbm, ⟨41, _⟩ => ⟨S1348x2048, .f32⟩
  | .hbm, ⟨42, _⟩ => ⟨S_, .f32⟩
  | .hbm, ⟨43, _⟩ => ⟨S1348x2048, .f32⟩
  | .hbm, ⟨44, _⟩ => ⟨S1348x2048, .f32⟩
  | _, _ => ⟨S3x1348x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamFfn.lean ====
abbrev S3x704x2048 : Shape := ⟨3, ![3, 704, 2048]⟩
abbrev S4x704x2048 : Shape := ⟨3, ![4, 704, 2048]⟩
abbrev S704x2048 : Shape := ⟨2, ![704, 2048]⟩
abbrev S_ : Shape := ⟨0, ![]⟩
abbrev S1 : Shape := ⟨1, ![1]⟩
abbrev S3x176x2048 : Shape := ⟨3, ![3, 176, 2048]⟩
abbrev S1x176x2048 : Shape := ⟨3, ![1, 176, 2048]⟩
abbrev S176x2048 : Shape := ⟨2, ![176, 2048]⟩

abbrev nBuf : Space → Nat
  | .hbm => 10
  | .vmem => 18
  | .smem => 1
  | _ => 0

abbrev bufTy : (tb : Table) → Fin (tcTables nBuf tb) → BufTy
  | .hbm, ⟨0, _⟩ => ⟨S3x704x2048, .bf16⟩
  | .hbm, ⟨1, _⟩ => ⟨S4x704x2048, .bf16⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S_, .i32⟩
  | .hbm, ⟨6, _⟩ => ⟨S704x2048, .f32⟩
  | .hbm, ⟨7, _⟩ => ⟨S704x2048, .f32⟩
  | .hbm, ⟨8, _⟩ => ⟨S704x2048, .f32⟩
  | .hbm, ⟨9, _⟩ => ⟨S704x2048, .f32⟩
  | .local _ .vmem, ⟨0, _⟩ => ⟨S3x176x2048, .bf16⟩
  | .local _ .vmem, ⟨1, _⟩ => ⟨S3x176x2048, .bf16⟩
  | .local _ .vmem, ⟨2, _⟩ => ⟨S1x176x2048, .bf16⟩
  | .local _ .vmem, ⟨3, _⟩ => ⟨S1x176x2048, .bf16⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | .local _ .smem, ⟨0, _⟩ => ⟨S1, .i32⟩
  | _, _ => ⟨S3x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S3x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfnIdeal.lean ====
abbrev S3x704x2048 : Shape := ⟨3, ![3, 704, 2048]⟩
abbrev S4x704x2048 : Shape := ⟨3, ![4, 704, 2048]⟩
abbrev S704x2048 : Shape := ⟨2, ![704, 2048]⟩
abbrev S_ : Shape := ⟨0, ![]⟩
abbrev S1 : Shape := ⟨1, ![1]⟩
abbrev S3x176x2048 : Shape := ⟨3, ![3, 176, 2048]⟩
abbrev S1x176x2048 : Shape := ⟨3, ![1, 176, 2048]⟩
abbrev S176x2048 : Shape := ⟨2, ![176, 2048]⟩

abbrev nBuf : Space → Nat
  | .hbm => 10
  | .vmem => 18
  | .smem => 1
  | _ => 0

abbrev bufTy : (tb : Table) → Fin (tcTables nBuf tb) → BufTy
  | .hbm, ⟨0, _⟩ => ⟨S3x704x2048, .bf16⟩
  | .hbm, ⟨1, _⟩ => ⟨S4x704x2048, .bf16⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S_, .i32⟩
  | .hbm, ⟨6, _⟩ => ⟨S704x2048, .f32⟩
  | .hbm, ⟨7, _⟩ => ⟨S704x2048, .f32⟩
  | .hbm, ⟨8, _⟩ => ⟨S704x2048, .f32⟩
  | .hbm, ⟨9, _⟩ => ⟨S704x2048, .f32⟩
  | .local _ .vmem, ⟨0, _⟩ => ⟨S3x176x2048, .bf16⟩
  | .local _ .vmem, ⟨1, _⟩ => ⟨S3x176x2048, .bf16⟩
  | .local _ .vmem, ⟨2, _⟩ => ⟨S1x176x2048, .bf16⟩
  | .local _ .vmem, ⟨3, _⟩ => ⟨S1x176x2048, .bf16⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | .local _ .smem, ⟨0, _⟩ => ⟨S1, .i32⟩
  | _, _ => ⟨S3x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S3x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfnRefIdeal.lean ====
abbrev S3x704x2048 : Shape := ⟨3, ![3, 704, 2048]⟩
abbrev S4x704x2048 : Shape := ⟨3, ![4, 704, 2048]⟩
abbrev S704x2048 : Shape := ⟨2, ![704, 2048]⟩
abbrev S1x704x2048 : Shape := ⟨3, ![1, 704, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S3x704x2048, .bf16⟩
  | .hbm, ⟨1, _⟩ => ⟨S4x704x2048, .bf16⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S1x704x2048, .bf16⟩
  | .hbm, ⟨6, _⟩ => ⟨S704x2048, .bf16⟩
  | .hbm, ⟨7, _⟩ => ⟨S704x2048, .f32⟩
  | .hbm, ⟨8, _⟩ => ⟨S3x704x2048, .f32⟩
  | .hbm, ⟨9, _⟩ => ⟨S_, .f32⟩
  | .hbm, ⟨10, _⟩ => ⟨S704x2048, .f32⟩
  | .hbm, ⟨11, _⟩ => ⟨S704x2048, .f32⟩
  | .hbm, ⟨12, _⟩ => ⟨S_, .f32⟩
  | .hbm, ⟨13, _⟩ => ⟨S704x2048, .f32⟩
  | .hbm, ⟨14, _⟩ => ⟨S704x2048, .f32⟩
  | .hbm, ⟨15, _⟩ => ⟨S_, .f32⟩
  | .hbm, ⟨16, _⟩ => ⟨S704x2048, .f32⟩
  | .hbm, ⟨17, _⟩ => ⟨S704x2048, .f32⟩
  | .hbm, ⟨18, _⟩ => ⟨S704x2048, .f32⟩
  | .hbm, ⟨19, _⟩ => ⟨S_, .f32⟩
  | .hbm, ⟨20, _⟩ => ⟨S704x2048, .f32⟩
  | .hbm, ⟨21, _⟩ => ⟨S704x2048, .f32⟩
  | .hbm, ⟨22, _⟩ => ⟨S704x2048, .f32⟩
  | .hbm, ⟨23, _⟩ => ⟨S_, .f32⟩
  | .hbm, ⟨24, _⟩ => ⟨S704x2048, .f32⟩
  | .hbm, ⟨25, _⟩ => ⟨S704x2048, .f32⟩
  | .hbm, ⟨26, _⟩ => ⟨S704x2048, .f32⟩
  | .hbm, ⟨27, _⟩ => ⟨S_, .f32⟩
  | .hbm, ⟨28, _⟩ => ⟨S704x2048, .f32⟩
  | .hbm, ⟨29, _⟩ => ⟨S704x2048, .f32⟩
  | .hbm, ⟨30, _⟩ => ⟨S_, .f32⟩
  | .hbm, ⟨31, _⟩ => ⟨S704x2048, .f32⟩
  | .hbm, ⟨32, _⟩ => ⟨S704x2048, .f32⟩
  | .hbm, ⟨33, _⟩ => ⟨S704x2048, .f32⟩
  | .hbm, ⟨34, _⟩ => ⟨S_, .f32⟩
  | .hbm, ⟨35, _⟩ => ⟨S704x2048, .f32⟩
  | .hbm, ⟨36, _⟩ => ⟨S704x2048, .f32⟩
  | .hbm, ⟨37, _⟩ => ⟨S704x2048, .f32⟩
  | .hbm, ⟨38, _⟩ => ⟨S_, .f32⟩
  | .hbm, ⟨39, _⟩ => ⟨S704x2048, .f32⟩
  | .hbm, ⟨40, _⟩ => ⟨S704x2048, .f32⟩
  | .hbm, ⟨41, _⟩ => ⟨S704x2048, .f32⟩
  | .hbm, ⟨42, _⟩ => ⟨S_, .f32⟩
  | .hbm, ⟨43, _⟩ => ⟨S704x2048, .f32⟩
  | .hbm, ⟨44, _⟩ => ⟨S704x2048, .f32⟩
  | _, _ => ⟨S3x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamSquare.lean ====
abbrev S7x256x2048 : Shape := ⟨3, ![7, 256, 2048]⟩
abbrev S8x256x2048 : Shape := ⟨3, ![8, 256, 2048]⟩
abbrev S256x2048 : Shape := ⟨2, ![256, 2048]⟩
abbrev S_ : Shape := ⟨0, ![]⟩
abbrev S1 : Shape := ⟨1, ![1]⟩
abbrev S7x128x2048 : Shape := ⟨3, ![7, 128, 2048]⟩
abbrev S1x128x2048 : Shape := ⟨3, ![1, 128, 2048]⟩
abbrev S128x2048 : Shape := ⟨2, ![128, 2048]⟩

abbrev nBuf : Space → Nat
  | .hbm => 10
  | .vmem => 18
  | .smem => 1
  | _ => 0

abbrev bufTy : (tb : Table) → Fin (tcTables nBuf tb) → BufTy
  | .hbm, ⟨0, _⟩ => ⟨S7x256x2048, .bf16⟩
  | .hbm, ⟨1, _⟩ => ⟨S8x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S_, .i32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .local _ .vmem, ⟨0, _⟩ => ⟨S7x128x2048, .bf16⟩
  | .local _ .vmem, ⟨1, _⟩ => ⟨S7x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S7x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S7x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamSquareIdeal.lean ====
abbrev S7x256x2048 : Shape := ⟨3, ![7, 256, 2048]⟩
abbrev S8x256x2048 : Shape := ⟨3, ![8, 256, 2048]⟩
abbrev S256x2048 : Shape := ⟨2, ![256, 2048]⟩
abbrev S_ : Shape := ⟨0, ![]⟩
abbrev S1 : Shape := ⟨1, ![1]⟩
abbrev S7x128x2048 : Shape := ⟨3, ![7, 128, 2048]⟩
abbrev S1x128x2048 : Shape := ⟨3, ![1, 128, 2048]⟩
abbrev S128x2048 : Shape := ⟨2, ![128, 2048]⟩

abbrev nBuf : Space → Nat
  | .hbm => 10
  | .vmem => 18
  | .smem => 1
  | _ => 0

abbrev bufTy : (tb : Table) → Fin (tcTables nBuf tb) → BufTy
  | .hbm, ⟨0, _⟩ => ⟨S7x256x2048, .bf16⟩
  | .hbm, ⟨1, _⟩ => ⟨S8x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S_, .i32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .local _ .vmem, ⟨0, _⟩ => ⟨S7x128x2048, .bf16⟩
  | .local _ .vmem, ⟨1, _⟩ => ⟨S7x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S7x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S7x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamSquareRefIdeal.lean ====
abbrev S7x256x2048 : Shape := ⟨3, ![7, 256, 2048]⟩
abbrev S8x256x2048 : Shape := ⟨3, ![8, 256, 2048]⟩
abbrev S256x2048 : Shape := ⟨2, ![256, 2048]⟩
abbrev S1x256x2048 : Shape := ⟨3, ![1, 256, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S7x256x2048, .bf16⟩
  | .hbm, ⟨1, _⟩ => ⟨S8x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S1x256x2048, .bf16⟩
  | .hbm, ⟨6, _⟩ => ⟨S256x2048, .bf16⟩
  | .hbm, ⟨7, _⟩ => ⟨S256x2048, .f32⟩
  | .hbm, ⟨8, _⟩ => ⟨S7x256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S_, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | _, _ => ⟨S7x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamAttnBr.lean ====
abbrev S7x1024x256 : Shape := ⟨3, ![7, 1024, 256]⟩
abbrev S8x1024x256 : Shape := ⟨3, ![8, 1024, 256]⟩
abbrev S1024x256 : Shape := ⟨2, ![1024, 256]⟩
abbrev S_ : Shape := ⟨0, ![]⟩
abbrev S1 : Shape := ⟨1, ![1]⟩
abbrev S7x256x256 : Shape := ⟨3, ![7, 256, 256]⟩
abbrev S1x256x256 : Shape := ⟨3, ![1, 256, 256]⟩
abbrev S256x256 : Shape := ⟨2, ![256, 256]⟩

abbrev nBuf : Space → Nat
  | .hbm => 10
  | .vmem => 18
  | .smem => 1
  | _ => 0

abbrev bufTy : (tb : Table) → Fin (tcTables nBuf tb) → BufTy
  | .hbm, ⟨0, _⟩ => ⟨S7x1024x256, .bf16⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S_, .i32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .local _ .vmem, ⟨0, _⟩ => ⟨S7x256x256, .bf16⟩
  | .local _ .vmem, ⟨1, _⟩ => ⟨S7x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .smem, ⟨0, _⟩ => ⟨S1, .i32⟩
  | _, _ => ⟨S7x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S7x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamAttnBrIdeal.lean ====
abbrev S7x1024x256 : Shape := ⟨3, ![7, 1024, 256]⟩
abbrev S8x1024x256 : Shape := ⟨3, ![8, 1024, 256]⟩
abbrev S1024x256 : Shape := ⟨2, ![1024, 256]⟩
abbrev S_ : Shape := ⟨0, ![]⟩
abbrev S1 : Shape := ⟨1, ![1]⟩
abbrev S7x256x256 : Shape := ⟨3, ![7, 256, 256]⟩
abbrev S1x256x256 : Shape := ⟨3, ![1, 256, 256]⟩
abbrev S256x256 : Shape := ⟨2, ![256, 256]⟩

abbrev nBuf : Space → Nat
  | .hbm => 10
  | .vmem => 18
  | .smem => 1
  | _ => 0

abbrev bufTy : (tb : Table) → Fin (tcTables nBuf tb) → BufTy
  | .hbm, ⟨0, _⟩ => ⟨S7x1024x256, .bf16⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S_, .i32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .local _ .vmem, ⟨0, _⟩ => ⟨S7x256x256, .bf16⟩
  | .local _ .vmem, ⟨1, _⟩ => ⟨S7x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .smem, ⟨0, _⟩ => ⟨S1, .i32⟩
  | _, _ => ⟨S7x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S7x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamAttnBrRefIdeal.lean ====
abbrev S7x1024x256 : Shape := ⟨3, ![7, 1024, 256]⟩
abbrev S8x1024x256 : Shape := ⟨3, ![8, 1024, 256]⟩
abbrev S1024x256 : Shape := ⟨2, ![1024, 256]⟩
abbrev S1x1024x256 : Shape := ⟨3, ![1, 1024, 256]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S7x1024x256, .bf16⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1x1024x256, .bf16⟩
  | .hbm, ⟨6, _⟩ => ⟨S1024x256, .bf16⟩
  | .hbm, ⟨7, _⟩ => ⟨S1024x256, .f32⟩
  | .hbm, ⟨8, _⟩ => ⟨S7x1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | _, _ => ⟨S7x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamPle.lean ====
abbrev S7x256x256 : Shape := ⟨3, ![7, 256, 256]⟩
abbrev S8x256x256 : Shape := ⟨3, ![8, 256, 256]⟩
abbrev S256x256 : Shape := ⟨2, ![256, 256]⟩
abbrev S_ : Shape := ⟨0, ![]⟩
abbrev S1 : Shape := ⟨1, ![1]⟩
abbrev S7x128x256 : Shape := ⟨3, ![7, 128, 256]⟩
abbrev S1x128x256 : Shape := ⟨3, ![1, 128, 256]⟩
abbrev S128x256 : Shape := ⟨2, ![128, 256]⟩

abbrev nBuf : Space → Nat
  | .hbm => 10
  | .vmem => 18
  | .smem => 1
  | _ => 0

abbrev bufTy : (tb : Table) → Fin (tcTables nBuf tb) → BufTy
  | .hbm, ⟨0, _⟩ => ⟨S7x256x256, .bf16⟩
  | .hbm, ⟨1, _⟩ => ⟨S8x256x256, .bf16⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S_, .i32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .local _ .vmem, ⟨0, _⟩ => ⟨S7x128x256, .bf16⟩
  | .local _ .vmem, ⟨1, _⟩ => ⟨S7x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .smem, ⟨0, _⟩ => ⟨S1, .i32⟩
  | _, _ => ⟨S7x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S7x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamPleIdeal.lean ====
abbrev S7x256x256 : Shape := ⟨3, ![7, 256, 256]⟩
abbrev S8x256x256 : Shape := ⟨3, ![8, 256, 256]⟩
abbrev S256x256 : Shape := ⟨2, ![256, 256]⟩
abbrev S_ : Shape := ⟨0, ![]⟩
abbrev S1 : Shape := ⟨1, ![1]⟩
abbrev S7x128x256 : Shape := ⟨3, ![7, 128, 256]⟩
abbrev S1x128x256 : Shape := ⟨3, ![1, 128, 256]⟩
abbrev S128x256 : Shape := ⟨2, ![128, 256]⟩

abbrev nBuf : Space → Nat
  | .hbm => 10
  | .vmem => 18
  | .smem => 1
  | _ => 0

abbrev bufTy : (tb : Table) → Fin (tcTables nBuf tb) → BufTy
  | .hbm, ⟨0, _⟩ => ⟨S7x256x256, .bf16⟩
  | .hbm, ⟨1, _⟩ => ⟨S8x256x256, .bf16⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S_, .i32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .local _ .vmem, ⟨0, _⟩ => ⟨S7x128x256, .bf16⟩
  | .local _ .vmem, ⟨1, _⟩ => ⟨S7x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .smem, ⟨0, _⟩ => ⟨S1, .i32⟩
  | _, _ => ⟨S7x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S7x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamPleRefIdeal.lean ====
abbrev S7x256x256 : Shape := ⟨3, ![7, 256, 256]⟩
abbrev S8x256x256 : Shape := ⟨3, ![8, 256, 256]⟩
abbrev S256x256 : Shape := ⟨2, ![256, 256]⟩
abbrev S1x256x256 : Shape := ⟨3, ![1, 256, 256]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S7x256x256, .bf16⟩
  | .hbm, ⟨1, _⟩ => ⟨S8x256x256, .bf16⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S1x256x256, .bf16⟩
  | .hbm, ⟨6, _⟩ => ⟨S256x256, .bf16⟩
  | .hbm, ⟨7, _⟩ => ⟨S256x256, .f32⟩
  | .hbm, ⟨8, _⟩ => ⟨S7x256x256, .f32⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S_, .f32⟩
  | .hbm, ⟨43, _⟩ => ⟨S256x256, .f32⟩
  | .hbm, ⟨44, _⟩ => ⟨S256x256, .f32⟩
  | _, _ => ⟨S7x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamConv.lean ====
abbrev S7x4x384 : Shape := ⟨3, ![7, 4, 384]⟩
abbrev S8x4x384 : Shape := ⟨3, ![8, 4, 384]⟩
abbrev S4x384 : Shape := ⟨2, ![4, 384]⟩
abbrev S_ : Shape := ⟨0, ![]⟩
abbrev S1 : Shape := ⟨1, ![1]⟩
abbrev S1x4x384 : Shape := ⟨3, ![1, 4, 384]⟩

abbrev nBuf : Space → Nat
  | .hbm => 10
  | .vmem => 9
  | .smem => 1
  | _ => 0

abbrev bufTy : (tb : Table) → Fin (tcTables nBuf tb) → BufTy
  | .hbm, ⟨0, _⟩ => ⟨S7x4x384, .f32⟩
  | .hbm, ⟨1, _⟩ => ⟨S8x4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S_, .i32⟩
  | .hbm, ⟨6, _⟩ => ⟨S4x384, .f32⟩
  | .hbm, ⟨7, _⟩ => ⟨S4x384, .f32⟩
  | .hbm, ⟨8, _⟩ => ⟨S4x384, .f32⟩
  | .hbm, ⟨9, _⟩ => ⟨S4x384, .f32⟩
  | .local _ .vmem, ⟨0, _⟩ => ⟨S7x4x384, .f32⟩
  | .local _ .vmem, ⟨1, _⟩ => ⟨S1x4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | .local _ .vmem, ⟨8, _⟩ => ⟨S4x384, .f32⟩
  | .local _ .smem, ⟨0, _⟩ => ⟨S1, .i32⟩
  | _, _ => ⟨S7x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S7x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S4x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamConvRefIdeal.lean ====
abbrev S7x4x384 : Shape := ⟨3, ![7, 4, 384]⟩
abbrev S8x4x384 : Shape := ⟨3, ![8, 4, 384]⟩
abbrev S4x384 : Shape := ⟨2, ![4, 384]⟩
abbrev S1x4x384 : Shape := ⟨3, ![1, 4, 384]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S7x4x384, .f32⟩
  | .hbm, ⟨1, _⟩ => ⟨S8x4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S1x4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S_, .f32⟩
  | .hbm, ⟨11, _⟩ => ⟨S4x384, .f32⟩
  | .hbm, ⟨12, _⟩ => ⟨S4x384, .f32⟩
  | .hbm, ⟨13, _⟩ => ⟨S_, .f32⟩
  | .hbm, ⟨14, _⟩ => ⟨S4x384, .f32⟩
  | .hbm, ⟨15, _⟩ => ⟨S4x384, .f32⟩
  | .hbm, ⟨16, _⟩ => ⟨S4x384, .f32⟩
  | .hbm, ⟨17, _⟩ => ⟨S_, .f32⟩
  | .hbm, ⟨18, _⟩ => ⟨S4x384, .f32⟩
  | .hbm, ⟨19, _⟩ => ⟨S4x384, .f32⟩
  | .hbm, ⟨20, _⟩ => ⟨S4x384, .f32⟩
  | .hbm, ⟨21, _⟩ => ⟨S_, .f32⟩
  | .hbm, ⟨22, _⟩ => ⟨S4x384, .f32⟩
  | .hbm, ⟨23, _⟩ => ⟨S4x384, .f32⟩
  | .hbm, ⟨24, _⟩ => ⟨S4x384, .f32⟩
  | .hbm, ⟨25, _⟩ => ⟨S_, .f32⟩
  | .hbm, ⟨26, _⟩ => ⟨S4x384, .f32⟩
  | .hbm, ⟨27, _⟩ => ⟨S4x384, .f32⟩
  | .hbm, ⟨28, _⟩ => ⟨S_, .f32⟩
  | .hbm, ⟨29, _⟩ => ⟨S4x384, .f32⟩
  | .hbm, ⟨30, _⟩ => ⟨S4x384, .f32⟩
  | .hbm, ⟨31, _⟩ => ⟨S4x384, .f32⟩
  | .hbm, ⟨32, _⟩ => ⟨S_, .f32⟩
  | .hbm, ⟨33, _⟩ => ⟨S4x384, .f32⟩
  | .hbm, ⟨34, _⟩ => ⟨S4x384, .f32⟩
  | .hbm, ⟨35, _⟩ => ⟨S4x384, .f32⟩
  | .hbm, ⟨36, _⟩ => ⟨S_, .f32⟩
  | .hbm, ⟨37, _⟩ => ⟨S4x384, .f32⟩
  | .hbm, ⟨38, _⟩ => ⟨S4x384, .f32⟩
  | .hbm, ⟨39, _⟩ => ⟨S4x384, .f32⟩
  | .hbm, ⟨40, _⟩ => ⟨S_, .f32⟩
  | .hbm, ⟨41, _⟩ => ⟨S4x384, .f32⟩
  | .hbm, ⟨42, _⟩ => ⟨S4x384, .f32⟩
  | _, _ => ⟨S7x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamSmall.lean ====
abbrev S8x1x13952 : Shape := ⟨3, ![8, 1, 13952]⟩
abbrev S1x13952 : Shape := ⟨2, ![1, 13952]⟩
abbrev S1x1x13952 : Shape := ⟨3, ![1, 1, 13952]⟩

abbrev nBuf : Space → Nat
  | .hbm => 8
  | .vmem => 8
  | .smem => 0
  | _ => 0

abbrev bufTy : (tb : Table) → Fin (tcTables nBuf tb) → BufTy
  | .hbm, ⟨0, _⟩ => ⟨S8x1x13952, .f32⟩
  | .hbm, ⟨1, _⟩ => ⟨S1x13952, .f32⟩
  | .hbm, ⟨2, _⟩ => ⟨S1x13952, .f32⟩
  | .hbm, ⟨3, _⟩ => ⟨S1x13952, .f32⟩
  | .hbm, ⟨4, _⟩ => ⟨S1x13952, .f32⟩
  | .hbm, ⟨5, _⟩ => ⟨S1x13952, .f32⟩
  | .hbm, ⟨6, _⟩ => ⟨S1x13952, .f32⟩
  | .hbm, ⟨7, _⟩ => ⟨S1x13952, .f32⟩
  | .local _ .vmem, ⟨0, _⟩ => ⟨S8x1x13952, .f32⟩
  | .local _ .vmem, ⟨1, _⟩ => ⟨S1x13952, .f32⟩
  | .local _ .vmem, ⟨2, _⟩ => ⟨S1x13952, .f32⟩
  | .local _ .vmem, ⟨3, _⟩ => ⟨S1x13952, .f32⟩
  | .local _ .vmem, ⟨4, _⟩ => ⟨S1x13952, .f32⟩
  | .local _ .vmem, ⟨5, _⟩ => ⟨S1x13952, .f32⟩
  | .local _ .vmem, ⟨6, _⟩ => ⟨S1x13952, .f32⟩
  | .local _ .vmem, ⟨7, _⟩ => ⟨S1x13952, .f32⟩
  | _, _ => ⟨S8x1x13952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x1x13952 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x13952 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x13952 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x13952 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x13952 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x13952 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x13952 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x13952 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSmallRefIdeal.lean ====
abbrev S8x1x13952 : Shape := ⟨3, ![8, 1, 13952]⟩
abbrev S1x13952 : Shape := ⟨2, ![1, 13952]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x13952, .f32⟩
  | .hbm, ⟨1, _⟩ => ⟨S1x13952, .f32⟩
  | .hbm, ⟨2, _⟩ => ⟨S1x13952, .f32⟩
  | .hbm, ⟨3, _⟩ => ⟨S1x13952, .f32⟩
  | .hbm, ⟨4, _⟩ => ⟨S_, .f32⟩
  | .hbm, ⟨5, _⟩ => ⟨S1x13952, .f32⟩
  | .hbm, ⟨6, _⟩ => ⟨S_, .f32⟩
  | .hbm, ⟨7, _⟩ => ⟨S1x13952, .f32⟩
  | .hbm, ⟨8, _⟩ => ⟨S1x13952, .f32⟩
  | .hbm, ⟨9, _⟩ => ⟨S_, .f32⟩
  | .hbm, ⟨10, _⟩ => ⟨S1x13952, .f32⟩
  | .hbm, ⟨11, _⟩ => ⟨S1x13952, .f32⟩
  | .hbm, ⟨12, _⟩ => ⟨S1x13952, .f32⟩
  | .hbm, ⟨13, _⟩ => ⟨S_, .f32⟩
  | .hbm, ⟨14, _⟩ => ⟨S1x13952, .f32⟩
  | .hbm, ⟨15, _⟩ => ⟨S1x13952, .f32⟩
  | .hbm, ⟨16, _⟩ => ⟨S1x13952, .f32⟩
  | .hbm, ⟨17, _⟩ => ⟨S_, .f32⟩
  | .hbm, ⟨18, _⟩ => ⟨S1x13952, .f32⟩
  | .hbm, ⟨19, _⟩ => ⟨S1x13952, .f32⟩
  | .hbm, ⟨20, _⟩ => ⟨S1x13952, .f32⟩
  | .hbm, ⟨21, _⟩ => ⟨S_, .f32⟩
  | .hbm, ⟨22, _⟩ => ⟨S1x13952, .f32⟩
  | .hbm, ⟨23, _⟩ => ⟨S1x13952, .f32⟩
  | .hbm, ⟨24, _⟩ => ⟨S_, .f32⟩
  | .hbm, ⟨25, _⟩ => ⟨S1x13952, .f32⟩
  | .hbm, ⟨26, _⟩ => ⟨S1x13952, .f32⟩
  | .hbm, ⟨27, _⟩ => ⟨S1x13952, .f32⟩
  | .hbm, ⟨28, _⟩ => ⟨S_, .f32⟩
  | .hbm, ⟨29, _⟩ => ⟨S1x13952, .f32⟩
  | .hbm, ⟨30, _⟩ => ⟨S1x13952, .f32⟩
  | .hbm, ⟨31, _⟩ => ⟨S1x13952, .f32⟩
  | .hbm, ⟨32, _⟩ => ⟨S_, .f32⟩
  | .hbm, ⟨33, _⟩ => ⟨S1x13952, .f32⟩
  | .hbm, ⟨34, _⟩ => ⟨S1x13952, .f32⟩
  | .hbm, ⟨35, _⟩ => ⟨S1x13952, .f32⟩
  | .hbm, ⟨36, _⟩ => ⟨S_, .f32⟩
  | .hbm, ⟨37, _⟩ => ⟨S1x13952, .f32⟩
  | .hbm, ⟨38, _⟩ => ⟨S1x13952, .f32⟩
  | _, _ => ⟨S8x1x13952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Reals.lean ====
/-
  Extended reals that are real numbers: sums and products of them are, and the identities of the reals then hold.
-/
module

public import Idealize.ShloMosaic.PureOps.Ideal
public import Idealize.ShloMosaic.PureOps.Ideal.Laws
public import Idealize.ShloMosaic.Lib.ReduceAll
public import Idealize.ShloMosaic.Lib.Affine

@[expose] public section

namespace Cert.Reals

open Idealize.ShloMosaic

/-- `x` is a real number, neither of the two infinities. -/
def IsReal (x : EReal) : Prop := ∃ r : ℝ, x = (r : EReal)

theorem IsReal.coe (r : ℝ) : IsReal (r : EReal) := ⟨r, rfl⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sum {ι : Type*} (s : Finset ι) {f : ι → EReal} (h : ∀ i ∈ s, IsReal (f i)) : IsReal (∑ i ∈ s, f i) :=
  Finset.sum_induction f IsReal (fun _ _ => IsReal.add) ⟨0, EReal.coe_zero.symm⟩ h

theorem isReal_of_ne {x : EReal} (h₁ : x ≠ ⊥) (h₂ : x ≠ ⊤) : IsReal x := ⟨x.toReal, (EReal.coe_toReal h₂ h₁).symm⟩

/-- The test `|x| < ∞` succeeds on the real numbers alone. -/
theorem isReal_of_abs_lt {x : EReal}
    (h : FloatOps.cmpf (F := Ideal) (φ := .f32) .olt (FloatOps.hostAbsf (F := Ideal) (φ := .f32) x) (Scalar.ofBits (F := Ideal) .f32 0x7F800000#32) = 1#1) : IsReal x := by
  have e : (Scalar.ofBits (F := Ideal) .f32 0x7F800000#32 : EReal) = ⊤ := by
    first | rfl | (show Ideal.ofBits .f32 0x7F800000#32 = ⊤; simp [Ideal.ofBits, Ideal.ieee])
  rw [e] at h
  have h' : Ideal.cmp .olt (max x (-x)) ⊤ = 1#1 := h
  refine isReal_of_ne ?_ ?_ <;> rintro rfl <;> revert h' <;> simp [Ideal.cmp]

/-- The derivative of `g σ(g)`, multiplied out in two ways, at a real cotangent `r`. -/
theorem silu_grad {r : EReal} (hr : IsReal r) (g : EReal) :
    r * (Ideal.div 1 (1 + Ideal.exp (-g)) * (1 + g * (1 - Ideal.div 1 (1 + Ideal.exp (-g)))))
      = r * Ideal.div 1 (1 + Ideal.exp (-g)) + g * r * (Ideal.div 1 (1 + Ideal.exp (-g)) * (1 - Ideal.div 1 (1 + Ideal.exp (-g)))) := by
  obtain ⟨r, rfl⟩ := hr
  have key : ∀ g : EReal, Ideal.div 1 (1 + Ideal.exp (-g)) = Ideal.logistic g := fun _ => rfl
  rw [key]
  have e1 : (1 : EReal) - 1 = 0 := by rw [← EReal.coe_one, ← EReal.coe_sub, sub_self, EReal.coe_zero]
  induction g using EReal.rec with
  | bot => simp
  | top => simp [e1]
  | coe g =>
    rw [Ideal.logistic_coe, ← EReal.coe_one]
    simp only [← EReal.coe_mul, ← EReal.coe_add, ← EReal.coe_sub]
    exact congrArg _ (by ring)

end Cert.Reals
end
-- ==== Proof.FfnValue.lean ====
/-
  The gradient of the feed-forward block through its second product: what the kernel's two result arrays hold after
  the run, over the reals extended by the two infinities, is what the reference computes.

  The kernel walks the (2048, 5632) results in (1024, 512) tiles. A tile takes its rows of the incoming gradient and its
  rows of the second weight matrix whole, so that a tile's product is a tile of the one large product; the gate's
  derivative is then applied to it element by element. The kernel writes that derivative as
  `ct · u · (σ (1 + g (1 - σ)))` and the reference, which is the transposed derivative of `g σ(g) u`, as
  `(ct · u) σ + (g (ct · u)) (σ (1 - σ))`. The two are equal where `ct · u` is a real number.
-/
module

public import proofs.«01_k».proof.Proof.Gen.KernelIdeal.Frame
public import proofs.«01_k».proof.Proof.Gen.ReferenceIdeal.Read
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnValue

open Cert.KernelIdeal Cert.KernelIdeal.Gen Cert.Reals
open Cert.ReferenceIdeal.Read (val_main_call0_cst val_main_call0_cst_0 val_main_call0_cst_1 val_main_call0_v0 val_main_call0_v1 val_main_call0_v2 val_main_call0_v3 val_main_call0_v4 val_main_call0_v6 val_main_call0_v7 val_main_call1_v0 val_main_call1_v1 val_main_call1_v2 val_main_v0 val_main_v1 val_main_v10 val_main_v11 val_main_v12 val_main_v2 val_main_v3 val_main_v4_0 val_main_v4_1 val_main_v4_2 val_main_v7 val_main_v8 val_main_v9)

variable (m : (ℓ : Loc nD τ sig) → Buf (Elt Ideal) ℓ)

/-- The reference's two results as functions of the four arguments. -/
abbrev refG (x0 : FVec Ideal S2048x2048 .bf16) (x1 : FVec Ideal S5632x2048 .bf16) (x2 x3 : FVec Ideal S2048x5632 .bf16) : FVec Ideal S2048x5632 .bf16 :=
  Cert.ReferenceIdeal.Read.val_main_v11 (F := Ideal) x0 x1 x2 x3
abbrev refU (x0 : FVec Ideal S2048x2048 .bf16) (x1 : FVec Ideal S5632x2048 .bf16) (x2 : FVec Ideal S2048x5632 .bf16) : FVec Ideal S2048x5632 .bf16 :=
  Cert.ReferenceIdeal.Read.val_main_v12 (F := Ideal) x0 x1 x2

/-- The windows' block indices at every point of the grid. -/
theorem idx : ∀ t : Fin cfg0.N, win0_0.index t = ![(grid0.coords t 0).val, 0] ∧ win0_1.index t = ![(grid0.coords t 1).val, 0]
    ∧ win0_2.index t = ![(grid0.coords t 0).val, (grid0.coords t 1).val] ∧ win0_3.index t = ![(grid0.coords t 0).val, (grid0.coords t 1).val]
    ∧ win0_4.index t = ![(grid0.coords t 0).val, (grid0.coords t 1).val] ∧ win0_5.index t = ![(grid0.coords t 0).val, (grid0.coords t 1).val] :=
  (by decide +kernel : ∀ t : Fin grid0.N, _)

/-- A tile of the second result. -/
theorem pointU (c : Dev nD) (t : Fin cfg0.N) (y) : k0_pay4 (iblk m c 0 t) (iblk m c 1 t) (iblk m c 2 t) y
    = refU (m ((c : Thread nD τ).loc main_arg0)) (m ((c : Thread nD τ).loc main_arg1)) (m ((c : Thread nD τ).loc main_arg2)) (((cfg0.win 5).blk t).view.emb y) := by
  pointwise [k0_pay4, k0_pay1, k0_pay2, refU, val_main_v12, val_main_v8, val_main_v4_0, val_main_v7, val_main_v4_2, val_main_v0, val_main_v1, val_main_v2, val_main_call0_v4, val_main_call0_v3, val_main_call0_v2, val_main_call0_v1, val_main_call0_v0, val_main_call0_cst, val_main_call0_cst_0]
  simp only [zero_sub]
  blk_point [iblk, V, idx t]

/-- A tile of the first result, where the incoming gradient, the weights and `u` are real. -/
theorem pointG (c : Dev nD) (t : Fin cfg0.N) (y)
    (h0 : ∀ i : S2048x2048.Idx, IsReal (m ((c : Thread nD τ).loc main_arg0) i)) (h1 : ∀ i : S5632x2048.Idx, IsReal (m ((c : Thread nD τ).loc main_arg1) i))
    (h3 : ∀ i : S2048x5632.Idx, IsReal (m ((c : Thread nD τ).loc main_arg3) i)) : k0_pay3 (iblk m c 0 t) (iblk m c 1 t) (iblk m c 2 t) (iblk m c 3 t) y
    = refG (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay3, k0_pay1, k0_pay2, refG, val_main_v11, val_main_v10, val_main_call1_v1, val_main_call1_v2, val_main_call1_v0, val_main_v9, val_main_v4_1, val_main_v3, val_main_call0_v7, val_main_call0_v6, val_main_call0_cst_1, val_main_v4_0, val_main_v7, val_main_v4_2, val_main_v0, val_main_v1, val_main_v2, val_main_call0_v4, val_main_call0_v3, val_main_call0_v2, val_main_call0_v1, val_main_call0_v0, val_main_call0_cst, val_main_call0_cst_0]
  simp only [zero_sub]
  rw [← silu_grad ((IsReal.sum _ fun k _ => (h0 _).mul (h1 _)).mul (h3 _))]
  blk_point [iblk, V, idx t]

theorem finalU (c : Dev nD) : (dats m 0 c).arrAt 5 (cfgs 0).N
    = refU (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact pointU m c t y

theorem finalG (c : Dev nD)
    (h0 : ∀ i : S2048x2048.Idx, IsReal (m ((c : Thread nD τ).loc main_arg0) i)) (h1 : ∀ i : S5632x2048.Idx, IsReal (m ((c : Thread nD τ).loc main_arg1) i))
    (h3 : ∀ i : S2048x5632.Idx, IsReal (m ((c : Thread nD τ).loc main_arg3) i)) : (dats m 0 c).arrAt 4 (cfgs 0).N
    = refG (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact pointG m c t y h0 h1 h3

end Cert.FfnValue
end
-- ==== Proof.FfnClaim.lean ====
/-
  The claims about the feed-forward block's gradient: the two programs' frames, and the agreement of their results where
  the incoming gradient, the weights and `u` are real numbers.
-/
module

public import proofs.«01_k».proof.Defs
public import proofs.«01_k».proof.Proof.FfnValue
public import proofs.«01_k».proof.Proof.Gen.Kernel.Frame
public import proofs.«01_k».proof.Proof.Gen.Pre_finite
public import Idealize.ShloMosaic.Lib.Claim
public import Idealize.ShloMosaic.Lib.Quiescent

@[expose] public section

set_option maxRecDepth 16384

noncomputable section

namespace Cert.FfnClaim

open Idealize.ShloMosaic Idealize.ShloMosaic.TcCoe Idealize.SL.Sem Cert.Reals

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite := fun m ρ _ => Cert.KernelIdeal.Gen.frame m ρ
theorem frame_ref : Cert.quiescent_ReferenceIdeal := by
  intro m g _
  refine θ_run_mono (Cert.ReferenceIdeal.Value.run m g) fun r h => ⟨fun c => (h c).2.2, sem_eq_zero_of_no_sems (by decide) r.2⟩
theorem frame_ref_pre : Cert.quiescent_ReferenceIdeal_pre_finite := fun m ρ _ => frame_ref m ρ trivial

/-- The precondition, read at the elements of the three arrays it speaks of. -/
theorem real_of_pre {x0 : FVec Ideal Cert.Pre_finite.S2048x2048 .bf16} {x1 : FVec Ideal Cert.Pre_finite.S5632x2048 .bf16}
    {x2 x3 : FVec Ideal Cert.Pre_finite.S2048x5632 .bf16} (h : Cert.Pre_finite.fn (F := Ideal) x0 x1 x2 x3 = fun _ => 1#1) :
    (∀ i, IsReal (x0 i)) ∧ (∀ i, IsReal (x1 i)) ∧ (∀ i, IsReal (x3 i)) := by
  have h0 := congrFun h default
  dsimp only [Cert.Pre_finite.fn] at h0
  obtain ⟨h01, h3⟩ := IntOp.andi_eq_one.1 h0
  obtain ⟨h0, h1⟩ := IntOp.andi_eq_one.1 h01
  exact ⟨fun i => isReal_of_abs_lt (Host.reduce_andi_all _ _ _ _ _ h0 i), fun i => isReal_of_abs_lt (Host.reduce_andi_all _ _ _ _ _ h1 i),
    fun i => isReal_of_abs_lt (Host.reduce_andi_all _ _ _ _ _ h3 i)⟩

theorem algebraic : Cert.algebraic_KernelIdeal_ReferenceIdeal_pre_finite := by
  pair_intro
  · run_from Cert.KernelIdeal.Gen.run_main m g
  · run_from Cert.ReferenceIdeal.Value.run m' g'
    · exact (Cert.FfnValue.finalG m c (real_of_pre (hpre c)).1 (real_of_pre (hpre c)).2.1 (real_of_pre (hpre c)).2.2).symm
    · exact (Cert.FfnValue.finalU m c).symm

end Cert.FfnClaim
end
-- ==== Proof.AttnRunA.lean ====
/- The attention gradient's kernel body at the first grid point: what its stores leave, found by running it. -/
module

public import proofs.«01_k».proof.Proof.Gen.AttnBwdIdeal.Frame
public import proofs.«01_k».proof.Proof.Gen.AttnBwdIdeal.Skeleton
public import Idealize.ShloMosaic.Lib.Claim

@[expose] public section

set_option maxRecDepth 16384

noncomputable section

namespace Cert.AttnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal.Gen

variable {F : FTy → Type} [FloatOps F] [Named F]

local notation "𝕄" => MT nD τ sig Unit (Elt F) ℕ (UR sig nD τ) ℕ

/-- The body's one branch: whether the point is the first. -/
abbrev first (i : grid0.Coords) : Prop :=
  Scalar.cmpi .ne (Scalar.extui (Scalar.cmpi .eq (BitVec.ofNat 32 (i 0).val) 0#32)) 0#32 = 1#1

/-- The rows of the block before the point's own, at the first point the point's own. -/
theorem off2_eq : ∀ i : grid0.Coords, k0_off2 i = ![128 * ((i 0).val - 1), 0] := by decide +kernel
instance closed_off2 (i : grid0.Coords) : ClosedOff (k0_off2 i) := ⟨![128 * ((i 0).val - 1), 0], off2_eq i⟩
/-- The same in the second half of the columns. -/
theorem off4_eq : ∀ i : grid0.Coords, k0_off4 i = ![128 * ((i 0).val - 1), 128] := by decide +kernel
instance closed_off4 (i : grid0.Coords) : ClosedOff (k0_off4 i) := ⟨![128 * ((i 0).val - 1), 128], off4_eq i⟩

section
/- At the first point the four offsets are known. -/
local instance (i : grid0.Coords) [h : Fact (k0_off1 i = ![0, 0])] : ClosedOff (k0_off1 i) := ⟨![0, 0], h.out⟩
local instance (i : grid0.Coords) [h : Fact (k0_off2 i = ![0, 0])] : ClosedOff (k0_off2 i) := ⟨![0, 0], h.out⟩
local instance (i : grid0.Coords) [h : Fact (k0_off3 i = ![0, 128])] : ClosedOff (k0_off3 i) := ⟨![0, 128], h.out⟩
local instance (i : grid0.Coords) [h : Fact (k0_off4 i = ![0, 128])] : ClosedOff (k0_off4 i) := ⟨![0, 128], h.out⟩

variable (c : Dev nD) (i : grid0.Coords)
  (arg1 : Memref sig .tc .vmem S128x1024 .bf16) (harg1 : arg1.IsWhole)
  (arg2 : Memref sig .tc .vmem S128x256 .bf16) (harg2 : arg2.IsWhole)
  (arg3 : Memref sig .tc .vmem S128x256 .bf16) (harg3 : arg3.IsWhole)
  (arg4 : Memref sig .tc .vmem S128x256 .f32) (harg4 : arg4.IsWhole)
  (arg5 : Memref sig .tc .vmem S128x256 .f32) (harg5 : arg5.IsWhole)
  (arg6 : Memref sig .tc .vmem S128x1024 .bf16) (harg6 : arg6.IsWhole)
  (arg7 : Memref sig .tc .vmem S128x1 .f32) (harg7 : arg7.IsWhole)
  (arg8 : Memref sig .tc .vmem S128x1 .f32) (harg8 : arg8.IsWhole)
  (arg9 : Memref sig .tc .vmem S1x128 .f32) (harg9 : arg9.IsWhole)
  (arg10 : Memref sig .tc .smem S1x16 .f32) (harg10 : arg10.IsWhole)
  (arg12 : Memref sig .tc .vmem S128x1024 .bf16) (harg12 : arg12.IsWhole)
  (arg13 : Memref sig .tc .vmem S2048x256 .f32) (harg13 : arg13.IsWhole)
  (arg14 : Memref sig .tc .vmem S2048x256 .f32) (harg14 : arg14.IsWhole)
  (arg15 : Memref sig .tc .vmem S1x128 .f32) (harg15 : arg15.IsWhole)

set_option maxHeartbeats 2000000 in
/-- At the first point: the three accumulated outputs are zeroed, then both of the point's key blocks are block 0.
    The pieces each output's buffer ends with are found by running the body. -/
noncomputable def runA (hc : first i)
    (hl1 : k0_off1 i = ![0, 0]) (hl2 : k0_off2 i = ![0, 0]) (hl3 : k0_off3 i = ![0, 128]) (hl4 : k0_off4 i = ![0, 128])
    (x0 : Vec F S128x1024 .bf16) (x1 : Vec F S128x256 .bf16) (x2 : Vec F S128x256 .bf16) (x3 : Vec F S128x256 .f32) (x4 : Vec F S128x256 .f32) (x5 : Vec F S128x1024 .bf16) (x6 : Vec F S128x1 .f32) (x7 : Vec F S128x1 .f32) (x8 : Vec F S1x128 .f32) (x9 : Vec F S1x16 .f32) :
    Σ' (L10 : List (View.Piece (Elt F) S128x1024 .bf16)), Σ' (L11 : List (View.Piece (Elt F) S2048x256 .f32)), Σ' (L12 : List (View.Piece (Elt F) S2048x256 .f32)), { L13 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 (Memref.whole main_arg7) (Memref.isWhole_whole _) arg12 harg12 arg13 harg13 arg14 harg14 arg15 harg15) K } := by
  refine ⟨?_, ?_, ?_, ?_, fun E K => ?run⟩
  case run =>
    haveI : Fact (k0_off1 i = ![0, 0]) := ⟨hl1⟩
    haveI : Fact (k0_off2 i = ![0, 0]) := ⟨hl2⟩
    haveI : Fact (k0_off3 i = ![0, 128]) := ⟨hl3⟩
    haveI : Fact (k0_off4 i = ![0, 128]) := ⟨hl4⟩
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    iexists _; iexact H13

end

end Cert.AttnBwdIdeal.Body

end
-- ==== Proof.AttnRunB.lean ====
/- The attention gradient's kernel body at a later grid point: what its stores leave, found by running it. -/
module

public import proofs.«01_k».proof.Proof.AttnRunA

@[expose] public section

set_option maxRecDepth 16384

noncomputable section

namespace Cert.AttnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal.Gen

variable {F : FTy → Type} [FloatOps F] [Named F]

local notation "𝕄" => MT nD τ sig Unit (Elt F) ℕ (UR sig nD τ) ℕ

variable (c : Dev nD) (i : grid0.Coords)
  (arg1 : Memref sig .tc .vmem S128x1024 .bf16) (harg1 : arg1.IsWhole)
  (arg2 : Memref sig .tc .vmem S128x256 .bf16) (harg2 : arg2.IsWhole)
  (arg3 : Memref sig .tc .vmem S128x256 .bf16) (harg3 : arg3.IsWhole)
  (arg4 : Memref sig .tc .vmem S128x256 .f32) (harg4 : arg4.IsWhole)
  (arg5 : Memref sig .tc .vmem S128x256 .f32) (harg5 : arg5.IsWhole)
  (arg6 : Memref sig .tc .vmem S128x1024 .bf16) (harg6 : arg6.IsWhole)
  (arg7 : Memref sig .tc .vmem S128x1 .f32) (harg7 : arg7.IsWhole)
  (arg8 : Memref sig .tc .vmem S128x1 .f32) (harg8 : arg8.IsWhole)
  (arg9 : Memref sig .tc .vmem S1x128 .f32) (harg9 : arg9.IsWhole)
  (arg10 : Memref sig .tc .smem S1x16 .f32) (harg10 : arg10.IsWhole)
  (arg12 : Memref sig .tc .vmem S128x1024 .bf16) (harg12 : arg12.IsWhole)
  (arg13 : Memref sig .tc .vmem S2048x256 .f32) (harg13 : arg13.IsWhole)
  (arg14 : Memref sig .tc .vmem S2048x256 .f32) (harg14 : arg14.IsWhole)
  (arg15 : Memref sig .tc .vmem S1x128 .f32) (harg15 : arg15.IsWhole)

set_option maxHeartbeats 2000000 in
/-- At every later point: the accumulated outputs hold what the point before left, and the point adds to two blocks of rows.
    The pieces each output's buffer ends with are found by running the body. -/
noncomputable def runB (hc : ¬first i)
    (x0 : Vec F S128x1024 .bf16) (x1 : Vec F S128x256 .bf16) (x2 : Vec F S128x256 .bf16) (x3 : Vec F S128x256 .f32) (x4 : Vec F S128x256 .f32) (x5 : Vec F S128x1024 .bf16) (x6 : Vec F S128x1 .f32) (x7 : Vec F S128x1 .f32) (x8 : Vec F S1x128 .f32) (x9 : Vec F S1x16 .f32) (xo11 : Vec F S2048x256 .f32) (xo12 : Vec F S2048x256 .f32) (xo13 : Vec F S1x128 .f32) :
    Σ' (L10 : List (View.Piece (Elt F) S128x1024 .bf16)), Σ' (L11 : List (View.Piece (Elt F) S2048x256 .f32)), Σ' (L12 : List (View.Piece (Elt F) S2048x256 .f32)), { L13 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg12 fullShare d) ∗ owns (c : Thread nD τ) arg13 fullShare xo11 ∗ owns (c : Thread nD τ) arg14 fullShare xo12 ∗ owns (c : Thread nD τ) arg15 fullShare xo13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg12.view.loc (c : Thread nD τ) ↦[arg12.view.set]{fullShare} arg12.view.writes (Elt F) f L10) ∗ (arg13.view.loc (c : Thread nD τ) ↦[arg13.view.set]{fullShare} arg13.view.writes (Elt F) (harg13.unread xo11) L11) ∗ (arg14.view.loc (c : Thread nD τ) ↦[arg14.view.set]{fullShare} arg14.view.writes (Elt F) (harg14.unread xo12) L12) ∗ (∃ f, arg15.view.loc (c : Thread nD τ) ↦[arg15.view.set]{fullShare} arg15.view.writes (Elt F) f L13)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 (Memref.whole main_arg7) (Memref.isWhole_whole _) arg12 harg12 arg13 harg13 arg14 harg14 arg15 harg15) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hf11; obtain rfl := harg14.eq_unread hf12; obtain rfl := harg15.eq_unread hf13
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexact H11
    isplitl [H12]; · iexact H12
    iexists _; iexact H13

end Cert.AttnBwdIdeal.Body

end
-- ==== Proof.AttnBody.lean ====
/- The attention gradient's kernel: what its outputs hold point by point, its run from any memory, and its frame. -/
module

public import proofs.«01_k».proof.Proof.AttnRunB
public import Idealize.ShloMosaic.Lib.Pipeline.FrameBody
public import Idealize.ShloMosaic.Lib.Ring
public import Idealize.ShloMosaic.Lib.WordCmp

@[expose] public section

set_option maxRecDepth 16384

noncomputable section

namespace Cert.AttnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points -/

/-- The branch is taken at the first point only. -/
theorem first_iff : ∀ t : Fin cfg0.N, first (grid0.coords t) ↔ t.val = 0 :=
  (by decide +kernel : ∀ t : Fin grid0.N, first (grid0.coords t) ↔ t.val = 0)
/-- At the first point both key blocks are block 0, in either half of the columns. -/
theorem off1_first : ∀ t : Fin cfg0.N, t.val = 0 → k0_off1 (grid0.coords t) = ![0, 0] :=
  (by decide +kernel : ∀ t : Fin grid0.N, t.val = 0 → k0_off1 (grid0.coords t) = ![0, 0])
theorem off2_first : ∀ t : Fin cfg0.N, t.val = 0 → k0_off2 (grid0.coords t) = ![0, 0] :=
  (by decide +kernel : ∀ t : Fin grid0.N, t.val = 0 → k0_off2 (grid0.coords t) = ![0, 0])
theorem off3_first : ∀ t : Fin cfg0.N, t.val = 0 → k0_off3 (grid0.coords t) = ![0, 128] :=
  (by decide +kernel : ∀ t : Fin grid0.N, t.val = 0 → k0_off3 (grid0.coords t) = ![0, 128])
theorem off4_first : ∀ t : Fin cfg0.N, t.val = 0 → k0_off4 (grid0.coords t) = ![0, 128] :=
  (by decide +kernel : ∀ t : Fin grid0.N, t.val = 0 → k0_off4 (grid0.coords t) = ![0, 128])
/-- No window is idle at any point. -/
theorem live (w : Fin cfg0.W) (t : Fin cfg0.N) : cfg0.idle w (grid0.coords t) = false := rfl

/-! ## The staging memrefs at a point -/

abbrev ms0 (t : Fin cfg0.N) : Memref sig .tc .vmem S128x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .smem S1x16 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x1024 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S2048x256 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S2048x256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x128 .f32 := win0_13.stage (cfg0.slots t 13)
abbrev hs13 (t : Fin cfg0.N) : (ms13 t).IsWhole := hstage0_13 ((cfg0.slots t 13).cast nbuf0_13)
abbrev VO10 : View sig .tc .vmem S128x1024 .bf16 := (Memref.whole cc0_stg10_0 : Memref sig .tc .vmem S128x1024 .bf16).view
abbrev VO11 : View sig .tc .vmem S2048x256 .f32 := (Memref.whole cc0_stg11_0 : Memref sig .tc .vmem S2048x256 .f32).view
abbrev VO12 : View sig .tc .vmem S2048x256 .f32 := (Memref.whole cc0_stg12_0 : Memref sig .tc .vmem S2048x256 .f32).view
abbrev VO13 : View sig .tc .vmem S1x128 .f32 := (Memref.whole cc0_stg13_0 : Memref sig .tc .vmem S1x128 .f32).view

/-! ## What the body leaves in the outputs' buffers -/

/-- The run at the first point. -/
abbrev runFirst (c : Dev nD) (t : Fin cfg0.N) (h : t.val = 0) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) ((first_iff t).mpr h) (off1_first t h) (off2_first t h) (off3_first t h) (off4_first t h)
    (iblk m c 0 t) (iblk m c 1 t) (iblk m c 2 t) (X0_3 m c t) (X0_4 m c t) (iblk m c 5 t) (iblk m c 6 t) (iblk m c 7 t) (iblk m c 8 t) (iblk m c 9 t)
/-- The run at a later point, the accumulated outputs at given contents. -/
abbrev runLater (c : Dev nD) (t : Fin cfg0.N) (h : t.val ≠ 0)
    (xo11 : Vec F S2048x256 .f32) (xo12 : Vec F S2048x256 .f32) (xo13 : Vec F S1x128 .f32) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (fun h' => h ((first_iff t).mp h'))
    (iblk m c 0 t) (iblk m c 1 t) (iblk m c 2 t) (X0_3 m c t) (X0_4 m c t) (iblk m c 5 t) (iblk m c 6 t) (iblk m c 7 t) (iblk m c 8 t) (iblk m c 9 t) xo11 xo12 xo13

theorem coverFirst10 (c : Dev nD) (t : Fin cfg0.N) (h : t.val = 0) (y : S128x1024.Idx) :
    ∃ pc ∈ (runFirst m c t h).1, y ∈ pc.1.set :=
  View.cover_of_tiledL (runFirst m c t h).1 S128x128.size (by sl_kernel_rfl) y
/-- What the first point leaves in output 10's buffer. -/
def outFirst10 (c : Dev nD) (t : Fin cfg0.N) (h : t.val = 0) : Vec F S128x1024 .bf16 :=
  VO10.read (Elt F) (VO10.writes (Elt F) VO10.junk (runFirst m c t h).1)
theorem coverFirst11 (c : Dev nD) (t : Fin cfg0.N) (h : t.val = 0) (y : S2048x256.Idx) :
    ∃ pc ∈ (runFirst m c t h).2.1, y ∈ pc.1.set :=
  have ⟨pc, hp, hy⟩ := View.cover_of_tiledL ((runFirst m c t h).2.1.drop 4) S2048x256.size (by sl_kernel_rfl) y
  ⟨pc, List.mem_of_mem_drop hp, hy⟩
/-- What the first point leaves in output 11's buffer. -/
def outFirst11 (c : Dev nD) (t : Fin cfg0.N) (h : t.val = 0) : Vec F S2048x256 .f32 :=
  VO11.read (Elt F) (VO11.writes (Elt F) VO11.junk (runFirst m c t h).2.1)
theorem coverFirst12 (c : Dev nD) (t : Fin cfg0.N) (h : t.val = 0) (y : S2048x256.Idx) :
    ∃ pc ∈ (runFirst m c t h).2.2.1, y ∈ pc.1.set :=
  have ⟨pc, hp, hy⟩ := View.cover_of_tiledL ((runFirst m c t h).2.2.1.drop 4) S2048x256.size (by sl_kernel_rfl) y
  ⟨pc, List.mem_of_mem_drop hp, hy⟩
/-- What the first point leaves in output 12's buffer. -/
def outFirst12 (c : Dev nD) (t : Fin cfg0.N) (h : t.val = 0) : Vec F S2048x256 .f32 :=
  VO12.read (Elt F) (VO12.writes (Elt F) VO12.junk (runFirst m c t h).2.2.1)
theorem coverFirst13 (c : Dev nD) (t : Fin cfg0.N) (h : t.val = 0) (y : S1x128.Idx) :
    ∃ pc ∈ (runFirst m c t h).2.2.2.1, y ∈ pc.1.set :=
  View.cover_of_tiledL (runFirst m c t h).2.2.2.1 S1x128.size (by sl_kernel_rfl) y
/-- What the first point leaves in output 13's buffer. -/
def outFirst13 (c : Dev nD) (t : Fin cfg0.N) (h : t.val = 0) : Vec F S1x128 .f32 :=
  VO13.read (Elt F) (VO13.writes (Elt F) VO13.junk (runFirst m c t h).2.2.2.1)
theorem coverLater10 (c : Dev nD) (t : Fin cfg0.N) (h : t.val ≠ 0) (xo11 : Vec F S2048x256 .f32) (xo12 : Vec F S2048x256 .f32) (xo13 : Vec F S1x128 .f32) (y : S128x1024.Idx) :
    ∃ pc ∈ (runLater m c t h xo11 xo12 xo13).1, y ∈ pc.1.set :=
  View.cover_of_tiledL (runLater m c t h xo11 xo12 xo13).1 S128x128.size (by sl_kernel_rfl) y
/-- What a later point leaves in output 10's buffer. -/
def outLater10 (c : Dev nD) (t : Fin cfg0.N) (h : t.val ≠ 0) (xo11 : Vec F S2048x256 .f32) (xo12 : Vec F S2048x256 .f32) (xo13 : Vec F S1x128 .f32) : Vec F S128x1024 .bf16 :=
  VO10.read (Elt F) (VO10.writes (Elt F) VO10.junk (runLater m c t h xo11 xo12 xo13).1)
/-- What a later point leaves in output 11's buffer. -/
def outLater11 (c : Dev nD) (t : Fin cfg0.N) (h : t.val ≠ 0) (xo11 : Vec F S2048x256 .f32) (xo12 : Vec F S2048x256 .f32) (xo13 : Vec F S1x128 .f32) : Vec F S2048x256 .f32 :=
  (ms11 t).view.read (Elt F) ((ms11 t).view.writes (Elt F) ((hs11 t).unread xo11) (runLater m c t h xo11 xo12 xo13).2.1)
/-- What a later point leaves in output 12's buffer. -/
def outLater12 (c : Dev nD) (t : Fin cfg0.N) (h : t.val ≠ 0) (xo11 : Vec F S2048x256 .f32) (xo12 : Vec F S2048x256 .f32) (xo13 : Vec F S1x128 .f32) : Vec F S2048x256 .f32 :=
  (ms12 t).view.read (Elt F) ((ms12 t).view.writes (Elt F) ((hs12 t).unread xo12) (runLater m c t h xo11 xo12 xo13).2.2.1)
theorem coverLater13 (c : Dev nD) (t : Fin cfg0.N) (h : t.val ≠ 0) (xo11 : Vec F S2048x256 .f32) (xo12 : Vec F S2048x256 .f32) (xo13 : Vec F S1x128 .f32) (y : S1x128.Idx) :
    ∃ pc ∈ (runLater m c t h xo11 xo12 xo13).2.2.2.1, y ∈ pc.1.set :=
  View.cover_of_tiledL (runLater m c t h xo11 xo12 xo13).2.2.2.1 S1x128.size (by sl_kernel_rfl) y
/-- What a later point leaves in output 13's buffer. -/
def outLater13 (c : Dev nD) (t : Fin cfg0.N) (h : t.val ≠ 0) (xo11 : Vec F S2048x256 .f32) (xo12 : Vec F S2048x256 .f32) (xo13 : Vec F S1x128 .f32) : Vec F S1x128 .f32 :=
  VO13.read (Elt F) (VO13.writes (Elt F) VO13.junk (runLater m c t h xo11 xo12 xo13).2.2.2.1)

/-- What the four outputs' buffers hold after point `n`: the later points start from what the point before left. -/
def outs (c : Dev nD) : (n : ℕ) → n < cfg0.N → Vec F S128x1024 .bf16 × Vec F S2048x256 .f32 × Vec F S2048x256 .f32 × Vec F S1x128 .f32
  | 0, hn => (outFirst10 m c ⟨0, hn⟩ rfl, outFirst11 m c ⟨0, hn⟩ rfl, outFirst12 m c ⟨0, hn⟩ rfl, outFirst13 m c ⟨0, hn⟩ rfl)
  | n + 1, hn => (outLater10 m c ⟨n + 1, hn⟩ (Nat.succ_ne_zero n) (outs c n (Nat.lt_of_succ_lt hn)).2.1 (outs c n (Nat.lt_of_succ_lt hn)).2.2.1 (outs c n (Nat.lt_of_succ_lt hn)).2.2.2, outLater11 m c ⟨n + 1, hn⟩ (Nat.succ_ne_zero n) (outs c n (Nat.lt_of_succ_lt hn)).2.1 (outs c n (Nat.lt_of_succ_lt hn)).2.2.1 (outs c n (Nat.lt_of_succ_lt hn)).2.2.2, outLater12 m c ⟨n + 1, hn⟩ (Nat.succ_ne_zero n) (outs c n (Nat.lt_of_succ_lt hn)).2.1 (outs c n (Nat.lt_of_succ_lt hn)).2.2.1 (outs c n (Nat.lt_of_succ_lt hn)).2.2.2, outLater13 m c ⟨n + 1, hn⟩ (Nat.succ_ne_zero n) (outs c n (Nat.lt_of_succ_lt hn)).2.1 (outs c n (Nat.lt_of_succ_lt hn)).2.2.1 (outs c n (Nat.lt_of_succ_lt hn)).2.2.2)

theorem outs_first (c : Dev nD) (t : Fin cfg0.N) (h : t.val = 0) :
    outs m c t.val t.isLt = (outFirst10 m c t h, outFirst11 m c t h, outFirst12 m c t h, outFirst13 m c t h) := by
  obtain ⟨n, hn⟩ := t
  cases n with
  | zero => exact rfl
  | succ n => exact absurd h (Nat.succ_ne_zero n)

theorem outs_later (c : Dev nD) (t : Fin cfg0.N) (h : t.val ≠ 0) :
    outs m c t.val t.isLt = (outLater10 m c t h (outs m c (t.val - 1) (Nat.lt_of_le_of_lt (Nat.sub_le _ _) t.isLt)).2.1 (outs m c (t.val - 1) (Nat.lt_of_le_of_lt (Nat.sub_le _ _) t.isLt)).2.2.1 (outs m c (t.val - 1) (Nat.lt_of_le_of_lt (Nat.sub_le _ _) t.isLt)).2.2.2, outLater11 m c t h (outs m c (t.val - 1) (Nat.lt_of_le_of_lt (Nat.sub_le _ _) t.isLt)).2.1 (outs m c (t.val - 1) (Nat.lt_of_le_of_lt (Nat.sub_le _ _) t.isLt)).2.2.1 (outs m c (t.val - 1) (Nat.lt_of_le_of_lt (Nat.sub_le _ _) t.isLt)).2.2.2, outLater12 m c t h (outs m c (t.val - 1) (Nat.lt_of_le_of_lt (Nat.sub_le _ _) t.isLt)).2.1 (outs m c (t.val - 1) (Nat.lt_of_le_of_lt (Nat.sub_le _ _) t.isLt)).2.2.1 (outs m c (t.val - 1) (Nat.lt_of_le_of_lt (Nat.sub_le _ _) t.isLt)).2.2.2, outLater13 m c t h (outs m c (t.val - 1) (Nat.lt_of_le_of_lt (Nat.sub_le _ _) t.isLt)).2.1 (outs m c (t.val - 1) (Nat.lt_of_le_of_lt (Nat.sub_le _ _) t.isLt)).2.2.1 (outs m c (t.val - 1) (Nat.lt_of_le_of_lt (Nat.sub_le _ _) t.isLt)).2.2.2) := by
  obtain ⟨n, hn⟩ := t
  cases n with
  | zero => exact absurd rfl h
  | succ n => exact rfl

/-! ## The pipeline's proof data -/

/-- The arrays as the region finds them; after the body each input's buffer at its block, the outputs' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outs m c t.val t.isLt).1
    | ⟨11, _⟩ => (outs m c t.val t.isLt).2.1
    | ⟨12, _⟩ => (outs m c t.val t.isLt).2.2.1
    | ⟨13, _⟩ => (outs m c t.val t.isLt).2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = X0_3 m c t := by dsimp only [dats]
theorem after4 (c : Dev nD) (t : Fin cfg0.N) : (dats m 0 c).after 4 t = X0_4 m c t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = (outs m c t.val t.isLt).1 := by dsimp only [dats]
theorem after11 (c : Dev nD) (t : Fin cfg0.N) : (dats m 0 c).after 11 t = (outs m c t.val t.isLt).2.1 := by dsimp only [dats]
theorem after12 (c : Dev nD) (t : Fin cfg0.N) : (dats m 0 c).after 12 t = (outs m c t.val t.isLt).2.2.1 := by dsimp only [dats]
theorem after13 (c : Dev nD) (t : Fin cfg0.N) : (dats m 0 c).after 13 t = (outs m c t.val t.isLt).2.2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = X0_3 m c t :=
  before0_3_of m (dats m 0 c) (A_eq m c 3) (after3 m c) t d
theorem before4 (c : Dev nD) (t : Fin cfg0.N) (d) : (dats m 0 c).before 4 t d = X0_4 m c t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
/-- At a later point output 11's buffer holds what the point before left. -/
theorem before11_later (c : Dev nD) (t : Fin cfg0.N) (h : t.val ≠ 0) (d) :
    (dats m 0 c).before 11 t d = (outs m c (t.val - 1) (Nat.lt_of_le_of_lt (Nat.sub_le _ _) t.isLt)).2.1 := by
  have hN : t.val < 16 := lt_of_lt_of_eq t.isLt (show cfg0.N = 16 from N_0)
  rw [Dat.before_out_kept _ 11 rfl t (by omega) (Bool.eq_false_iff.mpr fun h => by have := (flush0_11 _).mp h; dsimp only at this; omega)
    (fun _ => rfl) (fun _ _ => rfl)]
  dsimp only [dats]
/-- At a later point output 12's buffer holds what the point before left. -/
theorem before12_later (c : Dev nD) (t : Fin cfg0.N) (h : t.val ≠ 0) (d) :
    (dats m 0 c).before 12 t d = (outs m c (t.val - 1) (Nat.lt_of_le_of_lt (Nat.sub_le _ _) t.isLt)).2.2.1 := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]
/-- At a later point output 13's buffer holds what the point before left. -/
theorem before13_later (c : Dev nD) (t : Fin cfg0.N) (h : t.val ≠ 0) (d) :
    (dats m 0 c).before 13 t d = (outs m c (t.val - 1) (Nat.lt_of_le_of_lt (Nat.sub_le _ _) t.isLt)).2.2.2 := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 2400000 in
/-- The body's triple at any point, by the two runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live 0 t], after0]
  rw [show (dats m 0 c).leavesExact 1 t = owns (c : Thread nD τ) (ms1 t) fullShare ((dats m 0 c).after 1 t) from by
    unfold Dat.leavesExact; rw [live 1 t], after1]
  rw [show (dats m 0 c).leavesExact 2 t = owns (c : Thread nD τ) (ms2 t) fullShare ((dats m 0 c).after 2 t) from by
    unfold Dat.leavesExact; rw [live 2 t], after2]
  rw [show (dats m 0 c).leavesExact 3 t = owns (c : Thread nD τ) (ms3 t) fullShare ((dats m 0 c).after 3 t) from by
    unfold Dat.leavesExact; rw [live 3 t], after3]
  rw [show (dats m 0 c).leavesExact 4 t = owns (c : Thread nD τ) (ms4 t) fullShare ((dats m 0 c).after 4 t) from by
    unfold Dat.leavesExact; rw [live 4 t], after4]
  rw [show (dats m 0 c).leavesExact 5 t = owns (c : Thread nD τ) (ms5 t) fullShare ((dats m 0 c).after 5 t) from by
    unfold Dat.leavesExact; rw [live 5 t], after5]
  rw [show (dats m 0 c).leavesExact 6 t = owns (c : Thread nD τ) (ms6 t) fullShare ((dats m 0 c).after 6 t) from by
    unfold Dat.leavesExact; rw [live 6 t], after6]
  rw [show (dats m 0 c).leavesExact 7 t = owns (c : Thread nD τ) (ms7 t) fullShare ((dats m 0 c).after 7 t) from by
    unfold Dat.leavesExact; rw [live 7 t], after7]
  rw [show (dats m 0 c).leavesExact 8 t = owns (c : Thread nD τ) (ms8 t) fullShare ((dats m 0 c).after 8 t) from by
    unfold Dat.leavesExact; rw [live 8 t], after8]
  rw [show (dats m 0 c).leavesExact 9 t = owns (c : Thread nD τ) (ms9 t) fullShare ((dats m 0 c).after 9 t) from by
    unfold Dat.leavesExact; rw [live 9 t], after9]
  rw [show (dats m 0 c).leavesExact 10 t = owns (c : Thread nD τ) (ms10 t) fullShare ((dats m 0 c).after 10 t) from by
    unfold Dat.leavesExact; rw [live 10 t], after10]
  rw [show (dats m 0 c).leavesExact 11 t = owns (c : Thread nD τ) (ms11 t) fullShare ((dats m 0 c).after 11 t) from by
    unfold Dat.leavesExact; rw [live 11 t], after11]
  rw [show (dats m 0 c).leavesExact 12 t = owns (c : Thread nD τ) (ms12 t) fullShare ((dats m 0 c).after 12 t) from by
    unfold Dat.leavesExact; rw [live 12 t], after12]
  rw [show (dats m 0 c).leavesExact 13 t = owns (c : Thread nD τ) (ms13 t) fullShare ((dats m 0 c).after 13 t) from by
    unfold Dat.leavesExact; rw [live 13 t], after13]
  by_cases h : t.val = 0
  · rw [outs_first m c t h]
    unfold outFirst10 outFirst11 outFirst12 outFirst13; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runFirst m c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (coverFirst10 m c t h)
    isplitl [H11]
    · unfold owns; iexists _; isplitr
      swap; · iexact H11
      ipureintro; exact View.read_writes_of_cover _ _ _ _ _ (coverFirst11 m c t h)
    isplitl [H12]
    · unfold owns; iexists _; isplitr
      swap; · iexact H12
      ipureintro; exact View.read_writes_of_cover _ _ _ _ _ (coverFirst12 m c t h)
    unfold owns; iexists _; isplitr
    swap; · iexact H13
    ipureintro; exact View.read_writes_of_cover _ _ _ _ _ (coverFirst13 m c t h)
  · rw [outs_later m c t h]
    simp only [before11_later m c t h, before12_later m c t h, before13_later m c t h]
    unfold outLater10 outLater11 outLater12 outLater13; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runLater m c t h _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    iintro ⟨H0, H1, H2, H3, H4, H5, H6, H7, H8, H9, ⟨%e10, H10⟩, H11, H12, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (coverLater10 m c t h _ _ _)
    isplitl [H11]
    · unfold owns; iexists _; isplitr
      swap; · iexact H11
      ipureintro; rfl
    isplitl [H12]
    · unfold owns; iexists _; isplitr
      swap; · iexact H12
      ipureintro; rfl
    unfold owns; iexists _; isplitr
    swap; · iexact H13
    ipureintro; exact View.read_writes_of_cover _ _ _ _ _ (coverLater13 m c t h _ _ _)

theorem defs₀_row (t : Fin cfg0.N) :
    defs₀ (F := F) .tc cfg0.body (cfg0.bodyArgs t (cfg0.slots t)) = bodyAt0 t := by
  unfold defs₀; rw [Defs.onTc_tc]

/-- The body obligation of the pipeline's proof data. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run: every array of the pipeline ends at what the proof data says, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: every argument array ends as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.AttnBwdIdeal.Body

end
-- ==== Proof.AttnFrame.lean ====
/-
  The attention gradient: the frames of the kernel as it is, of its reading with the mask constant named, and of the
  reference; and what the name says.
-/
module

public import proofs.«01_k».proof.Defs
public import proofs.«01_k».proof.Proof.AttnBody
public import proofs.«01_k».proof.Proof.AttnBodyBits
public import proofs.«01_k».proof.Proof.Gen.AttnBwdRefIdeal.Run
public import proofs.«01_k».proof.Proof.Gen.Pre_attn_finite
public import Idealize.ShloMosaic.Lib.Claim
public import Idealize.ShloMosaic.Lib.Quiescent

@[expose] public section

set_option maxRecDepth 16384

noncomputable section

namespace Cert.AttnFrame

open Idealize.ShloMosaic Idealize.ShloMosaic.TcCoe Idealize.SL.Sem

theorem frame_kernel : Cert.quiescent_AttnBwd := fun m ρ _ => Cert.AttnBwd.Body.frame m ρ
theorem frame_ideal : Cert.quiescent_AttnBwdIdeal := fun m ρ _ => Cert.AttnBwdIdeal.Body.frame m ρ
theorem frame_ideal_pre : Cert.quiescent_AttnBwdIdeal_pre_attn_finite := fun m ρ _ => Cert.AttnBwdIdeal.Body.frame m ρ
theorem frame_ref : Cert.quiescent_AttnBwdRefIdeal := by
  intro m g _
  refine θ_run_mono (Cert.AttnBwdRefIdeal.Value.run m g) fun r h => ⟨fun c => (h c).2.2.2.2, sem_eq_zero_of_no_sems (by decide) r.2⟩
theorem frame_ref_pre : Cert.quiescent_AttnBwdRefIdeal_pre_attn_finite := fun m ρ _ => frame_ref m ρ trivial

/-- The mask's name: the table gives it −∞, and its pattern is the constant the kernel has. -/
theorem preserves : Cert.preserves_AttnBwd_AttnBwdIdeal :=
  IdealRules.named_const.statement _ _ _ _ _ rfl

end Cert.AttnFrame
end
-- ==== Proof.NormMath.lean ====
/-
  The gradient of the root-mean-square norm, written out in two ways that agree on every row, its infinite entries included.
-/
module

public import proofs.«01_k».proof.Proof.Reals

@[expose] public section

namespace Cert.NormMath

open Idealize.ShloMosaic Cert.Reals

/-- A sum of real numbers, taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The word of 2048. -/
theorem word_2048 : Ideal.ofBits .f32 0x45000000#32 = ((2048 : ℝ) : EReal) := by
  simp [Ideal.ofBits, Ideal.ieee, -EReal.coe_mul]; norm_num

/-- The word of minus one half. -/
theorem word_neg_half : Ideal.ofBits .f32 0xBF000000#32 = ((-(1 / 2) : ℝ) : EReal) := by
  simp [Ideal.ofBits, Ideal.ieee, -EReal.coe_mul, -EReal.coe_neg]; norm_num

/-- The norm's small constant is a positive real number. -/
theorem word_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- The inverse root of a row's mean square, `e` added to the mean. -/
noncomputable def inv {n : ℕ} (x : Fin n → EReal) (N e : EReal) : EReal := Ideal.rsqrt (Ideal.div (∑ k, x k * x k) N + e)

/-- The gradient by the normalised row `x r`: `r (d - x r mean (d x r))`. -/
noncomputable def short {n : ℕ} (x d : Fin n → EReal) (N e : EReal) (j : Fin n) : EReal :=
  inv x N e * (d j - x j * inv x N e * Ideal.div (∑ k, d k * (x k * inv x N e)) N)

/-- The weight of `x` in the gradient that differentiates the inverse root and the mean one after the other. -/
noncomputable def weight {n : ℕ} (x d : Fin n → EReal) (N e h : EReal) : EReal :=
  Ideal.div ((∑ k, x k * d k) * (h * Ideal.div (inv x N e) (Ideal.div (∑ k, x k * x k) N + e))) N

/-- That gradient: `d r + x w + w x`. -/
noncomputable def long {n : ℕ} (x d : Fin n → EReal) (N e h : EReal) (j : Fin n) : EReal :=
  d j * inv x N e + x j * weight x d N e h + weight x d N e h * x j

/-- A nonnegative real factor goes through a sum of extended reals. -/
theorem coe_mul_sum {ι : Type*} (s : Finset ι) {a : ℝ} (ha : 0 ≤ a) (f : ι → EReal) : (a : EReal) * ∑ i ∈ s, f i = ∑ i ∈ s, (a : EReal) * f i := by
  classical
  induction s using Finset.induction_on with
  | empty => simp
  | insert b s h ih => rw [Finset.sum_insert h, Finset.sum_insert h, EReal.left_distrib_of_nonneg_of_ne_top (EReal.coe_nonneg.2 ha) (EReal.coe_ne_top _), ih]

/-- A real multiple of an extended real, added to itself. -/
theorem twice (a : ℝ) (z : EReal) : (a : EReal) * z + (a : EReal) * z = ((2 * a : ℝ) : EReal) * z := by
  induction z using EReal.rec with
  | coe z => rw [← EReal.coe_mul, ← EReal.coe_mul, ← EReal.coe_add]; exact congrArg _ (by ring)
  | bot =>
    rcases lt_trichotomy a 0 with h | rfl | h
    · rw [EReal.coe_mul_bot_of_neg h, EReal.coe_mul_bot_of_neg (by linarith)]; rfl
    · simp
    · rw [EReal.coe_mul_bot_of_pos h, EReal.coe_mul_bot_of_pos (by linarith)]; rfl
  | top =>
    rcases lt_trichotomy a 0 with h | rfl | h
    · rw [EReal.coe_mul_top_of_neg h, EReal.coe_mul_top_of_neg (by linarith)]; rfl
    · simp
    · rw [EReal.coe_mul_top_of_pos h, EReal.coe_mul_top_of_pos (by linarith)]; rfl

theorem mul_self_nonneg (z : EReal) : 0 ≤ z * z := by
  induction z using EReal.rec with
  | coe z => rw [← EReal.coe_mul]; exact EReal.coe_nonneg.2 (_root_.mul_self_nonneg z)
  | bot => simp
  | top => simp

/-- The two forms agree on a row of real numbers, whatever the incoming gradient. -/
theorem grad_real {n : ℕ} {x d : Fin n → EReal} (hx : ∀ k, IsReal (x k)) {N e : ℝ} (hN : 0 < N) (he : 0 < e) (j : Fin n) :
    short x d (N : EReal) (e : EReal) j = long x d (N : EReal) (e : EReal) ((-(1 / 2) : ℝ) : EReal) j := by
  choose x' hx' using hx
  obtain rfl : x = fun k => (x' k : EReal) := funext hx'
  have hA : Ideal.div (∑ k, (x' k : EReal) * (x' k : EReal)) (N : EReal) + (e : EReal) = ((∑ k, x' k * x' k) * (1 / N) + e : ℝ) := by
    simp only [Ideal.div_coe hN.ne', ← EReal.coe_mul, ← coe_sum, ← EReal.coe_add]
  generalize hB : (∑ k, x' k * x' k) * (1 / N) + e = B at hA
  have hB0 : 0 < B := by
    rw [← hB]
    have : 0 ≤ ∑ k, x' k * x' k := Finset.sum_nonneg fun k _ => _root_.mul_self_nonneg _
    positivity
  have hr : inv (fun k => (x' k : EReal)) (N : EReal) (e : EReal) = ((Real.sqrt B)⁻¹ : ℝ) := by
    simp only [inv, hA]
    rw [Ideal.rsqrt_coe, if_neg hB0.le.not_gt, if_neg hB0.ne']
  have hs0 : 0 ≤ (Real.sqrt B)⁻¹ := inv_nonneg.2 (Real.sqrt_nonneg B)
  generalize hs : (Real.sqrt B)⁻¹ = s at hr hs0
  have hs2 : s * s = 1 / B := by
    rw [← hs, ← mul_inv, Real.mul_self_sqrt hB0.le, one_div]
  have e1 : ∑ k, d k * ((x' k : EReal) * (s : EReal)) = (s : EReal) * ∑ k, (x' k : EReal) * d k := by
    rw [coe_mul_sum _ hs0]
    exact Finset.sum_congr rfl fun k _ => by rw [← mul_assoc, mul_comm, mul_comm (d k)]
  simp only [short, long, weight, hr]
  rw [hA, e1]
  generalize ∑ k, (x' k : EReal) * d k = D
  simp only [Ideal.div_coe hN.ne', Ideal.div_coe hB0.ne', ← EReal.coe_mul]
  have hw : (D * ((-(1 / 2) * (s * (1 / B)) : ℝ) : EReal)) * ((1 / N : ℝ) : EReal) = ((-(1 / 2) * (s * (1 / B)) * (1 / N) : ℝ) : EReal) * D := by
    rw [mul_comm D, mul_right_comm, ← EReal.coe_mul]
  have hl : ((x' j * s : ℝ) : EReal) * ((s : EReal) * D * ((1 / N : ℝ) : EReal)) = ((x' j * s * (s * (1 / N)) : ℝ) : EReal) * D := by
    rw [mul_right_comm, ← EReal.coe_mul, ← mul_assoc, ← EReal.coe_mul]
  have assoc (a b : ℝ) : (a : EReal) * ((b : EReal) * D) = ((a * b : ℝ) : EReal) * D := by rw [EReal.coe_mul, mul_assoc]
  rw [hw, hl, sub_eq_add_neg, EReal.left_distrib_of_nonneg_of_ne_top (EReal.coe_nonneg.2 hs0) (EReal.coe_ne_top _), mul_comm (s : EReal) (d j), add_assoc,
    mul_comm _ (x' j : EReal), ← neg_mul, ← EReal.coe_neg, assoc, assoc, twice, ← hs2]
  exact congrArg (fun a : ℝ => d j * (s : EReal) + (a : EReal) * D) (by ring)

/-- An infinite entry makes the inverse root zero. -/
theorem inv_eq_zero {n : ℕ} {x : Fin n → EReal} {k : Fin n} (hk : x k * x k = ⊤) {N : ℝ} (hN : 0 < N) (e : ℝ) :
    Ideal.div (∑ k, x k * x k) (N : EReal) + (e : EReal) = ⊤ := by
  have h : ∑ k, x k * x k = ⊤ := top_le_iff.1 (hk ▸ Finset.single_le_sum (f := fun k => x k * x k) (fun i _ => mul_self_nonneg (x i)) (Finset.mem_univ k))
  rw [h, Ideal.div_coe hN.ne', EReal.top_mul_coe_of_pos (by positivity), EReal.top_add_coe]

/-- The two forms agree. -/
theorem grad {n : ℕ} {x d : Fin n → EReal} {N e : ℝ} (hN : 0 < N) (he : 0 < e) (j : Fin n) :
    short x d (N : EReal) (e : EReal) j = long x d (N : EReal) (e : EReal) ((-(1 / 2) : ℝ) : EReal) j := by
  by_cases hx : ∀ k, IsReal (x k)
  · exact grad_real hx hN he j
  · obtain ⟨k, hk⟩ := not_forall.1 hx
    have ht : x k * x k = ⊤ := by
      generalize x k = z at hk
      induction z using EReal.rec with
      | coe z => exact absurd (IsReal.coe z) hk
      | bot => simp
      | top => simp
    have hA := inv_eq_zero ht hN e
    have hr : inv x (N : EReal) (e : EReal) = 0 := by rw [inv, hA]; simp
    have h0 : Ideal.div 0 ⊤ = 0 := by simp [Ideal.div]
    simp only [short, long, weight, hr, hA, h0, mul_zero, zero_mul]
    rw [Ideal.div_coe hN.ne']; simp

/-- The agreement at the constants of a row of 2048. -/
theorem grad_2048 (x d : Fin 2048 → EReal) (j : Fin 2048) :
    short x d (Ideal.ofBits .f32 0x45000000#32) (Ideal.ofBits .f32 0x358637BD#32) j
      = long x d (Ideal.ofBits .f32 0x45000000#32) (Ideal.ofBits .f32 0x358637BD#32) (Ideal.ofBits .f32 0xBF000000#32) j := by
  obtain ⟨ε, hε, e⟩ := word_eps
  rw [e, word_2048, word_neg_half]
  exact grad (by norm_num) hε j

end Cert.NormMath
-- ==== Proof.AttnMath.lean ====
/-
  Sliding-window attention with a sink per head, on real numbers: the probabilities, their gradient, and the two facts the
  kernel's tiling needs. The first: the sum over all keys of something that is zero outside a query's window is the sum over
  two blocks of keys. The second: a softmax does not depend on the number subtracted inside its exponentials.
-/
module

public import Idealize.ShloMosaic.Lib.Pipeline.ValueKit
public import proofs.«01_k».proof.Proof.Reals
public import proofs.«01_k».proof.Proof.NormMath

@[expose] public section

noncomputable section

namespace Cert.AttnMath

open Idealize.ShloMosaic Finset

/-- Query `i` sees key `j`: it and the 127 keys before it. -/
abbrev ok (i j : ℕ) : Prop := j ≤ i ∧ i < j + 128

/-- The key that column `kk` of the two blocks at point `n` holds: the block before, then the block itself. -/
def key (n kk : ℕ) : ℕ := if kk < 128 then 128 * (n - 1) + kk else 128 * n + (kk - 128)

/-- Column `kk` is seen by query `i` at point `n`; at the first point the block before is not there. -/
abbrev sees (n i kk : ℕ) : Prop := 128 ≤ 128 * n + kk ∧ ok i (key n kk)

theorem key_of_le {n kk : ℕ} (h : 128 ≤ 128 * n + kk) : key n kk = 128 * n + kk - 128 := by
  unfold key; split <;> omega

/-- What is zero outside the query's window sums over the two blocks as over all keys. -/
theorem sum_window (F : ℕ → ℝ) (n i : ℕ) (hn : n < 16) (hi : 128 * n ≤ i) (hi' : i < 128 * n + 128)
    (hF : ∀ j, ¬ok i j → F j = 0) :
    ∑ kk ∈ range 256, (if sees n i kk then F (key n kk) else 0) = ∑ j ∈ range 2048, F j := by
  rw [← sum_filter, ← sum_filter_of_ne (p := fun j => ok i j) (s := range 2048) fun j _ h => by_contra fun h' => h (hF j h')]
  refine sum_nbij' (fun kk => key n kk) (fun j => j + 128 - 128 * n) ?_ ?_ ?_ ?_ fun _ _ => rfl
  · intro kk h
    have h := mem_filter.1 h
    have h1 := mem_range.1 h.1
    refine mem_filter.2 ⟨mem_range.2 ?_, h.2.2⟩
    rw [key_of_le h.2.1]; omega
  · intro j h
    have h := mem_filter.1 h
    have h1 := mem_range.1 h.1
    have h2 : ok i j := h.2
    refine mem_filter.2 ⟨mem_range.2 (by omega), by omega, ?_⟩
    rw [key_of_le (by omega)]
    constructor <;> omega
  · intro kk h
    have h := mem_filter.1 h
    show key n kk + 128 - 128 * n = kk
    rw [key_of_le h.2.1]; omega
  · intro j h
    have h := mem_filter.1 h
    have h2 : ok i j := h.2
    show key n (j + 128 - 128 * n) = j
    rw [key_of_le (by omega)]; omega

/-! ## The attention of one query -/

section
variable (q k v d : ℕ → ℕ → ℝ) (s : ℕ → ℝ)

/-- The score of query `i` and key `j` in head `h`; four heads share a head of keys. -/
def score (h i j : ℕ) : ℝ := (∑ e ∈ range 64, q i (64 * h + e) * k j (64 * (h / 4) + e)) * (1 / 8)
/-- The exponential of the score, zero outside the window. -/
def wt (h i j : ℕ) : ℝ := if ok i j then Real.exp (score q k h i j) else 0
/-- The softmax's denominator: the window and the sink. -/
def den (h i : ℕ) : ℝ := ∑ j ∈ range 2048, wt q k h i j + Real.exp (s h)
/-- The probability of key `j`. -/
def prob (h i j : ℕ) : ℝ := wt q k h i j / den q k s h i
/-- The probability of the sink. -/
def psink (h i : ℕ) : ℝ := Real.exp (s h) / den q k s h i
/-- The gradient of the probability of key `j`. -/
def dprob (h i j : ℕ) : ℝ := ∑ e ∈ range 64, d i (64 * h + e) * v j (64 * (h / 4) + e)
/-- The gradient's mean under the probabilities. -/
def mean (h i : ℕ) : ℝ := ∑ j ∈ range 2048, prob q k s h i j * dprob v d h i j
/-- The gradient of the score, before the scale. -/
def dscore (h i j : ℕ) : ℝ := prob q k s h i j * (dprob v d h i j - mean q k v d s h i) * (1 / 8)
/-- What query `i` gives to the gradient of the value of key `j`: the four heads that share head `g`. -/
def dvTerm (g i j e : ℕ) : ℝ := ∑ a ∈ range 4, prob q k s (4 * g + a) i j * d i (64 * (4 * g + a) + e)
/-- What query `i` gives to the gradient of key `j`. -/
def dkTerm (g i j e : ℕ) : ℝ := ∑ a ∈ range 4, dscore q k v d s (4 * g + a) i j * q i (64 * (4 * g + a) + e)
/-- The gradient of query `i`. -/
def dq (h i e : ℕ) : ℝ := ∑ j ∈ range 2048, dscore q k v d s h i j * k j (64 * (h / 4) + e)

theorem wt_nonneg (h i j : ℕ) : 0 ≤ wt q k h i j := by
  unfold wt; split
  · exact (Real.exp_pos _).le
  · exact le_rfl

theorem den_pos (h i : ℕ) : 0 < den q k s h i :=
  add_pos_of_nonneg_of_pos (sum_nonneg fun j _ => wt_nonneg q k h i j) (Real.exp_pos _)

theorem wt_zero {h i j : ℕ} (hj : ¬ok i j) : wt q k h i j = 0 := if_neg hj
theorem prob_zero {h i j : ℕ} (hj : ¬ok i j) : prob q k s h i j = 0 := by unfold prob; rw [wt_zero q k hj, zero_div]
theorem dscore_zero {h i j : ℕ} (hj : ¬ok i j) : dscore q k v d s h i j = 0 := by
  unfold dscore; rw [prob_zero q k s hj, zero_mul, zero_mul]
theorem dvTerm_zero {g i j e : ℕ} (hj : ¬ok i j) : dvTerm q k d s g i j e = 0 :=
  sum_eq_zero fun a _ => by rw [prob_zero q k s hj, zero_mul]
theorem dkTerm_zero {g i j e : ℕ} (hj : ¬ok i j) : dkTerm q k v d s g i j e = 0 :=
  sum_eq_zero fun a _ => by rw [dscore_zero q k v d s hj, zero_mul]

end

/-! ## The softmax, whatever number is subtracted -/

/-- The largest of finitely many values none of which is +∞, with a real number among them, is a real number. -/
theorem max_real {n : ℕ} (f : Fin n → EReal) (b : EReal) (hb : b ≠ ⊤) (hf : ∀ k, f k ≠ ⊤) (σ : ℝ) :
    ∃ μ : ℝ, max (Finset.fold max b f univ) (σ : EReal) = (μ : EReal) := by
  have h1 : max (Finset.fold max b f univ) (σ : EReal) ≠ ⊤ := by
    have : Finset.fold max b f univ < ⊤ :=
      (Finset.fold_max_lt _).2 ⟨lt_top_iff_ne_top.2 hb, fun k _ => lt_top_iff_ne_top.2 (hf k)⟩
    exact (max_lt this (EReal.coe_lt_top σ)).ne
  have h2 : max (Finset.fold max b f univ) (σ : EReal) ≠ ⊥ :=
    (lt_of_lt_of_le (EReal.bot_lt_coe σ) (le_max_right _ _)).ne'
  exact ⟨_, (EReal.coe_toReal h1 h2).symm⟩

theorem exp_bot : Ideal.exp (⊥ : EReal) = 0 := rfl

/-- An exponential of a masked score, less any real number. -/
theorem exp_masked (p : Prop) [Decidable p] (x μ : ℝ) :
    Ideal.exp ((if p then (x : EReal) else ⊥) - (μ : EReal)) = (((if p then Real.exp x else 0) * Real.exp (-μ) : ℝ) : EReal) := by
  split
  · rw [← EReal.coe_sub, Ideal.exp_coe, sub_eq_add_neg, Real.exp_add]
  · rw [EReal.bot_sub, exp_bot, zero_mul, EReal.coe_zero]

theorem exp_sub (x μ : ℝ) : Ideal.exp ((x : EReal) - (μ : EReal)) = ((Real.exp x * Real.exp (-μ) : ℝ) : EReal) := by
  rw [← EReal.coe_sub, Ideal.exp_coe, sub_eq_add_neg, Real.exp_add]

theorem div_real (x y : ℝ) (hy : y ≠ 0) : Ideal.div (x : EReal) (y : EReal) = ((x / y : ℝ) : EReal) := by
  rw [Ideal.div_coe hy, ← EReal.coe_mul, mul_one_div]

/-- The common factor of a quotient of exponentials cancels. -/
theorem div_shift (w z μ : ℝ) (hz : z ≠ 0) : w * Real.exp (-μ) / (z * Real.exp (-μ)) = w / z :=
  mul_div_mul_right w z (Real.exp_pos _).ne'

end Cert.AttnMath
end
-- ==== Proof.AttnHead.lean ====
/-
  One head of keys at one grid point of the attention gradient's kernel: the values the kernel computes from the four query
  heads that share it, as real numbers.
-/
module

public import proofs.«01_k».proof.Proof.AttnMath
public import proofs.«01_k».proof.Proof.Gen.AttnBwdIdeal.Skeleton

@[expose] public section

set_option maxRecDepth 16384

noncomputable section

namespace Cert.AttnHead

open Idealize.ShloMosaic Idealize.ShloMosaic.TcCoe
open Cert.AttnBwdIdeal Cert.AttnBwdIdeal.Gen Cert.AttnMath Finset Cert.NormMath

theorem word_eighth : Ideal.ofBits .f32 0x3E000000#32 = ((1 / 8 : ℝ) : EReal) := by
  simp [Ideal.ofBits, Ideal.ieee, -EReal.coe_mul]; norm_num

theorem mask_bot : (Named.named (F := Ideal) κ "mask" 0xF149F2CA#32 : Ideal .f32) = (⊥ : EReal) :=
  IdealRules.named_const.ideal_named_scalar _ _ _ _ rfl

theorem word_bot : Ideal.ofBits .f32 0xFF800000#32 = (⊥ : EReal) := by
  simp [Ideal.ofBits, Ideal.ieee]

theorem sum_fin (n : ℕ) (f : ℕ → ℝ) : ∑ x : Fin n, ((f x.val : ℝ) : EReal) = ((∑ x ∈ range n, f x : ℝ) : EReal) := by
  rw [Finset.sum_range, coe_sum]

/-- Rows 0–511 are the 128 queries of the block, once for each of the four heads. -/
theorem sum_rows (f : ℕ → ℕ → ℝ) : ∑ r ∈ range 512, f (r / 128) (r % 128) = ∑ b ∈ range 128, ∑ a ∈ range 4, f a b := by
  rw [← Finset.sum_product']
  refine sum_nbij' (fun r => (r % 128, r / 128)) (fun p => 128 * p.2 + p.1) ?_ ?_ ?_ ?_ fun _ _ => rfl
  · intro r h; have := mem_range.1 h
    exact mem_product.2 ⟨mem_range.2 (by show r % 128 < 128; omega), mem_range.2 (by show r / 128 < 4; omega)⟩
  · intro p h; have h1 := mem_range.1 (mem_product.1 h).1; have h2 := mem_range.1 (mem_product.1 h).2
    exact mem_range.2 (by omega)
  · intro r h; show 128 * (r / 128) + r % 128 = r; omega
  · intro p h; have h1 := mem_range.1 (mem_product.1 h).1; have h2 := mem_range.1 (mem_product.1 h).2
    exact Prod.ext (by show (128 * p.2 + p.1) % 128 = p.1; omega) (by show (128 * p.2 + p.1) / 128 = p.2; omega)

/-- What a head of keys works on at point `n`: real numbers. -/
structure Block (n g : ℕ) (q k v d : ℕ → ℕ → ℝ) (s : ℕ → ℝ) (Q : FVec Ideal S512x64 .bf16) (K V : FVec Ideal S256x64 .bf16)
    (D : FVec Ideal S512x64 .bf16) (S : FVec Ideal S512x1 .f32) (M : IVec S512x256 1) : Prop where
  hn : n < 16
  hQ : ∀ (r : Fin 512) (e : Fin 64), Q (ix2 r e) = ((q (128 * n + r.val % 128) (64 * (4 * g + r.val / 128) + e.val) : ℝ) : EReal)
  hD : ∀ (r : Fin 512) (e : Fin 64), D (ix2 r e) = ((d (128 * n + r.val % 128) (64 * (4 * g + r.val / 128) + e.val) : ℝ) : EReal)
  hK : ∀ (c : Fin 256) (e : Fin 64), K (ix2 c e) = ((k (key n c.val) (64 * g + e.val) : ℝ) : EReal)
  hV : ∀ (c : Fin 256) (e : Fin 64), V (ix2 c e) = ((v (key n c.val) (64 * g + e.val) : ℝ) : EReal)
  hS : ∀ r : Fin 512, S (ix2 r 0) = ((s (4 * g + r.val / 128) : ℝ) : EReal)
  hM : ∀ (r : Fin 512) (c : Fin 256), M (ix2 r c) = if sees n (128 * n + r.val % 128) c.val then 1#1 else 0#1

section
variable {n g : ℕ} {q k v d : ℕ → ℕ → ℝ} {s : ℕ → ℝ} {Q : FVec Ideal S512x64 .bf16} {K V : FVec Ideal S256x64 .bf16}
  {D : FVec Ideal S512x64 .bf16} {S : FVec Ideal S512x1 .f32} {M : IVec S512x256 1} (B : Block n g q k v d s Q K V D S M)
include B

theorem head_div (r : Fin 512) : (4 * g + r.val / 128) / 4 = g := by
  have := r.isLt; omega

theorem score_eq (r : Fin 512) (c : Fin 256) : k0_pay36 (F := Ideal) K M Q (ix2 r c)
    = if sees n (128 * n + r.val % 128) c.val then ((score q k (4 * g + r.val / 128) (128 * n + r.val % 128) (key n c.val) : ℝ) : EReal) else ⊥ := by
  pointwise [k0_pay36]
  rw [B.hM, mask_bot, word_eighth]
  split
  · show (∑ x, Q (ix2 r x) * K (ix2 c x)) * _ = _
    simp only [B.hQ, B.hK, ← EReal.coe_mul]
    rw [sum_fin 64 fun x => q (128 * n + r.val % 128) (64 * (4 * g + r.val / 128) + x) * k (key n c.val) (64 * g + x), ← EReal.coe_mul]
    unfold score; rw [head_div B r]
  · rfl

theorem max_eq (r : Fin 512) : ∃ μ : ℝ, k0_pay37 (F := Ideal) K M Q S (ix2 r 0) = (μ : EReal) := by
  pointwise [k0_pay37]
  rw [B.hS, word_bot]
  refine max_real _ _ bot_ne_top (fun c => ?_) _
  rw [score_eq B]; split
  · exact EReal.coe_ne_top _
  · exact bot_ne_top

theorem exp_eq (r : Fin 512) : ∃ μ : ℝ, (∀ c, k0_pay38 (F := Ideal) K M Q S (ix2 r c)
      = (((if sees n (128 * n + r.val % 128) c.val then wt q k (4 * g + r.val / 128) (128 * n + r.val % 128) (key n c.val) else 0) * Real.exp (-μ) : ℝ) : EReal))
    ∧ k0_pay39 (F := Ideal) K M Q S (ix2 r 0) = ((Real.exp (s (4 * g + r.val / 128)) * Real.exp (-μ) : ℝ) : EReal) := by
  obtain ⟨μ, hμ⟩ := max_eq B r
  refine ⟨μ, fun c => ?_, ?_⟩
  · pointwise [k0_pay38]
    rw [hμ, score_eq B, exp_masked]
    refine congrArg (fun z : ℝ => ((z * Real.exp (-μ) : ℝ) : EReal)) ?_
    split
    · rename_i h; unfold wt; rw [if_pos h.2]
    · rfl
  · pointwise [k0_pay39]
    rw [hμ, B.hS, exp_sub]

theorem window (r : Fin 512) (F : ℕ → ℝ) (hF : ∀ j, ¬ok (128 * n + r.val % 128) j → F j = 0) :
    ∑ kk ∈ range 256, (if sees n (128 * n + r.val % 128) kk then F (key n kk) else 0) = ∑ j ∈ range 2048, F j :=
  sum_window F n _ B.hn (Nat.le_add_right _ _) (by omega) hF

theorem den_eq (r : Fin 512) : ∃ μ : ℝ, (∀ c, k0_pay38 (F := Ideal) K M Q S (ix2 r c)
      = (((if sees n (128 * n + r.val % 128) c.val then wt q k (4 * g + r.val / 128) (128 * n + r.val % 128) (key n c.val) else 0) * Real.exp (-μ) : ℝ) : EReal))
    ∧ k0_pay39 (F := Ideal) K M Q S (ix2 r 0) = ((Real.exp (s (4 * g + r.val / 128)) * Real.exp (-μ) : ℝ) : EReal)
    ∧ k0_pay40 (F := Ideal) K M Q S (ix2 r 0) = ((den q k s (4 * g + r.val / 128) (128 * n + r.val % 128) * Real.exp (-μ) : ℝ) : EReal) := by
  obtain ⟨μ, h1, h2⟩ := exp_eq B r
  refine ⟨μ, h1, h2, ?_⟩
  pointwise [k0_pay40]
  rw [h2]; simp only [h1]
  rw [sum_fin 256 fun x => (if sees n (128 * n + r.val % 128) x then wt q k (4 * g + r.val / 128) (128 * n + r.val % 128) (key n x) else 0) * Real.exp (-μ),
    ← EReal.coe_add, ← sum_mul, window B r _ fun j hj => wt_zero q k hj, ← add_mul]
  rfl

theorem prob_eq (r : Fin 512) (c : Fin 256) : k0_pay41 (F := Ideal) K M Q S (ix2 r c)
    = ((if sees n (128 * n + r.val % 128) c.val then prob q k s (4 * g + r.val / 128) (128 * n + r.val % 128) (key n c.val) else 0 : ℝ) : EReal) := by
  obtain ⟨μ, h1, h2, h3⟩ := den_eq B r
  pointwise [k0_pay41]
  rw [h1, h3, div_real _ _ (mul_ne_zero (den_pos q k s _ _).ne' (Real.exp_pos _).ne'), div_shift _ _ _ (den_pos q k s _ _).ne']
  split
  · rfl
  · rw [zero_div]

theorem psink_eq (r : Fin 512) : k0_pay42 (F := Ideal) K M Q S (ix2 r 0)
    = ((psink q k s (4 * g + r.val / 128) (128 * n + r.val % 128) : ℝ) : EReal) := by
  obtain ⟨μ, h1, h2, h3⟩ := den_eq B r
  pointwise [k0_pay42]
  rw [h2, h3, div_real _ _ (mul_ne_zero (den_pos q k s _ _).ne' (Real.exp_pos _).ne'), div_shift _ _ _ (den_pos q k s _ _).ne']
  rfl

theorem dprob_eq (r : Fin 512) (c : Fin 256) : k0_pay65 (F := Ideal) V D (ix2 r c)
    = ((dprob v d (4 * g + r.val / 128) (128 * n + r.val % 128) (key n c.val) : ℝ) : EReal) := by
  pointwise [k0_pay65]
  simp only [B.hD, B.hV, ← EReal.coe_mul]
  rw [sum_fin 64 fun x => d (128 * n + r.val % 128) (64 * (4 * g + r.val / 128) + x) * v (key n c.val) (64 * g + x)]
  unfold dprob; rw [head_div B r]

theorem mean_eq (r : Fin 512) : k0_pay69 (F := Ideal) V D (k0_pay41 K M Q S) (ix2 r 0)
    = ((mean q k v d s (4 * g + r.val / 128) (128 * n + r.val % 128) : ℝ) : EReal) := by
  pointwise [k0_pay69]
  simp only [prob_eq B, dprob_eq B, ← EReal.coe_mul]
  rw [sum_fin 256 fun x => (if sees n (128 * n + r.val % 128) x then prob q k s (4 * g + r.val / 128) (128 * n + r.val % 128) (key n x) else 0)
    * dprob v d (4 * g + r.val / 128) (128 * n + r.val % 128) (key n x)]
  simp only [ite_mul, zero_mul]
  rw [window B r (fun j => prob q k s (4 * g + r.val / 128) (128 * n + r.val % 128) j * dprob v d (4 * g + r.val / 128) (128 * n + r.val % 128) j)
    fun j hj => by rw [prob_zero q k s hj, zero_mul]]
  rfl

theorem dscore_eq (r : Fin 512) (c : Fin 256) :
    k0_pay74 (F := Ideal) (k0_pay41 K M Q S) (k0_pay65 V D) (k0_pay69 V D (k0_pay41 K M Q S)) (ix2 r c)
    = ((if sees n (128 * n + r.val % 128) c.val then dscore q k v d s (4 * g + r.val / 128) (128 * n + r.val % 128) (key n c.val) else 0 : ℝ) : EReal) := by
  pointwise [k0_pay74]
  rw [prob_eq B, dprob_eq B, mean_eq B, word_eighth, ← EReal.coe_sub, ← EReal.coe_mul, ← EReal.coe_mul]
  refine congrArg _ ?_
  split
  · rfl
  · rw [zero_mul, zero_mul]

/-- What the block gives to the values' gradient, key by key. -/
theorem dv_eq (c : Fin 256) (e : Fin 64) : k0_pay123 (F := Ideal) D (k0_pay78 (k0_pay41 K M Q S)) (ix2 c e)
    = ((∑ b ∈ range 128, if sees n (128 * n + b) c.val then dvTerm q k d s g (128 * n + b) (key n c.val) e.val else 0 : ℝ) : EReal) := by
  pointwise [k0_pay123, k0_pay78]
  simp only [prob_eq B, B.hD, ← EReal.coe_mul]
  rw [sum_fin 512 fun r => (if sees n (128 * n + r % 128) c.val then prob q k s (4 * g + r / 128) (128 * n + r % 128) (key n c.val) else 0)
      * d (128 * n + r % 128) (64 * (4 * g + r / 128) + e.val),
    sum_rows fun a b => (if sees n (128 * n + b) c.val then prob q k s (4 * g + a) (128 * n + b) (key n c.val) else 0)
      * d (128 * n + b) (64 * (4 * g + a) + e.val)]
  refine congrArg _ (sum_congr rfl fun b _ => ?_)
  split
  · rfl
  · simp only [zero_mul, sum_const_zero]

/-- What the block gives to the keys' gradient, key by key. -/
theorem dk_eq (c : Fin 256) (e : Fin 64) :
    k0_pay119 (F := Ideal) Q (k0_pay74 (k0_pay41 K M Q S) (k0_pay65 V D) (k0_pay69 V D (k0_pay41 K M Q S))) (ix2 c e)
    = ((∑ b ∈ range 128, if sees n (128 * n + b) c.val then dkTerm q k v d s g (128 * n + b) (key n c.val) e.val else 0 : ℝ) : EReal) := by
  pointwise [k0_pay119]
  simp only [dscore_eq B, B.hQ, ← EReal.coe_mul]
  rw [sum_fin 512 fun r => (if sees n (128 * n + r % 128) c.val then dscore q k v d s (4 * g + r / 128) (128 * n + r % 128) (key n c.val) else 0)
      * q (128 * n + r % 128) (64 * (4 * g + r / 128) + e.val),
    sum_rows fun a b => (if sees n (128 * n + b) c.val then dscore q k v d s (4 * g + a) (128 * n + b) (key n c.val) else 0)
      * q (128 * n + b) (64 * (4 * g + a) + e.val)]
  refine congrArg _ (sum_congr rfl fun b _ => ?_)
  split
  · rfl
  · simp only [zero_mul, sum_const_zero]

/-- The gradient of the block's queries. -/
theorem dq_eq (r : Fin 512) (e : Fin 64) :
    k0_pay99 (F := Ideal) K (k0_pay74 (k0_pay41 K M Q S) (k0_pay65 V D) (k0_pay69 V D (k0_pay41 K M Q S))) (ix2 r e)
    = ((dq q k v d s (4 * g + r.val / 128) (128 * n + r.val % 128) e.val : ℝ) : EReal) := by
  pointwise [k0_pay99]
  simp only [dscore_eq B, B.hK, ← EReal.coe_mul]
  rw [sum_fin 256 fun x => (if sees n (128 * n + r.val % 128) x then dscore q k v d s (4 * g + r.val / 128) (128 * n + r.val % 128) (key n x) else 0)
    * k (key n x) (64 * g + e.val)]
  simp only [ite_mul, zero_mul]
  rw [window B r (fun j => dscore q k v d s (4 * g + r.val / 128) (128 * n + r.val % 128) j * k j (64 * g + e.val))
    fun j hj => by rw [dscore_zero q k v d s hj, zero_mul]]
  unfold dq; rw [head_div B r]

end

end Cert.AttnHead
end
-- ==== Proof.AttnMask.lean ====
/-
  The mask of the attention gradient's kernel: the word at a row and a column says whether the query sees the key.
-/
module

public import proofs.«01_k».proof.Proof.AttnHead

@[expose] public section

set_option maxRecDepth 16384

noncomputable section

namespace Cert.AttnHead

open Idealize.ShloMosaic Idealize.ShloMosaic.TcCoe
open Cert.AttnBwdIdeal Cert.AttnBwdIdeal.Gen Cert.AttnMath

/-- The row within its head. -/
theorem mask_row : ∀ r : Fin 512, Scalar.select
    (IntOp.andi
      (IntOp.xori
        (IntOp.cmpi CmpIPredicate.slt
          (IntOp.remsi ArithUnit.vector (BitVec.ofNat 32 r.val) (Scalar.select (Scalar.cmpi CmpIPredicate.eq 128#32 0#32) 1#32 128#32)) 0#32)
        (Scalar.cmpi CmpIPredicate.slt (Scalar.select (Scalar.cmpi CmpIPredicate.eq 128#32 0#32) 1#32 128#32) 0#32))
      (IntOp.cmpi CmpIPredicate.ne
        (IntOp.remsi ArithUnit.vector (BitVec.ofNat 32 r.val) (Scalar.select (Scalar.cmpi CmpIPredicate.eq 128#32 0#32) 1#32 128#32)) 0#32))
    (IntOp.addi
      (IntOp.remsi ArithUnit.vector (BitVec.ofNat 32 r.val) (Scalar.select (Scalar.cmpi CmpIPredicate.eq 128#32 0#32) 1#32 128#32))
      (Scalar.select (Scalar.cmpi CmpIPredicate.eq 128#32 0#32) 1#32 128#32))
    (IntOp.remsi ArithUnit.vector (BitVec.ofNat 32 r.val) (Scalar.select (Scalar.cmpi CmpIPredicate.eq 128#32 0#32) 1#32 128#32))
    = BitVec.ofNat 32 (r.val % 128) := by
  decide +kernel

/-- The window: the distance is at least 0 and below 128. -/
theorem mask_near : ∀ (a : Fin 128) (c : Fin 256), IntOp.andi
    (IntOp.cmpi CmpIPredicate.sge (IntOp.subi (IntOp.addi (BitVec.ofNat 32 a.val) 128#32) (BitVec.ofNat 32 c.val)) 0#32)
    (IntOp.cmpi CmpIPredicate.slt (IntOp.subi (IntOp.addi (BitVec.ofNat 32 a.val) 128#32) (BitVec.ofNat 32 c.val)) 128#32)
    = if c.val ≤ a.val + 128 ∧ a.val < c.val then 1#1 else 0#1 := by
  decide +kernel

/-- The first point's block before is not there. -/
theorem mask_there : ∀ (n : Fin 16) (c : Fin 256), IntOp.cmpi CmpIPredicate.sge
    (IntOp.addi (Scalar.subi (Scalar.muli (BitVec.ofNat 32 n.val) 128#32) 128#32) (BitVec.ofNat 32 c.val)) 0#32
    = if 128 ≤ 128 * n.val + c.val then 1#1 else 0#1 := by
  decide +kernel

theorem mask_eq {n : ℕ} (hn : n < 16) (r : Fin 512) (c : Fin 256) :
    k0_pay21 (BitVec.ofNat 32 n) (iota .tc S512x256 32 [1] iota_S512x256_d1_w32) k0_pay20 (ix2 r c)
      = if sees n (128 * n + r.val % 128) c.val then 1#1 else 0#1 := by
  pointwise [k0_pay21, k0_pay20]
  rw [mask_row r, mask_near ⟨r.val % 128, Nat.mod_lt _ (by norm_num)⟩ c, mask_there ⟨n, hn⟩ c]
  have e : sees n (128 * n + r.val % 128) c.val ↔ (c.val ≤ r.val % 128 + 128 ∧ r.val % 128 < c.val) ∧ 128 ≤ 128 * n + c.val := by
    constructor
    · rintro ⟨h, h1, h2⟩
      rw [key_of_le h] at h1 h2
      omega
    · rintro ⟨h1, h⟩
      refine ⟨h, ?_⟩
      rw [key_of_le h]
      omega
  rw [if_congr e rfl rfl]
  by_cases h1 : c.val ≤ r.val % 128 + 128 ∧ r.val % 128 < c.val <;> by_cases h2 : 128 ≤ 128 * n + c.val <;>
    simp only [h1, h2, if_true, if_false, and_true, and_false, and_self] <;> rfl

/-- Four heads' rows, stacked. -/
theorem stack {f : ℕ → ℕ → ℕ → ℝ} {a b c d : FVec Ideal S128x64 .bf16}
    (ha : ∀ (r : Fin 128) (e : Fin 64), a (ix2 r e) = ((f 0 r.val e.val : ℝ) : EReal))
    (hb : ∀ (r : Fin 128) (e : Fin 64), b (ix2 r e) = ((f 1 r.val e.val : ℝ) : EReal))
    (hc : ∀ (r : Fin 128) (e : Fin 64), c (ix2 r e) = ((f 2 r.val e.val : ℝ) : EReal))
    (hd : ∀ (r : Fin 128) (e : Fin 64), d (ix2 r e) = ((f 3 r.val e.val : ℝ) : EReal)) (r : Fin 512) (e : Fin 64) :
    k0_pay22 (F := Ideal) a b c d (ix2 r e) = ((f (r.val / 128) (r.val % 128) e.val : ℝ) : EReal) := by
  have hr := r.isLt
  pointwise [k0_pay22]
  split
  · rw [ha]; exact congrArg Real.toEReal (congrArg₂ (fun x y => f x y e.val) (by omega) (by first | omega | (dsimp only; omega)))
  · split
    · rw [hb]; exact congrArg Real.toEReal (congrArg₂ (fun x y => f x y e.val) (by omega) (by first | omega | (dsimp only; omega)))
    · split
      · rw [hc]; exact congrArg Real.toEReal (congrArg₂ (fun x y => f x y e.val) (by omega) (by first | omega | (dsimp only; omega)))
      · rw [hd]; exact congrArg Real.toEReal (congrArg₂ (fun x y => f x y e.val) (by omega) (by first | omega | (dsimp only; omega)))

/-- Two blocks of keys, stacked. -/
theorem stack2 {f : ℕ → ℕ → ℝ} {n : ℕ} {a b : FVec Ideal S128x64 .bf16}
    (ha : ∀ (r : Fin 128) (e : Fin 64), a (ix2 r e) = ((f (128 * (n - 1) + r.val) e.val : ℝ) : EReal))
    (hb : ∀ (r : Fin 128) (e : Fin 64), b (ix2 r e) = ((f (128 * n + r.val) e.val : ℝ) : EReal)) (c : Fin 256) (e : Fin 64) :
    k0_pay12 (F := Ideal) a b (ix2 c e) = ((f (key n c.val) e.val : ℝ) : EReal) := by
  pointwise [k0_pay12]
  unfold key
  split
  · rw [ha]
  · rw [hb]

/-- The four heads' sinks. -/
theorem stack1 {f : ℕ → ℝ} {a b c d : Elt Ideal .f32} (ha : a = ((f 0 : ℝ) : EReal)) (hb : b = ((f 1 : ℝ) : EReal))
    (hc : c = ((f 2 : ℝ) : EReal)) (hd : d = ((f 3 : ℝ) : EReal)) (r : Fin 512) :
    k0_pay30 (F := Ideal) a b c d (ix2 r 0) = ((f (r.val / 128) : ℝ) : EReal) := by
  have hr := r.isLt
  pointwise [k0_pay30]
  split
  · rw [ha]; exact congrArg _ (congrArg f (by omega))
  · split
    · rw [hb]; exact congrArg _ (congrArg f (by omega))
    · split
      · rw [hc]; exact congrArg _ (congrArg f (by omega))
      · rw [hd]; exact congrArg _ (congrArg f (by omega))

end Cert.AttnHead
end
-- ==== Proof.AttnPoint.lean ====
/-
  One grid point of the attention gradient's kernel: what the loads of its blocks read, and the four heads of keys as blocks of
  real numbers.
-/
module

public import proofs.«01_k».proof.Proof.AttnMask
public import proofs.«01_k».proof.Proof.AttnHead
public import proofs.«01_k».proof.Proof.AttnRunB

@[expose] public section

set_option maxRecDepth 16384

noncomputable section

namespace Cert.AttnPoint

open Idealize.ShloMosaic Idealize.ShloMosaic.TcCoe
open Cert.AttnBwdIdeal Cert.AttnBwdIdeal.Gen Cert.AttnBwdIdeal.Body Cert.AttnMath Cert.AttnHead

/-- The blocks of grid point `n`, as real numbers: the queries, the keys and values of this block and of the block before, the
    gradient of the output, the positions of the two blocks, the frequencies and the sinks. -/
structure Inputs (n : ℕ) (q k v d : ℕ → ℕ → ℝ) (s pos fr : ℕ → ℝ) (x0 : Vec Ideal S128x1024 .bf16) (x1 x2 : Vec Ideal S128x256 .bf16)
    (x3 x4 : Vec Ideal S128x256 .f32) (x5 : Vec Ideal S128x1024 .bf16) (x6 x7 : Vec Ideal S128x1 .f32) (x8 : Vec Ideal S1x128 .f32)
    (x9 : Vec Ideal S1x16 .f32) : Prop where
  hn : n < 16
  h0 : ∀ (r : Fin 128) (c : Fin 1024), x0 (ix2 r c) = ((q (128 * n + r.val) c.val : ℝ) : EReal)
  h1 : ∀ (r : Fin 128) (c : Fin 256), x1 (ix2 r c) = ((k (128 * n + r.val) c.val : ℝ) : EReal)
  h2 : ∀ (r : Fin 128) (c : Fin 256), x2 (ix2 r c) = ((k (128 * (n - 1) + r.val) c.val : ℝ) : EReal)
  h3 : ∀ (r : Fin 128) (c : Fin 256), x3 (ix2 r c) = ((v (128 * n + r.val) c.val : ℝ) : EReal)
  h4 : ∀ (r : Fin 128) (c : Fin 256), x4 (ix2 r c) = ((v (128 * (n - 1) + r.val) c.val : ℝ) : EReal)
  h5 : ∀ (r : Fin 128) (c : Fin 1024), x5 (ix2 r c) = ((d (128 * n + r.val) c.val : ℝ) : EReal)
  h6 : ∀ r : Fin 128, x6 (ix2 r 0) = ((pos (128 * n + r.val) : ℝ) : EReal)
  h7 : ∀ r : Fin 128, x7 (ix2 r 0) = ((pos (128 * (n - 1) + r.val) : ℝ) : EReal)
  h8 : ∀ c : Fin 128, x8 (ix2 0 c) = ((fr (c.val % 32) : ℝ) : EReal)
  h9 : ∀ h : Fin 16, x9 (ix2 0 h) = ((s h.val : ℝ) : EReal)

/-- A load of 64 columns of a block of real numbers. -/
theorem piece {κ : Kind} {sp : Space} {φ : EltTy} {m : Memref sig κ sp S128x1024 φ} (h : m.IsWhole) (x : Vec Ideal S128x1024 φ) (o : ℕ)
    (inb : ∀ a, (![0, o] : Fin 2 → ℕ) a + S128x64.size a ≤ S128x1024.size a) (r : Fin 128) (e : Fin 64) (j : Fin 1024) (hj : j.val = o + e.val) :
    View.readAt (Elt Ideal) m.view (Rect.unit (s := S128x1024) ![0, o] S128x64.size inb).toLoadRect (h.unread x) (ix2 r e) = x (ix2 r j) := by
  rw [View.readAt_eq_ld, Memref.IsWhole.read_unread]
  refine View.ld_unit_apply_of _ _ _ _ _ _ fun a => ?_
  match a with
  | 0 => exact (Nat.zero_add _).symm
  | 1 => exact hj

theorem piece' {κ : Kind} {sp : Space} {φ : EltTy} {m : Memref sig κ sp S128x256 φ} (h : m.IsWhole) (x : Vec Ideal S128x256 φ) (o : ℕ)
    (inb : ∀ a, (![0, o] : Fin 2 → ℕ) a + S128x64.size a ≤ S128x256.size a) (r : Fin 128) (e : Fin 64) (j : Fin 256) (hj : j.val = o + e.val) :
    View.readAt (Elt Ideal) m.view (Rect.unit (s := S128x256) ![0, o] S128x64.size inb).toLoadRect (h.unread x) (ix2 r e) = x (ix2 r j) := by
  rw [View.readAt_eq_ld, Memref.IsWhole.read_unread]
  refine View.ld_unit_apply_of _ _ _ _ _ _ fun a => ?_
  match a with
  | 0 => exact (Nat.zero_add _).symm
  | 1 => exact hj

theorem word {κ : Kind} {sp : Space} {φ : EltTy} {m : Memref sig κ sp S1x16 φ} (h : m.IsWhole) (x : Vec Ideal S1x16 φ) (o : ℕ)
    (inb : ∀ a, (![0, o] : Fin 2 → ℕ) a + S1x1.size a ≤ S1x16.size a) (y) (j : Fin 16) (hj : j.val = o) :
    View.readAt (Elt Ideal) m.view (Rect.unit (s := S1x16) ![0, o] S1x1.size inb).toLoadRect (h.unread x) y = x (ix2 0 j) := by
  rw [View.readAt_eq_ld, Memref.IsWhole.read_unread]
  refine View.ld_unit_apply_of _ _ _ _ _ _ fun a => ?_
  match a with
  | 0 => exact (by have : (y 0).val < 1 := (y 0).isLt
                   show 0 = 0 + (y 0).val; omega)
  | 1 => exact (by have : (y 1).val < 1 := (y 1).isLt
                   show j.val = o + (y 1).val; omega)

section
variable {n : ℕ} {q k v d : ℕ → ℕ → ℝ} {s pos fr : ℕ → ℝ} {x0 : Vec Ideal S128x1024 .bf16} {x1 x2 : Vec Ideal S128x256 .bf16}
  {x3 x4 : Vec Ideal S128x256 .f32} {x5 : Vec Ideal S128x1024 .bf16} {x6 x7 : Vec Ideal S128x1 .f32} {x8 : Vec Ideal S1x128 .f32}
  {x9 : Vec Ideal S1x16 .f32} (I : Inputs n q k v d s pos fr x0 x1 x2 x3 x4 x5 x6 x7 x8 x9)
  (c : Dev nD) (i : Pipeline.Grid.Coords grid0) (hi : (i 0).val = n)
  (arg1 : Memref sig .tc .vmem S128x1024 .bf16) (g1 : arg1.IsWhole) (arg2 : Memref sig .tc .vmem S128x256 .bf16) (g2 : arg2.IsWhole)
  (arg3 : Memref sig .tc .vmem S128x256 .bf16) (g3 : arg3.IsWhole) (arg4 : Memref sig .tc .vmem S128x256 .f32) (g4 : arg4.IsWhole)
  (arg5 : Memref sig .tc .vmem S128x256 .f32) (g5 : arg5.IsWhole) (arg6 : Memref sig .tc .vmem S128x1024 .bf16) (g6 : arg6.IsWhole)
  (arg10 : Memref sig .tc .smem S1x16 .f32) (g10 : arg10.IsWhole)
include I hi

theorem block0 : Block n 0 q k v d s (runB.sl.r_15 c arg1 g1 x0) (runB.sl.r_4 c arg2 g2 arg3 g3 x1 x2) (runB.sl.r_5 c arg4 g4 arg5 g5 x3 x4)
    (runB.sl.r_20 c arg6 g6 x5) (runB.sl.r_42 c arg10 g10 x9) (runB.sl.r_14 i) where
  hn := I.hn
  hQ := fun r e => by
    refine stack (f := fun a b e => q (128 * n + b) (64 * (4 * 0 + a) + e)) ?_ ?_ ?_ ?_ r e
    · exact fun r e => (piece g1 x0 0 _ r e ⟨0 + e.val, by have := e.isLt; omega⟩ rfl).trans (I.h0 r _)
    · exact fun r e => (piece g1 x0 64 _ r e ⟨64 + e.val, by have := e.isLt; omega⟩ rfl).trans (I.h0 r _)
    · exact fun r e => (piece g1 x0 128 _ r e ⟨128 + e.val, by have := e.isLt; omega⟩ rfl).trans (I.h0 r _)
    · exact fun r e => (piece g1 x0 192 _ r e ⟨192 + e.val, by have := e.isLt; omega⟩ rfl).trans (I.h0 r _)
  hD := fun r e => by
    refine stack (f := fun a b e => d (128 * n + b) (64 * (4 * 0 + a) + e)) ?_ ?_ ?_ ?_ r e
    · exact fun r e => (piece g6 x5 0 _ r e ⟨0 + e.val, by have := e.isLt; omega⟩ rfl).trans (I.h5 r _)
    · exact fun r e => (piece g6 x5 64 _ r e ⟨64 + e.val, by have := e.isLt; omega⟩ rfl).trans (I.h5 r _)
    · exact fun r e => (piece g6 x5 128 _ r e ⟨128 + e.val, by have := e.isLt; omega⟩ rfl).trans (I.h5 r _)
    · exact fun r e => (piece g6 x5 192 _ r e ⟨192 + e.val, by have := e.isLt; omega⟩ rfl).trans (I.h5 r _)
  hK := fun r e => by
    refine stack2 (f := fun b e => k b (64 * 0 + e)) ?_ ?_ r e
    · exact fun r e => (piece' g3 x2 0 _ r e ⟨0 + e.val, by have := e.isLt; omega⟩ rfl).trans (I.h2 r _)
    · exact fun r e => (piece' g2 x1 0 _ r e ⟨0 + e.val, by have := e.isLt; omega⟩ rfl).trans (I.h1 r _)
  hV := fun r e => by
    refine stack2 (f := fun b e => v b (64 * 0 + e)) ?_ ?_ r e
    · exact fun r e => (piece' g5 x4 0 _ r e ⟨0 + e.val, by have := e.isLt; omega⟩ rfl).trans (I.h4 r _)
    · exact fun r e => (piece' g4 x3 0 _ r e ⟨0 + e.val, by have := e.isLt; omega⟩ rfl).trans (I.h3 r _)
  hS := fun r => by
    refine stack1 (f := fun a => s (4 * 0 + a)) ?_ ?_ ?_ ?_ r
    · exact (word g10 x9 0 _ _ ⟨0, by norm_num⟩ rfl).trans (I.h9 _)
    · exact (word g10 x9 1 _ _ ⟨1, by norm_num⟩ rfl).trans (I.h9 _)
    · exact (word g10 x9 2 _ _ ⟨2, by norm_num⟩ rfl).trans (I.h9 _)
    · exact (word g10 x9 3 _ _ ⟨3, by norm_num⟩ rfl).trans (I.h9 _)
  hM := fun r e => by
    have h := mask_eq I.hn r e
    rw [← hi] at h ⊢
    exact h

theorem block1 : Block n 1 q k v d s (runB.sl.r_16 c arg1 g1 x0) (runB.sl.r_6 c arg2 g2 arg3 g3 x1 x2) (runB.sl.r_9 c arg4 g4 arg5 g5 x3 x4)
    (runB.sl.r_21 c arg6 g6 x5) (runB.sl.r_43 c arg10 g10 x9) (runB.sl.r_14 i) where
  hn := I.hn
  hQ := fun r e => by
    refine stack (f := fun a b e => q (128 * n + b) (64 * (4 * 1 + a) + e)) ?_ ?_ ?_ ?_ r e
    · exact fun r e => (piece g1 x0 256 _ r e ⟨256 + e.val, by have := e.isLt; omega⟩ rfl).trans (I.h0 r _)
    · exact fun r e => (piece g1 x0 320 _ r e ⟨320 + e.val, by have := e.isLt; omega⟩ rfl).trans (I.h0 r _)
    · exact fun r e => (piece g1 x0 384 _ r e ⟨384 + e.val, by have := e.isLt; omega⟩ rfl).trans (I.h0 r _)
    · exact fun r e => (piece g1 x0 448 _ r e ⟨448 + e.val, by have := e.isLt; omega⟩ rfl).trans (I.h0 r _)
  hD := fun r e => by
    refine stack (f := fun a b e => d (128 * n + b) (64 * (4 * 1 + a) + e)) ?_ ?_ ?_ ?_ r e
    · exact fun r e => (piece g6 x5 256 _ r e ⟨256 + e.val, by have := e.isLt; omega⟩ rfl).trans (I.h5 r _)
    · exact fun r e => (piece g6 x5 320 _ r e ⟨320 + e.val, by have := e.isLt; omega⟩ rfl).trans (I.h5 r _)
    · exact fun r e => (piece g6 x5 384 _ r e ⟨384 + e.val, by have := e.isLt; omega⟩ rfl).trans (I.h5 r _)
    · exact fun r e => (piece g6 x5 448 _ r e ⟨448 + e.val, by have := e.isLt; omega⟩ rfl).trans (I.h5 r _)
  hK := fun r e => by
    refine stack2 (f := fun b e => k b (64 * 1 + e)) ?_ ?_ r e
    · exact fun r e => (piece' g3 x2 64 _ r e ⟨64 + e.val, by have := e.isLt; omega⟩ rfl).trans (I.h2 r _)
    · exact fun r e => (piece' g2 x1 64 _ r e ⟨64 + e.val, by have := e.isLt; omega⟩ rfl).trans (I.h1 r _)
  hV := fun r e => by
    refine stack2 (f := fun b e => v b (64 * 1 + e)) ?_ ?_ r e
    · exact fun r e => (piece' g5 x4 64 _ r e ⟨64 + e.val, by have := e.isLt; omega⟩ rfl).trans (I.h4 r _)
    · exact fun r e => (piece' g4 x3 64 _ r e ⟨64 + e.val, by have := e.isLt; omega⟩ rfl).trans (I.h3 r _)
  hS := fun r => by
    refine stack1 (f := fun a => s (4 * 1 + a)) ?_ ?_ ?_ ?_ r
    · exact (word g10 x9 4 _ _ ⟨4, by norm_num⟩ rfl).trans (I.h9 _)
    · exact (word g10 x9 5 _ _ ⟨5, by norm_num⟩ rfl).trans (I.h9 _)
    · exact (word g10 x9 6 _ _ ⟨6, by norm_num⟩ rfl).trans (I.h9 _)
    · exact (word g10 x9 7 _ _ ⟨7, by norm_num⟩ rfl).trans (I.h9 _)
  hM := fun r e => by
    have h := mask_eq I.hn r e
    rw [← hi] at h ⊢
    exact h

theorem block2 : Block n 2 q k v d s (runB.sl.r_17 c arg1 g1 x0) (runB.sl.r_10 c arg2 g2 arg3 g3 x1 x2) (runB.sl.r_11 c arg4 g4 arg5 g5 x3 x4)
    (runB.sl.r_22 c arg6 g6 x5) (runB.sl.r_44 c arg10 g10 x9) (runB.sl.r_14 i) where
  hn := I.hn
  hQ := fun r e => by
    refine stack (f := fun a b e => q (128 * n + b) (64 * (4 * 2 + a) + e)) ?_ ?_ ?_ ?_ r e
    · exact fun r e => (piece g1 x0 512 _ r e ⟨512 + e.val, by have := e.isLt; omega⟩ rfl).trans (I.h0 r _)
    · exact fun r e => (piece g1 x0 576 _ r e ⟨576 + e.val, by have := e.isLt; omega⟩ rfl).trans (I.h0 r _)
    · exact fun r e => (piece g1 x0 640 _ r e ⟨640 + e.val, by have := e.isLt; omega⟩ rfl).trans (I.h0 r _)
    · exact fun r e => (piece g1 x0 704 _ r e ⟨704 + e.val, by have := e.isLt; omega⟩ rfl).trans (I.h0 r _)
  hD := fun r e => by
    refine stack (f := fun a b e => d (128 * n + b) (64 * (4 * 2 + a) + e)) ?_ ?_ ?_ ?_ r e
    · exact fun r e => (piece g6 x5 512 _ r e ⟨512 + e.val, by have := e.isLt; omega⟩ rfl).trans (I.h5 r _)
    · exact fun r e => (piece g6 x5 576 _ r e ⟨576 + e.val, by have := e.isLt; omega⟩ rfl).trans (I.h5 r _)
    · exact fun r e => (piece g6 x5 640 _ r e ⟨640 + e.val, by have := e.isLt; omega⟩ rfl).trans (I.h5 r _)
    · exact fun r e => (piece g6 x5 704 _ r e ⟨704 + e.val, by have := e.isLt; omega⟩ rfl).trans (I.h5 r _)
  hK := fun r e => by
    refine stack2 (f := fun b e => k b (64 * 2 + e)) ?_ ?_ r e
    · exact fun r e => (piece' g3 x2 128 _ r e ⟨128 + e.val, by have := e.isLt; omega⟩ rfl).trans (I.h2 r _)
    · exact fun r e => (piece' g2 x1 128 _ r e ⟨128 + e.val, by have := e.isLt; omega⟩ rfl).trans (I.h1 r _)
  hV := fun r e => by
    refine stack2 (f := fun b e => v b (64 * 2 + e)) ?_ ?_ r e
    · exact fun r e => (piece' g5 x4 128 _ r e ⟨128 + e.val, by have := e.isLt; omega⟩ rfl).trans (I.h4 r _)
    · exact fun r e => (piece' g4 x3 128 _ r e ⟨128 + e.val, by have := e.isLt; omega⟩ rfl).trans (I.h3 r _)
  hS := fun r => by
    refine stack1 (f := fun a => s (4 * 2 + a)) ?_ ?_ ?_ ?_ r
    · exact (word g10 x9 8 _ _ ⟨8, by norm_num⟩ rfl).trans (I.h9 _)
    · exact (word g10 x9 9 _ _ ⟨9, by norm_num⟩ rfl).trans (I.h9 _)
    · exact (word g10 x9 10 _ _ ⟨10, by norm_num⟩ rfl).trans (I.h9 _)
    · exact (word g10 x9 11 _ _ ⟨11, by norm_num⟩ rfl).trans (I.h9 _)
  hM := fun r e => by
    have h := mask_eq I.hn r e
    rw [← hi] at h ⊢
    exact h

theorem block3 : Block n 3 q k v d s (runB.sl.r_19 c arg1 g1 x0) (runB.sl.r_12 c arg2 g2 arg3 g3 x1 x2) (runB.sl.r_13 c arg4 g4 arg5 g5 x3 x4)
    (runB.sl.r_41 c arg6 g6 x5) (runB.sl.r_49 c arg10 g10 x9) (runB.sl.r_14 i) where
  hn := I.hn
  hQ := fun r e => by
    refine stack (f := fun a b e => q (128 * n + b) (64 * (4 * 3 + a) + e)) ?_ ?_ ?_ ?_ r e
    · exact fun r e => (piece g1 x0 768 _ r e ⟨768 + e.val, by have := e.isLt; omega⟩ rfl).trans (I.h0 r _)
    · exact fun r e => (piece g1 x0 832 _ r e ⟨832 + e.val, by have := e.isLt; omega⟩ rfl).trans (I.h0 r _)
    · exact fun r e => (piece g1 x0 896 _ r e ⟨896 + e.val, by have := e.isLt; omega⟩ rfl).trans (I.h0 r _)
    · exact fun r e => (piece g1 x0 960 _ r e ⟨960 + e.val, by have := e.isLt; omega⟩ rfl).trans (I.h0 r _)
  hD := fun r e => by
    refine stack (f := fun a b e => d (128 * n + b) (64 * (4 * 3 + a) + e)) ?_ ?_ ?_ ?_ r e
    · exact fun r e => (piece g6 x5 768 _ r e ⟨768 + e.val, by have := e.isLt; omega⟩ rfl).trans (I.h5 r _)
    · exact fun r e => (piece g6 x5 832 _ r e ⟨832 + e.val, by have := e.isLt; omega⟩ rfl).trans (I.h5 r _)
    · exact fun r e => (piece g6 x5 896 _ r e ⟨896 + e.val, by have := e.isLt; omega⟩ rfl).trans (I.h5 r _)
    · exact fun r e => (piece g6 x5 960 _ r e ⟨960 + e.val, by have := e.isLt; omega⟩ rfl).trans (I.h5 r _)
  hK := fun r e => by
    refine stack2 (f := fun b e => k b (64 * 3 + e)) ?_ ?_ r e
    · exact fun r e => (piece' g3 x2 192 _ r e ⟨192 + e.val, by have := e.isLt; omega⟩ rfl).trans (I.h2 r _)
    · exact fun r e => (piece' g2 x1 192 _ r e ⟨192 + e.val, by have := e.isLt; omega⟩ rfl).trans (I.h1 r _)
  hV := fun r e => by
    refine stack2 (f := fun b e => v b (64 * 3 + e)) ?_ ?_ r e
    · exact fun r e => (piece' g5 x4 192 _ r e ⟨192 + e.val, by have := e.isLt; omega⟩ rfl).trans (I.h4 r _)
    · exact fun r e => (piece' g4 x3 192 _ r e ⟨192 + e.val, by have := e.isLt; omega⟩ rfl).trans (I.h3 r _)
  hS := fun r => by
    refine stack1 (f := fun a => s (4 * 3 + a)) ?_ ?_ ?_ ?_ r
    · exact (word g10 x9 12 _ _ ⟨12, by norm_num⟩ rfl).trans (I.h9 _)
    · exact (word g10 x9 13 _ _ ⟨13, by norm_num⟩ rfl).trans (I.h9 _)
    · exact (word g10 x9 14 _ _ ⟨14, by norm_num⟩ rfl).trans (I.h9 _)
    · exact (word g10 x9 15 _ _ ⟨15, by norm_num⟩ rfl).trans (I.h9 _)
  hM := fun r e => by
    have h := mask_eq I.hn r e
    rw [← hi] at h ⊢
    exact h

end

end Cert.AttnPoint
end
-- ==== Proof.AttnAcc.lean ====
/-
  The gradients of the keys and values are added up over the grid in one whole array: at each point four tiles of 128 rows and
  128 columns are read, added to and written back, in the rows of the point's own block and of the block before.
-/
module

public import proofs.«01_k».proof.Proof.AttnPoint

@[expose] public section

set_option maxRecDepth 16384

noncomputable section

namespace Cert.AttnAcc

open Idealize.ShloMosaic Idealize.ShloMosaic.TcCoe
open Cert.AttnBwdIdeal Cert.AttnBwdIdeal.Gen Cert.AttnMath Finset

section
variable {κ : Kind} {sp : Space} {v : View sig κ sp S2048x256 .f32} {f : v.ty.Contents (Elt Ideal)} {L : List (View.Piece (Elt Ideal) S2048x256 .f32)}

/-- After the writes `L` the array holds the real numbers `A`. -/
def holds (v : View sig κ sp S2048x256 .f32) (f : v.ty.Contents (Elt Ideal)) (L : List (View.Piece (Elt Ideal) S2048x256 .f32)) (A : ℕ → ℕ → ℝ) : Prop :=
  ∀ (j : Fin 2048) (c : Fin 256), v.read (Elt Ideal) (v.writes (Elt Ideal) f L) (ix2 j c) = ((A j.val c.val : ℝ) : EReal)

/-- An array filled with zeros. -/
theorem fill (v : View sig κ sp S2048x256 .f32) (f : v.ty.Contents (Elt Ideal)) (inb : ∀ a, (![0, 0] : Fin 2 → ℕ) a + S2048x256.size a ≤ S2048x256.size a)
    (w : Vec Ideal S2048x256 .f32) (hw : ∀ y, w y = 0) : holds v f [⟨Rect.unit (s := S2048x256) ![0, 0] S2048x256.size inb, w⟩] (fun _ _ => 0) := by
  intro j c
  refine (View.read_writes_cons_hit_of_coords v f (Rect.unit (s := S2048x256) ![0, 0] S2048x256.size inb) w [] (ix2 j c) _ fun a => ?_).trans (hw _)
  match a with
  | 0 => show j.val = 0 + 1 * j.val; omega
  | 1 => show c.val = 0 + 1 * c.val; omega

theorem load {A : ℕ → ℕ → ℝ} (h : holds v f L A) {o0 o1 : ℕ} {off : Fin 2 → ℕ} (ho : off = ![o0, o1])
    (inb : ∀ a, off a + S128x128.size a ≤ S2048x256.size a) (a b : Fin 128) :
    View.readAt (Elt Ideal) v (Rect.unit (s := S2048x256) off S128x128.size inb).toLoadRect (v.writes (Elt Ideal) f L) (ix2 a b)
      = ((A (o0 + a.val) (o1 + b.val) : ℝ) : EReal) := by
  subst ho
  have h0 : o0 + 128 ≤ 2048 := inb 0
  have h1 : o1 + 128 ≤ 256 := inb 1
  have ha := a.isLt
  have hb := b.isLt
  rw [View.readAt_eq_ld]
  refine (View.ld_unit_apply_of _ _ _ _ _ (ix2 ⟨o0 + a.val, by omega⟩ ⟨o1 + b.val, by omega⟩) fun x => ?_).trans (h _ _)
  match x with
  | 0 => exact rfl
  | 1 => exact rfl

theorem step {A T : ℕ → ℕ → ℝ} (h : holds v f L A) {o0 o1 : ℕ} {off : Fin 2 → ℕ} (ho : off = ![o0, o1])
    (inb : ∀ a, off a + S128x128.size a ≤ S2048x256.size a) (w : Vec Ideal S128x128 .f32)
    (hw : ∀ (a b : Fin 128) (x : ℝ), View.readAt (Elt Ideal) v (Rect.unit (s := S2048x256) off S128x128.size inb).toLoadRect (v.writes (Elt Ideal) f L) (ix2 a b)
      = ((x : ℝ) : EReal) → w (ix2 a b) = ((x + T a.val b.val : ℝ) : EReal)) :
    holds v f (⟨Rect.unit (s := S2048x256) off S128x128.size inb, w⟩ :: L)
      (fun j c => A j c + if (o0 ≤ j ∧ j < o0 + 128) ∧ o1 ≤ c ∧ c < o1 + 128 then T (j - o0) (c - o1) else 0) := by
  intro j c
  have hl := load h ho inb
  subst ho
  dsimp only
  by_cases hy : (o0 ≤ j.val ∧ j.val < o0 + 128) ∧ o1 ≤ c.val ∧ c.val < o1 + 128
  · rw [if_pos hy]
    refine (View.read_writes_cons_hit_of_coords v f (Rect.unit (s := S2048x256) ![o0, o1] S128x128.size inb) w L (ix2 (⟨j.val - o0, by omega⟩ : Fin 128) (⟨c.val - o1, by omega⟩ : Fin 128)) _ fun a => ?_).trans ?_
    · match a with
      | 0 => show j.val = o0 + 1 * (j.val - o0); omega
      | 1 => show c.val = o1 + 1 * (c.val - o1); omega
    · refine (hw _ _ _ (hl _ _)).trans ?_
      dsimp only
      rw [show o0 + (j.val - o0) = j.val by omega, show o1 + (c.val - o1) = c.val by omega]
  · rw [if_neg hy, add_zero]
    refine (View.read_writes_cons_miss v f _ L _ fun hm => hy ?_).trans (h j c)
    have h' := (Rect.mem_set_unit (inb := inb)).1 hm
    exact ⟨h' 0, h' 1⟩

/-- The four tiles of point `n`: the rows of its own block take `G` at the columns 128–255 of the window, those of the block before
    at the columns 0–127; the column's number over 64 is the head. -/
theorem four {A : ℕ → ℕ → ℝ} (h : holds v f L A) {n : ℕ} (G : ℕ → ℕ → ℕ → ℝ) {off1 off2 off3 off4 : Fin 2 → ℕ}
    (ho1 : off1 = ![128 * n, 0]) (ho2 : off2 = ![128 * (n - 1), 0]) (ho3 : off3 = ![128 * n, 128]) (ho4 : off4 = ![128 * (n - 1), 128])
    (inb1 : ∀ a, off1 a + S128x128.size a ≤ S2048x256.size a) (inb2 : ∀ a, off2 a + S128x128.size a ≤ S2048x256.size a)
    (inb3 : ∀ a, off3 a + S128x128.size a ≤ S2048x256.size a) (inb4 : ∀ a, off4 a + S128x128.size a ≤ S2048x256.size a)
    (w1 w2 w3 w4 : Vec Ideal S128x128 .f32) {L1 L2 L3 L4 : List (View.Piece (Elt Ideal) S2048x256 .f32)}
    (hL1 : L1 = ⟨Rect.unit (s := S2048x256) off1 S128x128.size inb1, w1⟩ :: L) (hL2 : L2 = ⟨Rect.unit (s := S2048x256) off2 S128x128.size inb2, w2⟩ :: L1)
    (hL3 : L3 = ⟨Rect.unit (s := S2048x256) off3 S128x128.size inb3, w3⟩ :: L2) (hL4 : L4 = ⟨Rect.unit (s := S2048x256) off4 S128x128.size inb4, w4⟩ :: L3)
    (hw1 : ∀ (a b : Fin 128) (x : ℝ), View.readAt (Elt Ideal) v (Rect.unit (s := S2048x256) off1 S128x128.size inb1).toLoadRect (v.writes (Elt Ideal) f L) (ix2 a b)
      = ((x : ℝ) : EReal) → w1 (ix2 a b) = ((x + G (b.val / 64) (a.val + 128) (b.val % 64) : ℝ) : EReal))
    (hw2 : ∀ (a b : Fin 128) (x : ℝ), View.readAt (Elt Ideal) v (Rect.unit (s := S2048x256) off2 S128x128.size inb2).toLoadRect (v.writes (Elt Ideal) f L1) (ix2 a b)
      = ((x : ℝ) : EReal) → w2 (ix2 a b) = ((x + G (b.val / 64) a.val (b.val % 64) : ℝ) : EReal))
    (hw3 : ∀ (a b : Fin 128) (x : ℝ), View.readAt (Elt Ideal) v (Rect.unit (s := S2048x256) off3 S128x128.size inb3).toLoadRect (v.writes (Elt Ideal) f L2) (ix2 a b)
      = ((x : ℝ) : EReal) → View.readAt (Elt Ideal) v (Rect.unit (s := S2048x256) off3 S128x128.size inb3).toLoadRect (v.writes (Elt Ideal) f L) (ix2 a b)
      = ((x : ℝ) : EReal) → w3 (ix2 a b) = ((x + G (b.val / 64 + 2) (a.val + 128) (b.val % 64) : ℝ) : EReal))
    (hw4 : ∀ (a b : Fin 128) (x : ℝ), View.readAt (Elt Ideal) v (Rect.unit (s := S2048x256) off4 S128x128.size inb4).toLoadRect (v.writes (Elt Ideal) f L3) (ix2 a b)
      = ((x : ℝ) : EReal) → w4 (ix2 a b) = ((x + G (b.val / 64 + 2) a.val (b.val % 64) : ℝ) : EReal)) :
    holds v f L4 (fun j c => A j c + ((if 128 * n ≤ j ∧ j < 128 * n + 128 then G (c / 64) (j - 128 * n + 128) (c % 64) else 0)
      + if 128 * (n - 1) ≤ j ∧ j < 128 * (n - 1) + 128 then G (c / 64) (j - 128 * (n - 1)) (c % 64) else 0)) := by
  subst hL1 hL2 hL3 hL4
  have k1 := step (T := fun a b => G (b / 64) (a + 128) (b % 64)) h ho1 inb1 w1 hw1
  have k2 := step (T := fun a b => G (b / 64) a (b % 64)) k1 ho2 inb2 w2 hw2
  have k3 := step (T := fun a b => G (b / 64 + 2) (a + 128) (b % 64)) k2 ho3 inb3 w3 fun a b x hx => hw3 a b x hx ((load h ho3 inb3 a b).trans (by
    rw [← hx, load k2 ho3 inb3 a b]
    have e1 : ∀ p : Prop, (p ∧ 0 ≤ 128 + b.val ∧ 128 + b.val < 0 + 128) = False := fun p => by simp
    simp only [e1, if_false, add_zero]))
  have k4 := step (T := fun a b => G (b / 64 + 2) a (b % 64)) k3 ho4 inb4 w4 hw4
  intro j c
  refine (k4 j c).trans (congrArg Real.toEReal ?_)
  have hc := c.isLt
  dsimp only
  by_cases hlo : c.val < 128
  · have e1 : ∀ p : Prop, (p ∧ 128 ≤ c.val ∧ c.val < 128 + 128) = False := fun p => by simp; omega
    have e2 : ∀ p : Prop, (p ∧ 0 ≤ c.val ∧ c.val < 0 + 128) = p := fun p => by simp; omega
    simp only [e1, e2, if_false, Nat.sub_zero, add_zero]
    rw [add_assoc]
  · have e1 : ∀ p : Prop, (p ∧ 128 ≤ c.val ∧ c.val < 128 + 128) = p := fun p => by simp; omega
    have e2 : ∀ p : Prop, (p ∧ 0 ≤ c.val ∧ c.val < 0 + 128) = False := fun p => by simp; omega
    simp only [e1, e2, if_false, Nat.sub_zero, add_zero]
    rw [add_assoc, show (c.val - 128) / 64 + 2 = c.val / 64 by omega, show (c.val - 128) % 64 = c.val % 64 by omega]

end

/-- Over the two blocks of the window the point's contributions are those of its 128 queries to every key. -/
theorem gather {n : ℕ} (hn : n < 16) (F : ℕ → ℕ → ℝ) (hF : ∀ i j, ¬ok i j → F i j = 0) (j : ℕ) :
    (if 128 * n ≤ j ∧ j < 128 * n + 128 then
        ∑ b ∈ range 128, (if sees n (128 * n + b) (j - 128 * n + 128) then F (128 * n + b) (key n (j - 128 * n + 128)) else 0) else 0)
      + (if 128 * (n - 1) ≤ j ∧ j < 128 * (n - 1) + 128 then
        ∑ b ∈ range 128, (if sees n (128 * n + b) (j - 128 * (n - 1)) then F (128 * n + b) (key n (j - 128 * (n - 1))) else 0) else 0)
      = ∑ b ∈ range 128, F (128 * n + b) j := by
  by_cases h1 : 128 * n ≤ j ∧ j < 128 * n + 128
  · rw [if_pos h1]
    have z : (if 128 * (n - 1) ≤ j ∧ j < 128 * (n - 1) + 128 then
        ∑ b ∈ range 128, (if sees n (128 * n + b) (j - 128 * (n - 1)) then F (128 * n + b) (key n (j - 128 * (n - 1))) else 0) else 0) = 0 := by
      split
      · exact sum_eq_zero fun b _ => if_neg fun h => by have := h.1; omega
      · rfl
    rw [z, add_zero]
    refine sum_congr rfl fun b _ => ?_
    have e : key n (j - 128 * n + 128) = j := by unfold key; split <;> omega
    by_cases h : ok (128 * n + b) j
    · rw [if_pos ⟨by omega, by rw [e]; exact h⟩, e]
    · rw [if_neg fun h' => h (by have := h'.2; rwa [e] at this), hF _ _ h]
  · rw [if_neg h1, zero_add]
    by_cases h2 : 128 * (n - 1) ≤ j ∧ j < 128 * (n - 1) + 128
    · rw [if_pos h2]
      refine sum_congr rfl fun b _ => ?_
      have e : key n (j - 128 * (n - 1)) = j := by unfold key; split <;> omega
      by_cases h : ok (128 * n + b) j
      · rw [if_pos ⟨by omega, by rw [e]; exact h⟩, e]
      · rw [if_neg fun h' => h (by have := h'.2; rwa [e] at this), hF _ _ h]
    · rw [if_neg h2]
      refine (sum_eq_zero fun b hb => hF _ _ fun h => ?_).symm
      have := mem_range.1 hb
      unfold ok at h
      omega

theorem sum_points (F : ℕ → ℝ) (n : ℕ) : ∑ i ∈ range (128 * n), F i + ∑ b ∈ range 128, F (128 * n + b) = ∑ i ∈ range (128 * (n + 1)), F i := by
  rw [Nat.mul_succ, sum_range_add]

end Cert.AttnAcc
end
-- ==== Proof.AttnDv.lean ====
/-
  What one grid point adds to the gradients of the values: the four heads of keys, each the sum over the point's queries.
-/
module

public import proofs.«01_k».proof.Proof.AttnAcc

@[expose] public section

set_option maxRecDepth 16384

noncomputable section

namespace Cert.AttnDv

open Idealize.ShloMosaic Idealize.ShloMosaic.TcCoe
open Cert.AttnBwdIdeal Cert.AttnBwdIdeal.Gen Cert.AttnBwdIdeal.Body Cert.AttnMath Cert.AttnHead Cert.AttnPoint Cert.AttnAcc Finset

/-- Two heads' rows 128–255 added to a tile. -/
theorem near {X Y : FVec Ideal S256x64 .f32} {old : Vec Ideal S128x128 .f32} {g : ℕ} {G : ℕ → ℕ → ℕ → ℝ}
    (hX : ∀ (c : Fin 256) (e : Fin 64), X (ix2 c e) = ((G g c.val e.val : ℝ) : EReal))
    (hY : ∀ (c : Fin 256) (e : Fin 64), Y (ix2 c e) = ((G (g + 1) c.val e.val : ℝ) : EReal)) (a b : Fin 128) (x : ℝ) (hx : old (ix2 a b) = (x : EReal)) :
    k0_pay156 (F := Ideal) X Y old (ix2 a b) = ((x + G (b.val / 64 + g) (a.val + 128) (b.val % 64) : ℝ) : EReal) := by
  have hb := b.isLt
  pointwise [k0_pay156]
  rw [hx, EReal.coe_add]
  refine congrArg _ ?_
  split
  · rw [hX]
    exact congrArg Real.toEReal (by rw [show b.val / 64 + g = g by omega, show b.val % 64 = b.val by omega]; congr 1; dsimp only; omega)
  · rw [hY]
    exact congrArg Real.toEReal (by rw [show b.val / 64 + g = g + 1 by omega, show b.val % 64 = b.val - 64 by omega]; congr 1; dsimp only; omega)

/-- Two heads' rows 0–127 added to a tile. -/
theorem far {X Y : FVec Ideal S256x64 .f32} {old : Vec Ideal S128x128 .f32} {g : ℕ} {G : ℕ → ℕ → ℕ → ℝ}
    (hX : ∀ (c : Fin 256) (e : Fin 64), X (ix2 c e) = ((G g c.val e.val : ℝ) : EReal))
    (hY : ∀ (c : Fin 256) (e : Fin 64), Y (ix2 c e) = ((G (g + 1) c.val e.val : ℝ) : EReal)) (a b : Fin 128) (x : ℝ) (hx : old (ix2 a b) = (x : EReal)) :
    k0_pay157 (F := Ideal) X Y old (ix2 a b) = ((x + G (b.val / 64 + g) a.val (b.val % 64) : ℝ) : EReal) := by
  have hb := b.isLt
  pointwise [k0_pay157]
  rw [hx, EReal.coe_add]
  refine congrArg _ ?_
  split
  · rw [hX]
    exact congrArg Real.toEReal (by rw [show b.val / 64 + g = g by omega, show b.val % 64 = b.val by omega])
  · rw [hY]
    exact congrArg Real.toEReal (by rw [show b.val / 64 + g = g + 1 by omega, show b.val % 64 = b.val - 64 by omega])

/-- The point's contribution to column `kk` of its window. -/
def part (n : ℕ) (q k d : ℕ → ℕ → ℝ) (s : ℕ → ℝ) (g kk e : ℕ) : ℝ :=
  ∑ b ∈ range 128, if sees n (128 * n + b) kk then dvTerm q k d s g (128 * n + b) (key n kk) e else 0

section
variable {n : ℕ} {q k v d : ℕ → ℕ → ℝ} {s pos fr : ℕ → ℝ} {x0 : Vec Ideal S128x1024 .bf16} {x1 x2 : Vec Ideal S128x256 .bf16}
  {x3 x4 : Vec Ideal S128x256 .f32} {x5 : Vec Ideal S128x1024 .bf16} {x6 x7 : Vec Ideal S128x1 .f32} {x8 : Vec Ideal S1x128 .f32}
  {x9 : Vec Ideal S1x16 .f32} (I : Inputs n q k v d s pos fr x0 x1 x2 x3 x4 x5 x6 x7 x8 x9)
  (c : Dev nD) (i : Pipeline.Grid.Coords grid0) (hi : (i 0).val = n)
  (arg1 : Memref sig .tc .vmem S128x1024 .bf16) (g1 : arg1.IsWhole) (arg2 : Memref sig .tc .vmem S128x256 .bf16) (g2 : arg2.IsWhole)
  (arg3 : Memref sig .tc .vmem S128x256 .bf16) (g3 : arg3.IsWhole) (arg4 : Memref sig .tc .vmem S128x256 .f32) (g4 : arg4.IsWhole)
  (arg5 : Memref sig .tc .vmem S128x256 .f32) (g5 : arg5.IsWhole) (arg6 : Memref sig .tc .vmem S128x1024 .bf16) (g6 : arg6.IsWhole)
  (arg10 : Memref sig .tc .smem S1x16 .f32) (g10 : arg10.IsWhole) (arg14 : Memref sig .tc .vmem S2048x256 .f32) (g14 : arg14.IsWhole)
include I hi g4 g5

theorem head0 (j : Fin 256) (e : Fin 64) : runB.sl.r_108 c i arg1 g1 arg2 g2 arg3 g3 arg6 g6 arg10 g10 x0 x1 x2 x5 x9 (ix2 j e) = ((part n q k d s 0 j.val e.val : ℝ) : EReal) :=
  dv_eq (block0 I c i hi arg1 g1 arg2 g2 arg3 g3 arg4 g4 arg5 g5 arg6 g6 arg10 g10) j e

theorem head1 (j : Fin 256) (e : Fin 64) : runB.sl.r_109 c i arg1 g1 arg2 g2 arg3 g3 arg6 g6 arg10 g10 x0 x1 x2 x5 x9 (ix2 j e) = ((part n q k d s 1 j.val e.val : ℝ) : EReal) :=
  dv_eq (block1 I c i hi arg1 g1 arg2 g2 arg3 g3 arg4 g4 arg5 g5 arg6 g6 arg10 g10) j e

theorem head2 (j : Fin 256) (e : Fin 64) : runB.sl.r_110 c i arg1 g1 arg2 g2 arg3 g3 arg6 g6 arg10 g10 x0 x1 x2 x5 x9 (ix2 j e) = ((part n q k d s 2 j.val e.val : ℝ) : EReal) :=
  dv_eq (block2 I c i hi arg1 g1 arg2 g2 arg3 g3 arg4 g4 arg5 g5 arg6 g6 arg10 g10) j e

theorem head3 (j : Fin 256) (e : Fin 64) : runB.sl.r_111 c i arg1 g1 arg2 g2 arg3 g3 arg6 g6 arg10 g10 x0 x1 x2 x5 x9 (ix2 j e) = ((part n q k d s 3 j.val e.val : ℝ) : EReal) :=
  dv_eq (block3 I c i hi arg1 g1 arg2 g2 arg3 g3 arg4 g4 arg5 g5 arg6 g6 arg10 g10) j e

/-- A later point adds its contribution to what the array held. -/
theorem later {xo12 : Vec Ideal S2048x256 .f32} {A : ℕ → ℕ → ℝ} (hA : ∀ (j : Fin 2048) (e : Fin 256), xo12 (ix2 j e) = ((A j.val e.val : ℝ) : EReal))
    (ho1 : k0_off1 i = ![128 * n, 0]) (ho2 : k0_off2 i = ![128 * (n - 1), 0]) (ho3 : k0_off3 i = ![128 * n, 128]) (ho4 : k0_off4 i = ![128 * (n - 1), 128])
    (inb4 : ∀ a, k0_off4 i a + S128x128.size a ≤ S2048x256.size a)
    (j : Fin 2048) (e : Fin 256) :
    arg14.view.read (Elt Ideal) (arg14.view.writes (Elt Ideal) (g14.unread xo12)
      (⟨Rect.unit (s := S2048x256) (k0_off4 i) S128x128.size inb4, k0_pay2 (runB.sl.r_110 c i arg1 g1 arg2 g2 arg3 g3 arg6 g6 arg10 g10 x0 x1 x2 x5 x9) (runB.sl.r_111 c i arg1 g1 arg2 g2 arg3 g3 arg6 g6 arg10 g10 x0 x1 x2 x5 x9) (runB.sl.v952 c i arg1 g1 arg2 g2 arg3 g3 arg6 g6 arg10 g10 arg14 g14 x0 x1 x2 x5 x9 xo12)⟩
        :: runB.sl.H12_3 c i arg1 g1 arg2 g2 arg3 g3 arg6 g6 arg10 g10 arg14 g14 x0 x1 x2 x5 x9 xo12)) (ix2 j e)
      = ((A j.val e.val + ∑ b ∈ range 128, dvTerm q k d s (e.val / 64) (128 * n + b) j.val (e.val % 64) : ℝ) : EReal) := by
  have h0 : holds arg14.view (g14.unread xo12) [] A := fun j e => (congrFun (g14.read_unread xo12) _).trans (hA j e)
  have e0 := head0 I c i hi arg1 g1 arg2 g2 arg3 g3 arg4 g4 arg5 g5 arg6 g6 arg10 g10
  have e1 := head1 I c i hi arg1 g1 arg2 g2 arg3 g3 arg4 g4 arg5 g5 arg6 g6 arg10 g10
  have e2 := head2 I c i hi arg1 g1 arg2 g2 arg3 g3 arg4 g4 arg5 g5 arg6 g6 arg10 g10
  have e3 := head3 I c i hi arg1 g1 arg2 g2 arg3 g3 arg4 g4 arg5 g5 arg6 g6 arg10 g10
  refine (four h0 (n := n) (part n q k d s) ho1 ho2 ho3 ho4 _ _ _ inb4 _ _ _ _ rfl rfl rfl rfl
    (fun a b x hx => near (G := part n q k d s) (g := 0) e0 e1 a b x hx) (fun a b x hx => far (G := part n q k d s) (g := 0) e0 e1 a b x hx)
    (fun a b x hx hx' => near (G := part n q k d s) (g := 2) e2 e3 a b x hx') (fun a b x hx => far (G := part n q k d s) (g := 2) e2 e3 a b x hx) j e).trans ?_
  exact congrArg Real.toEReal (congrArg (A j.val e.val + ·) (gather I.hn (fun i j => dvTerm q k d s (e.val / 64) i j (e.val % 64)) (fun i j h => dvTerm_zero q k d s h) j.val))

/-- The first point fills the array with zeros and adds its contribution. -/
theorem first (ho1 : k0_off1 i = ![128 * n, 0]) (ho2 : k0_off2 i = ![128 * (n - 1), 0]) (ho3 : k0_off3 i = ![128 * n, 128]) (ho4 : k0_off4 i = ![128 * (n - 1), 128])
    (inb4 : ∀ a, k0_off4 i a + S128x128.size a ≤ S2048x256.size a)
    (j : Fin 2048) (e : Fin 256) :
    arg14.view.read (Elt Ideal) (arg14.view.writes (Elt Ideal) arg14.view.junk
      (⟨Rect.unit (s := S2048x256) (k0_off4 i) S128x128.size inb4, k0_pay2 (runA.sl.r_110 c i arg1 g1 arg2 g2 arg3 g3 arg6 g6 arg10 g10 x0 x1 x2 x5 x9) (runA.sl.r_111 c i arg1 g1 arg2 g2 arg3 g3 arg6 g6 arg10 g10 x0 x1 x2 x5 x9) (runA.sl.v952 c i arg1 g1 arg2 g2 arg3 g3 arg6 g6 arg10 g10 arg14 x0 x1 x2 x5 x9)⟩
        :: runA.sl.H12_4 c i arg1 g1 arg2 g2 arg3 g3 arg6 g6 arg10 g10 arg14 x0 x1 x2 x5 x9)) (ix2 j e)
      = ((0 + ∑ b ∈ range 128, dvTerm q k d s (e.val / 64) (128 * n + b) j.val (e.val % 64) : ℝ) : EReal) := by
  have h0 : holds arg14.view arg14.view.junk (runA.sl.H12_1 (F := Ideal)) (fun _ _ => 0) := fill _ _ _ _ fun y => by
    pointwise [k0_pay4]
  have e0 := head0 I c i hi arg1 g1 arg2 g2 arg3 g3 arg4 g4 arg5 g5 arg6 g6 arg10 g10
  have e1 := head1 I c i hi arg1 g1 arg2 g2 arg3 g3 arg4 g4 arg5 g5 arg6 g6 arg10 g10
  have e2 := head2 I c i hi arg1 g1 arg2 g2 arg3 g3 arg4 g4 arg5 g5 arg6 g6 arg10 g10
  have e3 := head3 I c i hi arg1 g1 arg2 g2 arg3 g3 arg4 g4 arg5 g5 arg6 g6 arg10 g10
  refine (four h0 (n := n) (part n q k d s) ho1 ho2 ho3 ho4 _ _ _ inb4 _ _ _ _ rfl rfl rfl rfl
    (fun a b x hx => near (G := part n q k d s) (g := 0) e0 e1 a b x hx) (fun a b x hx => far (G := part n q k d s) (g := 0) e0 e1 a b x hx)
    (fun a b x hx hx' => near (G := part n q k d s) (g := 2) e2 e3 a b x hx) (fun a b x hx => far (G := part n q k d s) (g := 2) e2 e3 a b x hx) j e).trans ?_
  exact congrArg Real.toEReal (congrArg ((0 : ℝ) + ·) (gather I.hn (fun i j => dvTerm q k d s (e.val / 64) i j (e.val % 64)) (fun i j h => dvTerm_zero q k d s h) j.val))

end

end Cert.AttnDv
end
-- ==== Proof.AttnRot.lean ====
/-
  The inverse rotation by position, as the kernel computes it on tiles of two heads: each lane with the lane 32 away in its head.
-/
module

public import proofs.«01_k».proof.Proof.AttnDv

@[expose] public section

set_option maxRecDepth 16384

noncomputable section

namespace Cert.AttnRot

open Idealize.ShloMosaic Idealize.ShloMosaic.TcCoe
open Cert.AttnBwdIdeal Cert.AttnBwdIdeal.Gen Cert.AttnBwdIdeal.Body Cert.AttnMath Cert.AttnHead Cert.AttnPoint Cert.AttnAcc Finset

/-- Lane `e` of a head turned back by the angles `θ`. -/
def rot (F θ : ℕ → ℝ) (e : ℕ) : ℝ :=
  F e * Real.cos (θ (e % 32)) - (if e < 32 then -F (e + 32) else F (e - 32)) * Real.sin (θ (e % 32))

theorem lanes : ∀ b : Fin 128, IntOp.cmpi CmpIPredicate.slt
      (Scalar.select
        (IntOp.andi
          (IntOp.xori
            (IntOp.cmpi CmpIPredicate.slt
              (IntOp.remsi ArithUnit.vector (BitVec.ofNat 32 b.val) (Scalar.select (Scalar.cmpi CmpIPredicate.eq 64#32 0#32) 1#32 64#32)) 0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 b.val) (Scalar.select (Scalar.cmpi CmpIPredicate.eq 64#32 0#32) 1#32 64#32)) 0#32))
        (IntOp.addi
          (IntOp.remsi ArithUnit.vector (BitVec.ofNat 32 b.val) (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 b.val) (Scalar.select (Scalar.cmpi CmpIPredicate.eq 64#32 0#32) 1#32 64#32)))
      32#32 = if b.val % 64 < 32 then 1#1 else 0#1 := by
  decide +kernel

/-- A lane of a tile of two heads, turned back: in one real number. -/
theorem turn {t : Fin 128 → EReal} {T : ℕ → ℕ → ℝ} {θ : ℕ → ℝ} (ht : ∀ b, t b = ((T (b.val / 64) (b.val % 64) : ℝ) : EReal)) (b : Fin 128)
    (h1 : (b.val + 128 - 96) % 128 < 128) (h2 : (b.val + 128 - 32) % 128 < 128) :
    t b * ((Real.cos (θ (b.val % 32)) : ℝ) : EReal)
      - Scalar.select (if b.val % 64 < 32 then 1#1 else 0#1 : BitVec 1) (0 - t ⟨(b.val + 128 - 96) % 128, h1⟩) (t ⟨(b.val + 128 - 32) % 128, h2⟩)
        * ((Real.sin (θ (b.val % 32)) : ℝ) : EReal)
      = ((rot (T (b.val / 64)) θ (b.val % 64) : ℝ) : EReal) := by
  have hb := b.isLt
  unfold rot
  rw [show b.val % 64 % 32 = b.val % 32 by omega]
  by_cases h : b.val % 64 < 32
  · rw [if_pos h, if_pos h, Scalar.select, if_pos (show (1#1 : BitVec 1) = 1 from rfl), ht, ht, zero_sub]
    dsimp only
    rw [show (b.val + 128 - 96) % 128 / 64 = b.val / 64 by omega, show (b.val + 128 - 96) % 128 % 64 = b.val % 64 + 32 by omega,
      ← EReal.coe_neg, ← EReal.coe_mul, ← EReal.coe_mul, ← EReal.coe_sub]
  · rw [if_neg h, if_neg h, Scalar.select, if_neg (by decide), ht, ht]
    dsimp only
    rw [show (b.val + 128 - 32) % 128 / 64 = b.val / 64 by omega, show (b.val + 128 - 32) % 128 % 64 = b.val % 64 - 32 by omega,
      ← EReal.coe_mul, ← EReal.coe_mul, ← EReal.coe_sub]

theorem back {F C S : FVec Ideal S128x128 .f32} {old : Vec Ideal S128x128 .f32} {T : ℕ → ℕ → ℝ} {θ : ℕ → ℝ} {a : Fin 128}
    (hF : ∀ b, F (ix2 a b) = ((T (b.val / 64) (b.val % 64) : ℝ) : EReal))
    (hC : ∀ b : Fin 128, C (ix2 a b) = ((Real.cos (θ (b.val % 32)) : ℝ) : EReal)) (hS : ∀ b : Fin 128, S (ix2 a b) = ((Real.sin (θ (b.val % 32)) : ℝ) : EReal))
    (b : Fin 128) (x : ℝ) (hx : old (ix2 a b) = (x : EReal)) :
    k0_pay155 (F := Ideal) C S F old (ix2 a b) = ((x + rot (T (b.val / 64)) θ (b.val % 64) : ℝ) : EReal) := by
  pointwise [k0_pay155]
  rw [lanes, hx, EReal.coe_add, hC, hS]
  exact congrArg _ (turn (t := fun b => F (ix2 a b)) hF b _ _)

theorem back_q {X Y : FVec Ideal S128x64 .f32} {C S : FVec Ideal S128x128 .f32} {T : ℕ → ℕ → ℝ} {θ : ℕ → ℝ} {a : Fin 128}
    (hX : ∀ e : Fin 64, X (ix2 a e) = ((T 0 e.val : ℝ) : EReal)) (hY : ∀ e : Fin 64, Y (ix2 a e) = ((T 1 e.val : ℝ) : EReal))
    (hC : ∀ b : Fin 128, C (ix2 a b) = ((Real.cos (θ (b.val % 32)) : ℝ) : EReal)) (hS : ∀ b : Fin 128, S (ix2 a b) = ((Real.sin (θ (b.val % 32)) : ℝ) : EReal))
    (b : Fin 128) :
    k0_pay127 (F := Ideal) C S X Y (ix2 a b) = ((rot (T (b.val / 64)) θ (b.val % 64) : ℝ) : EReal) := by
  have hF : ∀ b, k0_pay129 (F := Ideal) X Y (ix2 a b) = ((T (b.val / 64) (b.val % 64) : ℝ) : EReal) := by
    intro b
    have hb := b.isLt
    pointwise [k0_pay129]
    split
    · rw [hX]
      exact congrArg Real.toEReal (by rw [show b.val / 64 = 0 by omega, show b.val % 64 = b.val by omega])
    · rw [hY]
      exact congrArg Real.toEReal (by rw [show b.val / 64 = 1 by omega, show b.val % 64 = b.val - 64 by omega])
  have h := back hF hC hS b 0 (old := fun _ => 0) rfl
  rw [zero_add] at h
  refine Eq.trans ?_ h
  refine Eq.trans ?_ (zero_add _).symm
  exact rfl

/-- The cosines and sines of the angles of a block of rows. -/
theorem cos_eq {x : Vec Ideal S128x1 .f32} {y : Vec Ideal S1x128 .f32} {p : ℝ} {fr : ℕ → ℝ} {a : Fin 128} (hx : x (ix2 a 0) = (p : EReal))
    (hy : ∀ c : Fin 128, y (ix2 0 c) = ((fr (c.val % 32) : ℝ) : EReal)) (b : Fin 128) :
    k0_pay7 (F := Ideal) x y (ix2 a b) = ((Real.cos (p * fr (b.val % 32)) : ℝ) : EReal) := by
  pointwise [k0_pay7, k0_pay6]
  rw [hx, hy, ← EReal.coe_mul, Ideal.cos_coe]

theorem sin_eq {x : Vec Ideal S128x1 .f32} {y : Vec Ideal S1x128 .f32} {p : ℝ} {fr : ℕ → ℝ} {a : Fin 128} (hx : x (ix2 a 0) = (p : EReal))
    (hy : ∀ c : Fin 128, y (ix2 0 c) = ((fr (c.val % 32) : ℝ) : EReal)) (b : Fin 128) :
    k0_pay8 (F := Ideal) x y (ix2 a b) = ((Real.sin (p * fr (b.val % 32)) : ℝ) : EReal) := by
  pointwise [k0_pay8, k0_pay6]
  rw [hx, hy, ← EReal.coe_mul, Ideal.sin_coe]

/-- Two heads' rows 128–255, and 0–127, side by side. -/
theorem tile_near {X Y : FVec Ideal S256x64 .f32} {g : ℕ} {G : ℕ → ℕ → ℕ → ℝ}
    (hX : ∀ (c : Fin 256) (e : Fin 64), X (ix2 c e) = ((G g c.val e.val : ℝ) : EReal))
    (hY : ∀ (c : Fin 256) (e : Fin 64), Y (ix2 c e) = ((G (g + 1) c.val e.val : ℝ) : EReal)) (a b : Fin 128) :
    k0_pay149 (F := Ideal) X Y (ix2 a b) = ((G (b.val / 64 + g) (a.val + 128) (b.val % 64) : ℝ) : EReal) := by
  have hb := b.isLt
  pointwise [k0_pay149]
  split
  · rw [hX]
    exact congrArg Real.toEReal (by rw [show b.val / 64 + g = g by omega, show b.val % 64 = b.val by omega]; congr 1; dsimp only; omega)
  · rw [hY]
    exact congrArg Real.toEReal (by rw [show b.val / 64 + g = g + 1 by omega, show b.val % 64 = b.val - 64 by omega]; congr 1; dsimp only; omega)

theorem tile_far {X Y : FVec Ideal S256x64 .f32} {g : ℕ} {G : ℕ → ℕ → ℕ → ℝ}
    (hX : ∀ (c : Fin 256) (e : Fin 64), X (ix2 c e) = ((G g c.val e.val : ℝ) : EReal))
    (hY : ∀ (c : Fin 256) (e : Fin 64), Y (ix2 c e) = ((G (g + 1) c.val e.val : ℝ) : EReal)) (a b : Fin 128) :
    k0_pay150 (F := Ideal) X Y (ix2 a b) = ((G (b.val / 64 + g) a.val (b.val % 64) : ℝ) : EReal) := by
  have hb := b.isLt
  pointwise [k0_pay150]
  split
  · rw [hX]
    exact congrArg Real.toEReal (by rw [show b.val / 64 + g = g by omega, show b.val % 64 = b.val by omega])
  · rw [hY]
    exact congrArg Real.toEReal (by rw [show b.val / 64 + g = g + 1 by omega, show b.val % 64 = b.val - 64 by omega])

end Cert.AttnRot
end
-- ==== Proof.AttnDk.lean ====
/-
  What one grid point adds to the gradients of the keys: the four heads of keys, each the sum over the point's queries, turned back
  by the key's position.
-/
module

public import proofs.«01_k».proof.Proof.AttnRot

@[expose] public section

set_option maxRecDepth 16384

noncomputable section

namespace Cert.AttnDk

open Idealize.ShloMosaic Idealize.ShloMosaic.TcCoe
open Cert.AttnBwdIdeal Cert.AttnBwdIdeal.Gen Cert.AttnBwdIdeal.Body Cert.AttnMath Cert.AttnHead Cert.AttnPoint Cert.AttnAcc Cert.AttnRot Finset

theorem rot_sum {s : Finset ℕ} (F : ℕ → ℕ → ℝ) (θ : ℕ → ℝ) (e : ℕ) : rot (fun e => ∑ b ∈ s, F b e) θ e = ∑ b ∈ s, rot (F b) θ e := by
  unfold rot
  split
  · rw [sum_sub_distrib, sum_mul, ← sum_neg_distrib, sum_mul]
  · rw [sum_sub_distrib, sum_mul, sum_mul]

theorem rot_zero (θ : ℕ → ℝ) (e : ℕ) : rot (fun _ => 0) θ e = 0 := by
  unfold rot
  simp

theorem rot_ite (p : Prop) [Decidable p] (F θ : ℕ → ℝ) (e : ℕ) : rot (fun e => if p then F e else 0) θ e = if p then rot F θ e else 0 := by
  by_cases h : p
  · simp only [if_pos h]
  · simp only [if_neg h]
    exact rot_zero θ e

/-- The point's contribution to column `kk` of its window, before the rotation. -/
def part (n : ℕ) (q k v d : ℕ → ℕ → ℝ) (s : ℕ → ℝ) (g kk e : ℕ) : ℝ :=
  ∑ b ∈ range 128, if sees n (128 * n + b) kk then dkTerm q k v d s g (128 * n + b) (key n kk) e else 0

/-- What query `i` gives to the gradient of key `j`, turned back. -/
def term (q k v d : ℕ → ℕ → ℝ) (s pos fr : ℕ → ℝ) (g i j e : ℕ) : ℝ := rot (dkTerm q k v d s g i j) (fun l => pos j * fr l) e

theorem term_zero {q k v d : ℕ → ℕ → ℝ} {s pos fr : ℕ → ℝ} {g i j e : ℕ} (h : ¬ok i j) : term q k v d s pos fr g i j e = 0 := by
  unfold term
  rw [show dkTerm q k v d s g i j = fun _ => 0 from funext fun e => dkTerm_zero q k v d s h]
  exact rot_zero _ _

/-- The point's contribution to column `kk` of its window. -/
def turned (n : ℕ) (q k v d : ℕ → ℕ → ℝ) (s pos fr : ℕ → ℝ) (g kk e : ℕ) : ℝ := rot (part n q k v d s g kk) (fun l => pos (key n kk) * fr l) e

theorem turned_eq (n : ℕ) (q k v d : ℕ → ℕ → ℝ) (s pos fr : ℕ → ℝ) (g kk e : ℕ) : turned n q k v d s pos fr g kk e
    = ∑ b ∈ range 128, if sees n (128 * n + b) kk then term q k v d s pos fr g (128 * n + b) (key n kk) e else 0 := by
  unfold turned part
  rw [rot_sum]
  exact sum_congr rfl fun b _ => rot_ite _ _ _ _

section
variable {n : ℕ} {q k v d : ℕ → ℕ → ℝ} {s pos fr : ℕ → ℝ} {x0 : Vec Ideal S128x1024 .bf16} {x1 x2 : Vec Ideal S128x256 .bf16}
  {x3 x4 : Vec Ideal S128x256 .f32} {x5 : Vec Ideal S128x1024 .bf16} {x6 x7 : Vec Ideal S128x1 .f32} {x8 : Vec Ideal S1x128 .f32}
  {x9 : Vec Ideal S1x16 .f32} (I : Inputs n q k v d s pos fr x0 x1 x2 x3 x4 x5 x6 x7 x8 x9)
  (c : Dev nD) (i : Pipeline.Grid.Coords grid0) (hi : (i 0).val = n)
  (arg1 : Memref sig .tc .vmem S128x1024 .bf16) (g1 : arg1.IsWhole) (arg2 : Memref sig .tc .vmem S128x256 .bf16) (g2 : arg2.IsWhole)
  (arg3 : Memref sig .tc .vmem S128x256 .bf16) (g3 : arg3.IsWhole) (arg4 : Memref sig .tc .vmem S128x256 .f32) (g4 : arg4.IsWhole)
  (arg5 : Memref sig .tc .vmem S128x256 .f32) (g5 : arg5.IsWhole) (arg6 : Memref sig .tc .vmem S128x1024 .bf16) (g6 : arg6.IsWhole)
  (arg7 : Memref sig .tc .vmem S128x1 .f32) (g7 : arg7.IsWhole) (arg8 : Memref sig .tc .vmem S128x1 .f32) (g8 : arg8.IsWhole)
  (arg9 : Memref sig .tc .vmem S1x128 .f32) (g9 : arg9.IsWhole)
  (arg10 : Memref sig .tc .smem S1x16 .f32) (g10 : arg10.IsWhole) (arg13 : Memref sig .tc .vmem S2048x256 .f32) (g13 : arg13.IsWhole)

/-- A load of a whole column of positions, and of the row of frequencies. -/
theorem col {m : Memref sig .tc .vmem S128x1 .f32} (h : m.IsWhole) (x : Vec Ideal S128x1 .f32) (inb) (a : Fin 128) :
    View.readAt (Elt Ideal) m.view (Rect.unit (s := S128x1) ![0, 0] S128x1.size inb).toLoadRect (h.unread x) (ix2 a 0) = x (ix2 a 0) := by
  rw [View.readAt_eq_ld, Memref.IsWhole.read_unread]
  refine View.ld_unit_apply_of _ _ _ _ _ _ fun a => ?_
  match a with
  | 0 => exact (Nat.zero_add _).symm
  | 1 => exact (Nat.zero_add _).symm

theorem row {m : Memref sig .tc .vmem S1x128 .f32} (h : m.IsWhole) (x : Vec Ideal S1x128 .f32) (inb) (b : Fin 128) :
    View.readAt (Elt Ideal) m.view (Rect.unit (s := S1x128) ![0, 0] S1x128.size inb).toLoadRect (h.unread x) (ix2 0 b) = x (ix2 0 b) := by
  rw [View.readAt_eq_ld, Memref.IsWhole.read_unread]
  refine View.ld_unit_apply_of _ _ _ _ _ _ fun a => ?_
  match a with
  | 0 => exact (Nat.zero_add _).symm
  | 1 => exact (Nat.zero_add _).symm

include I

theorem cos_cur (a b : Fin 128) : runB.sl.r c arg7 g7 arg9 g9 x6 x8 (ix2 a b) = ((Real.cos (pos (128 * n + a.val) * fr (b.val % 32)) : ℝ) : EReal) :=
  cos_eq ((col g7 x6 _ a).trans (I.h6 a)) (fun l => (row g9 x8 _ l).trans (I.h8 l)) b
theorem sin_cur (a b : Fin 128) : runB.sl.r_1 c arg7 g7 arg9 g9 x6 x8 (ix2 a b) = ((Real.sin (pos (128 * n + a.val) * fr (b.val % 32)) : ℝ) : EReal) :=
  sin_eq ((col g7 x6 _ a).trans (I.h6 a)) (fun l => (row g9 x8 _ l).trans (I.h8 l)) b
theorem cos_prev (a b : Fin 128) : runB.sl.r_2 c arg8 g8 arg9 g9 x7 x8 (ix2 a b) = ((Real.cos (pos (128 * (n - 1) + a.val) * fr (b.val % 32)) : ℝ) : EReal) :=
  cos_eq ((col g8 x7 _ a).trans (I.h7 a)) (fun l => (row g9 x8 _ l).trans (I.h8 l)) b
theorem sin_prev (a b : Fin 128) : runB.sl.r_3 c arg8 g8 arg9 g9 x7 x8 (ix2 a b) = ((Real.sin (pos (128 * (n - 1) + a.val) * fr (b.val % 32)) : ℝ) : EReal) :=
  sin_eq ((col g8 x7 _ a).trans (I.h7 a)) (fun l => (row g9 x8 _ l).trans (I.h8 l)) b

include hi

theorem head0 (j : Fin 256) (e : Fin 64) : runB.sl.r_104 c i arg1 g1 arg2 g2 arg3 g3 arg4 g4 arg5 g5 arg6 g6 arg10 g10 x0 x1 x2 x3 x4 x5 x9 (ix2 j e) = ((part n q k v d s 0 j.val e.val : ℝ) : EReal) :=
  dk_eq (block0 I c i hi arg1 g1 arg2 g2 arg3 g3 arg4 g4 arg5 g5 arg6 g6 arg10 g10) j e

theorem head1 (j : Fin 256) (e : Fin 64) : runB.sl.r_105 c i arg1 g1 arg2 g2 arg3 g3 arg4 g4 arg5 g5 arg6 g6 arg10 g10 x0 x1 x2 x3 x4 x5 x9 (ix2 j e) = ((part n q k v d s 1 j.val e.val : ℝ) : EReal) :=
  dk_eq (block1 I c i hi arg1 g1 arg2 g2 arg3 g3 arg4 g4 arg5 g5 arg6 g6 arg10 g10) j e

theorem head2 (j : Fin 256) (e : Fin 64) : runB.sl.r_106 c i arg1 g1 arg2 g2 arg3 g3 arg4 g4 arg5 g5 arg6 g6 arg10 g10 x0 x1 x2 x3 x4 x5 x9 (ix2 j e) = ((part n q k v d s 2 j.val e.val : ℝ) : EReal) :=
  dk_eq (block2 I c i hi arg1 g1 arg2 g2 arg3 g3 arg4 g4 arg5 g5 arg6 g6 arg10 g10) j e

theorem head3 (j : Fin 256) (e : Fin 64) : runB.sl.r_107 c i arg1 g1 arg2 g2 arg3 g3 arg4 g4 arg5 g5 arg6 g6 arg10 g10 x0 x1 x2 x3 x4 x5 x9 (ix2 j e) = ((part n q k v d s 3 j.val e.val : ℝ) : EReal) :=
  dk_eq (block3 I c i hi arg1 g1 arg2 g2 arg3 g3 arg4 g4 arg5 g5 arg6 g6 arg10 g10) j e

/-- A tile of two heads of the point's own block, turned back and added. -/
theorem near {X Y : FVec Ideal S256x64 .f32} {old : Vec Ideal S128x128 .f32} {g : ℕ}
    (hX : ∀ (c : Fin 256) (e : Fin 64), X (ix2 c e) = ((part n q k v d s g c.val e.val : ℝ) : EReal))
    (hY : ∀ (c : Fin 256) (e : Fin 64), Y (ix2 c e) = ((part n q k v d s (g + 1) c.val e.val : ℝ) : EReal)) (a b : Fin 128) (x : ℝ) (hx : old (ix2 a b) = (x : EReal)) :
    k0_pay155 (F := Ideal) (runB.sl.r c arg7 g7 arg9 g9 x6 x8) (runB.sl.r_1 c arg7 g7 arg9 g9 x6 x8) (k0_pay149 X Y) old (ix2 a b)
      = ((x + turned n q k v d s pos fr (b.val / 64 + g) (a.val + 128) (b.val % 64) : ℝ) : EReal) := by
  refine (back (T := fun h e => part n q k v d s (h + g) (a.val + 128) e) (θ := fun l => pos (128 * n + a.val) * fr l)
    (fun b => tile_near (G := part n q k v d s) hX hY a b) (cos_cur I c arg7 g7 arg9 g9 a) (sin_cur I c arg7 g7 arg9 g9 a) b x hx).trans ?_
  unfold turned
  rw [show key n (a.val + 128) = 128 * n + a.val by unfold key; split <;> omega]

theorem far {X Y : FVec Ideal S256x64 .f32} {old : Vec Ideal S128x128 .f32} {g : ℕ}
    (hX : ∀ (c : Fin 256) (e : Fin 64), X (ix2 c e) = ((part n q k v d s g c.val e.val : ℝ) : EReal))
    (hY : ∀ (c : Fin 256) (e : Fin 64), Y (ix2 c e) = ((part n q k v d s (g + 1) c.val e.val : ℝ) : EReal)) (a b : Fin 128) (x : ℝ) (hx : old (ix2 a b) = (x : EReal)) :
    k0_pay155 (F := Ideal) (runB.sl.r_2 c arg8 g8 arg9 g9 x7 x8) (runB.sl.r_3 c arg8 g8 arg9 g9 x7 x8) (k0_pay150 X Y) old (ix2 a b)
      = ((x + turned n q k v d s pos fr (b.val / 64 + g) a.val (b.val % 64) : ℝ) : EReal) := by
  refine (back (T := fun h e => part n q k v d s (h + g) a.val e) (θ := fun l => pos (128 * (n - 1) + a.val) * fr l)
    (fun b => tile_far (G := part n q k v d s) hX hY a b) (cos_prev I c arg8 g8 arg9 g9 a) (sin_prev I c arg8 g8 arg9 g9 a) b x hx).trans ?_
  unfold turned
  rw [show key n a.val = 128 * (n - 1) + a.val by have := a.isLt; unfold key; split <;> omega]

/-- A later point adds its contribution to what the array held. -/
theorem later {xo11 : Vec Ideal S2048x256 .f32} {A : ℕ → ℕ → ℝ} (hA : ∀ (j : Fin 2048) (e : Fin 256), xo11 (ix2 j e) = ((A j.val e.val : ℝ) : EReal))
    (ho1 : k0_off1 i = ![128 * n, 0]) (ho2 : k0_off2 i = ![128 * (n - 1), 0]) (ho3 : k0_off3 i = ![128 * n, 128]) (ho4 : k0_off4 i = ![128 * (n - 1), 128])
    (inb4 : ∀ a, k0_off4 i a + S128x128.size a ≤ S2048x256.size a)
    (j : Fin 2048) (e : Fin 256) :
    arg13.view.read (Elt Ideal) (arg13.view.writes (Elt Ideal) (g13.unread xo11)
      (⟨Rect.unit (s := S2048x256) (k0_off4 i) S128x128.size inb4, k0_pay166 (runB.sl.r_2 c arg8 g8 arg9 g9 x7 x8) (runB.sl.r_3 c arg8 g8 arg9 g9 x7 x8)
          (runB.sl.r_128 c i arg1 g1 arg2 g2 arg3 g3 arg4 g4 arg5 g5 arg6 g6 arg10 g10 x0 x1 x2 x3 x4 x5 x9) (runB.sl.v910 c i arg1 g1 arg2 g2 arg3 g3 arg4 g4 arg5 g5 arg6 g6 arg7 g7 arg8 g8 arg9 g9 arg10 g10 arg13 g13 x0 x1 x2 x3 x4 x5 x6 x7 x8 x9 xo11)⟩
        :: runB.sl.H11_3 c i arg1 g1 arg2 g2 arg3 g3 arg4 g4 arg5 g5 arg6 g6 arg7 g7 arg8 g8 arg9 g9 arg10 g10 arg13 g13 x0 x1 x2 x3 x4 x5 x6 x7 x8 x9 xo11)) (ix2 j e)
      = ((A j.val e.val + ∑ b ∈ range 128, term q k v d s pos fr (e.val / 64) (128 * n + b) j.val (e.val % 64) : ℝ) : EReal) := by
  have h0 : holds arg13.view (g13.unread xo11) [] A := fun j e => (congrFun (g13.read_unread xo11) _).trans (hA j e)
  have e0 := head0 I c i hi arg1 g1 arg2 g2 arg3 g3 arg4 g4 arg5 g5 arg6 g6 arg10 g10
  have e1 := head1 I c i hi arg1 g1 arg2 g2 arg3 g3 arg4 g4 arg5 g5 arg6 g6 arg10 g10
  have e2 := head2 I c i hi arg1 g1 arg2 g2 arg3 g3 arg4 g4 arg5 g5 arg6 g6 arg10 g10
  have e3 := head3 I c i hi arg1 g1 arg2 g2 arg3 g3 arg4 g4 arg5 g5 arg6 g6 arg10 g10
  refine (four h0 (n := n) (turned n q k v d s pos fr) ho1 ho2 ho3 ho4 _ _ _ inb4 _ _ _ _ rfl rfl rfl rfl
    (fun a b x hx => near I c i hi arg7 g7 arg9 g9 (g := 0) e0 e1 a b x hx) (fun a b x hx => far I c i hi arg8 g8 arg9 g9 (g := 0) e0 e1 a b x hx)
    (fun a b x hx hx' => near I c i hi arg7 g7 arg9 g9 (g := 2) e2 e3 a b x hx') (fun a b x hx => far I c i hi arg8 g8 arg9 g9 (g := 2) e2 e3 a b x hx) j e).trans ?_
  simp only [turned_eq]
  exact congrArg Real.toEReal (congrArg (A j.val e.val + ·) (gather I.hn (fun i j => term q k v d s pos fr (e.val / 64) i j (e.val % 64)) (fun i j h => term_zero h) j.val))

/-- The first point fills the array with zeros and adds its contribution. -/
theorem first (ho1 : k0_off1 i = ![128 * n, 0]) (ho2 : k0_off2 i = ![128 * (n - 1), 0]) (ho3 : k0_off3 i = ![128 * n, 128]) (ho4 : k0_off4 i = ![128 * (n - 1), 128])
    (inb4 : ∀ a, k0_off4 i a + S128x128.size a ≤ S2048x256.size a)
    (j : Fin 2048) (e : Fin 256) :
    arg13.view.read (Elt Ideal) (arg13.view.writes (Elt Ideal) arg13.view.junk
      (⟨Rect.unit (s := S2048x256) (k0_off4 i) S128x128.size inb4, k0_pay166 (runA.sl.r_2 c arg8 g8 arg9 g9 x7 x8) (runA.sl.r_3 c arg8 g8 arg9 g9 x7 x8)
          (runA.sl.r_128 c i arg1 g1 arg2 g2 arg3 g3 arg4 g4 arg5 g5 arg6 g6 arg10 g10 x0 x1 x2 x3 x4 x5 x9) (runA.sl.v910 c i arg1 g1 arg2 g2 arg3 g3 arg4 g4 arg5 g5 arg6 g6 arg7 g7 arg8 g8 arg9 g9 arg10 g10 arg13 x0 x1 x2 x3 x4 x5 x6 x7 x8 x9)⟩
        :: runA.sl.H11_4 c i arg1 g1 arg2 g2 arg3 g3 arg4 g4 arg5 g5 arg6 g6 arg7 g7 arg8 g8 arg9 g9 arg10 g10 arg13 x0 x1 x2 x3 x4 x5 x6 x7 x8 x9)) (ix2 j e)
      = ((0 + ∑ b ∈ range 128, term q k v d s pos fr (e.val / 64) (128 * n + b) j.val (e.val % 64) : ℝ) : EReal) := by
  have h0 : holds arg13.view arg13.view.junk (runA.sl.H11_1 (F := Ideal)) (fun _ _ => 0) := fill _ _ _ _ fun y => by
    pointwise [k0_pay3]
  have e0 := head0 I c i hi arg1 g1 arg2 g2 arg3 g3 arg4 g4 arg5 g5 arg6 g6 arg10 g10
  have e1 := head1 I c i hi arg1 g1 arg2 g2 arg3 g3 arg4 g4 arg5 g5 arg6 g6 arg10 g10
  have e2 := head2 I c i hi arg1 g1 arg2 g2 arg3 g3 arg4 g4 arg5 g5 arg6 g6 arg10 g10
  have e3 := head3 I c i hi arg1 g1 arg2 g2 arg3 g3 arg4 g4 arg5 g5 arg6 g6 arg10 g10
  refine (four h0 (n := n) (turned n q k v d s pos fr) ho1 ho2 ho3 ho4 _ _ _ inb4 _ _ _ _ rfl rfl rfl rfl
    (fun a b x hx => near I c i hi arg7 g7 arg9 g9 (g := 0) e0 e1 a b x hx) (fun a b x hx => far I c i hi arg8 g8 arg9 g9 (g := 0) e0 e1 a b x hx)
    (fun a b x hx hx' => near I c i hi arg7 g7 arg9 g9 (g := 2) e2 e3 a b x hx) (fun a b x hx => far I c i hi arg8 g8 arg9 g9 (g := 2) e2 e3 a b x hx) j e).trans ?_
  simp only [turned_eq]
  exact congrArg Real.toEReal (congrArg ((0 : ℝ) + ·) (gather I.hn (fun i j => term q k v d s pos fr (e.val / 64) i j (e.val % 64)) (fun i j h => term_zero h) j.val))

end

end Cert.AttnDk
end
-- ==== Proof.AttnDq.lean ====
/-
  The gradient of the queries of one grid point: each head's, turned back by the query's position, eight tiles of two heads.
-/
module

public import proofs.«01_k».proof.Proof.AttnDk
public import proofs.«01_k».proof.Proof.AttnBody

@[expose] public section

set_option maxRecDepth 16384

noncomputable section

namespace Cert.AttnDq

open Idealize.ShloMosaic Idealize.ShloMosaic.TcCoe
open Cert.AttnBwdIdeal Cert.AttnBwdIdeal.Gen Cert.AttnBwdIdeal.Body Cert.AttnMath Cert.AttnHead Cert.AttnPoint Cert.AttnAcc Cert.AttnRot Finset

/-- A tile of 128 columns written over the tiles before it. -/
theorem pick {κ : Kind} {sp : Space} {v : View sig κ sp S128x1024 .bf16} {f : v.ty.Contents (Elt Ideal)} {L : List (View.Piece (Elt Ideal) S128x1024 .bf16)}
    {T : ℕ → ℕ → ℕ → ℝ} (p : ℕ) {w : Vec Ideal S128x128 .bf16} {o : ℕ} (ho : o = 128 * p)
    (inb : ∀ a, (![0, o] : Fin 2 → ℕ) a + S128x128.size a ≤ S128x1024.size a)
    (hw : ∀ r b : Fin 128, w (ix2 r b) = ((T (2 * p + b.val / 64) r.val (b.val % 64) : ℝ) : EReal))
    (hL : ∀ (r : Fin 128) (e : Fin 1024), e.val < 128 * p → v.read (Elt Ideal) (v.writes (Elt Ideal) f L) (ix2 r e) = ((T (e.val / 64) r.val (e.val % 64) : ℝ) : EReal))
    (r : Fin 128) (e : Fin 1024) (he : e.val < 128 * (p + 1)) :
    v.read (Elt Ideal) (v.writes (Elt Ideal) f (⟨Rect.unit (s := S128x1024) ![0, o] S128x128.size inb, w⟩ :: L)) (ix2 r e)
      = ((T (e.val / 64) r.val (e.val % 64) : ℝ) : EReal) := by
  subst ho
  by_cases h : e.val < 128 * p
  · refine (View.read_writes_cons_miss v f _ L _ fun hm => ?_).trans (hL r e h)
    have h' := (Rect.mem_set_unit (inb := inb)).1 hm 1
    have h'' : 128 * p ≤ e.val := h'.1
    omega
  · refine (View.read_writes_cons_hit_of_coords v f (Rect.unit (s := S128x1024) ![0, 128 * p] S128x128.size inb) w L
      (ix2 r (⟨e.val - 128 * p, by omega⟩ : Fin 128)) _ fun a => ?_).trans ?_
    · match a with
      | 0 => show r.val = 0 + 1 * r.val; omega
      | 1 => show e.val = 128 * p + 1 * (e.val - 128 * p); omega
    · refine (hw _ _).trans (congrArg Real.toEReal ?_)
      dsimp only
      rw [show 2 * p + (e.val - 128 * p) / 64 = e.val / 64 by omega, show (e.val - 128 * p) % 64 = e.val % 64 by omega]

theorem cut0 {X : FVec Ideal S512x64 .f32} {f : ℕ → ℕ → ℕ → ℝ} (h : ∀ (r : Fin 512) (e : Fin 64), X (ix2 r e) = ((f (r.val / 128) (r.val % 128) e.val : ℝ) : EReal))
    (r : Fin 128) (e : Fin 64) : k0_pay115 (F := Ideal) X (ix2 r e) = ((f 0 r.val e.val : ℝ) : EReal) := by
  have hr := r.isLt
  pointwise [k0_pay115]
  refine (h _ e).trans (congrArg Real.toEReal ?_)
  exact congrArg₂ (fun x y => f x y e.val) (by first | omega | (dsimp only; omega)) (by first | omega | (dsimp only; omega))

theorem cut1 {X : FVec Ideal S512x64 .f32} {f : ℕ → ℕ → ℕ → ℝ} (h : ∀ (r : Fin 512) (e : Fin 64), X (ix2 r e) = ((f (r.val / 128) (r.val % 128) e.val : ℝ) : EReal))
    (r : Fin 128) (e : Fin 64) : k0_pay116 (F := Ideal) X (ix2 r e) = ((f 1 r.val e.val : ℝ) : EReal) := by
  have hr := r.isLt
  pointwise [k0_pay116]
  refine (h _ e).trans (congrArg Real.toEReal ?_)
  exact congrArg₂ (fun x y => f x y e.val) (by first | omega | (dsimp only; omega)) (by first | omega | (dsimp only; omega))

theorem cut2 {X : FVec Ideal S512x64 .f32} {f : ℕ → ℕ → ℕ → ℝ} (h : ∀ (r : Fin 512) (e : Fin 64), X (ix2 r e) = ((f (r.val / 128) (r.val % 128) e.val : ℝ) : EReal))
    (r : Fin 128) (e : Fin 64) : k0_pay117 (F := Ideal) X (ix2 r e) = ((f 2 r.val e.val : ℝ) : EReal) := by
  have hr := r.isLt
  pointwise [k0_pay117]
  refine (h _ e).trans (congrArg Real.toEReal ?_)
  exact congrArg₂ (fun x y => f x y e.val) (by first | omega | (dsimp only; omega)) (by first | omega | (dsimp only; omega))

theorem cut3 {X : FVec Ideal S512x64 .f32} {f : ℕ → ℕ → ℕ → ℝ} (h : ∀ (r : Fin 512) (e : Fin 64), X (ix2 r e) = ((f (r.val / 128) (r.val % 128) e.val : ℝ) : EReal))
    (r : Fin 128) (e : Fin 64) : k0_pay118 (F := Ideal) X (ix2 r e) = ((f 3 r.val e.val : ℝ) : EReal) := by
  have hr := r.isLt
  pointwise [k0_pay118]
  refine (h _ e).trans (congrArg Real.toEReal ?_)
  exact congrArg₂ (fun x y => f x y e.val) (by first | omega | (dsimp only; omega)) (by first | omega | (dsimp only; omega))

/-- The gradient of query `i`, head `h`, turned back. -/
def term (q k v d : ℕ → ℕ → ℝ) (s pos fr : ℕ → ℝ) (h i e : ℕ) : ℝ := rot (dq q k v d s h i) (fun l => pos i * fr l) e

section
variable {n : ℕ} {q k v d : ℕ → ℕ → ℝ} {s pos fr : ℕ → ℝ} {x0 : Vec Ideal S128x1024 .bf16} {x1 x2 : Vec Ideal S128x256 .bf16}
  {x3 x4 : Vec Ideal S128x256 .f32} {x5 : Vec Ideal S128x1024 .bf16} {x6 x7 : Vec Ideal S128x1 .f32} {x8 : Vec Ideal S1x128 .f32}
  {x9 : Vec Ideal S1x16 .f32} (I : Inputs n q k v d s pos fr x0 x1 x2 x3 x4 x5 x6 x7 x8 x9)
  (c : Dev nD) (i : Pipeline.Grid.Coords grid0) (hi : (i 0).val = n)
  (arg1 : Memref sig .tc .vmem S128x1024 .bf16) (g1 : arg1.IsWhole) (arg2 : Memref sig .tc .vmem S128x256 .bf16) (g2 : arg2.IsWhole)
  (arg3 : Memref sig .tc .vmem S128x256 .bf16) (g3 : arg3.IsWhole) (arg4 : Memref sig .tc .vmem S128x256 .f32) (g4 : arg4.IsWhole)
  (arg5 : Memref sig .tc .vmem S128x256 .f32) (g5 : arg5.IsWhole) (arg6 : Memref sig .tc .vmem S128x1024 .bf16) (g6 : arg6.IsWhole)
  (arg7 : Memref sig .tc .vmem S128x1 .f32) (g7 : arg7.IsWhole) (arg8 : Memref sig .tc .vmem S128x1 .f32) (g8 : arg8.IsWhole)
  (arg9 : Memref sig .tc .vmem S1x128 .f32) (g9 : arg9.IsWhole)
  (arg10 : Memref sig .tc .smem S1x16 .f32) (g10 : arg10.IsWhole) (arg12 : Memref sig .tc .vmem S128x1024 .bf16) (g12 : arg12.IsWhole)
  (arg13 : Memref sig .tc .vmem S2048x256 .f32) (g13 : arg13.IsWhole) (arg14 : Memref sig .tc .vmem S2048x256 .f32) (g14 : arg14.IsWhole)
  (arg15 : Memref sig .tc .vmem S1x128 .f32) (g15 : arg15.IsWhole)
include I hi

theorem head0 (r : Fin 128) (e : Fin 64) : runB.sl.r_88 c i arg1 g1 arg2 g2 arg3 g3 arg4 g4 arg5 g5 arg6 g6 arg10 g10 x0 x1 x2 x3 x4 x5 x9 (ix2 r e) = ((dq q k v d s 0 (128 * n + r.val) e.val : ℝ) : EReal) :=
  cut0 (f := fun a b e => dq q k v d s (4 * 0 + a) (128 * n + b) e) (dq_eq (block0 I c i hi arg1 g1 arg2 g2 arg3 g3 arg4 g4 arg5 g5 arg6 g6 arg10 g10)) r e

theorem head1 (r : Fin 128) (e : Fin 64) : runB.sl.r_89 c i arg1 g1 arg2 g2 arg3 g3 arg4 g4 arg5 g5 arg6 g6 arg10 g10 x0 x1 x2 x3 x4 x5 x9 (ix2 r e) = ((dq q k v d s 1 (128 * n + r.val) e.val : ℝ) : EReal) :=
  cut1 (f := fun a b e => dq q k v d s (4 * 0 + a) (128 * n + b) e) (dq_eq (block0 I c i hi arg1 g1 arg2 g2 arg3 g3 arg4 g4 arg5 g5 arg6 g6 arg10 g10)) r e

theorem head2 (r : Fin 128) (e : Fin 64) : runB.sl.r_90 c i arg1 g1 arg2 g2 arg3 g3 arg4 g4 arg5 g5 arg6 g6 arg10 g10 x0 x1 x2 x3 x4 x5 x9 (ix2 r e) = ((dq q k v d s 2 (128 * n + r.val) e.val : ℝ) : EReal) :=
  cut2 (f := fun a b e => dq q k v d s (4 * 0 + a) (128 * n + b) e) (dq_eq (block0 I c i hi arg1 g1 arg2 g2 arg3 g3 arg4 g4 arg5 g5 arg6 g6 arg10 g10)) r e

theorem head3 (r : Fin 128) (e : Fin 64) : runB.sl.r_91 c i arg1 g1 arg2 g2 arg3 g3 arg4 g4 arg5 g5 arg6 g6 arg10 g10 x0 x1 x2 x3 x4 x5 x9 (ix2 r e) = ((dq q k v d s 3 (128 * n + r.val) e.val : ℝ) : EReal) :=
  cut3 (f := fun a b e => dq q k v d s (4 * 0 + a) (128 * n + b) e) (dq_eq (block0 I c i hi arg1 g1 arg2 g2 arg3 g3 arg4 g4 arg5 g5 arg6 g6 arg10 g10)) r e

theorem head4 (r : Fin 128) (e : Fin 64) : runB.sl.r_92 c i arg1 g1 arg2 g2 arg3 g3 arg4 g4 arg5 g5 arg6 g6 arg10 g10 x0 x1 x2 x3 x4 x5 x9 (ix2 r e) = ((dq q k v d s 4 (128 * n + r.val) e.val : ℝ) : EReal) :=
  cut0 (f := fun a b e => dq q k v d s (4 * 1 + a) (128 * n + b) e) (dq_eq (block1 I c i hi arg1 g1 arg2 g2 arg3 g3 arg4 g4 arg5 g5 arg6 g6 arg10 g10)) r e

theorem head5 (r : Fin 128) (e : Fin 64) : runB.sl.r_93 c i arg1 g1 arg2 g2 arg3 g3 arg4 g4 arg5 g5 arg6 g6 arg10 g10 x0 x1 x2 x3 x4 x5 x9 (ix2 r e) = ((dq q k v d s 5 (128 * n + r.val) e.val : ℝ) : EReal) :=
  cut1 (f := fun a b e => dq q k v d s (4 * 1 + a) (128 * n + b) e) (dq_eq (block1 I c i hi arg1 g1 arg2 g2 arg3 g3 arg4 g4 arg5 g5 arg6 g6 arg10 g10)) r e

theorem head6 (r : Fin 128) (e : Fin 64) : runB.sl.r_94 c i arg1 g1 arg2 g2 arg3 g3 arg4 g4 arg5 g5 arg6 g6 arg10 g10 x0 x1 x2 x3 x4 x5 x9 (ix2 r e) = ((dq q k v d s 6 (128 * n + r.val) e.val : ℝ) : EReal) :=
  cut2 (f := fun a b e => dq q k v d s (4 * 1 + a) (128 * n + b) e) (dq_eq (block1 I c i hi arg1 g1 arg2 g2 arg3 g3 arg4 g4 arg5 g5 arg6 g6 arg10 g10)) r e

theorem head7 (r : Fin 128) (e : Fin 64) : runB.sl.r_95 c i arg1 g1 arg2 g2 arg3 g3 arg4 g4 arg5 g5 arg6 g6 arg10 g10 x0 x1 x2 x3 x4 x5 x9 (ix2 r e) = ((dq q k v d s 7 (128 * n + r.val) e.val : ℝ) : EReal) :=
  cut3 (f := fun a b e => dq q k v d s (4 * 1 + a) (128 * n + b) e) (dq_eq (block1 I c i hi arg1 g1 arg2 g2 arg3 g3 arg4 g4 arg5 g5 arg6 g6 arg10 g10)) r e

theorem head8 (r : Fin 128) (e : Fin 64) : runB.sl.r_96 c i arg1 g1 arg2 g2 arg3 g3 arg4 g4 arg5 g5 arg6 g6 arg10 g10 x0 x1 x2 x3 x4 x5 x9 (ix2 r e) = ((dq q k v d s 8 (128 * n + r.val) e.val : ℝ) : EReal) :=
  cut0 (f := fun a b e => dq q k v d s (4 * 2 + a) (128 * n + b) e) (dq_eq (block2 I c i hi arg1 g1 arg2 g2 arg3 g3 arg4 g4 arg5 g5 arg6 g6 arg10 g10)) r e

theorem head9 (r : Fin 128) (e : Fin 64) : runB.sl.r_97 c i arg1 g1 arg2 g2 arg3 g3 arg4 g4 arg5 g5 arg6 g6 arg10 g10 x0 x1 x2 x3 x4 x5 x9 (ix2 r e) = ((dq q k v d s 9 (128 * n + r.val) e.val : ℝ) : EReal) :=
  cut1 (f := fun a b e => dq q k v d s (4 * 2 + a) (128 * n + b) e) (dq_eq (block2 I c i hi arg1 g1 arg2 g2 arg3 g3 arg4 g4 arg5 g5 arg6 g6 arg10 g10)) r e

theorem head10 (r : Fin 128) (e : Fin 64) : runB.sl.r_98 c i arg1 g1 arg2 g2 arg3 g3 arg4 g4 arg5 g5 arg6 g6 arg10 g10 x0 x1 x2 x3 x4 x5 x9 (ix2 r e) = ((dq q k v d s 10 (128 * n + r.val) e.val : ℝ) : EReal) :=
  cut2 (f := fun a b e => dq q k v d s (4 * 2 + a) (128 * n + b) e) (dq_eq (block2 I c i hi arg1 g1 arg2 g2 arg3 g3 arg4 g4 arg5 g5 arg6 g6 arg10 g10)) r e

theorem head11 (r : Fin 128) (e : Fin 64) : runB.sl.r_99 c i arg1 g1 arg2 g2 arg3 g3 arg4 g4 arg5 g5 arg6 g6 arg10 g10 x0 x1 x2 x3 x4 x5 x9 (ix2 r e) = ((dq q k v d s 11 (128 * n + r.val) e.val : ℝ) : EReal) :=
  cut3 (f := fun a b e => dq q k v d s (4 * 2 + a) (128 * n + b) e) (dq_eq (block2 I c i hi arg1 g1 arg2 g2 arg3 g3 arg4 g4 arg5 g5 arg6 g6 arg10 g10)) r e

theorem head12 (r : Fin 128) (e : Fin 64) : runB.sl.r_100 c i arg1 g1 arg2 g2 arg3 g3 arg4 g4 arg5 g5 arg6 g6 arg10 g10 x0 x1 x2 x3 x4 x5 x9 (ix2 r e) = ((dq q k v d s 12 (128 * n + r.val) e.val : ℝ) : EReal) :=
  cut0 (f := fun a b e => dq q k v d s (4 * 3 + a) (128 * n + b) e) (dq_eq (block3 I c i hi arg1 g1 arg2 g2 arg3 g3 arg4 g4 arg5 g5 arg6 g6 arg10 g10)) r e

theorem head13 (r : Fin 128) (e : Fin 64) : runB.sl.r_101 c i arg1 g1 arg2 g2 arg3 g3 arg4 g4 arg5 g5 arg6 g6 arg10 g10 x0 x1 x2 x3 x4 x5 x9 (ix2 r e) = ((dq q k v d s 13 (128 * n + r.val) e.val : ℝ) : EReal) :=
  cut1 (f := fun a b e => dq q k v d s (4 * 3 + a) (128 * n + b) e) (dq_eq (block3 I c i hi arg1 g1 arg2 g2 arg3 g3 arg4 g4 arg5 g5 arg6 g6 arg10 g10)) r e

theorem head14 (r : Fin 128) (e : Fin 64) : runB.sl.r_102 c i arg1 g1 arg2 g2 arg3 g3 arg4 g4 arg5 g5 arg6 g6 arg10 g10 x0 x1 x2 x3 x4 x5 x9 (ix2 r e) = ((dq q k v d s 14 (128 * n + r.val) e.val : ℝ) : EReal) :=
  cut2 (f := fun a b e => dq q k v d s (4 * 3 + a) (128 * n + b) e) (dq_eq (block3 I c i hi arg1 g1 arg2 g2 arg3 g3 arg4 g4 arg5 g5 arg6 g6 arg10 g10)) r e

theorem head15 (r : Fin 128) (e : Fin 64) : runB.sl.r_103 c i arg1 g1 arg2 g2 arg3 g3 arg4 g4 arg5 g5 arg6 g6 arg10 g10 x0 x1 x2 x3 x4 x5 x9 (ix2 r e) = ((dq q k v d s 15 (128 * n + r.val) e.val : ℝ) : EReal) :=
  cut3 (f := fun a b e => dq q k v d s (4 * 3 + a) (128 * n + b) e) (dq_eq (block3 I c i hi arg1 g1 arg2 g2 arg3 g3 arg4 g4 arg5 g5 arg6 g6 arg10 g10)) r e

theorem tile {X Y : FVec Ideal S128x64 .f32} (p : ℕ) (hX : ∀ (r : Fin 128) (e : Fin 64), X (ix2 r e) = ((dq q k v d s (2 * p) (128 * n + r.val) e.val : ℝ) : EReal))
    (hY : ∀ (r : Fin 128) (e : Fin 64), Y (ix2 r e) = ((dq q k v d s (2 * p + 1) (128 * n + r.val) e.val : ℝ) : EReal)) (r b : Fin 128) :
    k0_pay127 (F := Ideal) (runB.sl.r c arg7 g7 arg9 g9 x6 x8) (runB.sl.r_1 c arg7 g7 arg9 g9 x6 x8) X Y (ix2 r b)
      = ((term q k v d s pos fr (2 * p + b.val / 64) (128 * n + r.val) (b.val % 64) : ℝ) : EReal) :=
  back_q (T := fun h e => dq q k v d s (2 * p + h) (128 * n + r.val) e) (θ := fun l => pos (128 * n + r.val) * fr l) (hX r) (hY r)
    (AttnDk.cos_cur I c arg7 g7 arg9 g9 r) (AttnDk.sin_cur I c arg7 g7 arg9 g9 r) b

include c arg1 g1 arg2 g2 arg3 g3 arg4 g4 arg5 g5 arg6 g6 arg7 g7 arg9 g9 arg10 g10 in
theorem later (hc : ¬Body.first i) (xo11 xo12 : Vec Ideal S2048x256 .f32) (xo13 : Vec Ideal S1x128 .f32) (r : Fin 128) (e : Fin 1024) :
    VO10.read (Elt Ideal) (VO10.writes (Elt Ideal) VO10.junk (runB (F := Ideal) c i arg1 g1 arg2 g2 arg3 g3 arg4 g4 arg5 g5 arg6 g6 arg7 g7 arg8 g8 arg9 g9 arg10 g10 arg12 g12 arg13 g13 arg14 g14 arg15 g15 hc x0 x1 x2 x3 x4 x5 x6 x7 x8 x9 xo11 xo12 xo13).1) (ix2 r e)
      = ((term q k v d s pos fr (e.val / 64) (128 * n + r.val) (e.val % 64) : ℝ) : EReal) :=
  pick (T := fun h r e => term q k v d s pos fr h (128 * n + r) e) 7 rfl _ (tile I c i hi arg7 g7 arg9 g9 7 (head14 I c i hi arg1 g1 arg2 g2 arg3 g3 arg4 g4 arg5 g5 arg6 g6 arg10 g10) (head15 I c i hi arg1 g1 arg2 g2 arg3 g3 arg4 g4 arg5 g5 arg6 g6 arg10 g10))
    (pick (T := fun h r e => term q k v d s pos fr h (128 * n + r) e) 6 rfl _ (tile I c i hi arg7 g7 arg9 g9 6 (head12 I c i hi arg1 g1 arg2 g2 arg3 g3 arg4 g4 arg5 g5 arg6 g6 arg10 g10) (head13 I c i hi arg1 g1 arg2 g2 arg3 g3 arg4 g4 arg5 g5 arg6 g6 arg10 g10))
    (pick (T := fun h r e => term q k v d s pos fr h (128 * n + r) e) 5 rfl _ (tile I c i hi arg7 g7 arg9 g9 5 (head10 I c i hi arg1 g1 arg2 g2 arg3 g3 arg4 g4 arg5 g5 arg6 g6 arg10 g10) (head11 I c i hi arg1 g1 arg2 g2 arg3 g3 arg4 g4 arg5 g5 arg6 g6 arg10 g10))
    (pick (T := fun h r e => term q k v d s pos fr h (128 * n + r) e) 4 rfl _ (tile I c i hi arg7 g7 arg9 g9 4 (head8 I c i hi arg1 g1 arg2 g2 arg3 g3 arg4 g4 arg5 g5 arg6 g6 arg10 g10) (head9 I c i hi arg1 g1 arg2 g2 arg3 g3 arg4 g4 arg5 g5 arg6 g6 arg10 g10))
    (pick (T := fun h r e => term q k v d s pos fr h (128 * n + r) e) 3 rfl _ (tile I c i hi arg7 g7 arg9 g9 3 (head6 I c i hi arg1 g1 arg2 g2 arg3 g3 arg4 g4 arg5 g5 arg6 g6 arg10 g10) (head7 I c i hi arg1 g1 arg2 g2 arg3 g3 arg4 g4 arg5 g5 arg6 g6 arg10 g10))
    (pick (T := fun h r e => term q k v d s pos fr h (128 * n + r) e) 2 rfl _ (tile I c i hi arg7 g7 arg9 g9 2 (head4 I c i hi arg1 g1 arg2 g2 arg3 g3 arg4 g4 arg5 g5 arg6 g6 arg10 g10) (head5 I c i hi arg1 g1 arg2 g2 arg3 g3 arg4 g4 arg5 g5 arg6 g6 arg10 g10))
    (pick (T := fun h r e => term q k v d s pos fr h (128 * n + r) e) 1 rfl _ (tile I c i hi arg7 g7 arg9 g9 1 (head2 I c i hi arg1 g1 arg2 g2 arg3 g3 arg4 g4 arg5 g5 arg6 g6 arg10 g10) (head3 I c i hi arg1 g1 arg2 g2 arg3 g3 arg4 g4 arg5 g5 arg6 g6 arg10 g10))
    (pick (T := fun h r e => term q k v d s pos fr h (128 * n + r) e) 0 rfl _ (tile I c i hi arg7 g7 arg9 g9 0 (head0 I c i hi arg1 g1 arg2 g2 arg3 g3 arg4 g4 arg5 g5 arg6 g6 arg10 g10) (head1 I c i hi arg1 g1 arg2 g2 arg3 g3 arg4 g4 arg5 g5 arg6 g6 arg10 g10)) (fun r e h => absurd h (Nat.not_lt_zero _))))))))) r e e.isLt

include c arg1 g1 arg2 g2 arg3 g3 arg4 g4 arg5 g5 arg6 g6 arg7 g7 arg9 g9 arg10 g10 in
theorem first (hc : Body.first i) (ho1 : k0_off1 i = ![0, 0]) (ho2 : k0_off2 i = ![0, 0]) (ho3 : k0_off3 i = ![0, 128]) (ho4 : k0_off4 i = ![0, 128]) (r : Fin 128) (e : Fin 1024) :
    VO10.read (Elt Ideal) (VO10.writes (Elt Ideal) VO10.junk (runA (F := Ideal) c i arg1 g1 arg2 g2 arg3 g3 arg4 g4 arg5 g5 arg6 g6 arg7 g7 arg8 g8 arg9 g9 arg10 g10 arg12 g12 arg13 g13 arg14 g14 arg15 g15 hc ho1 ho2 ho3 ho4 x0 x1 x2 x3 x4 x5 x6 x7 x8 x9).1) (ix2 r e)
      = ((term q k v d s pos fr (e.val / 64) (128 * n + r.val) (e.val % 64) : ℝ) : EReal) :=
  pick (T := fun h r e => term q k v d s pos fr h (128 * n + r) e) 7 rfl _ (tile I c i hi arg7 g7 arg9 g9 7 (head14 I c i hi arg1 g1 arg2 g2 arg3 g3 arg4 g4 arg5 g5 arg6 g6 arg10 g10) (head15 I c i hi arg1 g1 arg2 g2 arg3 g3 arg4 g4 arg5 g5 arg6 g6 arg10 g10))
    (pick (T := fun h r e => term q k v d s pos fr h (128 * n + r) e) 6 rfl _ (tile I c i hi arg7 g7 arg9 g9 6 (head12 I c i hi arg1 g1 arg2 g2 arg3 g3 arg4 g4 arg5 g5 arg6 g6 arg10 g10) (head13 I c i hi arg1 g1 arg2 g2 arg3 g3 arg4 g4 arg5 g5 arg6 g6 arg10 g10))
    (pick (T := fun h r e => term q k v d s pos fr h (128 * n + r) e) 5 rfl _ (tile I c i hi arg7 g7 arg9 g9 5 (head10 I c i hi arg1 g1 arg2 g2 arg3 g3 arg4 g4 arg5 g5 arg6 g6 arg10 g10) (head11 I c i hi arg1 g1 arg2 g2 arg3 g3 arg4 g4 arg5 g5 arg6 g6 arg10 g10))
    (pick (T := fun h r e => term q k v d s pos fr h (128 * n + r) e) 4 rfl _ (tile I c i hi arg7 g7 arg9 g9 4 (head8 I c i hi arg1 g1 arg2 g2 arg3 g3 arg4 g4 arg5 g5 arg6 g6 arg10 g10) (head9 I c i hi arg1 g1 arg2 g2 arg3 g3 arg4 g4 arg5 g5 arg6 g6 arg10 g10))
    (pick (T := fun h r e => term q k v d s pos fr h (128 * n + r) e) 3 rfl _ (tile I c i hi arg7 g7 arg9 g9 3 (head6 I c i hi arg1 g1 arg2 g2 arg3 g3 arg4 g4 arg5 g5 arg6 g6 arg10 g10) (head7 I c i hi arg1 g1 arg2 g2 arg3 g3 arg4 g4 arg5 g5 arg6 g6 arg10 g10))
    (pick (T := fun h r e => term q k v d s pos fr h (128 * n + r) e) 2 rfl _ (tile I c i hi arg7 g7 arg9 g9 2 (head4 I c i hi arg1 g1 arg2 g2 arg3 g3 arg4 g4 arg5 g5 arg6 g6 arg10 g10) (head5 I c i hi arg1 g1 arg2 g2 arg3 g3 arg4 g4 arg5 g5 arg6 g6 arg10 g10))
    (pick (T := fun h r e => term q k v d s pos fr h (128 * n + r) e) 1 rfl _ (tile I c i hi arg7 g7 arg9 g9 1 (head2 I c i hi arg1 g1 arg2 g2 arg3 g3 arg4 g4 arg5 g5 arg6 g6 arg10 g10) (head3 I c i hi arg1 g1 arg2 g2 arg3 g3 arg4 g4 arg5 g5 arg6 g6 arg10 g10))
    (pick (T := fun h r e => term q k v d s pos fr h (128 * n + r) e) 0 rfl _ (tile I c i hi arg7 g7 arg9 g9 0 (head0 I c i hi arg1 g1 arg2 g2 arg3 g3 arg4 g4 arg5 g5 arg6 g6 arg10 g10) (head1 I c i hi arg1 g1 arg2 g2 arg3 g3 arg4 g4 arg5 g5 arg6 g6 arg10 g10)) (fun r e h => absurd h (Nat.not_lt_zero _))))))))) r e e.isLt

end

end Cert.AttnDq
end
-- ==== Proof.AttnOut.lean ====
/-
  What the attention kernel leaves after a grid point, in terms of the arrays it was given: the gradients of the keys and of the
  values summed over the queries of the points so far, and that of the point's own queries.
-/
module

public import proofs.«01_k».proof.Proof.AttnDq
public import Idealize.ShloMosaic.Lib.Pipeline.ValueKit
public import Idealize.ShloMosaic.Lib.Claim

@[expose] public section

set_option maxRecDepth 16384

noncomputable section

namespace Cert.AttnOut

open Idealize.ShloMosaic Idealize.ShloMosaic.TcCoe Cert.Reals
open Idealize.ShloMosaic.Pipeline (Dat)
open Cert.AttnBwdIdeal Cert.AttnBwdIdeal.Gen Cert.AttnBwdIdeal.Body Cert.AttnMath Cert.AttnPoint Finset

variable (m : (ℓ : Loc nD τ sig) → Buf (Elt Ideal) ℓ)

/-- An array of real numbers, as a function of two natural numbers. -/
def nat2 {R C : ℕ} (X : (⟨2, ![R, C]⟩ : Shape).Idx → EReal) (i j : ℕ) : ℝ :=
  if h : i < R ∧ j < C then (X (ix2 ⟨i, h.1⟩ ⟨j, h.2⟩)).toReal else 0

theorem nat2_eq {R C : ℕ} (X : (⟨2, ![R, C]⟩ : Shape).Idx → EReal) (i : Fin R) (j : Fin C) (h : IsReal (X (ix2 i j))) :
    X (ix2 i j) = ((nat2 X i.val j.val : ℝ) : EReal) := by
  obtain ⟨r, hr⟩ := h
  unfold nat2
  rw [dif_pos ⟨i.isLt, j.isLt⟩]
  show X (ix2 i j) = ((X (ix2 i j)).toReal : EReal)
  rw [hr, EReal.toReal_coe]

/-- The queries, the keys, the values, the incoming gradient, the sinks' logits, the positions and the inverse frequencies. -/
def Q (c : Dev nD) : ℕ → ℕ → ℝ := nat2 (R := 2048) (C := 1024) (m ((c : Thread nD τ).loc main_arg0))
def K (c : Dev nD) : ℕ → ℕ → ℝ := nat2 (R := 2048) (C := 256) (m ((c : Thread nD τ).loc main_arg1))
def Vv (c : Dev nD) (i j : ℕ) : ℝ := nat2 (R := 2048) (C := 10880) (m ((c : Thread nD τ).loc main_arg2)) i (10496 + j)
def D (c : Dev nD) : ℕ → ℕ → ℝ := nat2 (R := 2048) (C := 1024) (m ((c : Thread nD τ).loc main_arg3))
def Pos (c : Dev nD) (i : ℕ) : ℝ := nat2 (R := 2048) (C := 1) (m ((c : Thread nD τ).loc main_arg4)) i 0
def Fr (c : Dev nD) (l : ℕ) : ℝ := nat2 (R := 1) (C := 32) (m ((c : Thread nD τ).loc main_arg5)) 0 l
def Sk (c : Dev nD) (h : ℕ) : ℝ := nat2 (R := 1) (C := 16) (m ((c : Thread nD τ).loc main_arg6)) 0 h

/-- The arrays the kernel reads hold real numbers. -/
structure Real (c : Dev nD) : Prop where
  h0 : ∀ (r : Fin 2048) (e : Fin 1024), IsReal (m ((c : Thread nD τ).loc main_arg0) (ix2 r e))
  h1 : ∀ (r : Fin 2048) (e : Fin 256), IsReal (m ((c : Thread nD τ).loc main_arg1) (ix2 r e))
  h2 : ∀ (r : Fin 2048) (e : Fin 256), IsReal (m ((c : Thread nD τ).loc main_arg2) (ix2 r (⟨10496 + e.val, by omega⟩ : Fin 10880)))
  h3 : ∀ (r : Fin 2048) (e : Fin 1024), IsReal (m ((c : Thread nD τ).loc main_arg3) (ix2 r e))
  h4 : ∀ r : Fin 2048, IsReal (m ((c : Thread nD τ).loc main_arg4) (ix2 r (0 : Fin 1)))
  h5 : ∀ l : Fin 32, IsReal (m ((c : Thread nD τ).loc main_arg5) (ix2 (0 : Fin 1) l))
  h6 : ∀ h : Fin 16, IsReal (m ((c : Thread nD τ).loc main_arg6) (ix2 (0 : Fin 1) h))

/-- The input windows' block indices at every point of the grid. -/
theorem idx : ∀ t : Fin cfg0.N, win0_0.index t = ![t.val, 0] ∧ win0_1.index t = ![t.val, 0] ∧ win0_2.index t = ![t.val - 1, 0]
    ∧ win0_3.index t = ![t.val, 41] ∧ win0_4.index t = ![t.val - 1, 41] ∧ win0_5.index t = ![t.val, 0] ∧ win0_6.index t = ![t.val, 0]
    ∧ win0_7.index t = ![t.val - 1, 0] ∧ win0_8.index t = ![0, 0] ∧ win0_9.index t = ![0, 0] :=
  (by decide +kernel : ∀ t : Fin grid0.N, _)

theorem val_coords : ∀ t : Fin cfg0.N, (grid0.coords t 0).val = t.val := (by decide +kernel : ∀ t : Fin grid0.N, _)

theorem lt (t : Fin cfg0.N) : t.val < 16 := t.isLt

theorem X3 (c : Dev nD) (t : Fin cfg0.N) (r : Fin 128) (e : Fin 256) (h : 128 * t.val + r.val < 2048) :
    X0_3 m c t (ix2 r e) = m ((c : Thread nD τ).loc main_arg2) (ix2 (⟨128 * t.val + r.val, h⟩ : Fin 2048) (⟨10496 + e.val, by omega⟩ : Fin 10880)) := by
  unfold X0_3 Pipeline.Window.fill
  rw [dif_pos (moved0_3 t _)]
  blk_point [iblk, V, idx t]

theorem X4 (c : Dev nD) (t : Fin cfg0.N) (r : Fin 128) (e : Fin 256) (h : 128 * (t.val - 1) + r.val < 2048) :
    X0_4 m c t (ix2 r e) = m ((c : Thread nD τ).loc main_arg2) (ix2 (⟨128 * (t.val - 1) + r.val, h⟩ : Fin 2048) (⟨10496 + e.val, by omega⟩ : Fin 10880)) := by
  unfold X0_4 Pipeline.Window.fill
  rw [dif_pos (moved0_4 t _)]
  blk_point [iblk, V, idx t]

theorem X8 (c : Dev nD) (t : Fin cfg0.N) (e : Fin 128) :
    iblk m c 8 t (ix2 0 e) = m ((c : Thread nD τ).loc main_arg5) (ix2 (0 : Fin 1) (⟨e.val % 32, by omega⟩ : Fin 32)) := by
  have h : ((cfg0.win 8).blk t).view.emb (ix2 (0 : Fin 1) e) = ix2 (0 : Fin 1) e := by blk_ext [idx t]
  show V m c main_v0 (((cfg0.win 8).blk t).view.emb (ix2 (0 : Fin 1) e)) = _
  rw [h]
  entry_read
  pointwise []
  split_ifs <;> exact congrArg _ (congrArg (ix2 (0 : Fin 1)) (Fin.ext (by dsimp only; omega)))

/-- The blocks a point reads. -/
theorem inputs (c : Dev nD) (H : Real m c) (t : Fin cfg0.N) :
    Inputs t.val (Q m c) (K m c) (Vv m c) (D m c) (Sk m c) (Pos m c) (Fr m c) (iblk m c 0 t) (iblk m c 1 t) (iblk m c 2 t) (X0_3 m c t) (X0_4 m c t)
      (iblk m c 5 t) (iblk m c 6 t) (iblk m c 7 t) (iblk m c 8 t) (iblk m c 9 t) where
  hn := lt t
  h0 r e := by
    have ht := lt t
    refine Eq.trans ?_ (nat2_eq _ (⟨128 * t.val + r.val, by omega⟩ : Fin 2048) e (H.h0 _ _))
    blk_point [iblk, V, idx t]
  h1 r e := by
    have ht := lt t
    refine Eq.trans ?_ (nat2_eq _ (⟨128 * t.val + r.val, by omega⟩ : Fin 2048) e (H.h1 _ _))
    blk_point [iblk, V, idx t]
  h2 r e := by
    have ht := lt t
    refine Eq.trans ?_ (nat2_eq _ (⟨128 * (t.val - 1) + r.val, by omega⟩ : Fin 2048) e (H.h1 _ _))
    blk_point [iblk, V, idx t]
  h3 r e := by
    have ht := lt t
    exact (X3 m c t r e (by omega)).trans (nat2_eq _ _ _ (H.h2 _ e))
  h4 r e := by
    have ht := lt t
    exact (X4 m c t r e (by omega)).trans (nat2_eq _ _ _ (H.h2 _ e))
  h5 r e := by
    have ht := lt t
    refine Eq.trans ?_ (nat2_eq _ (⟨128 * t.val + r.val, by omega⟩ : Fin 2048) e (H.h3 _ _))
    blk_point [iblk, V, idx t]
  h6 r := by
    have ht := lt t
    refine Eq.trans ?_ (nat2_eq _ (⟨128 * t.val + r.val, by omega⟩ : Fin 2048) (0 : Fin 1) (H.h4 _))
    blk_point [iblk, V, idx t]
  h7 r := by
    have ht := lt t
    refine Eq.trans ?_ (nat2_eq _ (⟨128 * (t.val - 1) + r.val, by omega⟩ : Fin 2048) (0 : Fin 1) (H.h4 _))
    blk_point [iblk, V, idx t]
  h8 e := (X8 m c t e).trans (nat2_eq _ (0 : Fin 1) (⟨e.val % 32, by omega⟩ : Fin 32) (H.h5 _))
  h9 h := by
    refine Eq.trans ?_ (nat2_eq _ (0 : Fin 1) h (H.h6 _))
    blk_point [iblk, V, idx t]

theorem o1 (t : Fin cfg0.N) : k0_off1 (grid0.coords t) = ![128 * t.val, 0] := (by decide +kernel : ∀ t : Fin grid0.N, k0_off1 (grid0.coords t) = ![128 * t.val, 0]) t
theorem o2 (t : Fin cfg0.N) : k0_off2 (grid0.coords t) = ![128 * (t.val - 1), 0] := by rw [off2_eq, val_coords]
theorem o3 (t : Fin cfg0.N) : k0_off3 (grid0.coords t) = ![128 * t.val, 128] := (by decide +kernel : ∀ t : Fin grid0.N, k0_off3 (grid0.coords t) = ![128 * t.val, 128]) t
theorem o4 (t : Fin cfg0.N) : k0_off4 (grid0.coords t) = ![128 * (t.val - 1), 128] := by rw [off4_eq, val_coords]

/-- What the first point leaves in the gradient of the values. -/
theorem first12 (c : Dev nD) (H : Real m c) (t : Fin cfg0.N) (h : t.val = 0) (j : Fin 2048) (e : Fin 256) :
    outFirst12 m c t h (ix2 j e) = ((0 + ∑ b ∈ range 128, dvTerm (Q m c) (K m c) (D m c) (Sk m c) (e.val / 64) (128 * t.val + b) j.val (e.val % 64) : ℝ) : EReal) := by
  unfold outFirst12
  rw [View.read_writes_junk_apply_eq_canon, ← View.read_writes_junk_apply_eq_canon (ms12 t).view]
  exact AttnDv.first (inputs m c H t) c (grid0.coords t) (val_coords t) (ms0 t) (hs0 t) (ms1 t) (hs1 t) (ms2 t) (hs2 t) (ms3 t) (hs3 t) (ms4 t) (hs4 t) (ms5 t) (hs5 t) (ms9 t) (hs9 t) (ms12 t) (o1 t) (o2 t) (o3 t) (o4 t) _ j e

theorem later12 (c : Dev nD) (H : Real m c) (t : Fin cfg0.N) (h : t.val ≠ 0) (xo11 xo12 : Vec Ideal S2048x256 .f32) (xo13 : Vec Ideal S1x128 .f32)
    {A : ℕ → ℕ → ℝ} (hA : ∀ (j : Fin 2048) (e : Fin 256), xo12 (ix2 j e) = ((A j.val e.val : ℝ) : EReal)) (j : Fin 2048) (e : Fin 256) :
    outLater12 m c t h xo11 xo12 xo13 (ix2 j e) = ((A j.val e.val + ∑ b ∈ range 128, dvTerm (Q m c) (K m c) (D m c) (Sk m c) (e.val / 64) (128 * t.val + b) j.val (e.val % 64) : ℝ) : EReal) := by
  unfold outLater12
  exact AttnDv.later (inputs m c H t) c (grid0.coords t) (val_coords t) (ms0 t) (hs0 t) (ms1 t) (hs1 t) (ms2 t) (hs2 t) (ms3 t) (hs3 t) (ms4 t) (hs4 t) (ms5 t) (hs5 t) (ms9 t) (hs9 t) (ms12 t) (hs12 t) hA (o1 t) (o2 t) (o3 t) (o4 t) _ j e

/-- What the first point leaves in the gradient of the keys. -/
theorem first11 (c : Dev nD) (H : Real m c) (t : Fin cfg0.N) (h : t.val = 0) (j : Fin 2048) (e : Fin 256) :
    outFirst11 m c t h (ix2 j e) = ((0 + ∑ b ∈ range 128, AttnDk.term (Q m c) (K m c) (Vv m c) (D m c) (Sk m c) (Pos m c) (Fr m c) (e.val / 64) (128 * t.val + b) j.val (e.val % 64) : ℝ) : EReal) := by
  unfold outFirst11
  rw [View.read_writes_junk_apply_eq_canon, ← View.read_writes_junk_apply_eq_canon (ms11 t).view]
  exact AttnDk.first (inputs m c H t) c (grid0.coords t) (val_coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms11 t) (o1 t) (o2 t) (o3 t) (o4 t) _ j e

theorem later11 (c : Dev nD) (H : Real m c) (t : Fin cfg0.N) (h : t.val ≠ 0) (xo11 xo12 : Vec Ideal S2048x256 .f32) (xo13 : Vec Ideal S1x128 .f32)
    {A : ℕ → ℕ → ℝ} (hA : ∀ (j : Fin 2048) (e : Fin 256), xo11 (ix2 j e) = ((A j.val e.val : ℝ) : EReal)) (j : Fin 2048) (e : Fin 256) :
    outLater11 m c t h xo11 xo12 xo13 (ix2 j e) = ((A j.val e.val + ∑ b ∈ range 128, AttnDk.term (Q m c) (K m c) (Vv m c) (D m c) (Sk m c) (Pos m c) (Fr m c) (e.val / 64) (128 * t.val + b) j.val (e.val % 64) : ℝ) : EReal) := by
  unfold outLater11
  exact AttnDk.later (inputs m c H t) c (grid0.coords t) (val_coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms11 t) (hs11 t) hA (o1 t) (o2 t) (o3 t) (o4 t) _ j e

theorem later10 (c : Dev nD) (H : Real m c) (t : Fin cfg0.N) (h : t.val ≠ 0) (xo11 xo12 : Vec Ideal S2048x256 .f32) (xo13 : Vec Ideal S1x128 .f32) (r : Fin 128) (e : Fin 1024) :
    outLater10 m c t h xo11 xo12 xo13 (ix2 r e) = ((AttnDq.term (Q m c) (K m c) (Vv m c) (D m c) (Sk m c) (Pos m c) (Fr m c) (e.val / 64) (128 * t.val + r.val) (e.val % 64) : ℝ) : EReal) := by
  unfold outLater10
  exact AttnDq.later (inputs m c H t) c (grid0.coords t) (val_coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (fun h' => h ((first_iff t).mp h')) xo11 xo12 xo13 r e

/-- What a point leaves in the gradient of its queries. -/
theorem outs10 (c : Dev nD) (H : Real m c) (t : Fin cfg0.N) (r : Fin 128) (e : Fin 1024) :
    (outs m c t.val t.isLt).1 (ix2 r e) = ((AttnDq.term (Q m c) (K m c) (Vv m c) (D m c) (Sk m c) (Pos m c) (Fr m c) (e.val / 64) (128 * t.val + r.val) (e.val % 64) : ℝ) : EReal) := by
  by_cases h : t.val = 0
  · rw [outs_first m c t h]
    show outFirst10 m c t h (ix2 r e) = _
    unfold outFirst10
    exact AttnDq.first (inputs m c H t) c (grid0.coords t) (val_coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) ((first_iff t).mpr h) (off1_first t h) (off2_first t h) (off3_first t h) (off4_first t h) r e
  · rw [outs_later m c t h]
    dsimp only
    rw [later10 m c H t h]

theorem outs12 (c : Dev nD) (H : Real m c) : ∀ (n : ℕ) (hn : n < cfg0.N) (j : Fin 2048) (e : Fin 256), (outs m c n hn).2.2.1 (ix2 j e)
    = ((∑ i ∈ range (128 * (n + 1)), dvTerm (Q m c) (K m c) (D m c) (Sk m c) (e.val / 64) i j.val (e.val % 64) : ℝ) : EReal)
  | 0, hn, j, e => by
    have h := outs_first m c ⟨0, hn⟩ rfl
    rw [show outs m c 0 hn = _ from h]
    refine (first12 m c H ⟨0, hn⟩ rfl j e).trans (congrArg Real.toEReal ?_)
    rw [← AttnAcc.sum_points]; simp
  | n + 1, hn, j, e => by
    have h := outs_later m c ⟨n + 1, hn⟩ (Nat.succ_ne_zero n)
    rw [show outs m c (n + 1) hn = _ from h]
    refine (later12 m c H ⟨n + 1, hn⟩ (Nat.succ_ne_zero n) _ _ _ (A := fun j e => ∑ i ∈ range (128 * (n + 1)), dvTerm (Q m c) (K m c) (D m c) (Sk m c) (e / 64) i j (e % 64)) (fun j e => outs12 c H n _ j e) j e).trans (congrArg Real.toEReal ?_)
    exact AttnAcc.sum_points _ _

theorem outs11 (c : Dev nD) (H : Real m c) : ∀ (n : ℕ) (hn : n < cfg0.N) (j : Fin 2048) (e : Fin 256), (outs m c n hn).2.1 (ix2 j e)
    = ((∑ i ∈ range (128 * (n + 1)), AttnDk.term (Q m c) (K m c) (Vv m c) (D m c) (Sk m c) (Pos m c) (Fr m c) (e.val / 64) i j.val (e.val % 64) : ℝ) : EReal)
  | 0, hn, j, e => by
    have h := outs_first m c ⟨0, hn⟩ rfl
    rw [show outs m c 0 hn = _ from h]
    refine (first11 m c H ⟨0, hn⟩ rfl j e).trans (congrArg Real.toEReal ?_)
    rw [← AttnAcc.sum_points]; simp
  | n + 1, hn, j, e => by
    have h := outs_later m c ⟨n + 1, hn⟩ (Nat.succ_ne_zero n)
    rw [show outs m c (n + 1) hn = _ from h]
    refine (later11 m c H ⟨n + 1, hn⟩ (Nat.succ_ne_zero n) _ _ _ (A := fun j e => ∑ i ∈ range (128 * (n + 1)), AttnDk.term (Q m c) (K m c) (Vv m c) (D m c) (Sk m c) (Pos m c) (Fr m c) (e / 64) i j (e % 64)) (fun j e => outs11 c H n _ j e) j e).trans (congrArg Real.toEReal ?_)
    exact AttnAcc.sum_points _ _

end Cert.AttnOut
end
-- ==== Proof.AttnDs.lean ====
/-
  The gradient of the sinks' logits that the attention kernel gathers: each head's lane takes, at every grid point, what the
  point's queries took from the sink.
-/
module

public import proofs.«01_k».proof.Proof.AttnOut
public import Idealize.ShloMosaic.Lib.VecWindow

@[expose] public section

set_option maxRecDepth 16384

noncomputable section

namespace Cert.AttnDs

open Idealize.ShloMosaic Idealize.ShloMosaic.TcCoe Cert.Reals
open Cert.AttnBwdIdeal Cert.AttnBwdIdeal.Gen Cert.AttnBwdIdeal.Body Cert.AttnMath Cert.AttnHead Cert.AttnPoint Cert.AttnOut Finset

/-- One head's lane: the others hold zero. -/
theorem pick {v : IVec S1x128 32} {l : Fin 128} (hv : v (ix2 (0 : Fin 1) l) = BitVec.ofNat 32 l.val) (h : ℕ) (hh : h < 128) {x : ℝ} :
    Scalar.select (IntOp.cmpi CmpIPredicate.eq (v (ix2 (0 : Fin 1) l)) (BitVec.ofNat 32 h)) (0 - (x : EReal)) 0 = ((if l.val = h then -x else 0 : ℝ) : EReal) := by
  have hl := l.isLt
  have e : IntOp.cmpi CmpIPredicate.eq (v (ix2 (0 : Fin 1) l)) (BitVec.ofNat 32 h) = if l.val = h then 1#1 else 0#1 := by
    rw [hv]
    unfold IntOp.cmpi
    dsimp only
    by_cases hlh : l.val = h
    · rw [hlh]; simp
    · have : BitVec.ofNat 32 l.val ≠ BitVec.ofNat 32 h := fun hb => hlh (by
        have := congrArg BitVec.toNat hb
        rw [BitVec.toNat_ofNat, BitVec.toNat_ofNat] at this
        omega)
      rw [if_neg hlh]
      exact congrArg BitVec.ofBool (beq_eq_false_iff_ne.2 this)
  rw [e]
  by_cases hlh : l.val = h
  · rw [if_pos hlh, if_pos hlh, zero_sub, EReal.coe_neg]; rfl
  · rw [if_neg hlh, if_neg hlh]; rfl

/-- A head's rows of the products, summed. -/
theorem rows {P M : FVec Ideal S512x1 .f32} {p μ : ℕ → ℕ → ℝ} {n g o a h : ℕ}
    (hP : ∀ r : Fin 512, P (ix2 r 0) = ((p (g + r.val / 128) (128 * n + r.val % 128) : ℝ) : EReal))
    (hM : ∀ r : Fin 512, M (ix2 r 0) = ((μ (g + r.val / 128) (128 * n + r.val % 128) : ℝ) : EReal)) (ho : o = 128 * a) (ha : a < 4) (hh : h = g + a)
    {lt1 lt2 : ∀ x : Fin 128, o + x.val < 512} :
    ∑ x : Fin 128, P (ix2 ⟨o + x.val, lt1 x⟩ 0) * M (ix2 ⟨o + x.val, lt2 x⟩ 0) = ((∑ b ∈ range 128, p h (128 * n + b) * μ h (128 * n + b) : ℝ) : EReal) := by
  subst ho hh
  rw [← sum_fin 128 (fun b => p (g + a) (128 * n + b) * μ (g + a) (128 * n + b))]
  refine Finset.sum_congr rfl fun x _ => ?_
  have hx := x.isLt
  rw [hP, hM, ← EReal.coe_mul]
  dsimp only
  rw [show (128 * a + x.val) / 128 = a by omega, show (128 * a + x.val) % 128 = x.val by omega]

theorem rows0 {P M : FVec Ideal S512x1 .f32} {p μ : ℕ → ℕ → ℝ} {n g h : ℕ}
    (hP : ∀ r : Fin 512, P (ix2 r 0) = ((p (g + r.val / 128) (128 * n + r.val % 128) : ℝ) : EReal))
    (hM : ∀ r : Fin 512, M (ix2 r 0) = ((μ (g + r.val / 128) (128 * n + r.val % 128) : ℝ) : EReal)) (hh : h = g)
    {lt1 lt2 : ∀ x : Fin 128, x.val < 512} :
    ∑ x : Fin 128, P (ix2 ⟨x.val, lt1 x⟩ 0) * M (ix2 ⟨x.val, lt2 x⟩ 0) = ((∑ b ∈ range 128, p h (128 * n + b) * μ h (128 * n + b) : ℝ) : EReal) := by
  subst hh
  rw [← sum_fin 128 (fun b => p h (128 * n + b) * μ h (128 * n + b))]
  refine Finset.sum_congr rfl fun x _ => ?_
  have hx := x.isLt
  rw [hP, hM, ← EReal.coe_mul]
  dsimp only
  rw [show x.val / 128 = 0 by omega, show x.val % 128 = x.val by omega, Nat.add_zero]

/-- The sixteen lanes, added to what the row held. -/
theorem lanes {v : IVec S1x128 32} {P0 P1 P2 P3 M0 M1 M2 M3 : FVec Ideal S512x1 .f32} {p μ : ℕ → ℕ → ℝ} {n : ℕ} {l : Fin 128} {old : Vec Ideal S1x128 .f32} {A : ℝ}
    (hv : v (ix2 (0 : Fin 1) l) = BitVec.ofNat 32 l.val)
    (hP0 : ∀ r : Fin 512, P0 (ix2 r 0) = ((p (0 + r.val / 128) (128 * n + r.val % 128) : ℝ) : EReal)) (hM0 : ∀ r : Fin 512, M0 (ix2 r 0) = ((μ (0 + r.val / 128) (128 * n + r.val % 128) : ℝ) : EReal))
    (hP1 : ∀ r : Fin 512, P1 (ix2 r 0) = ((p (4 + r.val / 128) (128 * n + r.val % 128) : ℝ) : EReal)) (hM1 : ∀ r : Fin 512, M1 (ix2 r 0) = ((μ (4 + r.val / 128) (128 * n + r.val % 128) : ℝ) : EReal))
    (hP2 : ∀ r : Fin 512, P2 (ix2 r 0) = ((p (8 + r.val / 128) (128 * n + r.val % 128) : ℝ) : EReal)) (hM2 : ∀ r : Fin 512, M2 (ix2 r 0) = ((μ (8 + r.val / 128) (128 * n + r.val % 128) : ℝ) : EReal))
    (hP3 : ∀ r : Fin 512, P3 (ix2 r 0) = ((p (12 + r.val / 128) (128 * n + r.val % 128) : ℝ) : EReal)) (hM3 : ∀ r : Fin 512, M3 (ix2 r 0) = ((μ (12 + r.val / 128) (128 * n + r.val % 128) : ℝ) : EReal))
    (hA : old (ix2 (0 : Fin 1) l) = (A : EReal)) :
    k0_pay98 (F := Ideal) v P3 M3 (k0_pay94 v P2 P3 M2 M3 (k0_pay92 v P2 M2 (k0_pay88 v P1 M1 (k0_pay84 v P0 M0 k0_pay82 (k0_pay83 v P0 M0)) (k0_pay85 v) (k0_pay86 P1) (k0_pay87 M1)) (k0_pay89 v) (k0_pay90 P1 M1) k0_pay91) (k0_pay93 v P2 M2)) (k0_pay95 v) (k0_pay96 P3) (k0_pay97 M3) old (ix2 (0 : Fin 1) l)
      = ((A + (if l.val < 16 then ∑ b ∈ range 128, -(p l.val (128 * n + b) * μ l.val (128 * n + b)) else 0) : ℝ) : EReal) := by
  pointwise [k0_pay98, k0_pay94, k0_pay92, k0_pay88, k0_pay84, k0_pay82, k0_pay83, k0_pay85, k0_pay86, k0_pay87, k0_pay89, k0_pay90, k0_pay91, k0_pay93, k0_pay95, k0_pay96, k0_pay97]
  rw [rows0 hP0 hM0 (h := 0) rfl, pick hv 0 (by decide)]
  rw [rows hP0 hM0 (o := 128) (a := 1) (h := 1) rfl (by decide) rfl, pick hv 1 (by decide)]
  rw [rows hP0 hM0 (o := 256) (a := 2) (h := 2) rfl (by decide) rfl, pick hv 2 (by decide)]
  rw [rows hP0 hM0 (o := 384) (a := 3) (h := 3) rfl (by decide) rfl, pick hv 3 (by decide)]
  rw [rows0 hP1 hM1 (h := 4) rfl, pick hv 4 (by decide)]
  rw [rows hP1 hM1 (o := 128) (a := 1) (h := 5) rfl (by decide) rfl, pick hv 5 (by decide)]
  rw [rows hP1 hM1 (o := 256) (a := 2) (h := 6) rfl (by decide) rfl, pick hv 6 (by decide)]
  rw [rows hP1 hM1 (o := 384) (a := 3) (h := 7) rfl (by decide) rfl, pick hv 7 (by decide)]
  rw [rows0 hP2 hM2 (h := 8) rfl, pick hv 8 (by decide)]
  rw [rows hP2 hM2 (o := 128) (a := 1) (h := 9) rfl (by decide) rfl, pick hv 9 (by decide)]
  rw [rows hP2 hM2 (o := 256) (a := 2) (h := 10) rfl (by decide) rfl, pick hv 10 (by decide)]
  rw [rows hP2 hM2 (o := 384) (a := 3) (h := 11) rfl (by decide) rfl, pick hv 11 (by decide)]
  rw [rows0 hP3 hM3 (h := 12) rfl, pick hv 12 (by decide)]
  rw [rows hP3 hM3 (o := 128) (a := 1) (h := 13) rfl (by decide) rfl, pick hv 13 (by decide)]
  rw [rows hP3 hM3 (o := 256) (a := 2) (h := 14) rfl (by decide) rfl, pick hv 14 (by decide)]
  rw [rows hP3 hM3 (o := 384) (a := 3) (h := 15) rfl (by decide) rfl, pick hv 15 (by decide)]
  rw [hA]
  simp only [zero_add, ← EReal.coe_add]
  refine congrArg Real.toEReal (congrArg (A + ·) ?_)
  rw [show (if l.val < 16 then ∑ b ∈ range 128, -(p l.val (128 * n + b) * μ l.val (128 * n + b)) else 0)
      = ∑ h ∈ range 16, if l.val = h then -∑ b ∈ range 128, p h (128 * n + b) * μ h (128 * n + b) else 0 from by
    rw [Finset.sum_ite_eq]; simp only [mem_range, sum_neg_distrib]]
  simp only [Finset.sum_range_succ, Finset.sum_range_zero, zero_add]

section
variable {n : ℕ} {q k v d : ℕ → ℕ → ℝ} {s pos fr : ℕ → ℝ} {x0 : Vec Ideal S128x1024 .bf16} {x1 x2 : Vec Ideal S128x256 .bf16}
  {x3 x4 : Vec Ideal S128x256 .f32} {x5 : Vec Ideal S128x1024 .bf16} {x6 x7 : Vec Ideal S128x1 .f32} {x8 : Vec Ideal S1x128 .f32}
  {x9 : Vec Ideal S1x16 .f32} (I : Inputs n q k v d s pos fr x0 x1 x2 x3 x4 x5 x6 x7 x8 x9)
  (c : Dev nD) (i : Pipeline.Grid.Coords grid0) (hi : (i 0).val = n)
  (arg1 : Memref sig .tc .vmem S128x1024 .bf16) (g1 : arg1.IsWhole) (arg2 : Memref sig .tc .vmem S128x256 .bf16) (g2 : arg2.IsWhole)
  (arg3 : Memref sig .tc .vmem S128x256 .bf16) (g3 : arg3.IsWhole) (arg4 : Memref sig .tc .vmem S128x256 .f32) (g4 : arg4.IsWhole)
  (arg5 : Memref sig .tc .vmem S128x256 .f32) (g5 : arg5.IsWhole) (arg6 : Memref sig .tc .vmem S128x1024 .bf16) (g6 : arg6.IsWhole)
  (arg10 : Memref sig .tc .smem S1x16 .f32) (g10 : arg10.IsWhole)
include I hi

/-- What a point adds to the row. -/
theorem add {old : Vec Ideal S1x128 .f32} {A : ℝ} (l : Fin 128) (hA : old (ix2 (0 : Fin 1) l) = (A : EReal)) :
    k0_pay98 (F := Ideal) runB.sl.v19 (runB.sl.r_58 c i arg1 g1 arg2 g2 arg3 g3 arg10 g10 x0 x1 x2 x9) (runB.sl.r_67 c i arg1 g1 arg2 g2 arg3 g3 arg4 g4 arg5 g5 arg6 g6 arg10 g10 x0 x1 x2 x3 x4 x5 x9) (runB.sl.r_84 c i arg1 g1 arg2 g2 arg3 g3 arg4 g4 arg5 g5 arg6 g6 arg10 g10 x0 x1 x2 x3 x4 x5 x9) (k0_pay95 runB.sl.v19) (runB.sl.r_85 c i arg1 g1 arg2 g2 arg3 g3 arg10 g10 x0 x1 x2 x9) (runB.sl.r_86 c i arg1 g1 arg2 g2 arg3 g3 arg4 g4 arg5 g5 arg6 g6 arg10 g10 x0 x1 x2 x3 x4 x5 x9) old (ix2 (0 : Fin 1) l)
      = ((A + (if l.val < 16 then ∑ b ∈ range 128, -(psink q k s l.val (128 * n + b) * mean q k v d s l.val (128 * n + b)) else 0) : ℝ) : EReal) := by
  have p0 (r : Fin 512) : runB.sl.r_51 c i arg1 g1 arg2 g2 arg3 g3 arg10 g10 x0 x1 x2 x9 (ix2 r 0) = ((psink q k s (0 + r.val / 128) (128 * n + r.val % 128) : ℝ) : EReal) := psink_eq (block0 I c i hi arg1 g1 arg2 g2 arg3 g3 arg4 g4 arg5 g5 arg6 g6 arg10 g10) r
  have m0 (r : Fin 512) : runB.sl.r_63 c i arg1 g1 arg2 g2 arg3 g3 arg4 g4 arg5 g5 arg6 g6 arg10 g10 x0 x1 x2 x3 x4 x5 x9 (ix2 r 0) = ((mean q k v d s (0 + r.val / 128) (128 * n + r.val % 128) : ℝ) : EReal) := mean_eq (block0 I c i hi arg1 g1 arg2 g2 arg3 g3 arg4 g4 arg5 g5 arg6 g6 arg10 g10) r
  have p1 (r : Fin 512) : runB.sl.r_53 c i arg1 g1 arg2 g2 arg3 g3 arg10 g10 x0 x1 x2 x9 (ix2 r 0) = ((psink q k s (4 + r.val / 128) (128 * n + r.val % 128) : ℝ) : EReal) := psink_eq (block1 I c i hi arg1 g1 arg2 g2 arg3 g3 arg4 g4 arg5 g5 arg6 g6 arg10 g10) r
  have m1 (r : Fin 512) : runB.sl.r_65 c i arg1 g1 arg2 g2 arg3 g3 arg4 g4 arg5 g5 arg6 g6 arg10 g10 x0 x1 x2 x3 x4 x5 x9 (ix2 r 0) = ((mean q k v d s (4 + r.val / 128) (128 * n + r.val % 128) : ℝ) : EReal) := mean_eq (block1 I c i hi arg1 g1 arg2 g2 arg3 g3 arg4 g4 arg5 g5 arg6 g6 arg10 g10) r
  have p2 (r : Fin 512) : runB.sl.r_56 c i arg1 g1 arg2 g2 arg3 g3 arg10 g10 x0 x1 x2 x9 (ix2 r 0) = ((psink q k s (8 + r.val / 128) (128 * n + r.val % 128) : ℝ) : EReal) := psink_eq (block2 I c i hi arg1 g1 arg2 g2 arg3 g3 arg4 g4 arg5 g5 arg6 g6 arg10 g10) r
  have m2 (r : Fin 512) : runB.sl.r_66 c i arg1 g1 arg2 g2 arg3 g3 arg4 g4 arg5 g5 arg6 g6 arg10 g10 x0 x1 x2 x3 x4 x5 x9 (ix2 r 0) = ((mean q k v d s (8 + r.val / 128) (128 * n + r.val % 128) : ℝ) : EReal) := mean_eq (block2 I c i hi arg1 g1 arg2 g2 arg3 g3 arg4 g4 arg5 g5 arg6 g6 arg10 g10) r
  have p3 (r : Fin 512) : runB.sl.r_58 c i arg1 g1 arg2 g2 arg3 g3 arg10 g10 x0 x1 x2 x9 (ix2 r 0) = ((psink q k s (12 + r.val / 128) (128 * n + r.val % 128) : ℝ) : EReal) := psink_eq (block3 I c i hi arg1 g1 arg2 g2 arg3 g3 arg4 g4 arg5 g5 arg6 g6 arg10 g10) r
  have m3 (r : Fin 512) : runB.sl.r_67 c i arg1 g1 arg2 g2 arg3 g3 arg4 g4 arg5 g5 arg6 g6 arg10 g10 x0 x1 x2 x3 x4 x5 x9 (ix2 r 0) = ((mean q k v d s (12 + r.val / 128) (128 * n + r.val % 128) : ℝ) : EReal) := mean_eq (block3 I c i hi arg1 g1 arg2 g2 arg3 g3 arg4 g4 arg5 g5 arg6 g6 arg10 g10) r
  have hv : runB.sl.v19 (ix2 (0 : Fin 1) l) = BitVec.ofNat 32 l.val := by
    pointwise [runB.sl.v19]
  exact lanes (p := psink q k s) (μ := mean q k v d s) hv p0 m0 p1 m1 p2 m2 p3 m3 hA

end

/-- A row written whole. -/
theorem whole (v : View sig .tc .vmem S1x128 .f32) (f : v.ty.Contents (Elt Ideal)) (inb) (w : Vec Ideal S1x128 .f32) (L : List (View.Piece (Elt Ideal) S1x128 .f32)) (l : Fin 128) :
    v.read (Elt Ideal) (v.writes (Elt Ideal) f (⟨Rect.unit (s := S1x128) ![0, 0] S1x128.size inb, w⟩ :: L)) (ix2 (0 : Fin 1) l) = w (ix2 (0 : Fin 1) l) := by
  refine View.read_writes_cons_hit_of_coords v f (Rect.unit (s := S1x128) ![0, 0] S1x128.size inb) w L (ix2 (0 : Fin 1) l) _ fun a => ?_
  match a with
  | 0 => rfl
  | 1 => show l.val = 0 + 1 * l.val; omega

variable (m : (ℓ : Loc nD τ sig) → Buf (Elt Ideal) ℓ)

/-- What queries `i` below `N` give to lane `l`. -/
def upto (q k v d : ℕ → ℕ → ℝ) (s : ℕ → ℝ) (l N : ℕ) : ℝ := if l < 16 then ∑ i ∈ range N, -(psink q k s l i * mean q k v d s l i) else 0

theorem upto_next (q k v d : ℕ → ℕ → ℝ) (s : ℕ → ℝ) (l n : ℕ) :
    upto q k v d s l (128 * n) + (if l < 16 then ∑ b ∈ range 128, -(psink q k s l (128 * n + b) * mean q k v d s l (128 * n + b)) else 0) = upto q k v d s l (128 * (n + 1)) := by
  unfold upto
  split
  · exact AttnAcc.sum_points (fun i => -(psink q k s l i * mean q k v d s l i)) n
  · exact add_zero 0

theorem later (c : Dev nD) (H : Real m c) (t : Fin cfg0.N) (h : t.val ≠ 0) (xo11 xo12 : Vec Ideal S2048x256 .f32) (xo13 : Vec Ideal S1x128 .f32) (l : Fin 128)
    (hx : xo13 (ix2 (0 : Fin 1) l) = ((upto (Q m c) (K m c) (Vv m c) (D m c) (Sk m c) l.val (128 * t.val) : ℝ) : EReal)) :
    outLater13 m c t h xo11 xo12 xo13 (ix2 (0 : Fin 1) l) = ((upto (Q m c) (K m c) (Vv m c) (D m c) (Sk m c) l.val (128 * (t.val + 1)) : ℝ) : EReal) := by
  unfold outLater13 runLater
  dsimp only [runB]
  refine (whole _ _ _ _ _ l).trans ((add (inputs m c H t) c (grid0.coords t) (val_coords t) (ms0 t) (hs0 t) (ms1 t) (hs1 t) (ms2 t) (hs2 t) (ms3 t) (hs3 t) (ms4 t) (hs4 t) (ms5 t) (hs5 t) (ms9 t) (hs9 t) l
    (A := upto (Q m c) (K m c) (Vv m c) (D m c) (Sk m c) l.val (128 * t.val)) ?_).trans (congrArg Real.toEReal (upto_next _ _ _ _ _ _ _)))
  refine Eq.trans ?_ hx
  exact AttnDk.row (hs13 t) xo13 _ l

theorem first (c : Dev nD) (H : Real m c) (t : Fin cfg0.N) (h : t.val = 0) (l : Fin 128) :
    outFirst13 m c t h (ix2 (0 : Fin 1) l) = ((upto (Q m c) (K m c) (Vv m c) (D m c) (Sk m c) l.val (128 * (t.val + 1)) : ℝ) : EReal) := by
  unfold outFirst13 runFirst
  dsimp only [runA]
  refine (whole _ _ _ _ _ l).trans ((add (inputs m c H t) c (grid0.coords t) (val_coords t) (ms0 t) (hs0 t) (ms1 t) (hs1 t) (ms2 t) (hs2 t) (ms3 t) (hs3 t) (ms4 t) (hs4 t) (ms5 t) (hs5 t) (ms9 t) (hs9 t) l
    (A := upto (Q m c) (K m c) (Vv m c) (D m c) (Sk m c) l.val (128 * t.val)) ?_).trans (congrArg Real.toEReal (upto_next _ _ _ _ _ _ _)))
  have e : upto (Q m c) (K m c) (Vv m c) (D m c) (Sk m c) l.val (128 * t.val) = 0 := by
    unfold upto; rw [h, Nat.mul_zero, Finset.range_zero, Finset.sum_empty, ite_self]
  rw [e]
  unfold runA.sl.v502 runA.sl.H13_1
  rw [View.readCov_full]
  pointwise [k0_pay5]
  exact EReal.coe_zero.symm

theorem outs13 (c : Dev nD) (H : Real m c) : ∀ (n : ℕ) (hn : n < cfg0.N) (l : Fin 128), (outs m c n hn).2.2.2 (ix2 (0 : Fin 1) l)
    = ((upto (Q m c) (K m c) (Vv m c) (D m c) (Sk m c) l.val (128 * (n + 1)) : ℝ) : EReal)
  | 0, hn, l => by
    have h := outs_first m c ⟨0, hn⟩ rfl
    rw [show outs m c 0 hn = _ from h]
    exact first m c H ⟨0, hn⟩ rfl l
  | n + 1, hn, l => by
    have h := outs_later m c ⟨n + 1, hn⟩ (Nat.succ_ne_zero n)
    rw [show outs m c (n + 1) hn = _ from h]
    exact later m c H ⟨n + 1, hn⟩ (Nat.succ_ne_zero n) (outs m c n (Nat.lt_of_succ_lt hn)).2.1 (outs m c n (Nat.lt_of_succ_lt hn)).2.2.1 _ l (outs13 c H n _ l)

end Cert.AttnDs
end
-- ==== Proof.AttnRef.lean ====
/-
  The reference's attention, stage by stage, on real numbers: heads, scores, probabilities, and the gradients of both.
-/
module

public import proofs.«01_k».proof.Proof.AttnMath
public import proofs.«01_k».proof.Proof.AttnHead
public import proofs.«01_k».proof.Proof.Gen.AttnBwdRefIdeal.Read
public import Idealize.ShloMosaic.Lib.Pipeline.ValueKit
public import Idealize.ShloMosaic.Lib.WordCmp

@[expose] public section

set_option maxRecDepth 16384

noncomputable section

namespace Cert.AttnRef

open Idealize.ShloMosaic Idealize.ShloMosaic.TcCoe Cert.Reals
open Cert.AttnBwdRefIdeal Cert.AttnBwdRefIdeal.Read Cert.AttnMath Finset

/-- The reference's arguments hold the given real numbers. -/
structure Args (q k v d : ℕ → ℕ → ℝ) (s pos fr : ℕ → ℝ) (x0 : FVec Ideal S2048x1024 .bf16) (x1 : FVec Ideal S2048x256 .bf16) (x2 : FVec Ideal S2048x10880 .f32)
    (x3 : FVec Ideal S2048x1024 .bf16) (x4 : FVec Ideal S2048x1 .f32) (x5 : FVec Ideal S1x32 .f32) (x6 : FVec Ideal S1x16 .f32) : Prop where
  h0 : ∀ (i : Fin 2048) (c : Fin 1024), x0 (ix2 i c) = ((q i.val c.val : ℝ) : EReal)
  h1 : ∀ (i : Fin 2048) (c : Fin 256), x1 (ix2 i c) = ((k i.val c.val : ℝ) : EReal)
  h2 : ∀ (i : Fin 2048) (c : Fin 256), x2 (ix2 i (⟨10496 + c.val, by omega⟩ : Fin 10880)) = ((v i.val c.val : ℝ) : EReal)
  h3 : ∀ (i : Fin 2048) (c : Fin 1024), x3 (ix2 i c) = ((d i.val c.val : ℝ) : EReal)
  h4 : ∀ i : Fin 2048, x4 (ix2 i (0 : Fin 1)) = ((pos i.val : ℝ) : EReal)
  h5 : ∀ l : Fin 32, x5 (ix2 (0 : Fin 1) l) = ((fr l.val : ℝ) : EReal)
  h6 : ∀ h : Fin 16, x6 (ix2 (0 : Fin 1) h) = ((s h.val : ℝ) : EReal)

theorem window (i j : ℕ) (hi : i < 2048) (hj : j < 2048) :
    IntOp.andi (IntOp.cmpi CmpIPredicate.sge (IntOp.subi (BitVec.ofNat 32 i) (BitVec.ofNat 32 j)) 0#32)
      (IntOp.cmpi CmpIPredicate.slt (IntOp.subi (BitVec.ofNat 32 i) (BitVec.ofNat 32 j)) 128#32) = BitVec.ofBool (decide (ok i j)) := by
  have e : (IntOp.subi (BitVec.ofNat 32 i) (BitVec.ofNat 32 j)).toInt = (i : ℤ) - j := by
    show (BitVec.ofNat 32 i - BitVec.ofNat 32 j).toInt = _
    have hI (x : ℕ) (hx : x < 2048) : (BitVec.ofNat 32 x).toInt = (x : ℤ) := by
      rw [BitVec.toInt_eq_toNat_of_lt (by rw [BitVec.toNat_ofNat]; omega), BitVec.toNat_ofNat, Nat.mod_eq_of_lt (by omega)]
    rw [BitVec.toInt_sub, hI i hi, hI j hj]
    simp only [Int.bmod_def]
    omega
  unfold IntOp.cmpi
  dsimp only
  rw [WordCmp.andi_ofBool]
  congr 1
  rw [BitVec.sle_eq_decide, BitVec.slt_eq_decide, e, Bool.eq_iff_iff]
  simp
  omega

section
variable {q k v d : ℕ → ℕ → ℝ} {s pos fr : ℕ → ℝ} {x0 : FVec Ideal S2048x1024 .bf16} {x1 : FVec Ideal S2048x256 .bf16} {x2 : FVec Ideal S2048x10880 .f32}
    {x3 : FVec Ideal S2048x1024 .bf16} {x4 : FVec Ideal S2048x1 .f32} {x5 : FVec Ideal S1x32 .f32} {x6 : FVec Ideal S1x16 .f32}
    (A : Args q k v d s pos fr x0 x1 x2 x3 x4 x5 x6)
include A

theorem qh (h : Fin 16) (i : Fin 2048) (e : Fin 64) : val_main_v3 (F := Ideal) x0 (ix3 h i e) = ((q i.val (64 * h.val + e.val) : ℝ) : EReal) := by
  rw [val_main_v3_apply, val_main_v2_apply]
  refine Eq.trans (congrArg x0 ?_) (A.h0 i (⟨64 * h.val + e.val, by omega⟩ : Fin 1024))
  funext a
  match a with
  | 0 => exact Fin.ext (by simp <;> omega)
  | 1 => exact Fin.ext (by simp <;> omega)

theorem kg (g : Fin 4) (i : Fin 2048) (e : Fin 64) : val_main_v6 (F := Ideal) x1 (ix3 g i e) = ((k i.val (64 * g.val + e.val) : ℝ) : EReal) := by
  rw [val_main_v6_apply, val_main_v5_apply]
  refine Eq.trans (congrArg x1 ?_) (A.h1 i (⟨64 * g.val + e.val, by omega⟩ : Fin 256))
  funext a
  match a with
  | 0 => exact Fin.ext (by simp <;> omega)
  | 1 => exact Fin.ext (by simp <;> omega)

theorem vg (g : Fin 4) (i : Fin 2048) (e : Fin 64) : val_main_v8 (F := Ideal) x2 (ix3 g i e) = ((v i.val (64 * g.val + e.val) : ℝ) : EReal) := by
  rw [val_main_v8_apply, val_main_v7_apply, val_main_v0_apply]
  refine Eq.trans (congrArg x2 ?_) (A.h2 i (⟨64 * g.val + e.val, by omega⟩ : Fin 256))
  funext a
  match a with
  | 0 => exact Fin.ext (by simp <;> omega)
  | 1 => exact Fin.ext (by simp <;> omega)

theorem kh (h : Fin 16) (i : Fin 2048) (e : Fin 64) : val_main_v11 (F := Ideal) x1 (ix3 h i e) = ((k i.val (64 * (h.val / 4) + e.val) : ℝ) : EReal) := by
  rw [val_main_v11_apply, val_main_v10_apply, val_main_v9_apply]
  refine Eq.trans (congrArg _ ?_) (kg A (⟨h.val / 4, by omega⟩ : Fin 4) i e)
  funext a
  match a with
  | 0 => exact Fin.ext (by simp <;> omega)
  | 1 => exact Fin.ext (by simp <;> omega)
  | 2 => exact Fin.ext (by simp <;> omega)

theorem vh (h : Fin 16) (i : Fin 2048) (e : Fin 64) : val_main_v14 (F := Ideal) x2 (ix3 h i e) = ((v i.val (64 * (h.val / 4) + e.val) : ℝ) : EReal) := by
  rw [val_main_v14_apply, val_main_v13_apply, val_main_v12_apply]
  refine Eq.trans (congrArg _ ?_) (vg A (⟨h.val / 4, by omega⟩ : Fin 4) i e)
  funext a
  match a with
  | 0 => exact Fin.ext (by simp <;> omega)
  | 1 => exact Fin.ext (by simp <;> omega)
  | 2 => exact Fin.ext (by simp <;> omega)

theorem dh (h : Fin 16) (i : Fin 2048) (e : Fin 64) : val_main_v77 (F := Ideal) x3 (ix3 h i e) = ((d i.val (64 * h.val + e.val) : ℝ) : EReal) := by
  rw [val_main_v77_apply, val_main_v76_apply]
  refine Eq.trans (congrArg x3 ?_) (A.h3 i (⟨64 * h.val + e.val, by omega⟩ : Fin 1024))
  funext a
  match a with
  | 0 => exact Fin.ext (by simp <;> omega)
  | 1 => exact Fin.ext (by simp <;> omega)

theorem sh (h : Fin 16) : val_main_v32 (F := Ideal) x6 (ix2 h (0 : Fin 1)) = ((s h.val : ℝ) : EReal) := by
  rw [val_main_v32_apply]
  refine Eq.trans (congrArg x6 ?_) (A.h6 h)
  funext a
  match a with
  | 0 => exact Fin.ext (by simp)
  | 1 => exact Fin.ext (by simp)

theorem score_eq (h : Fin 16) (i j : Fin 2048) : val_main_v17 (F := Ideal) x0 x1 (ix3 h i j) = ((score q k h.val i.val j.val : ℝ) : EReal) := by
  rw [val_main_v17_apply, val_main_v16_apply, val_main_cst_apply, val_main_v15_apply]
  have e (l : Fin 64) : val_main_v3 (F := Ideal) x0 (lidx_main_v15 (ix3 h i j) l) * val_main_v11 (F := Ideal) x1 (ridx_main_v15 (ix3 h i j) l)
      = ((q i.val (64 * h.val + l.val) * k j.val (64 * (h.val / 4) + l.val) : ℝ) : EReal) := by
    rw [show lidx_main_v15 (ix3 h i j) l = ix3 h i l from by funext a; match a with | 0 => rfl | 1 => rfl | 2 => rfl,
      show ridx_main_v15 (ix3 h i j) l = ix3 h j l from by funext a; match a with | 0 => rfl | 1 => rfl | 2 => rfl, qh A, kh A, EReal.coe_mul]
  rw [Finset.sum_congr rfl fun l _ => e l, AttnHead.sum_fin 64 (fun l => q i.val (64 * h.val + l) * k j.val (64 * (h.val / 4) + l))]
  unfold score
  rw [EReal.coe_mul]
  exact congrArg (fun y : EReal => _ * y) AttnHead.word_eighth

theorem seen (h : Fin 16) (i j : Fin 2048) : val_main_v31_1 (F := Ideal) (ix3 h i j) = BitVec.ofBool (decide (ok i.val j.val)) := by
  have hi := i.isLt
  have hj := j.isLt
  pointwise [val_main_v31_1, val_main_v30, val_main_v29, val_main_v28, val_main_v27, val_main_v26, val_main_v25, val_main_v24, val_main_v23, val_main_v22, val_main_v21, val_main_v20, val_main_v19, val_main_v18]
  exact window i.val j.val hi hj

theorem masked (h : Fin 16) (i j : Fin 2048) : val_main_v31_0 (F := Ideal) x0 x1 (ix3 h i j) = if ok i.val j.val then ((score q k h.val i.val j.val : ℝ) : EReal) else ⊥ := by
  rw [val_main_v31_0_apply, score_eq A, seen A]
  have e : val_main_call0_v2 (F := Ideal) (ix3 h i j) = (⊥ : EReal) := by
    pointwise [val_main_call0_v2]
    exact AttnHead.word_bot
  rw [e]
  by_cases hw : ok i.val j.val
  · rw [if_pos hw, decide_eq_true hw]; rfl
  · rw [if_neg hw, decide_eq_false hw]; rfl

end

end Cert.AttnRef
end
-- ==== Proof.AttnRefA.lean ====
/-
  The reference's probabilities and the gradient of the values.
-/
module

public import proofs.«01_k».proof.Proof.AttnRef

@[expose] public section

set_option maxRecDepth 16384

noncomputable section

namespace Cert.AttnRef

open Idealize.ShloMosaic Idealize.ShloMosaic.TcCoe Cert.Reals
open Cert.AttnBwdRefIdeal Cert.AttnBwdRefIdeal.Read Cert.AttnMath Finset

theorem zero_word : (FloatOps.ofBits (F := Ideal) .f32 0x00000000#32 : EReal) = 0 := Ideal.ofBits_zero _

theorem one_word : (FloatOps.ofBits (F := Ideal) .f32 0x3F800000#32 : EReal) = ((1 : ℝ) : EReal) := by
  show Ideal.ofBits .f32 0x3F800000#32 = _
  simp [Ideal.ofBits, Ideal.ieee, -EReal.coe_mul]; norm_num

theorem foldl_ne_top {ι : Type} (g : ι → EReal) (hg : ∀ n, g n ≠ ⊤) : ∀ (l : List ι) (b : EReal), b ≠ ⊤ →
    l.foldl (fun r n => FloatOps.maximumf (F := Ideal) (φ := .f32) r (g n)) b ≠ ⊤
  | [], _, hb => hb
  | n :: l, b, hb => foldl_ne_top g hg l _ (by
      show max b (g n) ≠ ⊤
      exact (max_lt (lt_top_iff_ne_top.2 hb) (lt_top_iff_ne_top.2 (hg n))).ne)

section
variable {q k v d : ℕ → ℕ → ℝ} {s pos fr : ℕ → ℝ} {x0 : FVec Ideal S2048x1024 .bf16} {x1 : FVec Ideal S2048x256 .bf16} {x2 : FVec Ideal S2048x10880 .f32}
    {x3 : FVec Ideal S2048x1024 .bf16} {x4 : FVec Ideal S2048x1 .f32} {x5 : FVec Ideal S1x32 .f32} {x6 : FVec Ideal S1x16 .f32}
    (A : Args q k v d s pos fr x0 x1 x2 x3 x4 x5 x6)
include A

theorem top_not_inf (h : Fin 16) (i : Fin 2048) : val_main_v33 (F := Ideal) x0 x1 (ix2 h i) ≠ (⊤ : EReal) := by
  unfold val_main_v33 Host.reduce
  refine foldl_ne_top _ (fun n => ?_) _ _ ?_
  · generalize S16x2048x2048.rowMajor.symm n = y
    have e := (congrArg (val_main_v31_0 (F := Ideal) x0 x1) (eq_ix3 (n0 := 16) (n1 := 2048) (n2 := 2048) y)).trans (masked A (y 0) (y 1) (y 2))
    rw [e]
    split
    · exact EReal.coe_ne_top _
    · exact bot_ne_top
  · show Ideal.ofBits .f32 0xFF800000#32 ≠ ⊤
    rw [AttnHead.word_bot]
    exact bot_ne_top

theorem top_real (h : Fin 16) (i : Fin 2048) : ∃ μ : ℝ, val_main_v40 (F := Ideal) x0 x1 x6 (ix2 h i) = (μ : EReal) := by
  have e : val_main_v39 (F := Ideal) x6 (ix2 h i) = ((s h.val : ℝ) : EReal) := by
    rw [val_main_v39_apply]
    refine Eq.trans (congrArg _ ?_) (sh A h)
    funext a
    match a with
    | 0 => exact Fin.ext (by simp <;> omega)
    | 1 => exact Fin.ext (by simp <;> omega)
  rw [val_main_v40_apply, e]
  have h1 : max (val_main_v33 (F := Ideal) x0 x1 (ix2 h i)) ((s h.val : ℝ) : EReal) ≠ ⊤ :=
    (max_lt (lt_top_iff_ne_top.2 (top_not_inf A h i)) (EReal.coe_lt_top _)).ne
  have h2 : max (val_main_v33 (F := Ideal) x0 x1 (ix2 h i)) ((s h.val : ℝ) : EReal) ≠ ⊥ := (lt_of_lt_of_le (EReal.bot_lt_coe _) (le_max_right _ _)).ne'
  exact isReal_of_ne h2 h1

omit A in
/-- What the reference subtracts inside the exponentials. -/
def M (x0 : FVec Ideal S2048x1024 .bf16) (x1 : FVec Ideal S2048x256 .bf16) (x6 : FVec Ideal S1x16 .f32) (h : Fin 16) (i : Fin 2048) : ℝ := (val_main_v40 (F := Ideal) x0 x1 x6 (ix2 h i) : EReal).toReal

theorem top_eq (h : Fin 16) (i : Fin 2048) : val_main_v40 (F := Ideal) x0 x1 x6 (ix2 h i) = ((M x0 x1 x6 h i : ℝ) : EReal) := by
  obtain ⟨μ, hμ⟩ := top_real A h i
  unfold M
  rw [hμ, EReal.toReal_coe]

theorem top_row (h : Fin 16) (i j : Fin 2048) : val_main_v60 (F := Ideal) x0 x1 x6 (ix3 h i j) = ((M x0 x1 x6 h i : ℝ) : EReal) := by
  rw [val_main_v60_apply, val_main_v59_apply]
  refine Eq.trans (congrArg _ ?_) (top_eq A h i)
  funext a
  match a with
  | 0 => exact Fin.ext (by simp <;> omega)
  | 1 => exact Fin.ext (by simp <;> omega)

theorem ex (h : Fin 16) (i j : Fin 2048) : val_main_v62 (F := Ideal) x0 x1 x6 (ix3 h i j) = ((wt q k h.val i.val j.val * Real.exp (-M x0 x1 x6 h i) : ℝ) : EReal) := by
  rw [val_main_v62_apply, val_main_v61_apply, masked A, top_row A]
  exact exp_masked _ _ _

theorem ex_sum (h : Fin 16) (i : Fin 2048) : val_main_v63 (F := Ideal) x0 x1 x6 (ix2 h i) = (((∑ j ∈ range 2048, wt q k h.val i.val j) * Real.exp (-M x0 x1 x6 h i) : ℝ) : EReal) := by
  rw [val_main_v63_apply, val_main_cst_10_apply]
  refine (congrArg₂ (fun a b : EReal => a + b) zero_word (Finset.sum_congr rfl fun l _ => (congrArg (val_main_v62 (F := Ideal) x0 x1 x6) (show idx_main_v63 (ix2 h i) l = ix3 h i l from by funext a; match a with | 0 => rfl | 1 => rfl | 2 => rfl)).trans (ex A h i l))).trans ?_
  rw [zero_add, AttnHead.sum_fin _ (fun l => wt q k h.val i.val l * Real.exp (-M x0 x1 x6 h i))]
  rw [Finset.sum_mul]
theorem ex_sink (h : Fin 16) (i : Fin 2048) : val_main_v66 (F := Ideal) x0 x1 x6 (ix2 h i) = ((Real.exp (s h.val) * Real.exp (-M x0 x1 x6 h i) : ℝ) : EReal) := by
  have e : val_main_v64 (F := Ideal) x6 (ix2 h i) = ((s h.val : ℝ) : EReal) := by
    rw [val_main_v64_apply]
    refine Eq.trans (congrArg _ ?_) (sh A h)
    funext a
    match a with
    | 0 => exact Fin.ext (by simp <;> omega)
    | 1 => exact Fin.ext (by simp <;> omega)
  rw [val_main_v66_apply, val_main_v65_apply, e, top_eq A]
  exact exp_sub _ _

theorem total (h : Fin 16) (i : Fin 2048) : val_main_v67 (F := Ideal) x0 x1 x6 (ix2 h i) = ((den q k s h.val i.val * Real.exp (-M x0 x1 x6 h i) : ℝ) : EReal) := by
  rw [val_main_v67_apply, ex_sum A, ex_sink A]
  refine (EReal.coe_add _ _).symm.trans (congrArg Real.toEReal ?_)
  unfold den
  ring

theorem total_ne (h : Fin 16) (i : Fin 2048) : den q k s h.val i.val * Real.exp (-M x0 x1 x6 h i) ≠ 0 := mul_ne_zero (den_pos _ _ _ _ _).ne' (Real.exp_pos _).ne'

theorem total1 (h : Fin 16) (i : Fin 2048) : val_main_v68 (F := Ideal) x0 x1 x6 (ix3 h i (0 : Fin 1)) = ((den q k s h.val i.val * Real.exp (-M x0 x1 x6 h i) : ℝ) : EReal) := by
  rw [val_main_v68_apply]
  refine Eq.trans (congrArg _ ?_) (total A h i)
  funext a
  match a with
  | 0 => exact Fin.ext (by simp <;> omega)
  | 1 => exact Fin.ext (by simp <;> omega)

theorem total_row (h : Fin 16) (i j : Fin 2048) : val_main_v69 (F := Ideal) x0 x1 x6 (ix3 h i j) = ((den q k s h.val i.val * Real.exp (-M x0 x1 x6 h i) : ℝ) : EReal) := by
  rw [val_main_v69_apply]
  refine Eq.trans (congrArg _ ?_) (total1 A h i)
  funext a
  match a with
  | 0 => exact Fin.ext (by simp <;> omega)
  | 1 => exact Fin.ext (by simp <;> omega)
  | 2 => exact Fin.ext (by simp <;> omega)

theorem prob_eq (h : Fin 16) (i j : Fin 2048) : val_main_v70 (F := Ideal) x0 x1 x6 (ix3 h i j) = ((prob q k s h.val i.val j.val : ℝ) : EReal) := by
  rw [val_main_v70_apply, ex A, total_row A]
  refine (div_real _ _ (total_ne A h i)).trans (congrArg Real.toEReal ?_)
  exact div_shift _ _ _ (den_pos _ _ _ _ _).ne'

theorem dv_head (h : Fin 16) (e : Fin 64) (j : Fin 2048) : val_main_v78 (F := Ideal) x0 x1 x3 x6 (ix3 h e j) = ((∑ i ∈ range 2048, d i (64 * h.val + e.val) * prob q k s h.val i j.val : ℝ) : EReal) := by
  rw [val_main_v78_apply]
  have ew (l : Fin 2048) : val_main_v77 (F := Ideal) x3 (lidx_main_v78 (ix3 h e j) l) * val_main_v70 (F := Ideal) x0 x1 x6 (ridx_main_v78 (ix3 h e j) l) = ((d l.val (64 * h.val + e.val) * prob q k s h.val l.val j.val : ℝ) : EReal) := by
    rw [show lidx_main_v78 (ix3 h e j) l = ix3 h l e from by funext a; match a with | 0 => rfl | 1 => rfl | 2 => rfl, show ridx_main_v78 (ix3 h e j) l = ix3 h l j from by funext a; match a with | 0 => rfl | 1 => rfl | 2 => rfl]
    rw [dh A, prob_eq A, EReal.coe_mul]
  rw [Finset.sum_congr rfl fun l _ => ew l, AttnHead.sum_fin _ (fun l => d l (64 * h.val + e.val) * prob q k s h.val l j.val)]

theorem dv_member (g a : Fin 4) (j : Fin 2048) (e : Fin 64) : val_main_v102 (F := Ideal) x0 x1 x3 x6 (ix4 g a j e) = ((∑ i ∈ range 2048, d i (64 * (4 * g.val + a.val) + e.val) * prob q k s (4 * g.val + a.val) i j.val : ℝ) : EReal) := by
  rw [val_main_v102_apply, val_main_v79_apply]
  refine Eq.trans (congrArg _ ?_) (dv_head A (⟨4 * g.val + a.val, by omega⟩ : Fin 16) e j)
  funext a
  match a with
  | 0 => exact Fin.ext (by simp <;> omega)
  | 1 => exact Fin.ext (by simp <;> omega)
  | 2 => exact Fin.ext (by simp <;> omega)

theorem dv_group (g : Fin 4) (j : Fin 2048) (e : Fin 64) : val_main_v103 (F := Ideal) x0 x1 x3 x6 (ix3 g j e) = ((∑ i ∈ range 2048, dvTerm q k d s g.val i j.val e.val : ℝ) : EReal) := by
  rw [val_main_v103_apply, val_main_cst_16_apply]
  refine (congrArg₂ (fun a b : EReal => a + b) zero_word (Finset.sum_congr rfl fun l _ => (congrArg (val_main_v102 (F := Ideal) x0 x1 x3 x6) (show idx_main_v103 (ix3 g j e) l = ix4 g l j e from by funext a; match a with | 0 => rfl | 1 => rfl | 2 => rfl | 3 => rfl)).trans (dv_member A g l j e))).trans ?_
  rw [zero_add, AttnHead.sum_fin _ (fun l => ∑ i ∈ range 2048, d i (64 * (4 * g.val + l) + e.val) * prob q k s (4 * g.val + l) i j.val)]
  refine congrArg Real.toEReal ?_
  unfold dvTerm
  rw [Finset.sum_comm]
  exact Finset.sum_congr rfl fun i _ => Finset.sum_congr rfl fun a _ => mul_comm _ _
theorem dv_lift (g : Fin 4) (u : Fin 1) (j : Fin 2048) (e : Fin 64) : val_main_v104 (F := Ideal) x0 x1 x3 x6 (ix4 g u j e) = ((∑ i ∈ range 2048, dvTerm q k d s g.val i j.val e.val : ℝ) : EReal) := by
  rw [val_main_v104_apply]
  refine Eq.trans (congrArg _ ?_) (dv_group A g j e)
  funext a
  match a with
  | 0 => exact Fin.ext (by simp <;> omega)
  | 1 => exact Fin.ext (by simp <;> omega)
  | 2 => exact Fin.ext (by simp <;> omega)

theorem dv_all (g : Fin 4) (j : Fin 2048) (e : Fin 64) : val_main_v105 (F := Ideal) x0 x1 x3 x6 (ix3 g j e) = ((∑ i ∈ range 2048, dvTerm q k d s g.val i j.val e.val : ℝ) : EReal) := by
  rw [val_main_v105_apply, val_main_cst_17_apply]
  refine (congrArg₂ (fun a b : EReal => a + b) zero_word (Finset.sum_congr rfl fun l _ => (congrArg (val_main_v104 (F := Ideal) x0 x1 x3 x6) (show idx_main_v105 (ix3 g j e) l = ix4 g l j e from by funext a; match a with | 0 => rfl | 1 => rfl | 2 => rfl | 3 => rfl)).trans (dv_lift A g l j e))).trans ?_
  rw [zero_add, AttnHead.sum_fin _ (fun l => ∑ i ∈ range 2048, dvTerm q k d s g.val i j.val e.val)]
  rw [Finset.sum_range_one]
/-- The gradient of the values. -/
theorem dv_eq (j : Fin 2048) (c : Fin 256) : val_main_v192 (F := Ideal) x0 x1 x3 x6 (ix2 j c) = ((∑ i ∈ range 2048, dvTerm q k d s (c.val / 64) i j.val (c.val % 64) : ℝ) : EReal) := by
  rw [val_main_v192_apply, val_main_v191_apply]
  refine Eq.trans (congrArg _ ?_) (dv_all A (⟨c.val / 64, by omega⟩ : Fin 4) j (⟨c.val % 64, by omega⟩ : Fin 64))
  funext a
  match a with
  | 0 => exact Fin.ext (by simp <;> omega)
  | 1 => exact Fin.ext (by simp <;> omega)
  | 2 => exact Fin.ext (by simp <;> omega)

end

end Cert.AttnRef
end
-- ==== Proof.AttnRefB.lean ====
/-
  The reference's gradients of the scores, of the queries and of the keys, before the inverse rotation.
-/
module

public import proofs.«01_k».proof.Proof.AttnRefA

@[expose] public section

set_option maxRecDepth 16384

noncomputable section

namespace Cert.AttnRef

open Idealize.ShloMosaic Idealize.ShloMosaic.TcCoe Cert.Reals
open Cert.AttnBwdRefIdeal Cert.AttnBwdRefIdeal.Read Cert.AttnMath Finset

theorem eighth_word : (FloatOps.ofBits (F := Ideal) .f32 0x3E000000#32 : EReal) = ((1 / 8 : ℝ) : EReal) := AttnHead.word_eighth

section
variable {q k v d : ℕ → ℕ → ℝ} {s pos fr : ℕ → ℝ} {x0 : FVec Ideal S2048x1024 .bf16} {x1 : FVec Ideal S2048x256 .bf16} {x2 : FVec Ideal S2048x10880 .f32}
    {x3 : FVec Ideal S2048x1024 .bf16} {x4 : FVec Ideal S2048x1 .f32} {x5 : FVec Ideal S1x32 .f32} {x6 : FVec Ideal S1x16 .f32}
    (A : Args q k v d s pos fr x0 x1 x2 x3 x4 x5 x6)
include A
theorem dprob_eq (h : Fin 16) (i j : Fin 2048) : val_main_v80 (F := Ideal) x2 x3 (ix3 h i j) = ((dprob v d h.val i.val j.val : ℝ) : EReal) := by
  rw [val_main_v80_apply]
  have ew (l : Fin 64) : val_main_v77 (F := Ideal) x3 (lidx_main_v80 (ix3 h i j) l) * val_main_v14 (F := Ideal) x2 (ridx_main_v80 (ix3 h i j) l) = ((d i.val (64 * h.val + l.val) * v j.val (64 * (h.val / 4) + l.val) : ℝ) : EReal) := by
    rw [show lidx_main_v80 (ix3 h i j) l = ix3 h i l from by funext a; match a with | 0 => rfl | 1 => rfl | 2 => rfl, show ridx_main_v80 (ix3 h i j) l = ix3 h j l from by funext a; match a with | 0 => rfl | 1 => rfl | 2 => rfl]
    rw [dh A, vh A, EReal.coe_mul]
  rw [Finset.sum_congr rfl fun l _ => ew l, AttnHead.sum_fin _ (fun l => d i.val (64 * h.val + l) * v j.val (64 * (h.val / 4) + l))]
  rfl
theorem inv_sq (h : Fin 16) (i : Fin 2048) : val_main_v73 (F := Ideal) x0 x1 x6 (ix3 h i (0 : Fin 1)) = ((1 / ((den q k s h.val i.val * Real.exp (-M x0 x1 x6 h i)) * (den q k s h.val i.val * Real.exp (-M x0 x1 x6 h i))) : ℝ) : EReal) := by
  rw [val_main_v73_apply, val_main_v72_apply, val_main_cst_11_apply, val_main_v71_apply, total1 A, one_word]
  refine (congrArg (Ideal.div _) (EReal.coe_mul _ _).symm).trans ?_
  exact div_real _ _ (mul_ne_zero (total_ne A h i) (total_ne A h i))

theorem inv_row (h : Fin 16) (i j : Fin 2048) : val_main_v81 (F := Ideal) x0 x1 x6 (ix3 h i j) = ((1 / ((den q k s h.val i.val * Real.exp (-M x0 x1 x6 h i)) * (den q k s h.val i.val * Real.exp (-M x0 x1 x6 h i))) : ℝ) : EReal) := by
  rw [val_main_v81_apply]
  refine Eq.trans (congrArg _ ?_) (inv_sq A h i)
  funext a
  match a with
  | 0 => exact Fin.ext (by simp <;> omega)
  | 1 => exact Fin.ext (by simp <;> omega)
  | 2 => exact Fin.ext (by simp <;> omega)

theorem weigh (h : Fin 16) (i j : Fin 2048) : val_main_v83 (F := Ideal) x0 x1 x2 x3 x6 (ix3 h i j) = ((prob q k s h.val i.val j.val * dprob v d h.val i.val j.val * (1 / (den q k s h.val i.val * Real.exp (-M x0 x1 x6 h i))) : ℝ) : EReal) := by
  rw [val_main_v83_apply, val_main_v82_apply, dprob_eq A, inv_row A, ex A]
  refine (congrArg (fun y : EReal => y * _) (EReal.coe_mul _ _).symm).trans ((EReal.coe_mul _ _).symm.trans (congrArg Real.toEReal ?_))
  have h1 := (den_pos q k s h.val i.val).ne'
  have h2 := (Real.exp_pos (-M x0 x1 x6 h i)).ne'
  unfold prob
  field_simp

theorem weigh_sum (h : Fin 16) (i : Fin 2048) : val_main_v84 (F := Ideal) x0 x1 x2 x3 x6 (ix2 h i) = ((mean q k v d s h.val i.val * (1 / (den q k s h.val i.val * Real.exp (-M x0 x1 x6 h i))) : ℝ) : EReal) := by
  rw [val_main_v84_apply, val_main_cst_12_apply]
  refine (congrArg₂ (fun a b : EReal => a + b) zero_word (Finset.sum_congr rfl fun l _ => (congrArg (val_main_v83 (F := Ideal) x0 x1 x2 x3 x6) (show idx_main_v84 (ix2 h i) l = ix3 h i l from by funext a; match a with | 0 => rfl | 1 => rfl | 2 => rfl)).trans (weigh A h i l))).trans ?_
  rw [zero_add, AttnHead.sum_fin _ (fun l => prob q k s h.val i.val l * dprob v d h.val i.val l * (1 / (den q k s h.val i.val * Real.exp (-M x0 x1 x6 h i))))]
  unfold mean
  rw [Finset.sum_mul]
theorem weigh_col (h : Fin 16) (i : Fin 2048) (u : Fin 1) : val_main_v85 (F := Ideal) x0 x1 x2 x3 x6 (ix3 h i u) = ((mean q k v d s h.val i.val * (1 / (den q k s h.val i.val * Real.exp (-M x0 x1 x6 h i))) : ℝ) : EReal) := by
  rw [val_main_v85_apply]
  refine Eq.trans (congrArg _ ?_) (weigh_sum A h i)
  funext a
  match a with
  | 0 => exact Fin.ext (by simp <;> omega)
  | 1 => exact Fin.ext (by simp <;> omega)

theorem weigh_neg (h : Fin 16) (i : Fin 2048) (u : Fin 1) : val_main_v86 (F := Ideal) x0 x1 x2 x3 x6 (ix3 h i u) = ((-(mean q k v d s h.val i.val * (1 / (den q k s h.val i.val * Real.exp (-M x0 x1 x6 h i)))) : ℝ) : EReal) := by
  rw [val_main_v86_apply, weigh_col A]
  exact (EReal.coe_neg _).symm

theorem lift (h : Fin 16) (i : Fin 2048) : val_main_v89 (F := Ideal) x0 x1 x2 x3 x6 (ix2 h i) = ((-(mean q k v d s h.val i.val * (1 / (den q k s h.val i.val * Real.exp (-M x0 x1 x6 h i)))) : ℝ) : EReal) := by
  rw [val_main_v89_apply, val_main_cst_13_apply]
  refine (congrArg₂ (fun a b : EReal => a + b) zero_word (Finset.sum_congr rfl fun l _ => (congrArg (val_main_v86 (F := Ideal) x0 x1 x2 x3 x6) (show idx_main_v89 (ix2 h i) l = ix3 h i l from by funext a; match a with | 0 => rfl | 1 => rfl | 2 => rfl)).trans (weigh_neg A h i l))).trans ?_
  rw [zero_add, AttnHead.sum_fin _ (fun l => -(mean q k v d s h.val i.val * (1 / (den q k s h.val i.val * Real.exp (-M x0 x1 x6 h i)))))]
  rw [Finset.sum_range_one]
theorem lift_row (h : Fin 16) (i j : Fin 2048) : val_main_v93 (F := Ideal) x0 x1 x2 x3 x6 (ix3 h i j) = ((-(mean q k v d s h.val i.val * (1 / (den q k s h.val i.val * Real.exp (-M x0 x1 x6 h i)))) : ℝ) : EReal) := by
  rw [val_main_v93_apply]
  refine Eq.trans (congrArg _ ?_) (lift A h i)
  funext a
  match a with
  | 0 => exact Fin.ext (by simp <;> omega)
  | 1 => exact Fin.ext (by simp <;> omega)

theorem total_again (h : Fin 16) (i j : Fin 2048) : val_main_v87 (F := Ideal) x0 x1 x6 (ix3 h i j) = ((den q k s h.val i.val * Real.exp (-M x0 x1 x6 h i) : ℝ) : EReal) := by
  rw [val_main_v87_apply]
  refine Eq.trans (congrArg _ ?_) (total1 A h i)
  funext a
  match a with
  | 0 => exact Fin.ext (by simp <;> omega)
  | 1 => exact Fin.ext (by simp <;> omega)
  | 2 => exact Fin.ext (by simp <;> omega)

theorem centred (h : Fin 16) (i j : Fin 2048) : val_main_v95 (F := Ideal) x0 x1 x2 x3 x6 (ix3 h i j) = ((prob q k s h.val i.val j.val * (dprob v d h.val i.val j.val - mean q k v d s h.val i.val) : ℝ) : EReal) := by
  rw [val_main_v95_apply, val_main_v94_apply, val_main_v88_apply, dprob_eq A, total_again A, lift_row A, ex A]
  have e := div_real (dprob v d h.val i.val j.val) _ (total_ne A h i)
  refine (congrArg (fun y : EReal => (y + _) * _) e).trans ?_
  refine (congrArg (fun y : EReal => y * _) (EReal.coe_add _ _).symm).trans ((EReal.coe_mul _ _).symm.trans (congrArg Real.toEReal ?_))
  have h1 := (den_pos q k s h.val i.val).ne'
  have h2 := (Real.exp_pos (-M x0 x1 x6 h i)).ne'
  unfold prob
  field_simp
  ring

theorem dscore_eq (h : Fin 16) (i j : Fin 2048) : val_main_v99 (F := Ideal) x0 x1 x2 x3 x6 (ix3 h i j) = ((dscore q k v d s h.val i.val j.val : ℝ) : EReal) := by
  have e : val_main_v97 (F := Ideal) x0 x1 x2 x3 x6 (ix3 h i j) = ((prob q k s h.val i.val j.val * (dprob v d h.val i.val j.val - mean q k v d s h.val i.val) : ℝ) : EReal) := by
    rw [val_main_v97_apply, seen A, centred A]
    by_cases hw : ok i.val j.val
    · rw [decide_eq_true hw]; rfl
    · rw [decide_eq_false hw, prob_zero q k s hw, zero_mul]
      pointwise [val_main_call1_v0]
      exact (if_neg Bool.false_ne_true).trans (zero_word.trans EReal.coe_zero.symm)
  rw [val_main_v99_apply, e, val_main_v98_apply, val_main_cst_15_apply, eighth_word]
  exact (EReal.coe_mul _ _).symm

/-- The gradient of a query of one head. -/
theorem dq_head (h : Fin 16) (i : Fin 2048) (e : Fin 64) : val_main_v101 (F := Ideal) x0 x1 x2 x3 x6 (ix3 h i e) = ((dq q k v d s h.val i.val e.val : ℝ) : EReal) := by
  rw [val_main_v101_apply]
  have ew (l : Fin 2048) : val_main_v99 (F := Ideal) x0 x1 x2 x3 x6 (lidx_main_v101 (ix3 h i e) l) * val_main_v11 (F := Ideal) x1 (ridx_main_v101 (ix3 h i e) l) = ((dscore q k v d s h.val i.val l.val * k l.val (64 * (h.val / 4) + e.val) : ℝ) : EReal) := by
    rw [show lidx_main_v101 (ix3 h i e) l = ix3 h i l from by funext a; match a with | 0 => rfl | 1 => rfl | 2 => rfl, show ridx_main_v101 (ix3 h i e) l = ix3 h l e from by funext a; match a with | 0 => rfl | 1 => rfl | 2 => rfl]
    rw [dscore_eq A, kh A, EReal.coe_mul]
  rw [Finset.sum_congr rfl fun l _ => ew l, AttnHead.sum_fin _ (fun l => dscore q k v d s h.val i.val l * k l (64 * (h.val / 4) + e.val))]
  rfl
theorem dk_head (h : Fin 16) (j : Fin 2048) (e : Fin 64) : val_main_v100 (F := Ideal) x0 x1 x2 x3 x6 (ix3 h j e) = ((∑ i ∈ range 2048, dscore q k v d s h.val i j.val * q i (64 * h.val + e.val) : ℝ) : EReal) := by
  rw [val_main_v100_apply]
  have ew (l : Fin 2048) : val_main_v99 (F := Ideal) x0 x1 x2 x3 x6 (lidx_main_v100 (ix3 h j e) l) * val_main_v3 (F := Ideal) x0 (ridx_main_v100 (ix3 h j e) l) = ((dscore q k v d s h.val l.val j.val * q l.val (64 * h.val + e.val) : ℝ) : EReal) := by
    rw [show lidx_main_v100 (ix3 h j e) l = ix3 h l j from by funext a; match a with | 0 => rfl | 1 => rfl | 2 => rfl, show ridx_main_v100 (ix3 h j e) l = ix3 h l e from by funext a; match a with | 0 => rfl | 1 => rfl | 2 => rfl]
    rw [dscore_eq A, qh A, EReal.coe_mul]
  rw [Finset.sum_congr rfl fun l _ => ew l, AttnHead.sum_fin _ (fun l => dscore q k v d s h.val l j.val * q l (64 * h.val + e.val))]

theorem dk_member (g a : Fin 4) (j : Fin 2048) (e : Fin 64) : val_main_v106 (F := Ideal) x0 x1 x2 x3 x6 (ix4 g a j e) = ((∑ i ∈ range 2048, dscore q k v d s (4 * g.val + a.val) i j.val * q i (64 * (4 * g.val + a.val) + e.val) : ℝ) : EReal) := by
  rw [val_main_v106_apply]
  refine Eq.trans (congrArg _ ?_) (dk_head A (⟨4 * g.val + a.val, by omega⟩ : Fin 16) j e)
  funext a
  match a with
  | 0 => exact Fin.ext (by simp <;> omega)
  | 1 => exact Fin.ext (by simp <;> omega)
  | 2 => exact Fin.ext (by simp <;> omega)

theorem dk_group (g : Fin 4) (j : Fin 2048) (e : Fin 64) : val_main_v107 (F := Ideal) x0 x1 x2 x3 x6 (ix3 g j e) = ((∑ i ∈ range 2048, dkTerm q k v d s g.val i j.val e.val : ℝ) : EReal) := by
  rw [val_main_v107_apply, val_main_cst_18_apply]
  refine (congrArg₂ (fun a b : EReal => a + b) zero_word (Finset.sum_congr rfl fun l _ => (congrArg (val_main_v106 (F := Ideal) x0 x1 x2 x3 x6) (show idx_main_v107 (ix3 g j e) l = ix4 g l j e from by funext a; match a with | 0 => rfl | 1 => rfl | 2 => rfl | 3 => rfl)).trans (dk_member A g l j e))).trans ?_
  rw [zero_add, AttnHead.sum_fin _ (fun l => ∑ i ∈ range 2048, dscore q k v d s (4 * g.val + l) i j.val * q i (64 * (4 * g.val + l) + e.val))]
  refine congrArg Real.toEReal ?_
  unfold dkTerm
  rw [Finset.sum_comm]
theorem dk_lift (g : Fin 4) (u : Fin 1) (j : Fin 2048) (e : Fin 64) : val_main_v108 (F := Ideal) x0 x1 x2 x3 x6 (ix4 g u j e) = ((∑ i ∈ range 2048, dkTerm q k v d s g.val i j.val e.val : ℝ) : EReal) := by
  rw [val_main_v108_apply]
  refine Eq.trans (congrArg _ ?_) (dk_group A g j e)
  funext a
  match a with
  | 0 => exact Fin.ext (by simp <;> omega)
  | 1 => exact Fin.ext (by simp <;> omega)
  | 2 => exact Fin.ext (by simp <;> omega)

/-- The gradient of a key before the inverse rotation. -/
theorem dk_all (g : Fin 4) (j : Fin 2048) (e : Fin 64) : val_main_v109 (F := Ideal) x0 x1 x2 x3 x6 (ix3 g j e) = ((∑ i ∈ range 2048, dkTerm q k v d s g.val i j.val e.val : ℝ) : EReal) := by
  rw [val_main_v109_apply, val_main_cst_19_apply]
  refine (congrArg₂ (fun a b : EReal => a + b) zero_word (Finset.sum_congr rfl fun l _ => (congrArg (val_main_v108 (F := Ideal) x0 x1 x2 x3 x6) (show idx_main_v109 (ix3 g j e) l = ix4 g l j e from by funext a; match a with | 0 => rfl | 1 => rfl | 2 => rfl | 3 => rfl)).trans (dk_lift A g l j e))).trans ?_
  rw [zero_add, AttnHead.sum_fin _ (fun l => ∑ i ∈ range 2048, dkTerm q k v d s g.val i j.val e.val)]
  rw [Finset.sum_range_one]

end

end Cert.AttnRef
end
-- ==== Proof.AttnRefC.lean ====
/-
  The reference's results on real numbers: the gradients of the queries and of the keys before the rotation, and of the sinks.
-/
module

public import proofs.«01_k».proof.Proof.AttnRefB
public import proofs.«01_k».proof.Proof.AttnDq

@[expose] public section

set_option maxRecDepth 16384

noncomputable section

namespace Cert.AttnRef

open Idealize.ShloMosaic Idealize.ShloMosaic.TcCoe Cert.Reals
open Cert.AttnBwdRefIdeal Cert.AttnBwdRefIdeal.Read Cert.AttnMath Finset

/-- The two halves of a head, turned back and put side by side. -/
theorem halves {t : Fin 64 → EReal} {w : Fin 32 → EReal} {p z1 z2 : EReal} {F fr : ℕ → ℝ} {P : ℝ} (ht : ∀ e, t e = ((F e.val : ℝ) : EReal))
    (hw : ∀ l, w l = ((fr l.val : ℝ) : EReal)) (hp : p = (P : EReal)) (h1 : z1 = 0) (h2 : z2 = 0) (e : Fin 64)
    (a1 : 32 ≤ e.val ∧ e.val - 32 < 32 → 32 + (e.val - 32) < 64) (a2 : 32 ≤ e.val ∧ e.val - 32 < 32 → e.val - 32 < 64) (a3 : e.val < 32 → 32 + e.val < 64) :
    ((if h : 32 ≤ e.val ∧ e.val - 32 < 32 then
        t ⟨32 + (e.val - 32), a1 h⟩ * Ideal.cos (p * w ⟨e.val - 32, h.2⟩) + -t ⟨e.val - 32, a2 h⟩ * Ideal.sin (p * w ⟨e.val - 32, h.2⟩)
      else z1) +
      if h : e.val < 32 then t ⟨32 + e.val, a3 h⟩ * Ideal.sin (p * w ⟨e.val, h⟩) + t e * Ideal.cos (p * w ⟨e.val, h⟩)
      else z2) = ((AttnRot.rot F (fun l => P * fr l) e.val : ℝ) : EReal) := by
  have he := e.isLt
  unfold AttnRot.rot
  by_cases h : e.val < 32
  · rw [dif_neg (by omega), dif_pos h, if_pos h, h1, zero_add, ht, ht, hw, hp, ← EReal.coe_mul, Ideal.cos_coe, Ideal.sin_coe, ← EReal.coe_mul, ← EReal.coe_mul, ← EReal.coe_add]
    refine congrArg Real.toEReal ?_
    dsimp only
    rw [Nat.mod_eq_of_lt h, Nat.add_comm 32]
    ring
  · rw [dif_pos (by omega), dif_neg h, if_neg h, h2, add_zero, ht, ht, hw, hp, ← EReal.coe_mul, Ideal.cos_coe, Ideal.sin_coe, ← EReal.coe_neg, ← EReal.coe_mul, ← EReal.coe_mul, ← EReal.coe_add]
    refine congrArg Real.toEReal ?_
    dsimp only
    rw [show e.val % 32 = e.val - 32 by omega, show 32 + (e.val - 32) = e.val by omega]
    ring

section
variable {q k v d : ℕ → ℕ → ℝ} {s pos fr : ℕ → ℝ} {x0 : FVec Ideal S2048x1024 .bf16} {x1 : FVec Ideal S2048x256 .bf16} {x2 : FVec Ideal S2048x10880 .f32}
    {x3 : FVec Ideal S2048x1024 .bf16} {x4 : FVec Ideal S2048x1 .f32} {x5 : FVec Ideal S1x32 .f32} {x6 : FVec Ideal S1x16 .f32}
    (A : Args q k v d s pos fr x0 x1 x2 x3 x4 x5 x6)
include A

theorem dq_turned (h : Fin 16) (i : Fin 2048) (e : Fin 64) :
    val_main_v147 (F := Ideal) x0 x1 x2 x3 x4 x5 x6 (ix3 h i e) = ((AttnDq.term q k v d s pos fr h.val i.val e.val : ℝ) : EReal) := by
  pointwise [val_main_v147, val_main_v146, val_main_v145, val_main_v144, val_main_v143, val_main_v142, val_main_v141, val_main_v140, val_main_v139, val_main_v138, val_main_v137, val_main_v136, val_main_v135, val_main_v134, val_main_v133, val_main_v132, val_main_v118, val_main_v117, val_main_v116, val_main_v115, val_main_v114, val_main_v113, val_main_v112]
  exact halves (t := fun e => val_main_v101 (F := Ideal) x0 x1 x2 x3 x6 (ix3 h i e)) (w := fun l => x5 (ix2 0 l)) (fun e => dq_head A h i e) A.h5 (A.h4 i) zero_word zero_word e
    (fun _ => by omega) (fun _ => by omega) (fun _ => by omega)

theorem dk_turned (g : Fin 4) (j : Fin 2048) (e : Fin 64) :
    val_main_v188 (F := Ideal) x0 x1 x2 x3 x4 x5 x6 (ix3 g j e)
      = ((∑ i ∈ range 2048, AttnDk.term q k v d s pos fr g.val i j.val e.val : ℝ) : EReal) := by
  pointwise [val_main_v188, val_main_v187, val_main_v186, val_main_v185, val_main_v184, val_main_v183, val_main_v182, val_main_v181, val_main_v180, val_main_v179, val_main_v178, val_main_v177, val_main_v176, val_main_v175, val_main_v174, val_main_v173, val_main_v159, val_main_v158, val_main_v157, val_main_v156, val_main_v155, val_main_v154, val_main_v153]
  refine (halves (t := fun e => val_main_v109 (F := Ideal) x0 x1 x2 x3 x6 (ix3 g j e)) (F := fun e => ∑ i ∈ range 2048, dkTerm q k v d s g.val i j.val e) (w := fun l => x5 (ix2 0 l)) (fun e => dk_all A g j e) A.h5 (A.h4 j) zero_word zero_word e
    (fun _ => by omega) (fun _ => by omega) (fun _ => by omega)).trans (congrArg Real.toEReal ?_)
  rw [AttnDk.rot_sum (fun i e => dkTerm q k v d s g.val i j.val e)]
  rfl

theorem dk_eq (j : Fin 2048) (c : Fin 256) : val_main_v190 (F := Ideal) x0 x1 x2 x3 x4 x5 x6 (ix2 j c)
    = ((∑ i ∈ range 2048, AttnDk.term q k v d s pos fr (c.val / 64) i j.val (c.val % 64) : ℝ) : EReal) := by
  rw [val_main_v190_apply, val_main_v189_apply]
  refine Eq.trans (congrArg _ ?_) (dk_turned A (⟨c.val / 64, by omega⟩ : Fin 4) j (⟨c.val % 64, by omega⟩ : Fin 64))
  funext a
  match a with
  | 0 => exact Fin.ext (by simp <;> omega)
  | 1 => exact Fin.ext (by simp <;> omega)
  | 2 => exact Fin.ext (by simp <;> omega)

theorem dq_eq (i : Fin 2048) (c : Fin 1024) : val_main_v149 (F := Ideal) x0 x1 x2 x3 x4 x5 x6 (ix2 i c)
    = ((AttnDq.term q k v d s pos fr (c.val / 64) i.val (c.val % 64) : ℝ) : EReal) := by
  rw [val_main_v149_apply, val_main_v148_apply]
  refine Eq.trans (congrArg _ ?_) (dq_turned A (⟨c.val / 64, by omega⟩ : Fin 16) i (⟨c.val % 64, by omega⟩ : Fin 64))
  funext a
  match a with
  | 0 => exact Fin.ext (by simp <;> omega)
  | 1 => exact Fin.ext (by simp <;> omega)
  | 2 => exact Fin.ext (by simp <;> omega)

/-- The gradient of the projections: the queries' columns hold their gradient, every other column what it held. -/
theorem dproj_eq (x7 : FVec Ideal S2048x10880 .bf16) (i : Fin 2048) (c : Fin 10880) :
    val_main_v151 (F := Ideal) x0 x1 x2 x3 x4 x5 x6 x7 (ix2 i c)
      = if 9216 ≤ c.val ∧ c.val < 10240 then ((AttnDq.term q k v d s pos fr ((c.val - 9216) / 64) i.val ((c.val - 9216) % 64) : ℝ) : EReal) else x7 (ix2 i c) := by
  have s0 : Host.clampedStart S2048x10880 S2048x1024 (by decide) (fun k => BitVec.toInt (![val_main_c_23 (F := Ideal), val_main_c_24 (F := Ideal)] k (Shape.Idx.first Gen.h_S_))) 0 = 0 := by
    decide
  have s1 : Host.clampedStart S2048x10880 S2048x1024 (by decide) (fun k => BitVec.toInt (![val_main_c_23 (F := Ideal), val_main_c_24 (F := Ideal)] k (Shape.Idx.first Gen.h_S_))) 1 = 9216 := by
    decide
  pointwise [val_main_v151, val_main_v150, val_main_v110]
  by_cases h : 9216 ≤ c.val ∧ c.val < 10240
  · rw [if_pos h, dif_pos (by rw [s0, s1]; omega)]
    refine Eq.trans (congrArg _ ?_) (dq_eq A i (⟨c.val - 9216, by omega⟩ : Fin 1024))
    funext a
    match a with
    | 0 => exact Fin.ext (by show i.val - _ = i.val; rw [s0]; omega)
    | 1 => exact Fin.ext (by show c.val - _ = c.val - 9216; rw [s1])
  · rw [if_neg h, dif_neg (by rw [s0, s1]; omega)]

/-- A sink's gradient: what every query takes from it. -/
theorem ds_head (h : Fin 16) : val_main_v91 (F := Ideal) x0 x1 x2 x3 x6 (ix1 h)
    = ((∑ i ∈ range 2048, -(psink q k s h.val i * mean q k v d s h.val i) : ℝ) : EReal) := by
  have ew (i : Fin 2048) : val_main_v90 (F := Ideal) x0 x1 x2 x3 x6 (ix2 h i) = ((-(psink q k s h.val i.val * mean q k v d s h.val i.val) : ℝ) : EReal) := by
    rw [val_main_v90_apply, lift A, ex_sink A]
    refine (EReal.coe_mul _ _).symm.trans (congrArg Real.toEReal ?_)
    have h1 := (den_pos q k s h.val i.val).ne'
    have h2 := (Real.exp_pos (-M x0 x1 x6 h i)).ne'
    unfold psink
    field_simp
  rw [val_main_v91_apply, val_main_cst_14_apply]
  refine (congrArg₂ (fun a b : EReal => a + b) zero_word (Finset.sum_congr rfl fun l _ => (congrArg (val_main_v90 (F := Ideal) x0 x1 x2 x3 x6) (show idx_main_v91 (ix1 h) l = ix2 h l from by funext a; match a with | 0 => rfl | 1 => rfl)).trans (ew l))).trans ?_
  rw [zero_add, AttnHead.sum_fin _ (fun i => -(psink q k s h.val i * mean q k v d s h.val i))]

theorem ds_eq (l : Fin 128) : val_main_v193 (F := Ideal) x0 x1 x2 x3 x6 (ix2 (0 : Fin 1) l)
    = ((if l.val < 16 then ∑ i ∈ range 2048, -(psink q k s l.val i * mean q k v d s l.val i) else 0 : ℝ) : EReal) := by
  pointwise [val_main_v193]
  by_cases h : l.val < 16
  · rw [dif_pos h, if_pos h]
    refine Eq.trans ?_ (ds_head A ⟨l.val, h⟩)
    pointwise [val_main_v96, val_main_v95, val_main_v92]
  · rw [dif_neg h, if_neg h]
    show (((0#32 : BitVec 32).toInt : ℝ) : EReal) = _
    simp

end

end Cert.AttnRef
-- ==== Proof.AttnClaim.lean ====
/-
  The claim on the attention's backward kernel: its four results are those of the gradient JAX forms of the attention.
-/
module

public import proofs.«01_k».proof.Defs
public import proofs.«01_k».proof.Proof.AttnDs
public import proofs.«01_k».proof.Proof.AttnRefC
public import proofs.«01_k».proof.Proof.Gen.AttnBwdRefIdeal.Run
public import proofs.«01_k».proof.Proof.Gen.Pre_attn_finite
public import Idealize.ShloMosaic.Lib.Quiescent

@[expose] public section

set_option maxRecDepth 16384

noncomputable section

namespace Cert.AttnClaim

open Idealize.ShloMosaic Idealize.ShloMosaic.TcCoe Cert.Reals
open Cert.AttnBwdIdeal Cert.AttnBwdIdeal.Gen Cert.AttnBwdIdeal.Body Cert.AttnMath Cert.AttnOut Finset
open Cert.AttnBwdRefIdeal.Read (val_main_v151 val_main_v190 val_main_v192 val_main_v193)

section
variable (m : (ℓ : Loc nD τ sig) → Buf (Elt Ideal) ℓ)

/-- The blocks the results' windows take at each point. -/
theorem idxOut : ∀ t : Fin cfg0.N, win0_10.index t = ![t.val, 9] ∧ win0_11.index t = ![0, 0] ∧ win0_12.index t = ![0, 0] ∧ win0_13.index t = ![0, 0] :=
  (by decide +kernel : ∀ t : Fin grid0.N, _)

/-- The arrays the reference is given are those of the kernel. -/
theorem args (c : Dev nD) (H : Real m c) : AttnRef.Args (Q m c) (K m c) (Vv m c) (D m c) (Sk m c) (Pos m c) (Fr m c)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) where
  h0 i e := nat2_eq _ i e (H.h0 i e)
  h1 i e := nat2_eq _ i e (H.h1 i e)
  h2 i e := nat2_eq _ i _ (H.h2 i e)
  h3 i e := nat2_eq _ i e (H.h3 i e)
  h4 i := nat2_eq _ i (0 : Fin 1) (H.h4 i)
  h5 l := nat2_eq _ (0 : Fin 1) l (H.h5 l)
  h6 h := nat2_eq _ (0 : Fin 1) h (H.h6 h)

/-- The gradient of the keys: the whole array is written out at the last grid point. -/
theorem final11 (c : Dev nD) (H : Real m c) : (dats m 0 c).arrAt 11 (cfgs 0).N = val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  blk_simp
  rw [after11]
  have hl := (flush0_11 t).mp hf
  have hN : t.val < 16 := t.isLt
  have ht : 128 * (t.val + 1) = 2048 := by omega
  refine Eq.trans (congrArg _ (by blk_ext)) ((outs11 m c H t.val t.isLt (y 0) (y 1)).trans ?_)
  rw [ht]
  refine (AttnRef.dk_eq (args m c H) (y 0) (y 1)).symm.trans (congrArg _ ?_)
  blk_ext [idxOut t]

/-- The gradient of the values: the whole array is written out at the last grid point. -/
theorem final12 (c : Dev nD) (H : Real m c) : (dats m 0 c).arrAt 12 (cfgs 0).N = val_main_v192 (F := Ideal) (m ((c : Thread nD τ).loc main_arg0)) (m ((c : Thread nD τ).loc main_arg1)) (m ((c : Thread nD τ).loc main_arg3)) (m ((c : Thread nD τ).loc main_arg6)) := by
  refine (dats m 0 c).arrAt_eq_of_covers 12 _ (by decide +kernel) fun t hf y => ?_
  blk_simp
  rw [after12]
  have hl := (flush0_12 t).mp hf
  have hN : t.val < 16 := t.isLt
  have ht : 128 * (t.val + 1) = 2048 := by omega
  refine Eq.trans (congrArg _ (by blk_ext)) ((outs12 m c H t.val t.isLt (y 0) (y 1)).trans ?_)
  rw [ht]
  refine (AttnRef.dv_eq (args m c H) (y 0) (y 1)).symm.trans (congrArg _ ?_)
  blk_ext [idxOut t]

/-- The gradient of the sinks, one lane a head. -/
theorem final13 (c : Dev nD) (H : Real m c) : (dats m 0 c).arrAt 13 (cfgs 0).N = val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 13 _ (by decide +kernel) fun t hf y => ?_
  blk_simp
  rw [after13]
  have hl := (flush0_13 t).mp hf
  have hN : t.val < 16 := t.isLt
  have ht : 128 * (t.val + 1) = 2048 := by omega
  refine Eq.trans (congrArg _ (by blk_ext)) ((AttnDs.outs13 m c H t.val t.isLt (y 1)).trans ?_)
  rw [ht]
  refine (AttnRef.ds_eq (args m c H) (y 1)).symm.trans (congrArg _ ?_)
  blk_ext [idxOut t]

set_option maxHeartbeats 1000000 in
/-- The gradient of the projections: the columns of the queries are written, 128 rows at a grid point, and the others stay. -/
theorem final10 (c : Dev nD) (H : Real m c) : (dats m 0 c).arrAt 10 (cfgs 0).N = val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h : (dats m 0 c).arrAt 10 (cfgs 0).N = fun i => if (i 1 : ℕ) / 1024 = 9 then val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i else (dats m 0 c).A 10 i := by
    refine (dats m 0 c).arrAt_eq_of_coversWhere 10 _ (fun β => β (1 : Fin _) = 9) (by decide +kernel) (fun t hf y => ?_) (fun j => Iff.rfl)
    blk_simp
    rw [after10]
    have hN : t.val < 16 := t.isLt
    have h0 : (y 0).val < 128 := lt_of_lt_of_le (y 0).isLt (win0_10.xsize_le (grid0.coords t) 0)
    have h1 : (y 1).val < 1024 := lt_of_lt_of_le (y 1).isLt (win0_10.xsize_le (grid0.coords t) 1)
    refine Eq.trans (congrArg _ (?_ : _ = ix2 (⟨(y 0).val, h0⟩ : Fin 128) (⟨(y 1).val, h1⟩ : Fin 1024))) ((outs10 m c H t ⟨(y 0).val, h0⟩ ⟨(y 1).val, h1⟩).trans ?_)
    · funext a; match a with | 0 => rfl | 1 => rfl
    have hr := AttnRef.dproj_eq (args m c H) (m ((c : Thread nD τ).loc main_arg7)) (⟨128 * t.val + (y 0).val, by omega⟩ : Fin 2048) (⟨9216 + (y 1).val, by omega⟩ : Fin 10880)
    rw [if_pos ⟨by dsimp only; omega, by dsimp only; omega⟩] at hr
    dsimp only at hr
    rw [Nat.add_sub_cancel_left] at hr
    refine hr.symm.trans (congrArg _ ?_)
    blk_ext [idxOut t]
  rw [h]
  funext i
  by_cases hi : (i 1 : ℕ) / 1024 = 9
  · rw [if_pos hi]
  · rw [if_neg hi]
    have hj : i = ix2 (i 0) (i 1) := by funext a; match a with | 0 => rfl | 1 => rfl
    have e : (dats m 0 c).A 10 i = m ((c : Thread nD τ).loc main_arg7) i := by
      rw [A_eq]
      show V m c main_v1_0 i = _
      entry_read
      rfl
    refine e.trans ?_
    have hr := AttnRef.dproj_eq (args m c H) (m ((c : Thread nD τ).loc main_arg7)) (i 0) (i 1)
    rw [if_neg (by omega)] at hr
    rw [hj]
    exact hr.symm
end

/-- The precondition, read at the elements the kernel reads. -/
theorem real_of_pre {x0 : FVec Ideal Cert.Pre_attn_finite.S2048x1024 .bf16} {x1 : FVec Ideal Cert.Pre_attn_finite.S2048x256 .bf16}
    {x2 : FVec Ideal Cert.Pre_attn_finite.S2048x10880 .f32} {x3 : FVec Ideal Cert.Pre_attn_finite.S2048x1024 .bf16}
    {x4 : FVec Ideal Cert.Pre_attn_finite.S2048x1 .f32} {x5 : FVec Ideal Cert.Pre_attn_finite.S1x32 .f32}
    {x6 : FVec Ideal Cert.Pre_attn_finite.S1x16 .f32} {x7 : FVec Ideal Cert.Pre_attn_finite.S2048x10880 .bf16}
    (h : Cert.Pre_attn_finite.fn (F := Ideal) x0 x1 x2 x3 x4 x5 x6 x7 = fun _ => 1#1) :
    (∀ i, IsReal (x0 i)) ∧ (∀ i, IsReal (x1 i)) ∧ (∀ (r : Fin 2048) (e : Fin 256), IsReal (x2 (ix2 r (⟨10496 + e.val, by omega⟩ : Fin 10880))))
      ∧ (∀ i, IsReal (x3 i)) ∧ (∀ i, IsReal (x4 i)) ∧ (∀ i, IsReal (x5 i)) ∧ (∀ i, IsReal (x6 i)) := by
  have h0 := congrFun h default
  dsimp only [Cert.Pre_attn_finite.fn, Cert.Pre_attn_finite.fn_part1, Cert.Pre_attn_finite.fn_part2] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨fun i => isReal_of_abs_lt (Host.reduce_andi_all _ _ _ _ _ h0 i), fun i => isReal_of_abs_lt (Host.reduce_andi_all _ _ _ _ _ h1 i), fun r e => ?_,
    fun i => isReal_of_abs_lt (Host.reduce_andi_all _ _ _ _ _ h3 i), fun i => isReal_of_abs_lt (Host.reduce_andi_all _ _ _ _ _ h4 i),
    fun i => isReal_of_abs_lt (Host.reduce_andi_all _ _ _ _ _ h5 i), fun i => isReal_of_abs_lt (Host.reduce_andi_all _ _ _ _ _ h6 i)⟩
  have h := isReal_of_abs_lt (Host.reduce_andi_all _ _ _ _ _ h2 (ix2 r e))
  have he : extractStridedSlice Cert.Pre_attn_finite.S2048x256 ![0, 10496] x2 Cert.Pre_attn_finite.Facts.slices_S2048x10880_S2048x256_0_10496 (ix2 r e)
      = x2 (ix2 r (⟨10496 + e.val, by omega⟩ : Fin 10880)) := by
    refine congrArg x2 ?_
    funext a
    match a with
    | 0 => exact Fin.ext (Nat.zero_add _)
    | 1 => rfl
  exact he ▸ h

theorem real (m : (ℓ : Loc nD τ sig) → Buf (Elt Ideal) ℓ) (c : Dev nD)
    (h : Cert.Pre_attn_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1) : Real m c :=
  have H := real_of_pre h
  ⟨fun _ _ => H.1 _, fun _ _ => H.2.1 _, H.2.2.1, fun _ _ => H.2.2.2.1 _, fun _ => H.2.2.2.2.1 _, fun _ => H.2.2.2.2.2.1 _, fun _ => H.2.2.2.2.2.2 _⟩

/-- The reference's run, its four results named by the stages that compute them. -/
theorem run_ref (m : (ℓ : Loc Cert.AttnBwdRefIdeal.nD Cert.AttnBwdRefIdeal.τ Cert.AttnBwdRefIdeal.sig) → Buf (Elt Ideal) ℓ) (g : Dev Cert.AttnBwdRefIdeal.nD → PrngReg) :
    θ_run (Cert.AttnBwdRefIdeal.defs (F := Ideal)) (onTc (τ := Cert.AttnBwdRefIdeal.τ) (Cert.AttnBwdRefIdeal.main (F := Ideal))) ⟨m, fun _ => 0, g⟩
      fun r => ∀ c : Dev Cert.AttnBwdRefIdeal.nD,
        r.2.mem ((c.tc : Thread Cert.AttnBwdRefIdeal.nD Cert.AttnBwdRefIdeal.τ).loc Cert.AttnBwdRefIdeal.main_v151)
          = val_main_v151 (F := Ideal) (m ((c.tc : Thread Cert.AttnBwdRefIdeal.nD Cert.AttnBwdRefIdeal.τ).loc Cert.AttnBwdRefIdeal.main_arg0))
            (m ((c.tc : Thread Cert.AttnBwdRefIdeal.nD Cert.AttnBwdRefIdeal.τ).loc Cert.AttnBwdRefIdeal.main_arg1))
            (m ((c.tc : Thread Cert.AttnBwdRefIdeal.nD Cert.AttnBwdRefIdeal.τ).loc Cert.AttnBwdRefIdeal.main_arg2))
            (m ((c.tc : Thread Cert.AttnBwdRefIdeal.nD Cert.AttnBwdRefIdeal.τ).loc Cert.AttnBwdRefIdeal.main_arg3))
            (m ((c.tc : Thread Cert.AttnBwdRefIdeal.nD Cert.AttnBwdRefIdeal.τ).loc Cert.AttnBwdRefIdeal.main_arg4))
            (m ((c.tc : Thread Cert.AttnBwdRefIdeal.nD Cert.AttnBwdRefIdeal.τ).loc Cert.AttnBwdRefIdeal.main_arg5))
            (m ((c.tc : Thread Cert.AttnBwdRefIdeal.nD Cert.AttnBwdRefIdeal.τ).loc Cert.AttnBwdRefIdeal.main_arg6))
            (m ((c.tc : Thread Cert.AttnBwdRefIdeal.nD Cert.AttnBwdRefIdeal.τ).loc Cert.AttnBwdRefIdeal.main_arg7))
        ∧ r.2.mem ((c.tc : Thread Cert.AttnBwdRefIdeal.nD Cert.AttnBwdRefIdeal.τ).loc Cert.AttnBwdRefIdeal.main_v190)
          = val_main_v190 (F := Ideal) (m ((c.tc : Thread Cert.AttnBwdRefIdeal.nD Cert.AttnBwdRefIdeal.τ).loc Cert.AttnBwdRefIdeal.main_arg0))
            (m ((c.tc : Thread Cert.AttnBwdRefIdeal.nD Cert.AttnBwdRefIdeal.τ).loc Cert.AttnBwdRefIdeal.main_arg1))
            (m ((c.tc : Thread Cert.AttnBwdRefIdeal.nD Cert.AttnBwdRefIdeal.τ).loc Cert.AttnBwdRefIdeal.main_arg2))
            (m ((c.tc : Thread Cert.AttnBwdRefIdeal.nD Cert.AttnBwdRefIdeal.τ).loc Cert.AttnBwdRefIdeal.main_arg3))
            (m ((c.tc : Thread Cert.AttnBwdRefIdeal.nD Cert.AttnBwdRefIdeal.τ).loc Cert.AttnBwdRefIdeal.main_arg4))
            (m ((c.tc : Thread Cert.AttnBwdRefIdeal.nD Cert.AttnBwdRefIdeal.τ).loc Cert.AttnBwdRefIdeal.main_arg5))
            (m ((c.tc : Thread Cert.AttnBwdRefIdeal.nD Cert.AttnBwdRefIdeal.τ).loc Cert.AttnBwdRefIdeal.main_arg6))
        ∧ r.2.mem ((c.tc : Thread Cert.AttnBwdRefIdeal.nD Cert.AttnBwdRefIdeal.τ).loc Cert.AttnBwdRefIdeal.main_v192)
          = val_main_v192 (F := Ideal) (m ((c.tc : Thread Cert.AttnBwdRefIdeal.nD Cert.AttnBwdRefIdeal.τ).loc Cert.AttnBwdRefIdeal.main_arg0))
            (m ((c.tc : Thread Cert.AttnBwdRefIdeal.nD Cert.AttnBwdRefIdeal.τ).loc Cert.AttnBwdRefIdeal.main_arg1))
            (m ((c.tc : Thread Cert.AttnBwdRefIdeal.nD Cert.AttnBwdRefIdeal.τ).loc Cert.AttnBwdRefIdeal.main_arg3))
            (m ((c.tc : Thread Cert.AttnBwdRefIdeal.nD Cert.AttnBwdRefIdeal.τ).loc Cert.AttnBwdRefIdeal.main_arg6))
        ∧ r.2.mem ((c.tc : Thread Cert.AttnBwdRefIdeal.nD Cert.AttnBwdRefIdeal.τ).loc Cert.AttnBwdRefIdeal.main_v193)
          = val_main_v193 (F := Ideal) (m ((c.tc : Thread Cert.AttnBwdRefIdeal.nD Cert.AttnBwdRefIdeal.τ).loc Cert.AttnBwdRefIdeal.main_arg0))
            (m ((c.tc : Thread Cert.AttnBwdRefIdeal.nD Cert.AttnBwdRefIdeal.τ).loc Cert.AttnBwdRefIdeal.main_arg1))
            (m ((c.tc : Thread Cert.AttnBwdRefIdeal.nD Cert.AttnBwdRefIdeal.τ).loc Cert.AttnBwdRefIdeal.main_arg2))
            (m ((c.tc : Thread Cert.AttnBwdRefIdeal.nD Cert.AttnBwdRefIdeal.τ).loc Cert.AttnBwdRefIdeal.main_arg3))
            (m ((c.tc : Thread Cert.AttnBwdRefIdeal.nD Cert.AttnBwdRefIdeal.τ).loc Cert.AttnBwdRefIdeal.main_arg6))
        ∧ r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
        ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
        ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
        ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
        ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
        ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5)
        ∧ r.2.mem ((c.tc : Thread Cert.AttnBwdRefIdeal.nD Cert.AttnBwdRefIdeal.τ).loc Cert.AttnBwdRefIdeal.main_arg6) = m ((c.tc : Thread Cert.AttnBwdRefIdeal.nD Cert.AttnBwdRefIdeal.τ).loc Cert.AttnBwdRefIdeal.main_arg6)
        ∧ r.2.mem ((c.tc : Thread Cert.AttnBwdRefIdeal.nD Cert.AttnBwdRefIdeal.τ).loc Cert.AttnBwdRefIdeal.main_arg7) = m ((c.tc : Thread Cert.AttnBwdRefIdeal.nD Cert.AttnBwdRefIdeal.τ).loc Cert.AttnBwdRefIdeal.main_arg7) :=
  θ_run_mono (Cert.AttnBwdRefIdeal.Value.run m g) fun r h c =>
    ⟨(h c).1.trans (Cert.AttnBwdRefIdeal.Read.val_main_v151_eq _), (h c).2.1.trans (Cert.AttnBwdRefIdeal.Read.val_main_v190_eq _),
      (h c).2.2.1.trans (Cert.AttnBwdRefIdeal.Read.val_main_v192_eq _), (h c).2.2.2.1.trans (Cert.AttnBwdRefIdeal.Read.val_main_v193_eq _), (h c).2.2.2.2⟩

set_option maxHeartbeats 2000000 in
theorem algebraic : Cert.algebraic_AttnBwdIdeal_AttnBwdRefIdeal_pre_attn_finite := by
  pair_intro
  · run_from Cert.AttnBwdIdeal.Body.run_main m g
  · run_from run_ref m' g'
    · exact (final10 m c (real m c (hpre c))).symm
    · exact (final11 m c (real m c (hpre c))).symm
    · exact (final12 m c (real m c (hpre c))).symm
    · exact (final13 m c (real m c (hpre c))).symm

end Cert.AttnClaim
end
-- ==== Proof.CallAdamAttnBr.lean ====
/-
  One step of AdamW on a weight of the attention branch's projection, on the 1024 rows of 256 columns one device keeps. The gradient arrives in
  eight parts: seven received from the other devices, and this device's own, which a prefetched table of one word names.
  The table holds zero, so the index maps stay inside the arrays; the four arrays the call leaves (the gradient, the
  weight's change and the two moments) are the reference's.
-/
module

public import proofs.«01_k».proof.Defs
public import proofs.«01_k».proof.Proof.Gen.AdamAttnBr.Frame
public import proofs.«01_k».proof.Proof.Gen.AdamAttnBrIdeal.Frame
public import proofs.«01_k».proof.Proof.Gen.AdamAttnBrRefIdeal.Run
public import proofs.«01_k».proof.Proof.Gen.AdamAttnBrRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.AdamAttnBrCall

open Idealize.ShloMosaic Idealize.ShloMosaic.TcCoe Idealize.SL.Sem
open Idealize.ShloMosaic.Pipeline (Dat)
open Cert.AdamAttnBrIdeal Cert.AdamAttnBrIdeal.Gen
open Cert.AdamAttnBrRefIdeal.Read

variable (m : (ℓ : Loc nD τ sig) → Buf (Elt Ideal) ℓ)

theorem tbl_eq_bits (m : (ℓ : Loc Cert.AdamAttnBr.nD Cert.AdamAttnBr.τ Cert.AdamAttnBr.sig) → Buf (Elt Bits) ℓ) : Cert.AdamAttnBr.Gen.tbl m 0 = fun _ => 0#32 := by
  show StableHlo.after _ _ _ = _
  after_results
  rfl

/-- The table's one word is zero. -/
theorem tbl_eq : tbl m 0 = fun _ => 0#32 := by
  show StableHlo.after _ _ _ = _
  after_results
  rfl

/-- The block of this device's own part, at every point of the grid: the part the table names. -/
theorem own {F : FTy → Type} [FloatOps F] (pf : pre0.Contents (Elt F)) (h : pf 0 = fun _ => 0#32) (i : grid0.Coords) :
    cc0_transform_1 inb_S1_S1_0 numel1_S1 pf i = ![0, (i 0).val, (i 1).val] := by
  have h : pf.at 0 (Rect.unit (s := S1) ![0] S1.size inb_S1_S1_0) numel1_S1 = 0#32 := congrFun h _
  unfold cc0_transform_1
  rw [h]
  revert i; decide +kernel

/-- That block lies inside the array, its transfers whole words. -/
theorem inside : ∀ i : grid0.Coords, ∃ h : (∀ a, ((![0, (i 0).val, (i 1).val] : Fin 3 → Nat) a + 1) * S1x256x256.size a ≤ S8x1024x256.size a),
    EltTy.bits .bf16 = 32 ∨ (Rect.block (s := S8x1024x256) S1x256x256.size ![0, (i 0).val, (i 1).val] h).WholeWords (EltTy.packing .bf16) := by
  decide +kernel

theorem ok_of {F : FTy → Type} [FloatOps F] (pf : pre0.Contents (Elt F)) (h : pf 0 = fun _ => 0#32) : ok0 pf := by
  intro i
  simp only [own pf h i]
  exact inside i

/-- The table names a block inside the array. -/
theorem ok : Ok m := ok_of (tbl m) (tbl_eq m)

/-- The same of the kernel at machine words, whose index map is the same. -/
theorem ok_bits (m : (ℓ : Loc Cert.AdamAttnBr.nD Cert.AdamAttnBr.τ Cert.AdamAttnBr.sig) → Buf (Elt Bits) ℓ) : Cert.AdamAttnBr.Gen.Ok m := by
  intro i
  have h : (Cert.AdamAttnBr.Gen.tbl m).at 0 (Rect.unit (s := Cert.AdamAttnBr.S1) ![0] Cert.AdamAttnBr.S1.size Cert.AdamAttnBr.Facts₀.inb_S1_S1_0) Cert.AdamAttnBr.Facts₀.numel1_S1 = 0#32 :=
    congrFun (tbl_eq_bits m) _
  have e : Cert.AdamAttnBr.cc0_transform_1 Cert.AdamAttnBr.Facts₀.inb_S1_S1_0 Cert.AdamAttnBr.Facts₀.numel1_S1 (Cert.AdamAttnBr.Gen.tbl m) i = ![0, (i 0).val, (i 1).val] := by
    unfold Cert.AdamAttnBr.cc0_transform_1
    rw [h]
    revert i; decide +kernel
  simp only [e]
  exact inside i

/-- The windows' block indices at every point of the grid. -/
theorem idx (t : Fin (cfgM m (ok m)).N) : ((cfgM m (ok m)).win 0).index t = ![0, (grid0.coords t 0).val, (grid0.coords t 1).val]
    ∧ ((cfgM m (ok m)).win 1).index t = ![0, (grid0.coords t 0).val, (grid0.coords t 1).val]
    ∧ ((cfgM m (ok m)).win 2).index t = ![(grid0.coords t 0).val, (grid0.coords t 1).val]
    ∧ ((cfgM m (ok m)).win 3).index t = ![(grid0.coords t 0).val, (grid0.coords t 1).val]
    ∧ ((cfgM m (ok m)).win 4).index t = ![(grid0.coords t 0).val, (grid0.coords t 1).val]
    ∧ ((cfgM m (ok m)).win 5).index t = ![(grid0.coords t 0).val, (grid0.coords t 1).val]
    ∧ ((cfgM m (ok m)).win 6).index t = ![(grid0.coords t 0).val, (grid0.coords t 1).val]
    ∧ ((cfgM m (ok m)).win 7).index t = ![(grid0.coords t 0).val, (grid0.coords t 1).val]
    ∧ ((cfgM m (ok m)).win 8).index t = ![(grid0.coords t 0).val, (grid0.coords t 1).val] := by
  have h : ∀ t : Fin grid0.N, cc0_transform_0 (grid0.coords t) = ![0, (grid0.coords t 0).val, (grid0.coords t 1).val]
    ∧ cc0_transform_2 (grid0.coords t) = ![(grid0.coords t 0).val, (grid0.coords t 1).val] := by decide +kernel
  exact ⟨(h t).1, own (tbl m) (tbl_eq m) _, (h t).2, (h t).2, (h t).2, (h t).2, (h t).2, (h t).2, (h t).2⟩

/-- The table of one zero, and the pipeline at it. -/
def zeroTable : pre0.Contents (Elt Ideal) := fun | 0 => fun _ => 0#32 | ⟨_ + 1, h⟩ => absurd h (Nat.not_lt.2 (Nat.le_add_left _ _))

abbrev cfgZ : Pipeline.Cfg sig Λ₀ := cfg0 ⟨zeroTable, ok_of zeroTable rfl⟩

/-- Each result's blocks cover its array. -/
theorem covers5 : (cfgZ.win 5).Covers := by decide +kernel
theorem covers6 : (cfgZ.win 6).Covers := by decide +kernel
theorem covers7 : (cfgZ.win 7).Covers := by decide +kernel
theorem covers8 : (cfgZ.win 8).Covers := by decide +kernel

/-- The row of the arrays at a row of a tile. -/
abbrev row (t : Fin (cfgM m (ok m)).N) (r : Fin 256) : Fin 1024 :=
  ⟨256 * (grid0.coords t 0).val + r.val, by have h : (grid0.coords t 0).val < 4 := (grid0.coords t 0).isLt; omega⟩

/-! The blocks the body reads, in the arguments. -/

theorem blk0 (c : Dev nD) (t : Fin (cfgM m (ok m)).N) : (ms0_0 m (ok m) t).view.read (Elt Ideal) ((hs0_0 m (ok m) t).unread (iblk m (ok m) c 0 t))
    = fun q : S7x256x256.Idx => m ((c : Thread nD τ).loc main_arg0) (ix3 (q 0) (row m t (q 1)) (q 2)) := by
  refine ((hs0_0 m (ok m) t).read_unread (Val := Elt Ideal) (iblk m (ok m) c 0 t)).trans (funext fun q => ?_)
  refine Eq.trans (congrFun (V_main_arg0 m c) ((((cfgM m (ok m)).win 0).blk t).view.emb q)) ?_
  refine congrArg (m ((c : Thread nD τ).loc main_arg0)) ?_
  blk_ext [idx m t]

theorem blk1 (c : Dev nD) (t : Fin (cfgM m (ok m)).N) : (ms0_1 m (ok m) t).view.read (Elt Ideal) ((hs0_1 m (ok m) t).unread (iblk m (ok m) c 1 t))
    = fun q : S1x256x256.Idx => m ((c : Thread nD τ).loc main_arg1) (ix3 (0 : Fin 8) (row m t (q 1)) (q 2)) := by
  refine ((hs0_1 m (ok m) t).read_unread (Val := Elt Ideal) (iblk m (ok m) c 1 t)).trans (funext fun q => ?_)
  refine Eq.trans (congrFun (V_main_arg1 m c) ((((cfgM m (ok m)).win 1).blk t).view.emb q)) ?_
  refine congrArg (m ((c : Thread nD τ).loc main_arg1)) ?_
  blk_ext [idx m t]

theorem blk2 (c : Dev nD) (t : Fin (cfgM m (ok m)).N) : (ms0_2 m (ok m) t).view.read (Elt Ideal) ((hs0_2 m (ok m) t).unread (iblk m (ok m) c 2 t))
    = fun q : S256x256.Idx => m ((c : Thread nD τ).loc main_arg2) (ix2 (row m t (q 0)) (q 1)) := by
  refine ((hs0_2 m (ok m) t).read_unread (Val := Elt Ideal) (iblk m (ok m) c 2 t)).trans (funext fun q => ?_)
  refine Eq.trans (congrFun (V_main_arg2 m c) ((((cfgM m (ok m)).win 2).blk t).view.emb q)) ?_
  refine congrArg (m ((c : Thread nD τ).loc main_arg2)) ?_
  blk_ext [idx m t]

theorem blk3 (c : Dev nD) (t : Fin (cfgM m (ok m)).N) : (ms0_3 m (ok m) t).view.read (Elt Ideal) ((hs0_3 m (ok m) t).unread (iblk m (ok m) c 3 t))
    = fun q : S256x256.Idx => m ((c : Thread nD τ).loc main_arg3) (ix2 (row m t (q 0)) (q 1)) := by
  refine ((hs0_3 m (ok m) t).read_unread (Val := Elt Ideal) (iblk m (ok m) c 3 t)).trans (funext fun q => ?_)
  refine Eq.trans (congrFun (V_main_arg3 m c) ((((cfgM m (ok m)).win 3).blk t).view.emb q)) ?_
  refine congrArg (m ((c : Thread nD τ).loc main_arg3)) ?_
  blk_ext [idx m t]

theorem blk4 (c : Dev nD) (t : Fin (cfgM m (ok m)).N) : (ms0_4 m (ok m) t).view.read (Elt Ideal) ((hs0_4 m (ok m) t).unread (iblk m (ok m) c 4 t))
    = fun q : S256x256.Idx => m ((c : Thread nD τ).loc main_arg4) (ix2 (row m t (q 0)) (q 1)) := by
  refine ((hs0_4 m (ok m) t).read_unread (Val := Elt Ideal) (iblk m (ok m) c 4 t)).trans (funext fun q => ?_)
  refine Eq.trans (congrFun (V_main_arg4 m c) ((((cfgM m (ok m)).win 4).blk t).view.emb q)) ?_
  refine congrArg (m ((c : Thread nD τ).loc main_arg4)) ?_
  blk_ext [idx m t]

/-! Where a tile of each result lies. -/

theorem emb5 (t : Fin (cfgM m (ok m)).N) (q : S256x256.Idx) :
    (((cfgM m (ok m)).win 5).blk t).view.emb q = ix2 (row m t (q 0)) (q 1) := by
  blk_ext [idx m t]

theorem emb6 (t : Fin (cfgM m (ok m)).N) (q : S256x256.Idx) :
    (((cfgM m (ok m)).win 6).blk t).view.emb q = ix2 (row m t (q 0)) (q 1) := by
  blk_ext [idx m t]

theorem emb7 (t : Fin (cfgM m (ok m)).N) (q : S256x256.Idx) :
    (((cfgM m (ok m)).win 7).blk t).view.emb q = ix2 (row m t (q 0)) (q 1) := by
  blk_ext [idx m t]

theorem emb8 (t : Fin (cfgM m (ok m)).N) (q : S256x256.Idx) :
    (((cfgM m (ok m)).win 8).blk t).view.emb q = ix2 (row m t (q 0)) (q 1) := by
  blk_ext [idx m t]

set_option maxHeartbeats 1000000 in
/-- The gradient. -/
theorem final5 (c : Dev nD) : (dats m (ok m) 0 c).arrAt 5 (cfgM m (ok m)).N
    = val_main_v5 (m ((c : Thread nD τ).loc main_arg0)) (m ((c : Thread nD τ).loc main_arg1)) := by
  refine (dats m (ok m) 0 c).arrAt_eq_of_covers 5 _ covers5 fun t _ y => ?_
  blk_simp
  rw [after0_5]; unfold outsAt0; frame_out
  refine Eq.trans ?_ (congrArg (val_main_v5 _ _) (emb5 m t y).symm)
  erw [blk0 m c t, blk1 m c t]
  pointwise [k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_seven, add_assoc] <;> rfl

set_option maxHeartbeats 1000000 in
/-- The weight's change. -/
theorem final6 (c : Dev nD) : (dats m (ok m) 0 c).arrAt 6 (cfgM m (ok m)).N
    = val_main_v29 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ covers6 fun t _ y => ?_
  blk_simp
  rw [after0_6]; unfold outsAt0; frame_out
  refine Eq.trans ?_ (congrArg (val_main_v29 _ _ _ _ _) (emb6 m t y).symm)
  erw [blk0 m c t, blk1 m c t, blk2 m c t, blk3 m c t, blk4 m c t]
  pointwise [k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_seven, add_assoc] <;> rfl

set_option maxHeartbeats 1000000 in
/-- The first moment. -/
theorem final7 (c : Dev nD) : (dats m (ok m) 0 c).arrAt 7 (cfgM m (ok m)).N
    = val_main_v10 (m ((c : Thread nD τ).loc main_arg0)) (m ((c : Thread nD τ).loc main_arg1)) (m ((c : Thread nD τ).loc main_arg3)) := by
  refine (dats m (ok m) 0 c).arrAt_eq_of_covers 7 _ covers7 fun t _ y => ?_
  blk_simp
  rw [after0_7]; unfold outsAt0; frame_out
  refine Eq.trans ?_ (congrArg (val_main_v10 _ _ _) (emb7 m t y).symm)
  erw [blk0 m c t, blk1 m c t, blk3 m c t]
  pointwise [k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_seven, add_assoc] <;> rfl

set_option maxHeartbeats 1000000 in
/-- The second moment. -/
theorem final8 (c : Dev nD) : (dats m (ok m) 0 c).arrAt 8 (cfgM m (ok m)).N
    = val_main_v16 (m ((c : Thread nD τ).loc main_arg0)) (m ((c : Thread nD τ).loc main_arg1)) (m ((c : Thread nD τ).loc main_arg4)) := by
  refine (dats m (ok m) 0 c).arrAt_eq_of_covers 8 _ covers8 fun t _ y => ?_
  blk_simp
  rw [after0_8]; unfold outsAt0; frame_out
  refine Eq.trans ?_ (congrArg (val_main_v16 _ _ _) (emb8 m t y).symm)
  erw [blk0 m c t, blk1 m c t, blk4 m c t]
  pointwise [k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_seven, add_assoc] <;> rfl

/-- Every execution ends with the four results as the body's write-backs leave them, and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = (dats m (ok m) 0 c).arrAt 5 (cfgM m (ok m)).N
      ∧ r.2.mem ((c.tc : Thread nD τ).loc main_v1_1) = (dats m (ok m) 0 c).arrAt 6 (cfgM m (ok m)).N
      ∧ r.2.mem ((c.tc : Thread nD τ).loc main_v1_2) = (dats m (ok m) 0 c).arrAt 7 (cfgM m (ok m)).N
      ∧ r.2.mem ((c.tc : Thread nD τ).loc main_v1_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (run_main m ρ (ok m)) (unchanged m ρ (ok m))) fun r h c =>
    ⟨(h.1 c).1 5, (h.1 c).1 6, (h.1 c).1 7, (h.1 c).1 8, h.2 c⟩

theorem frame_kernel : Cert.quiescent_AdamAttnBr := fun m ρ _ => Cert.AdamAttnBr.Gen.frame m ρ (ok_bits m)
theorem frame_ideal : Cert.quiescent_AdamAttnBrIdeal := fun m ρ _ => Cert.AdamAttnBrIdeal.Gen.frame m ρ (ok m)
theorem frame_ref : Cert.quiescent_AdamAttnBrRefIdeal := by
  intro m g _
  refine θ_run_mono (Cert.AdamAttnBrRefIdeal.Value.run m g) fun r h => ⟨fun c => (h c).2.2.2.2, sem_eq_zero_of_no_sems (by decide) r.2⟩

theorem algebraic : Cert.algebraic_AdamAttnBrIdeal_AdamAttnBrRefIdeal := by
  intro m g m' g' hpre hagree
  refine ⟨fun c => val_main_v5 (m ((c.tc : Thread nD τ).loc main_arg0)) (m ((c.tc : Thread nD τ).loc main_arg1)), fun c => val_main_v29 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v10 (m ((c.tc : Thread nD τ).loc main_arg0)) (m ((c.tc : Thread nD τ).loc main_arg1)) (m ((c.tc : Thread nD τ).loc main_arg3)), fun c => val_main_v16 (m ((c.tc : Thread nD τ).loc main_arg0)) (m ((c.tc : Thread nD τ).loc main_arg1)) (m ((c.tc : Thread nD τ).loc main_arg4)), ?_, ?_⟩
  · refine θ_run_mono (run m g) fun r h c => ?_
    obtain ⟨h5, h6, h7, h8, ha⟩ := h c
    exact ⟨h5.trans (final5 m c), h6.trans (final6 m c), h7.trans (final7 m c), h8.trans (final8 m c), ha⟩
  · refine θ_run_mono (Cert.AdamAttnBrRefIdeal.Value.run m' g') fun r h c => ?_
    obtain ⟨h5, h6, h7, h8, ha⟩ := h c
    obtain ⟨e0, e1, e2, e3, e4⟩ := hagree c
    refine ⟨h5.trans ?_, h6.trans ?_, h7.trans ?_, h8.trans ?_, ha⟩
    · rw [e0, e1]; rfl
    · rw [e0, e1, e2, e3, e4]; rfl
    · rw [e0, e1, e3]; rfl
    · rw [e0, e1, e4]; rfl

end Cert.AdamAttnBrCall
end
-- ==== Proof.CallAdamConv.lean ====
/-
  One step of AdamW on a weight of the convolution, on the 4 rows of 384 columns one device keeps. The gradient arrives in
  eight parts: seven received from the other devices, and this device's own, which a prefetched table of one word names.
  The table holds zero, so the index maps stay inside the arrays; the four arrays the call leaves (the gradient, the
  weight's change and the two moments) are the reference's.
-/
module

public import proofs.«01_k».proof.Defs
public import proofs.«01_k».proof.Proof.Gen.AdamConv.Frame
public import proofs.«01_k».proof.Proof.Gen.AdamConvIdeal.Frame
public import proofs.«01_k».proof.Proof.Gen.AdamConvRefIdeal.Run
public import proofs.«01_k».proof.Proof.Gen.AdamConvRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.AdamConvCall

open Idealize.ShloMosaic Idealize.ShloMosaic.TcCoe Idealize.SL.Sem
open Idealize.ShloMosaic.Pipeline (Dat)
open Cert.AdamConvIdeal Cert.AdamConvIdeal.Gen
open Cert.AdamConvRefIdeal.Read

variable (m : (ℓ : Loc nD τ sig) → Buf (Elt Ideal) ℓ)

theorem tbl_eq_bits (m : (ℓ : Loc Cert.AdamConv.nD Cert.AdamConv.τ Cert.AdamConv.sig) → Buf (Elt Bits) ℓ) : Cert.AdamConv.Gen.tbl m 0 = fun _ => 0#32 := by
  show StableHlo.after _ _ _ = _
  after_results
  rfl

/-- The table's one word is zero. -/
theorem tbl_eq : tbl m 0 = fun _ => 0#32 := by
  show StableHlo.after _ _ _ = _
  after_results
  rfl

/-- The block of this device's own part, at every point of the grid: the part the table names. -/
theorem own {F : FTy → Type} [FloatOps F] (pf : pre0.Contents (Elt F)) (h : pf 0 = fun _ => 0#32) (i : grid0.Coords) :
    cc0_transform_1 inb_S1_S1_0 numel1_S1 pf i = ![0, (i 0).val, (i 1).val] := by
  have h : pf.at 0 (Rect.unit (s := S1) ![0] S1.size inb_S1_S1_0) numel1_S1 = 0#32 := congrFun h _
  unfold cc0_transform_1
  rw [h]
  revert i; decide +kernel

/-- That block lies inside the array, its transfers whole words. -/
theorem inside : ∀ i : grid0.Coords, ∃ h : (∀ a, ((![0, (i 0).val, (i 1).val] : Fin 3 → Nat) a + 1) * S1x4x384.size a ≤ S8x4x384.size a),
    EltTy.bits .f32 = 32 ∨ (Rect.block (s := S8x4x384) S1x4x384.size ![0, (i 0).val, (i 1).val] h).WholeWords (EltTy.packing .f32) := by
  decide +kernel

theorem ok_of {F : FTy → Type} [FloatOps F] (pf : pre0.Contents (Elt F)) (h : pf 0 = fun _ => 0#32) : ok0 pf := by
  intro i
  simp only [own pf h i]
  exact inside i

/-- The table names a block inside the array. -/
theorem ok : Ok m := ok_of (tbl m) (tbl_eq m)

/-- The same of the kernel at machine words, whose index map is the same. -/
theorem ok_bits (m : (ℓ : Loc Cert.AdamConv.nD Cert.AdamConv.τ Cert.AdamConv.sig) → Buf (Elt Bits) ℓ) : Cert.AdamConv.Gen.Ok m := by
  intro i
  have h : (Cert.AdamConv.Gen.tbl m).at 0 (Rect.unit (s := Cert.AdamConv.S1) ![0] Cert.AdamConv.S1.size Cert.AdamConv.Facts₀.inb_S1_S1_0) Cert.AdamConv.Facts₀.numel1_S1 = 0#32 :=
    congrFun (tbl_eq_bits m) _
  have e : Cert.AdamConv.cc0_transform_1 Cert.AdamConv.Facts₀.inb_S1_S1_0 Cert.AdamConv.Facts₀.numel1_S1 (Cert.AdamConv.Gen.tbl m) i = ![0, (i 0).val, (i 1).val] := by
    unfold Cert.AdamConv.cc0_transform_1
    rw [h]
    revert i; decide +kernel
  simp only [e]
  exact inside i

/-- The windows' block indices at every point of the grid. -/
theorem idx (t : Fin (cfgM m (ok m)).N) : ((cfgM m (ok m)).win 0).index t = ![0, (grid0.coords t 0).val, (grid0.coords t 1).val]
    ∧ ((cfgM m (ok m)).win 1).index t = ![0, (grid0.coords t 0).val, (grid0.coords t 1).val]
    ∧ ((cfgM m (ok m)).win 2).index t = ![(grid0.coords t 0).val, (grid0.coords t 1).val]
    ∧ ((cfgM m (ok m)).win 3).index t = ![(grid0.coords t 0).val, (grid0.coords t 1).val]
    ∧ ((cfgM m (ok m)).win 4).index t = ![(grid0.coords t 0).val, (grid0.coords t 1).val]
    ∧ ((cfgM m (ok m)).win 5).index t = ![(grid0.coords t 0).val, (grid0.coords t 1).val]
    ∧ ((cfgM m (ok m)).win 6).index t = ![(grid0.coords t 0).val, (grid0.coords t 1).val]
    ∧ ((cfgM m (ok m)).win 7).index t = ![(grid0.coords t 0).val, (grid0.coords t 1).val]
    ∧ ((cfgM m (ok m)).win 8).index t = ![(grid0.coords t 0).val, (grid0.coords t 1).val] := by
  have h : ∀ t : Fin grid0.N, cc0_transform_0 (grid0.coords t) = ![0, (grid0.coords t 0).val, (grid0.coords t 1).val]
    ∧ cc0_transform_2 (grid0.coords t) = ![(grid0.coords t 0).val, (grid0.coords t 1).val] := by decide +kernel
  exact ⟨(h t).1, own (tbl m) (tbl_eq m) _, (h t).2, (h t).2, (h t).2, (h t).2, (h t).2, (h t).2, (h t).2⟩

/-- The table of one zero, and the pipeline at it. -/
def zeroTable : pre0.Contents (Elt Ideal) := fun | 0 => fun _ => 0#32 | ⟨_ + 1, h⟩ => absurd h (Nat.not_lt.2 (Nat.le_add_left _ _))

abbrev cfgZ : Pipeline.Cfg sig Λ₀ := cfg0 ⟨zeroTable, ok_of zeroTable rfl⟩

/-- Each result's blocks cover its array. -/
theorem covers5 : (cfgZ.win 5).Covers := by decide +kernel
theorem covers6 : (cfgZ.win 6).Covers := by decide +kernel
theorem covers7 : (cfgZ.win 7).Covers := by decide +kernel
theorem covers8 : (cfgZ.win 8).Covers := by decide +kernel

/-! The blocks the body reads, in the arguments. -/

theorem blk0 (c : Dev nD) (t : Fin (cfgM m (ok m)).N) : (ms0_0 m (ok m) t).view.read (Elt Ideal) ((hs0_0 m (ok m) t).unread (iblk m (ok m) c 0 t))
    = fun q : S7x4x384.Idx => m ((c : Thread nD τ).loc main_arg0) (ix3 (q 0) (q 1) (q 2)) := by
  refine ((hs0_0 m (ok m) t).read_unread (Val := Elt Ideal) (iblk m (ok m) c 0 t)).trans (funext fun q => ?_)
  refine Eq.trans (congrFun (V_main_arg0 m c) ((((cfgM m (ok m)).win 0).blk t).view.emb q)) ?_
  refine congrArg (m ((c : Thread nD τ).loc main_arg0)) ?_
  blk_ext [idx m t]

theorem blk1 (c : Dev nD) (t : Fin (cfgM m (ok m)).N) : (ms0_1 m (ok m) t).view.read (Elt Ideal) ((hs0_1 m (ok m) t).unread (iblk m (ok m) c 1 t))
    = fun q : S1x4x384.Idx => m ((c : Thread nD τ).loc main_arg1) (ix3 (0 : Fin 8) (q 1) (q 2)) := by
  refine ((hs0_1 m (ok m) t).read_unread (Val := Elt Ideal) (iblk m (ok m) c 1 t)).trans (funext fun q => ?_)
  refine Eq.trans (congrFun (V_main_arg1 m c) ((((cfgM m (ok m)).win 1).blk t).view.emb q)) ?_
  refine congrArg (m ((c : Thread nD τ).loc main_arg1)) ?_
  blk_ext [idx m t]

theorem blk2 (c : Dev nD) (t : Fin (cfgM m (ok m)).N) : (ms0_2 m (ok m) t).view.read (Elt Ideal) ((hs0_2 m (ok m) t).unread (iblk m (ok m) c 2 t))
    = fun q : S4x384.Idx => m ((c : Thread nD τ).loc main_arg2) (ix2 (q 0) (q 1)) := by
  refine ((hs0_2 m (ok m) t).read_unread (Val := Elt Ideal) (iblk m (ok m) c 2 t)).trans (funext fun q => ?_)
  refine Eq.trans (congrFun (V_main_arg2 m c) ((((cfgM m (ok m)).win 2).blk t).view.emb q)) ?_
  refine congrArg (m ((c : Thread nD τ).loc main_arg2)) ?_
  blk_ext [idx m t]

theorem blk3 (c : Dev nD) (t : Fin (cfgM m (ok m)).N) : (ms0_3 m (ok m) t).view.read (Elt Ideal) ((hs0_3 m (ok m) t).unread (iblk m (ok m) c 3 t))
    = fun q : S4x384.Idx => m ((c : Thread nD τ).loc main_arg3) (ix2 (q 0) (q 1)) := by
  refine ((hs0_3 m (ok m) t).read_unread (Val := Elt Ideal) (iblk m (ok m) c 3 t)).trans (funext fun q => ?_)
  refine Eq.trans (congrFun (V_main_arg3 m c) ((((cfgM m (ok m)).win 3).blk t).view.emb q)) ?_
  refine congrArg (m ((c : Thread nD τ).loc main_arg3)) ?_
  blk_ext [idx m t]

theorem blk4 (c : Dev nD) (t : Fin (cfgM m (ok m)).N) : (ms0_4 m (ok m) t).view.read (Elt Ideal) ((hs0_4 m (ok m) t).unread (iblk m (ok m) c 4 t))
    = fun q : S4x384.Idx => m ((c : Thread nD τ).loc main_arg4) (ix2 (q 0) (q 1)) := by
  refine ((hs0_4 m (ok m) t).read_unread (Val := Elt Ideal) (iblk m (ok m) c 4 t)).trans (funext fun q => ?_)
  refine Eq.trans (congrFun (V_main_arg4 m c) ((((cfgM m (ok m)).win 4).blk t).view.emb q)) ?_
  refine congrArg (m ((c : Thread nD τ).loc main_arg4)) ?_
  blk_ext [idx m t]

/-! Where a tile of each result lies. -/

theorem emb5 (t : Fin (cfgM m (ok m)).N) (q : S4x384.Idx) :
    (((cfgM m (ok m)).win 5).blk t).view.emb q = ix2 (q 0) (q 1) := by
  blk_ext [idx m t]

theorem emb6 (t : Fin (cfgM m (ok m)).N) (q : S4x384.Idx) :
    (((cfgM m (ok m)).win 6).blk t).view.emb q = ix2 (q 0) (q 1) := by
  blk_ext [idx m t]

theorem emb7 (t : Fin (cfgM m (ok m)).N) (q : S4x384.Idx) :
    (((cfgM m (ok m)).win 7).blk t).view.emb q = ix2 (q 0) (q 1) := by
  blk_ext [idx m t]

theorem emb8 (t : Fin (cfgM m (ok m)).N) (q : S4x384.Idx) :
    (((cfgM m (ok m)).win 8).blk t).view.emb q = ix2 (q 0) (q 1) := by
  blk_ext [idx m t]

set_option maxHeartbeats 1000000 in
/-- The gradient. -/
theorem final5 (c : Dev nD) : (dats m (ok m) 0 c).arrAt 5 (cfgM m (ok m)).N
    = val_main_v3 (m ((c : Thread nD τ).loc main_arg0)) (m ((c : Thread nD τ).loc main_arg1)) := by
  refine (dats m (ok m) 0 c).arrAt_eq_of_covers 5 _ covers5 fun t _ y => ?_
  blk_simp
  rw [after0_5]; unfold outsAt0; frame_out
  refine Eq.trans ?_ (congrArg (val_main_v3 _ _) (emb5 m t y).symm)
  erw [blk0 m c t, blk1 m c t]
  pointwise [k0_pay1, k0_pay2, k0_pay3, k0_pay4, k0_pay5, val_main_v0, val_main_v1, val_main_cst, val_main_v2, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27]
  simp only [zero_add, Fin.sum_univ_seven, add_assoc] <;> rfl

set_option maxHeartbeats 1000000 in
/-- The weight's change. -/
theorem final6 (c : Dev nD) : (dats m (ok m) 0 c).arrAt 6 (cfgM m (ok m)).N
    = val_main_v27 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ covers6 fun t _ y => ?_
  blk_simp
  rw [after0_6]; unfold outsAt0; frame_out
  refine Eq.trans ?_ (congrArg (val_main_v27 _ _ _ _ _) (emb6 m t y).symm)
  erw [blk0 m c t, blk1 m c t, blk2 m c t, blk3 m c t, blk4 m c t]
  pointwise [k0_pay1, k0_pay2, k0_pay3, k0_pay4, k0_pay5, val_main_v0, val_main_v1, val_main_cst, val_main_v2, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27]
  simp only [zero_add, Fin.sum_univ_seven, add_assoc] <;> rfl

set_option maxHeartbeats 1000000 in
/-- The first moment. -/
theorem final7 (c : Dev nD) : (dats m (ok m) 0 c).arrAt 7 (cfgM m (ok m)).N
    = val_main_v8 (m ((c : Thread nD τ).loc main_arg0)) (m ((c : Thread nD τ).loc main_arg1)) (m ((c : Thread nD τ).loc main_arg3)) := by
  refine (dats m (ok m) 0 c).arrAt_eq_of_covers 7 _ covers7 fun t _ y => ?_
  blk_simp
  rw [after0_7]; unfold outsAt0; frame_out
  refine Eq.trans ?_ (congrArg (val_main_v8 _ _ _) (emb7 m t y).symm)
  erw [blk0 m c t, blk1 m c t, blk3 m c t]
  pointwise [k0_pay1, k0_pay2, k0_pay3, k0_pay4, k0_pay5, val_main_v0, val_main_v1, val_main_cst, val_main_v2, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27]
  simp only [zero_add, Fin.sum_univ_seven, add_assoc] <;> rfl

set_option maxHeartbeats 1000000 in
/-- The second moment. -/
theorem final8 (c : Dev nD) : (dats m (ok m) 0 c).arrAt 8 (cfgM m (ok m)).N
    = val_main_v14 (m ((c : Thread nD τ).loc main_arg0)) (m ((c : Thread nD τ).loc main_arg1)) (m ((c : Thread nD τ).loc main_arg4)) := by
  refine (dats m (ok m) 0 c).arrAt_eq_of_covers 8 _ covers8 fun t _ y => ?_
  blk_simp
  rw [after0_8]; unfold outsAt0; frame_out
  refine Eq.trans ?_ (congrArg (val_main_v14 _ _ _) (emb8 m t y).symm)
  erw [blk0 m c t, blk1 m c t, blk4 m c t]
  pointwise [k0_pay1, k0_pay2, k0_pay3, k0_pay4, k0_pay5, val_main_v0, val_main_v1, val_main_cst, val_main_v2, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27]
  simp only [zero_add, Fin.sum_univ_seven, add_assoc] <;> rfl

/-- Every execution ends with the four results as the body's write-backs leave them, and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = (dats m (ok m) 0 c).arrAt 5 (cfgM m (ok m)).N
      ∧ r.2.mem ((c.tc : Thread nD τ).loc main_v1_1) = (dats m (ok m) 0 c).arrAt 6 (cfgM m (ok m)).N
      ∧ r.2.mem ((c.tc : Thread nD τ).loc main_v1_2) = (dats m (ok m) 0 c).arrAt 7 (cfgM m (ok m)).N
      ∧ r.2.mem ((c.tc : Thread nD τ).loc main_v1_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (run_main m ρ (ok m)) (unchanged m ρ (ok m))) fun r h c =>
    ⟨(h.1 c).1 5, (h.1 c).1 6, (h.1 c).1 7, (h.1 c).1 8, h.2 c⟩

theorem frame_kernel : Cert.quiescent_AdamConv := fun m ρ _ => Cert.AdamConv.Gen.frame m ρ (ok_bits m)
theorem frame_ideal : Cert.quiescent_AdamConvIdeal := fun m ρ _ => Cert.AdamConvIdeal.Gen.frame m ρ (ok m)
theorem frame_ref : Cert.quiescent_AdamConvRefIdeal := by
  intro m g _
  refine θ_run_mono (Cert.AdamConvRefIdeal.Value.run m g) fun r h => ⟨fun c => (h c).2.2.2.2, sem_eq_zero_of_no_sems (by decide) r.2⟩

theorem algebraic : Cert.algebraic_AdamConvIdeal_AdamConvRefIdeal := by
  intro m g m' g' hpre hagree
  refine ⟨fun c => val_main_v3 (m ((c.tc : Thread nD τ).loc main_arg0)) (m ((c.tc : Thread nD τ).loc main_arg1)), fun c => val_main_v27 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v8 (m ((c.tc : Thread nD τ).loc main_arg0)) (m ((c.tc : Thread nD τ).loc main_arg1)) (m ((c.tc : Thread nD τ).loc main_arg3)), fun c => val_main_v14 (m ((c.tc : Thread nD τ).loc main_arg0)) (m ((c.tc : Thread nD τ).loc main_arg1)) (m ((c.tc : Thread nD τ).loc main_arg4)), ?_, ?_⟩
  · refine θ_run_mono (run m g) fun r h c => ?_
    obtain ⟨h5, h6, h7, h8, ha⟩ := h c
    exact ⟨h5.trans (final5 m c), h6.trans (final6 m c), h7.trans (final7 m c), h8.trans (final8 m c), ha⟩
  · refine θ_run_mono (Cert.AdamConvRefIdeal.Value.run m' g') fun r h c => ?_
    obtain ⟨h5, h6, h7, h8, ha⟩ := h c
    obtain ⟨e0, e1, e2, e3, e4⟩ := hagree c
    refine ⟨h5.trans ?_, h6.trans ?_, h7.trans ?_, h8.trans ?_, ha⟩
    · rw [e0, e1]; rfl
    · rw [e0, e1, e2, e3, e4]; rfl
    · rw [e0, e1, e3]; rfl
    · rw [e0, e1, e4]; rfl

end Cert.AdamConvCall
end
-- ==== Proof.CallAdamFfn.lean ====
/-
  One step of AdamW on a weight of the feed-forward block, on the 704 rows of 2048 columns one device keeps. The gradient arrives in
  four parts: three received from the other devices, and this device's own, which a prefetched table of one word names.
  The table holds zero, so the index maps stay inside the arrays; the four arrays the call leaves (the gradient, the
  weight's change and the two moments) are the reference's.
-/
module

public import proofs.«01_k».proof.Defs
public import proofs.«01_k».proof.Proof.Gen.AdamFfn.Frame
public import proofs.«01_k».proof.Proof.Gen.AdamFfnIdeal.Frame
public import proofs.«01_k».proof.Proof.Gen.AdamFfnRefIdeal.Run
public import proofs.«01_k».proof.Proof.Gen.AdamFfnRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.AdamFfnCall

open Idealize.ShloMosaic Idealize.ShloMosaic.TcCoe Idealize.SL.Sem
open Idealize.ShloMosaic.Pipeline (Dat)
open Cert.AdamFfnIdeal Cert.AdamFfnIdeal.Gen
open Cert.AdamFfnRefIdeal.Read

variable (m : (ℓ : Loc nD τ sig) → Buf (Elt Ideal) ℓ)

theorem tbl_eq_bits (m : (ℓ : Loc Cert.AdamFfn.nD Cert.AdamFfn.τ Cert.AdamFfn.sig) → Buf (Elt Bits) ℓ) : Cert.AdamFfn.Gen.tbl m 0 = fun _ => 0#32 := by
  show StableHlo.after _ _ _ = _
  after_results
  rfl

/-- The table's one word is zero. -/
theorem tbl_eq : tbl m 0 = fun _ => 0#32 := by
  show StableHlo.after _ _ _ = _
  after_results
  rfl

/-- The block of this device's own part, at every point of the grid: the part the table names. -/
theorem own {F : FTy → Type} [FloatOps F] (pf : pre0.Contents (Elt F)) (h : pf 0 = fun _ => 0#32) (i : grid0.Coords) :
    cc0_transform_1 inb_S1_S1_0 numel1_S1 pf i = ![0, (i 0).val, (i 1).val] := by
  have h : pf.at 0 (Rect.unit (s := S1) ![0] S1.size inb_S1_S1_0) numel1_S1 = 0#32 := congrFun h _
  unfold cc0_transform_1
  rw [h]
  revert i; decide +kernel

/-- That block lies inside the array, its transfers whole words. -/
theorem inside : ∀ i : grid0.Coords, ∃ h : (∀ a, ((![0, (i 0).val, (i 1).val] : Fin 3 → Nat) a + 1) * S1x176x2048.size a ≤ S4x704x2048.size a),
    EltTy.bits .bf16 = 32 ∨ (Rect.block (s := S4x704x2048) S1x176x2048.size ![0, (i 0).val, (i 1).val] h).WholeWords (EltTy.packing .bf16) := by
  decide +kernel

theorem ok_of {F : FTy → Type} [FloatOps F] (pf : pre0.Contents (Elt F)) (h : pf 0 = fun _ => 0#32) : ok0 pf := by
  intro i
  simp only [own pf h i]
  exact inside i

/-- The table names a block inside the array. -/
theorem ok : Ok m := ok_of (tbl m) (tbl_eq m)

/-- The same of the kernel at machine words, whose index map is the same. -/
theorem ok_bits (m : (ℓ : Loc Cert.AdamFfn.nD Cert.AdamFfn.τ Cert.AdamFfn.sig) → Buf (Elt Bits) ℓ) : Cert.AdamFfn.Gen.Ok m := by
  intro i
  have h : (Cert.AdamFfn.Gen.tbl m).at 0 (Rect.unit (s := Cert.AdamFfn.S1) ![0] Cert.AdamFfn.S1.size Cert.AdamFfn.Facts₀.inb_S1_S1_0) Cert.AdamFfn.Facts₀.numel1_S1 = 0#32 :=
    congrFun (tbl_eq_bits m) _
  have e : Cert.AdamFfn.cc0_transform_1 Cert.AdamFfn.Facts₀.inb_S1_S1_0 Cert.AdamFfn.Facts₀.numel1_S1 (Cert.AdamFfn.Gen.tbl m) i = ![0, (i 0).val, (i 1).val] := by
    unfold Cert.AdamFfn.cc0_transform_1
    rw [h]
    revert i; decide +kernel
  simp only [e]
  exact inside i

/-- The windows' block indices at every point of the grid. -/
theorem idx (t : Fin (cfgM m (ok m)).N) : ((cfgM m (ok m)).win 0).index t = ![0, (grid0.coords t 0).val, (grid0.coords t 1).val]
    ∧ ((cfgM m (ok m)).win 1).index t = ![0, (grid0.coords t 0).val, (grid0.coords t 1).val]
    ∧ ((cfgM m (ok m)).win 2).index t = ![(grid0.coords t 0).val, (grid0.coords t 1).val]
    ∧ ((cfgM m (ok m)).win 3).index t = ![(grid0.coords t 0).val, (grid0.coords t 1).val]
    ∧ ((cfgM m (ok m)).win 4).index t = ![(grid0.coords t 0).val, (grid0.coords t 1).val]
    ∧ ((cfgM m (ok m)).win 5).index t = ![(grid0.coords t 0).val, (grid0.coords t 1).val]
    ∧ ((cfgM m (ok m)).win 6).index t = ![(grid0.coords t 0).val, (grid0.coords t 1).val]
    ∧ ((cfgM m (ok m)).win 7).index t = ![(grid0.coords t 0).val, (grid0.coords t 1).val]
    ∧ ((cfgM m (ok m)).win 8).index t = ![(grid0.coords t 0).val, (grid0.coords t 1).val] := by
  have h : ∀ t : Fin grid0.N, cc0_transform_0 (grid0.coords t) = ![0, (grid0.coords t 0).val, (grid0.coords t 1).val]
    ∧ cc0_transform_2 (grid0.coords t) = ![(grid0.coords t 0).val, (grid0.coords t 1).val] := by decide +kernel
  exact ⟨(h t).1, own (tbl m) (tbl_eq m) _, (h t).2, (h t).2, (h t).2, (h t).2, (h t).2, (h t).2, (h t).2⟩

/-- The table of one zero, and the pipeline at it. -/
def zeroTable : pre0.Contents (Elt Ideal) := fun | 0 => fun _ => 0#32 | ⟨_ + 1, h⟩ => absurd h (Nat.not_lt.2 (Nat.le_add_left _ _))

abbrev cfgZ : Pipeline.Cfg sig Λ₀ := cfg0 ⟨zeroTable, ok_of zeroTable rfl⟩

/-- Each result's blocks cover its array. -/
theorem covers5 : (cfgZ.win 5).Covers := by decide +kernel
theorem covers6 : (cfgZ.win 6).Covers := by decide +kernel
theorem covers7 : (cfgZ.win 7).Covers := by decide +kernel
theorem covers8 : (cfgZ.win 8).Covers := by decide +kernel

/-- The row of the arrays at a row of a tile. -/
abbrev row (t : Fin (cfgM m (ok m)).N) (r : Fin 176) : Fin 704 :=
  ⟨176 * (grid0.coords t 0).val + r.val, by have h : (grid0.coords t 0).val < 4 := (grid0.coords t 0).isLt; omega⟩

/-! The blocks the body reads, in the arguments. -/

theorem blk0 (c : Dev nD) (t : Fin (cfgM m (ok m)).N) : (ms0_0 m (ok m) t).view.read (Elt Ideal) ((hs0_0 m (ok m) t).unread (iblk m (ok m) c 0 t))
    = fun q : S3x176x2048.Idx => m ((c : Thread nD τ).loc main_arg0) (ix3 (q 0) (row m t (q 1)) (q 2)) := by
  refine ((hs0_0 m (ok m) t).read_unread (Val := Elt Ideal) (iblk m (ok m) c 0 t)).trans (funext fun q => ?_)
  refine Eq.trans (congrFun (V_main_arg0 m c) ((((cfgM m (ok m)).win 0).blk t).view.emb q)) ?_
  refine congrArg (m ((c : Thread nD τ).loc main_arg0)) ?_
  blk_ext [idx m t]

theorem blk1 (c : Dev nD) (t : Fin (cfgM m (ok m)).N) : (ms0_1 m (ok m) t).view.read (Elt Ideal) ((hs0_1 m (ok m) t).unread (iblk m (ok m) c 1 t))
    = fun q : S1x176x2048.Idx => m ((c : Thread nD τ).loc main_arg1) (ix3 (0 : Fin 4) (row m t (q 1)) (q 2)) := by
  refine ((hs0_1 m (ok m) t).read_unread (Val := Elt Ideal) (iblk m (ok m) c 1 t)).trans (funext fun q => ?_)
  refine Eq.trans (congrFun (V_main_arg1 m c) ((((cfgM m (ok m)).win 1).blk t).view.emb q)) ?_
  refine congrArg (m ((c : Thread nD τ).loc main_arg1)) ?_
  blk_ext [idx m t]

theorem blk2 (c : Dev nD) (t : Fin (cfgM m (ok m)).N) : (ms0_2 m (ok m) t).view.read (Elt Ideal) ((hs0_2 m (ok m) t).unread (iblk m (ok m) c 2 t))
    = fun q : S176x2048.Idx => m ((c : Thread nD τ).loc main_arg2) (ix2 (row m t (q 0)) (q 1)) := by
  refine ((hs0_2 m (ok m) t).read_unread (Val := Elt Ideal) (iblk m (ok m) c 2 t)).trans (funext fun q => ?_)
  refine Eq.trans (congrFun (V_main_arg2 m c) ((((cfgM m (ok m)).win 2).blk t).view.emb q)) ?_
  refine congrArg (m ((c : Thread nD τ).loc main_arg2)) ?_
  blk_ext [idx m t]

theorem blk3 (c : Dev nD) (t : Fin (cfgM m (ok m)).N) : (ms0_3 m (ok m) t).view.read (Elt Ideal) ((hs0_3 m (ok m) t).unread (iblk m (ok m) c 3 t))
    = fun q : S176x2048.Idx => m ((c : Thread nD τ).loc main_arg3) (ix2 (row m t (q 0)) (q 1)) := by
  refine ((hs0_3 m (ok m) t).read_unread (Val := Elt Ideal) (iblk m (ok m) c 3 t)).trans (funext fun q => ?_)
  refine Eq.trans (congrFun (V_main_arg3 m c) ((((cfgM m (ok m)).win 3).blk t).view.emb q)) ?_
  refine congrArg (m ((c : Thread nD τ).loc main_arg3)) ?_
  blk_ext [idx m t]

theorem blk4 (c : Dev nD) (t : Fin (cfgM m (ok m)).N) : (ms0_4 m (ok m) t).view.read (Elt Ideal) ((hs0_4 m (ok m) t).unread (iblk m (ok m) c 4 t))
    = fun q : S176x2048.Idx => m ((c : Thread nD τ).loc main_arg4) (ix2 (row m t (q 0)) (q 1)) := by
  refine ((hs0_4 m (ok m) t).read_unread (Val := Elt Ideal) (iblk m (ok m) c 4 t)).trans (funext fun q => ?_)
  refine Eq.trans (congrFun (V_main_arg4 m c) ((((cfgM m (ok m)).win 4).blk t).view.emb q)) ?_
  refine congrArg (m ((c : Thread nD τ).loc main_arg4)) ?_
  blk_ext [idx m t]

/-! Where a tile of each result lies. -/

theorem emb5 (t : Fin (cfgM m (ok m)).N) (q : S176x2048.Idx) :
    (((cfgM m (ok m)).win 5).blk t).view.emb q = ix2 (row m t (q 0)) (q 1) := by
  blk_ext [idx m t]

theorem emb6 (t : Fin (cfgM m (ok m)).N) (q : S176x2048.Idx) :
    (((cfgM m (ok m)).win 6).blk t).view.emb q = ix2 (row m t (q 0)) (q 1) := by
  blk_ext [idx m t]

theorem emb7 (t : Fin (cfgM m (ok m)).N) (q : S176x2048.Idx) :
    (((cfgM m (ok m)).win 7).blk t).view.emb q = ix2 (row m t (q 0)) (q 1) := by
  blk_ext [idx m t]

theorem emb8 (t : Fin (cfgM m (ok m)).N) (q : S176x2048.Idx) :
    (((cfgM m (ok m)).win 8).blk t).view.emb q = ix2 (row m t (q 0)) (q 1) := by
  blk_ext [idx m t]

set_option maxHeartbeats 1000000 in
/-- The gradient. -/
theorem final5 (c : Dev nD) : (dats m (ok m) 0 c).arrAt 5 (cfgM m (ok m)).N
    = val_main_v5 (m ((c : Thread nD τ).loc main_arg0)) (m ((c : Thread nD τ).loc main_arg1)) := by
  refine (dats m (ok m) 0 c).arrAt_eq_of_covers 5 _ covers5 fun t _ y => ?_
  blk_simp
  rw [after0_5]; unfold outsAt0; frame_out
  refine Eq.trans ?_ (congrArg (val_main_v5 _ _) (emb5 m t y).symm)
  erw [blk0 m c t, blk1 m c t]
  pointwise [k0_pay1, k0_pay2, k0_pay3, k0_pay4, k0_pay5, k0_pay6, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_three, add_assoc] <;> rfl

set_option maxHeartbeats 1000000 in
/-- The weight's change. -/
theorem final6 (c : Dev nD) : (dats m (ok m) 0 c).arrAt 6 (cfgM m (ok m)).N
    = val_main_v29 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ covers6 fun t _ y => ?_
  blk_simp
  rw [after0_6]; unfold outsAt0; frame_out
  refine Eq.trans ?_ (congrArg (val_main_v29 _ _ _ _ _) (emb6 m t y).symm)
  erw [blk0 m c t, blk1 m c t, blk2 m c t, blk3 m c t, blk4 m c t]
  pointwise [k0_pay1, k0_pay2, k0_pay3, k0_pay4, k0_pay5, k0_pay6, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_three, add_assoc] <;> rfl

set_option maxHeartbeats 1000000 in
/-- The first moment. -/
theorem final7 (c : Dev nD) : (dats m (ok m) 0 c).arrAt 7 (cfgM m (ok m)).N
    = val_main_v10 (m ((c : Thread nD τ).loc main_arg0)) (m ((c : Thread nD τ).loc main_arg1)) (m ((c : Thread nD τ).loc main_arg3)) := by
  refine (dats m (ok m) 0 c).arrAt_eq_of_covers 7 _ covers7 fun t _ y => ?_
  blk_simp
  rw [after0_7]; unfold outsAt0; frame_out
  refine Eq.trans ?_ (congrArg (val_main_v10 _ _ _) (emb7 m t y).symm)
  erw [blk0 m c t, blk1 m c t, blk3 m c t]
  pointwise [k0_pay1, k0_pay2, k0_pay3, k0_pay4, k0_pay5, k0_pay6, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_three, add_assoc] <;> rfl

set_option maxHeartbeats 1000000 in
/-- The second moment. -/
theorem final8 (c : Dev nD) : (dats m (ok m) 0 c).arrAt 8 (cfgM m (ok m)).N
    = val_main_v16 (m ((c : Thread nD τ).loc main_arg0)) (m ((c : Thread nD τ).loc main_arg1)) (m ((c : Thread nD τ).loc main_arg4)) := by
  refine (dats m (ok m) 0 c).arrAt_eq_of_covers 8 _ covers8 fun t _ y => ?_
  blk_simp
  rw [after0_8]; unfold outsAt0; frame_out
  refine Eq.trans ?_ (congrArg (val_main_v16 _ _ _) (emb8 m t y).symm)
  erw [blk0 m c t, blk1 m c t, blk4 m c t]
  pointwise [k0_pay1, k0_pay2, k0_pay3, k0_pay4, k0_pay5, k0_pay6, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_three, add_assoc] <;> rfl

/-- Every execution ends with the four results as the body's write-backs leave them, and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = (dats m (ok m) 0 c).arrAt 5 (cfgM m (ok m)).N
      ∧ r.2.mem ((c.tc : Thread nD τ).loc main_v1_1) = (dats m (ok m) 0 c).arrAt 6 (cfgM m (ok m)).N
      ∧ r.2.mem ((c.tc : Thread nD τ).loc main_v1_2) = (dats m (ok m) 0 c).arrAt 7 (cfgM m (ok m)).N
      ∧ r.2.mem ((c.tc : Thread nD τ).loc main_v1_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (run_main m ρ (ok m)) (unchanged m ρ (ok m))) fun r h c =>
    ⟨(h.1 c).1 5, (h.1 c).1 6, (h.1 c).1 7, (h.1 c).1 8, h.2 c⟩

theorem frame_kernel : Cert.quiescent_AdamFfn := fun m ρ _ => Cert.AdamFfn.Gen.frame m ρ (ok_bits m)
theorem frame_ideal : Cert.quiescent_AdamFfnIdeal := fun m ρ _ => Cert.AdamFfnIdeal.Gen.frame m ρ (ok m)
theorem frame_ref : Cert.quiescent_AdamFfnRefIdeal := by
  intro m g _
  refine θ_run_mono (Cert.AdamFfnRefIdeal.Value.run m g) fun r h => ⟨fun c => (h c).2.2.2.2, sem_eq_zero_of_no_sems (by decide) r.2⟩

theorem algebraic : Cert.algebraic_AdamFfnIdeal_AdamFfnRefIdeal := by
  intro m g m' g' hpre hagree
  refine ⟨fun c => val_main_v5 (m ((c.tc : Thread nD τ).loc main_arg0)) (m ((c.tc : Thread nD τ).loc main_arg1)), fun c => val_main_v29 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v10 (m ((c.tc : Thread nD τ).loc main_arg0)) (m ((c.tc : Thread nD τ).loc main_arg1)) (m ((c.tc : Thread nD τ).loc main_arg3)), fun c => val_main_v16 (m ((c.tc : Thread nD τ).loc main_arg0)) (m ((c.tc : Thread nD τ).loc main_arg1)) (m ((c.tc : Thread nD τ).loc main_arg4)), ?_, ?_⟩
  · refine θ_run_mono (run m g) fun r h c => ?_
    obtain ⟨h5, h6, h7, h8, ha⟩ := h c
    exact ⟨h5.trans (final5 m c), h6.trans (final6 m c), h7.trans (final7 m c), h8.trans (final8 m c), ha⟩
  · refine θ_run_mono (Cert.AdamFfnRefIdeal.Value.run m' g') fun r h c => ?_
    obtain ⟨h5, h6, h7, h8, ha⟩ := h c
    obtain ⟨e0, e1, e2, e3, e4⟩ := hagree c
    refine ⟨h5.trans ?_, h6.trans ?_, h7.trans ?_, h8.trans ?_, ha⟩
    · rw [e0, e1]; rfl
    · rw [e0, e1, e2, e3, e4]; rfl
    · rw [e0, e1, e3]; rfl
    · rw [e0, e1, e4]; rfl

end Cert.AdamFfnCall
end
-- ==== Proof.CallAdamIn.lean ====
/-
  One step of AdamW on a weight of the input projection, on the 1348 rows of 2048 columns one device keeps. The gradient arrives in
  four parts: three received from the other devices, and this device's own, which a prefetched table of one word names.
  The table holds zero, so the index maps stay inside the arrays; the four arrays the call leaves (the gradient, the
  weight's change and the two moments) are the reference's.
-/
module

public import proofs.«01_k».proof.Defs
public import proofs.«01_k».proof.Proof.Gen.AdamIn.Frame
public import proofs.«01_k».proof.Proof.Gen.AdamInIdeal.Frame
public import proofs.«01_k».proof.Proof.Gen.AdamInRefIdeal.Run
public import proofs.«01_k».proof.Proof.Gen.AdamInRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.AdamInCall

open Idealize.ShloMosaic Idealize.ShloMosaic.TcCoe Idealize.SL.Sem
open Idealize.ShloMosaic.Pipeline (Dat)
open Cert.AdamInIdeal Cert.AdamInIdeal.Gen
open Cert.AdamInRefIdeal.Read

variable (m : (ℓ : Loc nD τ sig) → Buf (Elt Ideal) ℓ)

theorem tbl_eq_bits (m : (ℓ : Loc Cert.AdamIn.nD Cert.AdamIn.τ Cert.AdamIn.sig) → Buf (Elt Bits) ℓ) : Cert.AdamIn.Gen.tbl m 0 = fun _ => 0#32 := by
  show StableHlo.after _ _ _ = _
  after_results
  rfl

/-- The table's one word is zero. -/
theorem tbl_eq : tbl m 0 = fun _ => 0#32 := by
  show StableHlo.after _ _ _ = _
  after_results
  rfl

/-- The block of this device's own part, at every point of the grid: the part the table names. -/
theorem own {F : FTy → Type} [FloatOps F] (pf : pre0.Contents (Elt F)) (h : pf 0 = fun _ => 0#32) (i : grid0.Coords) :
    cc0_transform_1 inb_S1_S1_0 numel1_S1 pf i = ![0, (i 0).val, (i 1).val] := by
  have h : pf.at 0 (Rect.unit (s := S1) ![0] S1.size inb_S1_S1_0) numel1_S1 = 0#32 := congrFun h _
  unfold cc0_transform_1
  rw [h]
  revert i; decide +kernel

/-- That block lies inside the array, its transfers whole words. -/
theorem inside : ∀ i : grid0.Coords, ∃ h : (∀ a, ((![0, (i 0).val, (i 1).val] : Fin 3 → Nat) a + 1) * S1x1348x256.size a ≤ S4x1348x2048.size a),
    EltTy.bits .bf16 = 32 ∨ (Rect.block (s := S4x1348x2048) S1x1348x256.size ![0, (i 0).val, (i 1).val] h).WholeWords (EltTy.packing .bf16) := by
  decide +kernel

theorem ok_of {F : FTy → Type} [FloatOps F] (pf : pre0.Contents (Elt F)) (h : pf 0 = fun _ => 0#32) : ok0 pf := by
  intro i
  simp only [own pf h i]
  exact inside i

/-- The table names a block inside the array. -/
theorem ok : Ok m := ok_of (tbl m) (tbl_eq m)

/-- The same of the kernel at machine words, whose index map is the same. -/
theorem ok_bits (m : (ℓ : Loc Cert.AdamIn.nD Cert.AdamIn.τ Cert.AdamIn.sig) → Buf (Elt Bits) ℓ) : Cert.AdamIn.Gen.Ok m := by
  intro i
  have h : (Cert.AdamIn.Gen.tbl m).at 0 (Rect.unit (s := Cert.AdamIn.S1) ![0] Cert.AdamIn.S1.size Cert.AdamIn.Facts₀.inb_S1_S1_0) Cert.AdamIn.Facts₀.numel1_S1 = 0#32 :=
    congrFun (tbl_eq_bits m) _
  have e : Cert.AdamIn.cc0_transform_1 Cert.AdamIn.Facts₀.inb_S1_S1_0 Cert.AdamIn.Facts₀.numel1_S1 (Cert.AdamIn.Gen.tbl m) i = ![0, (i 0).val, (i 1).val] := by
    unfold Cert.AdamIn.cc0_transform_1
    rw [h]
    revert i; decide +kernel
  simp only [e]
  exact inside i

/-- The windows' block indices at every point of the grid. -/
theorem idx (t : Fin (cfgM m (ok m)).N) : ((cfgM m (ok m)).win 0).index t = ![0, (grid0.coords t 0).val, (grid0.coords t 1).val]
    ∧ ((cfgM m (ok m)).win 1).index t = ![0, (grid0.coords t 0).val, (grid0.coords t 1).val]
    ∧ ((cfgM m (ok m)).win 2).index t = ![(grid0.coords t 0).val, (grid0.coords t 1).val]
    ∧ ((cfgM m (ok m)).win 3).index t = ![(grid0.coords t 0).val, (grid0.coords t 1).val]
    ∧ ((cfgM m (ok m)).win 4).index t = ![(grid0.coords t 0).val, (grid0.coords t 1).val]
    ∧ ((cfgM m (ok m)).win 5).index t = ![(grid0.coords t 0).val, (grid0.coords t 1).val]
    ∧ ((cfgM m (ok m)).win 6).index t = ![(grid0.coords t 0).val, (grid0.coords t 1).val]
    ∧ ((cfgM m (ok m)).win 7).index t = ![(grid0.coords t 0).val, (grid0.coords t 1).val]
    ∧ ((cfgM m (ok m)).win 8).index t = ![(grid0.coords t 0).val, (grid0.coords t 1).val] := by
  have h : ∀ t : Fin grid0.N, cc0_transform_0 (grid0.coords t) = ![0, (grid0.coords t 0).val, (grid0.coords t 1).val]
    ∧ cc0_transform_2 (grid0.coords t) = ![(grid0.coords t 0).val, (grid0.coords t 1).val] := by decide +kernel
  exact ⟨(h t).1, own (tbl m) (tbl_eq m) _, (h t).2, (h t).2, (h t).2, (h t).2, (h t).2, (h t).2, (h t).2⟩

/-- The table of one zero, and the pipeline at it. -/
def zeroTable : pre0.Contents (Elt Ideal) := fun | 0 => fun _ => 0#32 | ⟨_ + 1, h⟩ => absurd h (Nat.not_lt.2 (Nat.le_add_left _ _))

abbrev cfgZ : Pipeline.Cfg sig Λ₀ := cfg0 ⟨zeroTable, ok_of zeroTable rfl⟩

/-- Each result's blocks cover its array. -/
theorem covers5 : (cfgZ.win 5).Covers := by decide +kernel
theorem covers6 : (cfgZ.win 6).Covers := by decide +kernel
theorem covers7 : (cfgZ.win 7).Covers := by decide +kernel
theorem covers8 : (cfgZ.win 8).Covers := by decide +kernel

/-- The column of the arrays at a column of a tile. -/
abbrev col (t : Fin (cfgM m (ok m)).N) (r : Fin 256) : Fin 2048 :=
  ⟨256 * (grid0.coords t 1).val + r.val, by have h : (grid0.coords t 1).val < 8 := (grid0.coords t 1).isLt; omega⟩

/-! The blocks the body reads, in the arguments. -/

theorem blk0 (c : Dev nD) (t : Fin (cfgM m (ok m)).N) : (ms0_0 m (ok m) t).view.read (Elt Ideal) ((hs0_0 m (ok m) t).unread (iblk m (ok m) c 0 t))
    = fun q : S3x1348x256.Idx => m ((c : Thread nD τ).loc main_arg0) (ix3 (q 0) (q 1) (col m t (q 2))) := by
  refine ((hs0_0 m (ok m) t).read_unread (Val := Elt Ideal) (iblk m (ok m) c 0 t)).trans (funext fun q => ?_)
  refine Eq.trans (congrFun (V_main_arg0 m c) ((((cfgM m (ok m)).win 0).blk t).view.emb q)) ?_
  refine congrArg (m ((c : Thread nD τ).loc main_arg0)) ?_
  blk_ext [idx m t]

theorem blk1 (c : Dev nD) (t : Fin (cfgM m (ok m)).N) : (ms0_1 m (ok m) t).view.read (Elt Ideal) ((hs0_1 m (ok m) t).unread (iblk m (ok m) c 1 t))
    = fun q : S1x1348x256.Idx => m ((c : Thread nD τ).loc main_arg1) (ix3 (0 : Fin 4) (q 1) (col m t (q 2))) := by
  refine ((hs0_1 m (ok m) t).read_unread (Val := Elt Ideal) (iblk m (ok m) c 1 t)).trans (funext fun q => ?_)
  refine Eq.trans (congrFun (V_main_arg1 m c) ((((cfgM m (ok m)).win 1).blk t).view.emb q)) ?_
  refine congrArg (m ((c : Thread nD τ).loc main_arg1)) ?_
  blk_ext [idx m t]

theorem blk2 (c : Dev nD) (t : Fin (cfgM m (ok m)).N) : (ms0_2 m (ok m) t).view.read (Elt Ideal) ((hs0_2 m (ok m) t).unread (iblk m (ok m) c 2 t))
    = fun q : S1348x256.Idx => m ((c : Thread nD τ).loc main_arg2) (ix2 (q 0) (col m t (q 1))) := by
  refine ((hs0_2 m (ok m) t).read_unread (Val := Elt Ideal) (iblk m (ok m) c 2 t)).trans (funext fun q => ?_)
  refine Eq.trans (congrFun (V_main_arg2 m c) ((((cfgM m (ok m)).win 2).blk t).view.emb q)) ?_
  refine congrArg (m ((c : Thread nD τ).loc main_arg2)) ?_
  blk_ext [idx m t]

theorem blk3 (c : Dev nD) (t : Fin (cfgM m (ok m)).N) : (ms0_3 m (ok m) t).view.read (Elt Ideal) ((hs0_3 m (ok m) t).unread (iblk m (ok m) c 3 t))
    = fun q : S1348x256.Idx => m ((c : Thread nD τ).loc main_arg3) (ix2 (q 0) (col m t (q 1))) := by
  refine ((hs0_3 m (ok m) t).read_unread (Val := Elt Ideal) (iblk m (ok m) c 3 t)).trans (funext fun q => ?_)
  refine Eq.trans (congrFun (V_main_arg3 m c) ((((cfgM m (ok m)).win 3).blk t).view.emb q)) ?_
  refine congrArg (m ((c : Thread nD τ).loc main_arg3)) ?_
  blk_ext [idx m t]

theorem blk4 (c : Dev nD) (t : Fin (cfgM m (ok m)).N) : (ms0_4 m (ok m) t).view.read (Elt Ideal) ((hs0_4 m (ok m) t).unread (iblk m (ok m) c 4 t))
    = fun q : S1348x256.Idx => m ((c : Thread nD τ).loc main_arg4) (ix2 (q 0) (col m t (q 1))) := by
  refine ((hs0_4 m (ok m) t).read_unread (Val := Elt Ideal) (iblk m (ok m) c 4 t)).trans (funext fun q => ?_)
  refine Eq.trans (congrFun (V_main_arg4 m c) ((((cfgM m (ok m)).win 4).blk t).view.emb q)) ?_
  refine congrArg (m ((c : Thread nD τ).loc main_arg4)) ?_
  blk_ext [idx m t]

/-! Where a tile of each result lies. -/

theorem emb5 (t : Fin (cfgM m (ok m)).N) (q : S1348x256.Idx) :
    (((cfgM m (ok m)).win 5).blk t).view.emb q = ix2 (q 0) (col m t (q 1)) := by
  blk_ext [idx m t]

theorem emb6 (t : Fin (cfgM m (ok m)).N) (q : S1348x256.Idx) :
    (((cfgM m (ok m)).win 6).blk t).view.emb q = ix2 (q 0) (col m t (q 1)) := by
  blk_ext [idx m t]

theorem emb7 (t : Fin (cfgM m (ok m)).N) (q : S1348x256.Idx) :
    (((cfgM m (ok m)).win 7).blk t).view.emb q = ix2 (q 0) (col m t (q 1)) := by
  blk_ext [idx m t]

theorem emb8 (t : Fin (cfgM m (ok m)).N) (q : S1348x256.Idx) :
    (((cfgM m (ok m)).win 8).blk t).view.emb q = ix2 (q 0) (col m t (q 1)) := by
  blk_ext [idx m t]

set_option maxHeartbeats 1000000 in
/-- The gradient. -/
theorem final5 (c : Dev nD) : (dats m (ok m) 0 c).arrAt 5 (cfgM m (ok m)).N
    = val_main_v5 (m ((c : Thread nD τ).loc main_arg0)) (m ((c : Thread nD τ).loc main_arg1)) := by
  refine (dats m (ok m) 0 c).arrAt_eq_of_covers 5 _ covers5 fun t _ y => ?_
  blk_simp
  rw [after0_5]; unfold outsAt0; frame_out
  refine Eq.trans ?_ (congrArg (val_main_v5 _ _) (emb5 m t y).symm)
  erw [blk0 m c t, blk1 m c t]
  pointwise [k0_pay1, k0_pay2, k0_pay3, k0_pay4, k0_pay5, k0_pay6, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_three, add_assoc] <;> rfl

set_option maxHeartbeats 1000000 in
/-- The weight's change. -/
theorem final6 (c : Dev nD) : (dats m (ok m) 0 c).arrAt 6 (cfgM m (ok m)).N
    = val_main_v29 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ covers6 fun t _ y => ?_
  blk_simp
  rw [after0_6]; unfold outsAt0; frame_out
  refine Eq.trans ?_ (congrArg (val_main_v29 _ _ _ _ _) (emb6 m t y).symm)
  erw [blk0 m c t, blk1 m c t, blk2 m c t, blk3 m c t, blk4 m c t]
  pointwise [k0_pay1, k0_pay2, k0_pay3, k0_pay4, k0_pay5, k0_pay6, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_three, add_assoc] <;> rfl

set_option maxHeartbeats 1000000 in
/-- The first moment. -/
theorem final7 (c : Dev nD) : (dats m (ok m) 0 c).arrAt 7 (cfgM m (ok m)).N
    = val_main_v10 (m ((c : Thread nD τ).loc main_arg0)) (m ((c : Thread nD τ).loc main_arg1)) (m ((c : Thread nD τ).loc main_arg3)) := by
  refine (dats m (ok m) 0 c).arrAt_eq_of_covers 7 _ covers7 fun t _ y => ?_
  blk_simp
  rw [after0_7]; unfold outsAt0; frame_out
  refine Eq.trans ?_ (congrArg (val_main_v10 _ _ _) (emb7 m t y).symm)
  erw [blk0 m c t, blk1 m c t, blk3 m c t]
  pointwise [k0_pay1, k0_pay2, k0_pay3, k0_pay4, k0_pay5, k0_pay6, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_three, add_assoc] <;> rfl

set_option maxHeartbeats 1000000 in
/-- The second moment. -/
theorem final8 (c : Dev nD) : (dats m (ok m) 0 c).arrAt 8 (cfgM m (ok m)).N
    = val_main_v16 (m ((c : Thread nD τ).loc main_arg0)) (m ((c : Thread nD τ).loc main_arg1)) (m ((c : Thread nD τ).loc main_arg4)) := by
  refine (dats m (ok m) 0 c).arrAt_eq_of_covers 8 _ covers8 fun t _ y => ?_
  blk_simp
  rw [after0_8]; unfold outsAt0; frame_out
  refine Eq.trans ?_ (congrArg (val_main_v16 _ _ _) (emb8 m t y).symm)
  erw [blk0 m c t, blk1 m c t, blk4 m c t]
  pointwise [k0_pay1, k0_pay2, k0_pay3, k0_pay4, k0_pay5, k0_pay6, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_three, add_assoc] <;> rfl

/-- Every execution ends with the four results as the body's write-backs leave them, and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = (dats m (ok m) 0 c).arrAt 5 (cfgM m (ok m)).N
      ∧ r.2.mem ((c.tc : Thread nD τ).loc main_v1_1) = (dats m (ok m) 0 c).arrAt 6 (cfgM m (ok m)).N
      ∧ r.2.mem ((c.tc : Thread nD τ).loc main_v1_2) = (dats m (ok m) 0 c).arrAt 7 (cfgM m (ok m)).N
      ∧ r.2.mem ((c.tc : Thread nD τ).loc main_v1_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (run_main m ρ (ok m)) (unchanged m ρ (ok m))) fun r h c =>
    ⟨(h.1 c).1 5, (h.1 c).1 6, (h.1 c).1 7, (h.1 c).1 8, h.2 c⟩

theorem frame_kernel : Cert.quiescent_AdamIn := fun m ρ _ => Cert.AdamIn.Gen.frame m ρ (ok_bits m)
theorem frame_ideal : Cert.quiescent_AdamInIdeal := fun m ρ _ => Cert.AdamInIdeal.Gen.frame m ρ (ok m)
theorem frame_ref : Cert.quiescent_AdamInRefIdeal := by
  intro m g _
  refine θ_run_mono (Cert.AdamInRefIdeal.Value.run m g) fun r h => ⟨fun c => (h c).2.2.2.2, sem_eq_zero_of_no_sems (by decide) r.2⟩

theorem algebraic : Cert.algebraic_AdamInIdeal_AdamInRefIdeal := by
  intro m g m' g' hpre hagree
  refine ⟨fun c => val_main_v5 (m ((c.tc : Thread nD τ).loc main_arg0)) (m ((c.tc : Thread nD τ).loc main_arg1)), fun c => val_main_v29 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v10 (m ((c.tc : Thread nD τ).loc main_arg0)) (m ((c.tc : Thread nD τ).loc main_arg1)) (m ((c.tc : Thread nD τ).loc main_arg3)), fun c => val_main_v16 (m ((c.tc : Thread nD τ).loc main_arg0)) (m ((c.tc : Thread nD τ).loc main_arg1)) (m ((c.tc : Thread nD τ).loc main_arg4)), ?_, ?_⟩
  · refine θ_run_mono (run m g) fun r h c => ?_
    obtain ⟨h5, h6, h7, h8, ha⟩ := h c
    exact ⟨h5.trans (final5 m c), h6.trans (final6 m c), h7.trans (final7 m c), h8.trans (final8 m c), ha⟩
  · refine θ_run_mono (Cert.AdamInRefIdeal.Value.run m' g') fun r h c => ?_
    obtain ⟨h5, h6, h7, h8, ha⟩ := h c
    obtain ⟨e0, e1, e2, e3, e4⟩ := hagree c
    refine ⟨h5.trans ?_, h6.trans ?_, h7.trans ?_, h8.trans ?_, ha⟩
    · rw [e0, e1]; rfl
    · rw [e0, e1, e2, e3, e4]; rfl
    · rw [e0, e1, e3]; rfl
    · rw [e0, e1, e4]; rfl

end Cert.AdamInCall
end
-- ==== Proof.CallAdamPle.lean ====
/-
  One step of AdamW on a weight of the per-layer embedding, on the 256 rows of 256 columns one device keeps. The gradient arrives in
  eight parts: seven received from the other devices, and this device's own, which a prefetched table of one word names.
  The table holds zero, so the index maps stay inside the arrays; the four arrays the call leaves (the gradient, the
  weight's change and the two moments) are the reference's.
-/
module

public import proofs.«01_k».proof.Defs
public import proofs.«01_k».proof.Proof.Gen.AdamPle.Frame
public import proofs.«01_k».proof.Proof.Gen.AdamPleIdeal.Frame
public import proofs.«01_k».proof.Proof.Gen.AdamPleRefIdeal.Run
public import proofs.«01_k».proof.Proof.Gen.AdamPleRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.AdamPleCall

open Idealize.ShloMosaic Idealize.ShloMosaic.TcCoe Idealize.SL.Sem
open Idealize.ShloMosaic.Pipeline (Dat)
open Cert.AdamPleIdeal Cert.AdamPleIdeal.Gen
open Cert.AdamPleRefIdeal.Read

variable (m : (ℓ : Loc nD τ sig) → Buf (Elt Ideal) ℓ)

theorem tbl_eq_bits (m : (ℓ : Loc Cert.AdamPle.nD Cert.AdamPle.τ Cert.AdamPle.sig) → Buf (Elt Bits) ℓ) : Cert.AdamPle.Gen.tbl m 0 = fun _ => 0#32 := by
  show StableHlo.after _ _ _ = _
  after_results
  rfl

/-- The table's one word is zero. -/
theorem tbl_eq : tbl m 0 = fun _ => 0#32 := by
  show StableHlo.after _ _ _ = _
  after_results
  rfl

/-- The block of this device's own part, at every point of the grid: the part the table names. -/
theorem own {F : FTy → Type} [FloatOps F] (pf : pre0.Contents (Elt F)) (h : pf 0 = fun _ => 0#32) (i : grid0.Coords) :
    cc0_transform_1 inb_S1_S1_0 numel1_S1 pf i = ![0, (i 0).val, (i 1).val] := by
  have h : pf.at 0 (Rect.unit (s := S1) ![0] S1.size inb_S1_S1_0) numel1_S1 = 0#32 := congrFun h _
  unfold cc0_transform_1
  rw [h]
  revert i; decide +kernel

/-- That block lies inside the array, its transfers whole words. -/
theorem inside : ∀ i : grid0.Coords, ∃ h : (∀ a, ((![0, (i 0).val, (i 1).val] : Fin 3 → Nat) a + 1) * S1x128x256.size a ≤ S8x256x256.size a),
    EltTy.bits .bf16 = 32 ∨ (Rect.block (s := S8x256x256) S1x128x256.size ![0, (i 0).val, (i 1).val] h).WholeWords (EltTy.packing .bf16) := by
  decide +kernel

theorem ok_of {F : FTy → Type} [FloatOps F] (pf : pre0.Contents (Elt F)) (h : pf 0 = fun _ => 0#32) : ok0 pf := by
  intro i
  simp only [own pf h i]
  exact inside i

/-- The table names a block inside the array. -/
theorem ok : Ok m := ok_of (tbl m) (tbl_eq m)

/-- The same of the kernel at machine words, whose index map is the same. -/
theorem ok_bits (m : (ℓ : Loc Cert.AdamPle.nD Cert.AdamPle.τ Cert.AdamPle.sig) → Buf (Elt Bits) ℓ) : Cert.AdamPle.Gen.Ok m := by
  intro i
  have h : (Cert.AdamPle.Gen.tbl m).at 0 (Rect.unit (s := Cert.AdamPle.S1) ![0] Cert.AdamPle.S1.size Cert.AdamPle.Facts₀.inb_S1_S1_0) Cert.AdamPle.Facts₀.numel1_S1 = 0#32 :=
    congrFun (tbl_eq_bits m) _
  have e : Cert.AdamPle.cc0_transform_1 Cert.AdamPle.Facts₀.inb_S1_S1_0 Cert.AdamPle.Facts₀.numel1_S1 (Cert.AdamPle.Gen.tbl m) i = ![0, (i 0).val, (i 1).val] := by
    unfold Cert.AdamPle.cc0_transform_1
    rw [h]
    revert i; decide +kernel
  simp only [e]
  exact inside i

/-- The windows' block indices at every point of the grid. -/
theorem idx (t : Fin (cfgM m (ok m)).N) : ((cfgM m (ok m)).win 0).index t = ![0, (grid0.coords t 0).val, (grid0.coords t 1).val]
    ∧ ((cfgM m (ok m)).win 1).index t = ![0, (grid0.coords t 0).val, (grid0.coords t 1).val]
    ∧ ((cfgM m (ok m)).win 2).index t = ![(grid0.coords t 0).val, (grid0.coords t 1).val]
    ∧ ((cfgM m (ok m)).win 3).index t = ![(grid0.coords t 0).val, (grid0.coords t 1).val]
    ∧ ((cfgM m (ok m)).win 4).index t = ![(grid0.coords t 0).val, (grid0.coords t 1).val]
    ∧ ((cfgM m (ok m)).win 5).index t = ![(grid0.coords t 0).val, (grid0.coords t 1).val]
    ∧ ((cfgM m (ok m)).win 6).index t = ![(grid0.coords t 0).val, (grid0.coords t 1).val]
    ∧ ((cfgM m (ok m)).win 7).index t = ![(grid0.coords t 0).val, (grid0.coords t 1).val]
    ∧ ((cfgM m (ok m)).win 8).index t = ![(grid0.coords t 0).val, (grid0.coords t 1).val] := by
  have h : ∀ t : Fin grid0.N, cc0_transform_0 (grid0.coords t) = ![0, (grid0.coords t 0).val, (grid0.coords t 1).val]
    ∧ cc0_transform_2 (grid0.coords t) = ![(grid0.coords t 0).val, (grid0.coords t 1).val] := by decide +kernel
  exact ⟨(h t).1, own (tbl m) (tbl_eq m) _, (h t).2, (h t).2, (h t).2, (h t).2, (h t).2, (h t).2, (h t).2⟩

/-- The table of one zero, and the pipeline at it. -/
def zeroTable : pre0.Contents (Elt Ideal) := fun | 0 => fun _ => 0#32 | ⟨_ + 1, h⟩ => absurd h (Nat.not_lt.2 (Nat.le_add_left _ _))

abbrev cfgZ : Pipeline.Cfg sig Λ₀ := cfg0 ⟨zeroTable, ok_of zeroTable rfl⟩

/-- Each result's blocks cover its array. -/
theorem covers5 : (cfgZ.win 5).Covers := by decide +kernel
theorem covers6 : (cfgZ.win 6).Covers := by decide +kernel
theorem covers7 : (cfgZ.win 7).Covers := by decide +kernel
theorem covers8 : (cfgZ.win 8).Covers := by decide +kernel

/-- The row of the arrays at a row of a tile. -/
abbrev row (t : Fin (cfgM m (ok m)).N) (r : Fin 128) : Fin 256 :=
  ⟨128 * (grid0.coords t 0).val + r.val, by have h : (grid0.coords t 0).val < 2 := (grid0.coords t 0).isLt; omega⟩

/-! The blocks the body reads, in the arguments. -/

theorem blk0 (c : Dev nD) (t : Fin (cfgM m (ok m)).N) : (ms0_0 m (ok m) t).view.read (Elt Ideal) ((hs0_0 m (ok m) t).unread (iblk m (ok m) c 0 t))
    = fun q : S7x128x256.Idx => m ((c : Thread nD τ).loc main_arg0) (ix3 (q 0) (row m t (q 1)) (q 2)) := by
  refine ((hs0_0 m (ok m) t).read_unread (Val := Elt Ideal) (iblk m (ok m) c 0 t)).trans (funext fun q => ?_)
  refine Eq.trans (congrFun (V_main_arg0 m c) ((((cfgM m (ok m)).win 0).blk t).view.emb q)) ?_
  refine congrArg (m ((c : Thread nD τ).loc main_arg0)) ?_
  blk_ext [idx m t]

theorem blk1 (c : Dev nD) (t : Fin (cfgM m (ok m)).N) : (ms0_1 m (ok m) t).view.read (Elt Ideal) ((hs0_1 m (ok m) t).unread (iblk m (ok m) c 1 t))
    = fun q : S1x128x256.Idx => m ((c : Thread nD τ).loc main_arg1) (ix3 (0 : Fin 8) (row m t (q 1)) (q 2)) := by
  refine ((hs0_1 m (ok m) t).read_unread (Val := Elt Ideal) (iblk m (ok m) c 1 t)).trans (funext fun q => ?_)
  refine Eq.trans (congrFun (V_main_arg1 m c) ((((cfgM m (ok m)).win 1).blk t).view.emb q)) ?_
  refine congrArg (m ((c : Thread nD τ).loc main_arg1)) ?_
  blk_ext [idx m t]

theorem blk2 (c : Dev nD) (t : Fin (cfgM m (ok m)).N) : (ms0_2 m (ok m) t).view.read (Elt Ideal) ((hs0_2 m (ok m) t).unread (iblk m (ok m) c 2 t))
    = fun q : S128x256.Idx => m ((c : Thread nD τ).loc main_arg2) (ix2 (row m t (q 0)) (q 1)) := by
  refine ((hs0_2 m (ok m) t).read_unread (Val := Elt Ideal) (iblk m (ok m) c 2 t)).trans (funext fun q => ?_)
  refine Eq.trans (congrFun (V_main_arg2 m c) ((((cfgM m (ok m)).win 2).blk t).view.emb q)) ?_
  refine congrArg (m ((c : Thread nD τ).loc main_arg2)) ?_
  blk_ext [idx m t]

theorem blk3 (c : Dev nD) (t : Fin (cfgM m (ok m)).N) : (ms0_3 m (ok m) t).view.read (Elt Ideal) ((hs0_3 m (ok m) t).unread (iblk m (ok m) c 3 t))
    = fun q : S128x256.Idx => m ((c : Thread nD τ).loc main_arg3) (ix2 (row m t (q 0)) (q 1)) := by
  refine ((hs0_3 m (ok m) t).read_unread (Val := Elt Ideal) (iblk m (ok m) c 3 t)).trans (funext fun q => ?_)
  refine Eq.trans (congrFun (V_main_arg3 m c) ((((cfgM m (ok m)).win 3).blk t).view.emb q)) ?_
  refine congrArg (m ((c : Thread nD τ).loc main_arg3)) ?_
  blk_ext [idx m t]

theorem blk4 (c : Dev nD) (t : Fin (cfgM m (ok m)).N) : (ms0_4 m (ok m) t).view.read (Elt Ideal) ((hs0_4 m (ok m) t).unread (iblk m (ok m) c 4 t))
    = fun q : S128x256.Idx => m ((c : Thread nD τ).loc main_arg4) (ix2 (row m t (q 0)) (q 1)) := by
  refine ((hs0_4 m (ok m) t).read_unread (Val := Elt Ideal) (iblk m (ok m) c 4 t)).trans (funext fun q => ?_)
  refine Eq.trans (congrFun (V_main_arg4 m c) ((((cfgM m (ok m)).win 4).blk t).view.emb q)) ?_
  refine congrArg (m ((c : Thread nD τ).loc main_arg4)) ?_
  blk_ext [idx m t]

/-! Where a tile of each result lies. -/

theorem emb5 (t : Fin (cfgM m (ok m)).N) (q : S128x256.Idx) :
    (((cfgM m (ok m)).win 5).blk t).view.emb q = ix2 (row m t (q 0)) (q 1) := by
  blk_ext [idx m t]

theorem emb6 (t : Fin (cfgM m (ok m)).N) (q : S128x256.Idx) :
    (((cfgM m (ok m)).win 6).blk t).view.emb q = ix2 (row m t (q 0)) (q 1) := by
  blk_ext [idx m t]

theorem emb7 (t : Fin (cfgM m (ok m)).N) (q : S128x256.Idx) :
    (((cfgM m (ok m)).win 7).blk t).view.emb q = ix2 (row m t (q 0)) (q 1) := by
  blk_ext [idx m t]

theorem emb8 (t : Fin (cfgM m (ok m)).N) (q : S128x256.Idx) :
    (((cfgM m (ok m)).win 8).blk t).view.emb q = ix2 (row m t (q 0)) (q 1) := by
  blk_ext [idx m t]

set_option maxHeartbeats 1000000 in
/-- The gradient. -/
theorem final5 (c : Dev nD) : (dats m (ok m) 0 c).arrAt 5 (cfgM m (ok m)).N
    = val_main_v5 (m ((c : Thread nD τ).loc main_arg0)) (m ((c : Thread nD τ).loc main_arg1)) := by
  refine (dats m (ok m) 0 c).arrAt_eq_of_covers 5 _ covers5 fun t _ y => ?_
  blk_simp
  rw [after0_5]; unfold outsAt0; frame_out
  refine Eq.trans ?_ (congrArg (val_main_v5 _ _) (emb5 m t y).symm)
  erw [blk0 m c t, blk1 m c t]
  pointwise [k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_seven, add_assoc] <;> rfl

set_option maxHeartbeats 1000000 in
/-- The weight's change. -/
theorem final6 (c : Dev nD) : (dats m (ok m) 0 c).arrAt 6 (cfgM m (ok m)).N
    = val_main_v29 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ covers6 fun t _ y => ?_
  blk_simp
  rw [after0_6]; unfold outsAt0; frame_out
  refine Eq.trans ?_ (congrArg (val_main_v29 _ _ _ _ _) (emb6 m t y).symm)
  erw [blk0 m c t, blk1 m c t, blk2 m c t, blk3 m c t, blk4 m c t]
  pointwise [k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_seven, add_assoc] <;> rfl

set_option maxHeartbeats 1000000 in
/-- The first moment. -/
theorem final7 (c : Dev nD) : (dats m (ok m) 0 c).arrAt 7 (cfgM m (ok m)).N
    = val_main_v10 (m ((c : Thread nD τ).loc main_arg0)) (m ((c : Thread nD τ).loc main_arg1)) (m ((c : Thread nD τ).loc main_arg3)) := by
  refine (dats m (ok m) 0 c).arrAt_eq_of_covers 7 _ covers7 fun t _ y => ?_
  blk_simp
  rw [after0_7]; unfold outsAt0; frame_out
  refine Eq.trans ?_ (congrArg (val_main_v10 _ _ _) (emb7 m t y).symm)
  erw [blk0 m c t, blk1 m c t, blk3 m c t]
  pointwise [k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_seven, add_assoc] <;> rfl

set_option maxHeartbeats 1000000 in
/-- The second moment. -/
theorem final8 (c : Dev nD) : (dats m (ok m) 0 c).arrAt 8 (cfgM m (ok m)).N
    = val_main_v16 (m ((c : Thread nD τ).loc main_arg0)) (m ((c : Thread nD τ).loc main_arg1)) (m ((c : Thread nD τ).loc main_arg4)) := by
  refine (dats m (ok m) 0 c).arrAt_eq_of_covers 8 _ covers8 fun t _ y => ?_
  blk_simp
  rw [after0_8]; unfold outsAt0; frame_out
  refine Eq.trans ?_ (congrArg (val_main_v16 _ _ _) (emb8 m t y).symm)
  erw [blk0 m c t, blk1 m c t, blk4 m c t]
  pointwise [k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_seven, add_assoc] <;> rfl

/-- Every execution ends with the four results as the body's write-backs leave them, and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = (dats m (ok m) 0 c).arrAt 5 (cfgM m (ok m)).N
      ∧ r.2.mem ((c.tc : Thread nD τ).loc main_v1_1) = (dats m (ok m) 0 c).arrAt 6 (cfgM m (ok m)).N
      ∧ r.2.mem ((c.tc : Thread nD τ).loc main_v1_2) = (dats m (ok m) 0 c).arrAt 7 (cfgM m (ok m)).N
      ∧ r.2.mem ((c.tc : Thread nD τ).loc main_v1_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (run_main m ρ (ok m)) (unchanged m ρ (ok m))) fun r h c =>
    ⟨(h.1 c).1 5, (h.1 c).1 6, (h.1 c).1 7, (h.1 c).1 8, h.2 c⟩

theorem frame_kernel : Cert.quiescent_AdamPle := fun m ρ _ => Cert.AdamPle.Gen.frame m ρ (ok_bits m)
theorem frame_ideal : Cert.quiescent_AdamPleIdeal := fun m ρ _ => Cert.AdamPleIdeal.Gen.frame m ρ (ok m)
theorem frame_ref : Cert.quiescent_AdamPleRefIdeal := by
  intro m g _
  refine θ_run_mono (Cert.AdamPleRefIdeal.Value.run m g) fun r h => ⟨fun c => (h c).2.2.2.2, sem_eq_zero_of_no_sems (by decide) r.2⟩

theorem algebraic : Cert.algebraic_AdamPleIdeal_AdamPleRefIdeal := by
  intro m g m' g' hpre hagree
  refine ⟨fun c => val_main_v5 (m ((c.tc : Thread nD τ).loc main_arg0)) (m ((c.tc : Thread nD τ).loc main_arg1)), fun c => val_main_v29 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v10 (m ((c.tc : Thread nD τ).loc main_arg0)) (m ((c.tc : Thread nD τ).loc main_arg1)) (m ((c.tc : Thread nD τ).loc main_arg3)), fun c => val_main_v16 (m ((c.tc : Thread nD τ).loc main_arg0)) (m ((c.tc : Thread nD τ).loc main_arg1)) (m ((c.tc : Thread nD τ).loc main_arg4)), ?_, ?_⟩
  · refine θ_run_mono (run m g) fun r h c => ?_
    obtain ⟨h5, h6, h7, h8, ha⟩ := h c
    exact ⟨h5.trans (final5 m c), h6.trans (final6 m c), h7.trans (final7 m c), h8.trans (final8 m c), ha⟩
  · refine θ_run_mono (Cert.AdamPleRefIdeal.Value.run m' g') fun r h c => ?_
    obtain ⟨h5, h6, h7, h8, ha⟩ := h c
    obtain ⟨e0, e1, e2, e3, e4⟩ := hagree c
    refine ⟨h5.trans ?_, h6.trans ?_, h7.trans ?_, h8.trans ?_, ha⟩
    · rw [e0, e1]; rfl
    · rw [e0, e1, e2, e3, e4]; rfl
    · rw [e0, e1, e3]; rfl
    · rw [e0, e1, e4]; rfl

end Cert.AdamPleCall
end
-- ==== Proof.CallAdamSmall.lean ====
/-
  One step of AdamW on the small weights, packed in one row of 13952. The gradient arrives in eight parts; the four
  arrays the call leaves (the gradient, the weight's change and the two moments) are the reference's.
-/
module

public import proofs.«01_k».proof.Defs
public import proofs.«01_k».proof.Proof.Gen.AdamSmall.Frame
public import proofs.«01_k».proof.Proof.Gen.AdamSmallIdeal.Frame
public import proofs.«01_k».proof.Proof.Gen.AdamSmallRefIdeal.Run
public import proofs.«01_k».proof.Proof.Gen.AdamSmallRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.AdamSmallCall

open Idealize.ShloMosaic Idealize.ShloMosaic.TcCoe Idealize.SL.Sem
open Idealize.ShloMosaic.Pipeline (Dat)
open Cert.AdamSmallIdeal Cert.AdamSmallIdeal.Gen
open Cert.AdamSmallRefIdeal.Read

variable (m : (ℓ : Loc nD τ sig) → Buf (Elt Ideal) ℓ)

/-- The windows' block indices at every point of the grid. -/
theorem idx : ∀ t : Fin cfg0.N, win0_0.index t = ![0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-! The blocks the body reads, in the arguments. -/

theorem blk0 (c : Dev nD) (t : Fin cfg0.N) : iblk m c 0 t = fun q : S8x1x13952.Idx => m ((c : Thread nD τ).loc main_arg0) q := by
  funext q
  refine congrArg (m ((c : Thread nD τ).loc main_arg0)) ?_
  blk_ext [idx t]

theorem blk1 (c : Dev nD) (t : Fin cfg0.N) : iblk m c 1 t = fun q : S1x13952.Idx => m ((c : Thread nD τ).loc main_arg1) q := by
  funext q
  refine congrArg (m ((c : Thread nD τ).loc main_arg1)) ?_
  blk_ext [idx t]

theorem blk2 (c : Dev nD) (t : Fin cfg0.N) : iblk m c 2 t = fun q : S1x13952.Idx => m ((c : Thread nD τ).loc main_arg2) q := by
  funext q
  refine congrArg (m ((c : Thread nD τ).loc main_arg2)) ?_
  blk_ext [idx t]

theorem blk3 (c : Dev nD) (t : Fin cfg0.N) : iblk m c 3 t = fun q : S1x13952.Idx => m ((c : Thread nD τ).loc main_arg3) q := by
  funext q
  refine congrArg (m ((c : Thread nD τ).loc main_arg3)) ?_
  blk_ext [idx t]

/-! Where each result lies. -/

theorem emb4 (t : Fin cfg0.N) (q : S1x13952.Idx) : ((cfg0.win 4).blk t).view.emb q = q := by
  blk_ext [idx t]

theorem emb5 (t : Fin cfg0.N) (q : S1x13952.Idx) : ((cfg0.win 5).blk t).view.emb q = q := by
  blk_ext [idx t]

theorem emb6 (t : Fin cfg0.N) (q : S1x13952.Idx) : ((cfg0.win 6).blk t).view.emb q = q := by
  blk_ext [idx t]

theorem emb7 (t : Fin cfg0.N) (q : S1x13952.Idx) : ((cfg0.win 7).blk t).view.emb q = q := by
  blk_ext [idx t]

set_option maxHeartbeats 1000000 in
/-- The gradient. -/
theorem final4 (c : Dev nD) : (dats m 0 c).arrAt 4 cfg0.N
    = val_main_v0 (m ((c : Thread nD τ).loc main_arg0)) := by
  refine (dats m 0 c).arrAt_eq_of_covers 4 _ (by decide +kernel) fun t _ y => ?_
  blk_simp
  rw [after0_4]; frame_out
  refine Eq.trans ?_ (congrArg (val_main_v0 _) (emb4 t y).symm)
  rw [blk0 m c t]
  pointwise [k0_pay1, k0_pay2, k0_pay3, k0_pay4, k0_pay5, k0_pay6, k0_pay7, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  simp only [zero_add, Fin.sum_univ_eight, add_assoc] <;> rfl

set_option maxHeartbeats 1000000 in
/-- The weight's change. -/
theorem final5 (c : Dev nD) : (dats m 0 c).arrAt 5 cfg0.N
    = val_main_v24 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine Eq.trans ?_ (congrArg (val_main_v24 _ _ _ _) (emb5 t y).symm)
  rw [blk0 m c t, blk1 m c t, blk2 m c t, blk3 m c t]
  pointwise [k0_pay1, k0_pay2, k0_pay3, k0_pay4, k0_pay5, k0_pay6, k0_pay7, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  simp only [zero_add, Fin.sum_univ_eight, add_assoc] <;> rfl

set_option maxHeartbeats 1000000 in
/-- The first moment. -/
theorem final6 (c : Dev nD) : (dats m 0 c).arrAt 6 cfg0.N
    = val_main_v5 (m ((c : Thread nD τ).loc main_arg0)) (m ((c : Thread nD τ).loc main_arg2)) := by
  refine (dats m 0 c).arrAt_eq_of_covers 6 _ (by decide +kernel) fun t _ y => ?_
  blk_simp
  rw [after0_6]; frame_out
  refine Eq.trans ?_ (congrArg (val_main_v5 _ _) (emb6 t y).symm)
  rw [blk0 m c t, blk2 m c t]
  pointwise [k0_pay1, k0_pay2, k0_pay3, k0_pay4, k0_pay5, k0_pay6, k0_pay7, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  simp only [zero_add, Fin.sum_univ_eight, add_assoc] <;> rfl

set_option maxHeartbeats 1000000 in
/-- The second moment. -/
theorem final7 (c : Dev nD) : (dats m 0 c).arrAt 7 cfg0.N
    = val_main_v11 (m ((c : Thread nD τ).loc main_arg0)) (m ((c : Thread nD τ).loc main_arg3)) := by
  refine (dats m 0 c).arrAt_eq_of_covers 7 _ (by decide +kernel) fun t _ y => ?_
  blk_simp
  rw [after0_7]; frame_out
  refine Eq.trans ?_ (congrArg (val_main_v11 _ _) (emb7 t y).symm)
  rw [blk0 m c t, blk3 m c t]
  pointwise [k0_pay1, k0_pay2, k0_pay3, k0_pay4, k0_pay5, k0_pay6, k0_pay7, val_main_cst, val_main_v0, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  simp only [zero_add, Fin.sum_univ_eight, add_assoc] <;> rfl

/-- Every execution ends with the four results as the body's write-backs leave them, and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_v0_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (θ_run_and (run_main m ρ) (unchanged m ρ)) fun r h c =>
    ⟨(h.1 c).1 4, (h.1 c).1 5, (h.1 c).1 6, (h.1 c).1 7, h.2 c⟩

theorem frame_kernel : Cert.quiescent_AdamSmall := fun m ρ _ => Cert.AdamSmall.Gen.frame m ρ
theorem frame_ideal : Cert.quiescent_AdamSmallIdeal := fun m ρ _ => Cert.AdamSmallIdeal.Gen.frame m ρ
theorem frame_ref : Cert.quiescent_AdamSmallRefIdeal := by
  intro m g _
  refine θ_run_mono (Cert.AdamSmallRefIdeal.Value.run m g) fun r h => ⟨fun c => (h c).2.2.2.2, sem_eq_zero_of_no_sems (by decide) r.2⟩

theorem algebraic : Cert.algebraic_AdamSmallIdeal_AdamSmallRefIdeal := by
  intro m g m' g' hpre hagree
  refine ⟨fun c => val_main_v0 (m ((c.tc : Thread nD τ).loc main_arg0)), fun c => val_main_v24 (m ((c.tc : Thread nD τ).loc main_arg0)) (m ((c.tc : Thread nD τ).loc main_arg1)) (m ((c.tc : Thread nD τ).loc main_arg2)) (m ((c.tc : Thread nD τ).loc main_arg3)), fun c => val_main_v5 (m ((c.tc : Thread nD τ).loc main_arg0)) (m ((c.tc : Thread nD τ).loc main_arg2)), fun c => val_main_v11 (m ((c.tc : Thread nD τ).loc main_arg0)) (m ((c.tc : Thread nD τ).loc main_arg3)), ?_, ?_⟩
  · refine θ_run_mono (run m g) fun r h c => ?_
    obtain ⟨h4, h5, h6, h7, ha⟩ := h c
    exact ⟨h4.trans (final4 m c), h5.trans (final5 m c), h6.trans (final6 m c), h7.trans (final7 m c), ha⟩
  · refine θ_run_mono (Cert.AdamSmallRefIdeal.Value.run m' g') fun r h c => ?_
    obtain ⟨h4, h5, h6, h7, ha⟩ := h c
    obtain ⟨e0, e1, e2, e3⟩ := hagree c
    refine ⟨h4.trans ?_, h5.trans ?_, h6.trans ?_, h7.trans ?_, ha⟩
    · rw [e0]; rfl
    · rw [e0, e1, e2, e3]; rfl
    · rw [e0, e2]; rfl
    · rw [e0, e3]; rfl

end Cert.AdamSmallCall
end
-- ==== Proof.CallAdamSquare.lean ====
/-
  One step of AdamW on a weight of an output branch (2048 by 2048), on the 256 rows of 2048 columns one device keeps. The gradient arrives in
  eight parts: seven received from the other devices, and this device's own, which a prefetched table of one word names.
  The table holds zero, so the index maps stay inside the arrays; the four arrays the call leaves (the gradient, the
  weight's change and the two moments) are the reference's.
-/
module

public import proofs.«01_k».proof.Defs
public import proofs.«01_k».proof.Proof.Gen.AdamSquare.Frame
public import proofs.«01_k».proof.Proof.Gen.AdamSquareIdeal.Frame
public import proofs.«01_k».proof.Proof.Gen.AdamSquareRefIdeal.Run
public import proofs.«01_k».proof.Proof.Gen.AdamSquareRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.AdamSquareCall

open Idealize.ShloMosaic Idealize.ShloMosaic.TcCoe Idealize.SL.Sem
open Idealize.ShloMosaic.Pipeline (Dat)
open Cert.AdamSquareIdeal Cert.AdamSquareIdeal.Gen
open Cert.AdamSquareRefIdeal.Read

variable (m : (ℓ : Loc nD τ sig) → Buf (Elt Ideal) ℓ)

theorem tbl_eq_bits (m : (ℓ : Loc Cert.AdamSquare.nD Cert.AdamSquare.τ Cert.AdamSquare.sig) → Buf (Elt Bits) ℓ) : Cert.AdamSquare.Gen.tbl m 0 = fun _ => 0#32 := by
  show StableHlo.after _ _ _ = _
  after_results
  rfl

/-- The table's one word is zero. -/
theorem tbl_eq : tbl m 0 = fun _ => 0#32 := by
  show StableHlo.after _ _ _ = _
  after_results
  rfl

/-- The block of this device's own part, at every point of the grid: the part the table names. -/
theorem own {F : FTy → Type} [FloatOps F] (pf : pre0.Contents (Elt F)) (h : pf 0 = fun _ => 0#32) (i : grid0.Coords) :
    cc0_transform_1 inb_S1_S1_0 numel1_S1 pf i = ![0, (i 0).val, (i 1).val] := by
  have h : pf.at 0 (Rect.unit (s := S1) ![0] S1.size inb_S1_S1_0) numel1_S1 = 0#32 := congrFun h _
  unfold cc0_transform_1
  rw [h]
  revert i; decide +kernel

/-- That block lies inside the array, its transfers whole words. -/
theorem inside : ∀ i : grid0.Coords, ∃ h : (∀ a, ((![0, (i 0).val, (i 1).val] : Fin 3 → Nat) a + 1) * S1x128x2048.size a ≤ S8x256x2048.size a),
    EltTy.bits .bf16 = 32 ∨ (Rect.block (s := S8x256x2048) S1x128x2048.size ![0, (i 0).val, (i 1).val] h).WholeWords (EltTy.packing .bf16) := by
  decide +kernel

theorem ok_of {F : FTy → Type} [FloatOps F] (pf : pre0.Contents (Elt F)) (h : pf 0 = fun _ => 0#32) : ok0 pf := by
  intro i
  simp only [own pf h i]
  exact inside i

/-- The table names a block inside the array. -/
theorem ok : Ok m := ok_of (tbl m) (tbl_eq m)

/-- The same of the kernel at machine words, whose index map is the same. -/
theorem ok_bits (m : (ℓ : Loc Cert.AdamSquare.nD Cert.AdamSquare.τ Cert.AdamSquare.sig) → Buf (Elt Bits) ℓ) : Cert.AdamSquare.Gen.Ok m := by
  intro i
  have h : (Cert.AdamSquare.Gen.tbl m).at 0 (Rect.unit (s := Cert.AdamSquare.S1) ![0] Cert.AdamSquare.S1.size Cert.AdamSquare.Facts₀.inb_S1_S1_0) Cert.AdamSquare.Facts₀.numel1_S1 = 0#32 :=
    congrFun (tbl_eq_bits m) _
  have e : Cert.AdamSquare.cc0_transform_1 Cert.AdamSquare.Facts₀.inb_S1_S1_0 Cert.AdamSquare.Facts₀.numel1_S1 (Cert.AdamSquare.Gen.tbl m) i = ![0, (i 0).val, (i 1).val] := by
    unfold Cert.AdamSquare.cc0_transform_1
    rw [h]
    revert i; decide +kernel
  simp only [e]
  exact inside i

/-- The windows' block indices at every point of the grid. -/
theorem idx (t : Fin (cfgM m (ok m)).N) : ((cfgM m (ok m)).win 0).index t = ![0, (grid0.coords t 0).val, (grid0.coords t 1).val]
    ∧ ((cfgM m (ok m)).win 1).index t = ![0, (grid0.coords t 0).val, (grid0.coords t 1).val]
    ∧ ((cfgM m (ok m)).win 2).index t = ![(grid0.coords t 0).val, (grid0.coords t 1).val]
    ∧ ((cfgM m (ok m)).win 3).index t = ![(grid0.coords t 0).val, (grid0.coords t 1).val]
    ∧ ((cfgM m (ok m)).win 4).index t = ![(grid0.coords t 0).val, (grid0.coords t 1).val]
    ∧ ((cfgM m (ok m)).win 5).index t = ![(grid0.coords t 0).val, (grid0.coords t 1).val]
    ∧ ((cfgM m (ok m)).win 6).index t = ![(grid0.coords t 0).val, (grid0.coords t 1).val]
    ∧ ((cfgM m (ok m)).win 7).index t = ![(grid0.coords t 0).val, (grid0.coords t 1).val]
    ∧ ((cfgM m (ok m)).win 8).index t = ![(grid0.coords t 0).val, (grid0.coords t 1).val] := by
  have h : ∀ t : Fin grid0.N, cc0_transform_0 (grid0.coords t) = ![0, (grid0.coords t 0).val, (grid0.coords t 1).val]
    ∧ cc0_transform_2 (grid0.coords t) = ![(grid0.coords t 0).val, (grid0.coords t 1).val] := by decide +kernel
  exact ⟨(h t).1, own (tbl m) (tbl_eq m) _, (h t).2, (h t).2, (h t).2, (h t).2, (h t).2, (h t).2, (h t).2⟩

/-- The table of one zero, and the pipeline at it. -/
def zeroTable : pre0.Contents (Elt Ideal) := fun | 0 => fun _ => 0#32 | ⟨_ + 1, h⟩ => absurd h (Nat.not_lt.2 (Nat.le_add_left _ _))

abbrev cfgZ : Pipeline.Cfg sig Λ₀ := cfg0 ⟨zeroTable, ok_of zeroTable rfl⟩

/-- Each result's blocks cover its array. -/
theorem covers5 : (cfgZ.win 5).Covers := by decide +kernel
theorem covers6 : (cfgZ.win 6).Covers := by decide +kernel
theorem covers7 : (cfgZ.win 7).Covers := by decide +kernel
theorem covers8 : (cfgZ.win 8).Covers := by decide +kernel

/-- The row of the arrays at a row of a tile. -/
abbrev row (t : Fin (cfgM m (ok m)).N) (r : Fin 128) : Fin 256 :=
  ⟨128 * (grid0.coords t 0).val + r.val, by have h : (grid0.coords t 0).val < 2 := (grid0.coords t 0).isLt; omega⟩

/-! The blocks the body reads, in the arguments. -/

theorem blk0 (c : Dev nD) (t : Fin (cfgM m (ok m)).N) : (ms0_0 m (ok m) t).view.read (Elt Ideal) ((hs0_0 m (ok m) t).unread (iblk m (ok m) c 0 t))
    = fun q : S7x128x2048.Idx => m ((c : Thread nD τ).loc main_arg0) (ix3 (q 0) (row m t (q 1)) (q 2)) := by
  refine ((hs0_0 m (ok m) t).read_unread (Val := Elt Ideal) (iblk m (ok m) c 0 t)).trans (funext fun q => ?_)
  refine Eq.trans (congrFun (V_main_arg0 m c) ((((cfgM m (ok m)).win 0).blk t).view.emb q)) ?_
  refine congrArg (m ((c : Thread nD τ).loc main_arg0)) ?_
  blk_ext [idx m t]

theorem blk1 (c : Dev nD) (t : Fin (cfgM m (ok m)).N) : (ms0_1 m (ok m) t).view.read (Elt Ideal) ((hs0_1 m (ok m) t).unread (iblk m (ok m) c 1 t))
    = fun q : S1x128x2048.Idx => m ((c : Thread nD τ).loc main_arg1) (ix3 (0 : Fin 8) (row m t (q 1)) (q 2)) := by
  refine ((hs0_1 m (ok m) t).read_unread (Val := Elt Ideal) (iblk m (ok m) c 1 t)).trans (funext fun q => ?_)
  refine Eq.trans (congrFun (V_main_arg1 m c) ((((cfgM m (ok m)).win 1).blk t).view.emb q)) ?_
  refine congrArg (m ((c : Thread nD τ).loc main_arg1)) ?_
  blk_ext [idx m t]

theorem blk2 (c : Dev nD) (t : Fin (cfgM m (ok m)).N) : (ms0_2 m (ok m) t).view.read (Elt Ideal) ((hs0_2 m (ok m) t).unread (iblk m (ok m) c 2 t))
    = fun q : S128x2048.Idx => m ((c : Thread nD τ).loc main_arg2) (ix2 (row m t (q 0)) (q 1)) := by
  refine ((hs0_2 m (ok m) t).read_unread (Val := Elt Ideal) (iblk m (ok m) c 2 t)).trans (funext fun q => ?_)
  refine Eq.trans (congrFun (V_main_arg2 m c) ((((cfgM m (ok m)).win 2).blk t).view.emb q)) ?_
  refine congrArg (m ((c : Thread nD τ).loc main_arg2)) ?_
  blk_ext [idx m t]

theorem blk3 (c : Dev nD) (t : Fin (cfgM m (ok m)).N) : (ms0_3 m (ok m) t).view.read (Elt Ideal) ((hs0_3 m (ok m) t).unread (iblk m (ok m) c 3 t))
    = fun q : S128x2048.Idx => m ((c : Thread nD τ).loc main_arg3) (ix2 (row m t (q 0)) (q 1)) := by
  refine ((hs0_3 m (ok m) t).read_unread (Val := Elt Ideal) (iblk m (ok m) c 3 t)).trans (funext fun q => ?_)
  refine Eq.trans (congrFun (V_main_arg3 m c) ((((cfgM m (ok m)).win 3).blk t).view.emb q)) ?_
  refine congrArg (m ((c : Thread nD τ).loc main_arg3)) ?_
  blk_ext [idx m t]

theorem blk4 (c : Dev nD) (t : Fin (cfgM m (ok m)).N) : (ms0_4 m (ok m) t).view.read (Elt Ideal) ((hs0_4 m (ok m) t).unread (iblk m (ok m) c 4 t))
    = fun q : S128x2048.Idx => m ((c : Thread nD τ).loc main_arg4) (ix2 (row m t (q 0)) (q 1)) := by
  refine ((hs0_4 m (ok m) t).read_unread (Val := Elt Ideal) (iblk m (ok m) c 4 t)).trans (funext fun q => ?_)
  refine Eq.trans (congrFun (V_main_arg4 m c) ((((cfgM m (ok m)).win 4).blk t).view.emb q)) ?_
  refine congrArg (m ((c : Thread nD τ).loc main_arg4)) ?_
  blk_ext [idx m t]

/-! Where a tile of each result lies. -/

theorem emb5 (t : Fin (cfgM m (ok m)).N) (q : S128x2048.Idx) :
    (((cfgM m (ok m)).win 5).blk t).view.emb q = ix2 (row m t (q 0)) (q 1) := by
  blk_ext [idx m t]

theorem emb6 (t : Fin (cfgM m (ok m)).N) (q : S128x2048.Idx) :
    (((cfgM m (ok m)).win 6).blk t).view.emb q = ix2 (row m t (q 0)) (q 1) := by
  blk_ext [idx m t]

theorem emb7 (t : Fin (cfgM m (ok m)).N) (q : S128x2048.Idx) :
    (((cfgM m (ok m)).win 7).blk t).view.emb q = ix2 (row m t (q 0)) (q 1) := by
  blk_ext [idx m t]

theorem emb8 (t : Fin (cfgM m (ok m)).N) (q : S128x2048.Idx) :
    (((cfgM m (ok m)).win 8).blk t).view.emb q = ix2 (row m t (q 0)) (q 1) := by
  blk_ext [idx m t]

set_option maxHeartbeats 1000000 in
/-- The gradient. -/
theorem final5 (c : Dev nD) : (dats m (ok m) 0 c).arrAt 5 (cfgM m (ok m)).N
    = val_main_v5 (m ((c : Thread nD τ).loc main_arg0)) (m ((c : Thread nD τ).loc main_arg1)) := by
  refine (dats m (ok m) 0 c).arrAt_eq_of_covers 5 _ covers5 fun t _ y => ?_
  blk_simp
  rw [after0_5]; unfold outsAt0; frame_out
  refine Eq.trans ?_ (congrArg (val_main_v5 _ _) (emb5 m t y).symm)
  erw [blk0 m c t, blk1 m c t]
  pointwise [k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_seven, add_assoc] <;> rfl

set_option maxHeartbeats 1000000 in
/-- The weight's change. -/
theorem final6 (c : Dev nD) : (dats m (ok m) 0 c).arrAt 6 (cfgM m (ok m)).N
    = val_main_v29 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ covers6 fun t _ y => ?_
  blk_simp
  rw [after0_6]; unfold outsAt0; frame_out
  refine Eq.trans ?_ (congrArg (val_main_v29 _ _ _ _ _) (emb6 m t y).symm)
  erw [blk0 m c t, blk1 m c t, blk2 m c t, blk3 m c t, blk4 m c t]
  pointwise [k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_seven, add_assoc] <;> rfl

set_option maxHeartbeats 1000000 in
/-- The first moment. -/
theorem final7 (c : Dev nD) : (dats m (ok m) 0 c).arrAt 7 (cfgM m (ok m)).N
    = val_main_v10 (m ((c : Thread nD τ).loc main_arg0)) (m ((c : Thread nD τ).loc main_arg1)) (m ((c : Thread nD τ).loc main_arg3)) := by
  refine (dats m (ok m) 0 c).arrAt_eq_of_covers 7 _ covers7 fun t _ y => ?_
  blk_simp
  rw [after0_7]; unfold outsAt0; frame_out
  refine Eq.trans ?_ (congrArg (val_main_v10 _ _ _) (emb7 m t y).symm)
  erw [blk0 m c t, blk1 m c t, blk3 m c t]
  pointwise [k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_seven, add_assoc] <;> rfl

set_option maxHeartbeats 1000000 in
/-- The second moment. -/
theorem final8 (c : Dev nD) : (dats m (ok m) 0 c).arrAt 8 (cfgM m (ok m)).N
    = val_main_v16 (m ((c : Thread nD τ).loc main_arg0)) (m ((c : Thread nD τ).loc main_arg1)) (m ((c : Thread nD τ).loc main_arg4)) := by
  refine (dats m (ok m) 0 c).arrAt_eq_of_covers 8 _ covers8 fun t _ y => ?_
  blk_simp
  rw [after0_8]; unfold outsAt0; frame_out
  refine Eq.trans ?_ (congrArg (val_main_v16 _ _ _) (emb8 m t y).symm)
  erw [blk0 m c t, blk1 m c t, blk4 m c t]
  pointwise [k0_pay1, k0_pay2, k0_pay3, k0_pay4, val_main_v0, val_main_v1, val_main_v2, val_main_v3, val_main_cst, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
  simp only [zero_add, Fin.sum_univ_seven, add_assoc] <;> rfl

/-- Every execution ends with the four results as the body's write-backs leave them, and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = (dats m (ok m) 0 c).arrAt 5 (cfgM m (ok m)).N
      ∧ r.2.mem ((c.tc : Thread nD τ).loc main_v1_1) = (dats m (ok m) 0 c).arrAt 6 (cfgM m (ok m)).N
      ∧ r.2.mem ((c.tc : Thread nD τ).loc main_v1_2) = (dats m (ok m) 0 c).arrAt 7 (cfgM m (ok m)).N
      ∧ r.2.mem ((c.tc : Thread nD τ).loc main_v1_3) = (dats m (ok m) 0 c).arrAt 8 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (run_main m ρ (ok m)) (unchanged m ρ (ok m))) fun r h c =>
    ⟨(h.1 c).1 5, (h.1 c).1 6, (h.1 c).1 7, (h.1 c).1 8, h.2 c⟩

theorem frame_kernel : Cert.quiescent_AdamSquare := fun m ρ _ => Cert.AdamSquare.Gen.frame m ρ (ok_bits m)
theorem frame_ideal : Cert.quiescent_AdamSquareIdeal := fun m ρ _ => Cert.AdamSquareIdeal.Gen.frame m ρ (ok m)
theorem frame_ref : Cert.quiescent_AdamSquareRefIdeal := by
  intro m g _
  refine θ_run_mono (Cert.AdamSquareRefIdeal.Value.run m g) fun r h => ⟨fun c => (h c).2.2.2.2, sem_eq_zero_of_no_sems (by decide) r.2⟩

theorem algebraic : Cert.algebraic_AdamSquareIdeal_AdamSquareRefIdeal := by
  intro m g m' g' hpre hagree
  refine ⟨fun c => val_main_v5 (m ((c.tc : Thread nD τ).loc main_arg0)) (m ((c.tc : Thread nD τ).loc main_arg1)), fun c => val_main_v29 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v10 (m ((c.tc : Thread nD τ).loc main_arg0)) (m ((c.tc : Thread nD τ).loc main_arg1)) (m ((c.tc : Thread nD τ).loc main_arg3)), fun c => val_main_v16 (m ((c.tc : Thread nD τ).loc main_arg0)) (m ((c.tc : Thread nD τ).loc main_arg1)) (m ((c.tc : Thread nD τ).loc main_arg4)), ?_, ?_⟩
  · refine θ_run_mono (run m g) fun r h c => ?_
    obtain ⟨h5, h6, h7, h8, ha⟩ := h c
    exact ⟨h5.trans (final5 m c), h6.trans (final6 m c), h7.trans (final7 m c), h8.trans (final8 m c), ha⟩
  · refine θ_run_mono (Cert.AdamSquareRefIdeal.Value.run m' g') fun r h c => ?_
    obtain ⟨h5, h6, h7, h8, ha⟩ := h c
    obtain ⟨e0, e1, e2, e3, e4⟩ := hagree c
    refine ⟨h5.trans ?_, h6.trans ?_, h7.trans ?_, h8.trans ?_, ha⟩
    · rw [e0, e1]; rfl
    · rw [e0, e1, e2, e3, e4]; rfl
    · rw [e0, e1, e3]; rfl
    · rw [e0, e1, e4]; rfl

end Cert.AdamSquareCall
end
-- ==== Proof.CallAttnBr.lean ====
/-
  The attention branch's output product, its weights kept in eight blocks of 256 columns: the kernel's result
  array is the reference's.
-/
module

public import proofs.«01_k».proof.Defs
public import proofs.«01_k».proof.Proof.Gen.AttnBr.Frame
public import proofs.«01_k».proof.Proof.Gen.AttnBrIdeal.Frame
public import proofs.«01_k».proof.Proof.Gen.AttnBrRefIdeal.Run
public import proofs.«01_k».proof.Proof.Gen.AttnBrRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.AttnBrCall

open Idealize.ShloMosaic Idealize.ShloMosaic.TcCoe Idealize.SL.Sem
open Idealize.ShloMosaic.Pipeline (Dat)
open Cert.AttnBrIdeal Cert.AttnBrIdeal.Gen
open Cert.AttnBrRefIdeal.Read (val_main_v0 val_main_v1 val_main_v2 val_main_v3 val_main_v4)

variable (m : (ℓ : Loc nD τ sig) → Buf (Elt Ideal) ℓ)

/-- The reference's result as a function of the arguments. -/
abbrev ref (x0 : FVec Ideal S2048x1024 .bf16) (x1 : FVec Ideal S8x1024x256 .bf16) : FVec Ideal S2048x2048 .f32 :=
  Cert.AttnBrRefIdeal.Read.val_main_v4 (F := Ideal) x0 x1

/-- The windows' block indices at every point of the grid. -/
theorem idx : ∀ t : Fin cfg0.N, win0_0.index t = ![(grid0.coords t 0).val, 0]
    ∧ win0_1.index t = ![(grid0.coords t 1).val, 0, 0]
    ∧ win0_2.index t = ![(grid0.coords t 0).val, (grid0.coords t 1).val] :=
  (by decide +kernel : ∀ t : Fin grid0.N, _)

/-- A tile of the result. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_v2, val_main_v3, val_main_v4]
  blk_point [iblk, V, idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_AttnBr := fun m ρ _ => Cert.AttnBr.Gen.frame m ρ
theorem frame_ideal : Cert.quiescent_AttnBrIdeal := fun m ρ _ => Cert.AttnBrIdeal.Gen.frame m ρ
theorem frame_ref : Cert.quiescent_AttnBrRefIdeal := by
  intro m g _
  refine θ_run_mono (Cert.AttnBrRefIdeal.Value.run m g) fun r h => ⟨fun c => (h c).2, sem_eq_zero_of_no_sems (by decide) r.2⟩

theorem algebraic : Cert.algebraic_AttnBrIdeal_AttnBrRefIdeal := by
  pair_intro
  · run_from Cert.AttnBrIdeal.Gen.run_main m g
  · run_from Cert.AttnBrRefIdeal.Value.run m' g'
    · exact (final m c).symm

end Cert.AttnBrCall
end
-- ==== Proof.CallAttnBrBwd.lean ====
/-
  The gradient of the attention output, `dout · wᵀ` with the weights in eight column blocks: the kernel adds up one
  block's product per grid point in a scratch accumulator and writes the tile at the eighth. The result array is the
  reference's product, which contracts all the columns at once.
-/
module

public import proofs.«01_k».proof.Defs
public import proofs.«01_k».proof.Proof.Gen.AttnBrBwd.Frame
public import proofs.«01_k».proof.Proof.Gen.AttnBrBwdIdeal.Frame
public import proofs.«01_k».proof.Proof.Gen.AttnBrBwdRefIdeal.Run
public import proofs.«01_k».proof.Proof.Gen.AttnBrBwdRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.AttnBrBwdCall

open Idealize.ShloMosaic Idealize.ShloMosaic.TcCoe Idealize.SL.Sem
open Idealize.ShloMosaic.Pipeline (Dat)
open Cert.AttnBrBwdIdeal Cert.AttnBrBwdIdeal.Gen
open Cert.AttnBrBwdRefIdeal.Read (val_main_v0 val_main_v1 val_main_v2 val_main_v3 val_main_v6 val_main_v7)

variable (m : (ℓ : Loc nD τ sig) → Buf (Elt Ideal) ℓ)

/-- The reference's result as a function of the arguments. -/
abbrev ref (x0 : FVec Ideal S2048x2048 .bf16) (x1 : FVec Ideal S8x1024x256 .bf16) : FVec Ideal S2048x1024 .bf16 :=
  Cert.AttnBrBwdRefIdeal.Read.val_main_v7 (F := Ideal) x0 x1

/-- The windows' block indices at every point of the grid. -/
theorem idx : ∀ t : Fin cfg0.N, win0_0.index t = ![t.val / 8, t.val % 8]
    ∧ win0_1.index t = ![t.val % 8, 0, 0]
    ∧ win0_2.index t = ![t.val / 8, 0] :=
  (by decide +kernel : ∀ t : Fin grid0.N, _)

/-- One point's contribution to an element of the accumulator. -/
def part (c : Dev nD) (t : Fin cfg0.N) (y : S1024x1024.Idx) : EReal :=
  ∑ k : Fin 256, (show EReal from (iblk m c 0 t) (ix2 (y 0) k)) * (show EReal from (iblk m c 1 t) (ix3 (0 : Fin 1) (y 1) k))

theorem step_eq (x : Vec Ideal S1024x1024 .f32) (c : Dev nD) (t : Fin cfg0.N) (y : S1024x1024.Idx) :
    k0_pay2 x (iblk m c 0 t) (iblk m c 1 t) y = x y + part m c t y := by
  pointwise [k0_pay2]
  rfl

theorem zero_eq (y : S1024x1024.Idx) : k0_pay1 (F := Ideal) y = 0 := by
  pointwise [k0_pay1]

/-- The accumulator after the first point of a run. -/
theorem acc_first (c : Dev nD) (t : Fin cfg0.N) (h : t.val % 8 = 0) (y : S1024x1024.Idx) :
    (outsAt0 m c t.val t.isLt).2 y = 0 + part m c t y := by
  rw [outsAt0_A m c t h (by omega)]; frame_out
  rw [step_eq, zero_eq]

/-- The accumulator after a later point of a run. -/
theorem acc_later (c : Dev nD) (t : Fin cfg0.N) (h : ¬ t.val % 8 = 0) (y : S1024x1024.Idx) :
    (outsAt0 m c t.val t.isLt).2 y
      = (outsAt0 m c (t.val - 1) (Nat.lt_of_le_of_lt (Nat.sub_le _ _) t.isLt)).2 y + part m c t y := by
  by_cases h7 : t.val % 8 = 7
  · rw [outsAt0_C m c t h h7]; frame_out
    rw [step_eq]; exact congrArg (· + _) (congrFun ((Memref.isWhole_whole (sig := sig) (κ := .tc) cc0_scratch0).read_unread (Val := Elt Ideal) (outsAt0 m c (t.val - 1) (Nat.lt_of_le_of_lt (Nat.sub_le _ _) t.isLt)).2) y)
  · rw [outsAt0_B m c t h h7]; frame_out
    rw [step_eq]; exact congrArg (· + _) (congrFun ((Memref.isWhole_whole (sig := sig) (κ := .tc) cc0_scratch0).read_unread (Val := Elt Ideal) (outsAt0 m c (t.val - 1) (Nat.lt_of_le_of_lt (Nat.sub_le _ _) t.isLt)).2) y)

/-- At the last point of a run the result's tile is the accumulator. -/
theorem out_last (c : Dev nD) (t : Fin cfg0.N) (h7 : t.val % 8 = 7) (y : S1024x1024.Idx) :
    (outsAt0 m c t.val t.isLt).1 y = (outsAt0 m c t.val t.isLt).2 y := by
  rw [outsAt0_C m c t (by omega) h7]; frame_out
  pointwise [k0_pay3]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2, out_last m c t ((flush0_2 t).mp hf),
    Pipeline.eq_sum_fin_of_reset_step_apply_of_flush (fun n h => (outsAt0 m c n h).2) 8 (fun _ => 0) (fun t y => part m c t y)
      (fun t h j => acc_first m c t h j) (fun t h j => acc_later m c t h j) t ((flush0_2 t).mp hf) _, zero_add]
  pointwise [ref, val_main_v0, val_main_v1, val_main_v2, val_main_v3, val_main_v6, val_main_v7]
  unfold part
  refine Fin.sum_mul_add_congr fun s k hl => ?_
  refine congrArg₂ (fun a b : EReal => a * b) (congrArg (m ((c : Thread nD τ).loc main_arg0)) ?_)
    (congrArg (m ((c : Thread nD τ).loc main_arg1)) ?_)
  · blk_ext [idx t, idx ⟨_, Pipeline.run_point_lt_of_flush t ((flush0_2 t).mp hf) s⟩]
  · blk_ext [idx t, idx ⟨_, Pipeline.run_point_lt_of_flush t ((flush0_2 t).mp hf) s⟩]

theorem frame_kernel : Cert.quiescent_AttnBrBwd := fun m ρ _ => Cert.AttnBrBwd.Gen.frame m ρ
theorem frame_ideal : Cert.quiescent_AttnBrBwdIdeal := fun m ρ _ => Cert.AttnBrBwdIdeal.Gen.frame m ρ
theorem frame_ref : Cert.quiescent_AttnBrBwdRefIdeal := by
  intro m g _
  refine θ_run_mono (Cert.AttnBrBwdRefIdeal.Value.run m g) fun r h => ⟨fun c => (h c).2, sem_eq_zero_of_no_sems (by decide) r.2⟩

theorem algebraic : Cert.algebraic_AttnBrBwdIdeal_AttnBrBwdRefIdeal := by
  pair_intro
  · run_from Cert.AttnBrBwdIdeal.Gen.run_main m g
  · run_from Cert.AttnBrBwdRefIdeal.Value.run m' g'
    · exact (final m c).symm

end Cert.AttnBrBwdCall
end
-- ==== Proof.CallDIn.lean ====
/-
  The gradient of the input of the input projection, `dproj · winᵀ`, computed by two pallas_calls: the first writes
  rows 0 to 511 of the result, the second copies the array and writes rows 512 to 2047 in place. The array the second
  call leaves is the reference's product.
-/
module

public import proofs.«01_k».proof.Defs
public import proofs.«01_k».proof.Proof.Gen.DIn.Frame
public import proofs.«01_k».proof.Proof.Gen.DInIdeal.Frame
public import proofs.«01_k».proof.Proof.Gen.DInRefIdeal.Run
public import proofs.«01_k».proof.Proof.Gen.DInRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.DInCall

open Idealize.SL Idealize.SL.RA Idealize.SL.BI
open scoped Idealize.SL.BI
open Idealize.SL.BI.BIBase Idealize.SL.BI.Laws Idealize.SL.ProofMode
open Idealize.ShloMosaic Idealize.ShloMosaic.TcCoe Idealize.SL.Sem
open Idealize.ShloMosaic.Rounds
open Idealize.ShloMosaic.Pipeline (Dat)
open Cert.DInIdeal Cert.DInIdeal.Gen
open Cert.DInRefIdeal.Read (val_main_v0 val_main_v1 val_main_v3 val_main_v5)

local notation "𝕄" => MT nD τ sig Unit (Elt Ideal) ℕ (UR sig nD τ) ℕ

variable (m : (ℓ : Loc nD τ sig) → Buf (Elt Ideal) ℓ) (ρ : Dev nD → PrngReg)

/-- The reference's result as a function of the arguments. -/
abbrev ref (x0 : FVec Ideal S2048x10880 .bf16) (x1 : FVec Ideal S10880x2048 .bf16) : FVec Ideal S2048x2048 .f32 :=
  Cert.DInRefIdeal.Read.val_main_v5 (F := Ideal) x0 x1

/-- The windows' block indices of the first call. -/
theorem idx0 : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The windows' block indices of the second call. -/
theorem idx1 : ∀ t : Fin cfg1.N, win1_0.index t = ![(grid1.coords t 0).val + 1, 0]
    ∧ win1_1.index t = ![0, (grid1.coords t 1).val]
    ∧ win1_2.index t = ![(grid1.coords t 0).val + 1, (grid1.coords t 1).val] :=
  (by decide +kernel : ∀ t : Fin grid1.N, _)

variable (V : (c : Dev nD) → (b : Ref sig .tc) → Buf (Elt Ideal) ((c : Thread nD τ).loc b))

/-- A tile of the first call's result. -/
theorem point0 (c : Dev nD) (t : Fin cfg0.N) (y) : k0_pay1 (iblk0 V c 0 t) (iblk0 V c 1 t) y
    = ref (V c main_arg0) (V c main_arg1) (((cfg0.win 2).blk t).view.emb y) := by
  pointwise [k0_pay1, ref, val_main_v0, val_main_v1, val_main_v3, val_main_v5]
  blk_point [iblk0, idx0 t]

/-- A tile of the second call's result. -/
theorem point1 (c : Dev nD) (t : Fin cfg1.N) (y) : k1_pay1 (iblk1 V c 0 t) (iblk1 V c 1 t) y
    = ref (V c main_arg0) (V c main_arg1) (((cfg1.win 2).blk t).view.emb y) := by
  pointwise [k1_pay1, ref, val_main_v0, val_main_v1, val_main_v3, val_main_v5]
  blk_point [iblk1, idx1 t]

/-- The array the first call leaves: the product on the first 512 rows. -/
theorem final0 (c : Dev nD) : (dat0 V c).arrAt 2 cfg0.N
    = fun i => if (i 0 : ℕ) / 512 < 1 then ref (V c main_arg0) (V c main_arg1) i else (dat0 V c).A 2 i := by
  refine (dat0 V c).arrAt_eq_of_coversWhere 2 _ (fun β => β (0 : Fin _) < 1) (by decide +kernel)
    (fun t _ y => ?_) (fun j => Iff.rfl)
  blk_simp
  rw [after0_2]; frame_out
  exact point0 V c t y

/-- The array the second call leaves: the product on the other rows, the first 512 as found. -/
theorem final1 (c : Dev nD) : (dat1 V c).arrAt 2 cfg1.N
    = fun i => if 1 ≤ (i 0 : ℕ) / 512 then ref (V c main_arg0) (V c main_arg1) i else (dat1 V c).A 2 i := by
  refine (dat1 V c).arrAt_eq_of_coversWhere 2 _ (fun β => 1 ≤ β (0 : Fin _)) (by decide +kernel)
    (fun t _ y => ?_) (fun j => Iff.rfl)
  blk_simp
  rw [after1_2]; unfold outsAt1; frame_out
  exact point1 V c t y

/-- The second call finds in its result array what the first left. -/
theorem entry (c : Dev nD) : V2 m ρ c main_v1 = (dat0 (V0 m ρ) c).arrAt 2 cfg0.N := by
  refine Eq.trans ?_ (W1_arr m ρ c 2)
  show StableHlo.after hostOps1 (W1 m ρ c) _ = _
  after_results
  rfl

/-- The array the program returns. -/
theorem final (c : Dev nD) : (dat1 (V2 m ρ) c).arrAt 2 cfg1.N
    = ref (m ((c : Thread nD τ).loc main_arg0)) (m ((c : Thread nD τ).loc main_arg1)) := by
  rw [final1]
  funext i
  have a0 : V2 m ρ c main_arg0 = m ((c : Thread nD τ).loc main_arg0) := W2_args m ρ c main_arg0 (by decide)
  have a1 : V2 m ρ c main_arg1 = m ((c : Thread nD τ).loc main_arg1) := W2_args m ρ c main_arg1 (by decide)
  rw [a0, a1]
  split
  · rfl
  · rename_i hi
    have e : (dat1 (V2 m ρ) c).A 2 = (dat0 (V0 m ρ) c).arrAt 2 cfg0.N := (A_eq1 (V2 m ρ) c 2).trans (entry m ρ c)
    refine (congrFun e i).trans ?_
    rw [final0]
    exact if_pos (by omega)

set_option backward.isDefEq.respectTransparency.types false in
/-- Every execution ends with the result array as the second call leaves it, and the arguments as launched. -/
theorem run : θ_run defs (onTc (τ := τ) (main (F := Ideal))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v1 (by decide))).trans (W3_arr m ρ c 2),
       (h c _ (mem_uc main_arg0 (by decide))).trans (W3_main_arg0 m ρ c),
       (h c _ (mem_uc main_arg1 (by decide))).trans (W3_main_arg1 m ρ c)⟩)

theorem frame_kernel : Cert.quiescent_DIn := fun m ρ _ => Cert.DIn.Gen.frame m ρ
theorem frame_ideal : Cert.quiescent_DInIdeal := fun m ρ _ => Cert.DInIdeal.Gen.frame m ρ
theorem frame_ref : Cert.quiescent_DInRefIdeal := by
  intro m g _
  refine θ_run_mono (Cert.DInRefIdeal.Value.run m g) fun r h => ⟨fun c => (h c).2, sem_eq_zero_of_no_sems (by decide) r.2⟩

theorem algebraic : Cert.algebraic_DInIdeal_DInRefIdeal := by
  pair_intro
  · run_from run m g
  · run_from Cert.DInRefIdeal.Value.run m' g'
    · exact (final m g c).symm

end Cert.DInCall
end
-- ==== Proof.CallDSquare.lean ====
/-
  The gradient of a product with a square matrix with respect to its left operand, `dy · wᵀ`: the kernel's result
  array is the reference's.
-/
module

public import proofs.«01_k».proof.Defs
public import proofs.«01_k».proof.Proof.Gen.DSquare.Frame
public import proofs.«01_k».proof.Proof.Gen.DSquareIdeal.Frame
public import proofs.«01_k».proof.Proof.Gen.DSquareRefIdeal.Run
public import proofs.«01_k».proof.Proof.Gen.DSquareRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.DSquareCall

open Idealize.ShloMosaic Idealize.ShloMosaic.TcCoe Idealize.SL.Sem
open Idealize.ShloMosaic.Pipeline (Dat)
open Cert.DSquareIdeal Cert.DSquareIdeal.Gen
open Cert.DSquareRefIdeal.Read (val_main_v0 val_main_v1 val_main_v2 val_main_v3 val_main_v4 val_main_cst)

variable (m : (ℓ : Loc nD τ sig) → Buf (Elt Ideal) ℓ)

/-- The reference's result as a function of the arguments. -/
abbrev ref (x0 : FVec Ideal S2048x2048 .bf16) (x1 : FVec Ideal S2048x2048 .bf16) : FVec Ideal S2048x2048 .f32 :=
  Cert.DSquareRefIdeal.Read.val_main_v4 (F := Ideal) x0 x1

/-- The windows' block indices at every point of the grid. -/
theorem idx : ∀ t : Fin cfg0.N, win0_0.index t = ![(grid0.coords t 0).val, 0]
    ∧ win0_1.index t = ![(grid0.coords t 1).val, 0]
    ∧ win0_2.index t = ![(grid0.coords t 0).val, (grid0.coords t 1).val] :=
  (by decide +kernel : ∀ t : Fin grid0.N, _)

/-- A tile of the result. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_v2, val_main_v3, val_main_v4, val_main_cst]
  blk_point [iblk, V, idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_DSquare := fun m ρ _ => Cert.DSquare.Gen.frame m ρ
theorem frame_ideal : Cert.quiescent_DSquareIdeal := fun m ρ _ => Cert.DSquareIdeal.Gen.frame m ρ
theorem frame_ref : Cert.quiescent_DSquareRefIdeal := by
  intro m g _
  refine θ_run_mono (Cert.DSquareRefIdeal.Value.run m g) fun r h => ⟨fun c => (h c).2, sem_eq_zero_of_no_sems (by decide) r.2⟩

theorem algebraic : Cert.algebraic_DSquareIdeal_DSquareRefIdeal := by
  pair_intro
  · run_from Cert.DSquareIdeal.Gen.run_main m g
  · run_from Cert.DSquareRefIdeal.Value.run m' g'
    · exact (final m c).symm

end Cert.DSquareCall
end
-- ==== Proof.CallDwAttnBr.lean ====
/-
  The gradient of the attention branch's output weights, kept in eight blocks of 256 columns: the kernel's result
  array is the reference's.
-/
module

public import proofs.«01_k».proof.Defs
public import proofs.«01_k».proof.Proof.Gen.DwAttnBr.Frame
public import proofs.«01_k».proof.Proof.Gen.DwAttnBrIdeal.Frame
public import proofs.«01_k».proof.Proof.Gen.DwAttnBrRefIdeal.Run
public import proofs.«01_k».proof.Proof.Gen.DwAttnBrRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.DwAttnBrCall

open Idealize.ShloMosaic Idealize.ShloMosaic.TcCoe Idealize.SL.Sem
open Idealize.ShloMosaic.Pipeline (Dat)
open Cert.DwAttnBrIdeal Cert.DwAttnBrIdeal.Gen
open Cert.DwAttnBrRefIdeal.Read (val_main_v0 val_main_v1 val_main_v2 val_main_v3 val_main_v4 val_main_v5 val_main_v6 val_main_v7 val_main_v8 val_main_v9 val_main_cst val_main_v10)

variable (m : (ℓ : Loc nD τ sig) → Buf (Elt Ideal) ℓ)

/-- The reference's result as a function of the arguments. -/
abbrev ref (x0 : FVec Ideal S2048x1024 .bf16) (x1 : FVec Ideal S2048x2048 .bf16) : FVec Ideal S8x1024x256 .bf16 :=
  Cert.DwAttnBrRefIdeal.Read.val_main_v10 (F := Ideal) x0 x1

/-- The windows' block indices at every point of the grid. -/
theorem idx : ∀ t : Fin cfg0.N, win0_0.index t = ![0, 0]
    ∧ win0_1.index t = ![0, (grid0.coords t 0).val]
    ∧ win0_2.index t = ![(grid0.coords t 0).val, 0, 0] :=
  (by decide +kernel : ∀ t : Fin grid0.N, _)

/-- A tile of the result. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_v2, val_main_v3, val_main_v4, val_main_v5, val_main_v6, val_main_v7, val_main_v8, val_main_v9, val_main_cst, val_main_v10]
  refine (Finset.sum_congr rfl fun k _ => mul_comm _ _).trans ?_
  blk_point [iblk, V, idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_DwAttnBr := fun m ρ _ => Cert.DwAttnBr.Gen.frame m ρ
theorem frame_ideal : Cert.quiescent_DwAttnBrIdeal := fun m ρ _ => Cert.DwAttnBrIdeal.Gen.frame m ρ
theorem frame_ref : Cert.quiescent_DwAttnBrRefIdeal := by
  intro m g _
  refine θ_run_mono (Cert.DwAttnBrRefIdeal.Value.run m g) fun r h => ⟨fun c => (h c).2, sem_eq_zero_of_no_sems (by decide) r.2⟩

theorem algebraic : Cert.algebraic_DwAttnBrIdeal_DwAttnBrRefIdeal := by
  pair_intro
  · run_from Cert.DwAttnBrIdeal.Gen.run_main m g
  · run_from Cert.DwAttnBrRefIdeal.Value.run m' g'
    · exact (final m c).symm

end Cert.DwAttnBrCall
end
-- ==== Proof.CallDwFfn.lean ====
/-
  The gradient of a feed-forward weight matrix, `xᵀ · dy`: the kernel's result array is the reference's, which
  multiplies the two factors the other way round and transposes.
-/
module

public import proofs.«01_k».proof.Defs
public import proofs.«01_k».proof.Proof.Gen.DwFfn.Frame
public import proofs.«01_k».proof.Proof.Gen.DwFfnIdeal.Frame
public import proofs.«01_k».proof.Proof.Gen.DwFfnRefIdeal.Run
public import proofs.«01_k».proof.Proof.Gen.DwFfnRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.DwFfnCall

open Idealize.ShloMosaic Idealize.ShloMosaic.TcCoe Idealize.SL.Sem
open Idealize.ShloMosaic.Pipeline (Dat)
open Cert.DwFfnIdeal Cert.DwFfnIdeal.Gen
open Cert.DwFfnRefIdeal.Read (val_main_v0 val_main_v1 val_main_v2 val_main_v3 val_main_v4 val_main_v5 val_main_v6 val_main_cst)

variable (m : (ℓ : Loc nD τ sig) → Buf (Elt Ideal) ℓ)

/-- The reference's result as a function of the arguments. -/
abbrev ref (x0 : FVec Ideal S2048x5632 .bf16) (x1 : FVec Ideal S2048x2048 .bf16) : FVec Ideal S5632x2048 .bf16 :=
  Cert.DwFfnRefIdeal.Read.val_main_v6 (F := Ideal) x0 x1

/-- The windows' block indices at every point of the grid. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- A tile of the result. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_v2, val_main_v3, val_main_v4, val_main_v5, val_main_v6, val_main_cst]
  refine (Finset.sum_congr rfl fun k _ => mul_comm _ _).trans ?_
  blk_point [iblk, V, idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_DwFfn := fun m ρ _ => Cert.DwFfn.Gen.frame m ρ
theorem frame_ideal : Cert.quiescent_DwFfnIdeal := fun m ρ _ => Cert.DwFfnIdeal.Gen.frame m ρ
theorem frame_ref : Cert.quiescent_DwFfnRefIdeal := by
  intro m g _
  refine θ_run_mono (Cert.DwFfnRefIdeal.Value.run m g) fun r h => ⟨fun c => (h c).2, sem_eq_zero_of_no_sems (by decide) r.2⟩

theorem algebraic : Cert.algebraic_DwFfnIdeal_DwFfnRefIdeal := by
  pair_intro
  · run_from Cert.DwFfnIdeal.Gen.run_main m g
  · run_from Cert.DwFfnRefIdeal.Value.run m' g'
    · exact (final m c).symm

end Cert.DwFfnCall
end
-- ==== Proof.CallDwIn.lean ====
/-
  The gradient of the input projection's weights, `dprojᵀ · u`: the kernel's result array is the reference's,
  which transposes twice.
-/
module

public import proofs.«01_k».proof.Defs
public import proofs.«01_k».proof.Proof.Gen.DwIn.Frame
public import proofs.«01_k».proof.Proof.Gen.DwInIdeal.Frame
public import proofs.«01_k».proof.Proof.Gen.DwInRefIdeal.Run
public import proofs.«01_k».proof.Proof.Gen.DwInRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.DwInCall

open Idealize.ShloMosaic Idealize.ShloMosaic.TcCoe Idealize.SL.Sem
open Idealize.ShloMosaic.Pipeline (Dat)
open Cert.DwInIdeal Cert.DwInIdeal.Gen
open Cert.DwInRefIdeal.Read (val_main_v0 val_main_v1 val_main_v2 val_main_v3 val_main_v4 val_main_v5 val_main_v6 val_main_v7 val_main_v8 val_main_cst)

variable (m : (ℓ : Loc nD τ sig) → Buf (Elt Ideal) ℓ)

/-- The reference's result as a function of the arguments. -/
abbrev ref (x0 : FVec Ideal S2048x10880 .bf16) (x1 : FVec Ideal S2048x2048 .bf16) : FVec Ideal S10880x2048 .bf16 :=
  Cert.DwInRefIdeal.Read.val_main_v8 (F := Ideal) x0 x1

/-- The windows' block indices at every point of the grid. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- A tile of the result. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_v2, val_main_v3, val_main_v4, val_main_v5, val_main_v6, val_main_v7, val_main_v8, val_main_cst]
  blk_point [iblk, V, idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_DwIn := fun m ρ _ => Cert.DwIn.Gen.frame m ρ
theorem frame_ideal : Cert.quiescent_DwInIdeal := fun m ρ _ => Cert.DwInIdeal.Gen.frame m ρ
theorem frame_ref : Cert.quiescent_DwInRefIdeal := by
  intro m g _
  refine θ_run_mono (Cert.DwInRefIdeal.Value.run m g) fun r h => ⟨fun c => (h c).2, sem_eq_zero_of_no_sems (by decide) r.2⟩

theorem algebraic : Cert.algebraic_DwInIdeal_DwInRefIdeal := by
  pair_intro
  · run_from Cert.DwInIdeal.Gen.run_main m g
  · run_from Cert.DwInRefIdeal.Value.run m' g'
    · exact (final m c).symm

end Cert.DwInCall
end
-- ==== Proof.CallDwPleProj.lean ====
/-
  The gradient of the per-layer inputs' projection, kept in eight blocks of 256 columns: the kernel's result array
  is the reference's.
-/
module

public import proofs.«01_k».proof.Defs
public import proofs.«01_k».proof.Proof.Gen.DwPleProj.Frame
public import proofs.«01_k».proof.Proof.Gen.DwPleProjIdeal.Frame
public import proofs.«01_k».proof.Proof.Gen.DwPleProjRefIdeal.Run
public import proofs.«01_k».proof.Proof.Gen.DwPleProjRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.DwPleProjCall

open Idealize.ShloMosaic Idealize.ShloMosaic.TcCoe Idealize.SL.Sem
open Idealize.ShloMosaic.Pipeline (Dat)
open Cert.DwPleProjIdeal Cert.DwPleProjIdeal.Gen
open Cert.DwPleProjRefIdeal.Read (val_main_v0 val_main_v1 val_main_v2 val_main_v3 val_main_v4 val_main_v5 val_main_v6 val_main_v7 val_main_v8 val_main_v9 val_main_cst)

variable (m : (ℓ : Loc nD τ sig) → Buf (Elt Ideal) ℓ)

/-- The reference's result as a function of the arguments. -/
abbrev ref (x0 : FVec Ideal S2048x256 .f32) (x1 : FVec Ideal S2048x2048 .bf16) : FVec Ideal S8x256x256 .bf16 :=
  Cert.DwPleProjRefIdeal.Read.val_main_v9 (F := Ideal) x0 x1

/-- The windows' block indices at every point of the grid. -/
theorem idx : ∀ t : Fin cfg0.N, win0_0.index t = ![0, 0]
    ∧ win0_1.index t = ![0, (grid0.coords t 0).val]
    ∧ win0_2.index t = ![(grid0.coords t 0).val, 0, 0] :=
  (by decide +kernel : ∀ t : Fin grid0.N, _)

/-- A tile of the result. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_v2, val_main_v3, val_main_v4, val_main_v5, val_main_v6, val_main_v7, val_main_v8, val_main_v9, val_main_cst]
  refine (Finset.sum_congr rfl fun k _ => mul_comm _ _).trans ?_
  blk_point [iblk, V, idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_DwPleProj := fun m ρ _ => Cert.DwPleProj.Gen.frame m ρ
theorem frame_ideal : Cert.quiescent_DwPleProjIdeal := fun m ρ _ => Cert.DwPleProjIdeal.Gen.frame m ρ
theorem frame_ref : Cert.quiescent_DwPleProjRefIdeal := by
  intro m g _
  refine θ_run_mono (Cert.DwPleProjRefIdeal.Value.run m g) fun r h => ⟨fun c => (h c).2, sem_eq_zero_of_no_sems (by decide) r.2⟩

theorem algebraic : Cert.algebraic_DwPleProjIdeal_DwPleProjRefIdeal := by
  pair_intro
  · run_from Cert.DwPleProjIdeal.Gen.run_main m g
  · run_from Cert.DwPleProjRefIdeal.Value.run m' g'
    · exact (final m c).symm

end Cert.DwPleProjCall
end
-- ==== Proof.CallDwSquare.lean ====
/-
  The gradient of a square weight matrix, `xᵀ · dy`: the kernel's result array is the reference's, which
  multiplies the two factors the other way round and transposes.
-/
module

public import proofs.«01_k».proof.Defs
public import proofs.«01_k».proof.Proof.Gen.DwSquare.Frame
public import proofs.«01_k».proof.Proof.Gen.DwSquareIdeal.Frame
public import proofs.«01_k».proof.Proof.Gen.DwSquareRefIdeal.Run
public import proofs.«01_k».proof.Proof.Gen.DwSquareRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.DwSquareCall

open Idealize.ShloMosaic Idealize.ShloMosaic.TcCoe Idealize.SL.Sem
open Idealize.ShloMosaic.Pipeline (Dat)
open Cert.DwSquareIdeal Cert.DwSquareIdeal.Gen
open Cert.DwSquareRefIdeal.Read (val_main_v0 val_main_v1 val_main_v2 val_main_v3 val_main_v4 val_main_v5 val_main_v6 val_main_cst)

variable (m : (ℓ : Loc nD τ sig) → Buf (Elt Ideal) ℓ)

/-- The reference's result as a function of the arguments. -/
abbrev ref (x0 : FVec Ideal S2048x2048 .bf16) (x1 : FVec Ideal S2048x2048 .bf16) : FVec Ideal S2048x2048 .bf16 :=
  Cert.DwSquareRefIdeal.Read.val_main_v6 (F := Ideal) x0 x1

/-- The windows' block indices at every point of the grid. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- A tile of the result. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_v2, val_main_v3, val_main_v4, val_main_v5, val_main_v6, val_main_cst]
  refine (Finset.sum_congr rfl fun k _ => mul_comm _ _).trans ?_
  blk_point [iblk, V, idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_DwSquare := fun m ρ _ => Cert.DwSquare.Gen.frame m ρ
theorem frame_ideal : Cert.quiescent_DwSquareIdeal := fun m ρ _ => Cert.DwSquareIdeal.Gen.frame m ρ
theorem frame_ref : Cert.quiescent_DwSquareRefIdeal := by
  intro m g _
  refine θ_run_mono (Cert.DwSquareRefIdeal.Value.run m g) fun r h => ⟨fun c => (h c).2, sem_eq_zero_of_no_sems (by decide) r.2⟩

theorem algebraic : Cert.algebraic_DwSquareIdeal_DwSquareRefIdeal := by
  pair_intro
  · run_from Cert.DwSquareIdeal.Gen.run_main m g
  · run_from Cert.DwSquareRefIdeal.Value.run m' g'
    · exact (final m c).symm

end Cert.DwSquareCall
end
-- ==== Proof.CallFfnDown.lean ====
/-
  The feed-forward block's second product added to the residual: the kernel's result array is the reference's.
-/
module

public import proofs.«01_k».proof.Defs
public import proofs.«01_k».proof.Proof.Gen.FfnDown.Frame
public import proofs.«01_k».proof.Proof.Gen.FfnDownIdeal.Frame
public import proofs.«01_k».proof.Proof.Gen.FfnDownRefIdeal.Run
public import proofs.«01_k».proof.Proof.Gen.FfnDownRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.FfnDownCall

open Idealize.ShloMosaic Idealize.ShloMosaic.TcCoe Idealize.SL.Sem
open Idealize.ShloMosaic.Pipeline (Dat)
open Cert.FfnDownIdeal Cert.FfnDownIdeal.Gen
open Cert.FfnDownRefIdeal.Read (val_main_v0 val_main_v1 val_main_v2 val_main_v3)

variable (m : (ℓ : Loc nD τ sig) → Buf (Elt Ideal) ℓ)

/-- The reference's result as a function of the arguments. -/
abbrev ref (x0 : FVec Ideal S2048x5632 .bf16) (x1 : FVec Ideal S5632x2048 .bf16) (x2 : FVec Ideal S2048x2048 .f32) : FVec Ideal S2048x2048 .f32 :=
  Cert.FfnDownRefIdeal.Read.val_main_v3 (F := Ideal) x0 x1 x2

/-- The windows' block indices at every point of the grid. -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

/-- A tile of the result. -/
theorem point (c : Dev nD) (t : Fin cfg0.N) (y) : k0_pay1 (iblk m c 0 t) (iblk m c 1 t) (iblk m c 2 t) y
    = ref (m ((c : Thread nD τ).loc main_arg0)) (m ((c : Thread nD τ).loc main_arg1)) (m ((c : Thread nD τ).loc main_arg2)) (((cfg0.win 3).blk t).view.emb y) := by
  pointwise [k0_pay1, ref, val_main_v0, val_main_v1, val_main_v2, val_main_v3]
  rw [add_comm]
  blk_point [iblk, V, idx t]

theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

theorem frame_kernel : Cert.quiescent_FfnDown := fun m ρ _ => Cert.FfnDown.Gen.frame m ρ
theorem frame_ideal : Cert.quiescent_FfnDownIdeal := fun m ρ _ => Cert.FfnDownIdeal.Gen.frame m ρ
theorem frame_ref : Cert.quiescent_FfnDownRefIdeal := by
  intro m g _
  refine θ_run_mono (Cert.FfnDownRefIdeal.Value.run m g) fun r h => ⟨fun c => (h c).2, sem_eq_zero_of_no_sems (by decide) r.2⟩

theorem algebraic : Cert.algebraic_FfnDownIdeal_FfnDownRefIdeal := by
  pair_intro
  · run_from Cert.FfnDownIdeal.Gen.run_main m g
  · run_from Cert.FfnDownRefIdeal.Value.run m' g'
    · exact (final m c).symm

end Cert.FfnDownCall
end
-- ==== Proof.CallFfnUp.lean ====
/-
  The feed-forward block's first products, `gate = f · Wgᵀ`, `up = f · Wuᵀ`, and `silu(gate) · up`: the kernel's
  three result arrays are the reference's.
-/
module

public import proofs.«01_k».proof.Defs
public import proofs.«01_k».proof.Proof.Gen.FfnUp.Frame
public import proofs.«01_k».proof.Proof.Gen.FfnUpIdeal.Frame
public import proofs.«01_k».proof.Proof.Gen.FfnUpRefIdeal.Run
public import proofs.«01_k».proof.Proof.Gen.FfnUpRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.FfnUpCall

open Idealize.ShloMosaic Idealize.ShloMosaic.TcCoe Idealize.SL.Sem
open Idealize.ShloMosaic.Pipeline (Dat)
open Cert.FfnUpIdeal Cert.FfnUpIdeal.Gen
open Cert.FfnUpRefIdeal.Read (val_main_v0 val_main_v1 val_main_v2 val_main_v3 val_main_v4 val_main_v5 val_main_v6 val_main_v7 val_main_v8 val_main_v9 val_main_v10 val_main_v11 val_main_call0_v0 val_main_call0_v1 val_main_call0_v2 val_main_call0_v3 val_main_call0_v4 val_main_call0_v5 val_main_call0_cst val_main_call0_cst_0)

variable (m : (ℓ : Loc nD τ sig) → Buf (Elt Ideal) ℓ)

/-- The reference's result 0 as a function of the arguments. -/
abbrev ref0 (x0 : FVec Ideal S2048x2048 .bf16) (x1 : FVec Ideal S5632x2048 .bf16) : FVec Ideal S2048x5632 .bf16 :=
  Cert.FfnUpRefIdeal.Read.val_main_v9 (F := Ideal) x0 x1

/-- The reference's result 1 as a function of the arguments. -/
abbrev ref1 (x0 : FVec Ideal S2048x2048 .bf16) (x2 : FVec Ideal S5632x2048 .bf16) : FVec Ideal S2048x5632 .bf16 :=
  Cert.FfnUpRefIdeal.Read.val_main_v10 (F := Ideal) x0 x2

/-- The reference's result 2 as a function of the arguments. -/
abbrev ref2 (x0 : FVec Ideal S2048x2048 .bf16) (x1 : FVec Ideal S5632x2048 .bf16) (x2 : FVec Ideal S5632x2048 .bf16) : FVec Ideal S2048x5632 .bf16 :=
  Cert.FfnUpRefIdeal.Read.val_main_v11 (F := Ideal) x0 x1 x2

/-- The windows' block indices at every point of the grid. -/
theorem idx : ∀ t : Fin cfg0.N, win0_0.index t = ![(grid0.coords t 0).val, 0]
    ∧ win0_1.index t = ![(grid0.coords t 1).val, 0]
    ∧ win0_2.index t = ![(grid0.coords t 1).val, 0]
    ∧ win0_3.index t = ![(grid0.coords t 0).val, (grid0.coords t 1).val]
    ∧ win0_4.index t = ![(grid0.coords t 0).val, (grid0.coords t 1).val]
    ∧ win0_5.index t = ![(grid0.coords t 0).val, (grid0.coords t 1).val] :=
  (by decide +kernel : ∀ t : Fin grid0.N, _)

/-- A tile of the result 0. -/
theorem point0 (c : Dev nD) (t : Fin cfg0.N) (y) : k0_pay3 (iblk m c 0 t) (iblk m c 1 t) y
    = ref0 (m ((c : Thread nD τ).loc main_arg0)) (m ((c : Thread nD τ).loc main_arg1)) (((cfg0.win 3).blk t).view.emb y) := by
  pointwise [k0_pay1, k0_pay2, k0_pay3, k0_pay4, k0_pay5, ref0, val_main_v0, val_main_v1, val_main_v2, val_main_v3, val_main_v4, val_main_v5, val_main_v6, val_main_v7, val_main_v8, val_main_v9, val_main_v10, val_main_v11, val_main_call0_v0, val_main_call0_v1, val_main_call0_v2, val_main_call0_v3, val_main_call0_v4, val_main_call0_v5, val_main_call0_cst, val_main_call0_cst_0]
  blk_point [iblk, V, idx t]

theorem final0 (c : Dev nD) : (dats m 0 c).arrAt 3 (cfgs 0).N
    = ref0 (m ((c : Thread nD τ).loc main_arg0)) (m ((c : Thread nD τ).loc main_arg1)) := by
  refine (dats m 0 c).arrAt_eq_of_covers 3 _ (by decide +kernel) fun t _ y => ?_
  blk_simp
  rw [after0_3]; frame_out
  exact point0 m c t y

/-- A tile of the result 1. -/
theorem point1 (c : Dev nD) (t : Fin cfg0.N) (y) : k0_pay4 (iblk m c 0 t) (iblk m c 2 t) y
    = ref1 (m ((c : Thread nD τ).loc main_arg0)) (m ((c : Thread nD τ).loc main_arg2)) (((cfg0.win 4).blk t).view.emb y) := by
  pointwise [k0_pay1, k0_pay2, k0_pay3, k0_pay4, k0_pay5, ref1, val_main_v0, val_main_v1, val_main_v2, val_main_v3, val_main_v4, val_main_v5, val_main_v6, val_main_v7, val_main_v8, val_main_v9, val_main_v10, val_main_v11, val_main_call0_v0, val_main_call0_v1, val_main_call0_v2, val_main_call0_v3, val_main_call0_v4, val_main_call0_v5, val_main_call0_cst, val_main_call0_cst_0]
  blk_point [iblk, V, idx t]

theorem final1 (c : Dev nD) : (dats m 0 c).arrAt 4 (cfgs 0).N
    = ref1 (m ((c : Thread nD τ).loc main_arg0)) (m ((c : Thread nD τ).loc main_arg2)) := by
  refine (dats m 0 c).arrAt_eq_of_covers 4 _ (by decide +kernel) fun t _ y => ?_
  blk_simp
  rw [after0_4]; frame_out
  exact point1 m c t y

/-- A tile of the result 2. -/
theorem point2 (c : Dev nD) (t : Fin cfg0.N) (y) : k0_pay5 (iblk m c 0 t) (iblk m c 1 t) (iblk m c 2 t) y
    = ref2 (m ((c : Thread nD τ).loc main_arg0)) (m ((c : Thread nD τ).loc main_arg1)) (m ((c : Thread nD τ).loc main_arg2)) (((cfg0.win 5).blk t).view.emb y) := by
  pointwise [k0_pay1, k0_pay2, k0_pay3, k0_pay4, k0_pay5, ref2, val_main_v0, val_main_v1, val_main_v2, val_main_v3, val_main_v4, val_main_v5, val_main_v6, val_main_v7, val_main_v8, val_main_v9, val_main_v10, val_main_v11, val_main_call0_v0, val_main_call0_v1, val_main_call0_v2, val_main_call0_v3, val_main_call0_v4, val_main_call0_v5, val_main_call0_cst, val_main_call0_cst_0]
  simp only [zero_sub]
  blk_point [iblk, V, idx t]

theorem final2 (c : Dev nD) : (dats m 0 c).arrAt 5 (cfgs 0).N
    = ref2 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point2 m c t y

theorem frame_kernel : Cert.quiescent_FfnUp := fun m ρ _ => Cert.FfnUp.Gen.frame m ρ
theorem frame_ideal : Cert.quiescent_FfnUpIdeal := fun m ρ _ => Cert.FfnUpIdeal.Gen.frame m ρ
theorem frame_ref : Cert.quiescent_FfnUpRefIdeal := by
  intro m g _
  refine θ_run_mono (Cert.FfnUpRefIdeal.Value.run m g) fun r h => ⟨fun c => (h c).2.2.2, sem_eq_zero_of_no_sems (by decide) r.2⟩

theorem algebraic : Cert.algebraic_FfnUpIdeal_FfnUpRefIdeal := by
  pair_intro
  · run_from Cert.FfnUpIdeal.Gen.run_main m g
  · run_from Cert.FfnUpRefIdeal.Value.run m' g'
    · exact (final0 m c).symm
    · exact (final1 m c).symm
    · exact (final2 m c).symm

end Cert.FfnUpCall
end
-- ==== Proof.CallFfnUpBwd.lean ====
/-
  The gradient of the feed-forward block's first products with respect to their common operand, `dgate · Wg + dup
  · Wu`: the kernel's result array is the reference's, which adds the two products the other way round.
-/
module

public import proofs.«01_k».proof.Defs
public import proofs.«01_k».proof.Proof.Gen.FfnUpBwd.Frame
public import proofs.«01_k».proof.Proof.Gen.FfnUpBwdIdeal.Frame
public import proofs.«01_k».proof.Proof.Gen.FfnUpBwdRefIdeal.Run
public import proofs.«01_k».proof.Proof.Gen.FfnUpBwdRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.FfnUpBwdCall

open Idealize.ShloMosaic Idealize.ShloMosaic.TcCoe Idealize.SL.Sem
open Idealize.ShloMosaic.Pipeline (Dat)
open Cert.FfnUpBwdIdeal Cert.FfnUpBwdIdeal.Gen
open Cert.FfnUpBwdRefIdeal.Read (val_main_v0 val_main_v1 val_main_v2 val_main_v3 val_main_v4 val_main_v5 val_main_v6 val_main_v7 val_main_v8 val_main_v9 val_main_cst val_main_v10 val_main_v11)

variable (m : (ℓ : Loc nD τ sig) → Buf (Elt Ideal) ℓ)

/-- The reference's result as a function of the arguments. -/
abbrev ref (x0 : FVec Ideal S2048x5632 .bf16) (x1 : FVec Ideal S2048x5632 .bf16) (x2 : FVec Ideal S5632x2048 .bf16) (x3 : FVec Ideal S5632x2048 .bf16) : FVec Ideal S2048x2048 .f32 :=
  Cert.FfnUpBwdRefIdeal.Read.val_main_v11 (F := Ideal) x0 x1 x2 x3

/-- The windows' block indices at every point of the grid. -/
theorem idx : ∀ t : Fin cfg0.N, win0_0.index t = ![(grid0.coords t 0).val, 0]
    ∧ win0_1.index t = ![0, (grid0.coords t 1).val]
    ∧ win0_2.index t = ![(grid0.coords t 0).val, 0]
    ∧ win0_3.index t = ![0, (grid0.coords t 1).val]
    ∧ win0_4.index t = ![(grid0.coords t 0).val, (grid0.coords t 1).val] :=
  (by decide +kernel : ∀ t : Fin grid0.N, _)

/-- A tile of the result. -/
theorem point (c : Dev nD) (t : Fin cfg0.N) (y) : k0_pay1 (iblk m c 0 t) (iblk m c 1 t) (iblk m c 2 t) (iblk m c 3 t) y
    = ref (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, ref, val_main_v0, val_main_v1, val_main_v2, val_main_v3, val_main_v4, val_main_v5, val_main_v6, val_main_v7, val_main_v8, val_main_v9, val_main_cst, val_main_v10, val_main_v11]
  rw [add_comm]
  blk_point [iblk, V, idx t]

theorem final (c : Dev nD) : (dats m 0 c).arrAt 4 (cfgs 0).N
    = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

theorem frame_kernel : Cert.quiescent_FfnUpBwd := fun m ρ _ => Cert.FfnUpBwd.Gen.frame m ρ
theorem frame_ideal : Cert.quiescent_FfnUpBwdIdeal := fun m ρ _ => Cert.FfnUpBwdIdeal.Gen.frame m ρ
theorem frame_ref : Cert.quiescent_FfnUpBwdRefIdeal := by
  intro m g _
  refine θ_run_mono (Cert.FfnUpBwdRefIdeal.Value.run m g) fun r h => ⟨fun c => (h c).2, sem_eq_zero_of_no_sems (by decide) r.2⟩

theorem algebraic : Cert.algebraic_FfnUpBwdIdeal_FfnUpBwdRefIdeal := by
  pair_intro
  · run_from Cert.FfnUpBwdIdeal.Gen.run_main m g
  · run_from Cert.FfnUpBwdRefIdeal.Value.run m' g'
    · exact (final m c).symm

end Cert.FfnUpBwdCall
end
-- ==== Proof.CallGnormFwd.lean ====
/-
  The gated RMS norm: the kernel's result array is the reference's.
-/
module

public import proofs.«01_k».proof.Defs
public import proofs.«01_k».proof.Proof.Gen.GnormFwd.Frame
public import proofs.«01_k».proof.Proof.Gen.GnormFwdIdeal.Frame
public import proofs.«01_k».proof.Proof.Gen.GnormFwdRefIdeal.Run
public import proofs.«01_k».proof.Proof.Gen.GnormFwdRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.GnormFwdCall

open Idealize.ShloMosaic Idealize.ShloMosaic.TcCoe Idealize.SL.Sem
open Idealize.ShloMosaic.Pipeline (Dat)
open Cert.GnormFwdIdeal Cert.GnormFwdIdeal.Gen
open Cert.GnormFwdRefIdeal.Read (val_main_v0 val_main_v1 val_main_v2 val_main_v3 val_main_v4 val_main_v5 val_main_v6 val_main_v7 val_main_v8 val_main_v9 val_main_cst val_main_v10 val_main_v11 val_main_v12 val_main_v13 val_main_v14 val_main_v15 val_main_cst_0 val_main_cst_1 val_main_call0_v0 val_main_call0_v1 val_main_call0_v2 val_main_call0_v3 val_main_call0_v4 val_main_call0_v5 val_main_call0_cst val_main_call0_cst_0)

variable (m : (ℓ : Loc nD τ sig) → Buf (Elt Ideal) ℓ)

/-- The reference's result as a function of the arguments. -/
abbrev ref (x0 : FVec Ideal S2048x2048 .f32) (x1 : FVec Ideal S2048x10880 .f32) (x2 : FVec Ideal S1x2048 .f32) : FVec Ideal S2048x2048 .bf16 :=
  Cert.GnormFwdRefIdeal.Read.val_main_v15 (F := Ideal) x0 x1 x2

/-- The windows' block indices at every point of the grid. -/
theorem idx : ∀ t : Fin cfg0.N, win0_0.index t = ![(grid0.coords t 0).val, 0]
    ∧ win0_1.index t = ![(grid0.coords t 0).val, 2]
    ∧ win0_2.index t = ![0, 0]
    ∧ win0_3.index t = ![(grid0.coords t 0).val, 0] :=
  (by decide +kernel : ∀ t : Fin grid0.N, _)

/-- The gate's window at a point: the third block of 2048 columns. -/
theorem gate_eq (c : Dev nD) (t : Fin cfg0.N) (y : S256x2048.Idx) :
    X0_1 m c t y = m ((c : Thread nD τ).loc main_arg1)
      (ix2 (⟨256 * (grid0.coords t 0).val + (y 0).val, by have h : (grid0.coords t 0).val < 8 := (grid0.coords t 0).isLt; have h' : (y 0).val < 256 := (y 0).isLt; omega⟩ : Fin 2048)
        (⟨4096 + (y 1).val, by have h : (y 1).val < 2048 := (y 1).isLt; omega⟩ : Fin 10880)) := by
  simp only [X0_1, Pipeline.Window.fill, dif_pos (moved0_1 t _), V]
  refine congrArg (m ((c : Thread nD τ).loc main_arg1)) ?_
  blk_ext [idx t]

set_option maxHeartbeats 1000000 in
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  pointwise [k0_pay1, ref, val_main_v0, val_main_v1, val_main_v2, val_main_v3, val_main_v4, val_main_v5, val_main_v6, val_main_v7, val_main_v8, val_main_v9, val_main_cst, val_main_v10, val_main_v11, val_main_v12, val_main_v13, val_main_v14, val_main_v15, val_main_cst_0, val_main_cst_1, val_main_call0_v0, val_main_call0_v1, val_main_call0_v2, val_main_call0_v3, val_main_call0_v4, val_main_call0_v5, val_main_call0_cst, val_main_call0_cst_0]
  simp only [zero_sub, gate_eq]
  blk_point [iblk, V, idx t]

theorem frame_kernel : Cert.quiescent_GnormFwd := fun m ρ _ => Cert.GnormFwd.Gen.frame m ρ
theorem frame_ideal : Cert.quiescent_GnormFwdIdeal := fun m ρ _ => Cert.GnormFwdIdeal.Gen.frame m ρ
theorem frame_ref : Cert.quiescent_GnormFwdRefIdeal := by
  intro m g _
  refine θ_run_mono (Cert.GnormFwdRefIdeal.Value.run m g) fun r h => ⟨fun c => (h c).2, sem_eq_zero_of_no_sems (by decide) r.2⟩

theorem algebraic : Cert.algebraic_GnormFwdIdeal_GnormFwdRefIdeal := by
  pair_intro
  · run_from Cert.GnormFwdIdeal.Gen.run_main m g
  · run_from Cert.GnormFwdRefIdeal.Value.run m' g'
    · exact (final m c).symm

end Cert.GnormFwdCall
end
-- ==== Proof.CallHead.lean ====
/-
  The head: the loss of the gated output's RMS norm against the target, and its gradients. The kernel's five result arrays are
  the reference's.
-/
module

public import proofs.«01_k».proof.Defs
public import proofs.«01_k».proof.Proof.NormMath
public import proofs.«01_k».proof.Proof.Gen.Head.Frame
public import proofs.«01_k».proof.Proof.Gen.HeadIdeal.Frame
public import proofs.«01_k».proof.Proof.Gen.HeadRefIdeal.Run
public import proofs.«01_k».proof.Proof.Gen.HeadRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.HeadCall

open Idealize.ShloMosaic Idealize.ShloMosaic.TcCoe Idealize.SL.Sem Cert.Reals
open Idealize.ShloMosaic.Pipeline (Dat)
open Cert.HeadIdeal Cert.HeadIdeal.Gen
open Cert.HeadRefIdeal.Read (val_main_v0 val_main_v1 val_main_cst val_main_v2 val_main_v3 val_main_cst_0 val_main_v4 val_main_v5 val_main_cst_1 val_main_v6 val_main_v7 val_main_v8 val_main_v9 val_main_v10 val_main_v11 val_main_cst_2 val_main_v12 val_main_v13 val_main_cst_3 val_main_v14 val_main_v15 val_main_cst_4 val_main_v16 val_main_v17 val_main_v18 val_main_v19 val_main_cst_5 val_main_v20 val_main_v21 val_main_v22 val_main_v23 val_main_v24 val_main_v25 val_main_v26 val_main_v27 val_main_cst_6 val_main_v28 val_main_v29 val_main_cst_7 val_main_v30 val_main_cst_8 val_main_v31 val_main_v32 val_main_cst_9 val_main_v33 val_main_cst_10 val_main_v34 val_main_cst_11 val_main_cst_12 val_main_v35 val_main_v36 val_main_cst_13 val_main_v37 val_main_v38 val_main_v39 val_main_v40 val_main_v41 val_main_cst_14 val_main_v42 val_main_v43 val_main_v44 val_main_v45 val_main_v46 val_main_cst_15 val_main_v47 val_main_v48 val_main_v49 val_main_v50 val_main_v51 val_main_cst_16 val_main_v52 val_main_v53 val_main_cst_17 val_main_v54 val_main_v55 val_main_v56 val_main_v57 val_main_v58 val_main_v59 val_main_v60 val_main_v61 val_main_v62 val_main_v63 val_main_v64 val_main_v65)

variable (m : (ℓ : Loc nD τ sig) → Buf (Elt Ideal) ℓ)

/-! The mathematics of a row. -/

/-- The sigmoid. -/
def sg (z : EReal) : EReal := Ideal.div 1 (1 + Ideal.exp (-z))

/-- The residual with the gated projection. -/
def xr (h pg pp : Fin 2048 → EReal) (k : Fin 2048) : EReal := h k + sg (pg k) * pp k

/-- The error. -/
def er (h pg pp g t : Fin 2048 → EReal) (k : Fin 2048) : EReal :=
  xr h pg pp k * NormMath.inv (xr h pg pp) (Ideal.ofBits .f32 0x45000000#32) (Ideal.ofBits .f32 0x358637BD#32) * g k - t k

theorem word_two : Ideal.ofBits .f32 0x40000000#32 = ((2 : ℝ) : EReal) := by
  simp [Ideal.ofBits, Ideal.ieee, -EReal.coe_mul] <;> norm_num
theorem word_half : Ideal.ofBits .f32 0x3F000000#32 = ((1 / 2 : ℝ) : EReal) := by
  simp [Ideal.ofBits, Ideal.ieee, -EReal.coe_mul] <;> norm_num
theorem word_part : Ideal.ofBits .f32 0x3A000000#32 = ((1 / 2048 : ℝ) : EReal) := by
  simp [Ideal.ofBits, Ideal.ieee, -EReal.coe_mul] <;> norm_num

/-- The error's weight in the gradient, in the kernel's words and in the derivative's. -/
theorem scale (x : EReal) : Ideal.div (Ideal.ofBits .f32 0x3F000000#32) (Ideal.ofBits .f32 0x45000000#32) * (Ideal.ofBits .f32 0x40000000#32 * x)
    = x * Ideal.ofBits .f32 0x3A000000#32 := by
  rw [word_half, NormMath.word_2048, word_two, word_part, Ideal.div_coe (by norm_num), ← mul_assoc, ← EReal.coe_mul, ← EReal.coe_mul, mul_comm]
  norm_num

/-- Half of a sum. -/
theorem half_sum {n : ℕ} (f : Fin n → EReal) : Ideal.ofBits .f32 0x3F000000#32 * ∑ s, f s = ∑ s, Ideal.ofBits .f32 0x3F000000#32 * f s := by
  rw [word_half]
  have H : ∀ s : Finset (Fin n), ((1 / 2 : ℝ) : EReal) * ∑ k ∈ s, f k = ∑ k ∈ s, ((1 / 2 : ℝ) : EReal) * f k := fun s => by
    classical
    induction s using Finset.induction_on with
    | empty => simp
    | insert a s h ih =>
      rw [Finset.sum_insert h, Finset.sum_insert h, ← ih]
      exact EReal.left_distrib_of_nonneg_of_ne_top (by exact_mod_cast (by norm_num : (0 : ℝ) ≤ 1 / 2)) (EReal.coe_ne_top _) _ _
  exact H _

/-! The kernel's tiles and the reference's rows. -/

theorem pay_x (pg pp h : Vec Ideal S256x2048 .f32) (i : Fin 256) (j : Fin 2048) :
    k0_pay3 pg pp h (ix2 i j) = xr (fun k => h (ix2 i k)) (fun k => pg (ix2 i k)) (fun k => pp (ix2 i k)) j := by
  pointwise [k0_pay3, k0_pay2]
  rw [zero_sub]; rfl

theorem pay_r (pg pp h : Vec Ideal S256x2048 .f32) (i : Fin 256) :
    k0_pay4 pg pp h (ix2 i 0) = NormMath.inv (xr (fun k => h (ix2 i k)) (fun k => pg (ix2 i k)) (fun k => pp (ix2 i k))) (Ideal.ofBits .f32 0x45000000#32) (Ideal.ofBits .f32 0x358637BD#32) := by
  pointwise [k0_pay4]
  simp only [pay_x]; rfl

theorem pay_e (pg pp h t : Vec Ideal S256x2048 .f32) (g : Vec Ideal S1x2048 .f32) (i : Fin 256) (j : Fin 2048) :
    k0_pay6 pg pp h g t (ix2 i j) = er (fun k => h (ix2 i k)) (fun k => pg (ix2 i k)) (fun k => pp (ix2 i k)) (fun k => g (ix2 0 k)) (fun k => t (ix2 i k)) j := by
  pointwise [k0_pay6, k0_pay5]
  rw [pay_x, pay_r]; rfl

theorem pay_dh (pg pp h t : Vec Ideal S256x2048 .f32) (g : Vec Ideal S1x2048 .f32) (i : Fin 256) (j : Fin 2048) :
    k0_pay10 (k0_pay8 pg pp h g t) (k0_pay9 pg pp h) (ix2 i j) = NormMath.short (xr (fun k => h (ix2 i k)) (fun k => pg (ix2 i k)) (fun k => pp (ix2 i k)))
      (fun j => er (fun k => h (ix2 i k)) (fun k => pg (ix2 i k)) (fun k => pp (ix2 i k)) (fun k => g (ix2 0 k)) (fun k => t (ix2 i k)) j * Ideal.ofBits .f32 0x3A000000#32 * g (ix2 0 j))
      (Ideal.ofBits .f32 0x45000000#32) (Ideal.ofBits .f32 0x358637BD#32) j := by
  pointwise [k0_pay10, k0_pay9, k0_pay8, k0_pay7, k0_pay5]
  simp only [pay_x, pay_r, pay_e]; rfl

abbrev A2 := FVec Ideal S2048x2048 .f32

theorem ref_x (x0 x1 x2 : A2) (i j : Fin 2048) :
    val_main_v10 (F := Ideal) x0 x1 x2 (ix2 i j) = xr (fun k => x0 (ix2 i k)) (fun k => x1 (ix2 i k)) (fun k => x2 (ix2 i k)) j := by
  pointwise [val_main_v10, val_main_v9, val_main_v5, val_main_v4, val_main_cst_0, val_main_v3, val_main_v2, val_main_cst, val_main_v1, val_main_v0]
  rfl

theorem ref_r (x0 x1 x2 : A2) (i : Fin 2048) :
    val_main_v18 (F := Ideal) x0 x1 x2 (ix2 i 0) = NormMath.inv (xr (fun k => x0 (ix2 i k)) (fun k => x1 (ix2 i k)) (fun k => x2 (ix2 i k))) (Ideal.ofBits .f32 0x45000000#32) (Ideal.ofBits .f32 0x358637BD#32) := by
  pointwise [val_main_v18, val_main_v17, val_main_v16, val_main_cst_4, val_main_v15, val_main_v14, val_main_cst_3, val_main_v13, val_main_v12, val_main_cst_2, val_main_v11]
  simp only [ref_x]; rfl

theorem ref_e (x0 x1 x2 : A2) (x3 : FVec Ideal S1x2048 .f32) (x4 : A2) (i j : Fin 2048) :
    val_main_v26 (F := Ideal) x0 x1 x2 x3 x4 (ix2 i j) = er (fun k => x0 (ix2 i k)) (fun k => x1 (ix2 i k)) (fun k => x2 (ix2 i k)) (fun k => x3 (ix2 0 k)) (fun k => x4 (ix2 i k)) j := by
  pointwise [val_main_v26, val_main_v25, val_main_v24, val_main_v23, val_main_v22]
  rw [ref_x, ref_r]; rfl

theorem ref_d (x0 x1 x2 : A2) (x3 : FVec Ideal S1x2048 .f32) (x4 : A2) (i j : Fin 2048) :
    val_main_v40 (F := Ideal) x0 x1 x2 x3 x4 (ix2 i j) = er (fun k => x0 (ix2 i k)) (fun k => x1 (ix2 i k)) (fun k => x2 (ix2 i k)) (fun k => x3 (ix2 0 k)) (fun k => x4 (ix2 i k)) j * Ideal.ofBits .f32 0x3A000000#32 := by
  pointwise [val_main_v40, val_main_v39, val_main_v38, val_main_v37, val_main_cst_13, val_main_v36, val_main_v35, val_main_cst_12, val_main_cst_11, val_main_v29, val_main_v28, val_main_cst_6]
  rw [ref_e]
  exact scale _

theorem ref_q (x0 x1 x2 : A2) (i : Fin 2048) :
    val_main_v17 (F := Ideal) x0 x1 x2 (ix2 i 0) = Ideal.div (∑ k, xr (fun k => x0 (ix2 i k)) (fun k => x1 (ix2 i k)) (fun k => x2 (ix2 i k)) k * xr (fun k => x0 (ix2 i k)) (fun k => x1 (ix2 i k)) (fun k => x2 (ix2 i k)) k)
      (Ideal.ofBits .f32 0x45000000#32) + Ideal.ofBits .f32 0x358637BD#32 := by
  pointwise [val_main_v17, val_main_v16, val_main_cst_4, val_main_v15, val_main_v14, val_main_cst_3, val_main_v13, val_main_v12, val_main_cst_2, val_main_v11]
  simp only [ref_x]

theorem ref_dh (x0 x1 x2 : A2) (x3 : FVec Ideal S1x2048 .f32) (x4 : A2) (i j : Fin 2048) :
    val_main_v59 (F := Ideal) x0 x1 x2 x3 x4 (ix2 i j) = NormMath.long (xr (fun k => x0 (ix2 i k)) (fun k => x1 (ix2 i k)) (fun k => x2 (ix2 i k)))
      (fun j => er (fun k => x0 (ix2 i k)) (fun k => x1 (ix2 i k)) (fun k => x2 (ix2 i k)) (fun k => x3 (ix2 0 k)) (fun k => x4 (ix2 i k)) j * Ideal.ofBits .f32 0x3A000000#32 * x3 (ix2 0 j))
      (Ideal.ofBits .f32 0x45000000#32) (Ideal.ofBits .f32 0x358637BD#32) (Ideal.ofBits .f32 0xBF000000#32) j := by
  pointwise [val_main_v59, val_main_v58, val_main_v57, val_main_v56, val_main_v55, val_main_v54, val_main_cst_17, val_main_v53, val_main_v52, val_main_cst_16, val_main_v51, val_main_v50, val_main_v49, val_main_v48, val_main_v47, val_main_cst_15, val_main_v46, val_main_v45, val_main_v44, val_main_v21, val_main_v20, val_main_cst_5, val_main_v19]
  simp only [Finset.univ_unique, Finset.sum_singleton, Fin.default_eq_zero, ref_x, ref_r, ref_q, ref_d]
  rfl

/-! The blocks. -/

/-- The windows' block indices at every point of the grid. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![0, 0]
    ∧ win0_6.index t = ![t.val, 0]
    ∧ win0_7.index t = ![t.val, 0]
    ∧ win0_8.index t = ![t.val, 0]
    ∧ win0_9.index t = ![0, 0] :=
  (by decide +kernel : ∀ t : Fin grid0.N, _)

/-- The row of the arrays at a row of a tile. -/
abbrev row (t : Fin cfg0.N) (r : Fin 256) : Fin 2048 := ⟨256 * t.val + r.val, by have h : t.val < 8 := t.isLt; omega⟩

theorem blk0 (c : Dev nD) (t : Fin cfg0.N) : iblk m c 0 t = fun q : S256x2048.Idx => m ((c : Thread nD τ).loc main_arg0) (ix2 (row t (q 0)) (q 1)) := by
  funext q
  refine congrArg (m ((c : Thread nD τ).loc main_arg0)) ?_
  blk_ext [idx t]

theorem blk1 (c : Dev nD) (t : Fin cfg0.N) : iblk m c 1 t = fun q : S256x2048.Idx => m ((c : Thread nD τ).loc main_arg1) (ix2 (row t (q 0)) (q 1)) := by
  funext q
  refine congrArg (m ((c : Thread nD τ).loc main_arg1)) ?_
  blk_ext [idx t]

theorem blk2 (c : Dev nD) (t : Fin cfg0.N) : iblk m c 2 t = fun q : S256x2048.Idx => m ((c : Thread nD τ).loc main_arg2) (ix2 (row t (q 0)) (q 1)) := by
  funext q
  refine congrArg (m ((c : Thread nD τ).loc main_arg2)) ?_
  blk_ext [idx t]

theorem blk4 (c : Dev nD) (t : Fin cfg0.N) : iblk m c 4 t = fun q : S256x2048.Idx => m ((c : Thread nD τ).loc main_arg4) (ix2 (row t (q 0)) (q 1)) := by
  funext q
  refine congrArg (m ((c : Thread nD τ).loc main_arg4)) ?_
  blk_ext [idx t]

theorem blk3 (c : Dev nD) (t : Fin cfg0.N) : iblk m c 3 t = fun q : S1x2048.Idx => m ((c : Thread nD τ).loc main_arg3) (ix2 0 (q 1)) := by
  funext q
  refine congrArg (m ((c : Thread nD τ).loc main_arg3)) ?_
  blk_ext [idx t]

theorem pointE (c : Dev nD) (t : Fin cfg0.N) (i' : Fin 256) (j : Fin 2048) :
    k0_pay6 (iblk m c 1 t) (iblk m c 2 t) (iblk m c 0 t) (iblk m c 3 t) (iblk m c 4 t) (ix2 i' j) = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t i') j) := by
  rw [pay_e, ref_e, blk0, blk1, blk2, blk3, blk4]; rfl

theorem pointXh (c : Dev nD) (t : Fin cfg0.N) (i' : Fin 256) (j : Fin 2048) :
    k0_pay5 (iblk m c 1 t) (iblk m c 2 t) (iblk m c 0 t) (ix2 i' j) = val_main_v23 (F := Ideal) (m ((c : Thread nD τ).loc main_arg0)) (m ((c : Thread nD τ).loc main_arg1)) (m ((c : Thread nD τ).loc main_arg2)) (ix2 (row t i') j) := by
  pointwise [k0_pay5, val_main_v23, val_main_v22]
  rw [pay_x, pay_r, ref_x, ref_r, blk0, blk1, blk2]; rfl

theorem pointD (c : Dev nD) (t : Fin cfg0.N) (i' : Fin 256) (j : Fin 2048) :
    k0_pay7 (iblk m c 1 t) (iblk m c 2 t) (iblk m c 0 t) (iblk m c 3 t) (iblk m c 4 t) (ix2 i' j) = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t i') j) := by
  rw [ref_d, ← ref_e, ← pointE m c t i' j]
  pointwise [k0_pay7]

theorem pointS (c : Dev nD) (t : Fin cfg0.N) (i' : Fin 256) (j : Fin 2048) :
    k0_pay2 (iblk m c 1 t) (ix2 i' j) = val_main_v5 (F := Ideal) (m ((c : Thread nD τ).loc main_arg1)) (ix2 (row t i') j) := by
  rw [blk1]
  pointwise [k0_pay2, val_main_v5, val_main_v4, val_main_cst_0, val_main_v3, val_main_v2, val_main_cst, val_main_v1, val_main_v0]
  rw [zero_sub]

theorem pointX (c : Dev nD) (t : Fin cfg0.N) (i' : Fin 256) (j : Fin 2048) :
    k0_pay10 (k0_pay8 (iblk m c 1 t) (iblk m c 2 t) (iblk m c 0 t) (iblk m c 3 t) (iblk m c 4 t)) (k0_pay9 (iblk m c 1 t) (iblk m c 2 t) (iblk m c 0 t)) (ix2 i' j) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t i') j) := by
  refine Eq.trans ?_ ((NormMath.grad_2048 (xr (fun k : Fin 2048 => m ((c : Thread nD τ).loc main_arg0) (ix2 (row t i') k)) (fun k : Fin 2048 => m ((c : Thread nD τ).loc main_arg1) (ix2 (row t i') k)) (fun k : Fin 2048 => m ((c : Thread nD τ).loc main_arg2) (ix2 (row t i') k))) (fun j => (er (fun k : Fin 2048 => m ((c : Thread nD τ).loc main_arg0) (ix2 (row t i') k)) (fun k : Fin 2048 => m ((c : Thread nD τ).loc main_arg1) (ix2 (row t i') k)) (fun k : Fin 2048 => m ((c : Thread nD τ).loc main_arg2) (ix2 (row t i') k)) (fun k : Fin 2048 => m ((c : Thread nD τ).loc main_arg3) (ix2 0 k)) (fun k : Fin 2048 => m ((c : Thread nD τ).loc main_arg4) (ix2 (row t i') k))) j * Ideal.ofBits .f32 0x3A000000#32 * m ((c : Thread nD τ).loc main_arg3) (ix2 0 j)) j).trans (ref_dh _ _ _ _ _ _ _).symm)
  rw [pay_dh, blk0, blk1, blk2, blk3, blk4]; rfl

theorem pointPg (c : Dev nD) (t : Fin cfg0.N) (i' : Fin 256) (j : Fin 2048) :
    k0_pay11 (k0_pay2 (iblk m c 1 t)) (iblk m c 2 t) (k0_pay8 (iblk m c 1 t) (iblk m c 2 t) (iblk m c 0 t) (iblk m c 3 t) (iblk m c 4 t)) (k0_pay9 (iblk m c 1 t) (iblk m c 2 t) (iblk m c 0 t)) (ix2 i' j) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t i') j) := by
  pointwise [k0_pay11, val_main_v64, val_main_v62, val_main_v61, val_main_v8, val_main_v7, val_main_v6, val_main_cst_1]
  rw [pointX m c t i' j, pointS, blk2]
  exact mul_assoc (G := EReal) _ _ _

theorem pointPp (c : Dev nD) (t : Fin cfg0.N) (i' : Fin 256) (j : Fin 2048) :
    k0_pay12 (k0_pay2 (iblk m c 1 t)) (k0_pay8 (iblk m c 1 t) (iblk m c 2 t) (iblk m c 0 t) (iblk m c 3 t) (iblk m c 4 t)) (k0_pay9 (iblk m c 1 t) (iblk m c 2 t) (iblk m c 0 t)) (ix2 i' j) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t i') j) := by
  pointwise [k0_pay12, val_main_v65, val_main_v60]
  rw [pointX m c t i' j, pointS]
  exact mul_comm (G := EReal) _ _

/-- One tile's contribution to the gain's gradient, and to the loss. -/
def part (c : Dev nD) (t : Fin cfg0.N) (y : S1x2048.Idx) : EReal :=
  ∑ k : Fin 256, (val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t k) (y 1)) : EReal) * (val_main_v23 (F := Ideal) (m ((c : Thread nD τ).loc main_arg0)) (m ((c : Thread nD τ).loc main_arg1)) (m ((c : Thread nD τ).loc main_arg2)) (ix2 (row t k) (y 1)) : EReal)

def partL (c : Dev nD) (t : Fin cfg0.N) (y : S1x128.Idx) : EReal :=
  Ideal.ofBits .f32 0x3F000000#32 * ∑ k : Fin 256, (val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix1 (row t k)) : EReal)

theorem step_eq (x : Vec Ideal S1x2048 .f32) (c : Dev nD) (t : Fin cfg0.N) (y : S1x2048.Idx) :
    k0_pay15 (k0_pay5 (iblk m c 1 t) (iblk m c 2 t) (iblk m c 0 t)) (k0_pay7 (iblk m c 1 t) (iblk m c 2 t) (iblk m c 0 t) (iblk m c 3 t) (iblk m c 4 t)) x y = x y + part m c t y := by
  pointwise [k0_pay15]
  refine congrArg (fun z : EReal => x y + z) (Finset.sum_congr rfl fun k _ => ?_)
  exact congrArg₂ (fun a b : EReal => a * b) (pointD m c t k (y 1)) (pointXh m c t k (y 1))

theorem stepL_eq (x : Vec Ideal S1x128 .f32) (c : Dev nD) (t : Fin cfg0.N) (y : S1x128.Idx) :
    k0_pay1 (k0_pay16 x) (k0_pay17 (k0_pay6 (iblk m c 1 t) (iblk m c 2 t) (iblk m c 0 t) (iblk m c 3 t) (iblk m c 4 t))) y = x y + partL m c t y := by
  unfold partL
  pointwise [k0_pay1, k0_pay16, k0_pay17, val_main_v32, val_main_v31, val_main_cst_8, val_main_v30, val_main_cst_7, val_main_v27]
  simp only [pointE]

theorem zero_eq (y : S1x2048.Idx) : k0_pay13 (F := Ideal) y = 0 := by
  pointwise [k0_pay13]
theorem zeroL_eq (y : S1x128.Idx) : k0_pay14 (F := Ideal) y = 0 := by
  pointwise [k0_pay14]

theorem outX (c : Dev nD) (t : Fin cfg0.N) : (outsAt0 m c t.val t.isLt).2.1 = k0_pay10 (k0_pay8 (iblk m c 1 t) (iblk m c 2 t) (iblk m c 0 t) (iblk m c 3 t) (iblk m c 4 t)) (k0_pay9 (iblk m c 1 t) (iblk m c 2 t) (iblk m c 0 t)) := by
  by_cases h : t.val % 8 = 0
  · rw [outsAt0_A m c t h]; frame_out
  · rw [outsAt0_B m c t h]; frame_out

theorem finalX (c : Dev nD) : (dats m 0 c).arrAt 6 cfg0.N = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, outX]
  refine Eq.trans (congrArg _ (by blk_ext)) ((pointX m c t (y 0) (y 1)).trans (congrArg _ ?_))
  blk_ext [idx t]

theorem outPg (c : Dev nD) (t : Fin cfg0.N) : (outsAt0 m c t.val t.isLt).2.2.1 = k0_pay11 (k0_pay2 (iblk m c 1 t)) (iblk m c 2 t) (k0_pay8 (iblk m c 1 t) (iblk m c 2 t) (iblk m c 0 t) (iblk m c 3 t) (iblk m c 4 t)) (k0_pay9 (iblk m c 1 t) (iblk m c 2 t) (iblk m c 0 t)) := by
  by_cases h : t.val % 8 = 0
  · rw [outsAt0_A m c t h]; frame_out
  · rw [outsAt0_B m c t h]; frame_out

theorem finalPg (c : Dev nD) : (dats m 0 c).arrAt 7 cfg0.N = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7, outPg]
  refine Eq.trans (congrArg _ (by blk_ext)) ((pointPg m c t (y 0) (y 1)).trans (congrArg _ ?_))
  blk_ext [idx t]

theorem outPp (c : Dev nD) (t : Fin cfg0.N) : (outsAt0 m c t.val t.isLt).2.2.2.1 = k0_pay12 (k0_pay2 (iblk m c 1 t)) (k0_pay8 (iblk m c 1 t) (iblk m c 2 t) (iblk m c 0 t) (iblk m c 3 t) (iblk m c 4 t)) (k0_pay9 (iblk m c 1 t) (iblk m c 2 t) (iblk m c 0 t)) := by
  by_cases h : t.val % 8 = 0
  · rw [outsAt0_A m c t h]; frame_out
  · rw [outsAt0_B m c t h]; frame_out

theorem finalPp (c : Dev nD) : (dats m 0 c).arrAt 8 cfg0.N = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8, outPp]
  refine Eq.trans (congrArg _ (by blk_ext)) ((pointPp m c t (y 0) (y 1)).trans (congrArg _ ?_))
  blk_ext [idx t]

theorem accG_first (c : Dev nD) (t : Fin cfg0.N) (h : t.val % 8 = 0) (y : S1x2048.Idx) :
    (outsAt0 m c t.val t.isLt).2.2.2.2 y = 0 + part m c t y := by
  rw [outsAt0_A m c t h]; frame_out
  rw [step_eq, zero_eq]

theorem accG_later (c : Dev nD) (t : Fin cfg0.N) (h : ¬ t.val % 8 = 0) (y : S1x2048.Idx) :
    (outsAt0 m c t.val t.isLt).2.2.2.2 y
      = (outsAt0 m c (t.val - 1) (Nat.lt_of_le_of_lt (Nat.sub_le _ _) t.isLt)).2.2.2.2 y + part m c t y := by
  rw [outsAt0_B m c t h]; frame_out
  rw [step_eq]

theorem accL_first (c : Dev nD) (t : Fin cfg0.N) (h : t.val % 8 = 0) (y : S1x128.Idx) :
    (outsAt0 m c t.val t.isLt).1 y = 0 + partL m c t y := by
  rw [outsAt0_A m c t h]; frame_out
  rw [stepL_eq, zeroL_eq]

theorem accL_later (c : Dev nD) (t : Fin cfg0.N) (h : ¬ t.val % 8 = 0) (y : S1x128.Idx) :
    (outsAt0 m c t.val t.isLt).1 y
      = (outsAt0 m c (t.val - 1) (Nat.lt_of_le_of_lt (Nat.sub_le _ _) t.isLt)).1 y + partL m c t y := by
  rw [outsAt0_B m c t h]; frame_out
  rw [stepL_eq]

theorem finalG (c : Dev nD) : (dats m 0 c).arrAt 9 cfg0.N = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9,
    Pipeline.eq_sum_fin_of_reset_step_apply_of_flush (fun n h => (outsAt0 m c n h).2.2.2.2) 8 (fun _ => 0) (fun t y => part m c t y)
      (fun t h j => accG_first m c t h j) (fun t h j => accG_later m c t h j) t ((flush0_9 t).mp hf) _, zero_add]
  have he : ((cfg0.win 9).blk t).view.emb y = ix2 0 (y 1) := by blk_ext [idx t]
  refine Eq.trans ?_ (congrArg (val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4))) he.symm)
  pointwise [val_main_v43, val_main_v42, val_main_cst_14, val_main_v41]
  unfold part
  refine Fin.sum_mul_add_congr fun s k hl => ?_
  rw [mul_comm]
  have hN : t.val < 8 := t.isLt
  have hr : row (⟨8 * (t.val / 8) + s.val, Pipeline.run_point_lt_of_flush t ((flush0_9 t).mp hf) s⟩ : Fin cfg0.N) k = ⟨s.val * 256 + k.val, hl⟩ := Fin.ext (by
    show 256 * (8 * (t.val / 8) + s.val) + k.val = s.val * 256 + k.val; omega)
  refine congrArg₂ (fun a b : EReal => a * b) ?_ ?_
  · exact congrArg (fun r : Fin 2048 => val_main_v23 (F := Ideal) (m ((c : Thread nD τ).loc main_arg0)) (m ((c : Thread nD τ).loc main_arg1)) (m ((c : Thread nD τ).loc main_arg2)) (ix2 r (y 1))) hr
  · exact congrArg (fun r : Fin 2048 => val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r (y 1))) hr

theorem finalL (c : Dev nD) : (dats m 0 c).arrAt 5 cfg0.N = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5,
    Pipeline.eq_sum_fin_of_reset_step_apply_of_flush (fun n h => (outsAt0 m c n h).1) 8 (fun _ => 0) (fun t y => partL m c t y)
      (fun t h j => accL_first m c t h j) (fun t h j => accL_later m c t h j) t ((flush0_5 t).mp hf) _, zero_add]
  pointwise [val_main_v63, val_main_v34, val_main_cst_10, val_main_v33, val_main_cst_9]
  unfold partL
  rw [← half_sum]
  refine congrArg (fun z : EReal => Ideal.ofBits .f32 0x3F000000#32 * z) ?_
  refine Fin.sum_mul_add_congr fun s k hl => ?_
  have hN : t.val < 8 := t.isLt
  have hr : row (⟨8 * (t.val / 8) + s.val, Pipeline.run_point_lt_of_flush t ((flush0_5 t).mp hf) s⟩ : Fin cfg0.N) k = ⟨s.val * 256 + k.val, hl⟩ := Fin.ext (by
    show 256 * (8 * (t.val / 8) + s.val) + k.val = s.val * 256 + k.val; omega)
  exact congrArg (fun r : Fin 2048 => val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix1 r)) hr

theorem frame_kernel : Cert.quiescent_Head := fun m ρ _ => Cert.Head.Gen.frame m ρ
theorem frame_ideal : Cert.quiescent_HeadIdeal := fun m ρ _ => Cert.HeadIdeal.Gen.frame m ρ
theorem frame_ref : Cert.quiescent_HeadRefIdeal := by
  intro m g _
  refine θ_run_mono (Cert.HeadRefIdeal.Value.run m g) fun r h => ⟨fun c => (h c).2.2.2.2.2, sem_eq_zero_of_no_sems (by decide) r.2⟩

/-- Every execution ends with the five results as the body's write-backs leave them, and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_v0_3) = (dats m 0 c).arrAt 8 cfg0.N
      ∧ r.2.mem ((c.tc : Thread nD τ).loc main_v0_4) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (run_main m ρ) (unchanged m ρ)) fun r h c =>
    ⟨(h.1 c).1 5, (h.1 c).1 6, (h.1 c).1 7, (h.1 c).1 8, (h.1 c).1 9, h.2 c⟩

theorem algebraic : Cert.algebraic_HeadIdeal_HeadRefIdeal := by
  intro m g m' g' _ hagree
  refine ⟨fun c => val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · refine θ_run_mono (run m g) fun r h c => ?_
    obtain ⟨h5, h6, h7, h8, h9, ha⟩ := h c
    exact ⟨h5.trans (finalL m c), h6.trans (finalX m c), h7.trans (finalPg m c), h8.trans (finalPp m c), h9.trans (finalG m c), ha⟩
  · refine θ_run_mono (Cert.HeadRefIdeal.Value.run m' g') fun r h c => ?_
    obtain ⟨h5, h6, h7, h8, h9, ha⟩ := h c
    obtain ⟨e0, e1, e2, e3, e4⟩ := hagree c
    refine ⟨h5.trans ?_, h6.trans ((Cert.HeadRefIdeal.Read.val_main_v59_eq m' c).trans ?_), h7.trans ((Cert.HeadRefIdeal.Read.val_main_v64_eq m' c).trans ?_),
      h8.trans ((Cert.HeadRefIdeal.Read.val_main_v65_eq m' c).trans ?_), h9.trans ?_, ha⟩
    · rw [e0, e1, e2, e3, e4]; exact Cert.HeadRefIdeal.Read.val_main_v63_eq _ _ _ _ _
    · rw [e0, e1, e2, e3, e4]
    · rw [e0, e1, e2, e3, e4]
    · rw [e0, e1, e2, e3, e4]
    · rw [e0, e1, e2, e3, e4]; exact Cert.HeadRefIdeal.Read.val_main_v43_eq _ _ _ _ _

end Cert.HeadCall
end
-- ==== Proof.CallInProj.lean ====
/-
  The input projection, `u · Wᵀ`: the kernel's result array is the reference's product. The kernel walks the
  result in (1024, 2176) tiles and takes each tile's rows of both operands whole.
-/
module

public import proofs.«01_k».proof.Defs
public import proofs.«01_k».proof.Proof.Gen.InProj.Frame
public import proofs.«01_k».proof.Proof.Gen.InProjIdeal.Frame
public import proofs.«01_k».proof.Proof.Gen.InProjRefIdeal.Run
public import proofs.«01_k».proof.Proof.Gen.InProjRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.InProjCall

open Idealize.ShloMosaic Idealize.ShloMosaic.TcCoe Idealize.SL.Sem
open Idealize.ShloMosaic.Pipeline (Dat)
open Cert.InProjIdeal Cert.InProjIdeal.Gen
open Cert.InProjRefIdeal.Read (val_main_v0 val_main_v1 val_main_v2 val_main_v3)

variable (m : (ℓ : Loc nD τ sig) → Buf (Elt Ideal) ℓ)

/-- The reference's result as a function of the arguments. -/
abbrev ref (x0 : FVec Ideal S2048x2048 .bf16) (x1 : FVec Ideal S10880x2048 .bf16) : FVec Ideal S2048x10880 .f32 :=
  Cert.InProjRefIdeal.Read.val_main_v3 (F := Ideal) x0 x1

/-- The windows' block indices at every point of the grid. -/
theorem idx : ∀ t : Fin cfg0.N, win0_0.index t = ![(grid0.coords t 0).val, 0]
    ∧ win0_1.index t = ![(grid0.coords t 1).val, 0]
    ∧ win0_2.index t = ![(grid0.coords t 0).val, (grid0.coords t 1).val] :=
  (by decide +kernel : ∀ t : Fin grid0.N, _)

/-- A tile of the result. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_v2, val_main_v3]
  blk_point [iblk, V, idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_InProj := fun m ρ _ => Cert.InProj.Gen.frame m ρ
theorem frame_ideal : Cert.quiescent_InProjIdeal := fun m ρ _ => Cert.InProjIdeal.Gen.frame m ρ
theorem frame_ref : Cert.quiescent_InProjRefIdeal := by
  intro m g _
  refine θ_run_mono (Cert.InProjRefIdeal.Value.run m g) fun r h => ⟨fun c => (h c).2, sem_eq_zero_of_no_sems (by decide) r.2⟩

theorem algebraic : Cert.algebraic_InProjIdeal_InProjRefIdeal := by
  pair_intro
  · run_from Cert.InProjIdeal.Gen.run_main m g
  · run_from Cert.InProjRefIdeal.Value.run m' g'
    · exact (final m c).symm

end Cert.InProjCall
end
-- ==== Proof.CallMergeBwd.lean ====
/-
  The gradient of the merge of the two branches, `sigmoid(g_a) * a + sigmoid(g_s) * s`: the two branches' gradients, and the
  two gates', which the call writes in the first 4096 columns of an array of 10880.
-/
module

public import proofs.«01_k».proof.Defs
public import proofs.«01_k».proof.Proof.Gen.MergeBwd.Frame
public import proofs.«01_k».proof.Proof.Gen.MergeBwdIdeal.Frame
public import proofs.«01_k».proof.Proof.Gen.MergeBwdRefIdeal.Run
public import proofs.«01_k».proof.Proof.Gen.MergeBwdRefIdeal.Read
public import Idealize.ShloMosaic.Lib.Pipeline.ValueKit
public import Idealize.ShloMosaic.Lib.KernelVsHost
public import Idealize.ShloMosaic.Lib.Claim
public import Idealize.ShloMosaic.Lib.Quiescent

@[expose] public section

set_option maxRecDepth 16384

noncomputable section

namespace Cert.MergeBwdCall

open Idealize.ShloMosaic Idealize.ShloMosaic.TcCoe Idealize.SL.Sem
open Idealize.ShloMosaic.Pipeline (Dat)
open Cert.MergeBwdIdeal Cert.MergeBwdIdeal.Gen
open Cert.MergeBwdRefIdeal.Read

variable (m : (ℓ : Loc nD τ sig) → Buf (Elt Ideal) ℓ)

/-- The windows' block indices at every point of the grid. -/
theorem idx : ∀ t : Fin cfg0.N, win0_0.index t = ![(grid0.coords t 0).val, 0]
    ∧ win0_1.index t = ![(grid0.coords t 0).val, 1]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0]
    ∧ win0_7.index t = ![(grid0.coords t 0).val, 0] :=
  (by decide +kernel : ∀ t : Fin grid0.N, _)

/-- The row of the arrays at a row of a tile. -/
abbrev row (t : Fin cfg0.N) (r : Fin 256) : Fin 2048 :=
  ⟨256 * (grid0.coords t 0).val + r.val, by have h : (grid0.coords t 0).val < 8 := (grid0.coords t 0).isLt; omega⟩

/-! The blocks the body reads, in the arguments. -/

theorem blk0 (c : Dev nD) (t : Fin cfg0.N) : X0_0 m c t = fun q : S256x2048.Idx => m ((c : Thread nD τ).loc main_arg0)
    (ix2 (row t (q 0)) (⟨(q 1).val, by have h : (q 1).val < 2048 := (q 1).isLt; omega⟩ : Fin 10880)) := by
  funext q
  simp only [X0_0, Pipeline.Window.fill, dif_pos (moved0_0 t _), V]
  refine congrArg (m ((c : Thread nD τ).loc main_arg0)) ?_
  blk_ext [idx t]

theorem blk1 (c : Dev nD) (t : Fin cfg0.N) : X0_1 m c t = fun q : S256x2048.Idx => m ((c : Thread nD τ).loc main_arg0)
    (ix2 (row t (q 0)) (⟨2048 + (q 1).val, by have h : (q 1).val < 2048 := (q 1).isLt; omega⟩ : Fin 10880)) := by
  funext q
  simp only [X0_1, Pipeline.Window.fill, dif_pos (moved0_1 t _), V]
  refine congrArg (m ((c : Thread nD τ).loc main_arg0)) ?_
  blk_ext [idx t]

theorem blk2 (c : Dev nD) (t : Fin cfg0.N) : iblk m c 2 t = fun q : S256x2048.Idx => m ((c : Thread nD τ).loc main_arg1) (ix2 (row t (q 0)) (q 1)) := by
  funext q
  refine congrArg (m ((c : Thread nD τ).loc main_arg1)) ?_
  blk_ext [idx t]

theorem blk3 (c : Dev nD) (t : Fin cfg0.N) : iblk m c 3 t = fun q : S256x2048.Idx => m ((c : Thread nD τ).loc main_arg2) (ix2 (row t (q 0)) (q 1)) := by
  funext q
  refine congrArg (m ((c : Thread nD τ).loc main_arg2)) ?_
  blk_ext [idx t]

theorem blk4 (c : Dev nD) (t : Fin cfg0.N) : iblk m c 4 t = fun q : S256x2048.Idx => m ((c : Thread nD τ).loc main_arg3) (ix2 (row t (q 0)) (q 1)) := by
  funext q
  refine congrArg (m ((c : Thread nD τ).loc main_arg3)) ?_
  blk_ext [idx t]

theorem emb5 (t : Fin cfg0.N) (q : S256x2048.Idx) : ((cfg0.win 5).blk t).view.emb q = ix2 (row t (q 0)) (q 1) := by
  blk_ext [idx t]

theorem emb6 (t : Fin cfg0.N) (q : S256x2048.Idx) : ((cfg0.win 6).blk t).view.emb q = ix2 (row t (q 0)) (q 1) := by
  blk_ext [idx t]

set_option maxHeartbeats 1000000 in
theorem final5 (c : Dev nD) : (dats m 0 c).arrAt 5 cfg0.N
    = val_main_v35 (m ((c : Thread nD τ).loc main_arg0)) (m ((c : Thread nD τ).loc main_arg3)) := by
  refine (dats m 0 c).arrAt_eq_of_covers 5 _ (by decide +kernel) fun t _ y => ?_
  blk_simp
  rw [after0_5]; unfold outsAt0; frame_out
  refine Eq.trans ?_ (congrArg (val_main_v35 _ _) (emb5 t y).symm)
  rw [blk0 m c t, blk4 m c t]
  pointwise [k0_pay1, k0_pay2, k0_pay3, k0_pay4, k0_pay5, k0_pay6, k0_pay7, val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29, val_main_v30, val_main_v31, val_main_cst_5, val_main_v32, val_main_cst_6, val_main_v33, val_main_v34, val_main_v35, val_main_v36, val_main_v37]
  rw [zero_sub]
  exact mul_comm (G := EReal) _ _

set_option maxHeartbeats 1000000 in
theorem final6 (c : Dev nD) : (dats m 0 c).arrAt 6 cfg0.N
    = val_main_v36 (m ((c : Thread nD τ).loc main_arg0)) (m ((c : Thread nD τ).loc main_arg3)) := by
  refine (dats m 0 c).arrAt_eq_of_covers 6 _ (by decide +kernel) fun t _ y => ?_
  blk_simp
  rw [after0_6]; unfold outsAt0; frame_out
  refine Eq.trans ?_ (congrArg (val_main_v36 _ _) (emb6 t y).symm)
  rw [blk1 m c t, blk4 m c t]
  pointwise [k0_pay1, k0_pay2, k0_pay3, k0_pay4, k0_pay5, k0_pay6, k0_pay7, val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29, val_main_v30, val_main_v31, val_main_cst_5, val_main_v32, val_main_cst_6, val_main_v33, val_main_v34, val_main_v35, val_main_v36, val_main_v37]
  rw [zero_sub]
  exact mul_comm (G := EReal) _ _

/-- The gates' gradients, continued by zero to the columns after them. -/
def gates (c : Dev nD) : S2048x10880.Idx → Elt Ideal .bf16 := fun i =>
  if h : (i 1).val < 4096 then val_main_v37 (m ((c : Thread nD τ).loc main_arg0)) (m ((c : Thread nD τ).loc main_arg1))
    (m ((c : Thread nD τ).loc main_arg2)) (m ((c : Thread nD τ).loc main_arg3)) (ix2 (i 0) (⟨(i 1).val, h⟩ : Fin 4096)) else 0

/-- The first 2048 columns of the gates' gradient. -/
theorem ref_lo (x0 : (⟨S2048x10880, .f32⟩ : BufTy).Contents (Elt Ideal)) (x1 x2 x3 : (⟨S2048x2048, .f32⟩ : BufTy).Contents (Elt Ideal)) (r : Fin 2048) (q : Fin 2048) (h : q.val < 4096) :
    val_main_v37 x0 x1 x2 x3 (ix2 r (⟨q.val, h⟩ : Fin 4096)) = val_main_v31 x0 x1 x3 (ix2 r q) := by
  show (val_main_v32 x0 x2 x3 (ix2 r (⟨q.val, h⟩ : Fin 4096)) : EReal) + val_main_v33 x0 x1 x3 (ix2 r (⟨q.val, h⟩ : Fin 4096)) = _
  unfold val_main_v32 val_main_v33
  have hq := q.isLt
  rw [pad_apply_of_not_inside _ _ _ _ _ _ _ _ (1 : Fin 2) (fun hh => by have h1 : 2048 ≤ q.val := hh.1; omega),
    pad_apply_of_inside _ _ _ _ _ _ _ _ (ix2 r q) (fun a => by
      match a with
      | 0 => show r.val = 0 + r.val * 1; omega
      | 1 => show q.val = 0 + q.val * 1; omega)]
  rw [show (val_main_cst_5 (F := Ideal) (Shape.Idx.first Cert.MergeBwdRefIdeal.Gen.h_S_) : EReal) = 0 from by pointwise [val_main_cst_5], zero_add]

/-- The columns from 2048 on. -/
theorem ref_hi (x0 : (⟨S2048x10880, .f32⟩ : BufTy).Contents (Elt Ideal)) (x1 x2 x3 : (⟨S2048x2048, .f32⟩ : BufTy).Contents (Elt Ideal)) (r : Fin 2048) (q : Fin 2048) (h : 2048 + q.val < 4096) :
    val_main_v37 x0 x1 x2 x3 (ix2 r (⟨2048 + q.val, h⟩ : Fin 4096)) = val_main_v28 x0 x2 x3 (ix2 r q) := by
  show (val_main_v32 x0 x2 x3 (ix2 r (⟨2048 + q.val, h⟩ : Fin 4096)) : EReal) + val_main_v33 x0 x1 x3 (ix2 r (⟨2048 + q.val, h⟩ : Fin 4096)) = _
  unfold val_main_v32 val_main_v33
  have hq := q.isLt
  rw [pad_apply_of_inside _ _ _ _ _ _ _ _ (ix2 r q) (fun a => by
      match a with
      | 0 => show r.val = 0 + r.val * 1; omega
      | 1 => show 2048 + q.val = 2048 + q.val * 1; omega),
    pad_apply_of_not_inside _ _ _ _ _ _ _ _ (1 : Fin 2) (fun hh => by
      have h1 : (2048 + q.val - 0) / 1 < 2048 := hh.2.2
      omega)]
  rw [show (val_main_cst_6 (F := Ideal) (Shape.Idx.first Cert.MergeBwdRefIdeal.Gen.h_S_) : EReal) = 0 from by pointwise [val_main_cst_6], add_zero]

set_option maxHeartbeats 1000000 in
theorem pay_lo (c : Dev nD) (t : Fin cfg0.N) (q : S256x2048.Idx) : k0_pay6 (iblk m c 4 t) (X0_0 m c t) (iblk m c 2 t) q
    = val_main_v31 (m ((c : Thread nD τ).loc main_arg0)) (m ((c : Thread nD τ).loc main_arg1)) (m ((c : Thread nD τ).loc main_arg3)) (ix2 (row t (q 0)) (q 1)) := by
  rw [blk0 m c t, blk2 m c t, blk4 m c t]
  pointwise [k0_pay1, k0_pay2, k0_pay3, k0_pay4, k0_pay5, k0_pay6, k0_pay7, val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29, val_main_v30, val_main_v31, val_main_cst_5, val_main_v32, val_main_cst_6, val_main_v33, val_main_v34, val_main_v35, val_main_v36, val_main_v37]
  rw [zero_sub]
  exact mul_assoc (G := EReal) _ _ _

set_option maxHeartbeats 1000000 in
theorem pay_hi (c : Dev nD) (t : Fin cfg0.N) (q : S256x2048.Idx) : k0_pay1 (k0_pay3 (X0_1 m c t)) (k0_pay7 (iblk m c 4 t) (iblk m c 3 t)) q
    = val_main_v28 (m ((c : Thread nD τ).loc main_arg0)) (m ((c : Thread nD τ).loc main_arg2)) (m ((c : Thread nD τ).loc main_arg3)) (ix2 (row t (q 0)) (q 1)) := by
  rw [blk1 m c t, blk3 m c t, blk4 m c t]
  pointwise [k0_pay1, k0_pay2, k0_pay3, k0_pay4, k0_pay5, k0_pay6, k0_pay7, val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29, val_main_v30, val_main_v31, val_main_cst_5, val_main_v32, val_main_cst_6, val_main_v33, val_main_v34, val_main_v35, val_main_v36, val_main_v37]
  rw [zero_sub]
  exact mul_assoc (G := EReal) _ _ _

/-- The two stores of a tile, read at an index. -/
theorem outs7 (c : Dev nD) (t : Fin cfg0.N) (r : Fin 256) (q : Fin 4096) : View.canon
      [⟨Rect.unit (s := S256x4096) ![0, 2048] ![256, 2048] inb_S256x4096_S256x2048_0_2048,
          k0_pay1 (k0_pay3 (X0_1 m c t)) (k0_pay7 (iblk m c 4 t) (iblk m c 3 t))⟩,
        ⟨Rect.unit (s := S256x4096) ![0, 0] ![256, 2048] inb_S256x4096_S256x2048_0_0,
          k0_pay6 (iblk m c 4 t) (X0_0 m c t) (iblk m c 2 t)⟩] (ix2 r q : S256x4096.Idx)
    = gates m c (ix2 (row t r) (⟨q.val, by omega⟩ : Fin 10880)) := by
  have hq := q.isLt
  have hg : gates m c (ix2 (row t r) (⟨q.val, by omega⟩ : Fin 10880)) = val_main_v37 (m ((c : Thread nD τ).loc main_arg0))
      (m ((c : Thread nD τ).loc main_arg1)) (m ((c : Thread nD τ).loc main_arg2)) (m ((c : Thread nD τ).loc main_arg3)) (ix2 (row t r) q) := dif_pos hq
  rw [hg]
  by_cases h : q.val < 2048
  · refine (View.canon_cons_of_not_mem _ _ fun hm => ?_).trans ?_
    · have h' := (Rect.mem_set_unit (inb := inb_S256x4096_S256x2048_0_2048)).1 hm 1
      have h'' : 2048 ≤ q.val := h'.1
      omega
    · have he : (ix2 r q : S256x4096.Idx) = (Rect.unit (s := S256x4096) ![0, 0] ![256, 2048] inb_S256x4096_S256x2048_0_0).emb (ix2 r (⟨q.val, h⟩ : Fin 2048)) := by
        funext a
        match a with
        | 0 => exact Fin.ext (by show r.val = 0 + 1 * r.val; omega)
        | 1 => exact Fin.ext (by show q.val = 0 + 1 * q.val; omega)
      rw [he, View.canon_cons_emb]
      exact (pay_lo m c t _).trans (ref_lo _ _ _ _ (row t r) ⟨q.val, h⟩ hq).symm
  · have he : (ix2 r q : S256x4096.Idx) = (Rect.unit (s := S256x4096) ![0, 2048] ![256, 2048] inb_S256x4096_S256x2048_0_2048).emb (ix2 r (⟨q.val - 2048, by omega⟩ : Fin 2048)) := by
      funext a
      match a with
      | 0 => exact Fin.ext (by show r.val = 0 + 1 * r.val; omega)
      | 1 => exact Fin.ext (by show q.val = 2048 + 1 * (q.val - 2048); omega)
    rw [he, View.canon_cons_emb]
    refine (pay_hi m c t _).trans ((ref_hi _ _ _ _ (row t r) ⟨q.val - 2048, by omega⟩ (by dsimp only; omega)).symm.trans (congrArg _ ?_))
    funext a
    match a with
    | 0 => rfl
    | 1 => exact Fin.ext (by show 2048 + (q.val - 2048) = q.val; omega)

set_option maxHeartbeats 1000000 in
theorem final7 (c : Dev nD) : (dats m 0 c).arrAt 7 cfg0.N
    = fun i => if (i 1 : ℕ) / 4096 < 1 then gates m c i else (dats m 0 c).A 7 i := by
  refine (dats m 0 c).arrAt_eq_of_coversWhere 7 _ (fun β => β (1 : Fin _) < 1) (by decide +kernel)
    (fun t _ y => ?_) (fun j => Iff.rfl)
  blk_simp
  have h0 : (y 0).val < 256 := lt_of_lt_of_le (y 0).isLt (win0_7.xsize_le (grid0.coords t) 0)
  have h1 : (y 1).val < 4096 := lt_of_lt_of_le (y 1).isLt (win0_7.xsize_le (grid0.coords t) 1)
  rw [after0_7]; unfold outsAt0
  frame_out
  refine Eq.trans (congrArg _ (?_ : _ = ix2 (⟨(y 0).val, h0⟩ : Fin 256) (⟨(y 1).val, h1⟩ : Fin 4096))) ((outs7 m c t ⟨(y 0).val, h0⟩ ⟨(y 1).val, h1⟩).trans (congrArg _ ?_))
  · funext a; match a with | 0 => rfl | 1 => rfl
  · blk_ext [idx t]

/-- The columns the program returns. -/
theorem cut7 (c : Dev nD) : extractStridedSlice S2048x4096 ![0, 0] ((dats m 0 c).arrAt 7 cfg0.N) slices_S2048x10880_S2048x4096_0_0
    = val_main_v37 (m ((c : Thread nD τ).loc main_arg0)) (m ((c : Thread nD τ).loc main_arg1)) (m ((c : Thread nD τ).loc main_arg2)) (m ((c : Thread nD τ).loc main_arg3)) := by
  rw [final7]
  funext i
  have h1 : (i 1).val < 4096 := (i 1).isLt
  pointwise []
  rw [if_pos (by omega)]
  refine (dif_pos h1).trans (congrArg _ ?_)
  funext a
  match a with | 0 => rfl | 1 => rfl

/-- Every execution ends with the two branches' gradients and the columns cut from the gates' as the body's write-backs leave
    them, and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v1) = extractStridedSlice S2048x4096 ![0, 0] ((dats m 0 c).arrAt 7 cfg0.N) slices_S2048x10880_S2048x4096_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine θ_run_mono (θ_run_and (run_main m ρ) (unchanged m ρ)) fun r h c =>
    ⟨(h.1 c).1 5, (h.1 c).1 6, ((h.1 c).2 main_v1 (by decide)).trans ?_, h.2 c⟩
  unfold Pipeline.afterTail₀
  show StableHlo.after hostOps1 _ _ = _
  after_results
  exact congrArg (extractStridedSlice S2048x4096 ![0, 0] · slices_S2048x10880_S2048x4096_0_0)
    (Pipeline.withArrays_arr_shared spec0 c (V0 m c) _ ((dats m 0 c).arrAt_sharedIn sharedIn0 (V0 m c) (A_eq m c) cfg0.N) 7)

theorem frame_kernel : Cert.quiescent_MergeBwd := fun m ρ _ => Cert.MergeBwd.Gen.frame m ρ
theorem frame_ideal : Cert.quiescent_MergeBwdIdeal := fun m ρ _ => Cert.MergeBwdIdeal.Gen.frame m ρ
theorem frame_ref : Cert.quiescent_MergeBwdRefIdeal := by
  intro m g _
  refine θ_run_mono (Cert.MergeBwdRefIdeal.Value.run m g) fun r h => ⟨fun c => (h c).2.2.2, sem_eq_zero_of_no_sems (by decide) r.2⟩

theorem algebraic : Cert.algebraic_MergeBwdIdeal_MergeBwdRefIdeal := by
  intro m g m' g' hpre hagree
  refine ⟨fun c => val_main_v35 (m ((c.tc : Thread nD τ).loc main_arg0)) (m ((c.tc : Thread nD τ).loc main_arg3)), fun c => val_main_v36 (m ((c.tc : Thread nD τ).loc main_arg0)) (m ((c.tc : Thread nD τ).loc main_arg3)),
    fun c => val_main_v37 (m ((c.tc : Thread nD τ).loc main_arg0)) (m ((c.tc : Thread nD τ).loc main_arg1)) (m ((c.tc : Thread nD τ).loc main_arg2)) (m ((c.tc : Thread nD τ).loc main_arg3)), ?_, ?_⟩
  · refine θ_run_mono (run m g) fun r h c => ?_
    obtain ⟨h5, h6, h7, ha⟩ := h c
    exact ⟨h5.trans (final5 m c), h6.trans (final6 m c), h7.trans (cut7 m c), ha⟩
  · refine θ_run_mono (Cert.MergeBwdRefIdeal.Value.run m' g') fun r h c => ?_
    obtain ⟨h5, h6, h7, ha⟩ := h c
    obtain ⟨e0, e1, e2, e3⟩ := hagree c
    refine ⟨h5.trans ?_, h6.trans ?_, h7.trans ?_, ha⟩
    · rw [e0, e3]; rfl
    · rw [e0, e3]; rfl
    · rw [e0, e1, e2, e3]; rfl

end Cert.MergeBwdCall
end
-- ==== Proof.CallMergeFwd.lean ====
/-
  The gated merge of the two branches: the kernel's result array is the reference's.
-/
module

public import proofs.«01_k».proof.Defs
public import proofs.«01_k».proof.Proof.Gen.MergeFwd.Frame
public import proofs.«01_k».proof.Proof.Gen.MergeFwdIdeal.Frame
public import proofs.«01_k».proof.Proof.Gen.MergeFwdRefIdeal.Run
public import proofs.«01_k».proof.Proof.Gen.MergeFwdRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.MergeFwdCall

open Idealize.ShloMosaic Idealize.ShloMosaic.TcCoe Idealize.SL.Sem
open Idealize.ShloMosaic.Pipeline (Dat)
open Cert.MergeFwdIdeal Cert.MergeFwdIdeal.Gen
open Cert.MergeFwdRefIdeal.Read (val_main_v0 val_main_v1 val_main_v2 val_main_v3 val_main_v4 val_main_v5 val_main_v6 val_main_v7 val_main_v8 val_main_v9 val_main_cst val_main_v10 val_main_v11 val_main_v12 val_main_v13 val_main_v14 val_main_v15 val_main_v16 val_main_v17 val_main_cst_0 val_main_cst_1 val_main_cst_2)

variable (m : (ℓ : Loc nD τ sig) → Buf (Elt Ideal) ℓ)

/-- The reference's result as a function of the arguments. -/
abbrev ref (x0 : FVec Ideal S2048x10880 .f32) (x1 : FVec Ideal S2048x2048 .f32) (x2 : FVec Ideal S2048x2048 .f32) : FVec Ideal S2048x2048 .bf16 :=
  Cert.MergeFwdRefIdeal.Read.val_main_v17 (F := Ideal) x0 x1 x2

/-- The windows' block indices at every point of the grid. -/
theorem idx : ∀ t : Fin cfg0.N, win0_0.index t = ![(grid0.coords t 0).val, 0]
    ∧ win0_1.index t = ![(grid0.coords t 0).val, 1]
    ∧ win0_2.index t = ![(grid0.coords t 0).val, 0]
    ∧ win0_3.index t = ![(grid0.coords t 0).val, 0]
    ∧ win0_4.index t = ![(grid0.coords t 0).val, 0] :=
  (by decide +kernel : ∀ t : Fin grid0.N, _)

/-- A tile of the result. -/
theorem point (c : Dev nD) (t : Fin cfg0.N) (y) : k0_pay1 (X0_0 m c t) (iblk m c 2 t) (X0_1 m c t) (iblk m c 3 t) y
    = ref (m ((c : Thread nD τ).loc main_arg0)) (m ((c : Thread nD τ).loc main_arg1)) (m ((c : Thread nD τ).loc main_arg2)) (((cfg0.win 4).blk t).view.emb y) := by
  pointwise [k0_pay1, ref, val_main_v0, val_main_v1, val_main_v2, val_main_v3, val_main_v4, val_main_v5, val_main_v6, val_main_v7, val_main_v8, val_main_v9, val_main_cst, val_main_v10, val_main_v11, val_main_v12, val_main_v13, val_main_v14, val_main_v15, val_main_v16, val_main_v17, val_main_cst_0, val_main_cst_1, val_main_cst_2]
  simp only [zero_sub, X0_0, X0_1, Pipeline.Window.fill, dif_pos (moved0_0 t _), dif_pos (moved0_1 t _)]
  blk_point [iblk, V, idx t]
  · refine congrArg (fun z : EReal => -z) (congrArg (m ((c : Thread nD τ).loc main_arg0)) ?_)
    blk_ext [idx t]
  · refine congrArg (fun z : EReal => -z) (congrArg (m ((c : Thread nD τ).loc main_arg0)) ?_)
    blk_ext [idx t]

set_option maxHeartbeats 1000000 in
theorem final (c : Dev nD) : (dats m 0 c).arrAt 4 (cfgs 0).N
    = ref (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; unfold outsAt0; frame_out
  exact point m c t y

theorem frame_kernel : Cert.quiescent_MergeFwd := fun m ρ _ => Cert.MergeFwd.Gen.frame m ρ
theorem frame_ideal : Cert.quiescent_MergeFwdIdeal := fun m ρ _ => Cert.MergeFwdIdeal.Gen.frame m ρ
theorem frame_ref : Cert.quiescent_MergeFwdRefIdeal := by
  intro m g _
  refine θ_run_mono (Cert.MergeFwdRefIdeal.Value.run m g) fun r h => ⟨fun c => (h c).2, sem_eq_zero_of_no_sems (by decide) r.2⟩

theorem algebraic : Cert.algebraic_MergeFwdIdeal_MergeFwdRefIdeal := by
  pair_intro
  · run_from Cert.MergeFwdIdeal.Gen.run_main m g
  · run_from Cert.MergeFwdRefIdeal.Value.run m' g'
    · exact (final m c).symm

end Cert.MergeFwdCall
end
-- ==== Proof.CallNormBwd.lean ====
/-
  The gradient of the RMS norm: the kernel's three result arrays are the reference's.
-/
module

public import proofs.«01_k».proof.Defs
public import proofs.«01_k».proof.Proof.NormMath
public import proofs.«01_k».proof.Proof.Gen.NormBwd.Frame
public import proofs.«01_k».proof.Proof.Gen.NormBwdIdeal.Frame
public import proofs.«01_k».proof.Proof.Gen.NormBwdRefIdeal.Run
public import proofs.«01_k».proof.Proof.Gen.NormBwdRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.NormBwdCall

open Idealize.ShloMosaic Idealize.ShloMosaic.TcCoe Idealize.SL.Sem Cert.Reals
open Idealize.ShloMosaic.Pipeline (Dat)
open Cert.NormBwdIdeal Cert.NormBwdIdeal.Gen
open Cert.NormBwdRefIdeal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_v24 val_main_v25 val_main_v26 val_main_v27 val_main_v28 val_main_v29 val_main_v30 val_main_v31 val_main_v32 val_main_v33 val_main_v34 val_main_v35 val_main_v36 val_main_cst val_main_cst_0 val_main_cst_1 val_main_cst_2 val_main_cst_3 val_main_cst_4 val_main_cst_5 val_main_cst_6)

variable (m : (ℓ : Loc nD τ sig) → Buf (Elt Ideal) ℓ)

/-- The windows' block indices at every point of the grid. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![0, 0] :=
  (by decide +kernel : ∀ t : Fin grid0.N, _)

/-- The kernel's gradient of a tile, row by row. -/
theorem pay_eq (x d : Vec Ideal S256x2048 .f32) (g : Vec Ideal S1x2048 .f32) (r : Vec Ideal S256x2048 .f32) (i : Fin 256) (j : Fin 2048) :
    k0_pay4 x d g r (ix2 i j) = NormMath.short (fun k => x (ix2 i k)) (fun k => d (ix2 i k) * g (ix2 0 k))
      (Ideal.ofBits .f32 0x45000000#32) (Ideal.ofBits .f32 0x358637BD#32) j + r (ix2 i j) := by
  pointwise [k0_pay4, k0_pay3, k0_pay2]
  rfl

/-- The reference's gradient, row by row. -/
theorem ref_eq (x : FVec Ideal S2048x2048 .f32) (g : FVec Ideal S1x2048 .f32) (d r : FVec Ideal S2048x2048 .f32) (i j : Fin 2048) :
    val_main_v34 (F := Ideal) x g d r (ix2 i j) = NormMath.long (fun k => x (ix2 i k)) (fun k => d (ix2 i k) * g (ix2 0 k))
      (Ideal.ofBits .f32 0x45000000#32) (Ideal.ofBits .f32 0x358637BD#32) (Ideal.ofBits .f32 0xBF000000#32) j + r (ix2 i j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6]
  simp only [Finset.univ_unique, Finset.sum_singleton]
  rfl

/-- The gradient of `x` on one tile, plus the gradient that passes by. -/
theorem pointX (c : Dev nD) (t : Fin cfg0.N) (i' : Fin 256) (j : Fin 2048) (i : Fin 2048) (hi : i.val = 256 * t.val + i'.val) :
    k0_pay4 (iblk m c 0 t) (iblk m c 2 t) (iblk m c 1 t) (iblk m c 3 t) (ix2 i' j)
      = val_main_v34 (F := Ideal) (m ((c : Thread nD τ).loc main_arg0)) (m ((c : Thread nD τ).loc main_arg1)) (m ((c : Thread nD τ).loc main_arg2))
          (m ((c : Thread nD τ).loc main_arg3)) (ix2 i j) := by
  rw [pay_eq, ref_eq, ← NormMath.grad_2048]
  have h0 : (fun k : Fin 2048 => iblk m c 0 t (ix2 i' k)) = fun k => m ((c : Thread nD τ).loc main_arg0) (ix2 i k) := funext fun k => by
    blk_point [iblk, V, idx t, hi]
  refine congrArg₂ (fun a b : EReal => a + b) (congrArg₂ (fun a b => NormMath.short a b _ _ j) h0 (funext fun k => ?_)) ?_
  · refine congrArg₂ (fun a b : EReal => a * b) ?_ ?_
    · blk_point [iblk, V, idx t, hi]
    · blk_point [iblk, V, idx t, hi]
  · blk_point [iblk, V, idx t, hi]

/-- One tile's contribution to the gain's gradient: the sum over the tile's rows. -/
def part (c : Dev nD) (t : Fin cfg0.N) (y : S1x2048.Idx) : EReal :=
  ∑ k : Fin 256, (show EReal from (iblk m c 2 t) (ix2 k (y 1))) * (show EReal from k0_pay3 (iblk m c 0 t) (ix2 k (y 1)))

theorem step_eq (x : Vec Ideal S1x2048 .f32) (c : Dev nD) (t : Fin cfg0.N) (y : S1x2048.Idx) :
    k0_pay1 (k0_pay3 (iblk m c 0 t)) (iblk m c 2 t) (k0_pay7 x) y = x y + part m c t y := by
  pointwise [k0_pay1, k0_pay7]
  rfl

theorem zero_eq (y : S1x2048.Idx) : k0_pay6 (F := Ideal) y = 0 := by
  pointwise [k0_pay6]

/-- The three results of a point, but for the gain's gradient. -/
theorem outX (c : Dev nD) (t : Fin cfg0.N) : (outsAt0 m c t.val t.isLt).1 = k0_pay4 (iblk m c 0 t) (iblk m c 2 t) (iblk m c 1 t) (iblk m c 3 t) := by
  by_cases h : t.val % 8 = 0
  · rw [outsAt0_A m c t h]; frame_out
  · rw [outsAt0_B m c t h]; frame_out

theorem outXb (c : Dev nD) (t : Fin cfg0.N) : (outsAt0 m c t.val t.isLt).2.1 = k0_pay5 (iblk m c 0 t) (iblk m c 2 t) (iblk m c 1 t) (iblk m c 3 t) := by
  by_cases h : t.val % 8 = 0
  · rw [outsAt0_A m c t h]; frame_out
  · rw [outsAt0_B m c t h]; frame_out

theorem acc_first (c : Dev nD) (t : Fin cfg0.N) (h : t.val % 8 = 0) (y : S1x2048.Idx) :
    (outsAt0 m c t.val t.isLt).2.2 y = 0 + part m c t y := by
  rw [outsAt0_A m c t h]; frame_out
  rw [step_eq, zero_eq]

theorem acc_later (c : Dev nD) (t : Fin cfg0.N) (h : ¬ t.val % 8 = 0) (y : S1x2048.Idx) :
    (outsAt0 m c t.val t.isLt).2.2 y
      = (outsAt0 m c (t.val - 1) (Nat.lt_of_le_of_lt (Nat.sub_le _ _) t.isLt)).2.2 y + part m c t y := by
  rw [outsAt0_B m c t h]; frame_out
  rw [step_eq]

/-- A tile of the normalised rows. -/
theorem xhat (c : Dev nD) (t : Fin cfg0.N) (k : Fin 256) (j : Fin 2048) (i : Fin 2048) (hi : i.val = 256 * t.val + k.val) :
    k0_pay3 (iblk m c 0 t) (ix2 k j) = val_main_v12 (F := Ideal) (m ((c : Thread nD τ).loc main_arg0)) (ix2 i j) := by
  pointwise [k0_pay3, k0_pay2, val_main_v0, val_main_cst, val_main_v1, val_main_v2, val_main_cst_0, val_main_v3, val_main_v4, val_main_cst_1, val_main_v5, val_main_v6, val_main_v7, val_main_v11, val_main_v12]
  have h0 : ∀ k' : Fin 2048, iblk m c 0 t (ix2 k k') = m ((c : Thread nD τ).loc main_arg0) (ix2 i k') := fun k' => by
    blk_point [iblk, V, idx t, hi]
  simp only [h0]

theorem finalX (c : Dev nD) : (dats m 0 c).arrAt 4 (cfgs 0).N
    = val_main_v34 (F := Ideal) (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4, outX]
  have hN : t.val < 8 := t.isLt
  have h0 : (y 0).val < 256 := (y 0).isLt
  refine Eq.trans (congrArg _ (by blk_ext)) ((pointX m c t (y 0) (y 1) ⟨256 * t.val + (y 0).val, by omega⟩ rfl).trans (congrArg _ ?_))
  blk_ext [idx t]

theorem finalXb (c : Dev nD) : (dats m 0 c).arrAt 5 (cfgs 0).N
    = val_main_v36 (F := Ideal) (m ((c : Thread nD τ).loc main_arg0)) (m ((c : Thread nD τ).loc main_arg1)) (m ((c : Thread nD τ).loc main_arg2))
          (m ((c : Thread nD τ).loc main_arg3)) := by
  refine (dats m 0 c).arrAt_eq_of_covers 5 _ (by decide +kernel) fun t _ y => ?_
  blk_simp
  rw [after0_5, outXb]
  have hN : t.val < 8 := t.isLt
  have h0 : (y 0).val < 256 := (y 0).isLt
  refine Eq.trans (congrArg _ (by blk_ext)) ((pointX m c t (y 0) (y 1) ⟨256 * t.val + (y 0).val, by omega⟩ rfl).trans (congrArg _ ?_))
  blk_ext [idx t]

theorem finalG (c : Dev nD) : (dats m 0 c).arrAt 6 (cfgs 0).N
    = val_main_v17 (F := Ideal) (m ((c : Thread nD τ).loc main_arg0)) (m ((c : Thread nD τ).loc main_arg2)) := by
  refine (dats m 0 c).arrAt_eq_of_covers 6 _ (by decide +kernel) fun t hf y => ?_
  blk_simp
  rw [after0_6,
    Pipeline.eq_sum_fin_of_reset_step_apply_of_flush (fun n h => (outsAt0 m c n h).2.2) 8 (fun _ => 0) (fun t y => part m c t y)
      (fun t h j => acc_first m c t h j) (fun t h j => acc_later m c t h j) t ((flush0_6 t).mp hf) _, zero_add]
  pointwise [val_main_v15, val_main_cst_3, val_main_v16, val_main_v17]
  unfold part
  refine Fin.sum_mul_add_congr fun s k hl => ?_
  rw [mul_comm]
  refine congrArg₂ (fun a b : EReal => a * b) ?_ ?_
  · refine (xhat m c _ k (y 1) ⟨s.val * 256 + k.val, hl⟩ ?_).trans (congrArg _ ?_)
    · have hN : t.val < 8 := t.isLt
      show s.val * 256 + k.val = 256 * (8 * (t.val / 8) + s.val) + k.val
      omega
    · blk_ext [idx t]
  · blk_point [iblk, V, idx t, idx ⟨_, Pipeline.run_point_lt_of_flush t ((flush0_6 t).mp hf) s⟩]

theorem frame_kernel : Cert.quiescent_NormBwd := fun m ρ _ => Cert.NormBwd.Gen.frame m ρ
theorem frame_ideal : Cert.quiescent_NormBwdIdeal := fun m ρ _ => Cert.NormBwdIdeal.Gen.frame m ρ
theorem frame_ref : Cert.quiescent_NormBwdRefIdeal := by
  intro m g _
  refine θ_run_mono (Cert.NormBwdRefIdeal.Value.run m g) fun r h => ⟨fun c => (h c).2.2.2, sem_eq_zero_of_no_sems (by decide) r.2⟩

/-- The reference's run, its three results named by the stages that compute them. -/
theorem run_ref (m : (ℓ : Loc Cert.NormBwdRefIdeal.nD Cert.NormBwdRefIdeal.τ Cert.NormBwdRefIdeal.sig) → Buf (Elt Ideal) ℓ)
    (g : Dev Cert.NormBwdRefIdeal.nD → PrngReg) :
    θ_run (Cert.NormBwdRefIdeal.defs (F := Ideal)) (onTc (τ := Cert.NormBwdRefIdeal.τ) (Cert.NormBwdRefIdeal.main (F := Ideal))) ⟨m, fun _ => 0, g⟩
      fun r => ∀ c : Dev Cert.NormBwdRefIdeal.nD,
        r.2.mem ((c.tc : Thread Cert.NormBwdRefIdeal.nD Cert.NormBwdRefIdeal.τ).loc Cert.NormBwdRefIdeal.main_v34)
          = val_main_v34 (F := Ideal) (m ((c.tc : Thread Cert.NormBwdRefIdeal.nD Cert.NormBwdRefIdeal.τ).loc Cert.NormBwdRefIdeal.main_arg0))
            (m ((c.tc : Thread Cert.NormBwdRefIdeal.nD Cert.NormBwdRefIdeal.τ).loc Cert.NormBwdRefIdeal.main_arg1))
            (m ((c.tc : Thread Cert.NormBwdRefIdeal.nD Cert.NormBwdRefIdeal.τ).loc Cert.NormBwdRefIdeal.main_arg2))
            (m ((c.tc : Thread Cert.NormBwdRefIdeal.nD Cert.NormBwdRefIdeal.τ).loc Cert.NormBwdRefIdeal.main_arg3))
        ∧ r.2.mem ((c.tc : Thread Cert.NormBwdRefIdeal.nD Cert.NormBwdRefIdeal.τ).loc Cert.NormBwdRefIdeal.main_v36)
          = val_main_v36 (F := Ideal) (m ((c.tc : Thread Cert.NormBwdRefIdeal.nD Cert.NormBwdRefIdeal.τ).loc Cert.NormBwdRefIdeal.main_arg0))
            (m ((c.tc : Thread Cert.NormBwdRefIdeal.nD Cert.NormBwdRefIdeal.τ).loc Cert.NormBwdRefIdeal.main_arg1))
            (m ((c.tc : Thread Cert.NormBwdRefIdeal.nD Cert.NormBwdRefIdeal.τ).loc Cert.NormBwdRefIdeal.main_arg2))
            (m ((c.tc : Thread Cert.NormBwdRefIdeal.nD Cert.NormBwdRefIdeal.τ).loc Cert.NormBwdRefIdeal.main_arg3))
        ∧ r.2.mem ((c.tc : Thread Cert.NormBwdRefIdeal.nD Cert.NormBwdRefIdeal.τ).loc Cert.NormBwdRefIdeal.main_v17)
          = val_main_v17 (F := Ideal) (m ((c.tc : Thread Cert.NormBwdRefIdeal.nD Cert.NormBwdRefIdeal.τ).loc Cert.NormBwdRefIdeal.main_arg0))
            (m ((c.tc : Thread Cert.NormBwdRefIdeal.nD Cert.NormBwdRefIdeal.τ).loc Cert.NormBwdRefIdeal.main_arg2))
        ∧ r.2.mem ((c.tc : Thread Cert.NormBwdRefIdeal.nD Cert.NormBwdRefIdeal.τ).loc Cert.NormBwdRefIdeal.main_arg0)
          = m ((c.tc : Thread Cert.NormBwdRefIdeal.nD Cert.NormBwdRefIdeal.τ).loc Cert.NormBwdRefIdeal.main_arg0)
        ∧ r.2.mem ((c.tc : Thread Cert.NormBwdRefIdeal.nD Cert.NormBwdRefIdeal.τ).loc Cert.NormBwdRefIdeal.main_arg1)
          = m ((c.tc : Thread Cert.NormBwdRefIdeal.nD Cert.NormBwdRefIdeal.τ).loc Cert.NormBwdRefIdeal.main_arg1)
        ∧ r.2.mem ((c.tc : Thread Cert.NormBwdRefIdeal.nD Cert.NormBwdRefIdeal.τ).loc Cert.NormBwdRefIdeal.main_arg2)
          = m ((c.tc : Thread Cert.NormBwdRefIdeal.nD Cert.NormBwdRefIdeal.τ).loc Cert.NormBwdRefIdeal.main_arg2)
        ∧ r.2.mem ((c.tc : Thread Cert.NormBwdRefIdeal.nD Cert.NormBwdRefIdeal.τ).loc Cert.NormBwdRefIdeal.main_arg3)
          = m ((c.tc : Thread Cert.NormBwdRefIdeal.nD Cert.NormBwdRefIdeal.τ).loc Cert.NormBwdRefIdeal.main_arg3) :=
  θ_run_mono (Cert.NormBwdRefIdeal.Value.run m g) fun r h c =>
    ⟨(h c).1.trans (Cert.NormBwdRefIdeal.Read.val_main_v34_eq _ _ _ _), (h c).2.1.trans (Cert.NormBwdRefIdeal.Read.val_main_v36_eq _ _ _ _),
      (h c).2.2.1.trans (Cert.NormBwdRefIdeal.Read.val_main_v17_eq _ _), (h c).2.2.2⟩

theorem algebraic : Cert.algebraic_NormBwdIdeal_NormBwdRefIdeal := by
  pair_intro
  · run_from Cert.NormBwdIdeal.Gen.run_main m g
  · run_from run_ref m' g'
    · exact (finalX m c).symm
    · exact (finalXb m c).symm
    · exact (finalG m c).symm

end Cert.NormBwdCall
end
-- ==== Proof.CallNormFwd.lean ====
/-
  The RMS norm: the kernel's result array is the reference's.
-/
module

public import proofs.«01_k».proof.Defs
public import proofs.«01_k».proof.Proof.Gen.NormFwd.Frame
public import proofs.«01_k».proof.Proof.Gen.NormFwdIdeal.Frame
public import proofs.«01_k».proof.Proof.Gen.NormFwdRefIdeal.Run
public import proofs.«01_k».proof.Proof.Gen.NormFwdRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.NormFwdCall

open Idealize.ShloMosaic Idealize.ShloMosaic.TcCoe Idealize.SL.Sem
open Idealize.ShloMosaic.Pipeline (Dat)
open Cert.NormFwdIdeal Cert.NormFwdIdeal.Gen
open Cert.NormFwdRefIdeal.Read (val_main_v0 val_main_v1 val_main_v2 val_main_v3 val_main_v4 val_main_v5 val_main_v6 val_main_v7 val_main_v8 val_main_v9 val_main_cst val_main_v10 val_main_v11 val_main_v12 val_main_cst_0 val_main_cst_1)

variable (m : (ℓ : Loc nD τ sig) → Buf (Elt Ideal) ℓ)

/-- The reference's result as a function of the arguments. -/
abbrev ref (x0 : FVec Ideal S2048x2048 .f32) (x1 : FVec Ideal S1x2048 .f32) : FVec Ideal S2048x2048 .bf16 :=
  Cert.NormFwdRefIdeal.Read.val_main_v12 (F := Ideal) x0 x1

/-- The windows' block indices at every point of the grid. -/
theorem idx : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

/-- A tile of the result. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_v2, val_main_v3, val_main_v4, val_main_v5, val_main_v6, val_main_v7, val_main_v8, val_main_v9, val_main_cst, val_main_v10, val_main_v11, val_main_v12, val_main_cst_0, val_main_cst_1]
  blk_point [iblk, V, idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_NormFwd := fun m ρ _ => Cert.NormFwd.Gen.frame m ρ
theorem frame_ideal : Cert.quiescent_NormFwdIdeal := fun m ρ _ => Cert.NormFwdIdeal.Gen.frame m ρ
theorem frame_ref : Cert.quiescent_NormFwdRefIdeal := by
  intro m g _
  refine θ_run_mono (Cert.NormFwdRefIdeal.Value.run m g) fun r h => ⟨fun c => (h c).2, sem_eq_zero_of_no_sems (by decide) r.2⟩

theorem algebraic : Cert.algebraic_NormFwdIdeal_NormFwdRefIdeal := by
  pair_intro
  · run_from Cert.NormFwdIdeal.Gen.run_main m g
  · run_from Cert.NormFwdRefIdeal.Value.run m' g'
    · exact (final m c).symm

end Cert.NormFwdCall
end
-- ==== Proof.CallOProj.lean ====
/-
  The output projection added to the residual: the kernel's result array is the reference's.
-/
module

public import proofs.«01_k».proof.Defs
public import proofs.«01_k».proof.Proof.Gen.OProj.Frame
public import proofs.«01_k».proof.Proof.Gen.OProjIdeal.Frame
public import proofs.«01_k».proof.Proof.Gen.OProjRefIdeal.Run
public import proofs.«01_k».proof.Proof.Gen.OProjRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.OProjCall

open Idealize.ShloMosaic Idealize.ShloMosaic.TcCoe Idealize.SL.Sem
open Idealize.ShloMosaic.Pipeline (Dat)
open Cert.OProjIdeal Cert.OProjIdeal.Gen
open Cert.OProjRefIdeal.Read (val_main_v0 val_main_v1 val_main_v2 val_main_v3)

variable (m : (ℓ : Loc nD τ sig) → Buf (Elt Ideal) ℓ)

/-- The reference's result as a function of the arguments. -/
abbrev ref (x0 : FVec Ideal S2048x2048 .bf16) (x1 : FVec Ideal S2048x2048 .bf16) (x2 : FVec Ideal S2048x2048 .f32) : FVec Ideal S2048x2048 .f32 :=
  Cert.OProjRefIdeal.Read.val_main_v3 (F := Ideal) x0 x1 x2

/-- The windows' block indices at every point of the grid. -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

/-- A tile of the result. -/
theorem point (c : Dev nD) (t : Fin cfg0.N) (y) : k0_pay1 (iblk m c 0 t) (iblk m c 1 t) (iblk m c 2 t) y
    = ref (m ((c : Thread nD τ).loc main_arg0)) (m ((c : Thread nD τ).loc main_arg1)) (m ((c : Thread nD τ).loc main_arg2)) (((cfg0.win 3).blk t).view.emb y) := by
  pointwise [k0_pay1, ref, val_main_v0, val_main_v1, val_main_v2, val_main_v3]
  rw [add_comm]
  blk_point [iblk, V, idx t]

theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

theorem frame_kernel : Cert.quiescent_OProj := fun m ρ _ => Cert.OProj.Gen.frame m ρ
theorem frame_ideal : Cert.quiescent_OProjIdeal := fun m ρ _ => Cert.OProjIdeal.Gen.frame m ρ
theorem frame_ref : Cert.quiescent_OProjRefIdeal := by
  intro m g _
  refine θ_run_mono (Cert.OProjRefIdeal.Value.run m g) fun r h => ⟨fun c => (h c).2, sem_eq_zero_of_no_sems (by decide) r.2⟩

theorem algebraic : Cert.algebraic_OProjIdeal_OProjRefIdeal := by
  pair_intro
  · run_from Cert.OProjIdeal.Gen.run_main m g
  · run_from Cert.OProjRefIdeal.Value.run m' g'
    · exact (final m c).symm

end Cert.OProjCall
end
-- ==== Proof.CallPleProj.lean ====
/-
  The product of the per-layer inputs with their projection, its weights kept in eight blocks of 256 columns: the
  kernel's result array is the reference's.
-/
module

public import proofs.«01_k».proof.Defs
public import proofs.«01_k».proof.Proof.Gen.PleProj.Frame
public import proofs.«01_k».proof.Proof.Gen.PleProjIdeal.Frame
public import proofs.«01_k».proof.Proof.Gen.PleProjRefIdeal.Run
public import proofs.«01_k».proof.Proof.Gen.PleProjRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.PleProjCall

open Idealize.ShloMosaic Idealize.ShloMosaic.TcCoe Idealize.SL.Sem
open Idealize.ShloMosaic.Pipeline (Dat)
open Cert.PleProjIdeal Cert.PleProjIdeal.Gen
open Cert.PleProjRefIdeal.Read (val_main_v0 val_main_v1 val_main_v2 val_main_v3)

variable (m : (ℓ : Loc nD τ sig) → Buf (Elt Ideal) ℓ)

/-- The reference's result as a function of the arguments. -/
abbrev ref (x0 : FVec Ideal S2048x256 .f32) (x1 : FVec Ideal S8x256x256 .bf16) : FVec Ideal S2048x2048 .f32 :=
  Cert.PleProjRefIdeal.Read.val_main_v3 (F := Ideal) x0 x1

/-- The windows' block indices at every point of the grid. -/
theorem idx : ∀ t : Fin cfg0.N, win0_0.index t = ![(grid0.coords t 0).val, 0]
    ∧ win0_1.index t = ![(grid0.coords t 1).val, 0, 0]
    ∧ win0_2.index t = ![(grid0.coords t 0).val, (grid0.coords t 1).val] :=
  (by decide +kernel : ∀ t : Fin grid0.N, _)

/-- A tile of the result. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_v2, val_main_v3]
  blk_point [iblk, V, idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_PleProj := fun m ρ _ => Cert.PleProj.Gen.frame m ρ
theorem frame_ideal : Cert.quiescent_PleProjIdeal := fun m ρ _ => Cert.PleProjIdeal.Gen.frame m ρ
theorem frame_ref : Cert.quiescent_PleProjRefIdeal := by
  intro m g _
  refine θ_run_mono (Cert.PleProjRefIdeal.Value.run m g) fun r h => ⟨fun c => (h c).2, sem_eq_zero_of_no_sems (by decide) r.2⟩

theorem algebraic : Cert.algebraic_PleProjIdeal_PleProjRefIdeal := by
  pair_intro
  · run_from Cert.PleProjIdeal.Gen.run_main m g
  · run_from Cert.PleProjRefIdeal.Value.run m' g'
    · exact (final m c).symm

end Cert.PleProjCall
end
-- ==== Proof.CallSquare.lean ====
/-
  The product with a square matrix: the kernel's result array is the reference's.
-/
module

public import proofs.«01_k».proof.Defs
public import proofs.«01_k».proof.Proof.Gen.Square.Frame
public import proofs.«01_k».proof.Proof.Gen.SquareIdeal.Frame
public import proofs.«01_k».proof.Proof.Gen.SquareRefIdeal.Run
public import proofs.«01_k».proof.Proof.Gen.SquareRefIdeal.Read
public import Idealize.ShloMosaic.Lib.Pipeline.ValueKit
public import Idealize.ShloMosaic.Lib.Claim
public import Idealize.ShloMosaic.Lib.Quiescent

@[expose] public section

set_option maxRecDepth 16384

noncomputable section

namespace Cert.SquareCall

open Idealize.ShloMosaic Idealize.ShloMosaic.TcCoe Idealize.SL.Sem
open Idealize.ShloMosaic.Pipeline (Dat)
open Cert.SquareIdeal Cert.SquareIdeal.Gen
open Cert.SquareRefIdeal.Read (val_main_v0 val_main_v1 val_main_v2)

variable (m : (ℓ : Loc nD τ sig) → Buf (Elt Ideal) ℓ)

/-- The reference's result as a function of the arguments. -/
abbrev ref (x0 : FVec Ideal S2048x2048 .bf16) (x1 : FVec Ideal S2048x2048 .bf16) : FVec Ideal S2048x2048 .f32 :=
  Cert.SquareRefIdeal.Read.val_main_v2 (F := Ideal) x0 x1

/-- The windows' block indices at every point of the grid. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- A tile of the result. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v0, val_main_v1, val_main_v2]
  blk_point [iblk, V, idx t]

theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_Square := fun m ρ _ => Cert.Square.Gen.frame m ρ
theorem frame_ideal : Cert.quiescent_SquareIdeal := fun m ρ _ => Cert.SquareIdeal.Gen.frame m ρ
theorem frame_ref : Cert.quiescent_SquareRefIdeal := by
  intro m g _
  refine θ_run_mono (Cert.SquareRefIdeal.Value.run m g) fun r h => ⟨fun c => (h c).2, sem_eq_zero_of_no_sems (by decide) r.2⟩

theorem algebraic : Cert.algebraic_SquareIdeal_SquareRefIdeal := by
  pair_intro
  · run_from Cert.SquareIdeal.Gen.run_main m g
  · run_from Cert.SquareRefIdeal.Value.run m' g'
    · exact (final m c).symm

end Cert.SquareCall
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.AttnBwdIdeal.Points
public import proofs.«01_k».proof.Proof.Gen.AttnBwd
public import proofs.«01_k».proof.Proof.Gen.AttnBwdIdeal
public import proofs.«01_k».proof.Proof.Gen.AttnBwdIdeal.Skeleton
public import proofs.«01_k».proof.Proof.Gen.AttnBwd.Skeleton
public import proofs.«01_k».proof.Proof.Gen.AttnBwdIdeal.Frame
public import proofs.«01_k».proof.Proof.Gen.AttnBwd.Frame
public import proofs.«01_k».proof.Proof.Gen.AttnBwdRefIdeal.Run
public import proofs.«01_k».proof.Proof.Gen.AttnBwdRefIdeal.Read
public import proofs.«01_k».proof.Proof.Gen.AttnBwdRefIdeal
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.FfnUpBwd
public import proofs.«01_k».proof.Proof.Gen.FfnUpBwd.Frame
public import proofs.«01_k».proof.Proof.Gen.FfnUpBwdIdeal
public import proofs.«01_k».proof.Proof.Gen.FfnUpBwdIdeal.Frame
public import proofs.«01_k».proof.Proof.Gen.FfnUpBwdRefIdeal
public import proofs.«01_k».proof.Proof.Gen.FfnUpBwdRefIdeal.Run
public import proofs.«01_k».proof.Proof.Gen.FfnUpBwdRefIdeal.Read
public import proofs.«01_k».proof.Proof.Gen.DwFfn
public import proofs.«01_k».proof.Proof.Gen.DwFfn.Frame
public import proofs.«01_k».proof.Proof.Gen.DwFfnIdeal
public import proofs.«01_k».proof.Proof.Gen.DwFfnIdeal.Frame
public import proofs.«01_k».proof.Proof.Gen.DwFfnRefIdeal
public import proofs.«01_k».proof.Proof.Gen.DwFfnRefIdeal.Run
public import proofs.«01_k».proof.Proof.Gen.DwFfnRefIdeal.Read
public import proofs.«01_k».proof.Proof.Gen.DwSquare
public import proofs.«01_k».proof.Proof.Gen.DwSquare.Frame
public import proofs.«01_k».proof.Proof.Gen.DwSquareIdeal
public import proofs.«01_k».proof.Proof.Gen.DwSquareIdeal.Frame
public import proofs.«01_k».proof.Proof.Gen.DwSquareRefIdeal
public import proofs.«01_k».proof.Proof.Gen.DwSquareRefIdeal.Run
public import proofs.«01_k».proof.Proof.Gen.DwSquareRefIdeal.Read
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.DwAttnBr
public import proofs.«01_k».proof.Proof.Gen.DwAttnBr.Frame
public import proofs.«01_k».proof.Proof.Gen.DwAttnBrIdeal
public import proofs.«01_k».proof.Proof.Gen.DwAttnBrIdeal.Frame
public import proofs.«01_k».proof.Proof.Gen.DwAttnBrRefIdeal
public import proofs.«01_k».proof.Proof.Gen.DwAttnBrRefIdeal.Run
public import proofs.«01_k».proof.Proof.Gen.DwAttnBrRefIdeal.Read
public import proofs.«01_k».proof.Proof.Gen.DSquare
public import proofs.«01_k».proof.Proof.Gen.DSquare.Frame
public import proofs.«01_k».proof.Proof.Gen.DSquareIdeal
public import proofs.«01_k».proof.Proof.Gen.DSquareIdeal.Frame
public import proofs.«01_k».proof.Proof.Gen.DSquareRefIdeal
public import proofs.«01_k».proof.Proof.Gen.DSquareRefIdeal.Run
public import proofs.«01_k».proof.Proof.Gen.DSquareRefIdeal.Read
public import proofs.«01_k».proof.Proof.Gen.DIn
public import proofs.«01_k».proof.Proof.Gen.DIn.Frame
public import proofs.«01_k».proof.Proof.Gen.DInIdeal
public import proofs.«01_k».proof.Proof.Gen.DInIdeal.Frame
public import proofs.«01_k».proof.Proof.Gen.DInRefIdeal
public import proofs.«01_k».proof.Proof.Gen.DInRefIdeal.Run
public import proofs.«01_k».proof.Proof.Gen.DInRefIdeal.Read
public import proofs.«01_k».proof.Proof.Gen.AttnBrBwd
public import proofs.«01_k».proof.Proof.Gen.AttnBrBwd.Frame
public import proofs.«01_k».proof.Proof.Gen.AttnBrBwdIdeal
public import proofs.«01_k».proof.Proof.Gen.AttnBrBwdIdeal.Frame
public import proofs.«01_k».proof.Proof.Gen.AttnBrBwdRefIdeal
public import proofs.«01_k».proof.Proof.Gen.AttnBrBwdRefIdeal.Run
public import proofs.«01_k».proof.Proof.Gen.AttnBrBwdRefIdeal.Read
public import proofs.«01_k».proof.Proof.Gen.AttnBr
public import proofs.«01_k».proof.Proof.Gen.AttnBr.Frame
public import proofs.«01_k».proof.Proof.Gen.AttnBrIdeal
public import proofs.«01_k».proof.Proof.Gen.AttnBrIdeal.Frame
public import proofs.«01_k».proof.Proof.Gen.AttnBrRefIdeal
public import proofs.«01_k».proof.Proof.Gen.AttnBrRefIdeal.Run
public import proofs.«01_k».proof.Proof.Gen.AttnBrRefIdeal.Read
public import proofs.«01_k».proof.Proof.Gen.Square
public import proofs.«01_k».proof.Proof.Gen.Square.Frame
public import proofs.«01_k».proof.Proof.Gen.SquareIdeal
public import proofs.«01_k».proof.Proof.Gen.SquareIdeal.Frame
public import proofs.«01_k».proof.Proof.Gen.SquareRefIdeal
public import proofs.«01_k».proof.Proof.Gen.SquareRefIdeal.Run
public import proofs.«01_k».proof.Proof.Gen.SquareRefIdeal.Read
public import proofs.«01_k».proof.Proof.Gen.OProj
public import proofs.«01_k».proof.Proof.Gen.OProj.Frame
public import proofs.«01_k».proof.Proof.Gen.OProjIdeal
public import proofs.«01_k».proof.Proof.Gen.OProjIdeal.Frame
public import proofs.«01_k».proof.Proof.Gen.OProjRefIdeal
public import proofs.«01_k».proof.Proof.Gen.OProjRefIdeal.Run
public import proofs.«01_k».proof.Proof.Gen.OProjRefIdeal.Read
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Frame
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.FfnClaim
public import proofs.«01_k».proof.Proof.Gen.PleProj
public import proofs.«01_k».proof.Proof.Gen.PleProj.Frame
public import proofs.«01_k».proof.Proof.Gen.PleProjIdeal
public import proofs.«01_k».proof.Proof.Gen.PleProjIdeal.Frame
public import proofs.«01_k».proof.Proof.Gen.PleProjRefIdeal
public import proofs.«01_k».proof.Proof.Gen.PleProjRefIdeal.Run
public import proofs.«01_k».proof.Proof.Gen.PleProjRefIdeal.Read
public import proofs.«01_k».proof.Proof.Gen.DwPleProj
public import proofs.«01_k».proof.Proof.Gen.DwPleProj.Frame
public import proofs.«01_k».proof.Proof.Gen.DwPleProjIdeal
public import proofs.«01_k».proof.Proof.Gen.DwPleProjIdeal.Frame
public import proofs.«01_k».proof.Proof.Gen.DwPleProjRefIdeal
public import proofs.«01_k».proof.Proof.Gen.DwPleProjRefIdeal.Run
public import proofs.«01_k».proof.Proof.Gen.DwPleProjRefIdeal.Read
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Frame
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.GnormFwd
public import proofs.«01_k».proof.Proof.Gen.GnormFwd.Frame
public import proofs.«01_k».proof.Proof.Gen.GnormFwdIdeal
public import proofs.«01_k».proof.Proof.Gen.GnormFwdIdeal.Frame
public import proofs.«01_k».proof.Proof.Gen.GnormFwdRefIdeal
public import proofs.«01_k».proof.Proof.Gen.GnormFwdRefIdeal.Run
public import proofs.«01_k».proof.Proof.Gen.GnormFwdRefIdeal.Read
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamFfn
public import proofs.«01_k».proof.Proof.Gen.AdamFfn.Frame
public import proofs.«01_k».proof.Proof.Gen.AdamFfnIdeal
public import proofs.«01_k».proof.Proof.Gen.AdamFfnIdeal.Frame
public import proofs.«01_k».proof.Proof.Gen.AdamFfnRefIdeal
public import proofs.«01_k».proof.Proof.Gen.AdamFfnRefIdeal.Run
public import proofs.«01_k».proof.Proof.Gen.AdamFfnRefIdeal.Read
public import proofs.«01_k».proof.Proof.Gen.AdamSquare
public import proofs.«01_k».proof.Proof.Gen.AdamSquare.Frame
public import proofs.«01_k».proof.Proof.Gen.AdamSquareIdeal
public import proofs.«01_k».proof.Proof.Gen.AdamSquareIdeal.Frame
public import proofs.«01_k».proof.Proof.Gen.AdamSquareRefIdeal
public import proofs.«01_k».proof.Proof.Gen.AdamSquareRefIdeal.Run
public import proofs.«01_k».proof.Proof.Gen.AdamSquareRefIdeal.Read
public import proofs.«01_k».proof.Proof.Gen.AdamAttnBr
public import proofs.«01_k».proof.Proof.Gen.AdamAttnBr.Frame
public import proofs.«01_k».proof.Proof.Gen.AdamAttnBrIdeal
public import proofs.«01_k».proof.Proof.Gen.AdamAttnBrIdeal.Frame
public import proofs.«01_k».proof.Proof.Gen.AdamAttnBrRefIdeal
public import proofs.«01_k».proof.Proof.Gen.AdamAttnBrRefIdeal.Run
public import proofs.«01_k».proof.Proof.Gen.AdamAttnBrRefIdeal.Read
public import proofs.«01_k».proof.Proof.Gen.AdamPle
public import proofs.«01_k».proof.Proof.Gen.AdamPle.Frame
public import proofs.«01_k».proof.Proof.Gen.AdamPleIdeal
public import proofs.«01_k».proof.Proof.Gen.AdamPleIdeal.Frame
public import proofs.«01_k».proof.Proof.Gen.AdamPleRefIdeal
public import proofs.«01_k».proof.Proof.Gen.AdamPleRefIdeal.Run
public import proofs.«01_k».proof.Proof.Gen.AdamPleRefIdeal.Read
public import proofs.«01_k».proof.Proof.Gen.AdamConv
public import proofs.«01_k».proof.Proof.Gen.AdamConv.Frame
public import proofs.«01_k».proof.Proof.Gen.AdamConvIdeal
public import proofs.«01_k».proof.Proof.Gen.AdamConvIdeal.Frame
public import proofs.«01_k».proof.Proof.Gen.AdamConvRefIdeal
public import proofs.«01_k».proof.Proof.Gen.AdamConvRefIdeal.Run
public import proofs.«01_k».proof.Proof.Gen.AdamConvRefIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Frame
public import proofs.«01_k».proof.Proof.Gen.MergeBwdRefIdeal
public import proofs.«01_k».proof.Proof.Gen.MergeBwdRefIdeal.Run
public import proofs.«01_k».proof.Proof.Gen.MergeBwdRefIdeal.Read
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadRefIdeal
public import proofs.«01_k».proof.Proof.Gen.HeadRefIdeal.Run
public import proofs.«01_k».proof.Proof.Gen.HeadRefIdeal.Read
public import proofs.«01_k».proof.Proof.Gen.Pre_attn_finite
public import proofs.«01_k».proof.Proof.AttnFrame
public import proofs.«01_k».proof.Proof.AttnClaim
public import proofs.«01_k».proof.Proof.CallAdamAttnBr
public import proofs.«01_k».proof.Proof.CallAdamConv
public import proofs.«01_k».proof.Proof.CallAdamFfn
public import proofs.«01_k».proof.Proof.CallAdamIn
public import proofs.«01_k».proof.Proof.CallAdamPle
public import proofs.«01_k».proof.Proof.CallAdamSmall
public import proofs.«01_k».proof.Proof.CallAdamSquare
public import proofs.«01_k».proof.Proof.CallAttnBr
public import proofs.«01_k».proof.Proof.CallAttnBrBwd
public import proofs.«01_k».proof.Proof.CallDIn
public import proofs.«01_k».proof.Proof.CallDSquare
public import proofs.«01_k».proof.Proof.CallDwAttnBr
public import proofs.«01_k».proof.Proof.CallDwFfn
public import proofs.«01_k».proof.Proof.CallDwIn
public import proofs.«01_k».proof.Proof.CallDwPleProj
public import proofs.«01_k».proof.Proof.CallDwSquare
public import proofs.«01_k».proof.Proof.CallFfnDown
public import proofs.«01_k».proof.Proof.CallFfnUp
public import proofs.«01_k».proof.Proof.CallFfnUpBwd
public import proofs.«01_k».proof.Proof.CallGnormFwd
public import proofs.«01_k».proof.Proof.CallHead
public import proofs.«01_k».proof.Proof.CallInProj
public import proofs.«01_k».proof.Proof.CallMergeBwd
public import proofs.«01_k».proof.Proof.CallMergeFwd
public import proofs.«01_k».proof.Proof.CallNormBwd
public import proofs.«01_k».proof.Proof.CallNormFwd
public import proofs.«01_k».proof.Proof.CallOProj
public import proofs.«01_k».proof.Proof.CallPleProj
public import proofs.«01_k».proof.Proof.CallSquare
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.AttnBwd.Gen.facts,
    Cert.AttnBwdIdeal.Gen.facts, Cert.AttnBwdRefIdeal.Gen.facts, Cert.InProj.Gen.facts, Cert.InProjIdeal.Gen.facts,
    Cert.InProjRefIdeal.Gen.facts, Cert.FfnUp.Gen.facts, Cert.FfnUpIdeal.Gen.facts, Cert.FfnUpRefIdeal.Gen.facts,
    Cert.FfnDown.Gen.facts, Cert.FfnDownIdeal.Gen.facts, Cert.FfnDownRefIdeal.Gen.facts, Cert.FfnUpBwd.Gen.facts,
    Cert.FfnUpBwdIdeal.Gen.facts, Cert.FfnUpBwdRefIdeal.Gen.facts, Cert.DwFfn.Gen.facts, Cert.DwFfnIdeal.Gen.facts,
    Cert.DwFfnRefIdeal.Gen.facts, Cert.DwSquare.Gen.facts, Cert.DwSquareIdeal.Gen.facts,
    Cert.DwSquareRefIdeal.Gen.facts, Cert.DwIn.Gen.facts, Cert.DwInIdeal.Gen.facts, Cert.DwInRefIdeal.Gen.facts,
    Cert.DwAttnBr.Gen.facts, Cert.DwAttnBrIdeal.Gen.facts, Cert.DwAttnBrRefIdeal.Gen.facts, Cert.DSquare.Gen.facts,
    Cert.DSquareIdeal.Gen.facts, Cert.DSquareRefIdeal.Gen.facts, Cert.DIn.Gen.facts, Cert.DInIdeal.Gen.facts,
    Cert.DInRefIdeal.Gen.facts, Cert.AttnBrBwd.Gen.facts, Cert.AttnBrBwdIdeal.Gen.facts,
    Cert.AttnBrBwdRefIdeal.Gen.facts, Cert.AttnBr.Gen.facts, Cert.AttnBrIdeal.Gen.facts,
    Cert.AttnBrRefIdeal.Gen.facts, Cert.Square.Gen.facts, Cert.SquareIdeal.Gen.facts,
    Cert.SquareRefIdeal.Gen.facts, Cert.OProj.Gen.facts, Cert.OProjIdeal.Gen.facts, Cert.OProjRefIdeal.Gen.facts,
    Cert.MergeFwd.Gen.facts, Cert.MergeFwdIdeal.Gen.facts, Cert.MergeFwdRefIdeal.Gen.facts, Cert.PleProj.Gen.facts,
    Cert.PleProjIdeal.Gen.facts, Cert.PleProjRefIdeal.Gen.facts, Cert.DwPleProj.Gen.facts,
    Cert.DwPleProjIdeal.Gen.facts, Cert.DwPleProjRefIdeal.Gen.facts, Cert.MergeBwd.Gen.facts,
    Cert.MergeBwdIdeal.Gen.facts, Cert.MergeBwdRefIdeal.Gen.facts, Cert.NormFwd.Gen.facts,
    Cert.NormFwdIdeal.Gen.facts, Cert.NormFwdRefIdeal.Gen.facts, Cert.GnormFwd.Gen.facts,
    Cert.GnormFwdIdeal.Gen.facts, Cert.GnormFwdRefIdeal.Gen.facts, Cert.NormBwd.Gen.facts,
    Cert.NormBwdIdeal.Gen.facts, Cert.NormBwdRefIdeal.Gen.facts, Cert.Head.Gen.facts, Cert.HeadIdeal.Gen.facts,
    Cert.HeadRefIdeal.Gen.facts, Cert.AdamIn.Gen.facts, Cert.AdamInIdeal.Gen.facts, Cert.AdamInRefIdeal.Gen.facts,
    Cert.AdamFfn.Gen.facts, Cert.AdamFfnIdeal.Gen.facts, Cert.AdamFfnRefIdeal.Gen.facts, Cert.AdamSquare.Gen.facts,
    Cert.AdamSquareIdeal.Gen.facts, Cert.AdamSquareRefIdeal.Gen.facts, Cert.AdamAttnBr.Gen.facts,
    Cert.AdamAttnBrIdeal.Gen.facts, Cert.AdamAttnBrRefIdeal.Gen.facts, Cert.AdamPle.Gen.facts,
    Cert.AdamPleIdeal.Gen.facts, Cert.AdamPleRefIdeal.Gen.facts, Cert.AdamConv.Gen.facts,
    Cert.AdamConvIdeal.Gen.facts, Cert.AdamConvRefIdeal.Gen.facts, Cert.AdamSmall.Gen.facts,
    Cert.AdamSmallIdeal.Gen.facts, Cert.AdamSmallRefIdeal.Gen.facts, Cert.Pre_finite.Gen.facts,
    Cert.Pre_attn_finite.Gen.facts, FfnClaim.frame_kernel, FfnClaim.frame_ideal, FfnClaim.frame_ideal_pre,
    FfnClaim.frame_ref, FfnClaim.frame_ref_pre, AttnFrame.frame_kernel, AttnFrame.frame_ideal,
    AttnFrame.frame_ideal_pre, AttnFrame.frame_ref, AttnFrame.frame_ref_pre, InProjCall.frame_kernel,
    InProjCall.frame_ideal, InProjCall.frame_ref, FfnUpCall.frame_kernel, FfnUpCall.frame_ideal,
    FfnUpCall.frame_ref, FfnDownCall.frame_kernel, FfnDownCall.frame_ideal, FfnDownCall.frame_ref,
    FfnUpBwdCall.frame_kernel, FfnUpBwdCall.frame_ideal, FfnUpBwdCall.frame_ref, DwFfnCall.frame_kernel,
    DwFfnCall.frame_ideal, DwFfnCall.frame_ref, DwSquareCall.frame_kernel, DwSquareCall.frame_ideal,
    DwSquareCall.frame_ref, DwInCall.frame_kernel, DwInCall.frame_ideal, DwInCall.frame_ref,
    DwAttnBrCall.frame_kernel, DwAttnBrCall.frame_ideal, DwAttnBrCall.frame_ref, DSquareCall.frame_kernel,
    DSquareCall.frame_ideal, DSquareCall.frame_ref, DInCall.frame_kernel, DInCall.frame_ideal, DInCall.frame_ref,
    AttnBrBwdCall.frame_kernel, AttnBrBwdCall.frame_ideal, AttnBrBwdCall.frame_ref, AttnBrCall.frame_kernel,
    AttnBrCall.frame_ideal, AttnBrCall.frame_ref, SquareCall.frame_kernel, SquareCall.frame_ideal,
    SquareCall.frame_ref, OProjCall.frame_kernel, OProjCall.frame_ideal, OProjCall.frame_ref,
    MergeFwdCall.frame_kernel, MergeFwdCall.frame_ideal, MergeFwdCall.frame_ref, PleProjCall.frame_kernel,
    PleProjCall.frame_ideal, PleProjCall.frame_ref, DwPleProjCall.frame_kernel, DwPleProjCall.frame_ideal,
    DwPleProjCall.frame_ref, MergeBwdCall.frame_kernel, MergeBwdCall.frame_ideal, MergeBwdCall.frame_ref,
    NormFwdCall.frame_kernel, NormFwdCall.frame_ideal, NormFwdCall.frame_ref, GnormFwdCall.frame_kernel,
    GnormFwdCall.frame_ideal, GnormFwdCall.frame_ref, NormBwdCall.frame_kernel, NormBwdCall.frame_ideal,
    NormBwdCall.frame_ref, HeadCall.frame_kernel, HeadCall.frame_ideal, HeadCall.frame_ref,
    AdamInCall.frame_kernel, AdamInCall.frame_ideal, AdamInCall.frame_ref, AdamFfnCall.frame_kernel,
    AdamFfnCall.frame_ideal, AdamFfnCall.frame_ref, AdamSquareCall.frame_kernel, AdamSquareCall.frame_ideal,
    AdamSquareCall.frame_ref, AdamAttnBrCall.frame_kernel, AdamAttnBrCall.frame_ideal, AdamAttnBrCall.frame_ref,
    AdamPleCall.frame_kernel, AdamPleCall.frame_ideal, AdamPleCall.frame_ref, AdamConvCall.frame_kernel,
    AdamConvCall.frame_ideal, AdamConvCall.frame_ref, AdamSmallCall.frame_kernel, AdamSmallCall.frame_ideal,
    AdamSmallCall.frame_ref, trivial, FfnClaim.algebraic, AttnFrame.preserves, AttnClaim.algebraic, trivial,
    InProjCall.algebraic, trivial, FfnUpCall.algebraic, trivial, FfnDownCall.algebraic, trivial,
    FfnUpBwdCall.algebraic, trivial, DwFfnCall.algebraic, trivial, DwSquareCall.algebraic, trivial,
    DwInCall.algebraic, trivial, DwAttnBrCall.algebraic, trivial, DSquareCall.algebraic, trivial,
    DInCall.algebraic, trivial, AttnBrBwdCall.algebraic, trivial, AttnBrCall.algebraic, trivial,
    SquareCall.algebraic, trivial, OProjCall.algebraic, trivial, MergeFwdCall.algebraic, trivial,
    PleProjCall.algebraic, trivial, DwPleProjCall.algebraic, trivial, MergeBwdCall.algebraic, trivial,
    NormFwdCall.algebraic, trivial, GnormFwdCall.algebraic, trivial, NormBwdCall.algebraic, trivial,
    HeadCall.algebraic, trivial, AdamInCall.algebraic, trivial, AdamFfnCall.algebraic, trivial,
    AdamSquareCall.algebraic, trivial, AdamAttnBrCall.algebraic, trivial, AdamPleCall.algebraic, trivial,
    AdamConvCall.algebraic, trivial, AdamSmallCall.algebraic⟩

end Cert.Proof

end
